-- ==== Defs.lean ====
def Pre_CumsumBwd (m : (ℓ : Loc Cert.CumsumBwd.nD Cert.CumsumBwd.τ Cert.CumsumBwd.sig) → Buf (Elt Bits) ℓ) : Prop :=
  True

def Pre_CumsumBwdIdeal (m : (ℓ : Loc Cert.CumsumBwdIdeal.nD Cert.CumsumBwdIdeal.τ Cert.CumsumBwdIdeal.sig) → Buf (Elt Ideal) ℓ) : Prop :=
  True

def Pre_CumsumBwdIdeal_cumsum_finite [hPre_cumsum_finite : Cert.Pre_cumsum_finite.Facts] (m : (ℓ : Loc Cert.CumsumBwdIdeal.nD Cert.CumsumBwdIdeal.τ Cert.CumsumBwdIdeal.sig) → Buf (Elt Ideal) ℓ) : Prop :=
  ∀ c : Dev Cert.CumsumBwdIdeal.nD,
    (Cert.Pre_cumsum_finite.fn (F := Ideal) (m ((c.tc : Thread Cert.CumsumBwdIdeal.nD Cert.CumsumBwdIdeal.τ).loc Cert.CumsumBwdIdeal.main_arg0)) (m ((c.tc : Thread Cert.CumsumBwdIdeal.nD Cert.CumsumBwdIdeal.τ).loc Cert.CumsumBwdIdeal.main_arg1)) (m ((c.tc : Thread Cert.CumsumBwdIdeal.nD Cert.CumsumBwdIdeal.τ).loc Cert.CumsumBwdIdeal.main_arg2)) (m ((c.tc : Thread Cert.CumsumBwdIdeal.nD Cert.CumsumBwdIdeal.τ).loc Cert.CumsumBwdIdeal.main_arg3))) = (fun _ => 1#1)

def Pre_CumsumBwdRefIdeal (m : (ℓ : Loc Cert.CumsumBwdRefIdeal.nD Cert.CumsumBwdRefIdeal.τ Cert.CumsumBwdRefIdeal.sig) → Buf (Elt Ideal) ℓ) : Prop :=
  True

def Pre_CumsumBwdRefIdeal_cumsum_finite [hPre_cumsum_finite : Cert.Pre_cumsum_finite.Facts] (m : (ℓ : Loc Cert.CumsumBwdRefIdeal.nD Cert.CumsumBwdRefIdeal.τ Cert.CumsumBwdRefIdeal.sig) → Buf (Elt Ideal) ℓ) : Prop :=
  ∀ c : Dev Cert.CumsumBwdRefIdeal.nD,
    (Cert.Pre_cumsum_finite.fn (F := Ideal) (m ((c.tc : Thread Cert.CumsumBwdRefIdeal.nD Cert.CumsumBwdRefIdeal.τ).loc Cert.CumsumBwdRefIdeal.main_arg0)) (m ((c.tc : Thread Cert.CumsumBwdRefIdeal.nD Cert.CumsumBwdRefIdeal.τ).loc Cert.CumsumBwdRefIdeal.main_arg1)) (m ((c.tc : Thread Cert.CumsumBwdRefIdeal.nD Cert.CumsumBwdRefIdeal.τ).loc Cert.CumsumBwdRefIdeal.main_arg2)) (m ((c.tc : Thread Cert.CumsumBwdRefIdeal.nD Cert.CumsumBwdRefIdeal.τ).loc Cert.CumsumBwdRefIdeal.main_arg3))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdRefIdeal (m : (ℓ : Loc Cert.AttnBwdRefIdeal.nD Cert.AttnBwdRefIdeal.τ Cert.AttnBwdRefIdeal.sig) → Buf (Elt Ideal) ℓ) : Prop :=
  True

def Pre_InpBwd (m : (ℓ : Loc Cert.InpBwd.nD Cert.InpBwd.τ Cert.InpBwd.sig) → Buf (Elt Bits) ℓ) : Prop :=
  True

def Pre_InpBwdIdeal (m : (ℓ : Loc Cert.InpBwdIdeal.nD Cert.InpBwdIdeal.τ Cert.InpBwdIdeal.sig) → Buf (Elt Ideal) ℓ) : Prop :=
  True

def Pre_InpBwdIdeal_inp_finite [hPre_inp_finite : Cert.Pre_inp_finite.Facts] (m : (ℓ : Loc Cert.InpBwdIdeal.nD Cert.InpBwdIdeal.τ Cert.InpBwdIdeal.sig) → Buf (Elt Ideal) ℓ) : Prop :=
  ∀ c : Dev Cert.InpBwdIdeal.nD,
    (Cert.Pre_inp_finite.fn (F := Ideal) (m ((c.tc : Thread Cert.InpBwdIdeal.nD Cert.InpBwdIdeal.τ).loc Cert.InpBwdIdeal.main_arg0)) (m ((c.tc : Thread Cert.InpBwdIdeal.nD Cert.InpBwdIdeal.τ).loc Cert.InpBwdIdeal.main_arg1)) (m ((c.tc : Thread Cert.InpBwdIdeal.nD Cert.InpBwdIdeal.τ).loc Cert.InpBwdIdeal.main_arg2)) (m ((c.tc : Thread Cert.InpBwdIdeal.nD Cert.InpBwdIdeal.τ).loc Cert.InpBwdIdeal.main_arg3)) (m ((c.tc : Thread Cert.InpBwdIdeal.nD Cert.InpBwdIdeal.τ).loc Cert.InpBwdIdeal.main_arg4)) (m ((c.tc : Thread Cert.InpBwdIdeal.nD Cert.InpBwdIdeal.τ).loc Cert.InpBwdIdeal.main_arg5)) (m ((c.tc : Thread Cert.InpBwdIdeal.nD Cert.InpBwdIdeal.τ).loc Cert.InpBwdIdeal.main_arg6)) (m ((c.tc : Thread Cert.InpBwdIdeal.nD Cert.InpBwdIdeal.τ).loc Cert.InpBwdIdeal.main_arg7)) (m ((c.tc : Thread Cert.InpBwdIdeal.nD Cert.InpBwdIdeal.τ).loc Cert.InpBwdIdeal.main_arg8))) = (fun _ => 1#1)

def Pre_InpBwdRefIdeal (m : (ℓ : Loc Cert.InpBwdRefIdeal.nD Cert.InpBwdRefIdeal.τ Cert.InpBwdRefIdeal.sig) → Buf (Elt Ideal) ℓ) : Prop :=
  True

def Pre_InpBwdRefIdeal_inp_finite [hPre_inp_finite : Cert.Pre_inp_finite.Facts] (m : (ℓ : Loc Cert.InpBwdRefIdeal.nD Cert.InpBwdRefIdeal.τ Cert.InpBwdRefIdeal.sig) → Buf (Elt Ideal) ℓ) : Prop :=
  ∀ c : Dev Cert.InpBwdRefIdeal.nD,
    (Cert.Pre_inp_finite.fn (F := Ideal) (m ((c.tc : Thread Cert.InpBwdRefIdeal.nD Cert.InpBwdRefIdeal.τ).loc Cert.InpBwdRefIdeal.main_arg0)) (m ((c.tc : Thread Cert.InpBwdRefIdeal.nD Cert.InpBwdRefIdeal.τ).loc Cert.InpBwdRefIdeal.main_arg1)) (m ((c.tc : Thread Cert.InpBwdRefIdeal.nD Cert.InpBwdRefIdeal.τ).loc Cert.InpBwdRefIdeal.main_arg2)) (m ((c.tc : Thread Cert.InpBwdRefIdeal.nD Cert.InpBwdRefIdeal.τ).loc Cert.InpBwdRefIdeal.main_arg3)) (m ((c.tc : Thread Cert.InpBwdRefIdeal.nD Cert.InpBwdRefIdeal.τ).loc Cert.InpBwdRefIdeal.main_arg4)) (m ((c.tc : Thread Cert.InpBwdRefIdeal.nD Cert.InpBwdRefIdeal.τ).loc Cert.InpBwdRefIdeal.main_arg5)) (m ((c.tc : Thread Cert.InpBwdRefIdeal.nD Cert.InpBwdRefIdeal.τ).loc Cert.InpBwdRefIdeal.main_arg6)) (m ((c.tc : Thread Cert.InpBwdRefIdeal.nD Cert.InpBwdRefIdeal.τ).loc Cert.InpBwdRefIdeal.main_arg7)) (m ((c.tc : Thread Cert.InpBwdRefIdeal.nD Cert.InpBwdRefIdeal.τ).loc Cert.InpBwdRefIdeal.main_arg8))) = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_mlp_finite [hPre_mlp_finite : Cert.Pre_mlp_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))) = (fun _ => 1#1)

def Pre_MlpBwdRefIdeal (m : (ℓ : Loc Cert.MlpBwdRefIdeal.nD Cert.MlpBwdRefIdeal.τ Cert.MlpBwdRefIdeal.sig) → Buf (Elt Ideal) ℓ) : Prop :=
  True

def Pre_MlpBwdRefIdeal_mlp_finite [hPre_mlp_finite : Cert.Pre_mlp_finite.Facts] (m : (ℓ : Loc Cert.MlpBwdRefIdeal.nD Cert.MlpBwdRefIdeal.τ Cert.MlpBwdRefIdeal.sig) → Buf (Elt Ideal) ℓ) : Prop :=
  ∀ c : Dev Cert.MlpBwdRefIdeal.nD,
    (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))) = (fun _ => 1#1)

def Pre_MlpLoss (m : (ℓ : Loc Cert.MlpLoss.nD Cert.MlpLoss.τ Cert.MlpLoss.sig) → Buf (Elt Bits) ℓ) : Prop :=
  True

def Pre_MlpLossIdeal (m : (ℓ : Loc Cert.MlpLossIdeal.nD Cert.MlpLossIdeal.τ Cert.MlpLossIdeal.sig) → Buf (Elt Ideal) ℓ) : Prop :=
  True

def Pre_MlpLossIdeal_loss_finite [hPre_loss_finite : Cert.Pre_loss_finite.Facts] (m : (ℓ : Loc Cert.MlpLossIdeal.nD Cert.MlpLossIdeal.τ Cert.MlpLossIdeal.sig) → Buf (Elt Ideal) ℓ) : Prop :=
  ∀ c : Dev Cert.MlpLossIdeal.nD,
    (Cert.Pre_loss_finite.fn (F := Ideal) (m ((c.tc : Thread Cert.MlpLossIdeal.nD Cert.MlpLossIdeal.τ).loc Cert.MlpLossIdeal.main_arg0)) (m ((c.tc : Thread Cert.MlpLossIdeal.nD Cert.MlpLossIdeal.τ).loc Cert.MlpLossIdeal.main_arg1)) (m ((c.tc : Thread Cert.MlpLossIdeal.nD Cert.MlpLossIdeal.τ).loc Cert.MlpLossIdeal.main_arg2)) (m ((c.tc : Thread Cert.MlpLossIdeal.nD Cert.MlpLossIdeal.τ).loc Cert.MlpLossIdeal.main_arg3)) (m ((c.tc : Thread Cert.MlpLossIdeal.nD Cert.MlpLossIdeal.τ).loc Cert.MlpLossIdeal.main_arg4)) (m ((c.tc : Thread Cert.MlpLossIdeal.nD Cert.MlpLossIdeal.τ).loc Cert.MlpLossIdeal.main_arg5)) (m ((c.tc : Thread Cert.MlpLossIdeal.nD Cert.MlpLossIdeal.τ).loc Cert.MlpLossIdeal.main_arg6))) = (fun _ => 1#1)

def Pre_MlpLossRefIdeal (m : (ℓ : Loc Cert.MlpLossRefIdeal.nD Cert.MlpLossRefIdeal.τ Cert.MlpLossRefIdeal.sig) → Buf (Elt Ideal) ℓ) : Prop :=
  True

def Pre_MlpLossRefIdeal_loss_finite [hPre_loss_finite : Cert.Pre_loss_finite.Facts] (m : (ℓ : Loc Cert.MlpLossRefIdeal.nD Cert.MlpLossRefIdeal.τ Cert.MlpLossRefIdeal.sig) → Buf (Elt Ideal) ℓ) : Prop :=
  ∀ c : Dev Cert.MlpLossRefIdeal.nD,
    (Cert.Pre_loss_finite.fn (F := Ideal) (m ((c.tc : Thread Cert.MlpLossRefIdeal.nD Cert.MlpLossRefIdeal.τ).loc Cert.MlpLossRefIdeal.main_arg0)) (m ((c.tc : Thread Cert.MlpLossRefIdeal.nD Cert.MlpLossRefIdeal.τ).loc Cert.MlpLossRefIdeal.main_arg1)) (m ((c.tc : Thread Cert.MlpLossRefIdeal.nD Cert.MlpLossRefIdeal.τ).loc Cert.MlpLossRefIdeal.main_arg2)) (m ((c.tc : Thread Cert.MlpLossRefIdeal.nD Cert.MlpLossRefIdeal.τ).loc Cert.MlpLossRefIdeal.main_arg3)) (m ((c.tc : Thread Cert.MlpLossRefIdeal.nD Cert.MlpLossRefIdeal.τ).loc Cert.MlpLossRefIdeal.main_arg4)) (m ((c.tc : Thread Cert.MlpLossRefIdeal.nD Cert.MlpLossRefIdeal.τ).loc Cert.MlpLossRefIdeal.main_arg5)) (m ((c.tc : Thread Cert.MlpLossRefIdeal.nD Cert.MlpLossRefIdeal.τ).loc Cert.MlpLossRefIdeal.main_arg6))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def Pre_RmsInproj (m : (ℓ : Loc Cert.RmsInproj.nD Cert.RmsInproj.τ Cert.RmsInproj.sig) → Buf (Elt Bits) ℓ) : Prop :=
  True

def Pre_RmsInprojIdeal (m : (ℓ : Loc Cert.RmsInprojIdeal.nD Cert.RmsInprojIdeal.τ Cert.RmsInprojIdeal.sig) → Buf (Elt Ideal) ℓ) : Prop :=
  True

def Pre_RmsInprojRefIdeal (m : (ℓ : Loc Cert.RmsInprojRefIdeal.nD Cert.RmsInprojRefIdeal.τ Cert.RmsInprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_OutprojBwd (m : (ℓ : Loc Cert.OutprojBwd.nD Cert.OutprojBwd.τ Cert.OutprojBwd.sig) → Buf (Elt Bits) ℓ) : Prop :=
  True

def Pre_OutprojBwdIdeal (m : (ℓ : Loc Cert.OutprojBwdIdeal.nD Cert.OutprojBwdIdeal.τ Cert.OutprojBwdIdeal.sig) → Buf (Elt Ideal) ℓ) : Prop :=
  True

def Pre_OutprojBwdRefIdeal (m : (ℓ : Loc Cert.OutprojBwdRefIdeal.nD Cert.OutprojBwdRefIdeal.τ Cert.OutprojBwdRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def quiescent_CumsumBwd [hCumsumBwd : Cert.CumsumBwd.Facts] : Prop :=
  ∀ (m : (ℓ : Loc Cert.CumsumBwd.nD Cert.CumsumBwd.τ Cert.CumsumBwd.sig) → Buf (Elt Bits) ℓ) (g : Dev Cert.CumsumBwd.nD → PrngReg), Pre_CumsumBwd m →
    θ_run (Cert.CumsumBwd.defs (F := Bits)) (onTc (τ := Cert.CumsumBwd.τ) (Cert.CumsumBwd.main (F := Bits))) ⟨m, fun _ => 0, g⟩ (fun r => (∀ c : Dev Cert.CumsumBwd.nD,
      r.2.mem ((c.tc : Thread Cert.CumsumBwd.nD Cert.CumsumBwd.τ).loc Cert.CumsumBwd.main_arg0) = m ((c.tc : Thread Cert.CumsumBwd.nD Cert.CumsumBwd.τ).loc Cert.CumsumBwd.main_arg0)
      ∧ r.2.mem ((c.tc : Thread Cert.CumsumBwd.nD Cert.CumsumBwd.τ).loc Cert.CumsumBwd.main_arg1) = m ((c.tc : Thread Cert.CumsumBwd.nD Cert.CumsumBwd.τ).loc Cert.CumsumBwd.main_arg1)
      ∧ r.2.mem ((c.tc : Thread Cert.CumsumBwd.nD Cert.CumsumBwd.τ).loc Cert.CumsumBwd.main_arg2) = m ((c.tc : Thread Cert.CumsumBwd.nD Cert.CumsumBwd.τ).loc Cert.CumsumBwd.main_arg2)
      ∧ r.2.mem ((c.tc : Thread Cert.CumsumBwd.nD Cert.CumsumBwd.τ).loc Cert.CumsumBwd.main_arg3) = m ((c.tc : Thread Cert.CumsumBwd.nD Cert.CumsumBwd.τ).loc Cert.CumsumBwd.main_arg3))
      ∧ r.2.sem = fun _ => 0)

def quiescent_CumsumBwdIdeal [hCumsumBwdIdeal : Cert.CumsumBwdIdeal.Facts] : Prop :=
  ∀ (m : (ℓ : Loc Cert.CumsumBwdIdeal.nD Cert.CumsumBwdIdeal.τ Cert.CumsumBwdIdeal.sig) → Buf (Elt Ideal) ℓ) (g : Dev Cert.CumsumBwdIdeal.nD → PrngReg), Pre_CumsumBwdIdeal m →
    θ_run (Cert.CumsumBwdIdeal.defs (F := Ideal)) (onTc (τ := Cert.CumsumBwdIdeal.τ) (Cert.CumsumBwdIdeal.main (F := Ideal))) ⟨m, fun _ => 0, g⟩ (fun r => (∀ c : Dev Cert.CumsumBwdIdeal.nD,
      r.2.mem ((c.tc : Thread Cert.CumsumBwdIdeal.nD Cert.CumsumBwdIdeal.τ).loc Cert.CumsumBwdIdeal.main_arg0) = m ((c.tc : Thread Cert.CumsumBwdIdeal.nD Cert.CumsumBwdIdeal.τ).loc Cert.CumsumBwdIdeal.main_arg0)
      ∧ r.2.mem ((c.tc : Thread Cert.CumsumBwdIdeal.nD Cert.CumsumBwdIdeal.τ).loc Cert.CumsumBwdIdeal.main_arg1) = m ((c.tc : Thread Cert.CumsumBwdIdeal.nD Cert.CumsumBwdIdeal.τ).loc Cert.CumsumBwdIdeal.main_arg1)
      ∧ r.2.mem ((c.tc : Thread Cert.CumsumBwdIdeal.nD Cert.CumsumBwdIdeal.τ).loc Cert.CumsumBwdIdeal.main_arg2) = m ((c.tc : Thread Cert.CumsumBwdIdeal.nD Cert.CumsumBwdIdeal.τ).loc Cert.CumsumBwdIdeal.main_arg2)
      ∧ r.2.mem ((c.tc : Thread Cert.CumsumBwdIdeal.nD Cert.CumsumBwdIdeal.τ).loc Cert.CumsumBwdIdeal.main_arg3) = m ((c.tc : Thread Cert.CumsumBwdIdeal.nD Cert.CumsumBwdIdeal.τ).loc Cert.CumsumBwdIdeal.main_arg3))
      ∧ r.2.sem = fun _ => 0)

def quiescent_CumsumBwdIdeal_pre_cumsum_finite [hCumsumBwdIdeal : Cert.CumsumBwdIdeal.Facts] [hPre_cumsum_finite : Cert.Pre_cumsum_finite.Facts] : Prop :=
  ∀ (m : (ℓ : Loc Cert.CumsumBwdIdeal.nD Cert.CumsumBwdIdeal.τ Cert.CumsumBwdIdeal.sig) → Buf (Elt Ideal) ℓ) (g : Dev Cert.CumsumBwdIdeal.nD → PrngReg), Pre_CumsumBwdIdeal_cumsum_finite m →
    θ_run (Cert.CumsumBwdIdeal.defs (F := Ideal)) (onTc (τ := Cert.CumsumBwdIdeal.τ) (Cert.CumsumBwdIdeal.main (F := Ideal))) ⟨m, fun _ => 0, g⟩ (fun r => (∀ c : Dev Cert.CumsumBwdIdeal.nD,
      r.2.mem ((c.tc : Thread Cert.CumsumBwdIdeal.nD Cert.CumsumBwdIdeal.τ).loc Cert.CumsumBwdIdeal.main_arg0) = m ((c.tc : Thread Cert.CumsumBwdIdeal.nD Cert.CumsumBwdIdeal.τ).loc Cert.CumsumBwdIdeal.main_arg0)
      ∧ r.2.mem ((c.tc : Thread Cert.CumsumBwdIdeal.nD Cert.CumsumBwdIdeal.τ).loc Cert.CumsumBwdIdeal.main_arg1) = m ((c.tc : Thread Cert.CumsumBwdIdeal.nD Cert.CumsumBwdIdeal.τ).loc Cert.CumsumBwdIdeal.main_arg1)
      ∧ r.2.mem ((c.tc : Thread Cert.CumsumBwdIdeal.nD Cert.CumsumBwdIdeal.τ).loc Cert.CumsumBwdIdeal.main_arg2) = m ((c.tc : Thread Cert.CumsumBwdIdeal.nD Cert.CumsumBwdIdeal.τ).loc Cert.CumsumBwdIdeal.main_arg2)
      ∧ r.2.mem ((c.tc : Thread Cert.CumsumBwdIdeal.nD Cert.CumsumBwdIdeal.τ).loc Cert.CumsumBwdIdeal.main_arg3) = m ((c.tc : Thread Cert.CumsumBwdIdeal.nD Cert.CumsumBwdIdeal.τ).loc Cert.CumsumBwdIdeal.main_arg3))
      ∧ r.2.sem = fun _ => 0)

def quiescent_CumsumBwdRefIdeal [hCumsumBwdRefIdeal : Cert.CumsumBwdRefIdeal.Facts] : Prop :=
  ∀ (m : (ℓ : Loc Cert.CumsumBwdRefIdeal.nD Cert.CumsumBwdRefIdeal.τ Cert.CumsumBwdRefIdeal.sig) → Buf (Elt Ideal) ℓ) (g : Dev Cert.CumsumBwdRefIdeal.nD → PrngReg), Pre_CumsumBwdRefIdeal m →
    θ_run (Cert.CumsumBwdRefIdeal.defs (F := Ideal)) (onTc (τ := Cert.CumsumBwdRefIdeal.τ) (Cert.CumsumBwdRefIdeal.main (F := Ideal))) ⟨m, fun _ => 0, g⟩ (fun r => (∀ c : Dev Cert.CumsumBwdRefIdeal.nD,
      r.2.mem ((c.tc : Thread Cert.CumsumBwdRefIdeal.nD Cert.CumsumBwdRefIdeal.τ).loc Cert.CumsumBwdRefIdeal.main_arg0) = m ((c.tc : Thread Cert.CumsumBwdRefIdeal.nD Cert.CumsumBwdRefIdeal.τ).loc Cert.CumsumBwdRefIdeal.main_arg0)
      ∧ r.2.mem ((c.tc : Thread Cert.CumsumBwdRefIdeal.nD Cert.CumsumBwdRefIdeal.τ).loc Cert.CumsumBwdRefIdeal.main_arg1) = m ((c.tc : Thread Cert.CumsumBwdRefIdeal.nD Cert.CumsumBwdRefIdeal.τ).loc Cert.CumsumBwdRefIdeal.main_arg1)
      ∧ r.2.mem ((c.tc : Thread Cert.CumsumBwdRefIdeal.nD Cert.CumsumBwdRefIdeal.τ).loc Cert.CumsumBwdRefIdeal.main_arg2) = m ((c.tc : Thread Cert.CumsumBwdRefIdeal.nD Cert.CumsumBwdRefIdeal.τ).loc Cert.CumsumBwdRefIdeal.main_arg2)
      ∧ r.2.mem ((c.tc : Thread Cert.CumsumBwdRefIdeal.nD Cert.CumsumBwdRefIdeal.τ).loc Cert.CumsumBwdRefIdeal.main_arg3) = m ((c.tc : Thread Cert.CumsumBwdRefIdeal.nD Cert.CumsumBwdRefIdeal.τ).loc Cert.CumsumBwdRefIdeal.main_arg3))
      ∧ r.2.sem = fun _ => 0)

def quiescent_CumsumBwdRefIdeal_pre_cumsum_finite [hCumsumBwdRefIdeal : Cert.CumsumBwdRefIdeal.Facts] [hPre_cumsum_finite : Cert.Pre_cumsum_finite.Facts] : Prop :=
  ∀ (m : (ℓ : Loc Cert.CumsumBwdRefIdeal.nD Cert.CumsumBwdRefIdeal.τ Cert.CumsumBwdRefIdeal.sig) → Buf (Elt Ideal) ℓ) (g : Dev Cert.CumsumBwdRefIdeal.nD → PrngReg), Pre_CumsumBwdRefIdeal_cumsum_finite m →
    θ_run (Cert.CumsumBwdRefIdeal.defs (F := Ideal)) (onTc (τ := Cert.CumsumBwdRefIdeal.τ) (Cert.CumsumBwdRefIdeal.main (F := Ideal))) ⟨m, fun _ => 0, g⟩ (fun r => (∀ c : Dev Cert.CumsumBwdRefIdeal.nD,
      r.2.mem ((c.tc : Thread Cert.CumsumBwdRefIdeal.nD Cert.CumsumBwdRefIdeal.τ).loc Cert.CumsumBwdRefIdeal.main_arg0) = m ((c.tc : Thread Cert.CumsumBwdRefIdeal.nD Cert.CumsumBwdRefIdeal.τ).loc Cert.CumsumBwdRefIdeal.main_arg0)
      ∧ r.2.mem ((c.tc : Thread Cert.CumsumBwdRefIdeal.nD Cert.CumsumBwdRefIdeal.τ).loc Cert.CumsumBwdRefIdeal.main_arg1) = m ((c.tc : Thread Cert.CumsumBwdRefIdeal.nD Cert.CumsumBwdRefIdeal.τ).loc Cert.CumsumBwdRefIdeal.main_arg1)
      ∧ r.2.mem ((c.tc : Thread Cert.CumsumBwdRefIdeal.nD Cert.CumsumBwdRefIdeal.τ).loc Cert.CumsumBwdRefIdeal.main_arg2) = m ((c.tc : Thread Cert.CumsumBwdRefIdeal.nD Cert.CumsumBwdRefIdeal.τ).loc Cert.CumsumBwdRefIdeal.main_arg2)
      ∧ r.2.mem ((c.tc : Thread Cert.CumsumBwdRefIdeal.nD Cert.CumsumBwdRefIdeal.τ).loc Cert.CumsumBwdRefIdeal.main_arg3) = m ((c.tc : Thread Cert.CumsumBwdRefIdeal.nD Cert.CumsumBwdRefIdeal.τ).loc Cert.CumsumBwdRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_InpBwd [hInpBwd : Cert.InpBwd.Facts] : Prop :=
  ∀ (m : (ℓ : Loc Cert.InpBwd.nD Cert.InpBwd.τ Cert.InpBwd.sig) → Buf (Elt Bits) ℓ) (g : Dev Cert.InpBwd.nD → PrngReg), Pre_InpBwd m →
    θ_run (Cert.InpBwd.defs (F := Bits)) (onTc (τ := Cert.InpBwd.τ) (Cert.InpBwd.main (F := Bits))) ⟨m, fun _ => 0, g⟩ (fun r => (∀ c : Dev Cert.InpBwd.nD,
      r.2.mem ((c.tc : Thread Cert.InpBwd.nD Cert.InpBwd.τ).loc Cert.InpBwd.main_arg0) = m ((c.tc : Thread Cert.InpBwd.nD Cert.InpBwd.τ).loc Cert.InpBwd.main_arg0)
      ∧ r.2.mem ((c.tc : Thread Cert.InpBwd.nD Cert.InpBwd.τ).loc Cert.InpBwd.main_arg1) = m ((c.tc : Thread Cert.InpBwd.nD Cert.InpBwd.τ).loc Cert.InpBwd.main_arg1)
      ∧ r.2.mem ((c.tc : Thread Cert.InpBwd.nD Cert.InpBwd.τ).loc Cert.InpBwd.main_arg2) = m ((c.tc : Thread Cert.InpBwd.nD Cert.InpBwd.τ).loc Cert.InpBwd.main_arg2)
      ∧ r.2.mem ((c.tc : Thread Cert.InpBwd.nD Cert.InpBwd.τ).loc Cert.InpBwd.main_arg3) = m ((c.tc : Thread Cert.InpBwd.nD Cert.InpBwd.τ).loc Cert.InpBwd.main_arg3)
      ∧ r.2.mem ((c.tc : Thread Cert.InpBwd.nD Cert.InpBwd.τ).loc Cert.InpBwd.main_arg4) = m ((c.tc : Thread Cert.InpBwd.nD Cert.InpBwd.τ).loc Cert.InpBwd.main_arg4)
      ∧ r.2.mem ((c.tc : Thread Cert.InpBwd.nD Cert.InpBwd.τ).loc Cert.InpBwd.main_arg5) = m ((c.tc : Thread Cert.InpBwd.nD Cert.InpBwd.τ).loc Cert.InpBwd.main_arg5)
      ∧ r.2.mem ((c.tc : Thread Cert.InpBwd.nD Cert.InpBwd.τ).loc Cert.InpBwd.main_arg6) = m ((c.tc : Thread Cert.InpBwd.nD Cert.InpBwd.τ).loc Cert.InpBwd.main_arg6)
      ∧ r.2.mem ((c.tc : Thread Cert.InpBwd.nD Cert.InpBwd.τ).loc Cert.InpBwd.main_arg7) = m ((c.tc : Thread Cert.InpBwd.nD Cert.InpBwd.τ).loc Cert.InpBwd.main_arg7)
      ∧ r.2.mem ((c.tc : Thread Cert.InpBwd.nD Cert.InpBwd.τ).loc Cert.InpBwd.main_arg8) = m ((c.tc : Thread Cert.InpBwd.nD Cert.InpBwd.τ).loc Cert.InpBwd.main_arg8))
      ∧ r.2.sem = fun _ => 0)

def quiescent_InpBwdIdeal [hInpBwdIdeal : Cert.InpBwdIdeal.Facts] : Prop :=
  ∀ (m : (ℓ : Loc Cert.InpBwdIdeal.nD Cert.InpBwdIdeal.τ Cert.InpBwdIdeal.sig) → Buf (Elt Ideal) ℓ) (g : Dev Cert.InpBwdIdeal.nD → PrngReg), Pre_InpBwdIdeal m →
    θ_run (Cert.InpBwdIdeal.defs (F := Ideal)) (onTc (τ := Cert.InpBwdIdeal.τ) (Cert.InpBwdIdeal.main (F := Ideal))) ⟨m, fun _ => 0, g⟩ (fun r => (∀ c : Dev Cert.InpBwdIdeal.nD,
      r.2.mem ((c.tc : Thread Cert.InpBwdIdeal.nD Cert.InpBwdIdeal.τ).loc Cert.InpBwdIdeal.main_arg0) = m ((c.tc : Thread Cert.InpBwdIdeal.nD Cert.InpBwdIdeal.τ).loc Cert.InpBwdIdeal.main_arg0)
      ∧ r.2.mem ((c.tc : Thread Cert.InpBwdIdeal.nD Cert.InpBwdIdeal.τ).loc Cert.InpBwdIdeal.main_arg1) = m ((c.tc : Thread Cert.InpBwdIdeal.nD Cert.InpBwdIdeal.τ).loc Cert.InpBwdIdeal.main_arg1)
      ∧ r.2.mem ((c.tc : Thread Cert.InpBwdIdeal.nD Cert.InpBwdIdeal.τ).loc Cert.InpBwdIdeal.main_arg2) = m ((c.tc : Thread Cert.InpBwdIdeal.nD Cert.InpBwdIdeal.τ).loc Cert.InpBwdIdeal.main_arg2)
      ∧ r.2.mem ((c.tc : Thread Cert.InpBwdIdeal.nD Cert.InpBwdIdeal.τ).loc Cert.InpBwdIdeal.main_arg3) = m ((c.tc : Thread Cert.InpBwdIdeal.nD Cert.InpBwdIdeal.τ).loc Cert.InpBwdIdeal.main_arg3)
      ∧ r.2.mem ((c.tc : Thread Cert.InpBwdIdeal.nD Cert.InpBwdIdeal.τ).loc Cert.InpBwdIdeal.main_arg4) = m ((c.tc : Thread Cert.InpBwdIdeal.nD Cert.InpBwdIdeal.τ).loc Cert.InpBwdIdeal.main_arg4)
      ∧ r.2.mem ((c.tc : Thread Cert.InpBwdIdeal.nD Cert.InpBwdIdeal.τ).loc Cert.InpBwdIdeal.main_arg5) = m ((c.tc : Thread Cert.InpBwdIdeal.nD Cert.InpBwdIdeal.τ).loc Cert.InpBwdIdeal.main_arg5)
      ∧ r.2.mem ((c.tc : Thread Cert.InpBwdIdeal.nD Cert.InpBwdIdeal.τ).loc Cert.InpBwdIdeal.main_arg6) = m ((c.tc : Thread Cert.InpBwdIdeal.nD Cert.InpBwdIdeal.τ).loc Cert.InpBwdIdeal.main_arg6)
      ∧ r.2.mem ((c.tc : Thread Cert.InpBwdIdeal.nD Cert.InpBwdIdeal.τ).loc Cert.InpBwdIdeal.main_arg7) = m ((c.tc : Thread Cert.InpBwdIdeal.nD Cert.InpBwdIdeal.τ).loc Cert.InpBwdIdeal.main_arg7)
      ∧ r.2.mem ((c.tc : Thread Cert.InpBwdIdeal.nD Cert.InpBwdIdeal.τ).loc Cert.InpBwdIdeal.main_arg8) = m ((c.tc : Thread Cert.InpBwdIdeal.nD Cert.InpBwdIdeal.τ).loc Cert.InpBwdIdeal.main_arg8))
      ∧ r.2.sem = fun _ => 0)

def quiescent_InpBwdIdeal_pre_inp_finite [hInpBwdIdeal : Cert.InpBwdIdeal.Facts] [hPre_inp_finite : Cert.Pre_inp_finite.Facts] : Prop :=
  ∀ (m : (ℓ : Loc Cert.InpBwdIdeal.nD Cert.InpBwdIdeal.τ Cert.InpBwdIdeal.sig) → Buf (Elt Ideal) ℓ) (g : Dev Cert.InpBwdIdeal.nD → PrngReg), Pre_InpBwdIdeal_inp_finite m →
    θ_run (Cert.InpBwdIdeal.defs (F := Ideal)) (onTc (τ := Cert.InpBwdIdeal.τ) (Cert.InpBwdIdeal.main (F := Ideal))) ⟨m, fun _ => 0, g⟩ (fun r => (∀ c : Dev Cert.InpBwdIdeal.nD,
      r.2.mem ((c.tc : Thread Cert.InpBwdIdeal.nD Cert.InpBwdIdeal.τ).loc Cert.InpBwdIdeal.main_arg0) = m ((c.tc : Thread Cert.InpBwdIdeal.nD Cert.InpBwdIdeal.τ).loc Cert.InpBwdIdeal.main_arg0)
      ∧ r.2.mem ((c.tc : Thread Cert.InpBwdIdeal.nD Cert.InpBwdIdeal.τ).loc Cert.InpBwdIdeal.main_arg1) = m ((c.tc : Thread Cert.InpBwdIdeal.nD Cert.InpBwdIdeal.τ).loc Cert.InpBwdIdeal.main_arg1)
      ∧ r.2.mem ((c.tc : Thread Cert.InpBwdIdeal.nD Cert.InpBwdIdeal.τ).loc Cert.InpBwdIdeal.main_arg2) = m ((c.tc : Thread Cert.InpBwdIdeal.nD Cert.InpBwdIdeal.τ).loc Cert.InpBwdIdeal.main_arg2)
      ∧ r.2.mem ((c.tc : Thread Cert.InpBwdIdeal.nD Cert.InpBwdIdeal.τ).loc Cert.InpBwdIdeal.main_arg3) = m ((c.tc : Thread Cert.InpBwdIdeal.nD Cert.InpBwdIdeal.τ).loc Cert.InpBwdIdeal.main_arg3)
      ∧ r.2.mem ((c.tc : Thread Cert.InpBwdIdeal.nD Cert.InpBwdIdeal.τ).loc Cert.InpBwdIdeal.main_arg4) = m ((c.tc : Thread Cert.InpBwdIdeal.nD Cert.InpBwdIdeal.τ).loc Cert.InpBwdIdeal.main_arg4)
      ∧ r.2.mem ((c.tc : Thread Cert.InpBwdIdeal.nD Cert.InpBwdIdeal.τ).loc Cert.InpBwdIdeal.main_arg5) = m ((c.tc : Thread Cert.InpBwdIdeal.nD Cert.InpBwdIdeal.τ).loc Cert.InpBwdIdeal.main_arg5)
      ∧ r.2.mem ((c.tc : Thread Cert.InpBwdIdeal.nD Cert.InpBwdIdeal.τ).loc Cert.InpBwdIdeal.main_arg6) = m ((c.tc : Thread Cert.InpBwdIdeal.nD Cert.InpBwdIdeal.τ).loc Cert.InpBwdIdeal.main_arg6)
      ∧ r.2.mem ((c.tc : Thread Cert.InpBwdIdeal.nD Cert.InpBwdIdeal.τ).loc Cert.InpBwdIdeal.main_arg7) = m ((c.tc : Thread Cert.InpBwdIdeal.nD Cert.InpBwdIdeal.τ).loc Cert.InpBwdIdeal.main_arg7)
      ∧ r.2.mem ((c.tc : Thread Cert.InpBwdIdeal.nD Cert.InpBwdIdeal.τ).loc Cert.InpBwdIdeal.main_arg8) = m ((c.tc : Thread Cert.InpBwdIdeal.nD Cert.InpBwdIdeal.τ).loc Cert.InpBwdIdeal.main_arg8))
      ∧ r.2.sem = fun _ => 0)

def quiescent_InpBwdRefIdeal [hInpBwdRefIdeal : Cert.InpBwdRefIdeal.Facts] : Prop :=
  ∀ (m : (ℓ : Loc Cert.InpBwdRefIdeal.nD Cert.InpBwdRefIdeal.τ Cert.InpBwdRefIdeal.sig) → Buf (Elt Ideal) ℓ) (g : Dev Cert.InpBwdRefIdeal.nD → PrngReg), Pre_InpBwdRefIdeal m →
    θ_run (Cert.InpBwdRefIdeal.defs (F := Ideal)) (onTc (τ := Cert.InpBwdRefIdeal.τ) (Cert.InpBwdRefIdeal.main (F := Ideal))) ⟨m, fun _ => 0, g⟩ (fun r => (∀ c : Dev Cert.InpBwdRefIdeal.nD,
      r.2.mem ((c.tc : Thread Cert.InpBwdRefIdeal.nD Cert.InpBwdRefIdeal.τ).loc Cert.InpBwdRefIdeal.main_arg0) = m ((c.tc : Thread Cert.InpBwdRefIdeal.nD Cert.InpBwdRefIdeal.τ).loc Cert.InpBwdRefIdeal.main_arg0)
      ∧ r.2.mem ((c.tc : Thread Cert.InpBwdRefIdeal.nD Cert.InpBwdRefIdeal.τ).loc Cert.InpBwdRefIdeal.main_arg1) = m ((c.tc : Thread Cert.InpBwdRefIdeal.nD Cert.InpBwdRefIdeal.τ).loc Cert.InpBwdRefIdeal.main_arg1)
      ∧ r.2.mem ((c.tc : Thread Cert.InpBwdRefIdeal.nD Cert.InpBwdRefIdeal.τ).loc Cert.InpBwdRefIdeal.main_arg2) = m ((c.tc : Thread Cert.InpBwdRefIdeal.nD Cert.InpBwdRefIdeal.τ).loc Cert.InpBwdRefIdeal.main_arg2)
      ∧ r.2.mem ((c.tc : Thread Cert.InpBwdRefIdeal.nD Cert.InpBwdRefIdeal.τ).loc Cert.InpBwdRefIdeal.main_arg3) = m ((c.tc : Thread Cert.InpBwdRefIdeal.nD Cert.InpBwdRefIdeal.τ).loc Cert.InpBwdRefIdeal.main_arg3)
      ∧ r.2.mem ((c.tc : Thread Cert.InpBwdRefIdeal.nD Cert.InpBwdRefIdeal.τ).loc Cert.InpBwdRefIdeal.main_arg4) = m ((c.tc : Thread Cert.InpBwdRefIdeal.nD Cert.InpBwdRefIdeal.τ).loc Cert.InpBwdRefIdeal.main_arg4)
      ∧ r.2.mem ((c.tc : Thread Cert.InpBwdRefIdeal.nD Cert.InpBwdRefIdeal.τ).loc Cert.InpBwdRefIdeal.main_arg5) = m ((c.tc : Thread Cert.InpBwdRefIdeal.nD Cert.InpBwdRefIdeal.τ).loc Cert.InpBwdRefIdeal.main_arg5)
      ∧ r.2.mem ((c.tc : Thread Cert.InpBwdRefIdeal.nD Cert.InpBwdRefIdeal.τ).loc Cert.InpBwdRefIdeal.main_arg6) = m ((c.tc : Thread Cert.InpBwdRefIdeal.nD Cert.InpBwdRefIdeal.τ).loc Cert.InpBwdRefIdeal.main_arg6)
      ∧ r.2.mem ((c.tc : Thread Cert.InpBwdRefIdeal.nD Cert.InpBwdRefIdeal.τ).loc Cert.InpBwdRefIdeal.main_arg7) = m ((c.tc : Thread Cert.InpBwdRefIdeal.nD Cert.InpBwdRefIdeal.τ).loc Cert.InpBwdRefIdeal.main_arg7)
      ∧ r.2.mem ((c.tc : Thread Cert.InpBwdRefIdeal.nD Cert.InpBwdRefIdeal.τ).loc Cert.InpBwdRefIdeal.main_arg8) = m ((c.tc : Thread Cert.InpBwdRefIdeal.nD Cert.InpBwdRefIdeal.τ).loc Cert.InpBwdRefIdeal.main_arg8))
      ∧ r.2.sem = fun _ => 0)

def quiescent_InpBwdRefIdeal_pre_inp_finite [hInpBwdRefIdeal : Cert.InpBwdRefIdeal.Facts] [hPre_inp_finite : Cert.Pre_inp_finite.Facts] : Prop :=
  ∀ (m : (ℓ : Loc Cert.InpBwdRefIdeal.nD Cert.InpBwdRefIdeal.τ Cert.InpBwdRefIdeal.sig) → Buf (Elt Ideal) ℓ) (g : Dev Cert.InpBwdRefIdeal.nD → PrngReg), Pre_InpBwdRefIdeal_inp_finite m →
    θ_run (Cert.InpBwdRefIdeal.defs (F := Ideal)) (onTc (τ := Cert.InpBwdRefIdeal.τ) (Cert.InpBwdRefIdeal.main (F := Ideal))) ⟨m, fun _ => 0, g⟩ (fun r => (∀ c : Dev Cert.InpBwdRefIdeal.nD,
      r.2.mem ((c.tc : Thread Cert.InpBwdRefIdeal.nD Cert.InpBwdRefIdeal.τ).loc Cert.InpBwdRefIdeal.main_arg0) = m ((c.tc : Thread Cert.InpBwdRefIdeal.nD Cert.InpBwdRefIdeal.τ).loc Cert.InpBwdRefIdeal.main_arg0)
      ∧ r.2.mem ((c.tc : Thread Cert.InpBwdRefIdeal.nD Cert.InpBwdRefIdeal.τ).loc Cert.InpBwdRefIdeal.main_arg1) = m ((c.tc : Thread Cert.InpBwdRefIdeal.nD Cert.InpBwdRefIdeal.τ).loc Cert.InpBwdRefIdeal.main_arg1)
      ∧ r.2.mem ((c.tc : Thread Cert.InpBwdRefIdeal.nD Cert.InpBwdRefIdeal.τ).loc Cert.InpBwdRefIdeal.main_arg2) = m ((c.tc : Thread Cert.InpBwdRefIdeal.nD Cert.InpBwdRefIdeal.τ).loc Cert.InpBwdRefIdeal.main_arg2)
      ∧ r.2.mem ((c.tc : Thread Cert.InpBwdRefIdeal.nD Cert.InpBwdRefIdeal.τ).loc Cert.InpBwdRefIdeal.main_arg3) = m ((c.tc : Thread Cert.InpBwdRefIdeal.nD Cert.InpBwdRefIdeal.τ).loc Cert.InpBwdRefIdeal.main_arg3)
      ∧ r.2.mem ((c.tc : Thread Cert.InpBwdRefIdeal.nD Cert.InpBwdRefIdeal.τ).loc Cert.InpBwdRefIdeal.main_arg4) = m ((c.tc : Thread Cert.InpBwdRefIdeal.nD Cert.InpBwdRefIdeal.τ).loc Cert.InpBwdRefIdeal.main_arg4)
      ∧ r.2.mem ((c.tc : Thread Cert.InpBwdRefIdeal.nD Cert.InpBwdRefIdeal.τ).loc Cert.InpBwdRefIdeal.main_arg5) = m ((c.tc : Thread Cert.InpBwdRefIdeal.nD Cert.InpBwdRefIdeal.τ).loc Cert.InpBwdRefIdeal.main_arg5)
      ∧ r.2.mem ((c.tc : Thread Cert.InpBwdRefIdeal.nD Cert.InpBwdRefIdeal.τ).loc Cert.InpBwdRefIdeal.main_arg6) = m ((c.tc : Thread Cert.InpBwdRefIdeal.nD Cert.InpBwdRefIdeal.τ).loc Cert.InpBwdRefIdeal.main_arg6)
      ∧ r.2.mem ((c.tc : Thread Cert.InpBwdRefIdeal.nD Cert.InpBwdRefIdeal.τ).loc Cert.InpBwdRefIdeal.main_arg7) = m ((c.tc : Thread Cert.InpBwdRefIdeal.nD Cert.InpBwdRefIdeal.τ).loc Cert.InpBwdRefIdeal.main_arg7)
      ∧ r.2.mem ((c.tc : Thread Cert.InpBwdRefIdeal.nD Cert.InpBwdRefIdeal.τ).loc Cert.InpBwdRefIdeal.main_arg8) = m ((c.tc : Thread Cert.InpBwdRefIdeal.nD Cert.InpBwdRefIdeal.τ).loc Cert.InpBwdRefIdeal.main_arg8))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdIdeal_pre_mlp_finite [hMlpBwdIdeal : Cert.MlpBwdIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_mlp_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_MlpBwdRefIdeal_pre_mlp_finite [hMlpBwdRefIdeal : Cert.MlpBwdRefIdeal.Facts] [hPre_mlp_finite : Cert.Pre_mlp_finite.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal_mlp_finite m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_MlpLoss [hMlpLoss : Cert.MlpLoss.Facts] : Prop :=
  ∀ (m : (ℓ : Loc Cert.MlpLoss.nD Cert.MlpLoss.τ Cert.MlpLoss.sig) → Buf (Elt Bits) ℓ) (g : Dev Cert.MlpLoss.nD → PrngReg), Pre_MlpLoss m →
    θ_run (Cert.MlpLoss.defs (F := Bits)) (onTc (τ := Cert.MlpLoss.τ) (Cert.MlpLoss.main (F := Bits))) ⟨m, fun _ => 0, g⟩ (fun r => (∀ c : Dev Cert.MlpLoss.nD,
      r.2.mem ((c.tc : Thread Cert.MlpLoss.nD Cert.MlpLoss.τ).loc Cert.MlpLoss.main_arg0) = m ((c.tc : Thread Cert.MlpLoss.nD Cert.MlpLoss.τ).loc Cert.MlpLoss.main_arg0)
      ∧ r.2.mem ((c.tc : Thread Cert.MlpLoss.nD Cert.MlpLoss.τ).loc Cert.MlpLoss.main_arg1) = m ((c.tc : Thread Cert.MlpLoss.nD Cert.MlpLoss.τ).loc Cert.MlpLoss.main_arg1)
      ∧ r.2.mem ((c.tc : Thread Cert.MlpLoss.nD Cert.MlpLoss.τ).loc Cert.MlpLoss.main_arg2) = m ((c.tc : Thread Cert.MlpLoss.nD Cert.MlpLoss.τ).loc Cert.MlpLoss.main_arg2)
      ∧ r.2.mem ((c.tc : Thread Cert.MlpLoss.nD Cert.MlpLoss.τ).loc Cert.MlpLoss.main_arg3) = m ((c.tc : Thread Cert.MlpLoss.nD Cert.MlpLoss.τ).loc Cert.MlpLoss.main_arg3)
      ∧ r.2.mem ((c.tc : Thread Cert.MlpLoss.nD Cert.MlpLoss.τ).loc Cert.MlpLoss.main_arg4) = m ((c.tc : Thread Cert.MlpLoss.nD Cert.MlpLoss.τ).loc Cert.MlpLoss.main_arg4)
      ∧ r.2.mem ((c.tc : Thread Cert.MlpLoss.nD Cert.MlpLoss.τ).loc Cert.MlpLoss.main_arg5) = m ((c.tc : Thread Cert.MlpLoss.nD Cert.MlpLoss.τ).loc Cert.MlpLoss.main_arg5)
      ∧ r.2.mem ((c.tc : Thread Cert.MlpLoss.nD Cert.MlpLoss.τ).loc Cert.MlpLoss.main_arg6) = m ((c.tc : Thread Cert.MlpLoss.nD Cert.MlpLoss.τ).loc Cert.MlpLoss.main_arg6))
      ∧ r.2.sem = fun _ => 0)

def quiescent_MlpLossIdeal [hMlpLossIdeal : Cert.MlpLossIdeal.Facts] : Prop :=
  ∀ (m : (ℓ : Loc Cert.MlpLossIdeal.nD Cert.MlpLossIdeal.τ Cert.MlpLossIdeal.sig) → Buf (Elt Ideal) ℓ) (g : Dev Cert.MlpLossIdeal.nD → PrngReg), Pre_MlpLossIdeal m →
    θ_run (Cert.MlpLossIdeal.defs (F := Ideal)) (onTc (τ := Cert.MlpLossIdeal.τ) (Cert.MlpLossIdeal.main (F := Ideal))) ⟨m, fun _ => 0, g⟩ (fun r => (∀ c : Dev Cert.MlpLossIdeal.nD,
      r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
      ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
      ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
      ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
      ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
      ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
      ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6))
      ∧ r.2.sem = fun _ => 0)

def quiescent_MlpLossIdeal_pre_loss_finite [hMlpLossIdeal : Cert.MlpLossIdeal.Facts] [hPre_loss_finite : Cert.Pre_loss_finite.Facts] : Prop :=
  ∀ (m : (ℓ : Loc Cert.MlpLossIdeal.nD Cert.MlpLossIdeal.τ Cert.MlpLossIdeal.sig) → Buf (Elt Ideal) ℓ) (g : Dev Cert.MlpLossIdeal.nD → PrngReg), Pre_MlpLossIdeal_loss_finite m →
    θ_run (Cert.MlpLossIdeal.defs (F := Ideal)) (onTc (τ := Cert.MlpLossIdeal.τ) (Cert.MlpLossIdeal.main (F := Ideal))) ⟨m, fun _ => 0, g⟩ (fun r => (∀ c : Dev Cert.MlpLossIdeal.nD,
      r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
      ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
      ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
      ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
      ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
      ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
      ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6))
      ∧ r.2.sem = fun _ => 0)

def quiescent_MlpLossRefIdeal [hMlpLossRefIdeal : Cert.MlpLossRefIdeal.Facts] : Prop :=
  ∀ (m : (ℓ : Loc Cert.MlpLossRefIdeal.nD Cert.MlpLossRefIdeal.τ Cert.MlpLossRefIdeal.sig) → Buf (Elt Ideal) ℓ) (g : Dev Cert.MlpLossRefIdeal.nD → PrngReg), Pre_MlpLossRefIdeal m →
    θ_run (Cert.MlpLossRefIdeal.defs (F := Ideal)) (onTc (τ := Cert.MlpLossRefIdeal.τ) (Cert.MlpLossRefIdeal.main (F := Ideal))) ⟨m, fun _ => 0, g⟩ (fun r => (∀ c : Dev Cert.MlpLossRefIdeal.nD,
      r.2.mem ((c.tc : Thread Cert.MlpLossRefIdeal.nD Cert.MlpLossRefIdeal.τ).loc Cert.MlpLossRefIdeal.main_arg0) = m ((c.tc : Thread Cert.MlpLossRefIdeal.nD Cert.MlpLossRefIdeal.τ).loc Cert.MlpLossRefIdeal.main_arg0)
      ∧ r.2.mem ((c.tc : Thread Cert.MlpLossRefIdeal.nD Cert.MlpLossRefIdeal.τ).loc Cert.MlpLossRefIdeal.main_arg1) = m ((c.tc : Thread Cert.MlpLossRefIdeal.nD Cert.MlpLossRefIdeal.τ).loc Cert.MlpLossRefIdeal.main_arg1)
      ∧ r.2.mem ((c.tc : Thread Cert.MlpLossRefIdeal.nD Cert.MlpLossRefIdeal.τ).loc Cert.MlpLossRefIdeal.main_arg2) = m ((c.tc : Thread Cert.MlpLossRefIdeal.nD Cert.MlpLossRefIdeal.τ).loc Cert.MlpLossRefIdeal.main_arg2)
      ∧ r.2.mem ((c.tc : Thread Cert.MlpLossRefIdeal.nD Cert.MlpLossRefIdeal.τ).loc Cert.MlpLossRefIdeal.main_arg3) = m ((c.tc : Thread Cert.MlpLossRefIdeal.nD Cert.MlpLossRefIdeal.τ).loc Cert.MlpLossRefIdeal.main_arg3)
      ∧ r.2.mem ((c.tc : Thread Cert.MlpLossRefIdeal.nD Cert.MlpLossRefIdeal.τ).loc Cert.MlpLossRefIdeal.main_arg4) = m ((c.tc : Thread Cert.MlpLossRefIdeal.nD Cert.MlpLossRefIdeal.τ).loc Cert.MlpLossRefIdeal.main_arg4)
      ∧ r.2.mem ((c.tc : Thread Cert.MlpLossRefIdeal.nD Cert.MlpLossRefIdeal.τ).loc Cert.MlpLossRefIdeal.main_arg5) = m ((c.tc : Thread Cert.MlpLossRefIdeal.nD Cert.MlpLossRefIdeal.τ).loc Cert.MlpLossRefIdeal.main_arg5)
      ∧ r.2.mem ((c.tc : Thread Cert.MlpLossRefIdeal.nD Cert.MlpLossRefIdeal.τ).loc Cert.MlpLossRefIdeal.main_arg6) = m ((c.tc : Thread Cert.MlpLossRefIdeal.nD Cert.MlpLossRefIdeal.τ).loc Cert.MlpLossRefIdeal.main_arg6))
      ∧ r.2.sem = fun _ => 0)

def quiescent_MlpLossRefIdeal_pre_loss_finite [hMlpLossRefIdeal : Cert.MlpLossRefIdeal.Facts] [hPre_loss_finite : Cert.Pre_loss_finite.Facts] : Prop :=
  ∀ (m : (ℓ : Loc Cert.MlpLossRefIdeal.nD Cert.MlpLossRefIdeal.τ Cert.MlpLossRefIdeal.sig) → Buf (Elt Ideal) ℓ) (g : Dev Cert.MlpLossRefIdeal.nD → PrngReg), Pre_MlpLossRefIdeal_loss_finite m →
    θ_run (Cert.MlpLossRefIdeal.defs (F := Ideal)) (onTc (τ := Cert.MlpLossRefIdeal.τ) (Cert.MlpLossRefIdeal.main (F := Ideal))) ⟨m, fun _ => 0, g⟩ (fun r => (∀ c : Dev Cert.MlpLossRefIdeal.nD,
      r.2.mem ((c.tc : Thread Cert.MlpLossRefIdeal.nD Cert.MlpLossRefIdeal.τ).loc Cert.MlpLossRefIdeal.main_arg0) = m ((c.tc : Thread Cert.MlpLossRefIdeal.nD Cert.MlpLossRefIdeal.τ).loc Cert.MlpLossRefIdeal.main_arg0)
      ∧ r.2.mem ((c.tc : Thread Cert.MlpLossRefIdeal.nD Cert.MlpLossRefIdeal.τ).loc Cert.MlpLossRefIdeal.main_arg1) = m ((c.tc : Thread Cert.MlpLossRefIdeal.nD Cert.MlpLossRefIdeal.τ).loc Cert.MlpLossRefIdeal.main_arg1)
      ∧ r.2.mem ((c.tc : Thread Cert.MlpLossRefIdeal.nD Cert.MlpLossRefIdeal.τ).loc Cert.MlpLossRefIdeal.main_arg2) = m ((c.tc : Thread Cert.MlpLossRefIdeal.nD Cert.MlpLossRefIdeal.τ).loc Cert.MlpLossRefIdeal.main_arg2)
      ∧ r.2.mem ((c.tc : Thread Cert.MlpLossRefIdeal.nD Cert.MlpLossRefIdeal.τ).loc Cert.MlpLossRefIdeal.main_arg3) = m ((c.tc : Thread Cert.MlpLossRefIdeal.nD Cert.MlpLossRefIdeal.τ).loc Cert.MlpLossRefIdeal.main_arg3)
      ∧ r.2.mem ((c.tc : Thread Cert.MlpLossRefIdeal.nD Cert.MlpLossRefIdeal.τ).loc Cert.MlpLossRefIdeal.main_arg4) = m ((c.tc : Thread Cert.MlpLossRefIdeal.nD Cert.MlpLossRefIdeal.τ).loc Cert.MlpLossRefIdeal.main_arg4)
      ∧ r.2.mem ((c.tc : Thread Cert.MlpLossRefIdeal.nD Cert.MlpLossRefIdeal.τ).loc Cert.MlpLossRefIdeal.main_arg5) = m ((c.tc : Thread Cert.MlpLossRefIdeal.nD Cert.MlpLossRefIdeal.τ).loc Cert.MlpLossRefIdeal.main_arg5)
      ∧ r.2.mem ((c.tc : Thread Cert.MlpLossRefIdeal.nD Cert.MlpLossRefIdeal.τ).loc Cert.MlpLossRefIdeal.main_arg6) = m ((c.tc : Thread Cert.MlpLossRefIdeal.nD Cert.MlpLossRefIdeal.τ).loc Cert.MlpLossRefIdeal.main_arg6))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_RmsInproj [hRmsInproj : Cert.RmsInproj.Facts] : Prop :=
  ∀ (m : (ℓ : Loc Cert.RmsInproj.nD Cert.RmsInproj.τ Cert.RmsInproj.sig) → Buf (Elt Bits) ℓ) (g : Dev Cert.RmsInproj.nD → PrngReg), Pre_RmsInproj m →
    θ_run (Cert.RmsInproj.defs (F := Bits)) (onTc (τ := Cert.RmsInproj.τ) (Cert.RmsInproj.main (F := Bits))) ⟨m, fun _ => 0, g⟩ (fun r => (∀ c : Dev Cert.RmsInproj.nD,
      r.2.mem ((c.tc : Thread Cert.RmsInproj.nD Cert.RmsInproj.τ).loc Cert.RmsInproj.main_arg0) = m ((c.tc : Thread Cert.RmsInproj.nD Cert.RmsInproj.τ).loc Cert.RmsInproj.main_arg0)
      ∧ r.2.mem ((c.tc : Thread Cert.RmsInproj.nD Cert.RmsInproj.τ).loc Cert.RmsInproj.main_arg1) = m ((c.tc : Thread Cert.RmsInproj.nD Cert.RmsInproj.τ).loc Cert.RmsInproj.main_arg1)
      ∧ r.2.mem ((c.tc : Thread Cert.RmsInproj.nD Cert.RmsInproj.τ).loc Cert.RmsInproj.main_arg2) = m ((c.tc : Thread Cert.RmsInproj.nD Cert.RmsInproj.τ).loc Cert.RmsInproj.main_arg2))
      ∧ r.2.sem = fun _ => 0)

def quiescent_RmsInprojIdeal [hRmsInprojIdeal : Cert.RmsInprojIdeal.Facts] : Prop :=
  ∀ (m : (ℓ : Loc Cert.RmsInprojIdeal.nD Cert.RmsInprojIdeal.τ Cert.RmsInprojIdeal.sig) → Buf (Elt Ideal) ℓ) (g : Dev Cert.RmsInprojIdeal.nD → PrngReg), Pre_RmsInprojIdeal m →
    θ_run (Cert.RmsInprojIdeal.defs (F := Ideal)) (onTc (τ := Cert.RmsInprojIdeal.τ) (Cert.RmsInprojIdeal.main (F := Ideal))) ⟨m, fun _ => 0, g⟩ (fun r => (∀ c : Dev Cert.RmsInprojIdeal.nD,
      r.2.mem ((c.tc : Thread Cert.RmsInprojIdeal.nD Cert.RmsInprojIdeal.τ).loc Cert.RmsInprojIdeal.main_arg0) = m ((c.tc : Thread Cert.RmsInprojIdeal.nD Cert.RmsInprojIdeal.τ).loc Cert.RmsInprojIdeal.main_arg0)
      ∧ r.2.mem ((c.tc : Thread Cert.RmsInprojIdeal.nD Cert.RmsInprojIdeal.τ).loc Cert.RmsInprojIdeal.main_arg1) = m ((c.tc : Thread Cert.RmsInprojIdeal.nD Cert.RmsInprojIdeal.τ).loc Cert.RmsInprojIdeal.main_arg1)
      ∧ r.2.mem ((c.tc : Thread Cert.RmsInprojIdeal.nD Cert.RmsInprojIdeal.τ).loc Cert.RmsInprojIdeal.main_arg2) = m ((c.tc : Thread Cert.RmsInprojIdeal.nD Cert.RmsInprojIdeal.τ).loc Cert.RmsInprojIdeal.main_arg2))
      ∧ r.2.sem = fun _ => 0)

def quiescent_RmsInprojRefIdeal [hRmsInprojRefIdeal : Cert.RmsInprojRefIdeal.Facts] : Prop :=
  ∀ (m : (ℓ : Loc Cert.RmsInprojRefIdeal.nD Cert.RmsInprojRefIdeal.τ Cert.RmsInprojRefIdeal.sig) → Buf (Elt Ideal) ℓ) (g : Dev Cert.RmsInprojRefIdeal.nD → PrngReg), Pre_RmsInprojRefIdeal m →
    θ_run (Cert.RmsInprojRefIdeal.defs (F := Ideal)) (onTc (τ := Cert.RmsInprojRefIdeal.τ) (Cert.RmsInprojRefIdeal.main (F := Ideal))) ⟨m, fun _ => 0, g⟩ (fun r => (∀ c : Dev Cert.RmsInprojRefIdeal.nD,
      r.2.mem ((c.tc : Thread Cert.RmsInprojRefIdeal.nD Cert.RmsInprojRefIdeal.τ).loc Cert.RmsInprojRefIdeal.main_arg0) = m ((c.tc : Thread Cert.RmsInprojRefIdeal.nD Cert.RmsInprojRefIdeal.τ).loc Cert.RmsInprojRefIdeal.main_arg0)
      ∧ r.2.mem ((c.tc : Thread Cert.RmsInprojRefIdeal.nD Cert.RmsInprojRefIdeal.τ).loc Cert.RmsInprojRefIdeal.main_arg1) = m ((c.tc : Thread Cert.RmsInprojRefIdeal.nD Cert.RmsInprojRefIdeal.τ).loc Cert.RmsInprojRefIdeal.main_arg1)
      ∧ r.2.mem ((c.tc : Thread Cert.RmsInprojRefIdeal.nD Cert.RmsInprojRefIdeal.τ).loc Cert.RmsInprojRefIdeal.main_arg2) = m ((c.tc : Thread Cert.RmsInprojRefIdeal.nD Cert.RmsInprojRefIdeal.τ).loc Cert.RmsInprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_OutprojBwd [hOutprojBwd : Cert.OutprojBwd.Facts] : Prop :=
  ∀ (m : (ℓ : Loc Cert.OutprojBwd.nD Cert.OutprojBwd.τ Cert.OutprojBwd.sig) → Buf (Elt Bits) ℓ) (g : Dev Cert.OutprojBwd.nD → PrngReg), Pre_OutprojBwd m →
    θ_run (Cert.OutprojBwd.defs (F := Bits)) (onTc (τ := Cert.OutprojBwd.τ) (Cert.OutprojBwd.main (F := Bits))) ⟨m, fun _ => 0, g⟩ (fun r => (∀ c : Dev Cert.OutprojBwd.nD,
      r.2.mem ((c.tc : Thread Cert.OutprojBwd.nD Cert.OutprojBwd.τ).loc Cert.OutprojBwd.main_arg0) = m ((c.tc : Thread Cert.OutprojBwd.nD Cert.OutprojBwd.τ).loc Cert.OutprojBwd.main_arg0)
      ∧ r.2.mem ((c.tc : Thread Cert.OutprojBwd.nD Cert.OutprojBwd.τ).loc Cert.OutprojBwd.main_arg1) = m ((c.tc : Thread Cert.OutprojBwd.nD Cert.OutprojBwd.τ).loc Cert.OutprojBwd.main_arg1))
      ∧ r.2.sem = fun _ => 0)

def quiescent_OutprojBwdIdeal [hOutprojBwdIdeal : Cert.OutprojBwdIdeal.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg), Pre_OutprojBwdIdeal m →
    θ_run (Cert.OutprojBwdIdeal.defs (F := Ideal)) (onTc (τ := Cert.OutprojBwdIdeal.τ) (Cert.OutprojBwdIdeal.main (F := Ideal))) ⟨m, fun _ => 0, g⟩ (fun r => (∀ c : Dev Cert.OutprojBwdIdeal.nD,
      r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
      ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1))
      ∧ r.2.sem = fun _ => 0)

def quiescent_OutprojBwdRefIdeal [hOutprojBwdRefIdeal : Cert.OutprojBwdRefIdeal.Facts] : Prop :=
  ∀ (m : (ℓ : Loc Cert.OutprojBwdRefIdeal.nD Cert.OutprojBwdRefIdeal.τ Cert.OutprojBwdRefIdeal.sig) → Buf (Elt Ideal) ℓ) (g : Dev Cert.OutprojBwdRefIdeal.nD → PrngReg), Pre_OutprojBwdRefIdeal m →
    θ_run (Cert.OutprojBwdRefIdeal.defs (F := Ideal)) (onTc (τ := Cert.OutprojBwdRefIdeal.τ) (Cert.OutprojBwdRefIdeal.main (F := Ideal))) ⟨m, fun _ => 0, g⟩ (fun r => (∀ c : Dev Cert.OutprojBwdRefIdeal.nD,
      r.2.mem ((c.tc : Thread Cert.OutprojBwdRefIdeal.nD Cert.OutprojBwdRefIdeal.τ).loc Cert.OutprojBwdRefIdeal.main_arg0) = m ((c.tc : Thread Cert.OutprojBwdRefIdeal.nD Cert.OutprojBwdRefIdeal.τ).loc Cert.OutprojBwdRefIdeal.main_arg0)
      ∧ r.2.mem ((c.tc : Thread Cert.OutprojBwdRefIdeal.nD Cert.OutprojBwdRefIdeal.τ).loc Cert.OutprojBwdRefIdeal.main_arg1) = m ((c.tc : Thread Cert.OutprojBwdRefIdeal.nD Cert.OutprojBwdRefIdeal.τ).loc Cert.OutprojBwdRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4))
      ∧ r.2.sem = fun _ => 0)

def preserves_CumsumBwd_CumsumBwdIdeal : Prop :=
  True

def algebraic_CumsumBwdIdeal_CumsumBwdRefIdeal_pre_cumsum_finite [hCumsumBwdIdeal : Cert.CumsumBwdIdeal.Facts] [hCumsumBwdRefIdeal : Cert.CumsumBwdRefIdeal.Facts] [hPre_cumsum_finite : Cert.Pre_cumsum_finite.Facts] : Prop :=
  ∀ (m : (ℓ : Loc Cert.CumsumBwdIdeal.nD Cert.CumsumBwdIdeal.τ Cert.CumsumBwdIdeal.sig) → Buf (Elt Ideal) ℓ) (g : Dev Cert.CumsumBwdIdeal.nD → PrngReg)
    (m' : (ℓ : Loc Cert.CumsumBwdRefIdeal.nD Cert.CumsumBwdRefIdeal.τ Cert.CumsumBwdRefIdeal.sig) → Buf (Elt Ideal) ℓ) (g' : Dev Cert.CumsumBwdRefIdeal.nD → PrngReg), Pre_CumsumBwdIdeal_cumsum_finite m →
    (∀ c : Dev Cert.CumsumBwdIdeal.nD,
      m' ((c.tc : Thread Cert.CumsumBwdRefIdeal.nD Cert.CumsumBwdRefIdeal.τ).loc Cert.CumsumBwdRefIdeal.main_arg0) = m ((c.tc : Thread Cert.CumsumBwdIdeal.nD Cert.CumsumBwdIdeal.τ).loc Cert.CumsumBwdIdeal.main_arg0)
      ∧ m' ((c.tc : Thread Cert.CumsumBwdRefIdeal.nD Cert.CumsumBwdRefIdeal.τ).loc Cert.CumsumBwdRefIdeal.main_arg1) = m ((c.tc : Thread Cert.CumsumBwdIdeal.nD Cert.CumsumBwdIdeal.τ).loc Cert.CumsumBwdIdeal.main_arg1)
      ∧ m' ((c.tc : Thread Cert.CumsumBwdRefIdeal.nD Cert.CumsumBwdRefIdeal.τ).loc Cert.CumsumBwdRefIdeal.main_arg2) = m ((c.tc : Thread Cert.CumsumBwdIdeal.nD Cert.CumsumBwdIdeal.τ).loc Cert.CumsumBwdIdeal.main_arg2)
      ∧ m' ((c.tc : Thread Cert.CumsumBwdRefIdeal.nD Cert.CumsumBwdRefIdeal.τ).loc Cert.CumsumBwdRefIdeal.main_arg3) = m ((c.tc : Thread Cert.CumsumBwdIdeal.nD Cert.CumsumBwdIdeal.τ).loc Cert.CumsumBwdIdeal.main_arg3)) →
    ∃ (v0 : (c : Dev Cert.CumsumBwdIdeal.nD) → Buf (Elt Ideal) ((c.tc : Thread Cert.CumsumBwdIdeal.nD Cert.CumsumBwdIdeal.τ).loc Cert.CumsumBwdIdeal.main_v2_0)) (v1 : (c : Dev Cert.CumsumBwdIdeal.nD) → Buf (Elt Ideal) ((c.tc : Thread Cert.CumsumBwdIdeal.nD Cert.CumsumBwdIdeal.τ).loc Cert.CumsumBwdIdeal.main_v2_1)),
      θ_run (Cert.CumsumBwdIdeal.defs (F := Ideal)) (onTc (τ := Cert.CumsumBwdIdeal.τ) (Cert.CumsumBwdIdeal.main (F := Ideal))) ⟨m, fun _ => 0, g⟩ (fun r => ∀ c : Dev Cert.CumsumBwdIdeal.nD,
          r.2.mem ((c.tc : Thread Cert.CumsumBwdIdeal.nD Cert.CumsumBwdIdeal.τ).loc Cert.CumsumBwdIdeal.main_v2_0) = v0 c
          ∧ r.2.mem ((c.tc : Thread Cert.CumsumBwdIdeal.nD Cert.CumsumBwdIdeal.τ).loc Cert.CumsumBwdIdeal.main_v2_1) = v1 c
          ∧ r.2.mem ((c.tc : Thread Cert.CumsumBwdIdeal.nD Cert.CumsumBwdIdeal.τ).loc Cert.CumsumBwdIdeal.main_arg0) = m ((c.tc : Thread Cert.CumsumBwdIdeal.nD Cert.CumsumBwdIdeal.τ).loc Cert.CumsumBwdIdeal.main_arg0)
          ∧ r.2.mem ((c.tc : Thread Cert.CumsumBwdIdeal.nD Cert.CumsumBwdIdeal.τ).loc Cert.CumsumBwdIdeal.main_arg1) = m ((c.tc : Thread Cert.CumsumBwdIdeal.nD Cert.CumsumBwdIdeal.τ).loc Cert.CumsumBwdIdeal.main_arg1)
          ∧ r.2.mem ((c.tc : Thread Cert.CumsumBwdIdeal.nD Cert.CumsumBwdIdeal.τ).loc Cert.CumsumBwdIdeal.main_arg2) = m ((c.tc : Thread Cert.CumsumBwdIdeal.nD Cert.CumsumBwdIdeal.τ).loc Cert.CumsumBwdIdeal.main_arg2)
          ∧ r.2.mem ((c.tc : Thread Cert.CumsumBwdIdeal.nD Cert.CumsumBwdIdeal.τ).loc Cert.CumsumBwdIdeal.main_arg3) = m ((c.tc : Thread Cert.CumsumBwdIdeal.nD Cert.CumsumBwdIdeal.τ).loc Cert.CumsumBwdIdeal.main_arg3))
      ∧ θ_run (Cert.CumsumBwdRefIdeal.defs (F := Ideal)) (onTc (τ := Cert.CumsumBwdRefIdeal.τ) (Cert.CumsumBwdRefIdeal.main (F := Ideal))) ⟨m', fun _ => 0, g'⟩ (fun r => ∀ c : Dev Cert.CumsumBwdRefIdeal.nD,
          r.2.mem ((c.tc : Thread Cert.CumsumBwdRefIdeal.nD Cert.CumsumBwdRefIdeal.τ).loc Cert.CumsumBwdRefIdeal.main_v34) = v0 c
          ∧ r.2.mem ((c.tc : Thread Cert.CumsumBwdRefIdeal.nD Cert.CumsumBwdRefIdeal.τ).loc Cert.CumsumBwdRefIdeal.main_v35) = v1 c
          ∧ r.2.mem ((c.tc : Thread Cert.CumsumBwdRefIdeal.nD Cert.CumsumBwdRefIdeal.τ).loc Cert.CumsumBwdRefIdeal.main_arg0) = m' ((c.tc : Thread Cert.CumsumBwdRefIdeal.nD Cert.CumsumBwdRefIdeal.τ).loc Cert.CumsumBwdRefIdeal.main_arg0)
          ∧ r.2.mem ((c.tc : Thread Cert.CumsumBwdRefIdeal.nD Cert.CumsumBwdRefIdeal.τ).loc Cert.CumsumBwdRefIdeal.main_arg1) = m' ((c.tc : Thread Cert.CumsumBwdRefIdeal.nD Cert.CumsumBwdRefIdeal.τ).loc Cert.CumsumBwdRefIdeal.main_arg1)
          ∧ r.2.mem ((c.tc : Thread Cert.CumsumBwdRefIdeal.nD Cert.CumsumBwdRefIdeal.τ).loc Cert.CumsumBwdRefIdeal.main_arg2) = m' ((c.tc : Thread Cert.CumsumBwdRefIdeal.nD Cert.CumsumBwdRefIdeal.τ).loc Cert.CumsumBwdRefIdeal.main_arg2)
          ∧ r.2.mem ((c.tc : Thread Cert.CumsumBwdRefIdeal.nD Cert.CumsumBwdRefIdeal.τ).loc Cert.CumsumBwdRefIdeal.main_arg3) = m' ((c.tc : Thread Cert.CumsumBwdRefIdeal.nD Cert.CumsumBwdRefIdeal.τ).loc Cert.CumsumBwdRefIdeal.main_arg3))

def preserves_AttnBwd_AttnBwdIdeal : Prop :=
  IdealRules.named_const.Statement Cert.AttnBwdIdeal.κ "q_scale" .f32 0x3E38AA3B#32 ((8⁻¹ * (Real.log 2)⁻¹ : ℝ) : EReal)
  ∧ IdealRules.named_const.Statement Cert.AttnBwdIdeal.κ "mask" .f32 0xF149F2CA#32 ⊥
  ∧ IdealRules.named_const.Statement Cert.AttnBwdIdeal.κ "ln2" .f32 0x3F317218#32 ((Real.log 2 : ℝ) : EReal)

def preserves_InpBwd_InpBwdIdeal : Prop :=
  True

def algebraic_InpBwdIdeal_InpBwdRefIdeal_pre_inp_finite [hInpBwdIdeal : Cert.InpBwdIdeal.Facts] [hInpBwdRefIdeal : Cert.InpBwdRefIdeal.Facts] [hPre_inp_finite : Cert.Pre_inp_finite.Facts] : Prop :=
  ∀ (m : (ℓ : Loc Cert.InpBwdIdeal.nD Cert.InpBwdIdeal.τ Cert.InpBwdIdeal.sig) → Buf (Elt Ideal) ℓ) (g : Dev Cert.InpBwdIdeal.nD → PrngReg)
    (m' : (ℓ : Loc Cert.InpBwdRefIdeal.nD Cert.InpBwdRefIdeal.τ Cert.InpBwdRefIdeal.sig) → Buf (Elt Ideal) ℓ) (g' : Dev Cert.InpBwdRefIdeal.nD → PrngReg), Pre_InpBwdIdeal_inp_finite m →
    (∀ c : Dev Cert.InpBwdIdeal.nD,
      m' ((c.tc : Thread Cert.InpBwdRefIdeal.nD Cert.InpBwdRefIdeal.τ).loc Cert.InpBwdRefIdeal.main_arg0) = m ((c.tc : Thread Cert.InpBwdIdeal.nD Cert.InpBwdIdeal.τ).loc Cert.InpBwdIdeal.main_arg0)
      ∧ m' ((c.tc : Thread Cert.InpBwdRefIdeal.nD Cert.InpBwdRefIdeal.τ).loc Cert.InpBwdRefIdeal.main_arg1) = m ((c.tc : Thread Cert.InpBwdIdeal.nD Cert.InpBwdIdeal.τ).loc Cert.InpBwdIdeal.main_arg1)
      ∧ m' ((c.tc : Thread Cert.InpBwdRefIdeal.nD Cert.InpBwdRefIdeal.τ).loc Cert.InpBwdRefIdeal.main_arg2) = m ((c.tc : Thread Cert.InpBwdIdeal.nD Cert.InpBwdIdeal.τ).loc Cert.InpBwdIdeal.main_arg2)
      ∧ m' ((c.tc : Thread Cert.InpBwdRefIdeal.nD Cert.InpBwdRefIdeal.τ).loc Cert.InpBwdRefIdeal.main_arg3) = m ((c.tc : Thread Cert.InpBwdIdeal.nD Cert.InpBwdIdeal.τ).loc Cert.InpBwdIdeal.main_arg3)
      ∧ m' ((c.tc : Thread Cert.InpBwdRefIdeal.nD Cert.InpBwdRefIdeal.τ).loc Cert.InpBwdRefIdeal.main_arg4) = m ((c.tc : Thread Cert.InpBwdIdeal.nD Cert.InpBwdIdeal.τ).loc Cert.InpBwdIdeal.main_arg4)
      ∧ m' ((c.tc : Thread Cert.InpBwdRefIdeal.nD Cert.InpBwdRefIdeal.τ).loc Cert.InpBwdRefIdeal.main_arg5) = m ((c.tc : Thread Cert.InpBwdIdeal.nD Cert.InpBwdIdeal.τ).loc Cert.InpBwdIdeal.main_arg5)
      ∧ m' ((c.tc : Thread Cert.InpBwdRefIdeal.nD Cert.InpBwdRefIdeal.τ).loc Cert.InpBwdRefIdeal.main_arg6) = m ((c.tc : Thread Cert.InpBwdIdeal.nD Cert.InpBwdIdeal.τ).loc Cert.InpBwdIdeal.main_arg6)
      ∧ m' ((c.tc : Thread Cert.InpBwdRefIdeal.nD Cert.InpBwdRefIdeal.τ).loc Cert.InpBwdRefIdeal.main_arg7) = m ((c.tc : Thread Cert.InpBwdIdeal.nD Cert.InpBwdIdeal.τ).loc Cert.InpBwdIdeal.main_arg7)
      ∧ m' ((c.tc : Thread Cert.InpBwdRefIdeal.nD Cert.InpBwdRefIdeal.τ).loc Cert.InpBwdRefIdeal.main_arg8) = m ((c.tc : Thread Cert.InpBwdIdeal.nD Cert.InpBwdIdeal.τ).loc Cert.InpBwdIdeal.main_arg8)) →
    ∃ (v0 : (c : Dev Cert.InpBwdIdeal.nD) → Buf (Elt Ideal) ((c.tc : Thread Cert.InpBwdIdeal.nD Cert.InpBwdIdeal.τ).loc Cert.InpBwdIdeal.main_v8_0)) (v1 : (c : Dev Cert.InpBwdIdeal.nD) → Buf (Elt Ideal) ((c.tc : Thread Cert.InpBwdIdeal.nD Cert.InpBwdIdeal.τ).loc Cert.InpBwdIdeal.main_v8_1)),
      θ_run (Cert.InpBwdIdeal.defs (F := Ideal)) (onTc (τ := Cert.InpBwdIdeal.τ) (Cert.InpBwdIdeal.main (F := Ideal))) ⟨m, fun _ => 0, g⟩ (fun r => ∀ c : Dev Cert.InpBwdIdeal.nD,
          r.2.mem ((c.tc : Thread Cert.InpBwdIdeal.nD Cert.InpBwdIdeal.τ).loc Cert.InpBwdIdeal.main_v8_0) = v0 c
          ∧ r.2.mem ((c.tc : Thread Cert.InpBwdIdeal.nD Cert.InpBwdIdeal.τ).loc Cert.InpBwdIdeal.main_v8_1) = v1 c
          ∧ r.2.mem ((c.tc : Thread Cert.InpBwdIdeal.nD Cert.InpBwdIdeal.τ).loc Cert.InpBwdIdeal.main_arg0) = m ((c.tc : Thread Cert.InpBwdIdeal.nD Cert.InpBwdIdeal.τ).loc Cert.InpBwdIdeal.main_arg0)
          ∧ r.2.mem ((c.tc : Thread Cert.InpBwdIdeal.nD Cert.InpBwdIdeal.τ).loc Cert.InpBwdIdeal.main_arg1) = m ((c.tc : Thread Cert.InpBwdIdeal.nD Cert.InpBwdIdeal.τ).loc Cert.InpBwdIdeal.main_arg1)
          ∧ r.2.mem ((c.tc : Thread Cert.InpBwdIdeal.nD Cert.InpBwdIdeal.τ).loc Cert.InpBwdIdeal.main_arg2) = m ((c.tc : Thread Cert.InpBwdIdeal.nD Cert.InpBwdIdeal.τ).loc Cert.InpBwdIdeal.main_arg2)
          ∧ r.2.mem ((c.tc : Thread Cert.InpBwdIdeal.nD Cert.InpBwdIdeal.τ).loc Cert.InpBwdIdeal.main_arg3) = m ((c.tc : Thread Cert.InpBwdIdeal.nD Cert.InpBwdIdeal.τ).loc Cert.InpBwdIdeal.main_arg3)
          ∧ r.2.mem ((c.tc : Thread Cert.InpBwdIdeal.nD Cert.InpBwdIdeal.τ).loc Cert.InpBwdIdeal.main_arg4) = m ((c.tc : Thread Cert.InpBwdIdeal.nD Cert.InpBwdIdeal.τ).loc Cert.InpBwdIdeal.main_arg4)
          ∧ r.2.mem ((c.tc : Thread Cert.InpBwdIdeal.nD Cert.InpBwdIdeal.τ).loc Cert.InpBwdIdeal.main_arg5) = m ((c.tc : Thread Cert.InpBwdIdeal.nD Cert.InpBwdIdeal.τ).loc Cert.InpBwdIdeal.main_arg5)
          ∧ r.2.mem ((c.tc : Thread Cert.InpBwdIdeal.nD Cert.InpBwdIdeal.τ).loc Cert.InpBwdIdeal.main_arg6) = m ((c.tc : Thread Cert.InpBwdIdeal.nD Cert.InpBwdIdeal.τ).loc Cert.InpBwdIdeal.main_arg6)
          ∧ r.2.mem ((c.tc : Thread Cert.InpBwdIdeal.nD Cert.InpBwdIdeal.τ).loc Cert.InpBwdIdeal.main_arg7) = m ((c.tc : Thread Cert.InpBwdIdeal.nD Cert.InpBwdIdeal.τ).loc Cert.InpBwdIdeal.main_arg7)
          ∧ r.2.mem ((c.tc : Thread Cert.InpBwdIdeal.nD Cert.InpBwdIdeal.τ).loc Cert.InpBwdIdeal.main_arg8) = m ((c.tc : Thread Cert.InpBwdIdeal.nD Cert.InpBwdIdeal.τ).loc Cert.InpBwdIdeal.main_arg8))
      ∧ θ_run (Cert.InpBwdRefIdeal.defs (F := Ideal)) (onTc (τ := Cert.InpBwdRefIdeal.τ) (Cert.InpBwdRefIdeal.main (F := Ideal))) ⟨m', fun _ => 0, g'⟩ (fun r => ∀ c : Dev Cert.InpBwdRefIdeal.nD,
          r.2.mem ((c.tc : Thread Cert.InpBwdRefIdeal.nD Cert.InpBwdRefIdeal.τ).loc Cert.InpBwdRefIdeal.main_v60) = v0 c
          ∧ r.2.mem ((c.tc : Thread Cert.InpBwdRefIdeal.nD Cert.InpBwdRefIdeal.τ).loc Cert.InpBwdRefIdeal.main_v61) = v1 c
          ∧ r.2.mem ((c.tc : Thread Cert.InpBwdRefIdeal.nD Cert.InpBwdRefIdeal.τ).loc Cert.InpBwdRefIdeal.main_arg0) = m' ((c.tc : Thread Cert.InpBwdRefIdeal.nD Cert.InpBwdRefIdeal.τ).loc Cert.InpBwdRefIdeal.main_arg0)
          ∧ r.2.mem ((c.tc : Thread Cert.InpBwdRefIdeal.nD Cert.InpBwdRefIdeal.τ).loc Cert.InpBwdRefIdeal.main_arg1) = m' ((c.tc : Thread Cert.InpBwdRefIdeal.nD Cert.InpBwdRefIdeal.τ).loc Cert.InpBwdRefIdeal.main_arg1)
          ∧ r.2.mem ((c.tc : Thread Cert.InpBwdRefIdeal.nD Cert.InpBwdRefIdeal.τ).loc Cert.InpBwdRefIdeal.main_arg2) = m' ((c.tc : Thread Cert.InpBwdRefIdeal.nD Cert.InpBwdRefIdeal.τ).loc Cert.InpBwdRefIdeal.main_arg2)
          ∧ r.2.mem ((c.tc : Thread Cert.InpBwdRefIdeal.nD Cert.InpBwdRefIdeal.τ).loc Cert.InpBwdRefIdeal.main_arg3) = m' ((c.tc : Thread Cert.InpBwdRefIdeal.nD Cert.InpBwdRefIdeal.τ).loc Cert.InpBwdRefIdeal.main_arg3)
          ∧ r.2.mem ((c.tc : Thread Cert.InpBwdRefIdeal.nD Cert.InpBwdRefIdeal.τ).loc Cert.InpBwdRefIdeal.main_arg4) = m' ((c.tc : Thread Cert.InpBwdRefIdeal.nD Cert.InpBwdRefIdeal.τ).loc Cert.InpBwdRefIdeal.main_arg4)
          ∧ r.2.mem ((c.tc : Thread Cert.InpBwdRefIdeal.nD Cert.InpBwdRefIdeal.τ).loc Cert.InpBwdRefIdeal.main_arg5) = m' ((c.tc : Thread Cert.InpBwdRefIdeal.nD Cert.InpBwdRefIdeal.τ).loc Cert.InpBwdRefIdeal.main_arg5)
          ∧ r.2.mem ((c.tc : Thread Cert.InpBwdRefIdeal.nD Cert.InpBwdRefIdeal.τ).loc Cert.InpBwdRefIdeal.main_arg6) = m' ((c.tc : Thread Cert.InpBwdRefIdeal.nD Cert.InpBwdRefIdeal.τ).loc Cert.InpBwdRefIdeal.main_arg6)
          ∧ r.2.mem ((c.tc : Thread Cert.InpBwdRefIdeal.nD Cert.InpBwdRefIdeal.τ).loc Cert.InpBwdRefIdeal.main_arg7) = m' ((c.tc : Thread Cert.InpBwdRefIdeal.nD Cert.InpBwdRefIdeal.τ).loc Cert.InpBwdRefIdeal.main_arg7)
          ∧ r.2.mem ((c.tc : Thread Cert.InpBwdRefIdeal.nD Cert.InpBwdRefIdeal.τ).loc Cert.InpBwdRefIdeal.main_arg8) = m' ((c.tc : Thread Cert.InpBwdRefIdeal.nD Cert.InpBwdRefIdeal.τ).loc Cert.InpBwdRefIdeal.main_arg8))

def preserves_MlpBwd_MlpBwdIdeal : Prop :=
  True

def algebraic_MlpBwdIdeal_MlpBwdRefIdeal_pre_mlp_finite [hMlpBwdIdeal : Cert.MlpBwdIdeal.Facts] [hMlpBwdRefIdeal : Cert.MlpBwdRefIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal_mlp_finite m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)
      ∧ m' ((c.tc : Thread Cert.MlpBwdRefIdeal.nD Cert.MlpBwdRefIdeal.τ).loc Cert.MlpBwdRefIdeal.main_arg5) = m ((c.tc : Thread Cert.MlpBwdIdeal.nD Cert.MlpBwdIdeal.τ).loc Cert.MlpBwdIdeal.main_arg5)) →
    ∃ (v0 : (c : Dev Cert.MlpBwdIdeal.nD) → Buf (Elt Ideal) ((c.tc : Thread Cert.MlpBwdIdeal.nD Cert.MlpBwdIdeal.τ).loc Cert.MlpBwdIdeal.main_v48_0)) (v1 : (c : Dev Cert.MlpBwdIdeal.nD) → Buf (Elt Ideal) ((c.tc : Thread Cert.MlpBwdIdeal.nD Cert.MlpBwdIdeal.τ).loc Cert.MlpBwdIdeal.main_v48_1)) (v2 : (c : Dev Cert.MlpBwdIdeal.nD) → Buf (Elt Ideal) ((c.tc : Thread Cert.MlpBwdIdeal.nD Cert.MlpBwdIdeal.τ).loc Cert.MlpBwdIdeal.main_v48_2)) (v3 : (c : Dev Cert.MlpBwdIdeal.nD) → Buf (Elt Ideal) ((c.tc : Thread Cert.MlpBwdIdeal.nD Cert.MlpBwdIdeal.τ).loc Cert.MlpBwdIdeal.main_v48_3)) (v4 : (c : Dev Cert.MlpBwdIdeal.nD) → Buf (Elt Ideal) ((c.tc : Thread Cert.MlpBwdIdeal.nD Cert.MlpBwdIdeal.τ).loc Cert.MlpBwdIdeal.main_v48_4)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v48_0) = v0 c
          ∧ r.2.mem ((c.tc : Thread Cert.MlpBwdIdeal.nD Cert.MlpBwdIdeal.τ).loc Cert.MlpBwdIdeal.main_v48_1) = v1 c
          ∧ r.2.mem ((c.tc : Thread Cert.MlpBwdIdeal.nD Cert.MlpBwdIdeal.τ).loc Cert.MlpBwdIdeal.main_v48_2) = v2 c
          ∧ r.2.mem ((c.tc : Thread Cert.MlpBwdIdeal.nD Cert.MlpBwdIdeal.τ).loc Cert.MlpBwdIdeal.main_v48_3) = v3 c
          ∧ r.2.mem ((c.tc : Thread Cert.MlpBwdIdeal.nD Cert.MlpBwdIdeal.τ).loc Cert.MlpBwdIdeal.main_v48_4) = v4 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v61) = v0 c
          ∧ r.2.mem ((c.tc : Thread Cert.MlpBwdRefIdeal.nD Cert.MlpBwdRefIdeal.τ).loc Cert.MlpBwdRefIdeal.main_v64) = v1 c
          ∧ r.2.mem ((c.tc : Thread Cert.MlpBwdRefIdeal.nD Cert.MlpBwdRefIdeal.τ).loc Cert.MlpBwdRefIdeal.main_v57) = v2 c
          ∧ r.2.mem ((c.tc : Thread Cert.MlpBwdRefIdeal.nD Cert.MlpBwdRefIdeal.τ).loc Cert.MlpBwdRefIdeal.main_v65) = v3 c
          ∧ r.2.mem ((c.tc : Thread Cert.MlpBwdRefIdeal.nD Cert.MlpBwdRefIdeal.τ).loc Cert.MlpBwdRefIdeal.main_v58) = v4 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4)
          ∧ r.2.mem ((c.tc : Thread Cert.MlpBwdRefIdeal.nD Cert.MlpBwdRefIdeal.τ).loc Cert.MlpBwdRefIdeal.main_arg5) = m' ((c.tc : Thread Cert.MlpBwdRefIdeal.nD Cert.MlpBwdRefIdeal.τ).loc Cert.MlpBwdRefIdeal.main_arg5))

def preserves_MlpLoss_MlpLossIdeal : Prop :=
  True

def algebraic_MlpLossIdeal_MlpLossRefIdeal_pre_loss_finite [hMlpLossIdeal : Cert.MlpLossIdeal.Facts] [hMlpLossRefIdeal : Cert.MlpLossRefIdeal.Facts] [hPre_loss_finite : Cert.Pre_loss_finite.Facts] : Prop :=
  ∀ (m : (ℓ : Loc Cert.MlpLossIdeal.nD Cert.MlpLossIdeal.τ Cert.MlpLossIdeal.sig) → Buf (Elt Ideal) ℓ) (g : Dev Cert.MlpLossIdeal.nD → PrngReg)
    (m' : (ℓ : Loc Cert.MlpLossRefIdeal.nD Cert.MlpLossRefIdeal.τ Cert.MlpLossRefIdeal.sig) → Buf (Elt Ideal) ℓ) (g' : Dev Cert.MlpLossRefIdeal.nD → PrngReg), Pre_MlpLossIdeal_loss_finite m →
    (∀ c : Dev Cert.MlpLossIdeal.nD,
      m' ((c.tc : Thread Cert.MlpLossRefIdeal.nD Cert.MlpLossRefIdeal.τ).loc Cert.MlpLossRefIdeal.main_arg0) = m ((c.tc : Thread Cert.MlpLossIdeal.nD Cert.MlpLossIdeal.τ).loc Cert.MlpLossIdeal.main_arg0)
      ∧ m' ((c.tc : Thread Cert.MlpLossRefIdeal.nD Cert.MlpLossRefIdeal.τ).loc Cert.MlpLossRefIdeal.main_arg1) = m ((c.tc : Thread Cert.MlpLossIdeal.nD Cert.MlpLossIdeal.τ).loc Cert.MlpLossIdeal.main_arg1)
      ∧ m' ((c.tc : Thread Cert.MlpLossRefIdeal.nD Cert.MlpLossRefIdeal.τ).loc Cert.MlpLossRefIdeal.main_arg2) = m ((c.tc : Thread Cert.MlpLossIdeal.nD Cert.MlpLossIdeal.τ).loc Cert.MlpLossIdeal.main_arg2)
      ∧ m' ((c.tc : Thread Cert.MlpLossRefIdeal.nD Cert.MlpLossRefIdeal.τ).loc Cert.MlpLossRefIdeal.main_arg3) = m ((c.tc : Thread Cert.MlpLossIdeal.nD Cert.MlpLossIdeal.τ).loc Cert.MlpLossIdeal.main_arg3)
      ∧ m' ((c.tc : Thread Cert.MlpLossRefIdeal.nD Cert.MlpLossRefIdeal.τ).loc Cert.MlpLossRefIdeal.main_arg4) = m ((c.tc : Thread Cert.MlpLossIdeal.nD Cert.MlpLossIdeal.τ).loc Cert.MlpLossIdeal.main_arg4)
      ∧ m' ((c.tc : Thread Cert.MlpLossRefIdeal.nD Cert.MlpLossRefIdeal.τ).loc Cert.MlpLossRefIdeal.main_arg5) = m ((c.tc : Thread Cert.MlpLossIdeal.nD Cert.MlpLossIdeal.τ).loc Cert.MlpLossIdeal.main_arg5)
      ∧ m' ((c.tc : Thread Cert.MlpLossRefIdeal.nD Cert.MlpLossRefIdeal.τ).loc Cert.MlpLossRefIdeal.main_arg6) = m ((c.tc : Thread Cert.MlpLossIdeal.nD Cert.MlpLossIdeal.τ).loc Cert.MlpLossIdeal.main_arg6)) →
    ∃ (v0 : (c : Dev Cert.MlpLossIdeal.nD) → Buf (Elt Ideal) ((c.tc : Thread Cert.MlpLossIdeal.nD Cert.MlpLossIdeal.τ).loc Cert.MlpLossIdeal.main_v12_0)) (v1 : (c : Dev Cert.MlpLossIdeal.nD) → Buf (Elt Ideal) ((c.tc : Thread Cert.MlpLossIdeal.nD Cert.MlpLossIdeal.τ).loc Cert.MlpLossIdeal.main_v12_1)) (v2 : (c : Dev Cert.MlpLossIdeal.nD) → Buf (Elt Ideal) ((c.tc : Thread Cert.MlpLossIdeal.nD Cert.MlpLossIdeal.τ).loc Cert.MlpLossIdeal.main_v12_2)) (v3 : (c : Dev Cert.MlpLossIdeal.nD) → Buf (Elt Ideal) ((c.tc : Thread Cert.MlpLossIdeal.nD Cert.MlpLossIdeal.τ).loc Cert.MlpLossIdeal.main_v12_3)) (v4 : (c : Dev Cert.MlpLossIdeal.nD) → Buf (Elt Ideal) ((c.tc : Thread Cert.MlpLossIdeal.nD Cert.MlpLossIdeal.τ).loc Cert.MlpLossIdeal.main_v12_4)) (v5 : (c : Dev Cert.MlpLossIdeal.nD) → Buf (Elt Ideal) ((c.tc : Thread Cert.MlpLossIdeal.nD Cert.MlpLossIdeal.τ).loc Cert.MlpLossIdeal.main_v12_5)) (v6 : (c : Dev Cert.MlpLossIdeal.nD) → Buf (Elt Ideal) ((c.tc : Thread Cert.MlpLossIdeal.nD Cert.MlpLossIdeal.τ).loc Cert.MlpLossIdeal.main_v12_6)),
      θ_run (Cert.MlpLossIdeal.defs (F := Ideal)) (onTc (τ := Cert.MlpLossIdeal.τ) (Cert.MlpLossIdeal.main (F := Ideal))) ⟨m, fun _ => 0, g⟩ (fun r => ∀ c : Dev Cert.MlpLossIdeal.nD,
          r.2.mem ((c.tc : Thread Cert.MlpLossIdeal.nD Cert.MlpLossIdeal.τ).loc Cert.MlpLossIdeal.main_v12_0) = v0 c
          ∧ r.2.mem ((c.tc : Thread Cert.MlpLossIdeal.nD Cert.MlpLossIdeal.τ).loc Cert.MlpLossIdeal.main_v12_1) = v1 c
          ∧ r.2.mem ((c.tc : Thread Cert.MlpLossIdeal.nD Cert.MlpLossIdeal.τ).loc Cert.MlpLossIdeal.main_v12_2) = v2 c
          ∧ r.2.mem ((c.tc : Thread Cert.MlpLossIdeal.nD Cert.MlpLossIdeal.τ).loc Cert.MlpLossIdeal.main_v12_3) = v3 c
          ∧ r.2.mem ((c.tc : Thread Cert.MlpLossIdeal.nD Cert.MlpLossIdeal.τ).loc Cert.MlpLossIdeal.main_v12_4) = v4 c
          ∧ r.2.mem ((c.tc : Thread Cert.MlpLossIdeal.nD Cert.MlpLossIdeal.τ).loc Cert.MlpLossIdeal.main_v12_5) = v5 c
          ∧ r.2.mem ((c.tc : Thread Cert.MlpLossIdeal.nD Cert.MlpLossIdeal.τ).loc Cert.MlpLossIdeal.main_v12_6) = v6 c
          ∧ r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
          ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
          ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
          ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
          ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
          ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
          ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6))
      ∧ θ_run (Cert.MlpLossRefIdeal.defs (F := Ideal)) (onTc (τ := Cert.MlpLossRefIdeal.τ) (Cert.MlpLossRefIdeal.main (F := Ideal))) ⟨m', fun _ => 0, g'⟩ (fun r => ∀ c : Dev Cert.MlpLossRefIdeal.nD,
          r.2.mem ((c.tc : Thread Cert.MlpLossRefIdeal.nD Cert.MlpLossRefIdeal.τ).loc Cert.MlpLossRefIdeal.main_v62) = v0 c
          ∧ r.2.mem ((c.tc : Thread Cert.MlpLossRefIdeal.nD Cert.MlpLossRefIdeal.τ).loc Cert.MlpLossRefIdeal.main_v63) = v1 c
          ∧ r.2.mem ((c.tc : Thread Cert.MlpLossRefIdeal.nD Cert.MlpLossRefIdeal.τ).loc Cert.MlpLossRefIdeal.main_v60) = v2 c
          ∧ r.2.mem ((c.tc : Thread Cert.MlpLossRefIdeal.nD Cert.MlpLossRefIdeal.τ).loc Cert.MlpLossRefIdeal.main_v64) = v3 c
          ∧ r.2.mem ((c.tc : Thread Cert.MlpLossRefIdeal.nD Cert.MlpLossRefIdeal.τ).loc Cert.MlpLossRefIdeal.main_v68) = v4 c
          ∧ r.2.mem ((c.tc : Thread Cert.MlpLossRefIdeal.nD Cert.MlpLossRefIdeal.τ).loc Cert.MlpLossRefIdeal.main_v71) = v5 c
          ∧ r.2.mem ((c.tc : Thread Cert.MlpLossRefIdeal.nD Cert.MlpLossRefIdeal.τ).loc Cert.MlpLossRefIdeal.main_v75) = v6 c
          ∧ r.2.mem ((c.tc : Thread Cert.MlpLossRefIdeal.nD Cert.MlpLossRefIdeal.τ).loc Cert.MlpLossRefIdeal.main_arg0) = m' ((c.tc : Thread Cert.MlpLossRefIdeal.nD Cert.MlpLossRefIdeal.τ).loc Cert.MlpLossRefIdeal.main_arg0)
          ∧ r.2.mem ((c.tc : Thread Cert.MlpLossRefIdeal.nD Cert.MlpLossRefIdeal.τ).loc Cert.MlpLossRefIdeal.main_arg1) = m' ((c.tc : Thread Cert.MlpLossRefIdeal.nD Cert.MlpLossRefIdeal.τ).loc Cert.MlpLossRefIdeal.main_arg1)
          ∧ r.2.mem ((c.tc : Thread Cert.MlpLossRefIdeal.nD Cert.MlpLossRefIdeal.τ).loc Cert.MlpLossRefIdeal.main_arg2) = m' ((c.tc : Thread Cert.MlpLossRefIdeal.nD Cert.MlpLossRefIdeal.τ).loc Cert.MlpLossRefIdeal.main_arg2)
          ∧ r.2.mem ((c.tc : Thread Cert.MlpLossRefIdeal.nD Cert.MlpLossRefIdeal.τ).loc Cert.MlpLossRefIdeal.main_arg3) = m' ((c.tc : Thread Cert.MlpLossRefIdeal.nD Cert.MlpLossRefIdeal.τ).loc Cert.MlpLossRefIdeal.main_arg3)
          ∧ r.2.mem ((c.tc : Thread Cert.MlpLossRefIdeal.nD Cert.MlpLossRefIdeal.τ).loc Cert.MlpLossRefIdeal.main_arg4) = m' ((c.tc : Thread Cert.MlpLossRefIdeal.nD Cert.MlpLossRefIdeal.τ).loc Cert.MlpLossRefIdeal.main_arg4)
          ∧ r.2.mem ((c.tc : Thread Cert.MlpLossRefIdeal.nD Cert.MlpLossRefIdeal.τ).loc Cert.MlpLossRefIdeal.main_arg5) = m' ((c.tc : Thread Cert.MlpLossRefIdeal.nD Cert.MlpLossRefIdeal.τ).loc Cert.MlpLossRefIdeal.main_arg5)
          ∧ r.2.mem ((c.tc : Thread Cert.MlpLossRefIdeal.nD Cert.MlpLossRefIdeal.τ).loc Cert.MlpLossRefIdeal.main_arg6) = m' ((c.tc : Thread Cert.MlpLossRefIdeal.nD Cert.MlpLossRefIdeal.τ).loc Cert.MlpLossRefIdeal.main_arg6))

def preserves_PoolBwd_PoolBwdIdeal : Prop :=
  True

def preserves_RmsInproj_RmsInprojIdeal : Prop :=
  True

def algebraic_RmsInprojIdeal_RmsInprojRefIdeal [hRmsInprojIdeal : Cert.RmsInprojIdeal.Facts] [hRmsInprojRefIdeal : Cert.RmsInprojRefIdeal.Facts] : Prop :=
  ∀ (m : (ℓ : Loc Cert.RmsInprojIdeal.nD Cert.RmsInprojIdeal.τ Cert.RmsInprojIdeal.sig) → Buf (Elt Ideal) ℓ) (g : Dev Cert.RmsInprojIdeal.nD → PrngReg)
    (m' : (ℓ : Loc Cert.RmsInprojRefIdeal.nD Cert.RmsInprojRefIdeal.τ Cert.RmsInprojRefIdeal.sig) → Buf (Elt Ideal) ℓ) (g' : Dev Cert.RmsInprojRefIdeal.nD → PrngReg), Pre_RmsInprojIdeal m →
    (∀ c : Dev Cert.RmsInprojIdeal.nD,
      m' ((c.tc : Thread Cert.RmsInprojRefIdeal.nD Cert.RmsInprojRefIdeal.τ).loc Cert.RmsInprojRefIdeal.main_arg0) = m ((c.tc : Thread Cert.RmsInprojIdeal.nD Cert.RmsInprojIdeal.τ).loc Cert.RmsInprojIdeal.main_arg0)
      ∧ m' ((c.tc : Thread Cert.RmsInprojRefIdeal.nD Cert.RmsInprojRefIdeal.τ).loc Cert.RmsInprojRefIdeal.main_arg1) = m ((c.tc : Thread Cert.RmsInprojIdeal.nD Cert.RmsInprojIdeal.τ).loc Cert.RmsInprojIdeal.main_arg1)
      ∧ m' ((c.tc : Thread Cert.RmsInprojRefIdeal.nD Cert.RmsInprojRefIdeal.τ).loc Cert.RmsInprojRefIdeal.main_arg2) = m ((c.tc : Thread Cert.RmsInprojIdeal.nD Cert.RmsInprojIdeal.τ).loc Cert.RmsInprojIdeal.main_arg2)) →
    ∃ (v0 : (c : Dev Cert.RmsInprojIdeal.nD) → Buf (Elt Ideal) ((c.tc : Thread Cert.RmsInprojIdeal.nD Cert.RmsInprojIdeal.τ).loc Cert.RmsInprojIdeal.main_v9_0)) (v1 : (c : Dev Cert.RmsInprojIdeal.nD) → Buf (Elt Ideal) ((c.tc : Thread Cert.RmsInprojIdeal.nD Cert.RmsInprojIdeal.τ).loc Cert.RmsInprojIdeal.main_v9_1)) (v2 : (c : Dev Cert.RmsInprojIdeal.nD) → Buf (Elt Ideal) ((c.tc : Thread Cert.RmsInprojIdeal.nD Cert.RmsInprojIdeal.τ).loc Cert.RmsInprojIdeal.main_v9_2)) (v3 : (c : Dev Cert.RmsInprojIdeal.nD) → Buf (Elt Ideal) ((c.tc : Thread Cert.RmsInprojIdeal.nD Cert.RmsInprojIdeal.τ).loc Cert.RmsInprojIdeal.main_v9_3)),
      θ_run (Cert.RmsInprojIdeal.defs (F := Ideal)) (onTc (τ := Cert.RmsInprojIdeal.τ) (Cert.RmsInprojIdeal.main (F := Ideal))) ⟨m, fun _ => 0, g⟩ (fun r => ∀ c : Dev Cert.RmsInprojIdeal.nD,
          r.2.mem ((c.tc : Thread Cert.RmsInprojIdeal.nD Cert.RmsInprojIdeal.τ).loc Cert.RmsInprojIdeal.main_v9_0) = v0 c
          ∧ r.2.mem ((c.tc : Thread Cert.RmsInprojIdeal.nD Cert.RmsInprojIdeal.τ).loc Cert.RmsInprojIdeal.main_v9_1) = v1 c
          ∧ r.2.mem ((c.tc : Thread Cert.RmsInprojIdeal.nD Cert.RmsInprojIdeal.τ).loc Cert.RmsInprojIdeal.main_v9_2) = v2 c
          ∧ r.2.mem ((c.tc : Thread Cert.RmsInprojIdeal.nD Cert.RmsInprojIdeal.τ).loc Cert.RmsInprojIdeal.main_v9_3) = v3 c
          ∧ r.2.mem ((c.tc : Thread Cert.RmsInprojIdeal.nD Cert.RmsInprojIdeal.τ).loc Cert.RmsInprojIdeal.main_arg0) = m ((c.tc : Thread Cert.RmsInprojIdeal.nD Cert.RmsInprojIdeal.τ).loc Cert.RmsInprojIdeal.main_arg0)
          ∧ r.2.mem ((c.tc : Thread Cert.RmsInprojIdeal.nD Cert.RmsInprojIdeal.τ).loc Cert.RmsInprojIdeal.main_arg1) = m ((c.tc : Thread Cert.RmsInprojIdeal.nD Cert.RmsInprojIdeal.τ).loc Cert.RmsInprojIdeal.main_arg1)
          ∧ r.2.mem ((c.tc : Thread Cert.RmsInprojIdeal.nD Cert.RmsInprojIdeal.τ).loc Cert.RmsInprojIdeal.main_arg2) = m ((c.tc : Thread Cert.RmsInprojIdeal.nD Cert.RmsInprojIdeal.τ).loc Cert.RmsInprojIdeal.main_arg2))
      ∧ θ_run (Cert.RmsInprojRefIdeal.defs (F := Ideal)) (onTc (τ := Cert.RmsInprojRefIdeal.τ) (Cert.RmsInprojRefIdeal.main (F := Ideal))) ⟨m', fun _ => 0, g'⟩ (fun r => ∀ c : Dev Cert.RmsInprojRefIdeal.nD,
          r.2.mem ((c.tc : Thread Cert.RmsInprojRefIdeal.nD Cert.RmsInprojRefIdeal.τ).loc Cert.RmsInprojRefIdeal.main_v19) = v0 c
          ∧ r.2.mem ((c.tc : Thread Cert.RmsInprojRefIdeal.nD Cert.RmsInprojRefIdeal.τ).loc Cert.RmsInprojRefIdeal.main_v21) = v1 c
          ∧ r.2.mem ((c.tc : Thread Cert.RmsInprojRefIdeal.nD Cert.RmsInprojRefIdeal.τ).loc Cert.RmsInprojRefIdeal.main_v22) = v2 c
          ∧ r.2.mem ((c.tc : Thread Cert.RmsInprojRefIdeal.nD Cert.RmsInprojRefIdeal.τ).loc Cert.RmsInprojRefIdeal.main_v18) = v3 c
          ∧ r.2.mem ((c.tc : Thread Cert.RmsInprojRefIdeal.nD Cert.RmsInprojRefIdeal.τ).loc Cert.RmsInprojRefIdeal.main_arg0) = m' ((c.tc : Thread Cert.RmsInprojRefIdeal.nD Cert.RmsInprojRefIdeal.τ).loc Cert.RmsInprojRefIdeal.main_arg0)
          ∧ r.2.mem ((c.tc : Thread Cert.RmsInprojRefIdeal.nD Cert.RmsInprojRefIdeal.τ).loc Cert.RmsInprojRefIdeal.main_arg1) = m' ((c.tc : Thread Cert.RmsInprojRefIdeal.nD Cert.RmsInprojRefIdeal.τ).loc Cert.RmsInprojRefIdeal.main_arg1)
          ∧ r.2.mem ((c.tc : Thread Cert.RmsInprojRefIdeal.nD Cert.RmsInprojRefIdeal.τ).loc Cert.RmsInprojRefIdeal.main_arg2) = m' ((c.tc : Thread Cert.RmsInprojRefIdeal.nD Cert.RmsInprojRefIdeal.τ).loc Cert.RmsInprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v2_0)) (v1 : (c : Dev Cert.OutprojIdeal.nD) → Buf (Elt Ideal) ((c.tc : Thread Cert.OutprojIdeal.nD Cert.OutprojIdeal.τ).loc Cert.OutprojIdeal.main_v2_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2_0) = v0 c
          ∧ r.2.mem ((c.tc : Thread Cert.OutprojIdeal.nD Cert.OutprojIdeal.τ).loc Cert.OutprojIdeal.main_v2_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v4) = v0 c
          ∧ r.2.mem ((c.tc : Thread Cert.OutprojRefIdeal.nD Cert.OutprojRefIdeal.τ).loc Cert.OutprojRefIdeal.main_v19) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_OutprojBwd_OutprojBwdIdeal : Prop :=
  True

def algebraic_OutprojBwdIdeal_OutprojBwdRefIdeal [hOutprojBwdIdeal : Cert.OutprojBwdIdeal.Facts] [hOutprojBwdRefIdeal : Cert.OutprojBwdRefIdeal.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg)
    (m' : (ℓ : Loc Cert.OutprojBwdRefIdeal.nD Cert.OutprojBwdRefIdeal.τ Cert.OutprojBwdRefIdeal.sig) → Buf (Elt Ideal) ℓ) (g' : Dev Cert.OutprojBwdRefIdeal.nD → PrngReg), Pre_OutprojBwdIdeal m →
    (∀ c : Dev Cert.OutprojBwdIdeal.nD,
      m' ((c.tc : Thread Cert.OutprojBwdRefIdeal.nD Cert.OutprojBwdRefIdeal.τ).loc Cert.OutprojBwdRefIdeal.main_arg0) = m ((c.tc : Thread Cert.OutprojBwdIdeal.nD Cert.OutprojBwdIdeal.τ).loc Cert.OutprojBwdIdeal.main_arg0)
      ∧ m' ((c.tc : Thread Cert.OutprojBwdRefIdeal.nD Cert.OutprojBwdRefIdeal.τ).loc Cert.OutprojBwdRefIdeal.main_arg1) = m ((c.tc : Thread Cert.OutprojBwdIdeal.nD Cert.OutprojBwdIdeal.τ).loc Cert.OutprojBwdIdeal.main_arg1)) →
    ∃ (v0 : (c : Dev Cert.OutprojBwdIdeal.nD) → Buf (Elt Ideal) ((c.tc : Thread Cert.OutprojBwdIdeal.nD Cert.OutprojBwdIdeal.τ).loc Cert.OutprojBwdIdeal.main_v3_0)) (v1 : (c : Dev Cert.OutprojBwdIdeal.nD) → Buf (Elt Ideal) ((c.tc : Thread Cert.OutprojBwdIdeal.nD Cert.OutprojBwdIdeal.τ).loc Cert.OutprojBwdIdeal.main_v3_1)),
      θ_run (Cert.OutprojBwdIdeal.defs (F := Ideal)) (onTc (τ := Cert.OutprojBwdIdeal.τ) (Cert.OutprojBwdIdeal.main (F := Ideal))) ⟨m, fun _ => 0, g⟩ (fun r => ∀ c : Dev Cert.OutprojBwdIdeal.nD,
          r.2.mem ((c.tc : Thread Cert.OutprojBwdIdeal.nD Cert.OutprojBwdIdeal.τ).loc Cert.OutprojBwdIdeal.main_v3_0) = v0 c
          ∧ r.2.mem ((c.tc : Thread Cert.OutprojBwdIdeal.nD Cert.OutprojBwdIdeal.τ).loc Cert.OutprojBwdIdeal.main_v3_1) = v1 c
          ∧ r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
          ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1))
      ∧ θ_run (Cert.OutprojBwdRefIdeal.defs (F := Ideal)) (onTc (τ := Cert.OutprojBwdRefIdeal.τ) (Cert.OutprojBwdRefIdeal.main (F := Ideal))) ⟨m', fun _ => 0, g'⟩ (fun r => ∀ c : Dev Cert.OutprojBwdRefIdeal.nD,
          r.2.mem ((c.tc : Thread Cert.OutprojBwdRefIdeal.nD Cert.OutprojBwdRefIdeal.τ).loc Cert.OutprojBwdRefIdeal.main_v7) = v0 c
          ∧ r.2.mem ((c.tc : Thread Cert.OutprojBwdRefIdeal.nD Cert.OutprojBwdRefIdeal.τ).loc Cert.OutprojBwdRefIdeal.main_v6) = v1 c
          ∧ r.2.mem ((c.tc : Thread Cert.OutprojBwdRefIdeal.nD Cert.OutprojBwdRefIdeal.τ).loc Cert.OutprojBwdRefIdeal.main_arg0) = m' ((c.tc : Thread Cert.OutprojBwdRefIdeal.nD Cert.OutprojBwdRefIdeal.τ).loc Cert.OutprojBwdRefIdeal.main_arg0)
          ∧ r.2.mem ((c.tc : Thread Cert.OutprojBwdRefIdeal.nD Cert.OutprojBwdRefIdeal.τ).loc Cert.OutprojBwdRefIdeal.main_arg1) = m' ((c.tc : Thread Cert.OutprojBwdRefIdeal.nD Cert.OutprojBwdRefIdeal.τ).loc Cert.OutprojBwdRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)) →
    ∃ (v0 : (c : Dev Cert.DwInIdeal.nD) → Buf (Elt Ideal) ((c.tc : Thread Cert.DwInIdeal.nD Cert.DwInIdeal.τ).loc Cert.DwInIdeal.main_v0_0)) (v1 : (c : Dev Cert.DwInIdeal.nD) → Buf (Elt Ideal) ((c.tc : Thread Cert.DwInIdeal.nD Cert.DwInIdeal.τ).loc Cert.DwInIdeal.main_v0_1)) (v2 : (c : Dev Cert.DwInIdeal.nD) → Buf (Elt Ideal) ((c.tc : Thread Cert.DwInIdeal.nD Cert.DwInIdeal.τ).loc Cert.DwInIdeal.main_v0_2)) (v3 : (c : Dev Cert.DwInIdeal.nD) → Buf (Elt Ideal) ((c.tc : Thread Cert.DwInIdeal.nD Cert.DwInIdeal.τ).loc Cert.DwInIdeal.main_v0_3)) (v4 : (c : Dev Cert.DwInIdeal.nD) → Buf (Elt Ideal) ((c.tc : Thread Cert.DwInIdeal.nD Cert.DwInIdeal.τ).loc Cert.DwInIdeal.main_v0_4)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0_0) = v0 c
          ∧ r.2.mem ((c.tc : Thread Cert.DwInIdeal.nD Cert.DwInIdeal.τ).loc Cert.DwInIdeal.main_v0_1) = v1 c
          ∧ r.2.mem ((c.tc : Thread Cert.DwInIdeal.nD Cert.DwInIdeal.τ).loc Cert.DwInIdeal.main_v0_2) = v2 c
          ∧ r.2.mem ((c.tc : Thread Cert.DwInIdeal.nD Cert.DwInIdeal.τ).loc Cert.DwInIdeal.main_v0_3) = v3 c
          ∧ r.2.mem ((c.tc : Thread Cert.DwInIdeal.nD Cert.DwInIdeal.τ).loc Cert.DwInIdeal.main_v0_4) = v4 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_v15) = v1 c
          ∧ r.2.mem ((c.tc : Thread Cert.DwInRefIdeal.nD Cert.DwInRefIdeal.τ).loc Cert.DwInRefIdeal.main_v23) = v2 c
          ∧ r.2.mem ((c.tc : Thread Cert.DwInRefIdeal.nD Cert.DwInRefIdeal.τ).loc Cert.DwInRefIdeal.main_v31) = v3 c
          ∧ r.2.mem ((c.tc : Thread Cert.DwInRefIdeal.nD Cert.DwInRefIdeal.τ).loc Cert.DwInRefIdeal.main_v39) = v4 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)) →
    ∃ (v0 : (c : Dev Cert.AdamwInIdeal.nD) → Buf (Elt Ideal) ((c.tc : Thread Cert.AdamwInIdeal.nD Cert.AdamwInIdeal.τ).loc Cert.AdamwInIdeal.main_v3_0)) (v1 : (c : Dev Cert.AdamwInIdeal.nD) → Buf (Elt Ideal) ((c.tc : Thread Cert.AdamwInIdeal.nD Cert.AdamwInIdeal.τ).loc Cert.AdamwInIdeal.main_v3_1)) (v2 : (c : Dev Cert.AdamwInIdeal.nD) → Buf (Elt Ideal) ((c.tc : Thread Cert.AdamwInIdeal.nD Cert.AdamwInIdeal.τ).loc Cert.AdamwInIdeal.main_v3_2)) (v3 : (c : Dev Cert.AdamwInIdeal.nD) → Buf (Elt Ideal) ((c.tc : Thread Cert.AdamwInIdeal.nD Cert.AdamwInIdeal.τ).loc Cert.AdamwInIdeal.main_v3_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v3_0) = v0 c
          ∧ r.2.mem ((c.tc : Thread Cert.AdamwInIdeal.nD Cert.AdamwInIdeal.τ).loc Cert.AdamwInIdeal.main_v3_1) = v1 c
          ∧ r.2.mem ((c.tc : Thread Cert.AdamwInIdeal.nD Cert.AdamwInIdeal.τ).loc Cert.AdamwInIdeal.main_v3_2) = v2 c
          ∧ r.2.mem ((c.tc : Thread Cert.AdamwInIdeal.nD Cert.AdamwInIdeal.τ).loc Cert.AdamwInIdeal.main_v3_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v29) = v0 c
          ∧ r.2.mem ((c.tc : Thread Cert.AdamwInRefIdeal.nD Cert.AdamwInRefIdeal.τ).loc Cert.AdamwInRefIdeal.main_v30) = v1 c
          ∧ r.2.mem ((c.tc : Thread Cert.AdamwInRefIdeal.nD Cert.AdamwInRefIdeal.τ).loc Cert.AdamwInRefIdeal.main_v31) = v2 c
          ∧ r.2.mem ((c.tc : Thread Cert.AdamwInRefIdeal.nD Cert.AdamwInRefIdeal.τ).loc Cert.AdamwInRefIdeal.main_v32) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4))

def Claim : Prop :=
  ∃ (hCumsumBwd : Cert.CumsumBwd.Facts) (hCumsumBwdIdeal : Cert.CumsumBwdIdeal.Facts) (hCumsumBwdRefIdeal : Cert.CumsumBwdRefIdeal.Facts) (hAttnBwd : Cert.AttnBwd.Facts) (hAttnBwdIdeal : Cert.AttnBwdIdeal.Facts) (hAttnBwdRefIdeal : Cert.AttnBwdRefIdeal.Facts) (hInpBwd : Cert.InpBwd.Facts) (hInpBwdIdeal : Cert.InpBwdIdeal.Facts) (hInpBwdRefIdeal : Cert.InpBwdRefIdeal.Facts) (hMlpBwd : Cert.MlpBwd.Facts) (hMlpBwdIdeal : Cert.MlpBwdIdeal.Facts) (hMlpBwdRefIdeal : Cert.MlpBwdRefIdeal.Facts) (hMlpLoss : Cert.MlpLoss.Facts) (hMlpLossIdeal : Cert.MlpLossIdeal.Facts) (hMlpLossRefIdeal : Cert.MlpLossRefIdeal.Facts) (hPoolBwd : Cert.PoolBwd.Facts) (hPoolBwdIdeal : Cert.PoolBwdIdeal.Facts) (hPoolBwdRefIdeal : Cert.PoolBwdRefIdeal.Facts) (hRmsInproj : Cert.RmsInproj.Facts) (hRmsInprojIdeal : Cert.RmsInprojIdeal.Facts) (hRmsInprojRefIdeal : Cert.RmsInprojRefIdeal.Facts) (hOutproj : Cert.Outproj.Facts) (hOutprojIdeal : Cert.OutprojIdeal.Facts) (hOutprojRefIdeal : Cert.OutprojRefIdeal.Facts) (hOutprojBwd : Cert.OutprojBwd.Facts) (hOutprojBwdIdeal : Cert.OutprojBwdIdeal.Facts) (hOutprojBwdRefIdeal : Cert.OutprojBwdRefIdeal.Facts) (hDwIn : Cert.DwIn.Facts) (hDwInIdeal : Cert.DwInIdeal.Facts) (hDwInRefIdeal : Cert.DwInRefIdeal.Facts) (hAdamwIn : Cert.AdamwIn.Facts) (hAdamwInIdeal : Cert.AdamwInIdeal.Facts) (hAdamwInRefIdeal : Cert.AdamwInRefIdeal.Facts) (hPre_cumsum_finite : Cert.Pre_cumsum_finite.Facts) (hPre_inp_finite : Cert.Pre_inp_finite.Facts) (hPre_mlp_finite : Cert.Pre_mlp_finite.Facts) (hPre_loss_finite : Cert.Pre_loss_finite.Facts),
    quiescent_CumsumBwd (hCumsumBwd := hCumsumBwd)
    ∧ quiescent_CumsumBwdIdeal (hCumsumBwdIdeal := hCumsumBwdIdeal)
    ∧ quiescent_CumsumBwdIdeal_pre_cumsum_finite (hCumsumBwdIdeal := hCumsumBwdIdeal) (hPre_cumsum_finite := hPre_cumsum_finite)
    ∧ quiescent_CumsumBwdRefIdeal (hCumsumBwdRefIdeal := hCumsumBwdRefIdeal)
    ∧ quiescent_CumsumBwdRefIdeal_pre_cumsum_finite (hCumsumBwdRefIdeal := hCumsumBwdRefIdeal) (hPre_cumsum_finite := hPre_cumsum_finite)
    ∧ quiescent_AttnBwd (hAttnBwd := hAttnBwd)
    ∧ quiescent_AttnBwdIdeal (hAttnBwdIdeal := hAttnBwdIdeal)
    ∧ quiescent_AttnBwdRefIdeal (hAttnBwdRefIdeal := hAttnBwdRefIdeal)
    ∧ quiescent_InpBwd (hInpBwd := hInpBwd)
    ∧ quiescent_InpBwdIdeal (hInpBwdIdeal := hInpBwdIdeal)
    ∧ quiescent_InpBwdIdeal_pre_inp_finite (hInpBwdIdeal := hInpBwdIdeal) (hPre_inp_finite := hPre_inp_finite)
    ∧ quiescent_InpBwdRefIdeal (hInpBwdRefIdeal := hInpBwdRefIdeal)
    ∧ quiescent_InpBwdRefIdeal_pre_inp_finite (hInpBwdRefIdeal := hInpBwdRefIdeal) (hPre_inp_finite := hPre_inp_finite)
    ∧ quiescent_MlpBwd (hMlpBwd := hMlpBwd)
    ∧ quiescent_MlpBwdIdeal (hMlpBwdIdeal := hMlpBwdIdeal)
    ∧ quiescent_MlpBwdIdeal_pre_mlp_finite (hMlpBwdIdeal := hMlpBwdIdeal) (hPre_mlp_finite := hPre_mlp_finite)
    ∧ quiescent_MlpBwdRefIdeal (hMlpBwdRefIdeal := hMlpBwdRefIdeal)
    ∧ quiescent_MlpBwdRefIdeal_pre_mlp_finite (hMlpBwdRefIdeal := hMlpBwdRefIdeal) (hPre_mlp_finite := hPre_mlp_finite)
    ∧ quiescent_MlpLoss (hMlpLoss := hMlpLoss)
    ∧ quiescent_MlpLossIdeal (hMlpLossIdeal := hMlpLossIdeal)
    ∧ quiescent_MlpLossIdeal_pre_loss_finite (hMlpLossIdeal := hMlpLossIdeal) (hPre_loss_finite := hPre_loss_finite)
    ∧ quiescent_MlpLossRefIdeal (hMlpLossRefIdeal := hMlpLossRefIdeal)
    ∧ quiescent_MlpLossRefIdeal_pre_loss_finite (hMlpLossRefIdeal := hMlpLossRefIdeal) (hPre_loss_finite := hPre_loss_finite)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ quiescent_RmsInproj (hRmsInproj := hRmsInproj)
    ∧ quiescent_RmsInprojIdeal (hRmsInprojIdeal := hRmsInprojIdeal)
    ∧ quiescent_RmsInprojRefIdeal (hRmsInprojRefIdeal := hRmsInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_OutprojBwd (hOutprojBwd := hOutprojBwd)
    ∧ quiescent_OutprojBwdIdeal (hOutprojBwdIdeal := hOutprojBwdIdeal)
    ∧ quiescent_OutprojBwdRefIdeal (hOutprojBwdRefIdeal := hOutprojBwdRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ preserves_CumsumBwd_CumsumBwdIdeal
    ∧ algebraic_CumsumBwdIdeal_CumsumBwdRefIdeal_pre_cumsum_finite (hCumsumBwdIdeal := hCumsumBwdIdeal) (hCumsumBwdRefIdeal := hCumsumBwdRefIdeal) (hPre_cumsum_finite := hPre_cumsum_finite)
    ∧ preserves_AttnBwd_AttnBwdIdeal
    ∧ preserves_InpBwd_InpBwdIdeal
    ∧ algebraic_InpBwdIdeal_InpBwdRefIdeal_pre_inp_finite (hInpBwdIdeal := hInpBwdIdeal) (hInpBwdRefIdeal := hInpBwdRefIdeal) (hPre_inp_finite := hPre_inp_finite)
    ∧ preserves_MlpBwd_MlpBwdIdeal
    ∧ algebraic_MlpBwdIdeal_MlpBwdRefIdeal_pre_mlp_finite (hMlpBwdIdeal := hMlpBwdIdeal) (hMlpBwdRefIdeal := hMlpBwdRefIdeal) (hPre_mlp_finite := hPre_mlp_finite)
    ∧ preserves_MlpLoss_MlpLossIdeal
    ∧ algebraic_MlpLossIdeal_MlpLossRefIdeal_pre_loss_finite (hMlpLossIdeal := hMlpLossIdeal) (hMlpLossRefIdeal := hMlpLossRefIdeal) (hPre_loss_finite := hPre_loss_finite)
    ∧ preserves_PoolBwd_PoolBwdIdeal
    ∧ preserves_RmsInproj_RmsInprojIdeal
    ∧ algebraic_RmsInprojIdeal_RmsInprojRefIdeal (hRmsInprojIdeal := hRmsInprojIdeal) (hRmsInprojRefIdeal := hRmsInprojRefIdeal)
    ∧ preserves_Outproj_OutprojIdeal
    ∧ algebraic_OutprojIdeal_OutprojRefIdeal (hOutprojIdeal := hOutprojIdeal) (hOutprojRefIdeal := hOutprojRefIdeal)
    ∧ preserves_OutprojBwd_OutprojBwdIdeal
    ∧ algebraic_OutprojBwdIdeal_OutprojBwdRefIdeal (hOutprojBwdIdeal := hOutprojBwdIdeal) (hOutprojBwdRefIdeal := hOutprojBwdRefIdeal)
    ∧ preserves_DwIn_DwInIdeal
    ∧ algebraic_DwInIdeal_DwInRefIdeal (hDwInIdeal := hDwInIdeal) (hDwInRefIdeal := hDwInRefIdeal)
    ∧ preserves_AdamwIn_AdamwInIdeal
    ∧ algebraic_AdamwInIdeal_AdamwInRefIdeal (hAdamwInIdeal := hAdamwInIdeal) (hAdamwInRefIdeal := hAdamwInRefIdeal)
-- ==== Pre_cumsum_finite.lean ====
abbrev S4096x8 : Shape := ⟨2, ![4096, 8]⟩
abbrev S1x8 : Shape := ⟨2, ![1, 8]⟩
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4096x8 .f32) (main_arg1 : FVec F S1x8 .f32) (main_arg2 : FVec F S4x4096x128 .f32) (main_arg3 : FVec F S4x4096x128 .f32) : IVec S_ 1 :=
  let main_v0 : FVec F S4x4096x128 .f32 := Host.absf main_arg2
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x128 .f32 := Host.absf main_arg3
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  main_v8
-- ==== Pre_inp_finite.lean ====
abbrev S4096x1024 : Shape := ⟨2, ![4096, 1024]⟩
abbrev S1x1024 : Shape := ⟨2, ![1, 1024]⟩
abbrev S1x1024x2056 : Shape := ⟨3, ![1, 1024, 2056]⟩
abbrev S4096x512 : Shape := ⟨2, ![4096, 512]⟩
abbrev S4096x128 : Shape := ⟨2, ![4096, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S1x1024 .f32) (main_arg2 : FVec F S1x1024x2056 .f32) (main_arg3 : FVec F S4096x512 .bf16) (main_arg4 : FVec F S4096x512 .bf16) (main_arg5 : FVec F S4096x512 .bf16) (main_arg6 : FVec F S4096x512 .bf16) (main_arg7 : FVec F S4096x128 .bf16) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_loss_finite.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_v14 : IVec S_ 1) (main_v15 : FVec F S1x1024x2816 .f32) (main_v16 : FVec F S1x1024x2816 .f32) : IVec S_ 1 :=
  let main_v17 : IVec S1x1024x2816 1 := cmpf .olt main_v15 main_v16
  let main_c_5 : IVec S_ 1 := constantI S_ 1 1#1
  let main_v18 : IVec S_ 1 := (fun x v => Host.reduce IntOp.andi x v reducesTo_S1x1024x2816_S_d0_1_2 h_S_) main_v17 main_c_5
  let main_v19 : IVec S_ 1 := andi main_v14 main_v18
  let main_v20 : FVec F S1x2816x1024 .f32 := Host.absf main_arg4
  let main_cst_6 : FVec F S_ .f32 := constant S_ .f32 0x7F800000#32
  let main_v21 : FVec F S1x2816x1024 .f32 := broadcastInDim S1x2816x1024 ![] bcast_S_S1x2816x1024 main_cst_6
  let main_v22 : IVec S1x2816x1024 1 := cmpf .olt main_v20 main_v21
  let main_c_7 : IVec S_ 1 := constantI S_ 1 1#1
  let main_v23 : IVec S_ 1 := (fun x v => Host.reduce IntOp.andi x v reducesTo_S1x2816x1024_S_d0_1_2 h_S_) main_v22 main_c_7
  let main_v24 : IVec S_ 1 := andi main_v19 main_v23
  main_v24

def fn {F : FTy → Type} [FloatOps F] (main_arg0 : FVec F S4096x1024 .bf16) (main_arg1 : FVec F S4096x1024 .f32) (main_arg2 : FVec F S1x1024x2816 .f32) (main_arg3 : FVec F S1x1024x2816 .f32) (main_arg4 : FVec F S1x2816x1024 .f32) (main_arg5 : FVec F S4096x1024 .f32) (main_arg6 : FVec F S1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S1x1024x2816 .f32 := Host.absf main_arg2
  let main_cst_2 : FVec F S_ .f32 := constant S_ .f32 0x7F800000#32
  let main_v11 : FVec F S1x1024x2816 .f32 := broadcastInDim S1x1024x2816 ![] bcast_S_S1x1024x2816 main_cst_2
  let main_v12 : IVec S1x1024x2816 1 := cmpf .olt main_v10 main_v11
  let main_c_3 : IVec S_ 1 := constantI S_ 1 1#1
  let main_v13 : IVec S_ 1 := (fun x v => Host.reduce IntOp.andi x v reducesTo_S1x1024x2816_S_d0_1_2 h_S_) main_v12 main_c_3
  let main_v14 : IVec S_ 1 := andi main_v9 main_v13
  let main_v15 : FVec F S1x1024x2816 .f32 := Host.absf main_arg3
  let main_cst_4 : FVec F S_ .f32 := constant S_ .f32 0x7F800000#32
  let main_v16 : FVec F S1x1024x2816 .f32 := broadcastInDim S1x1024x2816 ![] bcast_S_S1x1024x2816 main_cst_4
  fn_part1 (F := F) main_arg4 main_v14 main_v15 main_v16
-- ==== Pre_mlp_finite.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_arg5 : FVec F S4096x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S1x2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_v13 main_v16
-- ==== CumsumBwd.lean ====
abbrev S4096x8 : Shape := ⟨2, ![4096, 8]⟩
abbrev S1x8 : Shape := ⟨2, ![1, 8]⟩
abbrev S4x4096x128 : Shape := ⟨3, ![4, 4096, 128]⟩
abbrev S_ : Shape := ⟨0, ![]⟩
abbrev S4096x128 : Shape := ⟨2, ![4096, 128]⟩
abbrev S1x128 : Shape := ⟨2, ![1, 128]⟩
abbrev S4x512x128 : Shape := ⟨3, ![4, 512, 128]⟩
abbrev S512x128 : Shape := ⟨2, ![512, 128]⟩
abbrev S8x128 : Shape := ⟨2, ![8, 128]⟩
abbrev S128x128 : Shape := ⟨2, ![128, 128]⟩
abbrev S1x512x128 : Shape := ⟨3, ![1, 512, 128]⟩
abbrev S512x512 : Shape := ⟨2, ![512, 512]⟩
abbrev S128 : Shape := ⟨1, ![128]⟩

abbrev nBuf : Space → Nat
  | .hbm => 12
  | .vmem => 11
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4x4096x128, .f32⟩
  | .hbm, ⟨3, _⟩ => ⟨S4x4096x128, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S4096x128, .bf16⟩
  | .hbm, ⟨11, _⟩ => ⟨S1x128, .f32⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S1x128, .f32⟩
  | .local _ .vmem, ⟨10, _⟩ => ⟨S8x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== CumsumBwdRefIdeal.lean ====
abbrev S4096x8 : Shape := ⟨2, ![4096, 8]⟩
abbrev S1x8 : Shape := ⟨2, ![1, 8]⟩
abbrev S4x4096x128 : Shape := ⟨3, ![4, 4096, 128]⟩
abbrev S4x4096x1 : Shape := ⟨3, ![4, 4096, 1]⟩
abbrev S4x4096 : Shape := ⟨2, ![4, 4096]⟩
abbrev S4x1x4096 : Shape := ⟨3, ![4, 1, 4096]⟩
abbrev S4x2x4096 : Shape := ⟨3, ![4, 2, 4096]⟩
abbrev S8x4096 : Shape := ⟨2, ![8, 4096]⟩
abbrev S8 : Shape := ⟨1, ![8]⟩
abbrev S_ : Shape := ⟨0, ![]⟩
abbrev S4096x128 : Shape := ⟨2, ![4096, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4x4096x128, .f32⟩
  | .hbm, ⟨3, _⟩ => ⟨S4x4096x128, .f32⟩
  | .hbm, ⟨4, _⟩ => ⟨S4x4096x1, .f32⟩
  | .hbm, ⟨5, _⟩ => ⟨S4x4096, .f32⟩
  | .hbm, ⟨6, _⟩ => ⟨S4x4096x1, .f32⟩
  | .hbm, ⟨7, _⟩ => ⟨S4x4096, .f32⟩
  | .hbm, ⟨8, _⟩ => ⟨S4x1x4096, .f32⟩
  | .hbm, ⟨9, _⟩ => ⟨S4x1x4096, .f32⟩
  | .hbm, ⟨10, _⟩ => ⟨S4x2x4096, .f32⟩
  | .hbm, ⟨11, _⟩ => ⟨S8x4096, .f32⟩
  | .hbm, ⟨12, _⟩ => ⟨S4x4096x1, .f32⟩
  | .hbm, ⟨13, _⟩ => ⟨S4x4096, .f32⟩
  | .hbm, ⟨14, _⟩ => ⟨S4x4096x1, .f32⟩
  | .hbm, ⟨15, _⟩ => ⟨S4x4096, .f32⟩
  | .hbm, ⟨16, _⟩ => ⟨S4x1x4096, .f32⟩
  | .hbm, ⟨17, _⟩ => ⟨S4x1x4096, .f32⟩
  | .hbm, ⟨18, _⟩ => ⟨S4x2x4096, .f32⟩
  | .hbm, ⟨19, _⟩ => ⟨S8x4096, .f32⟩
  | .hbm, ⟨20, _⟩ => ⟨S8, .f32⟩
  | .hbm, ⟨21, _⟩ => ⟨S1x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .i1⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S4096x8, .f32⟩
  | .hbm, ⟨41, _⟩ => ⟨S4096x8, .i1⟩
  | .hbm, ⟨42, _⟩ => ⟨S_, .f32⟩
  | .hbm, ⟨43, _⟩ => ⟨S4096x8, .f32⟩
  | .hbm, ⟨44, _⟩ => ⟨S4096x8, .f32⟩
  | .hbm, ⟨45, _⟩ => ⟨S_, .f32⟩
  | .hbm, ⟨46, _⟩ => ⟨S4096x8, .f32⟩
  | .hbm, ⟨47, _⟩ => ⟨S4096x8, .i1⟩
  | .hbm, ⟨48, _⟩ => ⟨S_, .f32⟩
  | .hbm, ⟨49, _⟩ => ⟨S4096x8, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x8, .f32⟩
  | .hbm, ⟨61, _⟩ => ⟨S4096x8, .i1⟩
  | .hbm, ⟨62, _⟩ => ⟨S_, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S4096x8, .f32⟩
  | .hbm, ⟨67, _⟩ => ⟨S4096x8, .f32⟩
  | .hbm, ⟨68, _⟩ => ⟨S_, .f32⟩
  | .hbm, ⟨69, _⟩ => ⟨S4096x8, .f32⟩
  | .hbm, ⟨70, _⟩ => ⟨S4096x8, .f32⟩
  | .hbm, ⟨71, _⟩ => ⟨S4096x8, .f32⟩
  | .hbm, ⟨72, _⟩ => ⟨S8x4096, .f32⟩
  | .hbm, ⟨73, _⟩ => ⟨S_, .f32⟩
  | .hbm, ⟨74, _⟩ => ⟨S_, .f32⟩
  | .hbm, ⟨75, _⟩ => ⟨S8x4096, .f32⟩
  | .hbm, ⟨76, _⟩ => ⟨S8x4096, .f32⟩
  | .hbm, ⟨77, _⟩ => ⟨S8x4096, .f32⟩
  | .hbm, ⟨78, _⟩ => ⟨S8x4096, .f32⟩
  | .hbm, ⟨79, _⟩ => ⟨S_, .f32⟩
  | .hbm, ⟨80, _⟩ => ⟨S_, .f32⟩
  | .hbm, ⟨81, _⟩ => ⟨S8x4096, .f32⟩
  | .hbm, ⟨82, _⟩ => ⟨S4096x8, .f32⟩
  | .hbm, ⟨83, _⟩ => ⟨S4096x8, .f32⟩
  | .hbm, ⟨84, _⟩ => ⟨S4096x8, .f32⟩
  | .hbm, ⟨85, _⟩ => ⟨S4096x8, .f32⟩
  | .hbm, ⟨86, _⟩ => ⟨S_, .f32⟩
  | .hbm, ⟨87, _⟩ => ⟨S8, .f32⟩
  | .hbm, ⟨88, _⟩ => ⟨S1x8, .f32⟩
  | .hbm, ⟨89, _⟩ => ⟨S_, .f32⟩
  | .hbm, ⟨90, _⟩ => ⟨S8, .f32⟩
  | .hbm, ⟨91, _⟩ => ⟨S1x8, .f32⟩
  | .hbm, ⟨92, _⟩ => ⟨S_, .i32⟩
  | .hbm, ⟨93, _⟩ => ⟨S_, .f32⟩
  | .hbm, ⟨94, _⟩ => ⟨S4096x128, .f32⟩
  | .hbm, ⟨95, _⟩ => ⟨S4096x128, .bf16⟩
  | .hbm, ⟨96, _⟩ => ⟨S_, .i32⟩
  | .hbm, ⟨97, _⟩ => ⟨S_, .f32⟩
  | .hbm, ⟨98, _⟩ => ⟨S1x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_v21 : Ref sig .tc := ⟨.hbm, 72, rfl⟩
abbrev main_call1_call0_cst : Ref sig .tc := ⟨.hbm, 73, rfl⟩
abbrev main_call1_call0_v0 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_call2_call0_cst : Ref sig .tc := ⟨.hbm, 79, rfl⟩
abbrev main_call2_call0_v0 : Ref sig .tc := ⟨.hbm, 80, rfl⟩
abbrev main_v26 : Ref sig .tc := ⟨.hbm, 81, rfl⟩
abbrev main_v27 : Ref sig .tc := ⟨.hbm, 82, rfl⟩
abbrev main_call3_v0 : Ref sig .tc := ⟨.hbm, 83, rfl⟩
abbrev main_call3_v1 : Ref sig .tc := ⟨.hbm, 84, rfl⟩
abbrev main_v28 : Ref sig .tc := ⟨.hbm, 85, rfl⟩
abbrev main_cst : Ref sig .tc := ⟨.hbm, 86, rfl⟩
abbrev main_v29 : Ref sig .tc := ⟨.hbm, 87, rfl⟩
abbrev main_v30 : Ref sig .tc := ⟨.hbm, 88, rfl⟩
abbrev main_cst_0 : Ref sig .tc := ⟨.hbm, 89, rfl⟩
abbrev main_v31 : Ref sig .tc := ⟨.hbm, 90, rfl⟩
abbrev main_v32 : Ref sig .tc := ⟨.hbm, 91, rfl⟩
abbrev main_c : Ref sig .tc := ⟨.hbm, 92, rfl⟩
abbrev main_call4_v0 : Ref sig .tc := ⟨.hbm, 93, rfl⟩
abbrev main_v33 : Ref sig .tc := ⟨.hbm, 94, rfl⟩
abbrev main_v34 : Ref sig .tc := ⟨.hbm, 95, rfl⟩
abbrev main_c_1 : Ref sig .tc := ⟨.hbm, 96, rfl⟩
abbrev main_call5_v0 : Ref sig .tc := ⟨.hbm, 97, rfl⟩
abbrev main_v35 : Ref sig .tc := ⟨.hbm, 98, rfl⟩

abbrev nD : Nat := 1
abbrev τ : Topo := Topo.v7x

variable {F : FTy → Type} [FloatOps F]
-- ==== AttnBwd.lean ====
abbrev S4096x1536 : Shape := ⟨2, ![4096, 1536]⟩
abbrev S4096x8 : Shape := ⟨2, ![4096, 8]⟩
abbrev S4096x512 : Shape := ⟨2, ![4096, 512]⟩
abbrev S36 : Shape := ⟨1, ![36]⟩
abbrev S_ : Shape := ⟨0, ![]⟩
abbrev S4096x8x1 : Shape := ⟨3, ![4096, 8, 1]⟩
abbrev S4096x8x3 : Shape := ⟨3, ![4096, 8, 3]⟩
abbrev S4096x8x58 : Shape := ⟨3, ![4096, 8, 58]⟩
abbrev S4096x8x64 : Shape := ⟨3, ![4096, 8, 64]⟩
abbrev S4096x1x64 : Shape := ⟨3, ![4096, 1, 64]⟩
abbrev S4096x64 : Shape := ⟨2, ![4096, 64]⟩
abbrev S128 : Shape := ⟨1, ![128]⟩
abbrev S1x128 : Shape := ⟨2, ![1, 128]⟩
abbrev S2x128 : Shape := ⟨2, ![2, 128]⟩
abbrev S2x1x1x128 : Shape := ⟨4, ![2, 1, 1, 128]⟩
abbrev S2x4x4096x128 : Shape := ⟨4, ![2, 4, 4096, 128]⟩
abbrev S4096x128 : Shape := ⟨2, ![4096, 128]⟩
abbrev S1x4096x128 : Shape := ⟨3, ![1, 4096, 128]⟩
abbrev S4x4096x128 : Shape := ⟨3, ![4, 4096, 128]⟩
abbrev S4096 : Shape := ⟨1, ![4096]⟩
abbrev S4096x1 : Shape := ⟨2, ![4096, 1]⟩
abbrev S512 : Shape := ⟨1, ![512]⟩
abbrev S1x512 : Shape := ⟨2, ![1, 512]⟩
abbrev S2x4x4096x512 : Shape := ⟨4, ![2, 4, 4096, 512]⟩
abbrev S2x4x4096x1 : Shape := ⟨4, ![2, 4, 4096, 1]⟩
abbrev S2x4x512x128 : Shape := ⟨4, ![2, 4, 512, 128]⟩
abbrev S2x4x4096 : Shape := ⟨3, ![2, 4, 4096]⟩
abbrev S1x4x4096x1 : Shape := ⟨4, ![1, 4, 4096, 1]⟩
abbrev S4x4096x1 : Shape := ⟨3, ![4, 4096, 1]⟩
abbrev S1x4x4096x128 : Shape := ⟨4, ![1, 4, 4096, 128]⟩
abbrev S4096x4x128 : Shape := ⟨3, ![4096, 4, 128]⟩
abbrev S8x128 : Shape := ⟨2, ![8, 128]⟩
abbrev S512x128 : Shape := ⟨2, ![512, 128]⟩
abbrev S1 : Shape := ⟨1, ![1]⟩
abbrev S1x512x128 : Shape := ⟨3, ![1, 512, 128]⟩
abbrev S2x4096x128 : Shape := ⟨3, ![2, 4096, 128]⟩
abbrev S2x128x512 : Shape := ⟨3, ![2, 128, 512]⟩
abbrev S128x512 : Shape := ⟨2, ![128, 512]⟩
abbrev S2x512x512 : Shape := ⟨3, ![2, 512, 512]⟩
abbrev S512x1 : Shape := ⟨2, ![512, 1]⟩
abbrev S512x512 : Shape := ⟨2, ![512, 512]⟩
abbrev S1x512x512 : Shape := ⟨3, ![1, 512, 512]⟩
abbrev S1x64x512 : Shape := ⟨3, ![1, 64, 512]⟩
abbrev S64x512 : Shape := ⟨2, ![64, 512]⟩
abbrev S1x64x1 : Shape := ⟨3, ![1, 64, 1]⟩
abbrev S64x1 : Shape := ⟨2, ![64, 1]⟩
abbrev S1x128x512 : Shape := ⟨3, ![1, 128, 512]⟩
abbrev S256x128 : Shape := ⟨2, ![256, 128]⟩
abbrev S256x256 : Shape := ⟨2, ![256, 256]⟩
abbrev S1x256x256 : Shape := ⟨3, ![1, 256, 256]⟩
abbrev S256x512 : Shape := ⟨2, ![256, 512]⟩
abbrev S1x256x512 : Shape := ⟨3, ![1, 256, 512]⟩
abbrev S1x64x256 : Shape := ⟨3, ![1, 64, 256]⟩
abbrev S64x256 : Shape := ⟨2, ![64, 256]⟩
abbrev S128x256 : Shape := ⟨2, ![128, 256]⟩
abbrev S1x128x256 : Shape := ⟨3, ![1, 128, 256]⟩
abbrev S1x256x128 : Shape := ⟨3, ![1, 256, 128]⟩

abbrev nBuf : Space → Nat
  | .hbm => 442
  | .vmem => 34
  | .smem => 2
  | _ => 0

abbrev hbmTy0_0 (i : Nat) : BufTy := match i % 128 with
  | 0 => ⟨S4096x1536, .bf16⟩
  | 1 => ⟨S4096x8, .f32⟩
  | 2 => ⟨S4096x512, .bf16⟩
  | 3 => ⟨S_, .f32⟩
  | 4 => ⟨S4096x8, .f32⟩
  | 5 => ⟨S4096x8, .f32⟩
  | 6 => ⟨S4096x8, .bf16⟩
  | 7 => ⟨S4096x8, .f32⟩
  | 8 => ⟨S4096x8, .f32⟩
  | 9 => ⟨S4096x8, .bf16⟩
  | 10 => ⟨S4096x8, .f32⟩
  | 11 => ⟨S4096x8, .f32⟩
  | 12 => ⟨S4096x8, .bf16⟩
  | 13 => ⟨S4096x8x1, .bf16⟩
  | 14 => ⟨S4096x8x1, .bf16⟩
  | 15 => ⟨S4096x8x1, .bf16⟩
  | 16 => ⟨S_, .bf16⟩
  | 17 => ⟨S4096x8x3, .bf16⟩
  | 18 => ⟨S_, .bf16⟩
  | 19 => ⟨S4096x8x58, .bf16⟩
  | 20 => ⟨S4096x8x64, .bf16⟩
  | 21 => ⟨S4096x8x1, .bf16⟩
  | 22 => ⟨S4096x8x1, .bf16⟩
  | 23 => ⟨S4096x8x1, .bf16⟩
  | 24 => ⟨S4096x8x64, .bf16⟩
  | 25 => ⟨S4096x1x64, .bf16⟩
  | 26 => ⟨S4096x64, .bf16⟩
  | 27 => ⟨S4096x1x64, .bf16⟩
  | 28 => ⟨S4096x64, .bf16⟩
  | 29 => ⟨S4096x1x64, .bf16⟩
  | 30 => ⟨S4096x64, .bf16⟩
  | 31 => ⟨S4096x1x64, .bf16⟩
  | 32 => ⟨S4096x64, .bf16⟩
  | 33 => ⟨S4096x1x64, .bf16⟩
  | 34 => ⟨S4096x64, .bf16⟩
  | 35 => ⟨S4096x1x64, .bf16⟩
  | 36 => ⟨S4096x64, .bf16⟩
  | 37 => ⟨S4096x1x64, .bf16⟩
  | 38 => ⟨S4096x64, .bf16⟩
  | 39 => ⟨S4096x1x64, .bf16⟩
  | 40 => ⟨S4096x64, .bf16⟩
  | 41 => ⟨S4096x512, .bf16⟩
  | 42 => ⟨S4096x1x64, .bf16⟩
  | 43 => ⟨S4096x64, .bf16⟩
  | 44 => ⟨S4096x1x64, .bf16⟩
  | 45 => ⟨S4096x64, .bf16⟩
  | 46 => ⟨S4096x1x64, .bf16⟩
  | 47 => ⟨S4096x64, .bf16⟩
  | 48 => ⟨S4096x1x64, .bf16⟩
  | 49 => ⟨S4096x64, .bf16⟩
  | 50 => ⟨S4096x1x64, .bf16⟩
  | 51 => ⟨S4096x64, .bf16⟩
  | 52 => ⟨S4096x1x64, .bf16⟩
  | 53 => ⟨S4096x64, .bf16⟩
  | 54 => ⟨S4096x1x64, .bf16⟩
  | 55 => ⟨S4096x64, .bf16⟩
  | 56 => ⟨S4096x1x64, .bf16⟩
  | 57 => ⟨S4096x64, .bf16⟩
  | 58 => ⟨S4096x512, .bf16⟩
  | 59 => ⟨S128, .i32⟩
  | 60 => ⟨S_, .i32⟩
  | 61 => ⟨S128, .i32⟩
  | 62 => ⟨S128, .i1⟩
  | 63 => ⟨S_, .i32⟩
  | 64 => ⟨S128, .i32⟩
  | 65 => ⟨S128, .i1⟩
  | 66 => ⟨S1x128, .i1⟩
  | 67 => ⟨S1x128, .i1⟩
  | 68 => ⟨S2x128, .i1⟩
  | 69 => ⟨S2x1x1x128, .i1⟩
  | 70 => ⟨S2x4x4096x128, .i1⟩
  | 71 => ⟨S_, .i32⟩
  | 72 => ⟨S128, .i32⟩
  | 73 => ⟨S128, .i1⟩
  | 74 => ⟨S_, .i32⟩
  | 75 => ⟨S128, .i32⟩
  | 76 => ⟨S128, .i1⟩
  | 77 => ⟨S1x128, .i1⟩
  | 78 => ⟨S1x128, .i1⟩
  | 79 => ⟨S2x128, .i1⟩
  | 80 => ⟨S2x1x1x128, .i1⟩
  | 81 => ⟨S2x1x1x128, .f32⟩
  | 82 => ⟨S2x1x1x128, .bf16⟩
  | 83 => ⟨S2x4x4096x128, .bf16⟩
  | 84 => ⟨S4096x512, .bf16⟩
  | 85 => ⟨S4096x512, .f32⟩
  | 86 => ⟨S_, .f32⟩
  | 87 => ⟨S4096x512, .f32⟩
  | 88 => ⟨S4096x512, .f32⟩
  | 89 => ⟨S4096x512, .bf16⟩
  | 90 => ⟨S4096x128, .bf16⟩
  | 91 => ⟨S4096x128, .bf16⟩
  | 92 => ⟨S4096x128, .bf16⟩
  | 93 => ⟨S4096x128, .bf16⟩
  | 94 => ⟨S1x4096x128, .bf16⟩
  | 95 => ⟨S1x4096x128, .bf16⟩
  | 96 => ⟨S1x4096x128, .bf16⟩
  | 97 => ⟨S1x4096x128, .bf16⟩
  | 98 => ⟨S4x4096x128, .bf16⟩
  | 99 => ⟨S2x4x4096x128, .bf16⟩
  | 100 => ⟨S4096x128, .bf16⟩
  | 101 => ⟨S4096x128, .bf16⟩
  | 102 => ⟨S4096x128, .bf16⟩
  | 103 => ⟨S4096x128, .bf16⟩
  | 104 => ⟨S1x4096x128, .bf16⟩
  | 105 => ⟨S1x4096x128, .bf16⟩
  | 106 => ⟨S1x4096x128, .bf16⟩
  | 107 => ⟨S1x4096x128, .bf16⟩
  | 108 => ⟨S4x4096x128, .bf16⟩
  | 109 => ⟨S2x4x4096x128, .bf16⟩
  | 110 => ⟨S2x4x4096x128, .bf16⟩
  | 111 => ⟨S4096x512, .bf16⟩
  | 112 => ⟨S4096x128, .bf16⟩
  | 113 => ⟨S4096x128, .bf16⟩
  | 114 => ⟨S4096x128, .bf16⟩
  | 115 => ⟨S4096x128, .bf16⟩
  | 116 => ⟨S1x4096x128, .bf16⟩
  | 117 => ⟨S1x4096x128, .bf16⟩
  | 118 => ⟨S1x4096x128, .bf16⟩
  | 119 => ⟨S1x4096x128, .bf16⟩
  | 120 => ⟨S4x4096x128, .bf16⟩
  | 121 => ⟨S2x4x4096x128, .bf16⟩
  | 122 => ⟨S4096x128, .bf16⟩
  | 123 => ⟨S4096x128, .bf16⟩
  | 124 => ⟨S4096x128, .bf16⟩
  | 125 => ⟨S4096x128, .bf16⟩
  | 126 => ⟨S1x4096x128, .bf16⟩
  | 127 => ⟨S1x4096x128, .bf16⟩
  | _ => ⟨S4096x1536, .bf16⟩

abbrev hbmTy0_1 (i : Nat) : BufTy := match i % 128 with
  | 0 => ⟨S1x4096x128, .bf16⟩
  | 1 => ⟨S1x4096x128, .bf16⟩
  | 2 => ⟨S4x4096x128, .bf16⟩
  | 3 => ⟨S2x4x4096x128, .bf16⟩
  | 4 => ⟨S2x4x4096x128, .bf16⟩
  | 5 => ⟨S4096x512, .bf16⟩
  | 6 => ⟨S4096x128, .bf16⟩
  | 7 => ⟨S4096x128, .bf16⟩
  | 8 => ⟨S4096x128, .bf16⟩
  | 9 => ⟨S4096x128, .bf16⟩
  | 10 => ⟨S1x4096x128, .bf16⟩
  | 11 => ⟨S1x4096x128, .bf16⟩
  | 12 => ⟨S1x4096x128, .bf16⟩
  | 13 => ⟨S1x4096x128, .bf16⟩
  | 14 => ⟨S4x4096x128, .bf16⟩
  | 15 => ⟨S2x4x4096x128, .bf16⟩
  | 16 => ⟨S2x4x4096x128, .bf16⟩
  | 17 => ⟨S4096, .i32⟩
  | 18 => ⟨S4096x1, .i32⟩
  | 19 => ⟨S512, .i32⟩
  | 20 => ⟨S1x512, .i32⟩
  | 21 => ⟨S_, .f32⟩
  | 22 => ⟨S2x4x4096x512, .f32⟩
  | 23 => ⟨S_, .f32⟩
  | 24 => ⟨S2x4x4096x1, .f32⟩
  | 25 => ⟨S_, .f32⟩
  | 26 => ⟨S2x4x4096x128, .f32⟩
  | 27 => ⟨S2x4x512x128, .bf16⟩
  | 28 => ⟨S2x4x512x128, .bf16⟩
  | 29 => ⟨S2x4x4096x512, .f32⟩
  | 30 => ⟨S_, .i32⟩
  | 31 => ⟨S1x512, .i32⟩
  | 32 => ⟨S1x512, .i32⟩
  | 33 => ⟨S4096x512, .i32⟩
  | 34 => ⟨S4096x512, .i32⟩
  | 35 => ⟨S4096x512, .i1⟩
  | 36 => ⟨S2x4x4096x512, .i1⟩
  | 37 => ⟨S2x4x4096x512, .f32⟩
  | 38 => ⟨S_, .f32⟩
  | 39 => ⟨S2x4x4096, .f32⟩
  | 40 => ⟨S2x4x4096x1, .f32⟩
  | 41 => ⟨S2x4x4096x1, .f32⟩
  | 42 => ⟨S2x4x4096x512, .f32⟩
  | 43 => ⟨S2x4x4096x512, .f32⟩
  | 44 => ⟨S_, .f32⟩
  | 45 => ⟨S2x4x4096x512, .f32⟩
  | 46 => ⟨S2x4x4096x512, .f32⟩
  | 47 => ⟨S2x4x4096x512, .f32⟩
  | 48 => ⟨S2x4x4096x512, .bf16⟩
  | 49 => ⟨S2x4x4096x1, .f32⟩
  | 50 => ⟨S_, .f32⟩
  | 51 => ⟨S2x4x4096x1, .f32⟩
  | 52 => ⟨S2x4x4096x1, .f32⟩
  | 53 => ⟨S2x4x4096x1, .f32⟩
  | 54 => ⟨S2x4x4096x128, .f32⟩
  | 55 => ⟨S2x4x4096x128, .f32⟩
  | 56 => ⟨S2x4x4096x128, .f32⟩
  | 57 => ⟨S2x4x4096x128, .f32⟩
  | 58 => ⟨S2x4x512x128, .bf16⟩
  | 59 => ⟨S2x4x512x128, .bf16⟩
  | 60 => ⟨S2x4x4096x512, .f32⟩
  | 61 => ⟨S_, .i32⟩
  | 62 => ⟨S1x512, .i32⟩
  | 63 => ⟨S1x512, .i32⟩
  | 64 => ⟨S4096x512, .i32⟩
  | 65 => ⟨S4096x512, .i32⟩
  | 66 => ⟨S4096x512, .i1⟩
  | 67 => ⟨S2x4x4096x512, .i1⟩
  | 68 => ⟨S2x4x4096x512, .f32⟩
  | 69 => ⟨S_, .f32⟩
  | 70 => ⟨S2x4x4096, .f32⟩
  | 71 => ⟨S2x4x4096x1, .f32⟩
  | 72 => ⟨S2x4x4096x1, .f32⟩
  | 73 => ⟨S2x4x4096x512, .f32⟩
  | 74 => ⟨S2x4x4096x512, .f32⟩
  | 75 => ⟨S_, .f32⟩
  | 76 => ⟨S2x4x4096x512, .f32⟩
  | 77 => ⟨S2x4x4096x512, .f32⟩
  | 78 => ⟨S2x4x4096x512, .f32⟩
  | 79 => ⟨S2x4x4096x512, .bf16⟩
  | 80 => ⟨S2x4x4096x1, .f32⟩
  | 81 => ⟨S_, .f32⟩
  | 82 => ⟨S2x4x4096x1, .f32⟩
  | 83 => ⟨S2x4x4096x1, .f32⟩
  | 84 => ⟨S2x4x4096x1, .f32⟩
  | 85 => ⟨S2x4x4096x128, .f32⟩
  | 86 => ⟨S2x4x4096x128, .f32⟩
  | 87 => ⟨S2x4x4096x128, .f32⟩
  | 88 => ⟨S2x4x4096x128, .f32⟩
  | 89 => ⟨S2x4x512x128, .bf16⟩
  | 90 => ⟨S2x4x512x128, .bf16⟩
  | 91 => ⟨S2x4x4096x512, .f32⟩
  | 92 => ⟨S_, .i32⟩
  | 93 => ⟨S1x512, .i32⟩
  | 94 => ⟨S1x512, .i32⟩
  | 95 => ⟨S4096x512, .i32⟩
  | 96 => ⟨S4096x512, .i32⟩
  | 97 => ⟨S4096x512, .i1⟩
  | 98 => ⟨S2x4x4096x512, .i1⟩
  | 99 => ⟨S2x4x4096x512, .f32⟩
  | 100 => ⟨S_, .f32⟩
  | 101 => ⟨S2x4x4096, .f32⟩
  | 102 => ⟨S2x4x4096x1, .f32⟩
  | 103 => ⟨S2x4x4096x1, .f32⟩
  | 104 => ⟨S2x4x4096x512, .f32⟩
  | 105 => ⟨S2x4x4096x512, .f32⟩
  | 106 => ⟨S_, .f32⟩
  | 107 => ⟨S2x4x4096x512, .f32⟩
  | 108 => ⟨S2x4x4096x512, .f32⟩
  | 109 => ⟨S2x4x4096x512, .f32⟩
  | 110 => ⟨S2x4x4096x512, .bf16⟩
  | 111 => ⟨S2x4x4096x1, .f32⟩
  | 112 => ⟨S_, .f32⟩
  | 113 => ⟨S2x4x4096x1, .f32⟩
  | 114 => ⟨S2x4x4096x1, .f32⟩
  | 115 => ⟨S2x4x4096x1, .f32⟩
  | 116 => ⟨S2x4x4096x128, .f32⟩
  | 117 => ⟨S2x4x4096x128, .f32⟩
  | 118 => ⟨S2x4x4096x128, .f32⟩
  | 119 => ⟨S2x4x4096x128, .f32⟩
  | 120 => ⟨S2x4x512x128, .bf16⟩
  | 121 => ⟨S2x4x512x128, .bf16⟩
  | 122 => ⟨S2x4x4096x512, .f32⟩
  | 123 => ⟨S_, .i32⟩
  | 124 => ⟨S1x512, .i32⟩
  | 125 => ⟨S1x512, .i32⟩
  | 126 => ⟨S4096x512, .i32⟩
  | 127 => ⟨S4096x512, .i32⟩
  | _ => ⟨S4096x1536, .bf16⟩

abbrev hbmTy0_2 (i : Nat) : BufTy := match i % 128 with
  | 0 => ⟨S4096x512, .i1⟩
  | 1 => ⟨S2x4x4096x512, .i1⟩
  | 2 => ⟨S2x4x4096x512, .f32⟩
  | 3 => ⟨S_, .f32⟩
  | 4 => ⟨S2x4x4096, .f32⟩
  | 5 => ⟨S2x4x4096x1, .f32⟩
  | 6 => ⟨S2x4x4096x1, .f32⟩
  | 7 => ⟨S2x4x4096x512, .f32⟩
  | 8 => ⟨S2x4x4096x512, .f32⟩
  | 9 => ⟨S_, .f32⟩
  | 10 => ⟨S2x4x4096x512, .f32⟩
  | 11 => ⟨S2x4x4096x512, .f32⟩
  | 12 => ⟨S2x4x4096x512, .f32⟩
  | 13 => ⟨S2x4x4096x512, .bf16⟩
  | 14 => ⟨S2x4x4096x1, .f32⟩
  | 15 => ⟨S_, .f32⟩
  | 16 => ⟨S2x4x4096x1, .f32⟩
  | 17 => ⟨S2x4x4096x1, .f32⟩
  | 18 => ⟨S2x4x4096x1, .f32⟩
  | 19 => ⟨S2x4x4096x128, .f32⟩
  | 20 => ⟨S2x4x4096x128, .f32⟩
  | 21 => ⟨S2x4x4096x128, .f32⟩
  | 22 => ⟨S2x4x4096x128, .f32⟩
  | 23 => ⟨S2x4x512x128, .bf16⟩
  | 24 => ⟨S2x4x512x128, .bf16⟩
  | 25 => ⟨S2x4x4096x512, .f32⟩
  | 26 => ⟨S_, .i32⟩
  | 27 => ⟨S1x512, .i32⟩
  | 28 => ⟨S1x512, .i32⟩
  | 29 => ⟨S4096x512, .i32⟩
  | 30 => ⟨S4096x512, .i32⟩
  | 31 => ⟨S4096x512, .i1⟩
  | 32 => ⟨S2x4x4096x512, .i1⟩
  | 33 => ⟨S2x4x4096x512, .f32⟩
  | 34 => ⟨S_, .f32⟩
  | 35 => ⟨S2x4x4096, .f32⟩
  | 36 => ⟨S2x4x4096x1, .f32⟩
  | 37 => ⟨S2x4x4096x1, .f32⟩
  | 38 => ⟨S2x4x4096x512, .f32⟩
  | 39 => ⟨S2x4x4096x512, .f32⟩
  | 40 => ⟨S_, .f32⟩
  | 41 => ⟨S2x4x4096x512, .f32⟩
  | 42 => ⟨S2x4x4096x512, .f32⟩
  | 43 => ⟨S2x4x4096x512, .f32⟩
  | 44 => ⟨S2x4x4096x512, .bf16⟩
  | 45 => ⟨S2x4x4096x1, .f32⟩
  | 46 => ⟨S_, .f32⟩
  | 47 => ⟨S2x4x4096x1, .f32⟩
  | 48 => ⟨S2x4x4096x1, .f32⟩
  | 49 => ⟨S2x4x4096x1, .f32⟩
  | 50 => ⟨S2x4x4096x128, .f32⟩
  | 51 => ⟨S2x4x4096x128, .f32⟩
  | 52 => ⟨S2x4x4096x128, .f32⟩
  | 53 => ⟨S2x4x4096x128, .f32⟩
  | 54 => ⟨S2x4x512x128, .bf16⟩
  | 55 => ⟨S2x4x512x128, .bf16⟩
  | 56 => ⟨S2x4x4096x512, .f32⟩
  | 57 => ⟨S_, .i32⟩
  | 58 => ⟨S1x512, .i32⟩
  | 59 => ⟨S1x512, .i32⟩
  | 60 => ⟨S4096x512, .i32⟩
  | 61 => ⟨S4096x512, .i32⟩
  | 62 => ⟨S4096x512, .i1⟩
  | 63 => ⟨S2x4x4096x512, .i1⟩
  | 64 => ⟨S2x4x4096x512, .f32⟩
  | 65 => ⟨S_, .f32⟩
  | 66 => ⟨S2x4x4096, .f32⟩
  | 67 => ⟨S2x4x4096x1, .f32⟩
  | 68 => ⟨S2x4x4096x1, .f32⟩
  | 69 => ⟨S2x4x4096x512, .f32⟩
  | 70 => ⟨S2x4x4096x512, .f32⟩
  | 71 => ⟨S_, .f32⟩
  | 72 => ⟨S2x4x4096x512, .f32⟩
  | 73 => ⟨S2x4x4096x512, .f32⟩
  | 74 => ⟨S2x4x4096x512, .f32⟩
  | 75 => ⟨S2x4x4096x512, .bf16⟩
  | 76 => ⟨S2x4x4096x1, .f32⟩
  | 77 => ⟨S_, .f32⟩
  | 78 => ⟨S2x4x4096x1, .f32⟩
  | 79 => ⟨S2x4x4096x1, .f32⟩
  | 80 => ⟨S2x4x4096x1, .f32⟩
  | 81 => ⟨S2x4x4096x128, .f32⟩
  | 82 => ⟨S2x4x4096x128, .f32⟩
  | 83 => ⟨S2x4x4096x128, .f32⟩
  | 84 => ⟨S2x4x4096x128, .f32⟩
  | 85 => ⟨S2x4x512x128, .bf16⟩
  | 86 => ⟨S2x4x512x128, .bf16⟩
  | 87 => ⟨S2x4x4096x512, .f32⟩
  | 88 => ⟨S_, .i32⟩
  | 89 => ⟨S1x512, .i32⟩
  | 90 => ⟨S1x512, .i32⟩
  | 91 => ⟨S4096x512, .i32⟩
  | 92 => ⟨S4096x512, .i32⟩
  | 93 => ⟨S4096x512, .i1⟩
  | 94 => ⟨S2x4x4096x512, .i1⟩
  | 95 => ⟨S2x4x4096x512, .f32⟩
  | 96 => ⟨S_, .f32⟩
  | 97 => ⟨S2x4x4096, .f32⟩
  | 98 => ⟨S2x4x4096x1, .f32⟩
  | 99 => ⟨S2x4x4096x1, .f32⟩
  | 100 => ⟨S2x4x4096x512, .f32⟩
  | 101 => ⟨S2x4x4096x512, .f32⟩
  | 102 => ⟨S_, .f32⟩
  | 103 => ⟨S2x4x4096x512, .f32⟩
  | 104 => ⟨S2x4x4096x512, .f32⟩
  | 105 => ⟨S2x4x4096x512, .f32⟩
  | 106 => ⟨S2x4x4096x512, .bf16⟩
  | 107 => ⟨S2x4x4096x1, .f32⟩
  | 108 => ⟨S_, .f32⟩
  | 109 => ⟨S2x4x4096x1, .f32⟩
  | 110 => ⟨S2x4x4096x1, .f32⟩
  | 111 => ⟨S2x4x4096x1, .f32⟩
  | 112 => ⟨S2x4x4096x128, .f32⟩
  | 113 => ⟨S2x4x4096x128, .f32⟩
  | 114 => ⟨S2x4x4096x128, .f32⟩
  | 115 => ⟨S2x4x4096x128, .f32⟩
  | 116 => ⟨S2x4x512x128, .bf16⟩
  | 117 => ⟨S2x4x512x128, .bf16⟩
  | 118 => ⟨S2x4x4096x512, .f32⟩
  | 119 => ⟨S_, .i32⟩
  | 120 => ⟨S1x512, .i32⟩
  | 121 => ⟨S1x512, .i32⟩
  | 122 => ⟨S4096x512, .i32⟩
  | 123 => ⟨S4096x512, .i32⟩
  | 124 => ⟨S4096x512, .i1⟩
  | 125 => ⟨S2x4x4096x512, .i1⟩
  | 126 => ⟨S2x4x4096x512, .f32⟩
  | 127 => ⟨S_, .f32⟩
  | _ => ⟨S4096x1536, .bf16⟩

abbrev hbmTy0_3 (i : Nat) : BufTy := match i % 128 with
  | 0 => ⟨S2x4x4096, .f32⟩
  | 1 => ⟨S2x4x4096x1, .f32⟩
  | 2 => ⟨S2x4x4096x1, .f32⟩
  | 3 => ⟨S2x4x4096x512, .f32⟩
  | 4 => ⟨S2x4x4096x512, .f32⟩
  | 5 => ⟨S_, .f32⟩
  | 6 => ⟨S2x4x4096x512, .f32⟩
  | 7 => ⟨S2x4x4096x512, .f32⟩
  | 8 => ⟨S2x4x4096x512, .f32⟩
  | 9 => ⟨S2x4x4096x512, .bf16⟩
  | 10 => ⟨S2x4x4096x1, .f32⟩
  | 11 => ⟨S_, .f32⟩
  | 12 => ⟨S2x4x4096x1, .f32⟩
  | 13 => ⟨S2x4x4096x1, .f32⟩
  | 14 => ⟨S2x4x4096x1, .f32⟩
  | 15 => ⟨S2x4x4096x128, .f32⟩
  | 16 => ⟨S2x4x4096x128, .f32⟩
  | 17 => ⟨S2x4x4096x128, .f32⟩
  | 18 => ⟨S2x4x4096x128, .f32⟩
  | 19 => ⟨S1x4x4096x1, .f32⟩
  | 20 => ⟨S4x4096x1, .f32⟩
  | 21 => ⟨S1x4x4096x1, .f32⟩
  | 22 => ⟨S4x4096x1, .f32⟩
  | 23 => ⟨S1x4x4096x1, .f32⟩
  | 24 => ⟨S1x4x4096x1, .f32⟩
  | 25 => ⟨S2x4x4096x1, .f32⟩
  | 26 => ⟨S2x4x4096x128, .f32⟩
  | 27 => ⟨S2x4x4096x128, .f32⟩
  | 28 => ⟨S2x4x4096x1, .f32⟩
  | 29 => ⟨S_, .f32⟩
  | 30 => ⟨S2x4x4096x1, .f32⟩
  | 31 => ⟨S2x4x4096x1, .f32⟩
  | 32 => ⟨S2x4x4096x1, .f32⟩
  | 33 => ⟨S2x4x4096x128, .f32⟩
  | 34 => ⟨S1x4x4096x128, .i1⟩
  | 35 => ⟨S4x4096x128, .i1⟩
  | 36 => ⟨S1x4x4096x128, .f32⟩
  | 37 => ⟨S4x4096x128, .f32⟩
  | 38 => ⟨S1x4x4096x128, .f32⟩
  | 39 => ⟨S4x4096x128, .f32⟩
  | 40 => ⟨S4x4096x128, .f32⟩
  | 41 => ⟨S4x4096x128, .bf16⟩
  | 42 => ⟨S4096x4x128, .bf16⟩
  | 43 => ⟨S4096x512, .bf16⟩
  | 44 => ⟨S1x4x4096x128, .i1⟩
  | 45 => ⟨S4x4096x128, .i1⟩
  | 46 => ⟨S1x4x4096x128, .f32⟩
  | 47 => ⟨S4x4096x128, .f32⟩
  | 48 => ⟨S1x4x4096x128, .f32⟩
  | 49 => ⟨S4x4096x128, .f32⟩
  | 50 => ⟨S4x4096x128, .f32⟩
  | 51 => ⟨S_, .f32⟩
  | 52 => ⟨S8x128, .f32⟩
  | 53 => ⟨S4096x512, .bf16⟩
  | 54 => ⟨S4x4096x128, .f32⟩
  | 55 => ⟨S4096x512, .bf16⟩
  | 56 => ⟨S4x4096x128, .f32⟩
  | 57 => ⟨S4096x512, .bf16⟩
  | _ => ⟨S4096x1536, .bf16⟩

abbrev hbmTy (i : Nat) : BufTy := match i / 128 with
  | 0 => hbmTy0_0 i
  | 1 => hbmTy0_1 i
  | 2 => hbmTy0_2 i
  | 3 => hbmTy0_3 i
  | _ => ⟨S4096x1536, .bf16⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1x512x128, .f32⟩
  | .local _ .vmem, ⟨15, _⟩ => ⟨S1x512x128, .f32⟩
  | .local _ .vmem, ⟨16, _⟩ => ⟨S8x128, .f32⟩
  | .local _ .vmem, ⟨17, _⟩ => ⟨S4096x128, .bf16⟩
  | .local _ .vmem, ⟨18, _⟩ => ⟨S4096x128, .bf16⟩
  | .local _ .vmem, ⟨19, _⟩ => ⟨S1x4096x128, .f32⟩
  | .local _ .vmem, ⟨20, _⟩ => ⟨S1x4096x128, .f32⟩
  | .local _ .vmem, ⟨21, _⟩ => ⟨S512x128, .bf16⟩
  | .local _ .vmem, ⟨22, _⟩ => ⟨S512x128, .bf16⟩
  | .local _ .vmem, ⟨23, _⟩ => ⟨S1x512x128, .f32⟩
  | .local _ .vmem, ⟨24, _⟩ => ⟨S1x512x128, .f32⟩
  | .local _ .vmem, ⟨25, _⟩ => ⟨S512x128, .bf16⟩
  | .local _ .vmem, ⟨26, _⟩ => ⟨S512x128, .bf16⟩
  | .local _ .vmem, ⟨27, _⟩ => ⟨S2x4096x128, .f32⟩
  | .local _ .vmem, ⟨28, _⟩ => ⟨S2x128x512, .f32⟩
  | .local _ .vmem, ⟨29, _⟩ => ⟨S128x512, .f32⟩
  | .local _ .vmem, ⟨30, _⟩ => ⟨S2x512x512, .f32⟩
  | .local _ .vmem, ⟨31, _⟩ => ⟨S2x512x512, .f32⟩
  | .local _ .vmem, ⟨32, _⟩ => ⟨S2x512x512, .bf16⟩
  | .local _ .vmem, ⟨33, _⟩ => ⟨S2x512x512, .bf16⟩
  | .local _ .smem, ⟨0, _⟩ => ⟨S36, .i32⟩
  | .local _ .smem, ⟨1, _⟩ => ⟨S36, .i32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_c_3 : Ref sig .tc := ⟨.hbm, 60, rfl⟩
abbrev main_v54 : Ref sig .tc := ⟨.hbm, 61, rfl⟩
abbrev main_v55 : Ref sig .tc := ⟨.hbm, 62, rfl⟩
abbrev main_c_4 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_c_5 : Ref sig .tc := ⟨.hbm, 71, rfl⟩
abbrev main_v63 : Ref sig .tc := ⟨.hbm, 72, rfl⟩
abbrev main_v64 : Ref sig .tc := ⟨.hbm, 73, rfl⟩
abbrev main_c_6 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_7 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_cst_8 : Ref sig .tc := ⟨.hbm, 149, rfl⟩
abbrev main_v138 : Ref sig .tc := ⟨.hbm, 150, rfl⟩
abbrev main_cst_9 : Ref sig .tc := ⟨.hbm, 151, rfl⟩
abbrev main_v139 : Ref sig .tc := ⟨.hbm, 152, rfl⟩
abbrev main_cst_10 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_c_11 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_cst_12 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_cst_13 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_cst_14 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_c_15 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_cst_16 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_cst_17 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_cst_18 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_c_19 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_cst_20 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_cst_21 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_cst_22 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_c_23 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_cst_24 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_cst_25 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_cst_26 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_c_27 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_cst_28 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_cst_29 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_cst_30 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_c_31 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_cst_32 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_cst_33 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_cst_34 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_c_35 : Ref sig .tc := ⟨.hbm, 344, rfl⟩
abbrev main_v306 : Ref sig .tc := ⟨.hbm, 345, rfl⟩
abbrev main_v307 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_cst_36 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_cst_37 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_cst_38 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_c_39 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩
abbrev main_cst_40 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩
abbrev main_cst_41 : Ref sig .tc := ⟨.hbm, 389, rfl⟩
abbrev main_v345 : Ref sig .tc := ⟨.hbm, 390, rfl⟩
abbrev main_v346 : Ref sig .tc := ⟨.hbm, 391, rfl⟩
abbrev main_v347 : Ref sig .tc := ⟨.hbm, 392, rfl⟩
abbrev main_v348 : Ref sig .tc := ⟨.hbm, 393, rfl⟩
abbrev main_v349 : Ref sig .tc := ⟨.hbm, 394, rfl⟩
abbrev main_cst_42 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_cst_43 : Ref sig .tc := ⟨.hbm, 413, rfl⟩
abbrev main_v367 : Ref sig .tc := ⟨.hbm, 414, rfl⟩
abbrev main_v368 : Ref sig .tc := ⟨.hbm, 415, rfl⟩
abbrev main_v369 : Ref sig .tc := ⟨.hbm, 416, rfl⟩
abbrev main_v370 : Ref sig .tc := ⟨.hbm, 417, rfl⟩
abbrev main_v371 : Ref sig .tc := ⟨.hbm, 418, rfl⟩
abbrev main_v372 : Ref sig .tc := ⟨.hbm, 419, rfl⟩
abbrev main_v373 : Ref sig .tc := ⟨.hbm, 420, rfl⟩
abbrev main_v374 : Ref sig .tc := ⟨.hbm, 421, rfl⟩
abbrev main_v375 : Ref sig .tc := ⟨.hbm, 422, rfl⟩
abbrev main_v376 : Ref sig .tc := ⟨.hbm, 423, rfl⟩
abbrev main_v377 : Ref sig .tc := ⟨.hbm, 424, rfl⟩
abbrev main_v378 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_v384 : Ref sig .tc := ⟨.hbm, 431, rfl⟩
abbrev main_v385 : Ref sig .tc := ⟨.hbm, 432, rfl⟩
abbrev main_v386 : Ref sig .tc := ⟨.hbm, 433, rfl⟩
abbrev main_v387 : Ref sig .tc := ⟨.hbm, 434, rfl⟩
abbrev main_cst_44 : Ref sig .tc := ⟨.hbm, 435, rfl⟩
abbrev main_v388 : Ref sig .tc := ⟨.hbm, 436, rfl⟩
abbrev main_v389_0 : Ref sig .tc := ⟨.hbm, 437, rfl⟩
abbrev main_v389_1 : Ref sig .tc := ⟨.hbm, 438, rfl⟩
abbrev main_v389_2 : Ref sig .tc := ⟨.hbm, 439, rfl⟩
abbrev main_v389_3 : Ref sig .tc := ⟨.hbm, 440, rfl⟩
abbrev main_v389_4 : Ref sig .tc := ⟨.hbm, 441, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v261 : BitVec 32 := Scalar.muli v1 c512_i32
  let c0_i32_172 : BitVec 32 := 0#32
  let v262 : BitVec 32 := Scalar.addi v261 c0_i32_172
  v262
def k0_cond3 (v1 : BitVec 32) (v3 : BitVec 32) : BitVec 1 :=
  let v11 : BitVec 1 := Scalar.cmpi .sgt v1 v3
  let v12 : BitVec 32 := Scalar.extui v11
  let c0_i32_2 : BitVec 32 := 0#32
  let v13 : BitVec 1 := Scalar.cmpi .ne v12 c0_i32_2
  v13

def k0_off2 (v1 : BitVec 32) : Fin 3 → Nat :=
  let c0_173 : Index := 0#32
  let c512_i32 : BitVec 32 := 512#32
  let v261 : BitVec 32 := Scalar.muli v1 c512_i32
  let c0_i32_172 : BitVec 32 := 0#32
  let v262 : BitVec 32 := Scalar.addi v261 c0_i32_172
  let v263 : BitVec 32 := v262
  let v264 : Index := Scalar.indexCast v263
  let c0_174 : Index := 0#32
  ![0, v264.toNat, 0]
def k0_mult2 (v1 : BitVec 32) : BitVec 32 :=
  let c512_i32_316 : BitVec 32 := 512#32
  let v458 : BitVec 32 := Scalar.muli v1 c512_i32_316
  let c0_i32_317 : BitVec 32 := 0#32
  let v459 : BitVec 32 := Scalar.addi v458 c0_i32_317
  v459
def k0_off3 (v1 : BitVec 32) : Fin 3 → Nat :=
  let c1_318 : Index := 1#32
  let c512_i32_316 : BitVec 32 := 512#32
  let v458 : BitVec 32 := Scalar.muli v1 c512_i32_316
  let c0_i32_317 : BitVec 32 := 0#32
  let v459 : BitVec 32 := Scalar.addi v458 c0_i32_317
  let v460 : BitVec 32 := v459
  let v461 : Index := Scalar.indexCast v460
  let c0_319 : Index := 0#32
  ![1, v461.toNat, 0]
def k0_mult3 (v1 : BitVec 32) : BitVec 32 :=
  let c512_i32 : BitVec 32 := 512#32
  let v347 : BitVec 32 := Scalar.muli v1 c512_i32
  let c0_i32_198 : BitVec 32 := 0#32
  let v348 : BitVec 32 := Scalar.addi v347 c0_i32_198
  v348
def k0_cond4 (v1 : BitVec 32) (v3 : BitVec 32) : BitVec 1 :=
  let v14 : BitVec 1 := Scalar.cmpi .eq v1 v3
  let v15 : BitVec 32 := Scalar.extui v14
  let c0_i32_3 : BitVec 32 := 0#32
  let v16 : BitVec 1 := Scalar.cmpi .ne v15 c0_i32_3
  v16

def k0_off4 (v1 : BitVec 32) (c0_i32_198 : BitVec 32) : Fin 3 → Nat :=
  let c0_199 : Index := 0#32
  let c512_i32 : BitVec 32 := 512#32
  let v347 : BitVec 32 := Scalar.muli v1 c512_i32
  let v348 : BitVec 32 := Scalar.addi v347 c0_i32_198
  let v349 : BitVec 32 := v348
  let v350 : Index := Scalar.indexCast v349
  let c0_200 : Index := 0#32
  ![0, v350.toNat, 0]
def k0_mult4 (v1 : BitVec 32) : BitVec 32 :=
  let c512_i32_222 : BitVec 32 := 512#32
  let v379 : BitVec 32 := Scalar.muli v1 c512_i32_222
  let c256_i32_223 : BitVec 32 := 256#32
  let v380 : BitVec 32 := Scalar.addi v379 c256_i32_223
  v380
def k0_mult5 (v1 : BitVec 32) : BitVec 32 :=
  let c512_i32_383 : BitVec 32 := 512#32
  let v634 : BitVec 32 := Scalar.muli v1 c512_i32_383
  let c0_i32_384 : BitVec 32 := 0#32
  let v635 : BitVec 32 := Scalar.addi v634 c0_i32_384
  v635
def k0_off5 (v1 : BitVec 32) (c0_i32_384 : BitVec 32) : Fin 3 → Nat :=
  let c1_385 : Index := 1#32
  let c512_i32_383 : BitVec 32 := 512#32
  let v634 : BitVec 32 := Scalar.muli v1 c512_i32_383
  let v635 : BitVec 32 := Scalar.addi v634 c0_i32_384
  let v636 : BitVec 32 := v635
  let v637 : Index := Scalar.indexCast v636
  let c0_386 : Index := 0#32
  ![1, v637.toNat, 0]
def k0_mult6 (v1 : BitVec 32) : BitVec 32 :=
  let c512_i32_408 : BitVec 32 := 512#32
  let v666 : BitVec 32 := Scalar.muli v1 c512_i32_408
  let c256_i32_409 : BitVec 32 := 256#32
  let v667 : BitVec 32 := Scalar.addi v666 c256_i32_409
  v667

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S1x512x128.size a ≤ S2x4096x128.size a) ∧
  (∀ (k0_h3 : k0_cond3 v1 v3 = 1#1), 512 ∣ (k0_mult2 v1).toNat) ∧
  (∀ (k0_h3 : k0_cond3 v1 v3 = 1#1), ∀ a, (k0_off3 v1) a + S1x512x128.size a ≤ S2x4096x128.size a) ∧
  (∀ (k0_h4 : k0_cond4 v1 v3 = 1#1), 256 ∣ (k0_mult3 v1).toNat) ∧
  (∀ (k0_h4 : k0_cond4 v1 v3 = 1#1), ∀ (r : Fin 2), ∀ a, (k0_off4 v1 (BitVec.ofNat 32 (256 * r.val))) a + S1x256x128.size a ≤ S2x4096x128.size a) ∧
  (∀ (k0_h4 : k0_cond4 v1 v3 = 1#1), 256 ∣ (k0_mult4 v1).toNat) ∧
  (∀ (k0_h4 : k0_cond4 v1 v3 = 1#1), 256 ∣ (k0_mult5 v1).toNat) ∧
  (∀ (k0_h4 : k0_cond4 v1 v3 = 1#1), ∀ (r : Fin 2), ∀ a, (k0_off5 v1 (BitVec.ofNat 32 (256 * r.val))) a + S1x256x128.size a ≤ S2x4096x128.size a) ∧
  (∀ (k0_h4 : k0_cond4 v1 v3 = 1#1), 256 ∣ (k0_mult6 v1).toNat)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1x512x128.size a ≤ S2x4096x128.size a := fun v1 v3 k0_hw1 k0_h3 => k0_hw1.2.1 k0_h3
theorem k0_mult2_dvd : ∀ (v1 : BitVec 32) (v3 : BitVec 32) (k0_hw1 : k0_chk1 v1 v3), ∀ (k0_h3 : k0_cond3 v1 v3 = 1#1), 512 ∣ (k0_mult2 v1).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ a, (k0_off3 v1) a + S1x512x128.size a ≤ S2x4096x128.size a := fun v1 v3 k0_hw1 k0_h3 => k0_hw1.2.2.2.1 k0_h3
theorem k0_mult3_dvd : ∀ (v1 : BitVec 32) (v3 : BitVec 32) (k0_hw1 : k0_chk1 v1 v3), ∀ (k0_h4 : k0_cond4 v1 v3 = 1#1), 256 ∣ (k0_mult3 v1).toNat := fun v1 v3 k0_hw1 k0_h4 => k0_hw1.2.2.2.2.1 k0_h4
theorem k0_off4_inb : ∀ (v1 : BitVec 32) (v3 : BitVec 32) (k0_hw1 : k0_chk1 v1 v3), ∀ (k0_h4 : k0_cond4 v1 v3 = 1#1), ∀ (r : Fin 2), ∀ a, (k0_off4 v1 (BitVec.ofNat 32 (256 * r.val))) a + S1x256x128.size a ≤ S2x4096x128.size a := fun v1 v3 k0_hw1 k0_h4 r => k0_hw1.2.2.2.2.2.1 k0_h4 r
theorem k0_mult4_dvd : ∀ (v1 : BitVec 32) (v3 : BitVec 32) (k0_hw1 : k0_chk1 v1 v3), ∀ (k0_h4 : k0_cond4 v1 v3 = 1#1), 256 ∣ (k0_mult4 v1).toNat := fun v1 v3 k0_hw1 k0_h4 => k0_hw1.2.2.2.2.2.2.1 k0_h4
theorem k0_mult5_dvd : ∀ (v1 : BitVec 32) (v3 : BitVec 32) (k0_hw1 : k0_chk1 v1 v3), ∀ (k0_h4 : k0_cond4 v1 v3 = 1#1), 256 ∣ (k0_mult5 v1).toNat := fun v1 v3 k0_hw1 k0_h4 => k0_hw1.2.2.2.2.2.2.2.1 k0_h4
theorem k0_off5_inb : ∀ (v1 : BitVec 32) (v3 : BitVec 32) (k0_hw1 : k0_chk1 v1 v3), ∀ (k0_h4 : k0_cond4 v1 v3 = 1#1), ∀ (r : Fin 2), ∀ a, (k0_off5 v1 (BitVec.ofNat 32 (256 * r.val))) a + S1x256x128.size a ≤ S2x4096x128.size a := fun v1 v3 k0_hw1 k0_h4 r => k0_hw1.2.2.2.2.2.2.2.2.1 k0_h4 r
theorem k0_mult6_dvd : ∀ (v1 : BitVec 32) (v3 : BitVec 32) (k0_hw1 : k0_chk1 v1 v3), ∀ (k0_h4 : k0_cond4 v1 v3 = 1#1), 256 ∣ (k0_mult6 v1).toNat := fun v1 v3 k0_hw1 k0_h4 => k0_hw1.2.2.2.2.2.2.2.2.2 k0_h4

def k0_cond6 (i : grid0.Coords) : BitVec 1 :=
  let arg1 : BitVec 32 := BitVec.ofNat 32 (i 1).val
  let c35_i32 : BitVec 32 := 35#32
  let v20 : BitVec 1 := Scalar.cmpi .eq arg1 c35_i32
  let v21 : BitVec 32 := Scalar.extui v20
  let c0_i32_5 : BitVec 32 := 0#32
  let v22 : BitVec 1 := Scalar.cmpi .ne v21 c0_i32_5
  v22

def k0_cond5 (v1 : BitVec 32) : BitVec 1 :=
  let c7_i32 : BitVec 32 := 7#32
  let v17 : BitVec 1 := Scalar.cmpi .eq v1 c7_i32
  let v18 : BitVec 32 := Scalar.extui v17
  let c0_i32_4 : BitVec 32 := 0#32
  let v19 : BitVec 1 := Scalar.cmpi .ne v18 c0_i32_4
  v19

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c8_i32 : BitVec 32 := 8#32
  let v2 : BitVec 32 := Scalar.addi c8_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_12 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_13 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== AttnBwdIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "q_scale" => some ((8⁻¹ * (Real.log 2)⁻¹ : ℝ) : EReal)
  | _ => none
-- ==== AttnBwdRefIdeal.lean ====
abbrev S4096x1536 : Shape := ⟨2, ![4096, 1536]⟩
abbrev S4096x8 : Shape := ⟨2, ![4096, 8]⟩
abbrev S4096x512 : Shape := ⟨2, ![4096, 512]⟩
abbrev S4096x8x64 : Shape := ⟨3, ![4096, 8, 64]⟩
abbrev S8x4096x64 : Shape := ⟨3, ![8, 4096, 64]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4x2x4096 : Shape := ⟨3, ![4, 2, 4096]⟩
abbrev S4x4096x2 : Shape := ⟨3, ![4, 4096, 2]⟩
abbrev S4x4096x2x64 : Shape := ⟨4, ![4, 4096, 2, 64]⟩
abbrev S4x4096x128 : Shape := ⟨3, ![4, 4096, 128]⟩

abbrev nBuf : Space → Nat
  | .hbm => 137
  | .vmem => 0
  | .smem => 0
  | _ => 0

abbrev hbmTy0_0 (i : Nat) : BufTy := match i % 128 with
  | 0 => ⟨S4096x1536, .bf16⟩
  | 1 => ⟨S4096x8, .f32⟩
  | 2 => ⟨S4096x512, .bf16⟩
  | 3 => ⟨S4096x512, .bf16⟩
  | 4 => ⟨S4096x512, .f32⟩
  | 5 => ⟨S4096x8x64, .f32⟩
  | 6 => ⟨S8x4096x64, .f32⟩
  | 7 => ⟨S4096x512, .bf16⟩
  | 8 => ⟨S4096x512, .f32⟩
  | 9 => ⟨S4096x8x64, .f32⟩
  | 10 => ⟨S8x4096x64, .f32⟩
  | 11 => ⟨S4096x512, .bf16⟩
  | 12 => ⟨S4096x512, .f32⟩
  | 13 => ⟨S4096x8x64, .f32⟩
  | 14 => ⟨S8x4096x64, .f32⟩
  | 15 => ⟨S8x4096, .f32⟩
  | 16 => ⟨S8x4096, .f32⟩
  | 17 => ⟨S8x4096, .f32⟩
  | 18 => ⟨S_, .f32⟩
  | 19 => ⟨S8x4096x64, .f32⟩
  | 20 => ⟨S8x4096x64, .f32⟩
  | 21 => ⟨S8x4096x4096, .f32⟩
  | 22 => ⟨S8x4096x1, .f32⟩
  | 23 => ⟨S8x4096x4096, .f32⟩
  | 24 => ⟨S8x4096x4096, .f32⟩
  | 25 => ⟨S8x1x4096, .f32⟩
  | 26 => ⟨S8x4096x4096, .f32⟩
  | 27 => ⟨S8x4096x4096, .f32⟩
  | 28 => ⟨S4096, .i32⟩
  | 29 => ⟨S1x4096, .i32⟩
  | 30 => ⟨S4096x1, .i32⟩
  | 31 => ⟨S4096x4096, .i32⟩
  | 32 => ⟨S4096x4096, .i32⟩
  | 33 => ⟨S4096x4096, .i1⟩
  | 34 => ⟨S_, .f32⟩
  | 35 => ⟨S_, .f32⟩
  | 36 => ⟨S8x4096x4096, .i1⟩
  | 37 => ⟨S8x4096x4096, .f32⟩
  | 38 => ⟨S8x4096x4096, .f32⟩
  | 39 => ⟨S_, .f32⟩
  | 40 => ⟨S8x4096x4096, .f32⟩
  | 41 => ⟨S_, .f32⟩
  | 42 => ⟨S8x4096, .f32⟩
  | 43 => ⟨S8x4096x1, .f32⟩
  | 44 => ⟨S8x4096x4096, .f32⟩
  | 45 => ⟨S8x4096x4096, .i1⟩
  | 46 => ⟨S8x4096x4096, .f32⟩
  | 47 => ⟨S_, .f32⟩
  | 48 => ⟨S8x4096, .f32⟩
  | 49 => ⟨S_, .f32⟩
  | 50 => ⟨S8x4096, .f32⟩
  | 51 => ⟨S8x4096, .f32⟩
  | 52 => ⟨S_, .f32⟩
  | 53 => ⟨S8x4096, .f32⟩
  | 54 => ⟨S8x4096, .i1⟩
  | 55 => ⟨S_, .f32⟩
  | 56 => ⟨S8x4096, .f32⟩
  | 57 => ⟨S8x4096, .i1⟩
  | 58 => ⟨S_, .f32⟩
  | 59 => ⟨S8x4096, .f32⟩
  | 60 => ⟨S_, .f32⟩
  | 61 => ⟨S8x4096, .f32⟩
  | 62 => ⟨S_, .f32⟩
  | 63 => ⟨S8x4096, .f32⟩
  | 64 => ⟨S8x4096, .f32⟩
  | 65 => ⟨S8x4096, .f32⟩
  | 66 => ⟨S8x4096x1, .f32⟩
  | 67 => ⟨S8x4096x4096, .f32⟩
  | 68 => ⟨S8x4096x4096, .f32⟩
  | 69 => ⟨S8x4096x4096, .f32⟩
  | 70 => ⟨S_, .f32⟩
  | 71 => ⟨S8x4096, .f32⟩
  | 72 => ⟨S8x4096x1, .f32⟩
  | 73 => ⟨S8x4096x4096, .f32⟩
  | 74 => ⟨S8x4096x4096, .f32⟩
  | 75 => ⟨S8x4096x1, .f32⟩
  | 76 => ⟨S_, .f32⟩
  | 77 => ⟨S8x4096x1, .f32⟩
  | 78 => ⟨S8x4096x1, .f32⟩
  | 79 => ⟨S8x4096x64, .f32⟩
  | 80 => ⟨S4096x512, .f32⟩
  | 81 => ⟨S4096x8x64, .f32⟩
  | 82 => ⟨S8x4096x64, .f32⟩
  | 83 => ⟨S8x64x4096, .f32⟩
  | 84 => ⟨S8x4096x64, .f32⟩
  | 85 => ⟨S8x4096x4096, .f32⟩
  | 86 => ⟨S8x4096x4096, .f32⟩
  | 87 => ⟨S8x4096x4096, .f32⟩
  | 88 => ⟨S8x4096x4096, .f32⟩
  | 89 => ⟨S_, .f32⟩
  | 90 => ⟨S8x4096, .f32⟩
  | 91 => ⟨S8x4096x1, .f32⟩
  | 92 => ⟨S8x4096x1, .f32⟩
  | 93 => ⟨S8x4096x4096, .f32⟩
  | 94 => ⟨S8x4096x4096, .f32⟩
  | 95 => ⟨S_, .f32⟩
  | 96 => ⟨S8x4096, .f32⟩
  | 97 => ⟨S8x4096x4096, .f32⟩
  | 98 => ⟨S8x4096x4096, .f32⟩
  | 99 => ⟨S8x4096x4096, .f32⟩
  | 100 => ⟨S_, .f32⟩
  | 101 => ⟨S8x4096x4096, .f32⟩
  | 102 => ⟨S8x4096x4096, .f32⟩
  | 103 => ⟨S_, .f32⟩
  | 104 => ⟨S8x4096, .f32⟩
  | 105 => ⟨S8x1x4096, .f32⟩
  | 106 => ⟨S_, .f32⟩
  | 107 => ⟨S8x4096, .f32⟩
  | 108 => ⟨S_, .f32⟩
  | 109 => ⟨S8x4096, .f32⟩
  | 110 => ⟨S8x4096x1, .f32⟩
  | 111 => ⟨S_, .f32⟩
  | 112 => ⟨S8x4096, .f32⟩
  | 113 => ⟨S8x4096x64, .f32⟩
  | 114 => ⟨S8x4096x64, .f32⟩
  | 115 => ⟨S_, .f32⟩
  | 116 => ⟨S8x4096x64, .f32⟩
  | 117 => ⟨S8x4096x64, .f32⟩
  | 118 => ⟨S4096x8x64, .f32⟩
  | 119 => ⟨S4096x512, .f32⟩
  | 120 => ⟨S4096x512, .bf16⟩
  | 121 => ⟨S4x2x4096, .f32⟩
  | 122 => ⟨S4x2x4096, .f32⟩
  | 123 => ⟨S4x4096x2, .f32⟩
  | 124 => ⟨S4x4096x2x64, .f32⟩
  | 125 => ⟨S4x4096x128, .f32⟩
  | 126 => ⟨S4096x8x64, .f32⟩
  | 127 => ⟨S4096x512, .f32⟩
  | _ => ⟨S4096x1536, .bf16⟩

abbrev hbmTy0_1 (i : Nat) : BufTy := match i % 128 with
  | 0 => ⟨S4096x512, .bf16⟩
  | 1 => ⟨S4x2x4096, .f32⟩
  | 2 => ⟨S4x2x4096, .f32⟩
  | 3 => ⟨S4x4096x2, .f32⟩
  | 4 => ⟨S4x4096x2x64, .f32⟩
  | 5 => ⟨S4x4096x128, .f32⟩
  | 6 => ⟨S4096x8x64, .f32⟩
  | 7 => ⟨S4096x512, .f32⟩
  | 8 => ⟨S4096x512, .bf16⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_call0_v0 : Ref sig .tc := ⟨.hbm, 35, rfl⟩
abbrev main_v30_1 : Ref sig .tc := ⟨.hbm, 36, rfl⟩
abbrev main_call0_v2 : Ref sig .tc := ⟨.hbm, 37, rfl⟩
abbrev main_v30_0 : Ref sig .tc := ⟨.hbm, 38, rfl⟩
abbrev main_call0_cst : Ref sig .tc := ⟨.hbm, 39, rfl⟩
abbrev main_v30_2 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩

abbrev nD : Nat := 1
abbrev τ : Topo := Topo.v7x

variable {F : FTy → Type} [FloatOps F]
-- ==== InpBwd.lean ====
abbrev S4096x1024 : Shape := ⟨2, ![4096, 1024]⟩
abbrev S1x1024 : Shape := ⟨2, ![1, 1024]⟩
abbrev S1x1024x2056 : Shape := ⟨3, ![1, 1024, 2056]⟩
abbrev S4096x512 : Shape := ⟨2, ![4096, 512]⟩
abbrev S4096x128 : Shape := ⟨2, ![4096, 128]⟩
abbrev S1024x2056 : Shape := ⟨2, ![1024, 2056]⟩
abbrev S2056x1024 : Shape := ⟨2, ![2056, 1024]⟩
abbrev S1536x1024 : Shape := ⟨2, ![1536, 1024]⟩
abbrev S512x1024 : Shape := ⟨2, ![512, 1024]⟩
abbrev S8x1024 : Shape := ⟨2, ![8, 1024]⟩
abbrev S_ : Shape := ⟨0, ![]⟩
abbrev S120x1024 : Shape := ⟨2, ![120, 1024]⟩
abbrev S2176x1024 : Shape := ⟨2, ![2176, 1024]⟩
abbrev S512x512 : Shape := ⟨2, ![512, 512]⟩
abbrev S512x128 : Shape := ⟨2, ![512, 128]⟩
abbrev S512x2176 : Shape := ⟨2, ![512, 2176]⟩
abbrev S512 : Shape := ⟨1, ![512]⟩
abbrev S512x1 : Shape := ⟨2, ![512, 1]⟩
abbrev S1024 : Shape := ⟨1, ![1024]⟩

abbrev nBuf : Space → Nat
  | .hbm => 20
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2056, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x128, .bf16⟩
  | .hbm, ⟨8, _⟩ => ⟨S4096x1024, .f32⟩
  | .hbm, ⟨9, _⟩ => ⟨S1024x2056, .f32⟩
  | .hbm, ⟨10, _⟩ => ⟨S2056x1024, .f32⟩
  | .hbm, ⟨11, _⟩ => ⟨S2056x1024, .bf16⟩
  | .hbm, ⟨12, _⟩ => ⟨S1536x1024, .bf16⟩
  | .hbm, ⟨13, _⟩ => ⟨S512x1024, .bf16⟩
  | .hbm, ⟨14, _⟩ => ⟨S8x1024, .bf16⟩
  | .hbm, ⟨15, _⟩ => ⟨S_, .bf16⟩
  | .hbm, ⟨16, _⟩ => ⟨S120x1024, .bf16⟩
  | .hbm, ⟨17, _⟩ => ⟨S2176x1024, .bf16⟩
  | .hbm, ⟨18, _⟩ => ⟨S4096x1024, .f32⟩
  | .hbm, ⟨19, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S2176x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2176x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InpBwdRefIdeal.lean ====
abbrev S4096x1024 : Shape := ⟨2, ![4096, 1024]⟩
abbrev S1x1024 : Shape := ⟨2, ![1, 1024]⟩
abbrev S1x1024x2056 : Shape := ⟨3, ![1, 1024, 2056]⟩
abbrev S4096x512 : Shape := ⟨2, ![4096, 512]⟩
abbrev S4096x128 : Shape := ⟨2, ![4096, 128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2056 : Shape := ⟨2, ![1024, 2056]⟩
abbrev S4096x2056 : Shape := ⟨2, ![4096, 2056]⟩
abbrev S4096x8 : Shape := ⟨2, ![4096, 8]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2056, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x128, .bf16⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1024x2056, .f32⟩
  | .hbm, ⟨31, _⟩ => ⟨S4096x2056, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x8, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x8, .bf16⟩
  | .hbm, ⟨41, _⟩ => ⟨S4096x8, .f32⟩
  | .hbm, ⟨42, _⟩ => ⟨S4096x512, .f32⟩
  | .hbm, ⟨43, _⟩ => ⟨S_, .f32⟩
  | .hbm, ⟨44, _⟩ => ⟨S4096x2056, .f32⟩
  | .hbm, ⟨45, _⟩ => ⟨S_, .f32⟩
  | .hbm, ⟨46, _⟩ => ⟨S4096x2056, .f32⟩
  | .hbm, ⟨47, _⟩ => ⟨S4096x2056, .f32⟩
  | .hbm, ⟨48, _⟩ => ⟨S_, .f32⟩
  | .hbm, ⟨49, _⟩ => ⟨S4096x2056, .f32⟩
  | .hbm, ⟨50, _⟩ => ⟨S4096x2056, .f32⟩
  | .hbm, ⟨51, _⟩ => ⟨S_, .f32⟩
  | .hbm, ⟨52, _⟩ => ⟨S4096x2056, .f32⟩
  | .hbm, ⟨53, _⟩ => ⟨S4096x2056, .f32⟩
  | .hbm, ⟨54, _⟩ => ⟨S_, .f32⟩
  | .hbm, ⟨55, _⟩ => ⟨S4096x2056, .f32⟩
  | .hbm, ⟨56, _⟩ => ⟨S4096x2056, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== MlpBwd.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S4x704x4096 : Shape := ⟨3, ![4, 704, 4096]⟩
abbrev S4x4096x704 : Shape := ⟨3, ![4, 4096, 704]⟩
abbrev S512x1024 : Shape := ⟨2, ![512, 1024]⟩
abbrev S1x512x704 : Shape := ⟨3, ![1, 512, 704]⟩
abbrev S1x256x1024 : Shape := ⟨3, ![1, 256, 1024]⟩
abbrev S256x1024 : Shape := ⟨2, ![256, 1024]⟩
abbrev S512x256 : Shape := ⟨2, ![512, 256]⟩
abbrev S1x192x1024 : Shape := ⟨3, ![1, 192, 1024]⟩
abbrev S192x1024 : Shape := ⟨2, ![192, 1024]⟩
abbrev S512x192 : Shape := ⟨2, ![512, 192]⟩
abbrev S1x512x256 : Shape := ⟨3, ![1, 512, 256]⟩
abbrev S1x512x192 : Shape := ⟨3, ![1, 512, 192]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 66
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .f32⟩
  | .hbm, ⟨11, _⟩ => ⟨S2816x1024, .bf16⟩
  | .hbm, ⟨12, _⟩ => ⟨S4x704x1024, .bf16⟩
  | .hbm, ⟨13, _⟩ => ⟨S2816x1024, .bf16⟩
  | .hbm, ⟨14, _⟩ => ⟨S4x704x1024, .bf16⟩
  | .hbm, ⟨15, _⟩ => ⟨S2816x1024, .bf16⟩
  | .hbm, ⟨16, _⟩ => ⟨S4x704x1024, .bf16⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .f32⟩
  | .hbm, ⟨34, _⟩ => ⟨S4x704x1024, .f32⟩
  | .hbm, ⟨35, _⟩ => ⟨S4x704x4096, .f32⟩
  | .hbm, ⟨36, _⟩ => ⟨S4x4096x704, .f32⟩
  | .hbm, ⟨37, _⟩ => ⟨S4x704x1024, .f32⟩
  | .hbm, ⟨38, _⟩ => ⟨S4x704x4096, .f32⟩
  | .hbm, ⟨39, _⟩ => ⟨S4x4096x704, .f32⟩
  | .hbm, ⟨40, _⟩ => ⟨S4x4096x704, .f32⟩
  | .hbm, ⟨41, _⟩ => ⟨S4x4096x704, .f32⟩
  | .hbm, ⟨42, _⟩ => ⟨S_, .f32⟩
  | .hbm, ⟨43, _⟩ => ⟨S4x4096x704, .f32⟩
  | .hbm, ⟨44, _⟩ => ⟨S4x4096x704, .f32⟩
  | .hbm, ⟨45, _⟩ => ⟨S_, .f32⟩
  | .hbm, ⟨46, _⟩ => ⟨S4x4096x704, .f32⟩
  | .hbm, ⟨47, _⟩ => ⟨S4x4096x704, .f32⟩
  | .hbm, ⟨48, _⟩ => ⟨S4x4096x704, .f32⟩
  | .hbm, ⟨49, _⟩ => ⟨S_, .f32⟩
  | .hbm, ⟨50, _⟩ => ⟨S4x4096x704, .f32⟩
  | .hbm, ⟨51, _⟩ => ⟨S4x4096x704, .f32⟩
  | .hbm, ⟨52, _⟩ => ⟨S4x4096x704, .f32⟩
  | .hbm, ⟨53, _⟩ => ⟨S_, .f32⟩
  | .hbm, ⟨54, _⟩ => ⟨S4x4096x704, .f32⟩
  | .hbm, ⟨55, _⟩ => ⟨S4x4096x704, .f32⟩
  | .hbm, ⟨56, _⟩ => ⟨S4x4096x704, .f32⟩
  | .hbm, ⟨57, _⟩ => ⟨S4x4096x704, .f32⟩
  | .hbm, ⟨58, _⟩ => ⟨S4x4096x704, .bf16⟩
  | .hbm, ⟨59, _⟩ => ⟨S4096x1024, .bf16⟩
  | .hbm, ⟨60, _⟩ => ⟨S4x4096x704, .bf16⟩
  | .hbm, ⟨61, _⟩ => ⟨S4x4096x704, .bf16⟩
  | .hbm, ⟨62, _⟩ => ⟨S4x4096x704, .bf16⟩
  | .hbm, ⟨63, _⟩ => ⟨S4096x1024, .f32⟩
  | .hbm, ⟨64, _⟩ => ⟨S4096x1024, .bf16⟩
  | .hbm, ⟨65, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S4x704x1024, .bf16⟩
  | .local _ .vmem, ⟨9, _⟩ => ⟨S4x704x1024, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48_0 : Ref sig .tc := ⟨.hbm, 61, rfl⟩
abbrev main_v48_1 : Ref sig .tc := ⟨.hbm, 62, rfl⟩
abbrev main_v48_2 : Ref sig .tc := ⟨.hbm, 63, rfl⟩
abbrev main_v48_3 : Ref sig .tc := ⟨.hbm, 64, rfl⟩
abbrev main_v48_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v7 : Index := Scalar.indexCast arg1
  let c0_3 : Index := 0#32
  let c0_4 : Index := 0#32
  ![v7.toNat, 0, 0]
def k0_off2 (i : grid0.Coords) : Fin 3 → Nat :=
  let arg1 : BitVec 32 := BitVec.ofNat 32 (i 1).val
  let v11 : Index := Scalar.indexCast arg1
  let c256 : Index := 256#32
  let c0_5 : Index := 0#32
  ![v11.toNat, 256, 0]
def k0_off3 (i : grid0.Coords) : Fin 3 → Nat :=
  let arg1 : BitVec 32 := BitVec.ofNat 32 (i 1).val
  let v15 : Index := Scalar.indexCast arg1
  let c512 : Index := 512#32
  let c0_7 : Index := 0#32
  ![v15.toNat, 512, 0]
def k0_off4 (i : grid0.Coords) : Fin 3 → Nat :=
  let arg1 : BitVec 32 := BitVec.ofNat 32 (i 1).val
  let v69 : Index := Scalar.indexCast arg1
  let c0_48 : Index := 0#32
  let c0_49 : Index := 0#32
  ![v69.toNat, 0, 0]
def k0_cond4 (i : grid0.Coords) : BitVec 1 :=
  let arg1 : BitVec 32 := BitVec.ofNat 32 (i 1).val
  let c3_i32 : BitVec 32 := 3#32
  let v86 : BitVec 1 := Scalar.cmpi .eq arg1 c3_i32
  let v87 : BitVec 32 := Scalar.extui v86
  let c0_i32_61 : BitVec 32 := 0#32
  let v88 : BitVec 1 := Scalar.cmpi .ne v87 c0_i32_61
  v88

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== MlpBwdRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4096x2816 : Shape := ⟨2, ![4096, 2816]⟩
abbrev S1024 : Shape := ⟨1, ![1024]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S4096x4x704 : Shape := ⟨3, ![4096, 4, 704]⟩
abbrev S4x4096x704 : Shape := ⟨3, ![4, 4096, 704]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S4096x2816, .f32⟩
  | .hbm, ⟨31, _⟩ => ⟨S4096x2816, .f32⟩
  | .hbm, ⟨32, _⟩ => ⟨S1024x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S2816x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S1x1024, .f32⟩
  | .hbm, ⟨90, _⟩ => ⟨S4096x4x704, .f32⟩
  | .hbm, ⟨91, _⟩ => ⟨S4x4096x704, .f32⟩
  | .hbm, ⟨92, _⟩ => ⟨S4x4096x704, .bf16⟩
  | .hbm, ⟨93, _⟩ => ⟨S4096x4x704, .f32⟩
  | .hbm, ⟨94, _⟩ => ⟨S4x4096x704, .f32⟩
  | .hbm, ⟨95, _⟩ => ⟨S4x4096x704, .bf16⟩
  | .hbm, ⟨96, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== MlpLoss.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S8x128 : Shape := ⟨2, ![8, 128]⟩
abbrev S4x4096x704 : Shape := ⟨3, ![4, 4096, 704]⟩
abbrev S512x1024 : Shape := ⟨2, ![512, 1024]⟩
abbrev S1x512x704 : Shape := ⟨3, ![1, 512, 704]⟩
abbrev S1x256x1024 : Shape := ⟨3, ![1, 256, 1024]⟩
abbrev S256x1024 : Shape := ⟨2, ![256, 1024]⟩
abbrev S512x256 : Shape := ⟨2, ![512, 256]⟩
abbrev S1x192x1024 : Shape := ⟨3, ![1, 192, 1024]⟩
abbrev S192x1024 : Shape := ⟨2, ![192, 1024]⟩
abbrev S512x192 : Shape := ⟨2, ![512, 192]⟩
abbrev S1x512x256 : Shape := ⟨3, ![1, 512, 256]⟩
abbrev S1x512x192 : Shape := ⟨3, ![1, 512, 192]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 26
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .f32⟩
  | .hbm, ⟨12, _⟩ => ⟨S2816x1024, .bf16⟩
  | .hbm, ⟨13, _⟩ => ⟨S4x704x1024, .bf16⟩
  | .hbm, ⟨14, _⟩ => ⟨S2816x1024, .bf16⟩
  | .hbm, ⟨15, _⟩ => ⟨S4x704x1024, .bf16⟩
  | .hbm, ⟨16, _⟩ => ⟨S2816x1024, .bf16⟩
  | .hbm, ⟨17, _⟩ => ⟨S4x704x1024, .bf16⟩
  | .hbm, ⟨18, _⟩ => ⟨S1x1024, .f32⟩
  | .hbm, ⟨19, _⟩ => ⟨S8x128, .f32⟩
  | .hbm, ⟨20, _⟩ => ⟨S1x1024, .f32⟩
  | .hbm, ⟨21, _⟩ => ⟨S4096x1024, .f32⟩
  | .hbm, ⟨22, _⟩ => ⟨S4096x1024, .bf16⟩
  | .hbm, ⟨23, _⟩ => ⟨S4x4096x704, .bf16⟩
  | .hbm, ⟨24, _⟩ => ⟨S4x4096x704, .bf16⟩
  | .hbm, ⟨25, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x704x1024, .bf16⟩
  | .local _ .vmem, ⟨5, _⟩ => ⟨S4x704x1024, .bf16⟩
  | .local _ .vmem, ⟨6, _⟩ => ⟨S4x704x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x128, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v6 : Index := Scalar.indexCast arg1
  let c0_3 : Index := 0#32
  let c0_4 : Index := 0#32
  ![v6.toNat, 0, 0]
def k0_off2 (i : grid0.Coords) : Fin 3 → Nat :=
  let arg1 : BitVec 32 := BitVec.ofNat 32 (i 1).val
  let v14 : Index := Scalar.indexCast arg1
  let c256 : Index := 256#32
  let c0_8 : Index := 0#32
  ![v14.toNat, 256, 0]
def k0_off3 (i : grid0.Coords) : Fin 3 → Nat :=
  let arg1 : BitVec 32 := BitVec.ofNat 32 (i 1).val
  let v22 : Index := Scalar.indexCast arg1
  let c512 : Index := 512#32
  let c0_13 : Index := 0#32
  ![v22.toNat, 512, 0]
def k0_off4 (i : grid0.Coords) : Fin 3 → Nat :=
  let arg1 : BitVec 32 := BitVec.ofNat 32 (i 1).val
  let v98 : Index := Scalar.indexCast arg1
  let c0_54 : Index := 0#32
  let c0_55 : Index := 0#32
  ![v98.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond4 (i : grid0.Coords) : BitVec 1 :=
  let arg1 : BitVec 32 := BitVec.ofNat 32 (i 1).val
  let c3_i32 : BitVec 32 := 3#32
  let v108 : BitVec 1 := Scalar.cmpi .eq arg1 c3_i32
  let v109 : BitVec 32 := Scalar.extui v108
  let c0_i32_61 : BitVec 32 := 0#32
  let v110 : BitVec 1 := Scalar.cmpi .ne v109 c0_i32_61
  v110

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MlpLossRefIdeal.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S2816x1024 : Shape := ⟨2, ![2816, 1024]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩
abbrev S4096x4x704 : Shape := ⟨3, ![4096, 4, 704]⟩
abbrev S4x4096x704 : Shape := ⟨3, ![4, 4096, 704]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1024x2816, .f32⟩
  | .hbm, ⟨9, _⟩ => ⟨S4096x2816, .f32⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S2816x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x2816, .f32⟩
  | .hbm, ⟨94, _⟩ => ⟨S4096x2816, .f32⟩
  | .hbm, ⟨95, _⟩ => ⟨S_, .f32⟩
  | .hbm, ⟨96, _⟩ => ⟨S4096x2816, .f32⟩
  | .hbm, ⟨97, _⟩ => ⟨S4096x2816, .f32⟩
  | .hbm, ⟨98, _⟩ => ⟨S_, .f32⟩
  | .hbm, ⟨99, _⟩ => ⟨S4096x2816, .f32⟩
  | .hbm, ⟨100, _⟩ => ⟨S4096x2816, .f32⟩
  | .hbm, ⟨101, _⟩ => ⟨S_, .f32⟩
  | .hbm, ⟨102, _⟩ => ⟨S4096x2816, .f32⟩
  | .hbm, ⟨103, _⟩ => ⟨S4096x2816, .f32⟩
  | .hbm, ⟨104, _⟩ => ⟨S4096x2816, .f32⟩
  | .hbm, ⟨105, _⟩ => ⟨S4096x2816, .f32⟩
  | .hbm, ⟨106, _⟩ => ⟨S8x128, .f32⟩
  | .hbm, ⟨107, _⟩ => ⟨S1x1024, .f32⟩
  | .hbm, ⟨108, _⟩ => ⟨S4096x1024, .bf16⟩
  | .hbm, ⟨109, _⟩ => ⟨S4096x2816, .f32⟩
  | .hbm, ⟨110, _⟩ => ⟨S4096x2816, .f32⟩
  | .hbm, ⟨111, _⟩ => ⟨S4096x2816, .f32⟩
  | .hbm, ⟨112, _⟩ => ⟨S4096x2816, .f32⟩
  | .hbm, ⟨113, _⟩ => ⟨S4096x4x704, .f32⟩
  | .hbm, ⟨114, _⟩ => ⟨S4x4096x704, .f32⟩
  | .hbm, ⟨115, _⟩ => ⟨S4x4096x704, .bf16⟩
  | .hbm, ⟨116, _⟩ => ⟨S4096x4x704, .f32⟩
  | .hbm, ⟨117, _⟩ => ⟨S4x4096x704, .f32⟩
  | .hbm, ⟨118, _⟩ => ⟨S4x4096x704, .bf16⟩
  | .hbm, ⟨119, _⟩ => ⟨S4096x2816, .f32⟩
  | .hbm, ⟨120, _⟩ => ⟨S4096x4x704, .f32⟩
  | .hbm, ⟨121, _⟩ => ⟨S4x4096x704, .f32⟩
  | .hbm, ⟨122, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_cst_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_v61_2 : Ref sig .tc := ⟨.hbm, 100, rfl⟩
abbrev main_call1_cst_1 : Ref sig .tc := ⟨.hbm, 101, rfl⟩
abbrev main_call1_v6 : Ref sig .tc := ⟨.hbm, 102, rfl⟩
abbrev main_call1_v7 : Ref sig .tc := ⟨.hbm, 103, rfl⟩
abbrev main_v61_1 : Ref sig .tc := ⟨.hbm, 104, rfl⟩
abbrev main_v61_0 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩

abbrev nD : Nat := 1
abbrev τ : Topo := Topo.v7x

variable {F : FTy → Type} [FloatOps F]
-- ==== PoolBwd.lean ====
abbrev S4096x512 : Shape := ⟨2, ![4096, 512]⟩
abbrev S1x4x128x128 : Shape := ⟨4, ![1, 4, 128, 128]⟩
abbrev S1x512 : Shape := ⟨2, ![1, 512]⟩
abbrev S4096x128 : Shape := ⟨2, ![4096, 128]⟩
abbrev S_ : Shape := ⟨0, ![]⟩
abbrev S1x128 : Shape := ⟨2, ![1, 128]⟩
abbrev S4095x128 : Shape := ⟨2, ![4095, 128]⟩
abbrev S4096x1 : Shape := ⟨2, ![4096, 1]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S4x128x128 : Shape := ⟨3, ![4, 128, 128]⟩
abbrev S1024x512 : Shape := ⟨2, ![1024, 512]⟩
abbrev S1056x512 : Shape := ⟨2, ![1056, 512]⟩
abbrev S2x1056x128 : Shape := ⟨3, ![2, 1056, 128]⟩
abbrev S32x512 : Shape := ⟨2, ![32, 512]⟩
abbrev S1024x1 : Shape := ⟨2, ![1024, 1]⟩
abbrev S1024x128 : Shape := ⟨2, ![1024, 128]⟩
abbrev S1x128x128 : Shape := ⟨3, ![1, 128, 128]⟩
abbrev S128x128 : Shape := ⟨2, ![128, 128]⟩
abbrev S128 : Shape := ⟨1, ![128]⟩
abbrev S1048x128 : Shape := ⟨2, ![1048, 128]⟩
abbrev S1x1048x128 : Shape := ⟨3, ![1, 1048, 128]⟩
abbrev S1x1024x128 : Shape := ⟨3, ![1, 1024, 128]⟩
abbrev S1x1040x128 : Shape := ⟨3, ![1, 1040, 128]⟩
abbrev S1040x128 : Shape := ⟨2, ![1040, 128]⟩
abbrev S1x1032x128 : Shape := ⟨3, ![1, 1032, 128]⟩
abbrev S1032x128 : Shape := ⟨2, ![1032, 128]⟩

abbrev nBuf : Space → Nat
  | .hbm => 109
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S1x4x128x128, .f32⟩
  | .hbm, ⟨2, _⟩ => ⟨S1x512, .f32⟩
  | .hbm, ⟨3, _⟩ => ⟨S4096x512, .f32⟩
  | .hbm, ⟨4, _⟩ => ⟨S4096x128, .f32⟩
  | .hbm, ⟨5, _⟩ => ⟨S_, .f32⟩
  | .hbm, ⟨6, _⟩ => ⟨S1x128, .f32⟩
  | .hbm, ⟨7, _⟩ => ⟨S4095x128, .f32⟩
  | .hbm, ⟨8, _⟩ => ⟨S4096x128, .f32⟩
  | .hbm, ⟨9, _⟩ => ⟨S4096x128, .f32⟩
  | .hbm, ⟨10, _⟩ => ⟨S4096x1, .i32⟩
  | .hbm, ⟨11, _⟩ => ⟨S_, .i32⟩
  | .hbm, ⟨12, _⟩ => ⟨S4096x1, .i32⟩
  | .hbm, ⟨13, _⟩ => ⟨S4096x1, .i32⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S4096x1, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S1x128, .f32⟩
  | .hbm, ⟨24, _⟩ => ⟨S4095x128, .f32⟩
  | .hbm, ⟨25, _⟩ => ⟨S4096x128, .f32⟩
  | .hbm, ⟨26, _⟩ => ⟨S4096x128, .f32⟩
  | .hbm, ⟨27, _⟩ => ⟨S_, .f32⟩
  | .hbm, ⟨28, _⟩ => ⟨S2x128, .f32⟩
  | .hbm, ⟨29, _⟩ => ⟨S4094x128, .f32⟩
  | .hbm, ⟨30, _⟩ => ⟨S4096x128, .f32⟩
  | .hbm, ⟨31, _⟩ => ⟨S4096x128, .f32⟩
  | .hbm, ⟨32, _⟩ => ⟨S4096x1, .i32⟩
  | .hbm, ⟨33, _⟩ => ⟨S_, .i32⟩
  | .hbm, ⟨34, _⟩ => ⟨S4096x1, .i32⟩
  | .hbm, ⟨35, _⟩ => ⟨S4096x1, .i32⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x1, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S_, .f32⟩
  | .hbm, ⟨45, _⟩ => ⟨S1x128, .f32⟩
  | .hbm, ⟨46, _⟩ => ⟨S4095x128, .f32⟩
  | .hbm, ⟨47, _⟩ => ⟨S4096x128, .f32⟩
  | .hbm, ⟨48, _⟩ => ⟨S4096x128, .f32⟩
  | .hbm, ⟨49, _⟩ => ⟨S_, .f32⟩
  | .hbm, ⟨50, _⟩ => ⟨S2x128, .f32⟩
  | .hbm, ⟨51, _⟩ => ⟨S4094x128, .f32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S4x128, .f32⟩
  | .hbm, ⟨56, _⟩ => ⟨S4092x128, .f32⟩
  | .hbm, ⟨57, _⟩ => ⟨S4096x128, .f32⟩
  | .hbm, ⟨58, _⟩ => ⟨S4096x128, .f32⟩
  | .hbm, ⟨59, _⟩ => ⟨S4096x1, .i32⟩
  | .hbm, ⟨60, _⟩ => ⟨S_, .i32⟩
  | .hbm, ⟨61, _⟩ => ⟨S4096x1, .i32⟩
  | .hbm, ⟨62, _⟩ => ⟨S4096x1, .i32⟩
  | .hbm, ⟨63, _⟩ => ⟨S_, .i32⟩
  | .hbm, ⟨64, _⟩ => ⟨S4096x1, .i32⟩
  | .hbm, ⟨65, _⟩ => ⟨S4096x1, .i32⟩
  | .hbm, ⟨66, _⟩ => ⟨S4096x1, .f32⟩
  | .hbm, ⟨67, _⟩ => ⟨S4096x128, .f32⟩
  | .hbm, ⟨68, _⟩ => ⟨S4096x128, .f32⟩
  | .hbm, ⟨69, _⟩ => ⟨S4096x128, .f32⟩
  | .hbm, ⟨70, _⟩ => ⟨S4096x128, .f32⟩
  | .hbm, ⟨71, _⟩ => ⟨S_, .f32⟩
  | .hbm, ⟨72, _⟩ => ⟨S1x128, .f32⟩
  | .hbm, ⟨73, _⟩ => ⟨S4095x128, .f32⟩
  | .hbm, ⟨74, _⟩ => ⟨S4096x128, .f32⟩
  | .hbm, ⟨75, _⟩ => ⟨S4096x128, .f32⟩
  | .hbm, ⟨76, _⟩ => ⟨S_, .f32⟩
  | .hbm, ⟨77, _⟩ => ⟨S2x128, .f32⟩
  | .hbm, ⟨78, _⟩ => ⟨S4094x128, .f32⟩
  | .hbm, ⟨79, _⟩ => ⟨S4096x128, .f32⟩
  | .hbm, ⟨80, _⟩ => ⟨S4096x128, .f32⟩
  | .hbm, ⟨81, _⟩ => ⟨S_, .f32⟩
  | .hbm, ⟨82, _⟩ => ⟨S4x128, .f32⟩
  | .hbm, ⟨83, _⟩ => ⟨S4092x128, .f32⟩
  | .hbm, ⟨84, _⟩ => ⟨S4096x128, .f32⟩
  | .hbm, ⟨85, _⟩ => ⟨S4096x128, .f32⟩
  | .hbm, ⟨86, _⟩ => ⟨S_, .f32⟩
  | .hbm, ⟨87, _⟩ => ⟨S8x128, .f32⟩
  | .hbm, ⟨88, _⟩ => ⟨S4088x128, .f32⟩
  | .hbm, ⟨89, _⟩ => ⟨S4096x128, .f32⟩
  | .hbm, ⟨90, _⟩ => ⟨S4096x128, .f32⟩
  | .hbm, ⟨91, _⟩ => ⟨S4096x1, .i32⟩
  | .hbm, ⟨92, _⟩ => ⟨S_, .i32⟩
  | .hbm, ⟨93, _⟩ => ⟨S4096x1, .i32⟩
  | .hbm, ⟨94, _⟩ => ⟨S4096x1, .i32⟩
  | .hbm, ⟨95, _⟩ => ⟨S_, .i32⟩
  | .hbm, ⟨96, _⟩ => ⟨S4096x1, .i32⟩
  | .hbm, ⟨97, _⟩ => ⟨S4096x1, .i32⟩
  | .hbm, ⟨98, _⟩ => ⟨S4096x1, .f32⟩
  | .hbm, ⟨99, _⟩ => ⟨S4096x128, .f32⟩
  | .hbm, ⟨100, _⟩ => ⟨S4096x128, .f32⟩
  | .hbm, ⟨101, _⟩ => ⟨S4096x128, .f32⟩
  | .hbm, ⟨102, _⟩ => ⟨S4096x512, .f32⟩
  | .hbm, ⟨103, _⟩ => ⟨S4096x512, .bf16⟩
  | .hbm, ⟨104, _⟩ => ⟨S4x128x128, .f32⟩
  | .hbm, ⟨105, _⟩ => ⟨S4x128x128, .bf16⟩
  | .hbm, ⟨106, _⟩ => ⟨S4096x512, .bf16⟩
  | .hbm, ⟨107, _⟩ => ⟨S1x512, .f32⟩
  | .hbm, ⟨108, _⟩ => ⟨S4x128x128, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S4x128x128, .bf16⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x512, .f32⟩
  | .local _ .vmem, ⟨9, _⟩ => ⟨S4x128x128, .f32⟩
  | .local _ .vmem, ⟨10, _⟩ => ⟨S1056x512, .f32⟩
  | .local _ .vmem, ⟨11, _⟩ => ⟨S2x1056x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_14 : Ref sig .tc := ⟨.hbm, 92, rfl⟩
abbrev main_v72 : Ref sig .tc := ⟨.hbm, 93, rfl⟩
abbrev main_v73 : Ref sig .tc := ⟨.hbm, 94, rfl⟩
abbrev main_c_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84_0 : Ref sig .tc := ⟨.hbm, 106, rfl⟩
abbrev main_v84_1 : Ref sig .tc := ⟨.hbm, 107, rfl⟩
abbrev main_v84_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolBwdRefIdeal.lean ====
abbrev S4096x512 : Shape := ⟨2, ![4096, 512]⟩
abbrev S1x4x128x128 : Shape := ⟨4, ![1, 4, 128, 128]⟩
abbrev S1x512 : Shape := ⟨2, ![1, 512]⟩
abbrev S1x4096x512 : Shape := ⟨3, ![1, 4096, 512]⟩
abbrev S4x128x128 : Shape := ⟨3, ![4, 128, 128]⟩
abbrev S512 : Shape := ⟨1, ![512]⟩
abbrev S_ : Shape := ⟨0, ![]⟩
abbrev S1x1x512 : Shape := ⟨3, ![1, 1, 512]⟩
abbrev S1x4097x512 : Shape := ⟨3, ![1, 4097, 512]⟩
abbrev S4096 : Shape := ⟨1, ![4096]⟩
abbrev S1x4097x128 : Shape := ⟨3, ![1, 4097, 128]⟩
abbrev S1x4096x128 : Shape := ⟨3, ![1, 4096, 128]⟩
abbrev S4096x1 : Shape := ⟨2, ![4096, 1]⟩
abbrev S1x4096x1 : Shape := ⟨3, ![1, 4096, 1]⟩
abbrev S1x4096x1x128 : Shape := ⟨4, ![1, 4096, 1, 128]⟩
abbrev S1x4096x4x128 : Shape := ⟨4, ![1, 4096, 4, 128]⟩
abbrev S4x128x1x4096 : Shape := ⟨4, ![4, 128, 1, 4096]⟩
abbrev S4x1x4096x128 : Shape := ⟨4, ![4, 1, 4096, 128]⟩

abbrev nBuf : Space → Nat
  | .hbm => 249
  | .vmem => 0
  | .smem => 0
  | _ => 0

abbrev hbmTy0_0 (i : Nat) : BufTy := match i % 128 with
  | 0 => ⟨S4096x512, .f32⟩
  | 1 => ⟨S1x4x128x128, .f32⟩
  | 2 => ⟨S1x512, .f32⟩
  | 3 => ⟨S4096x512, .f32⟩
  | 4 => ⟨S1x4096x512, .f32⟩
  | 5 => ⟨S4x128x128, .f32⟩
  | 6 => ⟨S512, .f32⟩
  | 7 => ⟨S_, .f32⟩
  | 8 => ⟨S1x1x512, .f32⟩
  | 9 => ⟨S_, .f32⟩
  | 10 => ⟨S_, .f32⟩
  | 11 => ⟨S1x4096x512, .f32⟩
  | 12 => ⟨S1x4097x512, .f32⟩
  | 13 => ⟨S_, .f32⟩
  | 14 => ⟨S1x1x512, .f32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S1x4097x128, .f32⟩
  | 26 => ⟨S1x4096x128, .f32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S1x4096x128, .f32⟩
  | 36 => ⟨S1x4096x128, .f32⟩
  | 37 => ⟨S_, .i32⟩
  | 38 => ⟨S4096, .i32⟩
  | 39 => ⟨S4096, .i32⟩
  | 40 => ⟨S4096, .i32⟩
  | 41 => ⟨S4096, .f32⟩
  | 42 => ⟨S1x4096x1, .f32⟩
  | 43 => ⟨S1x4096x128, .f32⟩
  | 44 => ⟨S1x4096x128, .f32⟩
  | 45 => ⟨S1x4096x128, .f32⟩
  | 46 => ⟨S1x4096x128, .f32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S1x4097x128, .f32⟩
  | 57 => ⟨S1x4096x128, .f32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S1x4096x128, .f32⟩
  | 67 => ⟨S1x4096x128, .f32⟩
  | 68 => ⟨S_, .i32⟩
  | 69 => ⟨S4096, .i32⟩
  | 70 => ⟨S4096, .i32⟩
  | 71 => ⟨S4096, .i32⟩
  | 72 => ⟨S4096, .f32⟩
  | 73 => ⟨S1x4096x1, .f32⟩
  | 74 => ⟨S1x4096x128, .f32⟩
  | 75 => ⟨S1x4096x128, .f32⟩
  | 76 => ⟨S1x4096x128, .f32⟩
  | 77 => ⟨S1x4096x128, .f32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S1x4097x128, .f32⟩
  | 88 => ⟨S1x4096x128, .f32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S4096x1, .i32⟩
  | 97 => ⟨S1x4096x128, .f32⟩
  | 98 => ⟨S1x4096x128, .f32⟩
  | 99 => ⟨S_, .i32⟩
  | 100 => ⟨S4096, .i32⟩
  | 101 => ⟨S4096, .i32⟩
  | 102 => ⟨S4096, .i32⟩
  | 103 => ⟨S4096, .f32⟩
  | 104 => ⟨S1x4096x1, .f32⟩
  | 105 => ⟨S1x4096x128, .f32⟩
  | 106 => ⟨S1x4096x128, .f32⟩
  | 107 => ⟨S1x4096x128, .f32⟩
  | 108 => ⟨S1x4096x128, .f32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S_, .i32⟩
  | 116 => ⟨S4096, .i32⟩
  | 117 => ⟨S4096, .i32⟩
  | 118 => ⟨S1x4097x128, .f32⟩
  | 119 => ⟨S1x4096x128, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S4096x512, .f32⟩

abbrev hbmTy0_1 (i : Nat) : BufTy := match i % 128 with
  | 0 => ⟨S1x4096x128, .f32⟩
  | 1 => ⟨S1x4096x128, .f32⟩
  | 2 => ⟨S_, .i32⟩
  | 3 => ⟨S4096, .i32⟩
  | 4 => ⟨S4096, .i32⟩
  | 5 => ⟨S4096, .i32⟩
  | 6 => ⟨S4096, .f32⟩
  | 7 => ⟨S1x4096x1, .f32⟩
  | 8 => ⟨S1x4096x128, .f32⟩
  | 9 => ⟨S1x4096x128, .f32⟩
  | 10 => ⟨S1x4096x128, .f32⟩
  | 11 => ⟨S1x4096x128, .f32⟩
  | 12 => ⟨S1x4096x1x128, .f32⟩
  | 13 => ⟨S1x4096x1x128, .f32⟩
  | 14 => ⟨S1x4096x1x128, .f32⟩
  | 15 => ⟨S1x4096x1x128, .f32⟩
  | 16 => ⟨S1x4096x4x128, .f32⟩
  | 17 => ⟨S4x128x1x4096, .f32⟩
  | 18 => ⟨S1x4096x4x128, .f32⟩
  | 19 => ⟨S1x4096x512, .f32⟩
  | 20 => ⟨S1x1x512, .f32⟩
  | 21 => ⟨S1x4096x512, .f32⟩
  | 22 => ⟨S1x4096x512, .f32⟩
  | 23 => ⟨S4096x512, .f32⟩
  | 24 => ⟨S1x4096x512, .f32⟩
  | 25 => ⟨S1x4096x512, .f32⟩
  | 26 => ⟨S_, .f32⟩
  | 27 => ⟨S1x512, .f32⟩
  | 28 => ⟨S1x1x512, .f32⟩
  | 29 => ⟨S1x4096x512, .f32⟩
  | 30 => ⟨S1x4096x512, .f32⟩
  | 31 => ⟨S_, .f32⟩
  | 32 => ⟨S512, .f32⟩
  | 33 => ⟨S1x4096x4x128, .f32⟩
  | 34 => ⟨S4x128x1x4096, .f32⟩
  | 35 => ⟨S4x1x4096x128, .f32⟩
  | 36 => ⟨S1x4096x4x128, .f32⟩
  | 37 => ⟨S4x128x128, .f32⟩
  | 38 => ⟨S4x128x128, .f32⟩
  | 39 => ⟨S1x4096x1x128, .f32⟩
  | 40 => ⟨S1x4096x128, .f32⟩
  | 41 => ⟨S1x4096x1x128, .f32⟩
  | 42 => ⟨S1x4096x128, .f32⟩
  | 43 => ⟨S1x4096x1x128, .f32⟩
  | 44 => ⟨S1x4096x128, .f32⟩
  | 45 => ⟨S1x4096x1x128, .f32⟩
  | 46 => ⟨S1x4096x128, .f32⟩
  | 47 => ⟨S1x4096x128, .f32⟩
  | 48 => ⟨S_, .f32⟩
  | 49 => ⟨S1x4096x512, .f32⟩
  | 50 => ⟨S1x4096x128, .f32⟩
  | 51 => ⟨S1x4096x128, .f32⟩
  | 52 => ⟨S1x4096x128, .f32⟩
  | 53 => ⟨S_, .f32⟩
  | 54 => ⟨S1x4097x128, .f32⟩
  | 55 => ⟨S1x4097x128, .f32⟩
  | 56 => ⟨S_, .f32⟩
  | 57 => ⟨S1x4097x128, .f32⟩
  | 58 => ⟨S1x4097x128, .f32⟩
  | 59 => ⟨S_, .f32⟩
  | 60 => ⟨S1x4097x512, .f32⟩
  | 61 => ⟨S1x4096x128, .f32⟩
  | 62 => ⟨S_, .f32⟩
  | 63 => ⟨S1x4096x512, .f32⟩
  | 64 => ⟨S1x4096x512, .f32⟩
  | 65 => ⟨S1x4096x128, .f32⟩
  | 66 => ⟨S1x4096x128, .f32⟩
  | 67 => ⟨S1x4096x128, .f32⟩
  | 68 => ⟨S_, .f32⟩
  | 69 => ⟨S1x4097x128, .f32⟩
  | 70 => ⟨S1x4097x128, .f32⟩
  | 71 => ⟨S_, .f32⟩
  | 72 => ⟨S1x4097x128, .f32⟩
  | 73 => ⟨S1x4097x128, .f32⟩
  | 74 => ⟨S_, .f32⟩
  | 75 => ⟨S1x4097x512, .f32⟩
  | 76 => ⟨S1x4097x512, .f32⟩
  | 77 => ⟨S1x4096x128, .f32⟩
  | 78 => ⟨S_, .f32⟩
  | 79 => ⟨S1x4096x512, .f32⟩
  | 80 => ⟨S1x4096x512, .f32⟩
  | 81 => ⟨S1x4096x128, .f32⟩
  | 82 => ⟨S1x4096x128, .f32⟩
  | 83 => ⟨S1x4096x128, .f32⟩
  | 84 => ⟨S_, .f32⟩
  | 85 => ⟨S1x4097x128, .f32⟩
  | 86 => ⟨S1x4097x128, .f32⟩
  | 87 => ⟨S_, .f32⟩
  | 88 => ⟨S1x4097x128, .f32⟩
  | 89 => ⟨S1x4097x128, .f32⟩
  | 90 => ⟨S_, .f32⟩
  | 91 => ⟨S1x4097x512, .f32⟩
  | 92 => ⟨S1x4097x512, .f32⟩
  | 93 => ⟨S1x4096x128, .f32⟩
  | 94 => ⟨S_, .f32⟩
  | 95 => ⟨S1x4096x512, .f32⟩
  | 96 => ⟨S1x4096x512, .f32⟩
  | 97 => ⟨S1x4096x128, .f32⟩
  | 98 => ⟨S1x4096x128, .f32⟩
  | 99 => ⟨S1x4096x128, .f32⟩
  | 100 => ⟨S_, .f32⟩
  | 101 => ⟨S1x4097x128, .f32⟩
  | 102 => ⟨S1x4097x128, .f32⟩
  | 103 => ⟨S_, .f32⟩
  | 104 => ⟨S1x4097x128, .f32⟩
  | 105 => ⟨S1x4097x128, .f32⟩
  | 106 => ⟨S_, .f32⟩
  | 107 => ⟨S1x4097x512, .f32⟩
  | 108 => ⟨S1x4097x512, .f32⟩
  | 109 => ⟨S1x1x512, .f32⟩
  | 110 => ⟨S1x4096x512, .f32⟩
  | 111 => ⟨S_, .f32⟩
  | 112 => ⟨S_, .f32⟩
  | 113 => ⟨S1x4096x512, .f32⟩
  | 114 => ⟨S1x4096x512, .f32⟩
  | 115 => ⟨S1x512, .f32⟩
  | 116 => ⟨S1x4x128x128, .f32⟩
  | 117 => ⟨S_, .f32⟩
  | 118 => ⟨S4096x512, .f32⟩
  | 119 => ⟨S4096x512, .bf16⟩
  | 120 => ⟨S4x128x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_c_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_18 : Ref sig .tc := ⟨.hbm, 109, rfl⟩
abbrev main_v83 : Ref sig .tc := ⟨.hbm, 110, rfl⟩
abbrev main_v84 : Ref sig .tc := ⟨.hbm, 111, rfl⟩
abbrev main_c_19 : Ref sig .tc := ⟨.hbm, 112, rfl⟩
abbrev main_v85 : Ref sig .tc := ⟨.hbm, 113, rfl⟩
abbrev main_v86 : Ref sig .tc := ⟨.hbm, 114, rfl⟩
abbrev main_c_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_21 : Ref sig .tc := ⟨.hbm, 120, rfl⟩
abbrev main_v91 : Ref sig .tc := ⟨.hbm, 121, rfl⟩
abbrev main_v92 : Ref sig .tc := ⟨.hbm, 122, rfl⟩
abbrev main_c_22 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_23 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_24 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_25 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_26 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_27 : Ref sig .tc := ⟨.hbm, 181, rfl⟩
abbrev main_v146 : Ref sig .tc := ⟨.hbm, 182, rfl⟩
abbrev main_v147 : Ref sig .tc := ⟨.hbm, 183, rfl⟩
abbrev main_cst_28 : Ref sig .tc := ⟨.hbm, 184, rfl⟩
abbrev main_v148 : Ref sig .tc := ⟨.hbm, 185, rfl⟩
abbrev main_v149 : Ref sig .tc := ⟨.hbm, 186, rfl⟩
abbrev main_cst_29 : Ref sig .tc := ⟨.hbm, 187, rfl⟩
abbrev main_v150 : Ref sig .tc := ⟨.hbm, 188, rfl⟩
abbrev main_v151 : Ref sig .tc := ⟨.hbm, 189, rfl⟩
abbrev main_cst_30 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_31 : Ref sig .tc := ⟨.hbm, 196, rfl⟩
abbrev main_v157 : Ref sig .tc := ⟨.hbm, 197, rfl⟩
abbrev main_v158 : Ref sig .tc := ⟨.hbm, 198, rfl⟩
abbrev main_cst_32 : Ref sig .tc := ⟨.hbm, 199, rfl⟩
abbrev main_v159 : Ref sig .tc := ⟨.hbm, 200, rfl⟩
abbrev main_v160 : Ref sig .tc := ⟨.hbm, 201, rfl⟩
abbrev main_cst_33 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_34 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_cst_35 : Ref sig .tc := ⟨.hbm, 212, rfl⟩
abbrev main_v169 : Ref sig .tc := ⟨.hbm, 213, rfl⟩
abbrev main_v170 : Ref sig .tc := ⟨.hbm, 214, rfl⟩
abbrev main_cst_36 : Ref sig .tc := ⟨.hbm, 215, rfl⟩
abbrev main_v171 : Ref sig .tc := ⟨.hbm, 216, rfl⟩
abbrev main_v172 : Ref sig .tc := ⟨.hbm, 217, rfl⟩
abbrev main_cst_37 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_38 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_cst_39 : Ref sig .tc := ⟨.hbm, 228, rfl⟩
abbrev main_v181 : Ref sig .tc := ⟨.hbm, 229, rfl⟩
abbrev main_v182 : Ref sig .tc := ⟨.hbm, 230, rfl⟩
abbrev main_cst_40 : Ref sig .tc := ⟨.hbm, 231, rfl⟩
abbrev main_v183 : Ref sig .tc := ⟨.hbm, 232, rfl⟩
abbrev main_v184 : Ref sig .tc := ⟨.hbm, 233, rfl⟩
abbrev main_cst_41 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_call1_call0_cst : Ref sig .tc := ⟨.hbm, 239, rfl⟩
abbrev main_call1_call0_v0 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_42 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩

abbrev nD : Nat := 1
abbrev τ : Topo := Topo.v7x

variable {F : FTy → Type} [FloatOps F]
-- ==== RmsInproj.lean ====
abbrev S4096x1024 : Shape := ⟨2, ![4096, 1024]⟩
abbrev S1x1024 : Shape := ⟨2, ![1, 1024]⟩
abbrev S1x1024x2056 : Shape := ⟨3, ![1, 1024, 2056]⟩
abbrev S1024x2056 : Shape := ⟨2, ![1024, 2056]⟩
abbrev S2056x1024 : Shape := ⟨2, ![2056, 1024]⟩
abbrev S1536x1024 : Shape := ⟨2, ![1536, 1024]⟩
abbrev S512x1024 : Shape := ⟨2, ![512, 1024]⟩
abbrev S8x1024 : Shape := ⟨2, ![8, 1024]⟩
abbrev S_ : Shape := ⟨0, ![]⟩
abbrev S120x1024 : Shape := ⟨2, ![120, 1024]⟩
abbrev S2176x1024 : Shape := ⟨2, ![2176, 1024]⟩
abbrev S8x128 : Shape := ⟨2, ![8, 128]⟩
abbrev S4096x1536 : Shape := ⟨2, ![4096, 1536]⟩
abbrev S4096x512 : Shape := ⟨2, ![4096, 512]⟩
abbrev S4096x128 : Shape := ⟨2, ![4096, 128]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x1024 : Shape := ⟨2, ![128, 1024]⟩

abbrev nBuf : Space → Nat
  | .hbm => 18
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2056, .f32⟩
  | .hbm, ⟨3, _⟩ => ⟨S1024x2056, .f32⟩
  | .hbm, ⟨4, _⟩ => ⟨S2056x1024, .f32⟩
  | .hbm, ⟨5, _⟩ => ⟨S2056x1024, .bf16⟩
  | .hbm, ⟨6, _⟩ => ⟨S1536x1024, .bf16⟩
  | .hbm, ⟨7, _⟩ => ⟨S512x1024, .bf16⟩
  | .hbm, ⟨8, _⟩ => ⟨S8x1024, .bf16⟩
  | .hbm, ⟨9, _⟩ => ⟨S_, .bf16⟩
  | .hbm, ⟨10, _⟩ => ⟨S120x1024, .bf16⟩
  | .hbm, ⟨11, _⟩ => ⟨S2176x1024, .bf16⟩
  | .hbm, ⟨12, _⟩ => ⟨S_, .f32⟩
  | .hbm, ⟨13, _⟩ => ⟨S8x128, .f32⟩
  | .hbm, ⟨14, _⟩ => ⟨S4096x1024, .bf16⟩
  | .hbm, ⟨15, _⟩ => ⟨S4096x1536, .bf16⟩
  | .hbm, ⟨16, _⟩ => ⟨S4096x512, .f32⟩
  | .hbm, ⟨17, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2176x1024, .bf16⟩
  | .local _ .vmem, ⟨4, _⟩ => ⟨S8x128, .f32⟩
  | .local _ .vmem, ⟨5, _⟩ => ⟨S512x1024, .bf16⟩
  | .local _ .vmem, ⟨6, _⟩ => ⟨S512x1024, .bf16⟩
  | .local _ .vmem, ⟨7, _⟩ => ⟨S512x1536, .bf16⟩
  | .local _ .vmem, ⟨8, _⟩ => ⟨S512x1536, .bf16⟩
  | .local _ .vmem, ⟨9, _⟩ => ⟨S512x512, .f32⟩
  | .local _ .vmem, ⟨10, _⟩ => ⟨S512x512, .f32⟩
  | .local _ .vmem, ⟨11, _⟩ => ⟨S512x128, .f32⟩
  | .local _ .vmem, ⟨12, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RmsInprojRefIdeal.lean ====
abbrev S4096x1024 : Shape := ⟨2, ![4096, 1024]⟩
abbrev S1x1024 : Shape := ⟨2, ![1, 1024]⟩
abbrev S1x1024x2056 : Shape := ⟨3, ![1, 1024, 2056]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2056 : Shape := ⟨2, ![1024, 2056]⟩
abbrev S4096x2056 : Shape := ⟨2, ![4096, 2056]⟩
abbrev S4096x8 : Shape := ⟨2, ![4096, 8]⟩
abbrev S4096x120 : Shape := ⟨2, ![4096, 120]⟩
abbrev S4096x128 : Shape := ⟨2, ![4096, 128]⟩
abbrev S4096x1536 : Shape := ⟨2, ![4096, 1536]⟩
abbrev S4096x512 : Shape := ⟨2, ![4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2056, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x2056, .f32⟩
  | .hbm, ⟨21, _⟩ => ⟨S4096x2056, .f32⟩
  | .hbm, ⟨22, _⟩ => ⟨S4096x8, .f32⟩
  | .hbm, ⟨23, _⟩ => ⟨S_, .f32⟩
  | .hbm, ⟨24, _⟩ => ⟨S4096x120, .f32⟩
  | .hbm, ⟨25, _⟩ => ⟨S4096x128, .f32⟩
  | .hbm, ⟨26, _⟩ => ⟨S4096x1024, .bf16⟩
  | .hbm, ⟨27, _⟩ => ⟨S4096x1536, .f32⟩
  | .hbm, ⟨28, _⟩ => ⟨S4096x1536, .bf16⟩
  | .hbm, ⟨29, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Outproj.lean ====
abbrev S4096x1024 : Shape := ⟨2, ![4096, 1024]⟩
abbrev S4096x512 : Shape := ⟨2, ![4096, 512]⟩
abbrev S1x1024x1024 : Shape := ⟨3, ![1, 1024, 1024]⟩
abbrev S1x1024 : Shape := ⟨2, ![1, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1x1024x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S4096x1024, .f32⟩
  | .hbm, ⟨8, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojRefIdeal.lean ====
abbrev S4096x1024 : Shape := ⟨2, ![4096, 1024]⟩
abbrev S4096x512 : Shape := ⟨2, ![4096, 512]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1x1024x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== OutprojBwd.lean ====
abbrev S1x1024x1024 : Shape := ⟨3, ![1, 1024, 1024]⟩
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .hbm, ⟨5, _⟩ => ⟨S4096x512, .bf16⟩
  | .hbm, ⟨6, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutprojBwdRefIdeal.lean ====
abbrev S1x1024x1024 : Shape := ⟨3, ![1, 1024, 1024]⟩
abbrev S4096x1024 : Shape := ⟨2, ![4096, 1024]⟩
abbrev S_ : Shape := ⟨0, ![]⟩
abbrev S4096x512 : Shape := ⟨2, ![4096, 512]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S4096x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .bf16⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwIn.lean ====
abbrev S4096x1024 : Shape := ⟨2, ![4096, 1024]⟩
abbrev S4096x512 : Shape := ⟨2, ![4096, 512]⟩
abbrev S4096x128 : Shape := ⟨2, ![4096, 128]⟩
abbrev S512x1024 : Shape := ⟨2, ![512, 1024]⟩
abbrev S128x1024 : Shape := ⟨2, ![128, 1024]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S128x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S128x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c3_i32_14 : BitVec 32 := 3#32
  let v20 : BitVec 1 := Scalar.cmpi .eq arg0 c3_i32_14
  let v21 : BitVec 32 := Scalar.extui v20
  let c0_i32_15 : BitVec 32 := 0#32
  let v22 : BitVec 1 := Scalar.cmpi .ne v21 c0_i32_15
  v22

def k0_cond9 (i : grid0.Coords) : BitVec 1 :=
  let arg0 : BitVec 32 := BitVec.ofNat 32 (i 0).val
  let c3_i32_23 : BitVec 32 := 3#32
  let v31 : BitVec 1 := Scalar.cmpi .eq arg0 c3_i32_23
  let v32 : BitVec 32 := Scalar.extui v31
  let c0_i32_24 : BitVec 32 := 0#32
  let v33 : BitVec 1 := Scalar.cmpi .ne v32 c0_i32_24
  v33

def k0_cond12 (i : grid0.Coords) : BitVec 1 :=
  let arg0 : BitVec 32 := BitVec.ofNat 32 (i 0).val
  let c3_i32_32 : BitVec 32 := 3#32
  let v42 : BitVec 1 := Scalar.cmpi .eq arg0 c3_i32_32
  let v43 : BitVec 32 := Scalar.extui v42
  let c0_i32_33 : BitVec 32 := 0#32
  let v44 : BitVec 1 := Scalar.cmpi .ne v43 c0_i32_33
  v44

def k0_cond15 (i : grid0.Coords) : BitVec 1 :=
  let arg0 : BitVec 32 := BitVec.ofNat 32 (i 0).val
  let c3_i32_41 : BitVec 32 := 3#32
  let v53 : BitVec 1 := Scalar.cmpi .eq arg0 c3_i32_41
  let v54 : BitVec 32 := Scalar.extui v53
  let c0_i32_42 : BitVec 32 := 0#32
  let v55 : BitVec 1 := Scalar.cmpi .ne v54 c0_i32_42
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DwInRefIdeal.lean ====
abbrev S4096x1024 : Shape := ⟨2, ![4096, 1024]⟩
abbrev S4096x512 : Shape := ⟨2, ![4096, 512]⟩
abbrev S4096x128 : Shape := ⟨2, ![4096, 128]⟩
abbrev S_ : Shape := ⟨0, ![]⟩
abbrev S1024x512 : Shape := ⟨2, ![1024, 512]⟩
abbrev S512x1024 : Shape := ⟨2, ![512, 1024]⟩
abbrev S1024x128 : Shape := ⟨2, ![1024, 128]⟩
abbrev S128x1024 : Shape := ⟨2, ![128, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x128, .bf16⟩
  | .hbm, ⟨6, _⟩ => ⟨S_, .f32⟩
  | .hbm, ⟨7, _⟩ => ⟨S1024x512, .f32⟩
  | .hbm, ⟨8, _⟩ => ⟨S4096x1024, .f32⟩
  | .hbm, ⟨9, _⟩ => ⟨S4096x512, .f32⟩
  | .hbm, ⟨10, _⟩ => ⟨S4096x512, .f32⟩
  | .hbm, ⟨11, _⟩ => ⟨S512x1024, .f32⟩
  | .hbm, ⟨12, _⟩ => ⟨S1024x512, .f32⟩
  | .hbm, ⟨13, _⟩ => ⟨S512x1024, .f32⟩
  | .hbm, ⟨14, _⟩ => ⟨S512x1024, .bf16⟩
  | .hbm, ⟨15, _⟩ => ⟨S_, .f32⟩
  | .hbm, ⟨16, _⟩ => ⟨S1024x512, .f32⟩
  | .hbm, ⟨17, _⟩ => ⟨S4096x1024, .f32⟩
  | .hbm, ⟨18, _⟩ => ⟨S4096x512, .f32⟩
  | .hbm, ⟨19, _⟩ => ⟨S4096x512, .f32⟩
  | .hbm, ⟨20, _⟩ => ⟨S512x1024, .f32⟩
  | .hbm, ⟨21, _⟩ => ⟨S1024x512, .f32⟩
  | .hbm, ⟨22, _⟩ => ⟨S512x1024, .f32⟩
  | .hbm, ⟨23, _⟩ => ⟨S512x1024, .bf16⟩
  | .hbm, ⟨24, _⟩ => ⟨S_, .f32⟩
  | .hbm, ⟨25, _⟩ => ⟨S1024x512, .f32⟩
  | .hbm, ⟨26, _⟩ => ⟨S4096x1024, .f32⟩
  | .hbm, ⟨27, _⟩ => ⟨S4096x512, .f32⟩
  | .hbm, ⟨28, _⟩ => ⟨S4096x512, .f32⟩
  | .hbm, ⟨29, _⟩ => ⟨S512x1024, .f32⟩
  | .hbm, ⟨30, _⟩ => ⟨S1024x512, .f32⟩
  | .hbm, ⟨31, _⟩ => ⟨S512x1024, .f32⟩
  | .hbm, ⟨32, _⟩ => ⟨S512x1024, .bf16⟩
  | .hbm, ⟨33, _⟩ => ⟨S_, .f32⟩
  | .hbm, ⟨34, _⟩ => ⟨S1024x512, .f32⟩
  | .hbm, ⟨35, _⟩ => ⟨S4096x1024, .f32⟩
  | .hbm, ⟨36, _⟩ => ⟨S4096x512, .f32⟩
  | .hbm, ⟨37, _⟩ => ⟨S4096x512, .f32⟩
  | .hbm, ⟨38, _⟩ => ⟨S512x1024, .f32⟩
  | .hbm, ⟨39, _⟩ => ⟨S1024x512, .f32⟩
  | .hbm, ⟨40, _⟩ => ⟨S512x1024, .f32⟩
  | .hbm, ⟨41, _⟩ => ⟨S512x1024, .bf16⟩
  | .hbm, ⟨42, _⟩ => ⟨S_, .f32⟩
  | .hbm, ⟨43, _⟩ => ⟨S1024x128, .f32⟩
  | .hbm, ⟨44, _⟩ => ⟨S4096x1024, .f32⟩
  | .hbm, ⟨45, _⟩ => ⟨S4096x128, .f32⟩
  | .hbm, ⟨46, _⟩ => ⟨S4096x128, .f32⟩
  | .hbm, ⟨47, _⟩ => ⟨S128x1024, .f32⟩
  | .hbm, ⟨48, _⟩ => ⟨S1024x128, .f32⟩
  | .hbm, ⟨49, _⟩ => ⟨S128x1024, .f32⟩
  | .hbm, ⟨50, _⟩ => ⟨S128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== AdamwIn.lean ====
abbrev S1x1024x514 : Shape := ⟨3, ![1, 1024, 514]⟩
abbrev S514x1024 : Shape := ⟨2, ![514, 1024]⟩
abbrev S514x1x1024 : Shape := ⟨3, ![514, 1, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x1024x514, .f32⟩
  | .hbm, ⟨1, _⟩ => ⟨S1x1024x514, .f32⟩
  | .hbm, ⟨2, _⟩ => ⟨S1x1024x514, .f32⟩
  | .hbm, ⟨3, _⟩ => ⟨S514x1024, .bf16⟩
  | .hbm, ⟨4, _⟩ => ⟨S514x1024, .bf16⟩
  | .hbm, ⟨5, _⟩ => ⟨S514x1x1024, .f32⟩
  | .hbm, ⟨6, _⟩ => ⟨S514x1x1024, .f32⟩
  | .hbm, ⟨7, _⟩ => ⟨S514x1x1024, .f32⟩
  | .hbm, ⟨8, _⟩ => ⟨S514x1x1024, .f32⟩
  | .hbm, ⟨9, _⟩ => ⟨S514x1x1024, .f32⟩
  | .hbm, ⟨10, _⟩ => ⟨S514x1x1024, .f32⟩
  | .hbm, ⟨11, _⟩ => ⟨S514x1x1024, .f32⟩
  | .local _ .vmem, ⟨0, _⟩ => ⟨S514x1x1024, .f32⟩
  | .local _ .vmem, ⟨1, _⟩ => ⟨S514x1x1024, .f32⟩
  | .local _ .vmem, ⟨2, _⟩ => ⟨S514x1x1024, .f32⟩
  | .local _ .vmem, ⟨3, _⟩ => ⟨S514x1024, .bf16⟩
  | .local _ .vmem, ⟨4, _⟩ => ⟨S514x1024, .bf16⟩
  | .local _ .vmem, ⟨5, _⟩ => ⟨S514x1x1024, .f32⟩
  | .local _ .vmem, ⟨6, _⟩ => ⟨S514x1x1024, .f32⟩
  | .local _ .vmem, ⟨7, _⟩ => ⟨S514x1x1024, .f32⟩
  | .local _ .vmem, ⟨8, _⟩ => ⟨S514x1x1024, .f32⟩
  | _, _ => ⟨S1x1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S514x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S514x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S514x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S514x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S514x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S514x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S514x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S514x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S514x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamwInRefIdeal.lean ====
abbrev S1x1024x514 : Shape := ⟨3, ![1, 1024, 514]⟩
abbrev S514x1024 : Shape := ⟨2, ![514, 1024]⟩
abbrev S1024x514 : Shape := ⟨2, ![1024, 514]⟩
abbrev S_ : Shape := ⟨0, ![]⟩
abbrev S514x1x1024 : Shape := ⟨3, ![514, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x1024x514, .f32⟩
  | .hbm, ⟨1, _⟩ => ⟨S1x1024x514, .f32⟩
  | .hbm, ⟨2, _⟩ => ⟨S1x1024x514, .f32⟩
  | .hbm, ⟨3, _⟩ => ⟨S514x1024, .bf16⟩
  | .hbm, ⟨4, _⟩ => ⟨S514x1024, .bf16⟩
  | .hbm, ⟨5, _⟩ => ⟨S514x1024, .f32⟩
  | .hbm, ⟨6, _⟩ => ⟨S514x1024, .f32⟩
  | .hbm, ⟨7, _⟩ => ⟨S514x1024, .f32⟩
  | .hbm, ⟨8, _⟩ => ⟨S1024x514, .f32⟩
  | .hbm, ⟨9, _⟩ => ⟨S1x1024x514, .f32⟩
  | .hbm, ⟨10, _⟩ => ⟨S_, .f32⟩
  | .hbm, ⟨11, _⟩ => ⟨S1x1024x514, .f32⟩
  | .hbm, ⟨12, _⟩ => ⟨S1x1024x514, .f32⟩
  | .hbm, ⟨13, _⟩ => ⟨S_, .f32⟩
  | .hbm, ⟨14, _⟩ => ⟨S1x1024x514, .f32⟩
  | .hbm, ⟨15, _⟩ => ⟨S1x1024x514, .f32⟩
  | .hbm, ⟨16, _⟩ => ⟨S1x1024x514, .f32⟩
  | .hbm, ⟨17, _⟩ => ⟨S_, .f32⟩
  | .hbm, ⟨18, _⟩ => ⟨S1x1024x514, .f32⟩
  | .hbm, ⟨19, _⟩ => ⟨S1x1024x514, .f32⟩
  | .hbm, ⟨20, _⟩ => ⟨S1x1024x514, .f32⟩
  | .hbm, ⟨21, _⟩ => ⟨S_, .f32⟩
  | .hbm, ⟨22, _⟩ => ⟨S1x1024x514, .f32⟩
  | .hbm, ⟨23, _⟩ => ⟨S1x1024x514, .f32⟩
  | .hbm, ⟨24, _⟩ => ⟨S1x1024x514, .f32⟩
  | .hbm, ⟨25, _⟩ => ⟨S_, .f32⟩
  | .hbm, ⟨26, _⟩ => ⟨S1x1024x514, .f32⟩
  | .hbm, ⟨27, _⟩ => ⟨S1x1024x514, .f32⟩
  | .hbm, ⟨28, _⟩ => ⟨S_, .f32⟩
  | .hbm, ⟨29, _⟩ => ⟨S1x1024x514, .f32⟩
  | .hbm, ⟨30, _⟩ => ⟨S1x1024x514, .f32⟩
  | .hbm, ⟨31, _⟩ => ⟨S1x1024x514, .f32⟩
  | .hbm, ⟨32, _⟩ => ⟨S_, .f32⟩
  | .hbm, ⟨33, _⟩ => ⟨S1x1024x514, .f32⟩
  | .hbm, ⟨34, _⟩ => ⟨S1x1024x514, .f32⟩
  | .hbm, ⟨35, _⟩ => ⟨S1x1024x514, .f32⟩
  | .hbm, ⟨36, _⟩ => ⟨S_, .f32⟩
  | .hbm, ⟨37, _⟩ => ⟨S1x1024x514, .f32⟩
  | .hbm, ⟨38, _⟩ => ⟨S1x1024x514, .f32⟩
  | .hbm, ⟨39, _⟩ => ⟨S1x1024x514, .f32⟩
  | .hbm, ⟨40, _⟩ => ⟨S_, .f32⟩
  | .hbm, ⟨41, _⟩ => ⟨S1x1024x514, .f32⟩
  | .hbm, ⟨42, _⟩ => ⟨S1x1024x514, .f32⟩
  | .hbm, ⟨43, _⟩ => ⟨S514x1x1024, .f32⟩
  | .hbm, ⟨44, _⟩ => ⟨S514x1x1024, .f32⟩
  | .hbm, ⟨45, _⟩ => ⟨S514x1x1024, .f32⟩
  | .hbm, ⟨46, _⟩ => ⟨S514x1x1024, .f32⟩
  | _, _ => ⟨S1x1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Pieces.lean ====
/-
Stores of several boxes into one buffer, read back as one function of the buffer's coordinates.
-/
module

public import Idealize.ShloMosaic.Lib.Pipeline.Value
public import Idealize.ShloMosaic.Lib.Pipeline.ReadBack
public import Idealize.ShloMosaic.Lib.Pipeline.CanonAppend
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.Pieces

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- A triple of coordinates inside a box of a three-axis buffer, at the box's offsets. -/
theorem emb3 {A B C a b c : ℕ} (o0 o1 o2 : ℕ) (inb) (y : (⟨3, ![a, b, c]⟩ : Shape).Idx)
    (z0 : Fin A) (z1 : Fin B) (z2 : Fin C) (h0 : z0.val = o0 + (y 0).val) (h1 : z1.val = o1 + (y 1).val) (h2 : z2.val = o2 + (y 2).val) :
    (Rect.unit (s := ⟨3, ![A, B, C]⟩) ![o0, o1, o2] (⟨3, ![a, b, c]⟩ : Shape).size inb).emb y = ix3 z0 z1 z2 := by
  funext ax
  apply Fin.ext
  fin_cases ax
  · show o0 + 1 * (y 0).val = z0.val; omega
  · show o1 + 1 * (y 1).val = z1.val; omega
  · show o2 + 1 * (y 2).val = z2.val; omega

/-- A load through a box, at a triple of coordinates. -/
theorem ld3 {A B C a b c : ℕ} {α : Type} (x : (⟨3, ![A, B, C]⟩ : Shape).Idx → α) (o0 o1 o2 : ℕ) (inb) (y0 : Fin a) (y1 : Fin b) (y2 : Fin c)
    (z0 : Fin A) (z1 : Fin B) (z2 : Fin C) (h0 : z0.val = o0 + y0.val) (h1 : z1.val = o1 + y1.val) (h2 : z2.val = o2 + y2.val) :
    x ((Rect.unit (s := ⟨3, ![A, B, C]⟩) ![o0, o1, o2] (⟨3, ![a, b, c]⟩ : Shape).size inb).emb (ix3 y0 y1 y2)) = x (ix3 z0 z1 z2) :=
  congrArg x (emb3 o0 o1 o2 inb (ix3 y0 y1 y2) z0 z1 z2 h0 h1 h2)

/-- A stored box whose payload is, at each of its coordinates, a given function there. -/
theorem piece3 {B C b c : ℕ} {α : Type} (g : Fin B → Fin C → α) (w : (⟨3, ![1, b, c]⟩ : Shape).Idx → α) (o1 o2 : ℕ) (inb)
    (hw : ∀ (r : Fin b) (k : Fin c) (hr : o1 + r.val < B) (hk : o2 + k.val < C), w (ix3 0 r k) = g ⟨o1 + r.val, hr⟩ ⟨o2 + k.val, hk⟩)
    (y : (⟨3, ![1, b, c]⟩ : Shape).Idx) :
    w y = (fun z : (⟨3, ![1, B, C]⟩ : Shape).Idx => g (z 1) (z 2))
      ((Rect.unit (s := ⟨3, ![1, B, C]⟩) ![0, o1, o2] (⟨3, ![1, b, c]⟩ : Shape).size inb).emb y) := by
  have h1 : o1 + b ≤ B := inb 1
  have h2 : o2 + c ≤ C := inb 2
  have b1 : (y 1).val < b := (y 1).isLt
  have b2 : (y 2).val < c := (y 2).isLt
  have y0 : (y 0).val = 0 := by
    have : (y 0).val < 1 := (y 0).isLt
    omega
  have ey : y = ix3 (0 : Fin 1) (y 1) (y 2) := by
    funext a
    fin_cases a
    · exact Fin.ext y0
    · rfl
    · rfl
  rw [emb3 0 o1 o2 inb y (0 : Fin 1) ⟨o1 + (y 1).val, by omega⟩ ⟨o2 + (y 2).val, by omega⟩ (by rw [y0]; rfl) rfl rfl]
  exact (congrArg w ey).trans (hw (y 1) (y 2) (by omega) (by omega))

/-- A triple lies in a box when each coordinate does. -/
theorem mem3 {A B C a b c : ℕ} (o0 o1 o2 : ℕ) (inb) (z : (⟨3, ![A, B, C]⟩ : Shape).Idx)
    (h0 : o0 ≤ (z 0).val ∧ (z 0).val < o0 + a) (h1 : o1 ≤ (z 1).val ∧ (z 1).val < o1 + b) (h2 : o2 ≤ (z 2).val ∧ (z 2).val < o2 + c) :
    z ∈ (Rect.unit (s := ⟨3, ![A, B, C]⟩) ![o0, o1, o2] (⟨3, ![a, b, c]⟩ : Shape).size inb).set := by
  refine ((Rect.unit (s := ⟨3, ![A, B, C]⟩) ![o0, o1, o2] (⟨3, ![a, b, c]⟩ : Shape).size inb).mem_set).mpr fun ax => ?_
  fin_cases ax
  · exact ⟨(z 0).val - o0, by show (z 0).val - o0 < a; omega, by show (z 0).val = o0 + 1 * ((z 0).val - o0); omega⟩
  · exact ⟨(z 1).val - o1, by show (z 1).val - o1 < b; omega, by show (z 1).val = o1 + 1 * ((z 1).val - o1); omega⟩
  · exact ⟨(z 2).val - o2, by show (z 2).val - o2 < c; omega, by show (z 2).val = o2 + 1 * ((z 2).val - o2); omega⟩

/-- A plane of 512 rows and 704 columns stored in three column strips holds one function when each strip does. -/
theorem strips {e : EltTy} [∀ e, Nonempty (Elt Ideal e)] (g : Fin 512 → Fin 704 → Elt Ideal e)
    (w2 : (⟨3, ![1, 512, 192]⟩ : Shape).Idx → Elt Ideal e) (w1 w0 : (⟨3, ![1, 512, 256]⟩ : Shape).Idx → Elt Ideal e) (i2 i1 i0)
    (h2 : ∀ (r : Fin 512) (k : Fin 192), w2 (ix3 0 r k) = g r ⟨512 + k.val, by omega⟩)
    (h1 : ∀ (r : Fin 512) (k : Fin 256), w1 (ix3 0 r k) = g r ⟨256 + k.val, by omega⟩)
    (h0 : ∀ (r : Fin 512) (k : Fin 256), w0 (ix3 0 r k) = g r ⟨k.val, by omega⟩) :
    View.canon (Val := Elt Ideal) (s := ⟨3, ![1, 512, 704]⟩)
      [⟨Rect.unit (s := ⟨3, ![1, 512, 704]⟩) ![0, 0, 512] ![1, 512, 192] i2, w2⟩,
       ⟨Rect.unit (s := ⟨3, ![1, 512, 704]⟩) ![0, 0, 256] ![1, 512, 256] i1, w1⟩,
       ⟨Rect.unit (s := ⟨3, ![1, 512, 704]⟩) ![0, 0, 0] ![1, 512, 256] i0, w0⟩] = fun z => g (z 1) (z 2) := by
  funext y
  have y0 : (y 0).val < 1 := (y 0).isLt
  have y1 : (y 1).val < 512 := (y 1).isLt
  have y2 : (y 2).val < 704 := (y 2).isLt
  refine View.canon_append_of_pieces (fun z : (⟨3, ![1, 512, 704]⟩ : Shape).Idx => g (z 1) (z 2)) [] [_, _, _] ?_ y ?_
  · intro p hp
    simp only [List.mem_cons, List.not_mem_nil, or_false] at hp
    rcases hp with rfl | rfl | rfl
    · exact piece3 (b := 512) (c := 192) g w2 0 512 i2 fun r k hr hk => (h2 r k).trans (congrArg (fun x => g x _) (Fin.ext (by show r.val = 0 + r.val; omega)))
    · exact piece3 (b := 512) (c := 256) g w1 0 256 i1 fun r k hr hk => (h1 r k).trans (congrArg (fun x => g x _) (Fin.ext (by show r.val = 0 + r.val; omega)))
    · refine piece3 (b := 512) (c := 256) g w0 0 0 i0 fun r k hr hk => (h0 r k).trans ?_
      rw [show (⟨0 + r.val, hr⟩ : Fin 512) = r from Fin.ext (by show 0 + r.val = r.val; omega), show (⟨0 + k.val, hk⟩ : Fin 704) = ⟨k.val, by omega⟩ from Fin.ext (by show 0 + k.val = k.val; omega)]
  · by_cases c0 : (y 2).val < 256
    · exact ⟨_, List.mem_cons_of_mem _ (List.mem_cons_of_mem _ List.mem_cons_self), mem3 (a := 1) (b := 512) (c := 256) 0 0 0 i0 y (by omega) (by omega) (by omega)⟩
    · by_cases c1 : (y 2).val < 512
      · exact ⟨_, List.mem_cons_of_mem _ List.mem_cons_self, mem3 (a := 1) (b := 512) (c := 256) 0 0 256 i1 y (by omega) (by omega) (by omega)⟩
      · exact ⟨_, List.mem_cons_self, mem3 (a := 1) (b := 512) (c := 192) 0 0 512 i2 y (by omega) (by omega) (by omega)⟩

/-- What the three axes' offset of a slice of the weights is. -/
theorem off_eq : ∀ n : Fin 4, BitVec.toNat (Scalar.indexCast (BitVec.ofNat 32 n.val)) = n.val := by decide

end Cert.Pieces
-- ==== Proof.ObKernel.lean ====
/-
The output projection's backward kernel: the arrays it leaves, entry by entry.
-/
module

public import proofs.«01_k».proof.Proof.Gen.OutprojBwdIdeal.Value
public import proofs.«01_k».proof.Proof.Pieces
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat Window)

namespace Cert.OutprojBwdIdeal.Step

open Cert.OutprojBwdIdeal Cert.OutprojBwdIdeal.Gen Cert.OutprojBwdIdeal.Value Cert.Pieces

theorem idx0 : ∀ t : Fin cfg0.N, win0_0.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx1 : ∀ t : Fin cfg0.N, win0_1.index t = ![0, 0] := by decide +kernel

/-- The row of the whole array that row `r` of point `t`'s block is. -/
def row (t : Fin cfg0.N) (r : Fin 1024) : Fin 4096 := ⟨1024 * t.val + r.val, by have hN : cfg0.N = 4 := rfl; have := t.isLt; have := r.isLt; omega⟩

/-- The point that works on row `R`. -/
def pt (R : Fin 4096) : Fin cfg0.N := ⟨R.val / 1024, by have hN : cfg0.N = 4 := rfl; omega⟩

theorem row_pt (R : Fin 4096) : row (pt R) ⟨R.val % 1024, Nat.mod_lt _ (by decide)⟩ = R :=
  Fin.ext (by show 1024 * (R.val / 1024) + R.val % 1024 = R.val; omega)

section Blocks

variable {F : FTy → Type} [FloatOps F] (m : (ℓ : Loc nD τ sig) → Buf (Elt F) ℓ) (c : Dev nD)

abbrev argW : Vec F S1x1024x1024 .f32 := m ((c : Thread nD τ).loc main_arg0)
abbrev argD : Vec F S4096x1024 .f32 := m ((c : Thread nD τ).loc main_arg1)

theorem V_d : V m c main_v0 = truncf .bf16 (argD m c) bitsLt_bf16_f32 := by
  show StableHlo.after hostOps0 (fun b => m (c, b)) (Proc.devRef .tc main_v0) = _
  simp only [hostOps0]
  after_results
  all_goals rfl

theorem V_w : V m c main_v2 = truncf .bf16 (shapeCast S1024x1024 (argW m c) shapeCasts_S1x1024x1024_S1024x1024) bitsLt_bf16_f32 := by
  show StableHlo.after hostOps0 (fun b => m (c, b)) (Proc.devRef .tc main_v2) = _
  simp only [hostOps0]
  after_results
  all_goals rfl

theorem iblk0 (t : Fin cfg0.N) (r : Fin 1024) (x : Fin 1024) :
    iblk m c 0 t (ix2 r x) = (V m c main_v0 : Vec F S4096x1024 .bf16) (ix2 (row t r) x) := by
  unfold iblk
  rw [View.read_apply]
  show V m c main_v0 _ = _
  congr 1
  funext a
  apply Fin.ext
  show ((win0_0.rect t).emb (ix2 r x) a : Nat) = _
  rw [Window.rect_emb_val win0_0 t _ a rfl, idx0]
  fin_cases a
  · show t.val * 1024 + r.val = 1024 * t.val + r.val; omega
  · show 0 * 1024 + x.val = x.val; omega

theorem iblk1 (t : Fin cfg0.N) (r : Fin 1024) (x : Fin 1024) :
    iblk m c 1 t (ix2 r x) = (V m c main_v2 : Vec F S1024x1024 .bf16) (ix2 r x) := by
  unfold iblk
  rw [View.read_apply]
  show V m c main_v2 _ = _
  congr 1
  funext a
  apply Fin.ext
  show ((win0_1.rect t).emb (ix2 r x) a : Nat) = _
  rw [Window.rect_emb_val win0_1 t _ a rfl, idx1]
  fin_cases a
  · show 0 * 1024 + r.val = r.val; omega
  · show 0 * 1024 + x.val = x.val; omega

end Blocks

/-- The gradient of the row of mixers' results, at any of its columns. -/
def dm (W : Vec Ideal S1x1024x1024 .f32) (X : Vec Ideal S4096x1024 .f32) (R : Fin 4096) (y : Fin 1024) : EReal :=
  ∑ k : Fin 1024, X (ix2 R k) * W (ix3 0 y k)

variable (m : (ℓ : Loc nD τ sig) → Buf (Elt Ideal) ℓ) (c : Dev nD)

theorem d_at (R : Fin 4096) (l : Fin 1024) : (V m c main_v0 : Vec Ideal S4096x1024 .bf16) (ix2 R l) = argD m c (ix2 R l) := by
  rw [V_d]
  pointwise []

theorem w_at (k l : Fin 1024) : (V m c main_v2 : Vec Ideal S1024x1024 .bf16) (ix2 k l) = argW m c (ix3 0 k l) := by
  rw [V_w]
  pointwise []

/-- A load of the weight's rows from row `o` on. -/
theorem ldW (w : Vec Ideal S1024x1024 .bf16) (o : ℕ) (inb) (y : Fin 512) (k : Fin 1024) (h : o + y.val < 1024) :
    View.ld (Val := Elt Ideal) (e' := .bf16) w (Rect.unit (s := S1024x1024) ![o, 0] (⟨2, ![512, 1024]⟩ : Shape).size inb) (ix2 y k) = w (ix2 ⟨o + y.val, h⟩ k) :=
  View.ld_unit_apply_of w _ _ inb _ _ (fun a => by
    fin_cases a
    · rfl
    · exact (Nat.zero_add _).symm)

theorem pay2_at (x : Vec Ideal S1024x1024 .bf16) (w : Vec Ideal S512x1024 .bf16) (r : Fin 1024) (y : Fin 512) :
    k0_pay2 x w (ix2 r y) = ∑ k : Fin 1024, x (ix2 r k) * w (ix2 y k) := by
  pointwise [k0_pay2, k0_pay1]

theorem out2_blk (t : Fin cfg0.N) (r : Fin 1024) (y : Fin 512) :
    out0_2 (iblk m c 0 t) (iblk m c 1 t) (ix2 r y) = dm (argW m c) (argD m c) (row t r) ⟨0 + y.val, by omega⟩ := by
  have hy := y.isLt
  unfold out0_2
  rw [View.canon_unit_zero hz2, View.ld_unit_zero (S := S1024x1024) hz2]
  refine (pay2_at _ _ r y).trans ?_
  unfold dm
  exact Finset.sum_congr rfl fun k _ => congrArg₂ (· * ·) ((iblk0 m c t r k).trans (d_at m c _ k))
    ((ldW _ 0 inb_S1024x1024_S512x1024_0_0 y k (by omega)).trans ((iblk1 m c t _ k).trans (w_at m c _ k)))

theorem pay3_at (x : Vec Ideal S1024x1024 .bf16) (w : Vec Ideal S512x1024 .bf16) (r : Fin 1024) (y : Fin 512) :
    k0_pay3 x w (ix2 r y) = ∑ k : Fin 1024, x (ix2 r k) * w (ix2 y k) := by
  pointwise [k0_pay3, k0_pay1]

theorem out3_blk (t : Fin cfg0.N) (r : Fin 1024) (y : Fin 512) :
    out0_3 (iblk m c 0 t) (iblk m c 1 t) (ix2 r y) = dm (argW m c) (argD m c) (row t r) ⟨512 + y.val, by omega⟩ := by
  have hy := y.isLt
  unfold out0_3
  rw [View.canon_unit_zero hz2, View.ld_unit_zero (S := S1024x1024) hz2]
  refine (pay3_at _ _ r y).trans ?_
  unfold dm
  exact Finset.sum_congr rfl fun k _ => congrArg₂ (· * ·) ((iblk0 m c t r k).trans (d_at m c _ k))
    ((ldW _ 512 inb_S1024x1024_S512x1024_512_0 y k (by omega)).trans ((iblk1 m c t _ k).trans (w_at m c _ k)))

theorem flushed2_at (t : Fin cfg0.N) (r : Fin 1024) (l : Fin 512) :
    ((dats m 0 c).flushed 2 t : Vec Ideal S1024x512 .bf16) (ix2 r l) = dm (argW m c) (argD m c) (row t r) ⟨0 + l.val, by omega⟩ := by
  rw [flushed2]
  exact out2_blk m c t r l

theorem da_final (R : Fin 4096) (l : Fin 512) :
    ((dats m 0 c).arrAt 2 cfg0.N : Vec Ideal S4096x512 .bf16) (ix2 R l) = dm (argW m c) (argD m c) R ⟨0 + l.val, by omega⟩ := by
  have hR := R.isLt
  have hemb : ((cfg0.win 2).blk (pt R)).view.emb (ix2 (⟨R.val % 1024, Nat.mod_lt _ (by decide)⟩ : Fin 1024) l) = ix2 R l := by
    funext a
    apply Fin.ext
    show ((win0_2.rect (pt R)).emb (ix2 (⟨R.val % 1024, Nat.mod_lt _ (by decide)⟩ : Fin 1024) l) a : Nat) = _
    rw [Window.rect_emb_val win0_2 (pt R) _ a rfl, idx2]
    fin_cases a
    · show R.val / 1024 * 1024 + R.val % 1024 = R.val; omega
    · show 0 * 512 + l.val = l.val; omega
  have h := (dats m 0 c).arrAt_emb_eq_flushed 2 disjoint2 (pt R) (flush0_2 (pt R)) (ix2 (⟨R.val % 1024, Nat.mod_lt _ (by decide)⟩ : Fin 1024) l)
  rw [hemb] at h
  refine h.trans ?_
  refine (flushed2_at m c (pt R) _ l).trans ?_
  rw [row_pt]

theorem flushed3_at (t : Fin cfg0.N) (r : Fin 1024) (l : Fin 512) :
    ((dats m 0 c).flushed 3 t : Vec Ideal S1024x512 .f32) (ix2 r l) = dm (argW m c) (argD m c) (row t r) ⟨512 + l.val, by omega⟩ := by
  rw [flushed3]
  exact out3_blk m c t r l

theorem dp_final (R : Fin 4096) (l : Fin 512) :
    ((dats m 0 c).arrAt 3 cfg0.N : Vec Ideal S4096x512 .f32) (ix2 R l) = dm (argW m c) (argD m c) R ⟨512 + l.val, by omega⟩ := by
  have hR := R.isLt
  have hemb : ((cfg0.win 3).blk (pt R)).view.emb (ix2 (⟨R.val % 1024, Nat.mod_lt _ (by decide)⟩ : Fin 1024) l) = ix2 R l := by
    funext a
    apply Fin.ext
    show ((win0_3.rect (pt R)).emb (ix2 (⟨R.val % 1024, Nat.mod_lt _ (by decide)⟩ : Fin 1024) l) a : Nat) = _
    rw [Window.rect_emb_val win0_3 (pt R) _ a rfl, idx3]
    fin_cases a
    · show R.val / 1024 * 1024 + R.val % 1024 = R.val; omega
    · show 0 * 512 + l.val = l.val; omega
  have h := (dats m 0 c).arrAt_emb_eq_flushed 3 disjoint3 (pt R) (flush0_3 (pt R)) (ix2 (⟨R.val % 1024, Nat.mod_lt _ (by decide)⟩ : Fin 1024) l)
  rw [hemb] at h
  refine h.trans ?_
  refine (flushed3_at m c (pt R) _ l).trans ?_
  rw [row_pt]

end Cert.OutprojBwdIdeal.Step
-- ==== Proof.ObClaim.lean ====
/-
The output projection's backward kernel leaves the reference's two results.
-/
module

public import proofs.«01_k».proof.Proof.ObKernel
public import proofs.«01_k».proof.Proof.Gen.OutprojBwdRefIdeal.Run
public import proofs.«01_k».proof.Proof.Gen.OutprojBwdRefIdeal.Read
public import proofs.«01_k».proof.Defs
public import proofs.«01_k».proof.Proof.Gen.OutprojBwd
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.ObClaim

open Cert.OutprojBwdIdeal.Step

section Ref

open Cert.OutprojBwdRefIdeal Cert.OutprojBwdRefIdeal.Gen Cert.OutprojBwdRefIdeal.Read

variable (W : Vec Ideal S1x1024x1024 .f32) (X : Vec Ideal S4096x1024 .f32)

theorem v4_at (R : Fin 4096) (y : Fin 1024) : (val_main_v4 (F := Ideal) W X) (ix2 R y) = dm W X R y := by
  pointwise [val_main_v4, val_main_v2]
  rfl

theorem v7_at (R : Fin 4096) (l : Fin 512) : (val_main_v7 (F := Ideal) W X) (ix2 R l) = dm W X R ⟨0 + l.val, by omega⟩ := by
  pointwise [val_main_v7, val_main_v5]
  refine (v4_at W X R _).trans (congrArg (dm W X R) (Fin.ext ?_))
  simp

theorem v6_at (R : Fin 4096) (l : Fin 512) : (val_main_v6 (F := Ideal) W X) (ix2 R l) = dm W X R ⟨512 + l.val, by omega⟩ := by
  pointwise [val_main_v6]
  exact v4_at W X R _

end Ref

/-- The reference runs on the host alone: its run keeps the arguments, and the program declares no semaphore. -/
theorem frame_ref : Cert.quiescent_OutprojBwdRefIdeal (hOutprojBwdRefIdeal := Cert.OutprojBwdRefIdeal.Gen.facts) := fun m g _ =>
  (θ_run Cert.OutprojBwdRefIdeal.defs _ _).mono
    (fun r h => ⟨fun c => (h c).2.2, Idealize.ShloMosaic.sem_eq_zero_of_no_sems (by decide) r.2⟩)
    (Cert.OutprojBwdRefIdeal.Value.run (F := Ideal) m g)

theorem of2 {a b : Nat} (i : (⟨2, ![a, b]⟩ : Shape).Idx) : ∃ (R : Fin a) (l : Fin b), i = ix2 R l :=
  ⟨i 0, i 1, by funext a; fin_cases a <;> rfl⟩

/-- The claim: after the kernel's run both results are the reference's, entry by entry. -/
theorem algebraic : Cert.algebraic_OutprojBwdIdeal_OutprojBwdRefIdeal
    (hOutprojBwdIdeal := Cert.OutprojBwdIdeal.Gen.facts) (hOutprojBwdRefIdeal := Cert.OutprojBwdRefIdeal.Gen.facts) := by
  intro m g m' g' _ hag
  refine ⟨fun c => Cert.OutprojBwdRefIdeal.Read.val_main_v7 (F := Ideal) (m' ((c.tc : Thread Cert.OutprojBwdRefIdeal.nD Cert.OutprojBwdRefIdeal.τ).loc Cert.OutprojBwdRefIdeal.main_arg0)) (m' ((c.tc : Thread Cert.OutprojBwdRefIdeal.nD Cert.OutprojBwdRefIdeal.τ).loc Cert.OutprojBwdRefIdeal.main_arg1)),
    fun c => Cert.OutprojBwdRefIdeal.Read.val_main_v6 (F := Ideal) (m' ((c.tc : Thread Cert.OutprojBwdRefIdeal.nD Cert.OutprojBwdRefIdeal.τ).loc Cert.OutprojBwdRefIdeal.main_arg0)) (m' ((c.tc : Thread Cert.OutprojBwdRefIdeal.nD Cert.OutprojBwdRefIdeal.τ).loc Cert.OutprojBwdRefIdeal.main_arg1)), ?_,
    Cert.OutprojBwdRefIdeal.Value.run m' g'⟩
  refine (θ_run _ _ _).mono (fun r h c => ?_) (Cert.OutprojBwdIdeal.Value.run_blocks m g)
  obtain ⟨h2, h3, hk⟩ := h c
  obtain ⟨a0, a1⟩ := hag c
  refine ⟨h2.trans ?_, h3.trans ?_, hk⟩
  · dsimp only
    rw [a0, a1]
    funext i
    obtain ⟨R, l, rfl⟩ := of2 i
    exact (da_final m c R l).trans (v7_at _ _ R l).symm
  · dsimp only
    rw [a0, a1]
    funext i
    obtain ⟨R, l, rfl⟩ := of2 i
    exact (dp_final m c R l).trans (v6_at _ _ R l).symm

end Cert.ObClaim
-- ==== Proof.DwStep.lean ====
/-
What one step of the input weight's gradient kernel stores.
-/
module

public import proofs.«01_k».proof.Proof.Gen.DwInIdeal.Value
public import proofs.«01_k».proof.Proof.Pieces
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat Window)

namespace Cert.DwInIdeal.Step

open Cert.DwInIdeal Cert.DwInIdeal.Gen Cert.Pieces

variable (c : Dev nD) (i : grid0.Coords)
  (a1 : Memref sig .tc .vmem S1024x512 .bf16) (h1 : a1.IsWhole)
  (a2 : Memref sig .tc .vmem S1024x512 .bf16) (h2 : a2.IsWhole)
  (a3 : Memref sig .tc .vmem S1024x512 .bf16) (h3 : a3.IsWhole)
  (a4 : Memref sig .tc .vmem S1024x512 .bf16) (h4 : a4.IsWhole)
  (a5 : Memref sig .tc .vmem S1024x128 .bf16) (h5 : a5.IsWhole)
  (a6 : Memref sig .tc .vmem S1024x1024 .bf16) (h6 : a6.IsWhole)
  (a7 : Memref sig .tc .vmem S512x1024 .bf16) (h7 : a7.IsWhole)
  (a8 : Memref sig .tc .vmem S512x1024 .bf16) (h8 : a8.IsWhole)
  (a9 : Memref sig .tc .vmem S512x1024 .bf16) (h9 : a9.IsWhole)
  (a10 : Memref sig .tc .vmem S512x1024 .bf16) (h10 : a10.IsWhole)
  (a11 : Memref sig .tc .vmem S128x1024 .bf16) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S128x1024 .f32) (h16 : a16.IsWhole)
  (x0 : Vec Ideal S1024x512 .bf16) (x1 : Vec Ideal S1024x512 .bf16) (x2 : Vec Ideal S1024x512 .bf16) (x3 : Vec Ideal S1024x512 .bf16) (x4 : Vec Ideal S1024x128 .bf16) (x5 : Vec Ideal S1024x1024 .bf16)
  (s0 : Vec Ideal S512x1024 .f32) (s1 : Vec Ideal S512x1024 .f32) (s2 : Vec Ideal S512x1024 .f32) (s3 : Vec Ideal S512x1024 .f32) (s4 : Vec Ideal S128x1024 .f32)

section A

variable (hc0 : cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i)

theorem s0_A :
    sout0_A_0 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 = k0_pay2 x5 x0 := by
  unfold sout0_A_0
  refine (View.read_writes_eq_canon _ _ _ (by apply scover0_A_0)).trans ?_
  unfold kernelRun0_A
  dsimp only
  sl_unfold_words
  simp only [View.readAt_eq_ld, h6.read_unread, h1.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s1_A :
    sout0_A_1 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 = k0_pay6 x5 x1 := by
  unfold sout0_A_1
  refine (View.read_writes_eq_canon _ _ _ (by apply scover0_A_1)).trans ?_
  unfold kernelRun0_A
  dsimp only
  sl_unfold_words
  simp only [View.readAt_eq_ld, h6.read_unread, h2.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s2_A :
    sout0_A_2 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 = k0_pay10 (k0_pay9 x5 x2) := by
  unfold sout0_A_2
  refine (View.read_writes_eq_canon _ _ _ (by apply scover0_A_2)).trans ?_
  unfold kernelRun0_A
  dsimp only
  sl_unfold_words
  simp only [View.readAt_eq_ld, h6.read_unread, h3.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s3_A :
    sout0_A_3 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 = k0_pay14 x5 x3 := by
  unfold sout0_A_3
  refine (View.read_writes_eq_canon _ _ _ (by apply scover0_A_3)).trans ?_
  unfold kernelRun0_A
  dsimp only
  sl_unfold_words
  simp only [View.readAt_eq_ld, h6.read_unread, h4.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s4_A :
    sout0_A_4 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 = k0_pay18 x5 x4 := by
  unfold sout0_A_4
  refine (View.read_writes_eq_canon _ _ _ (by apply scover0_A_4)).trans ?_
  unfold kernelRun0_A
  dsimp only
  sl_unfold_words
  simp only [View.readAt_eq_ld, h6.read_unread, h5.read_unread, View.readCov_unit_zero (S := S128x1024) _ hz2, View.ld_unit_zero (S := S128x1024) hz2, View.ld_unit_zero (S := S1024x128) hz2, View.ld_unit_zero (S := S1024x1024) hz2]
  rw [View.canon_unit_zero hz2]

end A

section B

variable (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i)

theorem s0_B :
    sout0_B_0 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay3 x5 x0 s0 := by
  unfold sout0_B_0
  refine (View.read_writes_eq_canon _ _ _ (by apply scover0_B_0)).trans ?_
  unfold kernelRun0_B
  dsimp only
  sl_unfold_words
  simp only [View.readAt_eq_ld, h6.read_unread, h1.read_unread, h12.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s1_B :
    sout0_B_1 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay7 x5 x1 s1 := by
  unfold sout0_B_1
  refine (View.read_writes_eq_canon _ _ _ (by apply scover0_B_1)).trans ?_
  unfold kernelRun0_B
  dsimp only
  sl_unfold_words
  simp only [View.readAt_eq_ld, h6.read_unread, h2.read_unread, h13.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s2_B :
    sout0_B_2 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay11 (k0_pay9 x5 x2) s2 := by
  unfold sout0_B_2
  refine (View.read_writes_eq_canon _ _ _ (by apply scover0_B_2)).trans ?_
  unfold kernelRun0_B
  dsimp only
  sl_unfold_words
  simp only [View.readAt_eq_ld, h6.read_unread, h3.read_unread, h14.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s3_B :
    sout0_B_3 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay15 x5 x3 s3 := by
  unfold sout0_B_3
  refine (View.read_writes_eq_canon _ _ _ (by apply scover0_B_3)).trans ?_
  unfold kernelRun0_B
  dsimp only
  sl_unfold_words
  simp only [View.readAt_eq_ld, h6.read_unread, h4.read_unread, h15.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s4_B :
    sout0_B_4 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay19 x5 x4 s4 := by
  unfold sout0_B_4
  refine (View.read_writes_eq_canon _ _ _ (by apply scover0_B_4)).trans ?_
  unfold kernelRun0_B
  dsimp only
  sl_unfold_words
  simp only [View.readAt_eq_ld, h6.read_unread, h5.read_unread, h16.read_unread, View.readCov_unit_zero (S := S128x1024) _ hz2, View.ld_unit_zero (S := S128x1024) hz2, View.ld_unit_zero (S := S1024x128) hz2, View.ld_unit_zero (S := S1024x1024) hz2]
  rw [View.canon_unit_zero hz2]

end B

section C

variable (hc0 : ¬cond0_0 i) (hc1 : cond0_1 i) (hc2 : cond0_2 i) (hc3 : ¬cond0_3 i) (hc4 : cond0_4 i) (hc5 : cond0_5 i) (hc6 : ¬cond0_6 i) (hc7 : cond0_7 i) (hc8 : cond0_8 i) (hc9 : ¬cond0_9 i) (hc10 : cond0_10 i) (hc11 : cond0_11 i) (hc12 : ¬cond0_12 i) (hc13 : cond0_13 i) (hc14 : cond0_14 i)

theorem s0_C :
    sout0_C_0 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay3 x5 x0 s0 := by
  unfold sout0_C_0
  refine (View.read_writes_eq_canon _ _ _ (by apply scover0_C_0)).trans ?_
  unfold kernelRun0_C
  dsimp only
  sl_unfold_words
  simp only [View.readAt_eq_ld, h6.read_unread, h1.read_unread, h12.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s1_C :
    sout0_C_1 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay7 x5 x1 s1 := by
  unfold sout0_C_1
  refine (View.read_writes_eq_canon _ _ _ (by apply scover0_C_1)).trans ?_
  unfold kernelRun0_C
  dsimp only
  sl_unfold_words
  simp only [View.readAt_eq_ld, h6.read_unread, h2.read_unread, h13.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s2_C :
    sout0_C_2 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay11 (k0_pay9 x5 x2) s2 := by
  unfold sout0_C_2
  refine (View.read_writes_eq_canon _ _ _ (by apply scover0_C_2)).trans ?_
  unfold kernelRun0_C
  dsimp only
  sl_unfold_words
  simp only [View.readAt_eq_ld, h6.read_unread, h3.read_unread, h14.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s3_C :
    sout0_C_3 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay15 x5 x3 s3 := by
  unfold sout0_C_3
  refine (View.read_writes_eq_canon _ _ _ (by apply scover0_C_3)).trans ?_
  unfold kernelRun0_C
  dsimp only
  sl_unfold_words
  simp only [View.readAt_eq_ld, h6.read_unread, h4.read_unread, h15.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem s4_C :
    sout0_C_4 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay19 x5 x4 s4 := by
  unfold sout0_C_4
  refine (View.read_writes_eq_canon _ _ _ (by apply scover0_C_4)).trans ?_
  unfold kernelRun0_C
  dsimp only
  sl_unfold_words
  simp only [View.readAt_eq_ld, h6.read_unread, h5.read_unread, h16.read_unread, View.readCov_unit_zero (S := S128x1024) _ hz2, View.ld_unit_zero (S := S128x1024) hz2, View.ld_unit_zero (S := S1024x128) hz2, View.ld_unit_zero (S := S1024x1024) hz2]
  rw [View.canon_unit_zero hz2]

theorem o0_C :
    out0_C_6 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay4 (k0_pay3 x5 x0 s0) := by
  unfold out0_C_6
  refine (View.read_writes_eq_canon _ _ _ (by apply cover0_C_6)).trans ?_
  unfold kernelRun0_C
  dsimp only
  sl_unfold_words
  simp only [View.readAt_eq_ld, h6.read_unread, h1.read_unread, h12.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem o1_C :
    out0_C_7 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay8 (k0_pay7 x5 x1 s1) := by
  unfold out0_C_7
  refine (View.read_writes_eq_canon _ _ _ (by apply cover0_C_7)).trans ?_
  unfold kernelRun0_C
  dsimp only
  sl_unfold_words
  simp only [View.readAt_eq_ld, h6.read_unread, h2.read_unread, h13.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem o2_C :
    out0_C_8 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay12 (k0_pay11 (k0_pay9 x5 x2) s2) := by
  unfold out0_C_8
  refine (View.read_writes_eq_canon _ _ _ (by apply cover0_C_8)).trans ?_
  unfold kernelRun0_C
  dsimp only
  sl_unfold_words
  simp only [View.readAt_eq_ld, h6.read_unread, h3.read_unread, h14.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem o3_C :
    out0_C_9 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay16 (k0_pay15 x5 x3 s3) := by
  unfold out0_C_9
  refine (View.read_writes_eq_canon _ _ _ (by apply cover0_C_9)).trans ?_
  unfold kernelRun0_C
  dsimp only
  sl_unfold_words
  simp only [View.readAt_eq_ld, h6.read_unread, h4.read_unread, h15.read_unread, View.readCov_unit_zero (S := S512x1024) _ hz2, View.ld_unit_zero (S := S512x1024) hz2, View.ld_unit_zero (S := S1024x512) hz2, View.ld_unit_zero (S := S1024x1024) hz2]
  rw [View.canon_unit_zero hz2]

theorem o4_C :
    out0_C_10 c i a1 h1 a2 h2 a3 h3 a4 h4 a5 h5 a6 h6 a7 h7 a8 h8 a9 h9 a10 h10 a11 h11 a12 h12 a13 h13 a14 h14 a15 h15 a16 h16 hc0 hc1 hc2 hc3 hc4 hc5 hc6 hc7 hc8 hc9 hc10 hc11 hc12 hc13 hc14 x0 x1 x2 x3 x4 x5 s0 s1 s2 s3 s4 = k0_pay20 (k0_pay19 x5 x4 s4) := by
  unfold out0_C_10
  refine (View.read_writes_eq_canon _ _ _ (by apply cover0_C_10)).trans ?_
  unfold kernelRun0_C
  dsimp only
  sl_unfold_words
  simp only [View.readAt_eq_ld, h6.read_unread, h5.read_unread, h16.read_unread, View.readCov_unit_zero (S := S128x1024) _ hz2, View.ld_unit_zero (S := S128x1024) hz2, View.ld_unit_zero (S := S1024x128) hz2, View.ld_unit_zero (S := S1024x1024) hz2]
  rw [View.canon_unit_zero hz2]

end C

end Cert.DwInIdeal.Step
-- ==== Proof.CumsumAlgebra.lean ====
/-
Sums over a run of rows and the pointwise readings of words that both sides of the claim use.
-/
module

public import Idealize.ShloMosaic.Lib.Pointwise

@[expose] public section

set_option maxRecDepth 16384

noncomputable section

open Idealize.ShloMosaic

namespace Cert.CumsumAlgebra

/-- A row of a table of `n` rows by a natural number, zero past the end. -/
def ext {M : Type} [Zero M] {n : ℕ} (f : Fin n → M) (k : ℕ) : M := if h : k < n then f ⟨k, h⟩ else 0

theorem ext_lt {M : Type} [Zero M] {n : ℕ} (f : Fin n → M) (k : Fin n) : ext f k.val = f k := by
  unfold ext; rw [dif_pos k.isLt]

theorem ext_ge {M : Type} [Zero M] {n : ℕ} (f : Fin n → M) {k : ℕ} (h : n ≤ k) : ext f k = 0 := by
  unfold ext; rw [dif_neg (by omega)]

/-- The sum over one block of rows of what lies at or below row `r`. -/
theorem sum_block {M : Type} [AddCommMonoid M] (g : ℕ → M) (base N r : ℕ) (hr : r ≤ N) :
    ∑ x : Fin N, (if r ≤ x.val then g (base + x.val) else 0) = ∑ k ∈ Finset.Ico (base + r) (base + N), g k := by
  rw [Fin.sum_univ_eq_sum_range (fun x => if r ≤ x then g (base + x) else 0) N, ← Finset.sum_filter,
    show (Finset.range N).filter (fun x => r ≤ x) = Finset.Ico r N from by
      ext x; simp only [Finset.mem_filter, Finset.mem_range, Finset.mem_Ico]; omega,
    Finset.sum_Ico_add g r N base]
  congr 1
  rw [Nat.add_comm r base, Nat.add_comm N base]

/-- A sum over the places that lie inside the table is the sum over the rows from `j` on. -/
theorem sum_shift {M : Type} [AddCommMonoid M] (g : ℕ → M) (N j : ℕ) (hj : j ≤ N) (hg : ∀ k, N ≤ k → g k = 0) :
    ∑ x : Fin N, g (j + x.val) = ∑ k ∈ Finset.Ico j N, g k := by
  rw [Fin.sum_univ_eq_sum_range (fun x => g (j + x)) N, Finset.range_eq_Ico, Finset.sum_Ico_add g 0 N j,
    ← Finset.sum_Ico_consecutive g (show 0 + j ≤ N by omega) (show N ≤ N + j by omega),
    Finset.sum_eq_zero (s := Finset.Ico N (N + j)) (fun k hk => hg k (Finset.mem_Ico.mp hk).1), add_zero, Nat.zero_add]

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem cmpi_eq (a b : ℕ) (ha : a < 2 ^ 32) (hb : b < 2 ^ 32) :
    IntOp.cmpi .eq (BitVec.ofNat 32 a) (BitVec.ofNat 32 b) = if a = b then 1#1 else 0#1 := by
  unfold IntOp.cmpi
  by_cases h : a = b
  · simp [h]
  · have hn : BitVec.ofNat 32 a ≠ BitVec.ofNat 32 b := by
      intro e
      have e' := congrArg BitVec.toNat e
      rw [BitVec.toNat_ofNat, BitVec.toNat_ofNat, Nat.mod_eq_of_lt ha, Nat.mod_eq_of_lt hb] at e'
      exact h e'
    rw [if_neg h]
    simp only [beq_eq_false_iff_ne.mpr hn]
    rfl

theorem cmpi_sge (a b : ℕ) (ha : a < 2 ^ 31) (hb : b < 2 ^ 31) :
    IntOp.cmpi .sge (BitVec.ofNat 32 a) (BitVec.ofNat 32 b) = if b ≤ a then 1#1 else 0#1 := by
  have hi : ∀ n, n < 2 ^ 31 → (BitVec.ofNat 32 n).toInt = (n : ℤ) := by
    intro n hn
    rw [BitVec.toInt_eq_toNat_of_lt (by rw [BitVec.toNat_ofNat]; omega), BitVec.toNat_ofNat, Nat.mod_eq_of_lt (by omega)]
  unfold IntOp.cmpi
  by_cases h : b ≤ a <;> simp [BitVec.sle, hi a ha, hi b hb, h]

theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]
theorem ori_ite (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]
theorem zero_ori (x : BitVec 1) : IntOp.ori 0#1 x = x := by simp [IntOp.ori]

theorem sitofp_ite (p : Prop) [Decidable p] :
    (FloatOps.sitofp (F := Ideal) FTy.f32 (BitVec.setWidth 32 (if p then 1#1 else 0#1)) : EReal) = if p then 1 else 0 := by
  show (((BitVec.setWidth 32 (if p then 1#1 else 0#1)).toInt : ℝ) : EReal) = _
  by_cases h : p
  · rw [if_pos h, if_pos h, show (BitVec.setWidth 32 1#1).toInt = 1 from by decide]; norm_num
  · rw [if_neg h, if_neg h, show (BitVec.setWidth 32 0#1).toInt = 0 from by decide]; norm_num

end Cert.CumsumAlgebra
-- ==== Proof.DwKernel.lean ====
/-
The input weight's gradient kernel: the arrays it leaves, entry by entry.
-/
module

public import proofs.«01_k».proof.Proof.DwStep
public import proofs.«01_k».proof.Proof.CumsumAlgebra

@[expose] public section

set_option maxRecDepth 16384

noncomputable section

open Idealize.ShloMosaic Idealize.ShloMosaic.TcCoe Idealize.SL.Sem
open Idealize.ShloMosaic.Pipeline (Dat Window)

namespace Cert.DwInIdeal.Step

open Cert.DwInIdeal Cert.DwInIdeal.Gen Cert.DwInIdeal.Value Cert.Pieces

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel

/-- The row of the whole array that row `r` of point `t`'s block is. -/
def row (t : Fin cfg0.N) (r : Fin 1024) : Fin 4096 := ⟨1024 * t.val + r.val, by have hN : cfg0.N = 4 := rfl; have := t.isLt; have := r.isLt; omega⟩

/-- The weight's gradient: the product of a gradient's column and a column of the norm's output, over the rows. -/
def dwE {w : ℕ} (X : Vec Ideal (⟨2, ![4096, w]⟩ : Shape) .bf16) (H : Vec Ideal S4096x1024 .bf16) (a : Fin w) (b : Fin 1024) : EReal :=
  ∑ R : Fin 4096, X (ix2 R a) * H (ix2 R b)

/-- The same sum over the first `n` blocks of rows. -/
def upto {w : ℕ} (X : Vec Ideal (⟨2, ![4096, w]⟩ : Shape) .bf16) (H : Vec Ideal S4096x1024 .bf16) (a : Fin w) (b : Fin 1024) (n : ℕ) : EReal :=
  ∑ k ∈ Finset.range (1024 * n), Cert.CumsumAlgebra.ext (fun R : Fin 4096 => X (ix2 R a) * H (ix2 R b)) k

theorem upto_step {w : ℕ} (X : Vec Ideal (⟨2, ![4096, w]⟩ : Shape) .bf16) (H : Vec Ideal S4096x1024 .bf16) (a : Fin w) (b : Fin 1024) (t : Fin cfg0.N) :
    upto X H a b t.val + ∑ r : Fin 1024, X (ix2 (row t r) a) * H (ix2 (row t r) b) = upto X H a b (t.val + 1) := by
  unfold upto
  rw [show 1024 * (t.val + 1) = 1024 * t.val + 1024 by omega, Finset.sum_range_add, ← Fin.sum_univ_eq_sum_range (fun x => Cert.CumsumAlgebra.ext (fun R : Fin 4096 => X (ix2 R a) * H (ix2 R b)) (1024 * t.val + x))]
  congr 1
  exact Finset.sum_congr rfl fun x _ => (Cert.CumsumAlgebra.ext_lt (fun R : Fin 4096 => X (ix2 R a) * H (ix2 R b)) (row t x)).symm

theorem upto_all {w : ℕ} (X : Vec Ideal (⟨2, ![4096, w]⟩ : Shape) .bf16) (H : Vec Ideal S4096x1024 .bf16) (a : Fin w) (b : Fin 1024) :
    upto X H a b 4 = dwE X H a b := by
  unfold upto dwE
  rw [show 1024 * 4 = 4096 from rfl, ← Fin.sum_univ_eq_sum_range]
  exact Finset.sum_congr rfl fun R _ => Cert.CumsumAlgebra.ext_lt (fun R : Fin 4096 => X (ix2 R a) * H (ix2 R b)) R

section Blocks

variable {F : FTy → Type} [FloatOps F] (m : (ℓ : Loc nD τ sig) → Buf (Elt F) ℓ) (c : Dev nD)

abbrev argH : Vec F S4096x1024 .bf16 := m ((c : Thread nD τ).loc main_arg0)
abbrev argQ : Vec F S4096x512 .bf16 := m ((c : Thread nD τ).loc main_arg1)
abbrev argK : Vec F S4096x512 .bf16 := m ((c : Thread nD τ).loc main_arg2)
abbrev argV : Vec F S4096x512 .bf16 := m ((c : Thread nD τ).loc main_arg3)
abbrev argU : Vec F S4096x512 .bf16 := m ((c : Thread nD τ).loc main_arg4)
abbrev argF : Vec F S4096x128 .bf16 := m ((c : Thread nD τ).loc main_arg5)

theorem iblk0 (t : Fin cfg0.N) (r : Fin 1024) (x : Fin 512) :
    iblk m c 0 t (ix2 r x) = argQ m c (ix2 (row t r) x) := by
  unfold iblk
  rw [View.read_apply]
  show V m c main_arg1 _ = _
  rw [V_main_arg1]
  congr 1
  funext a
  apply Fin.ext
  show ((win0_0.rect t).emb (ix2 r x) a : Nat) = _
  rw [Window.rect_emb_val win0_0 t _ a rfl, idx0]
  fin_cases a
  · show t.val * 1024 + r.val = 1024 * t.val + r.val; omega
  · show 0 * 512 + x.val = x.val; omega

theorem iblk1 (t : Fin cfg0.N) (r : Fin 1024) (x : Fin 512) :
    iblk m c 1 t (ix2 r x) = argK m c (ix2 (row t r) x) := by
  unfold iblk
  rw [View.read_apply]
  show V m c main_arg2 _ = _
  rw [V_main_arg2]
  congr 1
  funext a
  apply Fin.ext
  show ((win0_1.rect t).emb (ix2 r x) a : Nat) = _
  rw [Window.rect_emb_val win0_1 t _ a rfl, idx1]
  fin_cases a
  · show t.val * 1024 + r.val = 1024 * t.val + r.val; omega
  · show 0 * 512 + x.val = x.val; omega

theorem iblk2 (t : Fin cfg0.N) (r : Fin 1024) (x : Fin 512) :
    iblk m c 2 t (ix2 r x) = argV m c (ix2 (row t r) x) := by
  unfold iblk
  rw [View.read_apply]
  show V m c main_arg3 _ = _
  rw [V_main_arg3]
  congr 1
  funext a
  apply Fin.ext
  show ((win0_2.rect t).emb (ix2 r x) a : Nat) = _
  rw [Window.rect_emb_val win0_2 t _ a rfl, idx2]
  fin_cases a
  · show t.val * 1024 + r.val = 1024 * t.val + r.val; omega
  · show 0 * 512 + x.val = x.val; omega

theorem iblk3 (t : Fin cfg0.N) (r : Fin 1024) (x : Fin 512) :
    iblk m c 3 t (ix2 r x) = argU m c (ix2 (row t r) x) := by
  unfold iblk
  rw [View.read_apply]
  show V m c main_arg4 _ = _
  rw [V_main_arg4]
  congr 1
  funext a
  apply Fin.ext
  show ((win0_3.rect t).emb (ix2 r x) a : Nat) = _
  rw [Window.rect_emb_val win0_3 t _ a rfl, idx3]
  fin_cases a
  · show t.val * 1024 + r.val = 1024 * t.val + r.val; omega
  · show 0 * 512 + x.val = x.val; omega

theorem iblk4 (t : Fin cfg0.N) (r : Fin 1024) (x : Fin 128) :
    iblk m c 4 t (ix2 r x) = argF m c (ix2 (row t r) x) := by
  unfold iblk
  rw [View.read_apply]
  show V m c main_arg5 _ = _
  rw [V_main_arg5]
  congr 1
  funext a
  apply Fin.ext
  show ((win0_4.rect t).emb (ix2 r x) a : Nat) = _
  rw [Window.rect_emb_val win0_4 t _ a rfl, idx4]
  fin_cases a
  · show t.val * 1024 + r.val = 1024 * t.val + r.val; omega
  · show 0 * 128 + x.val = x.val; omega

theorem iblk5 (t : Fin cfg0.N) (r : Fin 1024) (x : Fin 1024) :
    iblk m c 5 t (ix2 r x) = argH m c (ix2 (row t r) x) := by
  unfold iblk
  rw [View.read_apply]
  show V m c main_arg0 _ = _
  rw [V_main_arg0]
  congr 1
  funext a
  apply Fin.ext
  show ((win0_5.rect t).emb (ix2 r x) a : Nat) = _
  rw [Window.rect_emb_val win0_5 t _ a rfl, idx5]
  fin_cases a
  · show t.val * 1024 + r.val = 1024 * t.val + r.val; omega
  · show 0 * 1024 + x.val = x.val; omega

end Blocks

theorem ini0_at (x5 : Vec Ideal S1024x1024 .bf16) (x0 : Vec Ideal S1024x512 .bf16) (a : Fin 512) (b : Fin 1024) :
    k0_pay2 x5 x0 (ix2 a b) = ∑ r : Fin 1024, x0 (ix2 r a) * x5 (ix2 r b) := by
  pointwise [k0_pay2, k0_pay1]

theorem add0_at (x5 : Vec Ideal S1024x1024 .bf16) (x0 : Vec Ideal S1024x512 .bf16) (s0 : Vec Ideal S512x1024 .f32) (a : Fin 512) (b : Fin 1024) :
    k0_pay3 x5 x0 s0 (ix2 a b) = s0 (ix2 a b) + ∑ r : Fin 1024, x0 (ix2 r a) * x5 (ix2 r b) := by
  pointwise [k0_pay3, k0_pay1]

theorem cast0_at (s : Vec Ideal S512x1024 .f32) (a : Fin 512) (b : Fin 1024) : k0_pay4 s (ix2 a b) = s (ix2 a b) := by
  pointwise [k0_pay4]

theorem ini1_at (x5 : Vec Ideal S1024x1024 .bf16) (x1 : Vec Ideal S1024x512 .bf16) (a : Fin 512) (b : Fin 1024) :
    k0_pay6 x5 x1 (ix2 a b) = ∑ r : Fin 1024, x1 (ix2 r a) * x5 (ix2 r b) := by
  pointwise [k0_pay6, k0_pay5]

theorem add1_at (x5 : Vec Ideal S1024x1024 .bf16) (x1 : Vec Ideal S1024x512 .bf16) (s1 : Vec Ideal S512x1024 .f32) (a : Fin 512) (b : Fin 1024) :
    k0_pay7 x5 x1 s1 (ix2 a b) = s1 (ix2 a b) + ∑ r : Fin 1024, x1 (ix2 r a) * x5 (ix2 r b) := by
  pointwise [k0_pay7, k0_pay5]

theorem cast1_at (s : Vec Ideal S512x1024 .f32) (a : Fin 512) (b : Fin 1024) : k0_pay8 s (ix2 a b) = s (ix2 a b) := by
  pointwise [k0_pay8]

theorem ini2_at (x5 : Vec Ideal S1024x1024 .bf16) (x2 : Vec Ideal S1024x512 .bf16) (a : Fin 512) (b : Fin 1024) :
    k0_pay10 (k0_pay9 x5 x2) (ix2 a b) = ∑ r : Fin 1024, x2 (ix2 r a) * x5 (ix2 r b) := by
  pointwise [k0_pay10, k0_pay9]

theorem add2_at (x5 : Vec Ideal S1024x1024 .bf16) (x2 : Vec Ideal S1024x512 .bf16) (s2 : Vec Ideal S512x1024 .f32) (a : Fin 512) (b : Fin 1024) :
    k0_pay11 (k0_pay9 x5 x2) s2 (ix2 a b) = s2 (ix2 a b) + ∑ r : Fin 1024, x2 (ix2 r a) * x5 (ix2 r b) := by
  pointwise [k0_pay11, k0_pay9]

theorem cast2_at (s : Vec Ideal S512x1024 .f32) (a : Fin 512) (b : Fin 1024) : k0_pay12 s (ix2 a b) = s (ix2 a b) := by
  pointwise [k0_pay12]

theorem ini3_at (x5 : Vec Ideal S1024x1024 .bf16) (x3 : Vec Ideal S1024x512 .bf16) (a : Fin 512) (b : Fin 1024) :
    k0_pay14 x5 x3 (ix2 a b) = ∑ r : Fin 1024, x3 (ix2 r a) * x5 (ix2 r b) := by
  pointwise [k0_pay14, k0_pay13]

theorem add3_at (x5 : Vec Ideal S1024x1024 .bf16) (x3 : Vec Ideal S1024x512 .bf16) (s3 : Vec Ideal S512x1024 .f32) (a : Fin 512) (b : Fin 1024) :
    k0_pay15 x5 x3 s3 (ix2 a b) = s3 (ix2 a b) + ∑ r : Fin 1024, x3 (ix2 r a) * x5 (ix2 r b) := by
  pointwise [k0_pay15, k0_pay13]

theorem cast3_at (s : Vec Ideal S512x1024 .f32) (a : Fin 512) (b : Fin 1024) : k0_pay16 s (ix2 a b) = s (ix2 a b) := by
  pointwise [k0_pay16]

theorem ini4_at (x5 : Vec Ideal S1024x1024 .bf16) (x4 : Vec Ideal S1024x128 .bf16) (a : Fin 128) (b : Fin 1024) :
    k0_pay18 x5 x4 (ix2 a b) = ∑ r : Fin 1024, x4 (ix2 r a) * x5 (ix2 r b) := by
  pointwise [k0_pay18, k0_pay17]

theorem add4_at (x5 : Vec Ideal S1024x1024 .bf16) (x4 : Vec Ideal S1024x128 .bf16) (s4 : Vec Ideal S128x1024 .f32) (a : Fin 128) (b : Fin 1024) :
    k0_pay19 x5 x4 s4 (ix2 a b) = s4 (ix2 a b) + ∑ r : Fin 1024, x4 (ix2 r a) * x5 (ix2 r b) := by
  pointwise [k0_pay19, k0_pay17]

theorem cast4_at (s : Vec Ideal S128x1024 .f32) (a : Fin 128) (b : Fin 1024) : k0_pay20 s (ix2 a b) = s (ix2 a b) := by
  pointwise [k0_pay20]

theorem blk {w : ℕ} (X : Vec Ideal (⟨2, ![4096, w]⟩ : Shape) .bf16) (H : Vec Ideal S4096x1024 .bf16) (x : Vec Ideal (⟨2, ![1024, w]⟩ : Shape) .bf16) (x5 : Vec Ideal S1024x1024 .bf16)
    (t : Fin cfg0.N) (hx : ∀ r a, x (ix2 r a) = X (ix2 (row t r) a)) (h5 : ∀ r b, x5 (ix2 r b) = H (ix2 (row t r) b)) (a : Fin w) (b : Fin 1024) :
    ∑ r : Fin 1024, x (ix2 r a) * x5 (ix2 r b) = ∑ r : Fin 1024, X (ix2 (row t r) a) * H (ix2 (row t r) b) :=
  Finset.sum_congr rfl fun r _ => congrArg₂ (· * ·) (hx r a) (h5 r b)

variable (m : (ℓ : Loc nD τ sig) → Buf (Elt Ideal) ℓ) (c : Dev nD)

theorem first0 (t : Fin cfg0.N) (h : t.val = 0) (a : Fin 512) (b : Fin 1024) :
    k0_pay2 (iblk m c 5 t) (iblk m c 0 t) (ix2 a b) = upto (argQ m c) (argH m c) a b (t.val + 1) := by
  refine (ini0_at _ _ a b).trans ((blk (argQ m c) (argH m c) _ _ t (iblk0 m c t) (iblk5 m c t) a b).trans ?_)
  rw [← upto_step, h]
  exact (zero_add _).symm

theorem next0 (t : Fin cfg0.N) (s : Vec Ideal S512x1024 .f32) (hs : ∀ a b, s (ix2 a b) = upto (argQ m c) (argH m c) a b t.val) (a : Fin 512) (b : Fin 1024) :
    k0_pay3 (iblk m c 5 t) (iblk m c 0 t) s (ix2 a b) = upto (argQ m c) (argH m c) a b (t.val + 1) := by
  refine (add0_at _ _ _ a b).trans ?_
  rw [hs]
  exact (congrArg _ (blk (argQ m c) (argH m c) _ _ t (iblk0 m c t) (iblk5 m c t) a b)).trans (upto_step _ _ a b t)

theorem first1 (t : Fin cfg0.N) (h : t.val = 0) (a : Fin 512) (b : Fin 1024) :
    k0_pay6 (iblk m c 5 t) (iblk m c 1 t) (ix2 a b) = upto (argK m c) (argH m c) a b (t.val + 1) := by
  refine (ini1_at _ _ a b).trans ((blk (argK m c) (argH m c) _ _ t (iblk1 m c t) (iblk5 m c t) a b).trans ?_)
  rw [← upto_step, h]
  exact (zero_add _).symm

theorem next1 (t : Fin cfg0.N) (s : Vec Ideal S512x1024 .f32) (hs : ∀ a b, s (ix2 a b) = upto (argK m c) (argH m c) a b t.val) (a : Fin 512) (b : Fin 1024) :
    k0_pay7 (iblk m c 5 t) (iblk m c 1 t) s (ix2 a b) = upto (argK m c) (argH m c) a b (t.val + 1) := by
  refine (add1_at _ _ _ a b).trans ?_
  rw [hs]
  exact (congrArg _ (blk (argK m c) (argH m c) _ _ t (iblk1 m c t) (iblk5 m c t) a b)).trans (upto_step _ _ a b t)

theorem first2 (t : Fin cfg0.N) (h : t.val = 0) (a : Fin 512) (b : Fin 1024) :
    k0_pay10 (k0_pay9 (iblk m c 5 t) (iblk m c 2 t)) (ix2 a b) = upto (argV m c) (argH m c) a b (t.val + 1) := by
  refine (ini2_at _ _ a b).trans ((blk (argV m c) (argH m c) _ _ t (iblk2 m c t) (iblk5 m c t) a b).trans ?_)
  rw [← upto_step, h]
  exact (zero_add _).symm

theorem next2 (t : Fin cfg0.N) (s : Vec Ideal S512x1024 .f32) (hs : ∀ a b, s (ix2 a b) = upto (argV m c) (argH m c) a b t.val) (a : Fin 512) (b : Fin 1024) :
    k0_pay11 (k0_pay9 (iblk m c 5 t) (iblk m c 2 t)) s (ix2 a b) = upto (argV m c) (argH m c) a b (t.val + 1) := by
  refine (add2_at _ _ _ a b).trans ?_
  rw [hs]
  exact (congrArg _ (blk (argV m c) (argH m c) _ _ t (iblk2 m c t) (iblk5 m c t) a b)).trans (upto_step _ _ a b t)

theorem first3 (t : Fin cfg0.N) (h : t.val = 0) (a : Fin 512) (b : Fin 1024) :
    k0_pay14 (iblk m c 5 t) (iblk m c 3 t) (ix2 a b) = upto (argU m c) (argH m c) a b (t.val + 1) := by
  refine (ini3_at _ _ a b).trans ((blk (argU m c) (argH m c) _ _ t (iblk3 m c t) (iblk5 m c t) a b).trans ?_)
  rw [← upto_step, h]
  exact (zero_add _).symm

theorem next3 (t : Fin cfg0.N) (s : Vec Ideal S512x1024 .f32) (hs : ∀ a b, s (ix2 a b) = upto (argU m c) (argH m c) a b t.val) (a : Fin 512) (b : Fin 1024) :
    k0_pay15 (iblk m c 5 t) (iblk m c 3 t) s (ix2 a b) = upto (argU m c) (argH m c) a b (t.val + 1) := by
  refine (add3_at _ _ _ a b).trans ?_
  rw [hs]
  exact (congrArg _ (blk (argU m c) (argH m c) _ _ t (iblk3 m c t) (iblk5 m c t) a b)).trans (upto_step _ _ a b t)

theorem first4 (t : Fin cfg0.N) (h : t.val = 0) (a : Fin 128) (b : Fin 1024) :
    k0_pay18 (iblk m c 5 t) (iblk m c 4 t) (ix2 a b) = upto (argF m c) (argH m c) a b (t.val + 1) := by
  refine (ini4_at _ _ a b).trans ((blk (argF m c) (argH m c) _ _ t (iblk4 m c t) (iblk5 m c t) a b).trans ?_)
  rw [← upto_step, h]
  exact (zero_add _).symm

theorem next4 (t : Fin cfg0.N) (s : Vec Ideal S128x1024 .f32) (hs : ∀ a b, s (ix2 a b) = upto (argF m c) (argH m c) a b t.val) (a : Fin 128) (b : Fin 1024) :
    k0_pay19 (iblk m c 5 t) (iblk m c 4 t) s (ix2 a b) = upto (argF m c) (argH m c) a b (t.val + 1) := by
  refine (add4_at _ _ _ a b).trans ?_
  rw [hs]
  exact (congrArg _ (blk (argF m c) (argH m c) _ _ t (iblk4 m c t) (iblk5 m c t) a b)).trans (upto_step _ _ a b t)

/-- What the scratch and, at the last point, the outputs hold after point `t`. -/
def Inv (t : Fin cfg0.N) (o : Vec Ideal S512x1024 .bf16 × Vec Ideal S512x1024 .bf16 × Vec Ideal S512x1024 .bf16 × Vec Ideal S512x1024 .bf16 × Vec Ideal S128x1024 .bf16 × Vec Ideal S512x1024 .f32 × Vec Ideal S512x1024 .f32 × Vec Ideal S512x1024 .f32 × Vec Ideal S512x1024 .f32 × Vec Ideal S128x1024 .f32) : Prop :=
  (∀ a b, o.2.2.2.2.2.1 (ix2 a b) = upto (argQ m c) (argH m c) a b (t.val + 1))
  ∧ (∀ a b, o.2.2.2.2.2.2.1 (ix2 a b) = upto (argK m c) (argH m c) a b (t.val + 1))
  ∧ (∀ a b, o.2.2.2.2.2.2.2.1 (ix2 a b) = upto (argV m c) (argH m c) a b (t.val + 1))
  ∧ (∀ a b, o.2.2.2.2.2.2.2.2.1 (ix2 a b) = upto (argU m c) (argH m c) a b (t.val + 1))
  ∧ (∀ a b, o.2.2.2.2.2.2.2.2.2 (ix2 a b) = upto (argF m c) (argH m c) a b (t.val + 1))
  ∧ (t.val = 3 → (∀ a b, o.1 (ix2 a b) = upto (argQ m c) (argH m c) a b (t.val + 1)) ∧ (∀ a b, o.2.1 (ix2 a b) = upto (argK m c) (argH m c) a b (t.val + 1)) ∧ (∀ a b, o.2.2.1 (ix2 a b) = upto (argV m c) (argH m c) a b (t.val + 1)) ∧ (∀ a b, o.2.2.2.1 (ix2 a b) = upto (argU m c) (argH m c) a b (t.val + 1)) ∧ (∀ a b, o.2.2.2.2.1 (ix2 a b) = upto (argF m c) (argH m c) a b (t.val + 1)))

theorem inv_all : ∀ (n : ℕ) (hn : n < cfg0.N), Inv m c ⟨n, hn⟩ (outsAt0 m c n hn)
  | 0, hn => by
    have h := outsAt0_A m c ⟨0, hn⟩ rfl (by show ¬1 ≤ 0; omega) (by show ¬0 % 4 = 3; omega) rfl (by show ¬1 ≤ 0; omega) (by show ¬0 % 4 = 3; omega) rfl (by show ¬1 ≤ 0; omega) (by show ¬0 % 4 = 3; omega) rfl (by show ¬1 ≤ 0; omega) (by show ¬0 % 4 = 3; omega) rfl (by show ¬1 ≤ 0; omega) (by show ¬0 % 4 = 3; omega)
    dsimp only at h
    rw [h, s0_A, s1_A, s2_A, s3_A, s4_A]
    exact ⟨fun a b => first0 m c ⟨0, hn⟩ rfl a b, fun a b => first1 m c ⟨0, hn⟩ rfl a b, fun a b => first2 m c ⟨0, hn⟩ rfl a b, fun a b => first3 m c ⟨0, hn⟩ rfl a b, fun a b => first4 m c ⟨0, hn⟩ rfl a b, fun h => absurd h (by show ¬0 = 3; omega)⟩
  | n + 1, hn => by
    have hN : cfg0.N = 4 := rfl
    obtain ⟨i0, i1, i2, i3, i4, -⟩ := inv_all n (by omega)
    by_cases h3 : n + 1 = 3
    · have h := outsAt0_C m c ⟨n + 1, hn⟩ (by show ¬(n + 1) % 4 = 0; omega) (by show 1 ≤ n + 1; omega) (by show (n + 1) % 4 = 3; omega) (by show ¬(n + 1) % 4 = 0; omega) (by show 1 ≤ n + 1; omega) (by show (n + 1) % 4 = 3; omega) (by show ¬(n + 1) % 4 = 0; omega) (by show 1 ≤ n + 1; omega) (by show (n + 1) % 4 = 3; omega) (by show ¬(n + 1) % 4 = 0; omega) (by show 1 ≤ n + 1; omega) (by show (n + 1) % 4 = 3; omega) (by show ¬(n + 1) % 4 = 0; omega) (by show 1 ≤ n + 1; omega) (by show (n + 1) % 4 = 3; omega)
      dsimp only at h
      rw [h, s0_C, s1_C, s2_C, s3_C, s4_C, o0_C, o1_C, o2_C, o3_C, o4_C]
      exact ⟨fun a b => next0 m c ⟨n + 1, hn⟩ _ i0 a b, fun a b => next1 m c ⟨n + 1, hn⟩ _ i1 a b, fun a b => next2 m c ⟨n + 1, hn⟩ _ i2 a b, fun a b => next3 m c ⟨n + 1, hn⟩ _ i3 a b, fun a b => next4 m c ⟨n + 1, hn⟩ _ i4 a b,
        fun _ => ⟨fun a b => (cast0_at _ a b).trans (next0 m c ⟨n + 1, hn⟩ _ i0 a b), fun a b => (cast1_at _ a b).trans (next1 m c ⟨n + 1, hn⟩ _ i1 a b), fun a b => (cast2_at _ a b).trans (next2 m c ⟨n + 1, hn⟩ _ i2 a b), fun a b => (cast3_at _ a b).trans (next3 m c ⟨n + 1, hn⟩ _ i3 a b), fun a b => (cast4_at _ a b).trans (next4 m c ⟨n + 1, hn⟩ _ i4 a b)⟩⟩
    · have h := outsAt0_B m c ⟨n + 1, hn⟩ (by show ¬(n + 1) % 4 = 0; omega) (by show 1 ≤ n + 1; omega) (by show ¬(n + 1) % 4 = 3; omega) (by show ¬(n + 1) % 4 = 0; omega) (by show 1 ≤ n + 1; omega) (by show ¬(n + 1) % 4 = 3; omega) (by show ¬(n + 1) % 4 = 0; omega) (by show 1 ≤ n + 1; omega) (by show ¬(n + 1) % 4 = 3; omega) (by show ¬(n + 1) % 4 = 0; omega) (by show 1 ≤ n + 1; omega) (by show ¬(n + 1) % 4 = 3; omega) (by show ¬(n + 1) % 4 = 0; omega) (by show 1 ≤ n + 1; omega) (by show ¬(n + 1) % 4 = 3; omega)
      dsimp only at h
      rw [h, s0_B, s1_B, s2_B, s3_B, s4_B]
      exact ⟨fun a b => next0 m c ⟨n + 1, hn⟩ _ i0 a b, fun a b => next1 m c ⟨n + 1, hn⟩ _ i1 a b, fun a b => next2 m c ⟨n + 1, hn⟩ _ i2 a b, fun a b => next3 m c ⟨n + 1, hn⟩ _ i3 a b, fun a b => next4 m c ⟨n + 1, hn⟩ _ i4 a b, fun h => absurd h h3⟩

theorem dq_final (a : Fin 512) (b : Fin 1024) :
    (G6 m c : Vec Ideal S512x1024 .bf16) (ix2 a b) = dwE (argQ m c) (argH m c) a b := by
  have h := (inv_all m c 3 (by decide)).2.2.2.2.2 rfl
  rw [G6_last, ← outsAt0_sweep]
  exact (h.1 a b).trans (upto_all _ _ a b)

theorem dk_final (a : Fin 512) (b : Fin 1024) :
    (G7 m c : Vec Ideal S512x1024 .bf16) (ix2 a b) = dwE (argK m c) (argH m c) a b := by
  have h := (inv_all m c 3 (by decide)).2.2.2.2.2 rfl
  rw [G7_last, ← outsAt0_sweep]
  exact (h.2.1 a b).trans (upto_all _ _ a b)

theorem dv_final (a : Fin 512) (b : Fin 1024) :
    (G8 m c : Vec Ideal S512x1024 .bf16) (ix2 a b) = dwE (argV m c) (argH m c) a b := by
  have h := (inv_all m c 3 (by decide)).2.2.2.2.2 rfl
  rw [G8_last, ← outsAt0_sweep]
  exact (h.2.2.1 a b).trans (upto_all _ _ a b)

theorem du_final (a : Fin 512) (b : Fin 1024) :
    (G9 m c : Vec Ideal S512x1024 .bf16) (ix2 a b) = dwE (argU m c) (argH m c) a b := by
  have h := (inv_all m c 3 (by decide)).2.2.2.2.2 rfl
  rw [G9_last, ← outsAt0_sweep]
  exact (h.2.2.2.1 a b).trans (upto_all _ _ a b)

theorem df_final (a : Fin 128) (b : Fin 1024) :
    (G10 m c : Vec Ideal S128x1024 .bf16) (ix2 a b) = dwE (argF m c) (argH m c) a b := by
  have h := (inv_all m c 3 (by decide)).2.2.2.2.2 rfl
  rw [G10_last, ← outsAt0_sweep]
  exact (h.2.2.2.2 a b).trans (upto_all _ _ a b)

end Cert.DwInIdeal.Step
-- ==== Proof.DwClaim.lean ====
/-
The input weight's gradient kernel leaves the reference's five results.
-/
module

public import proofs.«01_k».proof.Proof.DwKernel
public import proofs.«01_k».proof.Proof.Gen.DwInRefIdeal.Run
public import proofs.«01_k».proof.Proof.Gen.DwInRefIdeal.Read
public import proofs.«01_k».proof.Defs
public import proofs.«01_k».proof.Proof.Gen.DwIn
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.DwClaim

open Cert.DwInIdeal.Step

section Ref

open Cert.DwInRefIdeal Cert.DwInRefIdeal.Gen Cert.DwInRefIdeal.Read

variable (H : Vec Ideal S4096x1024 .bf16) (Q : Vec Ideal S4096x512 .bf16) (K : Vec Ideal S4096x512 .bf16) (V : Vec Ideal S4096x512 .bf16) (U : Vec Ideal S4096x512 .bf16) (Fg : Vec Ideal S4096x128 .bf16)

theorem v7_at (a : Fin 512) (b : Fin 1024) : (val_main_v7 (F := Ideal) H Q) (ix2 a b) = dwE Q H a b := by
  pointwise [val_main_v1, val_main_v3, val_main_v4, val_main_v5, val_main_v6, val_main_v7]
  rfl

theorem v15_at (a : Fin 512) (b : Fin 1024) : (val_main_v15 (F := Ideal) H K) (ix2 a b) = dwE K H a b := by
  pointwise [val_main_v9, val_main_v11, val_main_v12, val_main_v13, val_main_v14, val_main_v15]
  rfl

theorem v23_at (a : Fin 512) (b : Fin 1024) : (val_main_v23 (F := Ideal) H V) (ix2 a b) = dwE V H a b := by
  pointwise [val_main_v17, val_main_v19, val_main_v20, val_main_v21, val_main_v22, val_main_v23]
  rfl

theorem v31_at (a : Fin 512) (b : Fin 1024) : (val_main_v31 (F := Ideal) H U) (ix2 a b) = dwE U H a b := by
  pointwise [val_main_v25, val_main_v27, val_main_v28, val_main_v29, val_main_v30, val_main_v31]
  rfl

theorem v39_at (a : Fin 128) (b : Fin 1024) : (val_main_v39 (F := Ideal) H Fg) (ix2 a b) = dwE Fg H a b := by
  pointwise [val_main_v33, val_main_v35, val_main_v36, val_main_v37, val_main_v38, val_main_v39]
  rfl

end Ref

/-- The reference runs on the host alone: its run keeps the arguments, and the program declares no semaphore. -/
theorem frame_ref : Cert.quiescent_DwInRefIdeal (hDwInRefIdeal := Cert.DwInRefIdeal.Gen.facts) := fun m g _ =>
  (θ_run Cert.DwInRefIdeal.defs _ _).mono
    (fun r h => ⟨fun c => (h c).2.2.2.2.2, Idealize.ShloMosaic.sem_eq_zero_of_no_sems (by decide) r.2⟩)
    (Cert.DwInRefIdeal.Value.run (F := Ideal) m g)

theorem of2 {a b : Nat} (i : (⟨2, ![a, b]⟩ : Shape).Idx) : ∃ (R : Fin a) (l : Fin b), i = ix2 R l :=
  ⟨i 0, i 1, by funext a; fin_cases a <;> rfl⟩

/-- The claim: after the kernel's run the five results are the reference's, entry by entry. -/
theorem algebraic : Cert.algebraic_DwInIdeal_DwInRefIdeal
    (hDwInIdeal := Cert.DwInIdeal.Gen.facts) (hDwInRefIdeal := Cert.DwInRefIdeal.Gen.facts) := by
  intro m g m' g' _ hag
  refine ⟨fun c => Cert.DwInRefIdeal.Read.val_main_v7 (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg1)),
    fun c => Cert.DwInRefIdeal.Read.val_main_v15 (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg2)),
    fun c => Cert.DwInRefIdeal.Read.val_main_v23 (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg3)),
    fun c => Cert.DwInRefIdeal.Read.val_main_v31 (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg4)),
    fun c => Cert.DwInRefIdeal.Read.val_main_v39 (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg5)), ?_,
    Cert.DwInRefIdeal.Value.run m' g'⟩
  refine (θ_run _ _ _).mono (fun r h c => ?_) (Cert.DwInIdeal.Value.run m g)
  obtain ⟨h0, h1, h2, h3, h4, hk⟩ := h c
  obtain ⟨a0, a1, a2, a3, a4, a5⟩ := hag c
  refine ⟨h0.trans ?_, h1.trans ?_, h2.trans ?_, h3.trans ?_, h4.trans ?_, hk⟩
  · dsimp only
    rw [a0, a1]
    funext i
    obtain ⟨R, l, rfl⟩ := of2 i
    exact (dq_final m c R l).trans (v7_at _ _ R l).symm
  · dsimp only
    rw [a0, a2]
    funext i
    obtain ⟨R, l, rfl⟩ := of2 i
    exact (dk_final m c R l).trans (v15_at _ _ R l).symm
  · dsimp only
    rw [a0, a3]
    funext i
    obtain ⟨R, l, rfl⟩ := of2 i
    exact (dv_final m c R l).trans (v23_at _ _ R l).symm
  · dsimp only
    rw [a0, a4]
    funext i
    obtain ⟨R, l, rfl⟩ := of2 i
    exact (du_final m c R l).trans (v31_at _ _ R l).symm
  · dsimp only
    rw [a0, a5]
    funext i
    obtain ⟨R, l, rfl⟩ := of2 i
    exact (df_final m c R l).trans (v39_at _ _ R l).symm

end Cert.DwClaim
-- ==== Proof.AdwKernel.lean ====
/-
The optimiser's kernel on the input projection's weight: the arrays it leaves, entry by entry.
-/
module

public import proofs.«01_k».proof.Proof.Gen.AdamwInIdeal.Value
public import proofs.«01_k».proof.Proof.Pieces

@[expose] public section

set_option maxRecDepth 16384

noncomputable section

open Idealize.ShloMosaic Idealize.ShloMosaic.TcCoe Idealize.SL.Sem
open Idealize.ShloMosaic.Pipeline (Dat Window)

namespace Cert.AdamwInIdeal.Step

open Cert.AdamwInIdeal Cert.AdamwInIdeal.Gen Cert.AdamwInIdeal.Value Cert.Pieces

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0, 0] := by decide +kernel
theorem idx3 : ∀ t : Fin cfg0.N, win0_3.index t = ![0, 0] := by decide +kernel
theorem idx4 : ∀ t : Fin cfg0.N, win0_4.index t = ![0, 0] := by decide +kernel

/-- The new first moment of an entry with gradient `g`. -/
def mE (m g : EReal) : EReal := Ideal.ofBits .f32 1063675494#32 * m + Ideal.ofBits .f32 1036831949#32 * g

/-- The new second moment. -/
def vE (v g : EReal) : EReal := Ideal.ofBits .f32 1065336439#32 * v + Ideal.ofBits .f32 981668463#32 * (g * g)

/-- The step of the weight `w`. -/
def dE (w m v g : EReal) : EReal :=
  Ideal.ofBits .f32 3129152111#32 * (Ideal.div (Ideal.div (mE m g) (Ideal.ofBits .f32 1059503362#32)) (Ideal.sqrt (Ideal.div (vE v g) (Ideal.ofBits .f32 1008933580#32)) + Ideal.ofBits .f32 841731191#32)
    + Ideal.ofBits .f32 1008981770#32 * w)

section Blocks

variable {F : FTy → Type} [FloatOps F] (m : (ℓ : Loc nD τ sig) → Buf (Elt F) ℓ) (c : Dev nD)

abbrev argW : Vec F S1x1024x514 .f32 := m ((c : Thread nD τ).loc main_arg0)
abbrev argM : Vec F S1x1024x514 .f32 := m ((c : Thread nD τ).loc main_arg1)
abbrev argV : Vec F S1x1024x514 .f32 := m ((c : Thread nD τ).loc main_arg2)
abbrev argA : Vec F S514x1024 .bf16 := m ((c : Thread nD τ).loc main_arg3)
abbrev argB : Vec F S514x1024 .bf16 := m ((c : Thread nD τ).loc main_arg4)

theorem V_0 : V m c main_v0 = transpose S514x1x1024 [2, 0, 1] (argW m c) transposes_S1x1024x514_S514x1x1024_2_0_1 := by
  show StableHlo.after hostOps0 (fun b => m (c, b)) (Proc.devRef .tc main_v0) = _
  simp only [hostOps0]
  after_results
  all_goals rfl

theorem V_1 : V m c main_v1 = transpose S514x1x1024 [2, 0, 1] (argM m c) transposes_S1x1024x514_S514x1x1024_2_0_1 := by
  show StableHlo.after hostOps0 (fun b => m (c, b)) (Proc.devRef .tc main_v1) = _
  simp only [hostOps0]
  after_results
  all_goals rfl

theorem V_2 : V m c main_v2 = transpose S514x1x1024 [2, 0, 1] (argV m c) transposes_S1x1024x514_S514x1x1024_2_0_1 := by
  show StableHlo.after hostOps0 (fun b => m (c, b)) (Proc.devRef .tc main_v2) = _
  simp only [hostOps0]
  after_results
  all_goals rfl

theorem iblk0 (t : Fin cfg0.N) (p : Fin 514) (z : Fin 1) (b : Fin 1024) :
    iblk m c 0 t (ix3 p z b) = (V m c main_v0 : Vec F S514x1x1024 .f32) (ix3 p z b) := by
  unfold iblk
  rw [View.read_apply]
  show V m c main_v0 _ = _
  congr 1
  funext a
  apply Fin.ext
  show ((win0_0.rect t).emb (ix3 p z b) a : Nat) = _
  rw [Window.rect_emb_val win0_0 t _ a rfl, idx0]
  fin_cases a
  · show 0 * 514 + p.val = p.val; omega
  · show 0 * 1 + z.val = z.val; omega
  · show 0 * 1024 + b.val = b.val; omega

theorem iblk1 (t : Fin cfg0.N) (p : Fin 514) (z : Fin 1) (b : Fin 1024) :
    iblk m c 1 t (ix3 p z b) = (V m c main_v1 : Vec F S514x1x1024 .f32) (ix3 p z b) := by
  unfold iblk
  rw [View.read_apply]
  show V m c main_v1 _ = _
  congr 1
  funext a
  apply Fin.ext
  show ((win0_1.rect t).emb (ix3 p z b) a : Nat) = _
  rw [Window.rect_emb_val win0_1 t _ a rfl, idx1]
  fin_cases a
  · show 0 * 514 + p.val = p.val; omega
  · show 0 * 1 + z.val = z.val; omega
  · show 0 * 1024 + b.val = b.val; omega

theorem iblk2 (t : Fin cfg0.N) (p : Fin 514) (z : Fin 1) (b : Fin 1024) :
    iblk m c 2 t (ix3 p z b) = (V m c main_v2 : Vec F S514x1x1024 .f32) (ix3 p z b) := by
  unfold iblk
  rw [View.read_apply]
  show V m c main_v2 _ = _
  congr 1
  funext a
  apply Fin.ext
  show ((win0_2.rect t).emb (ix3 p z b) a : Nat) = _
  rw [Window.rect_emb_val win0_2 t _ a rfl, idx2]
  fin_cases a
  · show 0 * 514 + p.val = p.val; omega
  · show 0 * 1 + z.val = z.val; omega
  · show 0 * 1024 + b.val = b.val; omega

theorem iblk3 (t : Fin cfg0.N) (p : Fin 514) (b : Fin 1024) :
    iblk m c 3 t (ix2 p b) = argA m c (ix2 p b) := by
  unfold iblk
  rw [View.read_apply]
  show V m c main_arg3 _ = _
  rw [V_main_arg3]
  congr 1
  funext a
  apply Fin.ext
  show ((win0_3.rect t).emb (ix2 p b) a : Nat) = _
  rw [Window.rect_emb_val win0_3 t _ a rfl, idx3]
  fin_cases a
  · show 0 * 514 + p.val = p.val; omega
  · show 0 * 1024 + b.val = b.val; omega

theorem iblk4 (t : Fin cfg0.N) (p : Fin 514) (b : Fin 1024) :
    iblk m c 4 t (ix2 p b) = argB m c (ix2 p b) := by
  unfold iblk
  rw [View.read_apply]
  show V m c main_arg4 _ = _
  rw [V_main_arg4]
  congr 1
  funext a
  apply Fin.ext
  show ((win0_4.rect t).emb (ix2 p b) a : Nat) = _
  rw [Window.rect_emb_val win0_4 t _ a rfl, idx4]
  fin_cases a
  · show 0 * 514 + p.val = p.val; omega
  · show 0 * 1024 + b.val = b.val; omega

end Blocks

/-- The only point of the grid. -/
def p0 : Fin cfg0.N := ⟨0, by decide⟩

theorem pay5_at (A B : Vec Ideal S514x1024 .bf16) (W M N : Vec Ideal S514x1x1024 .f32) (a : Fin 514) (z : Fin 1) (b : Fin 1024) :
    k0_pay2 A B (ix3 a z b) = A (ix2 a b) + B (ix2 a b) := by
  pointwise [k0_pay1, k0_pay2, k0_pay3, k0_pay4, k0_pay5, k0_pay6]

theorem pay6_at (A B : Vec Ideal S514x1024 .bf16) (W M N : Vec Ideal S514x1x1024 .f32) (a : Fin 514) (z : Fin 1) (b : Fin 1024) :
    k0_pay1 (k0_pay5 A B M N) (k0_pay6 W) (ix3 a z b) = dE (W (ix3 a z b)) (M (ix3 a z b)) (N (ix3 a z b)) (A (ix2 a b) + B (ix2 a b)) := by
  pointwise [k0_pay1, k0_pay2, k0_pay3, k0_pay4, k0_pay5, k0_pay6]
  rfl

theorem pay7_at (A B : Vec Ideal S514x1024 .bf16) (W M N : Vec Ideal S514x1x1024 .f32) (a : Fin 514) (z : Fin 1) (b : Fin 1024) :
    k0_pay3 A B M (ix3 a z b) = mE (M (ix3 a z b)) (A (ix2 a b) + B (ix2 a b)) := by
  pointwise [k0_pay1, k0_pay2, k0_pay3, k0_pay4, k0_pay5, k0_pay6]
  rfl

theorem pay8_at (A B : Vec Ideal S514x1024 .bf16) (W M N : Vec Ideal S514x1x1024 .f32) (a : Fin 514) (z : Fin 1) (b : Fin 1024) :
    k0_pay4 A B N (ix3 a z b) = vE (N (ix3 a z b)) (A (ix2 a b) + B (ix2 a b)) := by
  pointwise [k0_pay1, k0_pay2, k0_pay3, k0_pay4, k0_pay5, k0_pay6]
  rfl

variable (m : (ℓ : Loc nD τ sig) → Buf (Elt Ideal) ℓ) (c : Dev nD)

theorem in0_at (t : Fin cfg0.N) (a : Fin 514) (z : Fin 1) (b : Fin 1024) : iblk m c 0 t (ix3 a z b) = argW m c (ix3 z b a) := by
  obtain rfl : z = 0 := Subsingleton.elim _ _
  rw [iblk0, V_0]
  pointwise []

theorem in1_at (t : Fin cfg0.N) (a : Fin 514) (z : Fin 1) (b : Fin 1024) : iblk m c 1 t (ix3 a z b) = argM m c (ix3 z b a) := by
  obtain rfl : z = 0 := Subsingleton.elim _ _
  rw [iblk1, V_1]
  pointwise []

theorem in2_at (t : Fin cfg0.N) (a : Fin 514) (z : Fin 1) (b : Fin 1024) : iblk m c 2 t (ix3 a z b) = argV m c (ix3 z b a) := by
  obtain rfl : z = 0 := Subsingleton.elim _ _
  rw [iblk2, V_2]
  pointwise []

theorem out5_blk (t : Fin cfg0.N) (a : Fin 514) (z : Fin 1) (b : Fin 1024) :
    out0_5 (iblk m c 0 t) (iblk m c 1 t) (iblk m c 2 t) (iblk m c 3 t) (iblk m c 4 t) (ix3 a z b) = argA m c (ix2 a b) + argB m c (ix2 a b) := by
  unfold out0_5
  rw [View.canon_unit_zero hz3]
  simp only [View.ld_unit_zero (S := S514x1x1024) hz3, View.ld_unit_zero (S := S514x1024) hz2]
  refine (pay5_at (iblk m c 3 t) (iblk m c 4 t) (iblk m c 0 t) (iblk m c 1 t) (iblk m c 2 t) a z b).trans ?_
  rw [iblk3, iblk4]

theorem flushed5_at (t : Fin cfg0.N) (a : Fin 514) (z : Fin 1) (b : Fin 1024) :
    ((dats m 0 c).flushed 5 t : Vec Ideal S514x1x1024 .f32) (ix3 a z b) = argA m c (ix2 a b) + argB m c (ix2 a b) := by
  rw [flushed5]
  exact out5_blk m c t a z b

theorem out6_blk (t : Fin cfg0.N) (a : Fin 514) (z : Fin 1) (b : Fin 1024) :
    out0_6 (iblk m c 0 t) (iblk m c 1 t) (iblk m c 2 t) (iblk m c 3 t) (iblk m c 4 t) (ix3 a z b) = dE (argW m c (ix3 z b a)) (argM m c (ix3 z b a)) (argV m c (ix3 z b a)) (argA m c (ix2 a b) + argB m c (ix2 a b)) := by
  unfold out0_6
  rw [View.canon_unit_zero hz3]
  simp only [View.ld_unit_zero (S := S514x1x1024) hz3, View.ld_unit_zero (S := S514x1024) hz2]
  refine (pay6_at (iblk m c 3 t) (iblk m c 4 t) (iblk m c 0 t) (iblk m c 1 t) (iblk m c 2 t) a z b).trans ?_
  rw [in0_at, in1_at, in2_at, iblk3, iblk4]

theorem flushed6_at (t : Fin cfg0.N) (a : Fin 514) (z : Fin 1) (b : Fin 1024) :
    ((dats m 0 c).flushed 6 t : Vec Ideal S514x1x1024 .f32) (ix3 a z b) = dE (argW m c (ix3 z b a)) (argM m c (ix3 z b a)) (argV m c (ix3 z b a)) (argA m c (ix2 a b) + argB m c (ix2 a b)) := by
  rw [flushed6]
  exact out6_blk m c t a z b

theorem out7_blk (t : Fin cfg0.N) (a : Fin 514) (z : Fin 1) (b : Fin 1024) :
    out0_7 (iblk m c 0 t) (iblk m c 1 t) (iblk m c 2 t) (iblk m c 3 t) (iblk m c 4 t) (ix3 a z b) = mE (argM m c (ix3 z b a)) (argA m c (ix2 a b) + argB m c (ix2 a b)) := by
  unfold out0_7
  rw [View.canon_unit_zero hz3]
  simp only [View.ld_unit_zero (S := S514x1x1024) hz3, View.ld_unit_zero (S := S514x1024) hz2]
  refine (pay7_at (iblk m c 3 t) (iblk m c 4 t) (iblk m c 0 t) (iblk m c 1 t) (iblk m c 2 t) a z b).trans ?_
  rw [in1_at, iblk3, iblk4]

theorem flushed7_at (t : Fin cfg0.N) (a : Fin 514) (z : Fin 1) (b : Fin 1024) :
    ((dats m 0 c).flushed 7 t : Vec Ideal S514x1x1024 .f32) (ix3 a z b) = mE (argM m c (ix3 z b a)) (argA m c (ix2 a b) + argB m c (ix2 a b)) := by
  rw [flushed7]
  exact out7_blk m c t a z b

theorem out8_blk (t : Fin cfg0.N) (a : Fin 514) (z : Fin 1) (b : Fin 1024) :
    out0_8 (iblk m c 0 t) (iblk m c 1 t) (iblk m c 2 t) (iblk m c 3 t) (iblk m c 4 t) (ix3 a z b) = vE (argV m c (ix3 z b a)) (argA m c (ix2 a b) + argB m c (ix2 a b)) := by
  unfold out0_8
  rw [View.canon_unit_zero hz3]
  simp only [View.ld_unit_zero (S := S514x1x1024) hz3, View.ld_unit_zero (S := S514x1024) hz2]
  refine (pay8_at (iblk m c 3 t) (iblk m c 4 t) (iblk m c 0 t) (iblk m c 1 t) (iblk m c 2 t) a z b).trans ?_
  rw [in2_at, iblk3, iblk4]

theorem flushed8_at (t : Fin cfg0.N) (a : Fin 514) (z : Fin 1) (b : Fin 1024) :
    ((dats m 0 c).flushed 8 t : Vec Ideal S514x1x1024 .f32) (ix3 a z b) = vE (argV m c (ix3 z b a)) (argA m c (ix2 a b) + argB m c (ix2 a b)) := by
  rw [flushed8]
  exact out8_blk m c t a z b

theorem g_final (a : Fin 514) (z : Fin 1) (b : Fin 1024) :
    ((dats m 0 c).arrAt 5 cfg0.N : Vec Ideal S514x1x1024 .f32) (ix3 a z b) = argA m c (ix2 a b) + argB m c (ix2 a b) := by
  have hemb : ((cfg0.win 5).blk p0).view.emb (ix3 a z b) = ix3 a z b := by
    funext x
    apply Fin.ext
    show ((win0_5.rect p0).emb (ix3 a z b) x : Nat) = _
    rw [Window.rect_emb_val win0_5 p0 _ x rfl, idx5]
    fin_cases x
    · show 0 * 514 + a.val = a.val; omega
    · show 0 * 1 + z.val = z.val; omega
    · show 0 * 1024 + b.val = b.val; omega
  have h := (dats m 0 c).arrAt_emb_eq_flushed 5 disjoint5 p0 (flush0_5 p0) (ix3 a z b)
  rw [hemb] at h
  exact h.trans (flushed5_at m c _ a z b)

theorem d_final (a : Fin 514) (z : Fin 1) (b : Fin 1024) :
    ((dats m 0 c).arrAt 6 cfg0.N : Vec Ideal S514x1x1024 .f32) (ix3 a z b) = dE (argW m c (ix3 z b a)) (argM m c (ix3 z b a)) (argV m c (ix3 z b a)) (argA m c (ix2 a b) + argB m c (ix2 a b)) := by
  have hemb : ((cfg0.win 6).blk p0).view.emb (ix3 a z b) = ix3 a z b := by
    funext x
    apply Fin.ext
    show ((win0_6.rect p0).emb (ix3 a z b) x : Nat) = _
    rw [Window.rect_emb_val win0_6 p0 _ x rfl, idx6]
    fin_cases x
    · show 0 * 514 + a.val = a.val; omega
    · show 0 * 1 + z.val = z.val; omega
    · show 0 * 1024 + b.val = b.val; omega
  have h := (dats m 0 c).arrAt_emb_eq_flushed 6 disjoint6 p0 (flush0_6 p0) (ix3 a z b)
  rw [hemb] at h
  exact h.trans (flushed6_at m c _ a z b)

theorem m_final (a : Fin 514) (z : Fin 1) (b : Fin 1024) :
    ((dats m 0 c).arrAt 7 cfg0.N : Vec Ideal S514x1x1024 .f32) (ix3 a z b) = mE (argM m c (ix3 z b a)) (argA m c (ix2 a b) + argB m c (ix2 a b)) := by
  have hemb : ((cfg0.win 7).blk p0).view.emb (ix3 a z b) = ix3 a z b := by
    funext x
    apply Fin.ext
    show ((win0_7.rect p0).emb (ix3 a z b) x : Nat) = _
    rw [Window.rect_emb_val win0_7 p0 _ x rfl, idx7]
    fin_cases x
    · show 0 * 514 + a.val = a.val; omega
    · show 0 * 1 + z.val = z.val; omega
    · show 0 * 1024 + b.val = b.val; omega
  have h := (dats m 0 c).arrAt_emb_eq_flushed 7 disjoint7 p0 (flush0_7 p0) (ix3 a z b)
  rw [hemb] at h
  exact h.trans (flushed7_at m c _ a z b)

theorem v_final (a : Fin 514) (z : Fin 1) (b : Fin 1024) :
    ((dats m 0 c).arrAt 8 cfg0.N : Vec Ideal S514x1x1024 .f32) (ix3 a z b) = vE (argV m c (ix3 z b a)) (argA m c (ix2 a b) + argB m c (ix2 a b)) := by
  have hemb : ((cfg0.win 8).blk p0).view.emb (ix3 a z b) = ix3 a z b := by
    funext x
    apply Fin.ext
    show ((win0_8.rect p0).emb (ix3 a z b) x : Nat) = _
    rw [Window.rect_emb_val win0_8 p0 _ x rfl, idx8]
    fin_cases x
    · show 0 * 514 + a.val = a.val; omega
    · show 0 * 1 + z.val = z.val; omega
    · show 0 * 1024 + b.val = b.val; omega
  have h := (dats m 0 c).arrAt_emb_eq_flushed 8 disjoint8 p0 (flush0_8 p0) (ix3 a z b)
  rw [hemb] at h
  exact h.trans (flushed8_at m c _ a z b)

end Cert.AdamwInIdeal.Step
-- ==== Proof.AdwClaim.lean ====
/-
The optimiser's kernel on the input projection's weight leaves the reference's four results.
-/
module

public import proofs.«01_k».proof.Proof.AdwKernel
public import proofs.«01_k».proof.Proof.Gen.AdamwInRefIdeal.Run
public import proofs.«01_k».proof.Proof.Gen.AdamwInRefIdeal.Read
public import proofs.«01_k».proof.Defs
public import proofs.«01_k».proof.Proof.Gen.AdamwIn
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.AdwClaim

open Cert.AdamwInIdeal.Step

section Ref

open Cert.AdamwInRefIdeal Cert.AdamwInRefIdeal.Gen Cert.AdamwInRefIdeal.Read

variable (W M N : Vec Ideal S1x1024x514 .f32) (A B : Vec Ideal S514x1024 .bf16)

theorem v29_at (a : Fin 514) (z : Fin 1) (b : Fin 1024) : (val_main_v29 (F := Ideal) A B) (ix3 a z b) = A (ix2 a b) + B (ix2 a b) := by
  obtain rfl : z = 0 := Subsingleton.elim _ _
  pointwise [val_main_v0, val_main_v1, val_main_v2, val_main_v3, val_main_v4, val_main_v29]

theorem v30_at (a : Fin 514) (z : Fin 1) (b : Fin 1024) : (val_main_v30 (F := Ideal) W M N A B) (ix3 a z b) = dE (W (ix3 z b a)) (M (ix3 z b a)) (N (ix3 z b a)) (A (ix2 a b) + B (ix2 a b)) := by
  obtain rfl : z = 0 := Subsingleton.elim _ _
  pointwise [val_main_cst_3, val_main_v16, val_main_cst, val_main_v5, val_main_v6, val_main_v0, val_main_v1, val_main_v2, val_main_v3, val_main_v4, val_main_cst_0, val_main_v7, val_main_v8, val_main_v9, val_main_v17, val_main_cst_1, val_main_v10, val_main_v11, val_main_v12, val_main_cst_2, val_main_v13, val_main_v14, val_main_v15, val_main_cst_4, val_main_v18, val_main_v19, val_main_v20, val_main_cst_5, val_main_v21, val_main_v22, val_main_v23, val_main_cst_6, val_main_v24, val_main_v25, val_main_v26, val_main_cst_7, val_main_v27, val_main_v28, val_main_v30]
  rfl

theorem v31_at (a : Fin 514) (z : Fin 1) (b : Fin 1024) : (val_main_v31 (F := Ideal) M A B) (ix3 a z b) = mE (M (ix3 z b a)) (A (ix2 a b) + B (ix2 a b)) := by
  obtain rfl : z = 0 := Subsingleton.elim _ _
  pointwise [val_main_cst, val_main_v5, val_main_v6, val_main_v0, val_main_v1, val_main_v2, val_main_v3, val_main_v4, val_main_cst_0, val_main_v7, val_main_v8, val_main_v9, val_main_v31]
  rfl

theorem v32_at (a : Fin 514) (z : Fin 1) (b : Fin 1024) : (val_main_v32 (F := Ideal) N A B) (ix3 a z b) = vE (N (ix3 z b a)) (A (ix2 a b) + B (ix2 a b)) := by
  obtain rfl : z = 0 := Subsingleton.elim _ _
  pointwise [val_main_cst_1, val_main_v10, val_main_v11, val_main_v0, val_main_v1, val_main_v2, val_main_v3, val_main_v4, val_main_v12, val_main_cst_2, val_main_v13, val_main_v14, val_main_v15, val_main_v32]
  rfl

end Ref

/-- The reference runs on the host alone: its run keeps the arguments, and the program declares no semaphore. -/
theorem frame_ref : Cert.quiescent_AdamwInRefIdeal (hAdamwInRefIdeal := Cert.AdamwInRefIdeal.Gen.facts) := fun m g _ =>
  (θ_run Cert.AdamwInRefIdeal.defs _ _).mono
    (fun r h => ⟨fun c => (h c).2.2.2.2, Idealize.ShloMosaic.sem_eq_zero_of_no_sems (by decide) r.2⟩)
    (Cert.AdamwInRefIdeal.Value.run (F := Ideal) m g)

theorem of3 {a b d : Nat} (i : (⟨3, ![a, b, d]⟩ : Shape).Idx) : ∃ (R : Fin a) (z : Fin b) (l : Fin d), i = ix3 R z l :=
  ⟨i 0, i 1, i 2, by funext a; fin_cases a <;> rfl⟩

/-- The claim: after the kernel's run the four results are the reference's, entry by entry. -/
theorem algebraic : Cert.algebraic_AdamwInIdeal_AdamwInRefIdeal
    (hAdamwInIdeal := Cert.AdamwInIdeal.Gen.facts) (hAdamwInRefIdeal := Cert.AdamwInRefIdeal.Gen.facts) := by
  intro m g m' g' _ hag
  refine ⟨fun c => Cert.AdamwInRefIdeal.Read.val_main_v29 (F := Ideal) (m' ((c.tc : Thread Cert.AdamwInRefIdeal.nD Cert.AdamwInRefIdeal.τ).loc Cert.AdamwInRefIdeal.main_arg3)) (m' ((c.tc : Thread Cert.AdamwInRefIdeal.nD Cert.AdamwInRefIdeal.τ).loc Cert.AdamwInRefIdeal.main_arg4)),
    fun c => Cert.AdamwInRefIdeal.Read.val_main_v30 (F := Ideal) (m' ((c.tc : Thread Cert.AdamwInRefIdeal.nD Cert.AdamwInRefIdeal.τ).loc Cert.AdamwInRefIdeal.main_arg0)) (m' ((c.tc : Thread Cert.AdamwInRefIdeal.nD Cert.AdamwInRefIdeal.τ).loc Cert.AdamwInRefIdeal.main_arg1)) (m' ((c.tc : Thread Cert.AdamwInRefIdeal.nD Cert.AdamwInRefIdeal.τ).loc Cert.AdamwInRefIdeal.main_arg2)) (m' ((c.tc : Thread Cert.AdamwInRefIdeal.nD Cert.AdamwInRefIdeal.τ).loc Cert.AdamwInRefIdeal.main_arg3)) (m' ((c.tc : Thread Cert.AdamwInRefIdeal.nD Cert.AdamwInRefIdeal.τ).loc Cert.AdamwInRefIdeal.main_arg4)),
    fun c => Cert.AdamwInRefIdeal.Read.val_main_v31 (F := Ideal) (m' ((c.tc : Thread Cert.AdamwInRefIdeal.nD Cert.AdamwInRefIdeal.τ).loc Cert.AdamwInRefIdeal.main_arg1)) (m' ((c.tc : Thread Cert.AdamwInRefIdeal.nD Cert.AdamwInRefIdeal.τ).loc Cert.AdamwInRefIdeal.main_arg3)) (m' ((c.tc : Thread Cert.AdamwInRefIdeal.nD Cert.AdamwInRefIdeal.τ).loc Cert.AdamwInRefIdeal.main_arg4)),
    fun c => Cert.AdamwInRefIdeal.Read.val_main_v32 (F := Ideal) (m' ((c.tc : Thread Cert.AdamwInRefIdeal.nD Cert.AdamwInRefIdeal.τ).loc Cert.AdamwInRefIdeal.main_arg2)) (m' ((c.tc : Thread Cert.AdamwInRefIdeal.nD Cert.AdamwInRefIdeal.τ).loc Cert.AdamwInRefIdeal.main_arg3)) (m' ((c.tc : Thread Cert.AdamwInRefIdeal.nD Cert.AdamwInRefIdeal.τ).loc Cert.AdamwInRefIdeal.main_arg4)), ?_,
    Cert.AdamwInRefIdeal.Value.run m' g'⟩
  refine (θ_run _ _ _).mono (fun r h c => ?_) (Cert.AdamwInIdeal.Value.run_blocks m g)
  obtain ⟨h0, h1, h2, h3, hk⟩ := h c
  obtain ⟨a0, a1, a2, a3, a4⟩ := hag c
  refine ⟨h0.trans ?_, h1.trans ?_, h2.trans ?_, h3.trans ?_, hk⟩
  · dsimp only
    rw [a3, a4]
    funext i
    obtain ⟨R, z, l, rfl⟩ := of3 i
    exact (g_final m c R z l).trans (v29_at _ _ R z l).symm
  · dsimp only
    rw [a0, a1, a2, a3, a4]
    funext i
    obtain ⟨R, z, l, rfl⟩ := of3 i
    exact (d_final m c R z l).trans (v30_at _ _ _ _ _ R z l).symm
  · dsimp only
    rw [a1, a3, a4]
    funext i
    obtain ⟨R, z, l, rfl⟩ := of3 i
    exact (m_final m c R z l).trans (v31_at _ _ _ R z l).symm
  · dsimp only
    rw [a2, a3, a4]
    funext i
    obtain ⟨R, z, l, rfl⟩ := of3 i
    exact (v_final m c R z l).trans (v32_at _ _ _ R z l).symm

end Cert.AdwClaim
-- ==== Proof.PoolClaim.lean ====
/-
The reference of the pool mixer's gradient stands still where it should.
-/
module

public import proofs.«01_k».proof.Proof.Gen.PoolBwdRefIdeal.Run
public import proofs.«01_k».proof.Defs
public import proofs.«01_k».proof.Proof.Gen.PoolBwd
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.PoolClaim

open Cert.PoolBwdRefIdeal

/-- The reference runs on the host alone: its run keeps the arguments, and the program declares no semaphore. -/
theorem frame_ref : Cert.quiescent_PoolBwdRefIdeal (hPoolBwdRefIdeal := Cert.PoolBwdRefIdeal.Gen.facts) := fun m g _ =>
  (θ_run Cert.PoolBwdRefIdeal.defs _ _).mono
    (fun r h => ⟨fun c => (h c).2.2.2, Idealize.ShloMosaic.sem_eq_zero_of_no_sems (by decide) r.2⟩)
    (Cert.PoolBwdRefIdeal.Value.run (F := Ideal) m g)

end Cert.PoolClaim
-- ==== Proof.Rms.lean ====
/-
The gradient of a root-mean-square norm, written by hand in the kernels and by the chain rule in the references.
-/
module

public import Idealize.ShloMosaic.Lib.Pointwise

@[expose] public section

set_option maxRecDepth 16384

noncomputable section

open Idealize.ShloMosaic

namespace Cert.Rms

theorem ofBits_n : (Ideal.ofBits .f32 1149239296#32 : EReal) = ((1024 : ℝ) : EReal) := by
  simp [Ideal.ofBits, Ideal.ieee]
  rw [← EReal.coe_mul]; norm_num
theorem ofBits_mhalf : (Ideal.ofBits .f32 3204448256#32 : EReal) = ((-(1 / 2) : ℝ) : EReal) := by
  simp [Ideal.ofBits, Ideal.ieee]
  rw [← EReal.coe_mul]; norm_num
theorem ofBits_eps : ∃ e : ℝ, 0 < e ∧ (Ideal.ofBits .f32 897988541#32 : EReal) = ((e : ℝ) : EReal) := by
  refine ⟨_, ?_, by simp [Ideal.ofBits, Ideal.ieee]; rfl⟩
  positivity

/-- The mean square of a row plus the norm's small constant. -/
def var (x : Fin 1024 → EReal) : EReal :=
  Ideal.div (∑ k, x k * x k) (Ideal.ofBits .f32 1149239296#32) + Ideal.ofBits .f32 897988541#32

theorem div_coe (a : EReal) (r : ℝ) (h : r ≠ 0) : Ideal.div a (r : EReal) = a * ((r⁻¹ : ℝ) : EReal) := by
  unfold Ideal.div
  rw [if_neg (by exact_mod_cast h), EReal.coe_inv]

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Of a row of reals it is a positive real. -/
theorem var_real (X : Fin 1024 → ℝ) : ∃ v : ℝ, 0 < v ∧ var (fun k => ((X k : ℝ) : EReal)) = ((v : ℝ) : EReal) := by
  obtain ⟨e, he, h⟩ := ofBits_eps
  refine ⟨(∑ k, X k * X k) * (1024 : ℝ)⁻¹ + e, ?_, ?_⟩
  · have : 0 ≤ ∑ k, X k * X k := Finset.sum_nonneg fun k _ => mul_self_nonneg _
    positivity
  · unfold var
    simp only [← EReal.coe_mul]
    rw [h, ofBits_n, sum_coe, div_coe _ _ (by norm_num), ← EReal.coe_mul, ← EReal.coe_add]

theorem rsqrt_real (v : ℝ) (h : 0 < v) : Ideal.rsqrt (v : EReal) = (((Real.sqrt v)⁻¹ : ℝ) : EReal) := by
  rw [Ideal.rsqrt_coe, if_neg (by linarith), if_neg (by linarith)]

theorem mul_sum_real {ι : Type} (s : Finset ι) (f : ι → EReal) (r : ℝ) (h : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast h) (EReal.coe_ne_top r)]

theorem twice (y : EReal) : y + y = y * ((2 : ℝ) : EReal) := by
  induction y using EReal.rec with
  | bot => rw [EReal.bot_mul_coe_of_pos (by norm_num)]; rfl
  | top => rw [EReal.top_mul_coe_of_pos (by norm_num)]; rfl
  | coe r => rw [← EReal.coe_add, ← EReal.coe_mul, mul_two]

/-- The two forms of the norm's gradient at one entry of a row of reals: `z` is the cotangent of the normalised row. -/
theorem grad (x : Fin 1024 → EReal) (hx : ∃ X : Fin 1024 → ℝ, x = fun k => ((X k : ℝ) : EReal)) (z : Fin 1024 → EReal) (d : EReal)
    (l : Fin 1024) :
    d + Ideal.rsqrt (var x) * (z l - x l * Ideal.rsqrt (var x)
        * Ideal.div (∑ k, z k * (x k * Ideal.rsqrt (var x))) (Ideal.ofBits .f32 1149239296#32))
      = d + z l * Ideal.rsqrt (var x)
        + x l * Ideal.div ((∑ k, x k * z k) * (Ideal.ofBits .f32 3204448256#32 * Ideal.div (Ideal.rsqrt (var x)) (var x)))
            (Ideal.ofBits .f32 1149239296#32)
        + Ideal.div ((∑ k, x k * z k) * (Ideal.ofBits .f32 3204448256#32 * Ideal.div (Ideal.rsqrt (var x)) (var x)))
            (Ideal.ofBits .f32 1149239296#32) * x l := by
  obtain ⟨X, rfl⟩ := hx
  obtain ⟨v, hv, e⟩ := var_real X
  rw [e, rsqrt_real v hv, ofBits_n, ofBits_mhalf, div_coe _ _ (by norm_num), div_coe _ _ (by norm_num),
    div_coe _ _ (ne_of_gt hv)]
  obtain ⟨r, hr, hr2, hrv⟩ : ∃ r : ℝ, 0 < r ∧ (Real.sqrt v)⁻¹ = r ∧ v⁻¹ = r * r := by
    refine ⟨(Real.sqrt v)⁻¹, by positivity, rfl, ?_⟩
    rw [← mul_inv, Real.mul_self_sqrt hv.le]
  rw [hr2, hrv]
  dsimp only
  have hS : ∑ k, z k * (((X k : ℝ) : EReal) * (r : EReal)) = (∑ k, ((X k : ℝ) : EReal) * z k) * (r : EReal) := by
    rw [← mul_sum_real _ _ r hr.le]
    exact Finset.sum_congr rfl fun k _ => by rw [← mul_assoc, mul_comm (z k)]
  rw [hS]
  generalize (∑ k, ((X k : ℝ) : EReal) * z k) = S
  rw [sub_eq_add_neg, EReal.left_distrib_of_nonneg_of_ne_top (by exact_mod_cast hr.le) (EReal.coe_ne_top r), add_assoc, add_assoc,
    mul_comm (z l), mul_comm _ ((X l : ℝ) : EReal), twice, ← EReal.neg_mul, ← EReal.neg_mul, ← EReal.coe_neg]
  congr 2
  simp only [← EReal.coe_mul]
  have : ∀ a b : ℝ, a = b → (S * (a : EReal)) = S * (b : EReal) := fun a b h => by rw [h]
  calc (r : EReal) * (((-X l * r : ℝ) : EReal) * (S * (r : EReal) * (((1024 : ℝ)⁻¹ : ℝ) : EReal)))
      = S * ((r * (-X l * r) * r * (1024 : ℝ)⁻¹ : ℝ) : EReal) := by
        simp only [EReal.coe_mul]; ac_rfl
    _ = S * ((X l * ((-(1 / 2)) * (r * (r * r))) * (1024 : ℝ)⁻¹ * 2 : ℝ) : EReal) := this _ _ (by ring)
    _ = _ := by simp only [EReal.coe_mul]; ac_rfl

end Cert.Rms
-- ==== Proof.RinKernel.lean ====
/-
The input projection's kernel with the first norm: the arrays it leaves, entry by entry.
-/
module

public import proofs.«01_k».proof.Proof.Gen.RmsInprojIdeal.Value
public import proofs.«01_k».proof.Proof.Rms
public import proofs.«01_k».proof.Proof.Pieces
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat Window)

namespace Cert.RmsInprojIdeal.Step

open Cert.RmsInprojIdeal Cert.RmsInprojIdeal.Gen Cert.RmsInprojIdeal.Value Cert.Pieces

theorem idx0 : ∀ t : Fin cfg0.N, win0_0.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx1 : ∀ t : Fin cfg0.N, win0_1.index t = ![0, 0] := by decide +kernel
theorem idx2 : ∀ t : Fin cfg0.N, win0_2.index t = ![0, 0] := by decide +kernel

/-- The row of the whole array that row `r` of point `t`'s block is. -/
def row (t : Fin cfg0.N) (r : Fin 512) : Fin 4096 := ⟨512 * t.val + r.val, by have hN : cfg0.N = 8 := rfl; have := t.isLt; have := r.isLt; omega⟩

/-- The point that works on row `R`. -/
def pt (R : Fin 4096) : Fin cfg0.N := ⟨R.val / 512, by have hN : cfg0.N = 8 := rfl; omega⟩

theorem row_pt (R : Fin 4096) : row (pt R) ⟨R.val % 512, Nat.mod_lt _ (by decide)⟩ = R :=
  Fin.ext (by show 512 * (R.val / 512) + R.val % 512 = R.val; omega)

section Blocks

variable {F : FTy → Type} [FloatOps F] (m : (ℓ : Loc nD τ sig) → Buf (Elt F) ℓ) (c : Dev nD)

abbrev argX : Vec F S4096x1024 .f32 := m ((c : Thread nD τ).loc main_arg0)
abbrev argG : Vec F S1x1024 .f32 := m ((c : Thread nD τ).loc main_arg1)
abbrev argW : Vec F S1x1024x2056 .f32 := m ((c : Thread nD τ).loc main_arg2)
abbrev wT : Vec F S2176x1024 .bf16 := V m c main_v7

theorem iblk0 (t : Fin cfg0.N) (r : Fin 512) (x : Fin 1024) :
    iblk m c 0 t (ix2 r x) = argX m c (ix2 (row t r) x) := by
  unfold iblk
  rw [View.read_apply]
  show V m c main_arg0 _ = _
  rw [V_main_arg0]
  congr 1
  funext a
  apply Fin.ext
  show ((win0_0.rect t).emb (ix2 r x) a : Nat) = _
  rw [Window.rect_emb_val win0_0 t _ a rfl, idx0]
  fin_cases a
  · show t.val * 512 + r.val = 512 * t.val + r.val; omega
  · show 0 * 1024 + x.val = x.val; omega

theorem iblk1 (t : Fin cfg0.N) (x : Fin 1024) :
    iblk m c 1 t (ix2 (0 : Fin 1) x) = argG m c (ix2 (0 : Fin 1) x) := by
  unfold iblk
  rw [View.read_apply]
  show V m c main_arg1 _ = _
  rw [V_main_arg1]
  congr 1
  funext a
  apply Fin.ext
  show ((win0_1.rect t).emb (ix2 (0 : Fin 1) x) a : Nat) = _
  rw [Window.rect_emb_val win0_1 t _ a rfl, idx1]
  fin_cases a
  · rfl
  · show 0 * 1024 + x.val = x.val; omega

theorem iblk2 (t : Fin cfg0.N) (r : Fin 2176) (x : Fin 1024) :
    iblk m c 2 t (ix2 r x) = wT m c (ix2 r x) := by
  unfold iblk
  rw [View.read_apply]
  show V m c main_v7 _ = _
  congr 1
  funext a
  apply Fin.ext
  show ((win0_2.rect t).emb (ix2 r x) a : Nat) = _
  rw [Window.rect_emb_val win0_2 t _ a rfl, idx2]
  fin_cases a
  · show 0 * 2176 + r.val = r.val; omega
  · show 0 * 1024 + x.val = x.val; omega

end Blocks

/-- The row normalised. -/
def hv (X : Vec Ideal S4096x1024 .f32) (G : Vec Ideal S1x1024 .f32) (R : Fin 4096) (k : Fin 1024) : EReal :=
  X (ix2 R k) * Ideal.rsqrt (Rms.var fun d => X (ix2 R d)) * G (ix2 0 k)

/-- The row projected, in the weight's own order of columns. -/
def pj (X : Vec Ideal S4096x1024 .f32) (G : Vec Ideal S1x1024 .f32) (W : Vec Ideal S1x1024x2056 .f32) (R : Fin 4096) (y : Fin 2056) : EReal :=
  ∑ k : Fin 1024, hv X G R k * W (ix3 0 k y)

/-- The forget gate's columns, zero beyond the eight heads. -/
def flv (X : Vec Ideal S4096x1024 .f32) (G : Vec Ideal S1x1024 .f32) (W : Vec Ideal S1x1024x2056 .f32) (R : Fin 4096) (y : Fin 128) : EReal :=
  if h : y.val < 8 then pj X G W R ⟨1536 + y.val, by omega⟩ else 0

variable (m : (ℓ : Loc nD τ sig) → Buf (Elt Ideal) ℓ) (c : Dev nD)

/-- The weight the host hands to the kernel: transposed, the forget gate's rows last, and zero rows after them. -/
theorem wT_eq (x : Fin 2176) (l : Fin 1024) :
    wT m c (ix2 x l) = if h : x.val < 1536 then argW m c (ix3 0 l ⟨x.val, by omega⟩)
      else if h : x.val < 2048 then argW m c (ix3 0 l ⟨x.val + 8, by omega⟩)
      else if h : x.val < 2056 then argW m c (ix3 0 l ⟨x.val - 512, by omega⟩) else (0 : EReal) := by
  have e : wT m c = concatenate S2176x1024 0
      [⟨S1536x1024, extractStridedSlice S1536x1024 ![0, 0] (truncf .bf16 (transpose S2056x1024 [1, 0] (shapeCast S1024x2056 (argW m c) shapeCasts_S1x1024x2056_S1024x2056) transposes_S1024x2056_S2056x1024_1_0) bitsLt_bf16_f32) slices_S2056x1024_S1536x1024_0_0⟩,
       ⟨S512x1024, extractStridedSlice S512x1024 ![1544, 0] (truncf .bf16 (transpose S2056x1024 [1, 0] (shapeCast S1024x2056 (argW m c) shapeCasts_S1x1024x2056_S1024x2056) transposes_S1024x2056_S2056x1024_1_0) bitsLt_bf16_f32) slices_S2056x1024_S512x1024_1544_0⟩,
       ⟨S8x1024, extractStridedSlice S8x1024 ![1536, 0] (truncf .bf16 (transpose S2056x1024 [1, 0] (shapeCast S1024x2056 (argW m c) shapeCasts_S1x1024x2056_S1024x2056) transposes_S1024x2056_S2056x1024_1_0) bitsLt_bf16_f32) slices_S2056x1024_S8x1024_1536_0⟩,
       ⟨S120x1024, broadcastInDim S120x1024 ![] bcast_S_S120x1024 (constant (F := Ideal) S_ .bf16 0x0000#16)⟩] concatenates_S1536x1024_S512x1024_S8x1024_S120x1024_S2176x1024_d0 := by
    show StableHlo.after hostOps0 (fun b => m (c, b)) (Proc.devRef .tc main_v7) = _
    simp only [hostOps0]
    after_results
    all_goals rfl
  rw [e]
  pointwise []
  have hx := x.isLt
  by_cases h1 : x.val < 1536
  · simp only [dif_pos h1]
  · by_cases h2 : x.val < 2048
    · simp only [dif_neg h1, dif_pos h2, dif_pos (show x.val - 1536 < 512 by omega)]
      congr 2; apply Fin.ext; show 1544 + (x.val - 1536) = x.val + 8; omega
    · by_cases h3 : x.val < 2056
      · simp only [dif_neg h1, dif_neg h2, dif_pos h3, dif_neg (show ¬x.val - 1536 < 512 by omega), dif_pos (show x.val - 1536 - 512 < 8 by omega)]
        congr 2; apply Fin.ext; show 1536 + (x.val - 1536 - 512) = x.val - 512; omega
      · simp only [dif_neg h1, dif_neg h2, dif_neg h3, dif_neg (show ¬x.val - 1536 < 512 by omega), dif_neg (show ¬x.val - 1536 - 512 < 8 by omega)]

theorem pay1_at (x : Vec Ideal S512x1024 .f32) (g : Vec Ideal S1x1024 .f32) (r : Fin 512) (l : Fin 1024) :
    k0_pay1 x g (ix2 r l) = x (ix2 r l) * Ideal.rsqrt (Rms.var fun k => x (ix2 r k)) * g (ix2 0 l) := by
  pointwise [k0_pay1]
  rfl

theorem h_blk (t : Fin cfg0.N) (r : Fin 512) (l : Fin 1024) :
    k0_pay1 (iblk m c 0 t) (iblk m c 1 t) (ix2 r l) = hv (argX m c) (argG m c) (row t r) l := by
  refine (pay1_at _ _ r l).trans ?_
  simp only [iblk0]
  rw [iblk1]
  rfl

theorem pay2_at (x : Vec Ideal S512x1024 .f32) (g : Vec Ideal S1x1024 .f32) (w : Vec Ideal S1536x1024 .bf16) (r : Fin 512) (y : Fin 1536) :
    k0_pay2 x g w (ix2 r y) = ∑ k : Fin 1024, k0_pay1 x g (ix2 r k) * w (ix2 y k) := by
  pointwise [k0_pay2]

theorem pay3_at (x : Vec Ideal S512x1024 .f32) (g : Vec Ideal S1x1024 .f32) (w : Vec Ideal S512x1024 .bf16) (r : Fin 512) (y : Fin 512) :
    k0_pay3 x g w (ix2 r y) = ∑ k : Fin 1024, k0_pay1 x g (ix2 r k) * w (ix2 y k) := by
  pointwise [k0_pay3]

theorem pay4_at (x : Vec Ideal S512x1024 .f32) (g : Vec Ideal S1x1024 .f32) (w : Vec Ideal S128x1024 .bf16) (r : Fin 512) (y : Fin 128) :
    k0_pay4 x g w (ix2 r y) = ∑ k : Fin 1024, k0_pay1 x g (ix2 r k) * w (ix2 y k) := by
  pointwise [k0_pay4]

theorem out4_blk (t : Fin cfg0.N) (r : Fin 512) (l : Fin 1024) :
    out0_4 (iblk m c 0 t) (iblk m c 1 t) (iblk m c 2 t) (iblk m c 3 t) (ix2 r l) = hv (argX m c) (argG m c) (row t r) l := by
  unfold out0_4
  rw [View.canon_unit_zero hz2, View.ld_unit_zero (S := S512x1024) hz2, View.ld_unit_zero (S := S1x1024) hz2]
  exact h_blk m c t r l

/-- A load of the weight's rows from row `o` on. -/
theorem ldW {n : ℕ} (w : Vec Ideal S2176x1024 .bf16) (o : ℕ) (inb) (y : Fin n) (k : Fin 1024) (h : o + y.val < 2176) :
    View.ld (Val := Elt Ideal) (e' := .bf16) w (Rect.unit (s := S2176x1024) ![o, 0] (⟨2, ![n, 1024]⟩ : Shape).size inb) (ix2 y k) = w (ix2 ⟨o + y.val, h⟩ k) :=
  View.ld_unit_apply_of w _ _ inb _ _ (fun a => by
    fin_cases a
    · rfl
    · exact (Nat.zero_add _).symm)

theorem out5_blk (t : Fin cfg0.N) (r : Fin 512) (y : Fin 1536) :
    out0_5 (iblk m c 0 t) (iblk m c 1 t) (iblk m c 2 t) (iblk m c 3 t) (ix2 r y) = pj (argX m c) (argG m c) (argW m c) (row t r) ⟨y.val, by omega⟩ := by
  have hy := y.isLt
  unfold out0_5
  rw [View.canon_unit_zero hz2, View.ld_unit_zero (S := S512x1024) hz2, View.ld_unit_zero (S := S1x1024) hz2]
  refine (pay2_at _ _ _ r y).trans ?_
  unfold pj
  refine Finset.sum_congr rfl fun k _ => congrArg₂ (· * ·) (h_blk m c t r k) ((ldW _ 0 inb_S2176x1024_S1536x1024_0_0 y k (by omega)).trans ?_)
  rw [iblk2, wT_eq, dif_pos (show 0 + y.val < 1536 by omega)]
  congr 2
  exact Fin.ext (Nat.zero_add _)

theorem out6_blk (t : Fin cfg0.N) (r : Fin 512) (y : Fin 512) :
    out0_6 (iblk m c 0 t) (iblk m c 1 t) (iblk m c 2 t) (iblk m c 3 t) (ix2 r y) = pj (argX m c) (argG m c) (argW m c) (row t r) ⟨1544 + y.val, by omega⟩ := by
  have hy := y.isLt
  unfold out0_6
  rw [View.canon_unit_zero hz2, View.ld_unit_zero (S := S512x1024) hz2, View.ld_unit_zero (S := S1x1024) hz2]
  refine (pay3_at _ _ _ r y).trans ?_
  unfold pj
  refine Finset.sum_congr rfl fun k _ => congrArg₂ (· * ·) (h_blk m c t r k) ((ldW _ 1536 inb_S2176x1024_S512x1024_1536_0 y k (by omega)).trans ?_)
  rw [iblk2, wT_eq, dif_neg (show ¬1536 + y.val < 1536 by omega), dif_pos (show 1536 + y.val < 2048 by omega)]
  congr 2
  exact Fin.ext (by show 1536 + y.val + 8 = 1544 + y.val; omega)

theorem out7_blk (t : Fin cfg0.N) (r : Fin 512) (y : Fin 128) :
    out0_7 (iblk m c 0 t) (iblk m c 1 t) (iblk m c 2 t) (iblk m c 3 t) (ix2 r y) = flv (argX m c) (argG m c) (argW m c) (row t r) y := by
  have hy := y.isLt
  unfold out0_7
  rw [View.canon_unit_zero hz2, View.ld_unit_zero (S := S512x1024) hz2, View.ld_unit_zero (S := S1x1024) hz2]
  refine (pay4_at _ _ _ r y).trans ?_
  have e : ∀ k : Fin 1024, View.ld (Val := Elt Ideal) (e' := .bf16) (iblk m c 2 t) r0_6 (ix2 y k) = if h : y.val < 8 then argW m c (ix3 0 k ⟨1536 + y.val, by omega⟩) else (0 : EReal) := by
    intro k
    refine (ldW _ 2048 inb_S2176x1024_S128x1024_2048_0 y k (by omega)).trans ?_
    rw [iblk2, wT_eq, dif_neg (show ¬2048 + y.val < 1536 by omega), dif_neg (show ¬2048 + y.val < 2048 by omega)]
    by_cases h : y.val < 8
    · rw [dif_pos (show 2048 + y.val < 2056 by omega), dif_pos h]
      congr 2
      exact Fin.ext (by show 2048 + y.val - 512 = 1536 + y.val; omega)
    · rw [dif_neg (show ¬2048 + y.val < 2056 by omega), dif_neg h]
  unfold flv
  refine (Finset.sum_congr rfl fun k _ => congrArg₂ (· * ·) (h_blk m c t r k) (e k)).trans ?_
  by_cases h : y.val < 8
  · simp only [dif_pos h]
    rfl
  · simp only [dif_neg h, mul_zero, Finset.sum_const_zero]

theorem flushed4_at (t : Fin cfg0.N) (r : Fin 512) (l : Fin 1024) :
    ((dats m 0 c).flushed 4 t : Vec Ideal S512x1024 .bf16) (ix2 r l) = hv (argX m c) (argG m c) (row t r) l := by
  rw [flushed4]
  exact out4_blk m c t r l

theorem h_final (R : Fin 4096) (l : Fin 1024) :
    ((dats m 0 c).arrAt 4 cfg0.N : Vec Ideal S4096x1024 .bf16) (ix2 R l) = hv (argX m c) (argG m c) R l := by
  have hR := R.isLt
  have hemb : ((cfg0.win 4).blk (pt R)).view.emb (ix2 (⟨R.val % 512, Nat.mod_lt _ (by decide)⟩ : Fin 512) l) = ix2 R l := by
    funext a
    apply Fin.ext
    show ((win0_4.rect (pt R)).emb (ix2 (⟨R.val % 512, Nat.mod_lt _ (by decide)⟩ : Fin 512) l) a : Nat) = _
    rw [Window.rect_emb_val win0_4 (pt R) _ a rfl, idx4]
    fin_cases a
    · show R.val / 512 * 512 + R.val % 512 = R.val; omega
    · show 0 * 1024 + l.val = l.val; omega
  have h := (dats m 0 c).arrAt_emb_eq_flushed 4 disjoint4 (pt R) (flush0_4 (pt R)) (ix2 (⟨R.val % 512, Nat.mod_lt _ (by decide)⟩ : Fin 512) l)
  rw [hemb] at h
  refine h.trans ?_
  refine (flushed4_at m c (pt R) _ l).trans ?_
  rw [row_pt]

theorem flushed5_at (t : Fin cfg0.N) (r : Fin 512) (l : Fin 1536) :
    ((dats m 0 c).flushed 5 t : Vec Ideal S512x1536 .bf16) (ix2 r l) = pj (argX m c) (argG m c) (argW m c) (row t r) ⟨l.val, by omega⟩ := by
  rw [flushed5]
  exact out5_blk m c t r l

theorem qkv_final (R : Fin 4096) (l : Fin 1536) :
    ((dats m 0 c).arrAt 5 cfg0.N : Vec Ideal S4096x1536 .bf16) (ix2 R l) = pj (argX m c) (argG m c) (argW m c) R ⟨l.val, by omega⟩ := by
  have hR := R.isLt
  have hemb : ((cfg0.win 5).blk (pt R)).view.emb (ix2 (⟨R.val % 512, Nat.mod_lt _ (by decide)⟩ : Fin 512) l) = ix2 R l := by
    funext a
    apply Fin.ext
    show ((win0_5.rect (pt R)).emb (ix2 (⟨R.val % 512, Nat.mod_lt _ (by decide)⟩ : Fin 512) l) a : Nat) = _
    rw [Window.rect_emb_val win0_5 (pt R) _ a rfl, idx5]
    fin_cases a
    · show R.val / 512 * 512 + R.val % 512 = R.val; omega
    · show 0 * 1536 + l.val = l.val; omega
  have h := (dats m 0 c).arrAt_emb_eq_flushed 5 disjoint5 (pt R) (flush0_5 (pt R)) (ix2 (⟨R.val % 512, Nat.mod_lt _ (by decide)⟩ : Fin 512) l)
  rw [hemb] at h
  refine h.trans ?_
  refine (flushed5_at m c (pt R) _ l).trans ?_
  rw [row_pt]

theorem flushed6_at (t : Fin cfg0.N) (r : Fin 512) (l : Fin 512) :
    ((dats m 0 c).flushed 6 t : Vec Ideal S512x512 .f32) (ix2 r l) = pj (argX m c) (argG m c) (argW m c) (row t r) ⟨1544 + l.val, by omega⟩ := by
  rw [flushed6]
  exact out6_blk m c t r l

theorem u_final (R : Fin 4096) (l : Fin 512) :
    ((dats m 0 c).arrAt 6 cfg0.N : Vec Ideal S4096x512 .f32) (ix2 R l) = pj (argX m c) (argG m c) (argW m c) R ⟨1544 + l.val, by omega⟩ := by
  have hR := R.isLt
  have hemb : ((cfg0.win 6).blk (pt R)).view.emb (ix2 (⟨R.val % 512, Nat.mod_lt _ (by decide)⟩ : Fin 512) l) = ix2 R l := by
    funext a
    apply Fin.ext
    show ((win0_6.rect (pt R)).emb (ix2 (⟨R.val % 512, Nat.mod_lt _ (by decide)⟩ : Fin 512) l) a : Nat) = _
    rw [Window.rect_emb_val win0_6 (pt R) _ a rfl, idx6]
    fin_cases a
    · show R.val / 512 * 512 + R.val % 512 = R.val; omega
    · show 0 * 512 + l.val = l.val; omega
  have h := (dats m 0 c).arrAt_emb_eq_flushed 6 disjoint6 (pt R) (flush0_6 (pt R)) (ix2 (⟨R.val % 512, Nat.mod_lt _ (by decide)⟩ : Fin 512) l)
  rw [hemb] at h
  refine h.trans ?_
  refine (flushed6_at m c (pt R) _ l).trans ?_
  rw [row_pt]

theorem flushed7_at (t : Fin cfg0.N) (r : Fin 512) (l : Fin 128) :
    ((dats m 0 c).flushed 7 t : Vec Ideal S512x128 .f32) (ix2 r l) = flv (argX m c) (argG m c) (argW m c) (row t r) l := by
  rw [flushed7]
  exact out7_blk m c t r l

theorem fl_final (R : Fin 4096) (l : Fin 128) :
    ((dats m 0 c).arrAt 7 cfg0.N : Vec Ideal S4096x128 .f32) (ix2 R l) = flv (argX m c) (argG m c) (argW m c) R l := by
  have hR := R.isLt
  have hemb : ((cfg0.win 7).blk (pt R)).view.emb (ix2 (⟨R.val % 512, Nat.mod_lt _ (by decide)⟩ : Fin 512) l) = ix2 R l := by
    funext a
    apply Fin.ext
    show ((win0_7.rect (pt R)).emb (ix2 (⟨R.val % 512, Nat.mod_lt _ (by decide)⟩ : Fin 512) l) a : Nat) = _
    rw [Window.rect_emb_val win0_7 (pt R) _ a rfl, idx7]
    fin_cases a
    · show R.val / 512 * 512 + R.val % 512 = R.val; omega
    · show 0 * 128 + l.val = l.val; omega
  have h := (dats m 0 c).arrAt_emb_eq_flushed 7 disjoint7 (pt R) (flush0_7 (pt R)) (ix2 (⟨R.val % 512, Nat.mod_lt _ (by decide)⟩ : Fin 512) l)
  rw [hemb] at h
  refine h.trans ?_
  refine (flushed7_at m c (pt R) _ l).trans ?_
  rw [row_pt]

end Cert.RmsInprojIdeal.Step
-- ==== Proof.RinClaim.lean ====
/-
The input projection leaves the reference's four results.
-/
module

public import proofs.«01_k».proof.Proof.RinKernel
public import proofs.«01_k».proof.Proof.Gen.RmsInprojRefIdeal.Run
public import proofs.«01_k».proof.Proof.Gen.RmsInprojRefIdeal.Read
public import proofs.«01_k».proof.Defs
public import proofs.«01_k».proof.Proof.Gen.RmsInproj
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.RinClaim

open Cert.RmsInprojIdeal.Step

section Ref

open Cert.RmsInprojRefIdeal Cert.RmsInprojRefIdeal.Gen Cert.RmsInprojRefIdeal.Read

variable (X : Vec Ideal S4096x1024 .f32) (G : Vec Ideal S1x1024 .f32) (W : Vec Ideal S1x1024x2056 .f32)

theorem v13_at (R : Fin 4096) (l : Fin 1024) : (val_main_v13 (F := Ideal) X G) (ix2 R l) = hv X G R l := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_cst_2, val_main_v17, val_main_v18, val_main_v19, val_main_v20, val_main_v21, val_main_v22]
  rfl

theorem v15_at (R : Fin 4096) (y : Fin 2056) : (val_main_v15 (F := Ideal) X G W) (ix2 R y) = pj X G W R y := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v15, val_main_v16, val_main_cst_2, val_main_v17, val_main_v18, val_main_v19, val_main_v20, val_main_v21, val_main_v22]
  simp only [v13_at]
  rfl

theorem v19_at (R : Fin 4096) (l : Fin 1024) : (val_main_v19 (F := Ideal) X G) (ix2 R l) = hv X G R l := by
  pointwise [val_main_v19]
  exact v13_at X G R l

theorem v21_at (R : Fin 4096) (y : Fin 1536) : (val_main_v21 (F := Ideal) X G W) (ix2 R y) = pj X G W R ⟨y.val, by omega⟩ := by
  pointwise [val_main_v21, val_main_v20]
  try simp only [v15_at]
  try rfl

theorem v22_at (R : Fin 4096) (y : Fin 512) : (val_main_v22 (F := Ideal) X G W) (ix2 R y) = pj X G W R ⟨1544 + y.val, by omega⟩ := by
  pointwise [val_main_v22]
  try simp only [v15_at]
  try rfl

theorem v18_at (R : Fin 4096) (y : Fin 128) : (val_main_v18 (F := Ideal) X G W) (ix2 R y) = flv X G W R y := by
  pointwise [val_main_v18, val_main_v16, val_main_v17, val_main_cst_2]
  try simp only [v15_at]
  try rfl

end Ref

/-- The reference runs on the host alone: its run keeps the arguments, and the program declares no semaphore. -/
theorem frame_ref : Cert.quiescent_RmsInprojRefIdeal (hRmsInprojRefIdeal := Cert.RmsInprojRefIdeal.Gen.facts) := fun m g _ =>
  (θ_run Cert.RmsInprojRefIdeal.defs _ _).mono
    (fun r h => ⟨fun c => (h c).2.2.2.2, Idealize.ShloMosaic.sem_eq_zero_of_no_sems (by decide) r.2⟩)
    (Cert.RmsInprojRefIdeal.Value.run (F := Ideal) m g)

theorem of2 {a b : Nat} (i : (⟨2, ![a, b]⟩ : Shape).Idx) : ∃ (R : Fin a) (l : Fin b), i = ix2 R l :=
  ⟨i 0, i 1, by funext a; fin_cases a <;> rfl⟩

/-- The claim: after the kernel's run all four results are the reference's, entry by entry. -/
theorem algebraic : Cert.algebraic_RmsInprojIdeal_RmsInprojRefIdeal
    (hRmsInprojIdeal := Cert.RmsInprojIdeal.Gen.facts) (hRmsInprojRefIdeal := Cert.RmsInprojRefIdeal.Gen.facts) := by
  intro m g m' g' _ hag
  refine ⟨fun c => Cert.RmsInprojRefIdeal.Read.val_main_v19 (F := Ideal) (m' ((c.tc : Thread Cert.RmsInprojRefIdeal.nD Cert.RmsInprojRefIdeal.τ).loc Cert.RmsInprojRefIdeal.main_arg0)) (m' ((c.tc : Thread Cert.RmsInprojRefIdeal.nD Cert.RmsInprojRefIdeal.τ).loc Cert.RmsInprojRefIdeal.main_arg1)),
    fun c => Cert.RmsInprojRefIdeal.Read.val_main_v21 (F := Ideal) (m' ((c.tc : Thread Cert.RmsInprojRefIdeal.nD Cert.RmsInprojRefIdeal.τ).loc Cert.RmsInprojRefIdeal.main_arg0)) (m' ((c.tc : Thread Cert.RmsInprojRefIdeal.nD Cert.RmsInprojRefIdeal.τ).loc Cert.RmsInprojRefIdeal.main_arg1)) (m' ((c.tc : Thread Cert.RmsInprojRefIdeal.nD Cert.RmsInprojRefIdeal.τ).loc Cert.RmsInprojRefIdeal.main_arg2)),
    fun c => Cert.RmsInprojRefIdeal.Read.val_main_v22 (F := Ideal) (m' ((c.tc : Thread Cert.RmsInprojRefIdeal.nD Cert.RmsInprojRefIdeal.τ).loc Cert.RmsInprojRefIdeal.main_arg0)) (m' ((c.tc : Thread Cert.RmsInprojRefIdeal.nD Cert.RmsInprojRefIdeal.τ).loc Cert.RmsInprojRefIdeal.main_arg1)) (m' ((c.tc : Thread Cert.RmsInprojRefIdeal.nD Cert.RmsInprojRefIdeal.τ).loc Cert.RmsInprojRefIdeal.main_arg2)),
    fun c => Cert.RmsInprojRefIdeal.Read.val_main_v18 (F := Ideal) (m' ((c.tc : Thread Cert.RmsInprojRefIdeal.nD Cert.RmsInprojRefIdeal.τ).loc Cert.RmsInprojRefIdeal.main_arg0)) (m' ((c.tc : Thread Cert.RmsInprojRefIdeal.nD Cert.RmsInprojRefIdeal.τ).loc Cert.RmsInprojRefIdeal.main_arg1)) (m' ((c.tc : Thread Cert.RmsInprojRefIdeal.nD Cert.RmsInprojRefIdeal.τ).loc Cert.RmsInprojRefIdeal.main_arg2)), ?_,
    Cert.RmsInprojRefIdeal.Value.run m' g'⟩
  refine (θ_run _ _ _).mono (fun r h c => ?_) (Cert.RmsInprojIdeal.Value.run_blocks m g)
  obtain ⟨h4, h5, h6, h7, hk⟩ := h c
  obtain ⟨a0, a1, a2⟩ := hag c
  refine ⟨h4.trans ?_, h5.trans ?_, h6.trans ?_, h7.trans ?_, hk⟩
  · dsimp only
    rw [a0, a1]
    funext i
    obtain ⟨R, l, rfl⟩ := of2 i
    exact (h_final m c R l).trans (v19_at _ _ R l).symm
  · dsimp only
    rw [a0, a1, a2]
    funext i
    obtain ⟨R, l, rfl⟩ := of2 i
    exact (qkv_final m c R l).trans (v21_at _ _ _ R l).symm
  · dsimp only
    rw [a0, a1, a2]
    funext i
    obtain ⟨R, l, rfl⟩ := of2 i
    exact (u_final m c R l).trans (v22_at _ _ _ R l).symm
  · dsimp only
    rw [a0, a1, a2]
    funext i
    obtain ⟨R, l, rfl⟩ := of2 i
    exact (fl_final m c R l).trans (v18_at _ _ _ R l).symm

end Cert.RinClaim
-- ==== Proof.OutKernel.lean ====
/-
The output projection's kernel with the second norm: the arrays it leaves, entry by entry.
-/
module

public import proofs.«01_k».proof.Proof.Gen.OutprojIdeal.Value
public import proofs.«01_k».proof.Proof.Rms
public import proofs.«01_k».proof.Proof.Pieces

@[expose] public section

set_option maxRecDepth 16384

noncomputable section

open Idealize.ShloMosaic Idealize.ShloMosaic.TcCoe Idealize.SL.Sem
open Idealize.ShloMosaic.Pipeline (Dat Window)

namespace Cert.OutprojIdeal.Step

open Cert.OutprojIdeal Cert.OutprojIdeal.Gen Cert.OutprojIdeal.Value Cert.Pieces

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx3 : ∀ t : Fin cfg0.N, win0_3.index t = ![0, 0] := by decide +kernel
theorem idx4 : ∀ t : Fin cfg0.N, win0_4.index t = ![0, 0] := by decide +kernel

/-- The row of the whole array that row `r` of point `t`'s block is. -/
def row (t : Fin cfg0.N) (r : Fin 1024) : Fin 4096 := ⟨1024 * t.val + r.val, by have hN : cfg0.N = 4 := rfl; have := t.isLt; have := r.isLt; omega⟩

/-- The point that works on row `R`. -/
def pt (R : Fin 4096) : Fin cfg0.N := ⟨R.val / 1024, by have hN : cfg0.N = 4 := rfl; omega⟩

theorem row_pt (R : Fin 4096) : row (pt R) ⟨R.val % 1024, Nat.mod_lt _ (by decide)⟩ = R :=
  Fin.ext (by show 1024 * (R.val / 1024) + R.val % 1024 = R.val; omega)

section Blocks

variable {F : FTy → Type} [FloatOps F] (m : (ℓ : Loc nD τ sig) → Buf (Elt F) ℓ) (c : Dev nD)

abbrev argX : Vec F S4096x1024 .f32 := m ((c : Thread nD τ).loc main_arg0)
abbrev argA : Vec F S4096x512 .bf16 := m ((c : Thread nD τ).loc main_arg1)
abbrev argP : Vec F S4096x512 .bf16 := m ((c : Thread nD τ).loc main_arg2)
abbrev argW : Vec F S1x1024x1024 .f32 := m ((c : Thread nD τ).loc main_arg3)
abbrev argG : Vec F S1x1024 .f32 := m ((c : Thread nD τ).loc main_arg4)

theorem V_w : V m c main_v1 = truncf .bf16 (shapeCast S1024x1024 (argW m c) shapeCasts_S1x1024x1024_S1024x1024) bitsLt_bf16_f32 := by
  show StableHlo.after hostOps0 (fun b => m (c, b)) (Proc.devRef .tc main_v1) = _
  simp only [hostOps0]
  after_results
  all_goals rfl

theorem iblk0 (t : Fin cfg0.N) (r : Fin 1024) (x : Fin 1024) :
    iblk m c 0 t (ix2 r x) = argX m c (ix2 (row t r) x) := by
  unfold iblk
  rw [View.read_apply]
  show V m c main_arg0 _ = _
  rw [V_main_arg0]
  congr 1
  funext a
  apply Fin.ext
  show ((win0_0.rect t).emb (ix2 r x) a : Nat) = _
  rw [Window.rect_emb_val win0_0 t _ a rfl, idx0]
  fin_cases a
  · show t.val * 1024 + r.val = 1024 * t.val + r.val; omega
  · show 0 * 1024 + x.val = x.val; omega

theorem iblk1 (t : Fin cfg0.N) (r : Fin 1024) (x : Fin 512) :
    iblk m c 1 t (ix2 r x) = argA m c (ix2 (row t r) x) := by
  unfold iblk
  rw [View.read_apply]
  show V m c main_arg1 _ = _
  rw [V_main_arg1]
  congr 1
  funext a
  apply Fin.ext
  show ((win0_1.rect t).emb (ix2 r x) a : Nat) = _
  rw [Window.rect_emb_val win0_1 t _ a rfl, idx1]
  fin_cases a
  · show t.val * 1024 + r.val = 1024 * t.val + r.val; omega
  · show 0 * 512 + x.val = x.val; omega

theorem iblk2 (t : Fin cfg0.N) (r : Fin 1024) (x : Fin 512) :
    iblk m c 2 t (ix2 r x) = argP m c (ix2 (row t r) x) := by
  unfold iblk
  rw [View.read_apply]
  show V m c main_arg2 _ = _
  rw [V_main_arg2]
  congr 1
  funext a
  apply Fin.ext
  show ((win0_2.rect t).emb (ix2 r x) a : Nat) = _
  rw [Window.rect_emb_val win0_2 t _ a rfl, idx2]
  fin_cases a
  · show t.val * 1024 + r.val = 1024 * t.val + r.val; omega
  · show 0 * 512 + x.val = x.val; omega

theorem iblk4 (t : Fin cfg0.N) (x : Fin 1024) :
    iblk m c 4 t (ix2 (0 : Fin 1) x) = argG m c (ix2 (0 : Fin 1) x) := by
  unfold iblk
  rw [View.read_apply]
  show V m c main_arg4 _ = _
  rw [V_main_arg4]
  congr 1
  funext a
  apply Fin.ext
  show ((win0_4.rect t).emb (ix2 (0 : Fin 1) x) a : Nat) = _
  rw [Window.rect_emb_val win0_4 t _ a rfl, idx4]
  fin_cases a
  · rfl
  · show 0 * 1024 + x.val = x.val; omega

theorem iblk3 (t : Fin cfg0.N) (r : Fin 1024) (x : Fin 1024) :
    iblk m c 3 t (ix2 r x) = (V m c main_v1 : Vec F S1024x1024 .bf16) (ix2 r x) := by
  unfold iblk
  rw [View.read_apply]
  show V m c main_v1 _ = _
  congr 1
  funext a
  apply Fin.ext
  show ((win0_3.rect t).emb (ix2 r x) a : Nat) = _
  rw [Window.rect_emb_val win0_3 t _ a rfl, idx3]
  fin_cases a
  · show 0 * 1024 + r.val = r.val; omega
  · show 0 * 1024 + x.val = x.val; omega

end Blocks

/-- The two mixers' results side by side. -/
def mix (A Q : Vec Ideal S4096x512 .bf16) (R : Fin 4096) (k : Fin 1024) : EReal :=
  if h : k.val < 512 then A (ix2 R ⟨k.val, h⟩) else Q (ix2 R ⟨k.val - 512, by omega⟩)

/-- The row after the residual. -/
def x1v (X : Vec Ideal S4096x1024 .f32) (A Q : Vec Ideal S4096x512 .bf16) (W : Vec Ideal S1x1024x1024 .f32) (R : Fin 4096) (l : Fin 1024) : EReal :=
  X (ix2 R l) + ∑ k : Fin 1024, mix A Q R k * W (ix3 0 k l)

/-- The row normalised. -/
def h2v (X : Vec Ideal S4096x1024 .f32) (A Q : Vec Ideal S4096x512 .bf16) (W : Vec Ideal S1x1024x1024 .f32) (G : Vec Ideal S1x1024 .f32) (R : Fin 4096) (l : Fin 1024) : EReal :=
  x1v X A Q W R l * Ideal.rsqrt (Rms.var fun k => x1v X A Q W R k) * G (ix2 0 l)

variable (m : (ℓ : Loc nD τ sig) → Buf (Elt Ideal) ℓ) (c : Dev nD)

theorem w_at (k l : Fin 1024) : (V m c main_v1 : Vec Ideal S1024x1024 .bf16) (ix2 k l) = argW m c (ix3 0 k l) := by
  rw [V_w]
  pointwise []

theorem pay1_at (a p : Vec Ideal S1024x512 .bf16) (x : Vec Ideal S1024x1024 .f32) (w : Vec Ideal S1024x1024 .bf16) (r l : Fin 1024) :
    k0_pay1 a p x w (ix2 r l) = x (ix2 r l) + ∑ k : Fin 1024, (if h : k.val < 512 then a (ix2 r ⟨k.val, h⟩) else p (ix2 r ⟨k.val - 512, by have := k.isLt; omega⟩)) * w (ix2 k l) := by
  pointwise [k0_pay1]

theorem pay2_at (a p : Vec Ideal S1024x512 .bf16) (x : Vec Ideal S1024x1024 .f32) (w : Vec Ideal S1024x1024 .bf16) (g : Vec Ideal S1x1024 .f32) (r l : Fin 1024) :
    k0_pay2 a p x w g (ix2 r l) = k0_pay1 a p x w (ix2 r l) * Ideal.rsqrt (Rms.var fun k => k0_pay1 a p x w (ix2 r k)) * g (ix2 0 l) := by
  pointwise [k0_pay2]
  rfl

theorem x1_blk (t : Fin cfg0.N) (r l : Fin 1024) :
    k0_pay1 (iblk m c 1 t) (iblk m c 2 t) (iblk m c 0 t) (iblk m c 3 t) (ix2 r l) = x1v (argX m c) (argA m c) (argP m c) (argW m c) (row t r) l := by
  refine (pay1_at _ _ _ _ r l).trans ?_
  unfold x1v mix
  refine congrArg₂ (· + ·) (iblk0 m c t r l) (Finset.sum_congr rfl fun k _ => congrArg₂ (· * ·) ?_ ((iblk3 m c t k l).trans (w_at m c k l)))
  by_cases h : k.val < 512
  · rw [dif_pos h, dif_pos h, iblk1]
  · rw [dif_neg h, dif_neg h, iblk2]

theorem out5_blk (t : Fin cfg0.N) (r l : Fin 1024) :
    out0_5 (iblk m c 0 t) (iblk m c 1 t) (iblk m c 2 t) (iblk m c 3 t) (iblk m c 4 t) (ix2 r l) = x1v (argX m c) (argA m c) (argP m c) (argW m c) (row t r) l := by
  unfold out0_5
  rw [View.canon_unit_zero hz2, View.ld_unit_zero (S := S1024x512) hz2, View.ld_unit_zero (S := S1024x512) hz2, View.ld_unit_zero (S := S1024x1024) hz2, View.ld_unit_zero (S := S1024x1024) hz2]
  exact x1_blk m c t r l

theorem out6_blk (t : Fin cfg0.N) (r l : Fin 1024) :
    out0_6 (iblk m c 0 t) (iblk m c 1 t) (iblk m c 2 t) (iblk m c 3 t) (iblk m c 4 t) (ix2 r l) = h2v (argX m c) (argA m c) (argP m c) (argW m c) (argG m c) (row t r) l := by
  unfold out0_6
  rw [View.canon_unit_zero hz2, View.ld_unit_zero (S := S1024x512) hz2, View.ld_unit_zero (S := S1024x512) hz2, View.ld_unit_zero (S := S1024x1024) hz2, View.ld_unit_zero (S := S1024x1024) hz2, View.ld_unit_zero (S := S1x1024) hz2]
  refine (pay2_at _ _ _ _ _ r l).trans ?_
  simp only [x1_blk]
  rw [iblk4]
  rfl

theorem flushed5_at (t : Fin cfg0.N) (r : Fin 1024) (l : Fin 1024) :
    ((dats m 0 c).flushed 5 t : Vec Ideal S1024x1024 .f32) (ix2 r l) = x1v (argX m c) (argA m c) (argP m c) (argW m c) (row t r) l := by
  rw [flushed5]
  exact out5_blk m c t r l

theorem x1_final (R : Fin 4096) (l : Fin 1024) :
    ((dats m 0 c).arrAt 5 cfg0.N : Vec Ideal S4096x1024 .f32) (ix2 R l) = x1v (argX m c) (argA m c) (argP m c) (argW m c) R l := by
  have hR := R.isLt
  have hemb : ((cfg0.win 5).blk (pt R)).view.emb (ix2 (⟨R.val % 1024, Nat.mod_lt _ (by decide)⟩ : Fin 1024) l) = ix2 R l := by
    funext a
    apply Fin.ext
    show ((win0_5.rect (pt R)).emb (ix2 (⟨R.val % 1024, Nat.mod_lt _ (by decide)⟩ : Fin 1024) l) a : Nat) = _
    rw [Window.rect_emb_val win0_5 (pt R) _ a rfl, idx5]
    fin_cases a
    · show R.val / 1024 * 1024 + R.val % 1024 = R.val; omega
    · show 0 * 1024 + l.val = l.val; omega
  have h := (dats m 0 c).arrAt_emb_eq_flushed 5 disjoint5 (pt R) (flush0_5 (pt R)) (ix2 (⟨R.val % 1024, Nat.mod_lt _ (by decide)⟩ : Fin 1024) l)
  rw [hemb] at h
  refine h.trans ?_
  refine (flushed5_at m c (pt R) _ l).trans ?_
  rw [row_pt]

theorem flushed6_at (t : Fin cfg0.N) (r : Fin 1024) (l : Fin 1024) :
    ((dats m 0 c).flushed 6 t : Vec Ideal S1024x1024 .bf16) (ix2 r l) = h2v (argX m c) (argA m c) (argP m c) (argW m c) (argG m c) (row t r) l := by
  rw [flushed6]
  exact out6_blk m c t r l

theorem h2_final (R : Fin 4096) (l : Fin 1024) :
    ((dats m 0 c).arrAt 6 cfg0.N : Vec Ideal S4096x1024 .bf16) (ix2 R l) = h2v (argX m c) (argA m c) (argP m c) (argW m c) (argG m c) R l := by
  have hR := R.isLt
  have hemb : ((cfg0.win 6).blk (pt R)).view.emb (ix2 (⟨R.val % 1024, Nat.mod_lt _ (by decide)⟩ : Fin 1024) l) = ix2 R l := by
    funext a
    apply Fin.ext
    show ((win0_6.rect (pt R)).emb (ix2 (⟨R.val % 1024, Nat.mod_lt _ (by decide)⟩ : Fin 1024) l) a : Nat) = _
    rw [Window.rect_emb_val win0_6 (pt R) _ a rfl, idx6]
    fin_cases a
    · show R.val / 1024 * 1024 + R.val % 1024 = R.val; omega
    · show 0 * 1024 + l.val = l.val; omega
  have h := (dats m 0 c).arrAt_emb_eq_flushed 6 disjoint6 (pt R) (flush0_6 (pt R)) (ix2 (⟨R.val % 1024, Nat.mod_lt _ (by decide)⟩ : Fin 1024) l)
  rw [hemb] at h
  refine h.trans ?_
  refine (flushed6_at m c (pt R) _ l).trans ?_
  rw [row_pt]

end Cert.OutprojIdeal.Step
-- ==== Proof.OutClaim.lean ====
/-
The output projection leaves the reference's two results.
-/
module

public import proofs.«01_k».proof.Proof.OutKernel
public import proofs.«01_k».proof.Proof.Gen.OutprojRefIdeal.Run
public import proofs.«01_k».proof.Proof.Gen.OutprojRefIdeal.Read
public import proofs.«01_k».proof.Defs
public import proofs.«01_k».proof.Proof.Gen.Outproj
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.OutClaim

open Cert.OutprojIdeal.Step

section Ref

open Cert.OutprojRefIdeal Cert.OutprojRefIdeal.Gen Cert.OutprojRefIdeal.Read

variable (X : Vec Ideal S4096x1024 .f32) (A Q : Vec Ideal S4096x512 .bf16) (W : Vec Ideal S1x1024x1024 .f32) (G : Vec Ideal S1x1024 .f32)

theorem v0_at (R : Fin 4096) (k : Fin 1024) : (val_main_v0 (F := Ideal) A Q) (ix2 R k) = mix A Q R k := by
  pointwise [val_main_v0]
  rfl

theorem v4_at (R : Fin 4096) (l : Fin 1024) : (val_main_v4 (F := Ideal) X A Q W) (ix2 R l) = x1v X A Q W R l := by
  pointwise [val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19]
  simp only [v0_at]
  rfl

theorem v19_at (R : Fin 4096) (l : Fin 1024) : (val_main_v19 (F := Ideal) X A Q W G) (ix2 R l) = h2v X A Q W G R l := by
  pointwise [val_main_v0, val_main_v1, val_main_v2, val_main_v3, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19]
  simp only [v4_at]
  rfl

end Ref

/-- The reference runs on the host alone: its run keeps the arguments, and the program declares no semaphore. -/
theorem frame_ref : Cert.quiescent_OutprojRefIdeal (hOutprojRefIdeal := Cert.OutprojRefIdeal.Gen.facts) := fun m g _ =>
  (θ_run Cert.OutprojRefIdeal.defs _ _).mono
    (fun r h => ⟨fun c => (h c).2.2, Idealize.ShloMosaic.sem_eq_zero_of_no_sems (by decide) r.2⟩)
    (Cert.OutprojRefIdeal.Value.run (F := Ideal) m g)

theorem of2 {a b : Nat} (i : (⟨2, ![a, b]⟩ : Shape).Idx) : ∃ (R : Fin a) (l : Fin b), i = ix2 R l :=
  ⟨i 0, i 1, by funext a; fin_cases a <;> rfl⟩

/-- The claim: after the kernel's run both results are the reference's, entry by entry. -/
theorem algebraic : Cert.algebraic_OutprojIdeal_OutprojRefIdeal
    (hOutprojIdeal := Cert.OutprojIdeal.Gen.facts) (hOutprojRefIdeal := Cert.OutprojRefIdeal.Gen.facts) := by
  intro m g m' g' _ hag
  refine ⟨fun c => Cert.OutprojRefIdeal.Read.val_main_v4 (F := Ideal) (m' ((c.tc : Thread Cert.OutprojRefIdeal.nD Cert.OutprojRefIdeal.τ).loc Cert.OutprojRefIdeal.main_arg0)) (m' ((c.tc : Thread Cert.OutprojRefIdeal.nD Cert.OutprojRefIdeal.τ).loc Cert.OutprojRefIdeal.main_arg1)) (m' ((c.tc : Thread Cert.OutprojRefIdeal.nD Cert.OutprojRefIdeal.τ).loc Cert.OutprojRefIdeal.main_arg2)) (m' ((c.tc : Thread Cert.OutprojRefIdeal.nD Cert.OutprojRefIdeal.τ).loc Cert.OutprojRefIdeal.main_arg3)),
    fun c => Cert.OutprojRefIdeal.Read.val_main_v19 (F := Ideal) (m' ((c.tc : Thread Cert.OutprojRefIdeal.nD Cert.OutprojRefIdeal.τ).loc Cert.OutprojRefIdeal.main_arg0)) (m' ((c.tc : Thread Cert.OutprojRefIdeal.nD Cert.OutprojRefIdeal.τ).loc Cert.OutprojRefIdeal.main_arg1)) (m' ((c.tc : Thread Cert.OutprojRefIdeal.nD Cert.OutprojRefIdeal.τ).loc Cert.OutprojRefIdeal.main_arg2)) (m' ((c.tc : Thread Cert.OutprojRefIdeal.nD Cert.OutprojRefIdeal.τ).loc Cert.OutprojRefIdeal.main_arg3)) (m' ((c.tc : Thread Cert.OutprojRefIdeal.nD Cert.OutprojRefIdeal.τ).loc Cert.OutprojRefIdeal.main_arg4)), ?_, Cert.OutprojRefIdeal.Value.run m' g'⟩
  refine (θ_run _ _ _).mono (fun r h c => ?_) (Cert.OutprojIdeal.Value.run_blocks m g)
  obtain ⟨h5, h6, hk⟩ := h c
  obtain ⟨a0, a1, a2, a3, a4⟩ := hag c
  refine ⟨h5.trans ?_, h6.trans ?_, hk⟩
  · dsimp only
    rw [a0, a1, a2, a3]
    funext i
    obtain ⟨R, l, rfl⟩ := of2 i
    exact (x1_final m c R l).trans (v4_at _ _ _ _ R l).symm
  · dsimp only
    rw [a0, a1, a2, a3, a4]
    funext i
    obtain ⟨R, l, rfl⟩ := of2 i
    exact (h2_final m c R l).trans (v19_at _ _ _ _ _ R l).symm

end Cert.OutClaim
-- ==== Proof.LossStep.lean ====
/-
What one grid step of the feed-forward part's loss kernel leaves in its outputs and in its scratch.
-/
module

public import proofs.«01_k».proof.Proof.Gen.MlpLossIdeal.Value
public import proofs.«01_k».proof.Proof.Pieces
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat Window)

namespace Cert.MlpLossIdeal.Step

open Cert.MlpLossIdeal Cert.MlpLossIdeal.Gen Cert.Pieces

/-- The logistic function as the programs write it. -/
def sg (a : EReal) : EReal := Ideal.div 1 (1 + Ideal.exp (-a))

/-- The three saved factors, from the two branches' pre-activations. -/
def udF (g u : EReal) : EReal := u * (sg g * (1 + g * (1 - sg g)))
def siF (g _u : EReal) : EReal := g * sg g
def acF (g u : EReal) : EReal := g * sg g * u

/-- A branch's pre-activation at a slice's column. -/
def mB (s : Fin 4) (x : Vec Ideal S512x1024 .bf16) (w : Vec Ideal S4x704x1024 .bf16) (r : Fin 512) (f : Fin 704) : EReal :=
  ∑ d : Fin 1024, x (ix2 r d) * w (ix3 s f d)

/-- A slice's plane of a saved factor. -/
def plane (F : EReal → EReal → EReal) (s : Fin 4) (x : Vec Ideal S512x1024 .bf16) (w v : Vec Ideal S4x704x1024 .bf16) : Vec Ideal S1x512x704 .bf16 :=
  fun z => (fun (r : Fin 512) (f : Fin 704) => F (mB s x w r f) (mB s x v r f)) (z 1) (z 2)

/-- A slice of a weight. -/
def slc (s : Fin 4) (x : Vec Ideal S4x704x1024 .bf16) : Vec Ideal S1x704x1024 .bf16 :=
  fun z => (fun (f : Fin 704) (d : Fin 1024) => x (ix3 s f d)) (z 1) (z 2)

theorem g0_at (x : Vec Ideal S512x1024 .bf16) (w v : Vec Ideal S1x256x1024 .bf16) (r : Fin 512) (k : Fin 256) :
    k0_pay25 (k0_pay16 x w) (k0_pay17 x v) (k0_pay22 x w) k0_pay24 (ix3 0 r k) = udF (∑ d : Fin 1024, x (ix2 r d) * w (ix3 0 k d)) (∑ d : Fin 1024, x (ix2 r d) * v (ix3 0 k d)) := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold udF sg
  rfl

theorem g1_at (x : Vec Ideal S512x1024 .bf16) (w v : Vec Ideal S1x256x1024 .bf16) (r : Fin 512) (k : Fin 256) :
    k0_pay30 (k0_pay18 x w) (k0_pay19 x v) (ix3 0 r k) = udF (∑ d : Fin 1024, x (ix2 r d) * w (ix3 0 k d)) (∑ d : Fin 1024, x (ix2 r d) * v (ix3 0 k d)) := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold udF sg
  rfl

theorem g2_at (x : Vec Ideal S512x1024 .bf16) (w v : Vec Ideal S1x192x1024 .bf16) (r : Fin 512) (k : Fin 192) :
    k0_pay36 (k0_pay20 x w) (k0_pay21 x v) (ix3 0 r k) = udF (∑ d : Fin 1024, x (ix2 r d) * w (ix3 0 k d)) (∑ d : Fin 1024, x (ix2 r d) * v (ix3 0 k d)) := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold udF sg
  rfl

theorem s0_at (x : Vec Ideal S512x1024 .bf16) (w : Vec Ideal S1x256x1024 .bf16) (r : Fin 512) (k : Fin 256) :
    k0_pay26 (k0_pay23 x w) (ix3 0 r k) = siF (∑ d : Fin 1024, x (ix2 r d) * w (ix3 0 k d)) 0 := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold siF sg
  rfl

theorem s1_at (x : Vec Ideal S512x1024 .bf16) (w : Vec Ideal S1x256x1024 .bf16) (r : Fin 512) (k : Fin 256) :
    k0_pay31 (k0_pay18 x w) (ix3 0 r k) = siF (∑ d : Fin 1024, x (ix2 r d) * w (ix3 0 k d)) 0 := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold siF sg
  rfl

theorem s2_at (x : Vec Ideal S512x1024 .bf16) (w : Vec Ideal S1x192x1024 .bf16) (r : Fin 512) (k : Fin 192) :
    k0_pay37 (k0_pay20 x w) (ix3 0 r k) = siF (∑ d : Fin 1024, x (ix2 r d) * w (ix3 0 k d)) 0 := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold siF sg
  rfl

theorem a0_at (x : Vec Ideal S512x1024 .bf16) (w v : Vec Ideal S1x256x1024 .bf16) (r : Fin 512) (k : Fin 256) :
    k0_pay27 (k0_pay17 x v) (k0_pay23 x w) (ix3 0 r k) = acF (∑ d : Fin 1024, x (ix2 r d) * w (ix3 0 k d)) (∑ d : Fin 1024, x (ix2 r d) * v (ix3 0 k d)) := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold acF sg
  rfl

theorem a1_at (x : Vec Ideal S512x1024 .bf16) (w v : Vec Ideal S1x256x1024 .bf16) (r : Fin 512) (k : Fin 256) :
    k0_pay33 (k0_pay32 (k0_pay18 x w) (k0_pay19 x v)) (ix3 0 r k) = acF (∑ d : Fin 1024, x (ix2 r d) * w (ix3 0 k d)) (∑ d : Fin 1024, x (ix2 r d) * v (ix3 0 k d)) := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold acF sg
  rfl

theorem a2_at (x : Vec Ideal S512x1024 .bf16) (w v : Vec Ideal S1x192x1024 .bf16) (r : Fin 512) (k : Fin 192) :
    k0_pay38 (k0_pay20 x w) (k0_pay21 x v) (ix3 0 r k) = acF (∑ d : Fin 1024, x (ix2 r d) * w (ix3 0 k d)) (∑ d : Fin 1024, x (ix2 r d) * v (ix3 0 k d)) := by
  pointwise [k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  unfold acF sg
  rfl

theorem canon_g (x : Vec Ideal S512x1024 .bf16) (w v : Vec Ideal S4x704x1024 .bf16) (s : Fin 4) (σ : ℕ) (hσ : σ = s.val)
    (i2 i1 i0 j2 j1 j0) :
    View.canon (Val := Elt Ideal) (s := S1x512x704)
      [⟨Rect.unit (s := S1x512x704) ![0, 0, 512] ![1, 512, 192] i2, k0_pay36 (k0_pay20 x (View.ld w (Rect.unit (s := S4x704x1024) ![σ, 512, 0] ![1, 192, 1024] j2))) (k0_pay21 x (View.ld v (Rect.unit (s := S4x704x1024) ![σ, 512, 0] ![1, 192, 1024] j2)))⟩,
       ⟨Rect.unit (s := S1x512x704) ![0, 0, 256] ![1, 512, 256] i1, k0_pay30 (k0_pay18 x (View.ld w (Rect.unit (s := S4x704x1024) ![σ, 256, 0] ![1, 256, 1024] j1))) (k0_pay19 x (View.ld v (Rect.unit (s := S4x704x1024) ![σ, 256, 0] ![1, 256, 1024] j1)))⟩,
       ⟨Rect.unit (s := S1x512x704) ![0, 0, 0] ![1, 512, 256] i0, k0_pay25 (k0_pay16 x (View.ld w (Rect.unit (s := S4x704x1024) ![σ, 0, 0] ![1, 256, 1024] j0))) (k0_pay17 x (View.ld v (Rect.unit (s := S4x704x1024) ![σ, 0, 0] ![1, 256, 1024] j0))) (k0_pay22 x (View.ld w (Rect.unit (s := S4x704x1024) ![σ, 0, 0] ![1, 256, 1024] j0))) k0_pay24⟩] = plane udF s x w v := by
  refine strips (e := .bf16) (fun (r : Fin 512) (f : Fin 704) => udF (mB s x w r f) (mB s x v r f)) _ _ _ i2 i1 i0 ?_ ?_ ?_
  · intro r k
    exact (g2_at _ _ _ r k).trans (congrArg₂ udF (Finset.sum_congr rfl fun d _ => congrArg (x (ix2 r d) * ·) (ld3 w σ 512 0 j2 (0 : Fin 1) k d s ⟨512 + k.val, by omega⟩ d (by rw [hσ]; rfl) rfl (by omega)))
      (Finset.sum_congr rfl fun d _ => congrArg (x (ix2 r d) * ·) (ld3 v σ 512 0 j2 (0 : Fin 1) k d s ⟨512 + k.val, by omega⟩ d (by rw [hσ]; rfl) rfl (by omega))))
  · intro r k
    exact (g1_at _ _ _ r k).trans (congrArg₂ udF (Finset.sum_congr rfl fun d _ => congrArg (x (ix2 r d) * ·) (ld3 w σ 256 0 j1 (0 : Fin 1) k d s ⟨256 + k.val, by omega⟩ d (by rw [hσ]; rfl) rfl (by omega)))
      (Finset.sum_congr rfl fun d _ => congrArg (x (ix2 r d) * ·) (ld3 v σ 256 0 j1 (0 : Fin 1) k d s ⟨256 + k.val, by omega⟩ d (by rw [hσ]; rfl) rfl (by omega))))
  · intro r k
    exact (g0_at _ _ _ r k).trans (congrArg₂ udF (Finset.sum_congr rfl fun d _ => congrArg (x (ix2 r d) * ·) (ld3 w σ 0 0 j0 (0 : Fin 1) k d s ⟨k.val, by omega⟩ d (by rw [hσ]; rfl) (by show k.val = 0 + k.val; omega) (by omega)))
      (Finset.sum_congr rfl fun d _ => congrArg (x (ix2 r d) * ·) (ld3 v σ 0 0 j0 (0 : Fin 1) k d s ⟨k.val, by omega⟩ d (by rw [hσ]; rfl) (by show k.val = 0 + k.val; omega) (by omega))))

theorem canon_s (x : Vec Ideal S512x1024 .bf16) (w v : Vec Ideal S4x704x1024 .bf16) (s : Fin 4) (σ : ℕ) (hσ : σ = s.val)
    (i2 i1 i0 j2 j1 j0) :
    View.canon (Val := Elt Ideal) (s := S1x512x704)
      [⟨Rect.unit (s := S1x512x704) ![0, 0, 512] ![1, 512, 192] i2, k0_pay37 (k0_pay20 x (View.ld w (Rect.unit (s := S4x704x1024) ![σ, 512, 0] ![1, 192, 1024] j2)))⟩,
       ⟨Rect.unit (s := S1x512x704) ![0, 0, 256] ![1, 512, 256] i1, k0_pay31 (k0_pay18 x (View.ld w (Rect.unit (s := S4x704x1024) ![σ, 256, 0] ![1, 256, 1024] j1)))⟩,
       ⟨Rect.unit (s := S1x512x704) ![0, 0, 0] ![1, 512, 256] i0, k0_pay26 (k0_pay23 x (View.ld w (Rect.unit (s := S4x704x1024) ![σ, 0, 0] ![1, 256, 1024] j0)))⟩] = plane siF s x w v := by
  refine strips (e := .bf16) (fun (r : Fin 512) (f : Fin 704) => siF (mB s x w r f) (mB s x v r f)) _ _ _ i2 i1 i0 ?_ ?_ ?_
  · intro r k
    exact (s2_at _ _ r k).trans (congrArg (fun g => siF g 0) (Finset.sum_congr rfl fun d _ => congrArg (x (ix2 r d) * ·) (ld3 w σ 512 0 j2 (0 : Fin 1) k d s ⟨512 + k.val, by omega⟩ d (by rw [hσ]; rfl) rfl (by omega))))
  · intro r k
    exact (s1_at _ _ r k).trans (congrArg (fun g => siF g 0) (Finset.sum_congr rfl fun d _ => congrArg (x (ix2 r d) * ·) (ld3 w σ 256 0 j1 (0 : Fin 1) k d s ⟨256 + k.val, by omega⟩ d (by rw [hσ]; rfl) rfl (by omega))))
  · intro r k
    exact (s0_at _ _ r k).trans (congrArg (fun g => siF g 0) (Finset.sum_congr rfl fun d _ => congrArg (x (ix2 r d) * ·) (ld3 w σ 0 0 j0 (0 : Fin 1) k d s ⟨k.val, by omega⟩ d (by rw [hσ]; rfl) (by show k.val = 0 + k.val; omega) (by omega))))

theorem canon_a (x : Vec Ideal S512x1024 .bf16) (w v : Vec Ideal S4x704x1024 .bf16) (s : Fin 4) (σ : ℕ) (hσ : σ = s.val)
    (i2 i1 i0 j2 j1 j0) :
    View.canon (Val := Elt Ideal) (s := S1x512x704)
      [⟨Rect.unit (s := S1x512x704) ![0, 0, 512] ![1, 512, 192] i2, k0_pay38 (k0_pay20 x (View.ld w (Rect.unit (s := S4x704x1024) ![σ, 512, 0] ![1, 192, 1024] j2))) (k0_pay21 x (View.ld v (Rect.unit (s := S4x704x1024) ![σ, 512, 0] ![1, 192, 1024] j2)))⟩,
       ⟨Rect.unit (s := S1x512x704) ![0, 0, 256] ![1, 512, 256] i1, k0_pay33 (k0_pay32 (k0_pay18 x (View.ld w (Rect.unit (s := S4x704x1024) ![σ, 256, 0] ![1, 256, 1024] j1))) (k0_pay19 x (View.ld v (Rect.unit (s := S4x704x1024) ![σ, 256, 0] ![1, 256, 1024] j1))))⟩,
       ⟨Rect.unit (s := S1x512x704) ![0, 0, 0] ![1, 512, 256] i0, k0_pay27 (k0_pay17 x (View.ld v (Rect.unit (s := S4x704x1024) ![σ, 0, 0] ![1, 256, 1024] j0))) (k0_pay23 x (View.ld w (Rect.unit (s := S4x704x1024) ![σ, 0, 0] ![1, 256, 1024] j0)))⟩] = plane acF s x w v := by
  refine strips (e := .bf16) (fun (r : Fin 512) (f : Fin 704) => acF (mB s x w r f) (mB s x v r f)) _ _ _ i2 i1 i0 ?_ ?_ ?_
  · intro r k
    exact (a2_at _ _ _ r k).trans (congrArg₂ acF (Finset.sum_congr rfl fun d _ => congrArg (x (ix2 r d) * ·) (ld3 w σ 512 0 j2 (0 : Fin 1) k d s ⟨512 + k.val, by omega⟩ d (by rw [hσ]; rfl) rfl (by omega)))
      (Finset.sum_congr rfl fun d _ => congrArg (x (ix2 r d) * ·) (ld3 v σ 512 0 j2 (0 : Fin 1) k d s ⟨512 + k.val, by omega⟩ d (by rw [hσ]; rfl) rfl (by omega))))
  · intro r k
    exact (a1_at _ _ _ r k).trans (congrArg₂ acF (Finset.sum_congr rfl fun d _ => congrArg (x (ix2 r d) * ·) (ld3 w σ 256 0 j1 (0 : Fin 1) k d s ⟨256 + k.val, by omega⟩ d (by rw [hσ]; rfl) rfl (by omega)))
      (Finset.sum_congr rfl fun d _ => congrArg (x (ix2 r d) * ·) (ld3 v σ 256 0 j1 (0 : Fin 1) k d s ⟨256 + k.val, by omega⟩ d (by rw [hσ]; rfl) rfl (by omega))))
  · intro r k
    exact (a0_at _ _ _ r k).trans (congrArg₂ acF (Finset.sum_congr rfl fun d _ => congrArg (x (ix2 r d) * ·) (ld3 w σ 0 0 j0 (0 : Fin 1) k d s ⟨k.val, by omega⟩ d (by rw [hσ]; rfl) (by show k.val = 0 + k.val; omega) (by omega)))
      (Finset.sum_congr rfl fun d _ => congrArg (x (ix2 r d) * ·) (ld3 v σ 0 0 j0 (0 : Fin 1) k d s ⟨k.val, by omega⟩ d (by rw [hσ]; rfl) (by show k.val = 0 + k.val; omega) (by omega))))

theorem read_a (a : View sig .tc .vmem S1x512x704 .bf16) (x : Vec Ideal S512x1024 .bf16) (w v : Vec Ideal S4x704x1024 .bf16) (s : Fin 4) (σ : ℕ) (hσ : σ = s.val)
    (i2 i1 i0 j2 j1 j0 n) :
    a.readCov (Val := Elt Ideal)
      [⟨Rect.unit (s := S1x512x704) ![0, 0, 512] ![1, 512, 192] i2, k0_pay38 (k0_pay20 x (View.ld w (Rect.unit (s := S4x704x1024) ![σ, 512, 0] ![1, 192, 1024] j2))) (k0_pay21 x (View.ld v (Rect.unit (s := S4x704x1024) ![σ, 512, 0] ![1, 192, 1024] j2)))⟩,
       ⟨Rect.unit (s := S1x512x704) ![0, 0, 256] ![1, 512, 256] i1, k0_pay33 (k0_pay32 (k0_pay18 x (View.ld w (Rect.unit (s := S4x704x1024) ![σ, 256, 0] ![1, 256, 1024] j1))) (k0_pay19 x (View.ld v (Rect.unit (s := S4x704x1024) ![σ, 256, 0] ![1, 256, 1024] j1))))⟩,
       ⟨Rect.unit (s := S1x512x704) ![0, 0, 0] ![1, 512, 256] i0, k0_pay27 (k0_pay17 x (View.ld v (Rect.unit (s := S4x704x1024) ![σ, 0, 0] ![1, 256, 1024] j0))) (k0_pay23 x (View.ld w (Rect.unit (s := S4x704x1024) ![σ, 0, 0] ![1, 256, 1024] j0)))⟩] (Rect.unit (s := S1x512x704) ![0, 0, 0] ![1, 512, 704] n).toLoadRect = plane acF s x w v := by
  rw [View.readCov_eq_canon', canon_a x w v s σ hσ]
  exact View.ld_unit_zero (S := S1x512x704) hz3 n (plane acF s x w v)

theorem congr2 {α β ε : Type} (f : α → β → ε) {a a' : α} {b b' : β} (ha : a = a') (hb : b = b') : f a b = f a' b' := by rw [ha, hb]

theorem ld_slc (x : Vec Ideal S4x704x1024 .bf16) (s : Fin 4) (σ : ℕ) (hσ : σ = s.val) (j) :
    View.ld x (Rect.unit (s := S4x704x1024) ![σ, 0, 0] ![1, 704, 1024] j) = slc s x := by
  funext y
  obtain ⟨z, f, d, rfl⟩ : ∃ (z : Fin 1) (f : Fin 704) (d : Fin 1024), y = ix3 z f d := ⟨y 0, y 1, y 2, by funext a; fin_cases a <;> rfl⟩
  exact ld3 x σ 0 0 j z f d s f d (by have := z.isLt; omega) (by omega) (by omega)

variable (c : Dev nD) (i : grid0.Coords)
  (a2 : Memref sig .tc .vmem S512x1024 .bf16) (h2 : a2.IsWhole)
  (a3 : Memref sig .tc .vmem S512x1024 .f32) (h3 : a3.IsWhole)
  (a4 : Memref sig .tc .vmem S4x704x1024 .bf16) (h4 : a4.IsWhole)
  (a5 : Memref sig .tc .vmem S4x704x1024 .bf16) (h5 : a5.IsWhole)
  (a6 : Memref sig .tc .vmem S4x704x1024 .bf16) (h6 : a6.IsWhole)
  (a7 : Memref sig .tc .vmem S512x1024 .f32) (h7 : a7.IsWhole)
  (a8 : Memref sig .tc .vmem S1x1024 .f32) (h8 : a8.IsWhole)
  (a9 : Memref sig .tc .vmem S8x128 .f32) (h9 : a9.IsWhole)
  (a10 : Memref sig .tc .vmem S1x1024 .f32) (h10 : a10.IsWhole)
  (a11 : Memref sig .tc .vmem S512x1024 .f32) (h11 : a11.IsWhole)
  (a12 : Memref sig .tc .vmem S512x1024 .bf16) (h12 : a12.IsWhole)
  (a13 : Memref sig .tc .vmem S1x512x704 .bf16) (h13 : a13.IsWhole)
  (a14 : Memref sig .tc .vmem S1x512x704 .bf16) (h14 : a14.IsWhole)
  (a15 : Memref sig .tc .vmem S1x512x704 .bf16) (h15 : a15.IsWhole)
  (a16 : Memref sig .tc .vmem S512x1024 .f32) (h16 : a16.IsWhole)
  (x0 : Vec Ideal S512x1024 .bf16) (x1 : Vec Ideal S512x1024 .f32) (x2 : Vec Ideal S4x704x1024 .bf16) (x3 : Vec Ideal S4x704x1024 .bf16) (x4 : Vec Ideal S4x704x1024 .bf16) (x5 : Vec Ideal S512x1024 .f32) (x6 : Vec Ideal S1x1024 .f32)

/-- The slice a grid point works on. -/
def sl : Fin 4 := ⟨(i 1).val, (i 1).isLt⟩

theorem sl_off : BitVec.toNat (Scalar.indexCast (BitVec.ofNat 32 (i 1).val)) = (sl i).val := off_eq (sl i)

section A

variable (hc0 : cond0_0 i) (hc1 : cond0_1 i) (hc2 : ¬cond0_2 i) (hc3 : ¬cond0_3 i)

theorem out11_A :
    out0_A_11 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = plane udF (sl i) x0 x2 x3 := by
  unfold out0_A_11
  refine (View.read_writes_eq_canon _ _ _ (by apply cover0_A_11)).trans ?_
  unfold kernelRun0_A
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_g x0 x2 x3 (sl i) _ (sl_off i) _ _ _ _ _ _

theorem out12_A :
    out0_A_12 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = plane siF (sl i) x0 x2 x3 := by
  unfold out0_A_12
  refine (View.read_writes_eq_canon _ _ _ (by apply cover0_A_12)).trans ?_
  unfold kernelRun0_A
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_s x0 x2 x3 (sl i) _ (sl_off i) _ _ _ _ _ _

theorem out13_A :
    out0_A_13 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = plane acF (sl i) x0 x2 x3 := by
  unfold out0_A_13
  refine (View.read_writes_eq_canon _ _ _ (by apply cover0_A_13)).trans ?_
  unfold kernelRun0_A
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_a x0 x2 x3 (sl i) _ (sl_off i) _ _ _ _ _ _

theorem outs_A :
    sout0_A_0 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = k0_pay1 (k0_pay39 (plane acF (sl i) x0 x2 x3) (slc (sl i) x4)) x1 := by
  unfold sout0_A_0
  refine (View.read_writes_eq_canon _ _ _ (by apply scover0_A_0)).trans ?_
  unfold kernelRun0_A
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  rw [View.canon_unit_zero hz2]
  exact congr2 (fun p v => k0_pay1 (k0_pay39 p v) x1) (read_a _ x0 x2 x3 (sl i) _ (sl_off i) _ _ _ _ _ _ _) (ld_slc x4 (sl i) _ (sl_off i) _)

theorem out7_A :
    out0_A_7 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = k0_pay14 (F := Ideal) := by
  unfold out0_A_7
  refine (View.read_writes_eq_canon _ _ _ (by apply cover0_A_7)).trans ?_
  unfold kernelRun0_A
  dsimp only
  sl_unfold_words
  rw [View.canon_unit_zero hz2]

theorem out8_A :
    out0_A_8 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = k0_pay15 (F := Ideal) := by
  unfold out0_A_8
  refine (View.read_writes_eq_canon _ _ _ (by apply cover0_A_8)).trans ?_
  unfold kernelRun0_A
  dsimp only
  sl_unfold_words
  rw [View.canon_unit_zero hz2]

end A

section B

variable (hc0 : ¬cond0_0 i) (hc1 : ¬cond0_1 i) (hc2 : cond0_2 i) (hc3 : ¬cond0_3 i) (s : Vec Ideal S512x1024 .f32)

theorem out11_B :
    out0_B_11 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 s = plane udF (sl i) x0 x2 x3 := by
  unfold out0_B_11
  refine (View.read_writes_eq_canon _ _ _ (by apply cover0_B_11)).trans ?_
  unfold kernelRun0_B
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_g x0 x2 x3 (sl i) _ (sl_off i) _ _ _ _ _ _

theorem out12_B :
    out0_B_12 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 s = plane siF (sl i) x0 x2 x3 := by
  unfold out0_B_12
  refine (View.read_writes_eq_canon _ _ _ (by apply cover0_B_12)).trans ?_
  unfold kernelRun0_B
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_s x0 x2 x3 (sl i) _ (sl_off i) _ _ _ _ _ _

theorem out13_B :
    out0_B_13 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 s = plane acF (sl i) x0 x2 x3 := by
  unfold out0_B_13
  refine (View.read_writes_eq_canon _ _ _ (by apply cover0_B_13)).trans ?_
  unfold kernelRun0_B
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_a x0 x2 x3 (sl i) _ (sl_off i) _ _ _ _ _ _

theorem outs_B :
    sout0_B_0 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 s = k0_pay2 (k0_pay39 (plane acF (sl i) x0 x2 x3) (slc (sl i) x4)) s := by
  unfold sout0_B_0
  refine (View.read_writes_eq_canon _ _ _ (by apply scover0_B_0)).trans ?_
  unfold kernelRun0_B
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  rw [View.canon_unit_zero hz2]
  exact congr2 (fun p v => k0_pay2 (k0_pay39 p v) s) (read_a _ x0 x2 x3 (sl i) _ (sl_off i) _ _ _ _ _ _ _) (ld_slc x4 (sl i) _ (sl_off i) _)

end B

section C

variable (hc0 : ¬cond0_0 i) (hc1 : ¬cond0_1 i) (hc2 : cond0_2 i) (hc3 : cond0_3 i) (o : Vec Ideal S8x128 .f32) (u : Vec Ideal S1x1024 .f32) (s : Vec Ideal S512x1024 .f32)

theorem out11_C :
    out0_C_11 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 o u s = plane udF (sl i) x0 x2 x3 := by
  unfold out0_C_11
  refine (View.read_writes_eq_canon _ _ _ (by apply cover0_C_11)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.readCov_unit_zero (S := S8x128) _ hz2, View.ld_unit_zero (S := S512x1024) hz2, View.ld_unit_zero (S := S1x1024) hz2, View.ld_unit_zero (S := S1x512x704) hz3, View.ld_unit_zero (S := S8x128) hz2]
  exact canon_g x0 x2 x3 (sl i) _ (sl_off i) _ _ _ _ _ _

theorem out12_C :
    out0_C_12 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 o u s = plane siF (sl i) x0 x2 x3 := by
  unfold out0_C_12
  refine (View.read_writes_eq_canon _ _ _ (by apply cover0_C_12)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.readCov_unit_zero (S := S8x128) _ hz2, View.ld_unit_zero (S := S512x1024) hz2, View.ld_unit_zero (S := S1x1024) hz2, View.ld_unit_zero (S := S1x512x704) hz3, View.ld_unit_zero (S := S8x128) hz2]
  exact canon_s x0 x2 x3 (sl i) _ (sl_off i) _ _ _ _ _ _

theorem out13_C :
    out0_C_13 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 o u s = plane acF (sl i) x0 x2 x3 := by
  unfold out0_C_13
  refine (View.read_writes_eq_canon _ _ _ (by apply cover0_C_13)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.readCov_unit_zero (S := S8x128) _ hz2, View.ld_unit_zero (S := S512x1024) hz2, View.ld_unit_zero (S := S1x1024) hz2, View.ld_unit_zero (S := S1x512x704) hz3, View.ld_unit_zero (S := S8x128) hz2]
  exact canon_a x0 x2 x3 (sl i) _ (sl_off i) _ _ _ _ _ _

theorem outs_C :
    sout0_C_0 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 o u s = k0_pay2 (k0_pay39 (plane acF (sl i) x0 x2 x3) (slc (sl i) x4)) s := by
  unfold sout0_C_0
  refine (View.read_writes_eq_canon _ _ _ (by apply scover0_C_0)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.readCov_unit_zero (S := S8x128) _ hz2, View.ld_unit_zero (S := S512x1024) hz2, View.ld_unit_zero (S := S1x1024) hz2, View.ld_unit_zero (S := S1x512x704) hz3, View.ld_unit_zero (S := S8x128) hz2]
  rw [View.canon_unit_zero hz2]
  exact congr2 (fun p v => k0_pay2 (k0_pay39 p v) s) (read_a _ x0 x2 x3 (sl i) _ (sl_off i) _ _ _ _ _ _ _) (ld_slc x4 (sl i) _ (sl_off i) _)

theorem out7_C :
    out0_C_7 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 o u s = k0_pay10 (k0_pay2 (k0_pay39 (plane acF (sl i) x0 x2 x3) (slc (sl i) x4)) s) x6 x5 o := by
  unfold out0_C_7
  refine (View.read_writes_eq_canon _ _ _ (by apply cover0_C_7)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.readCov_unit_zero (S := S8x128) _ hz2, View.ld_unit_zero (S := S512x1024) hz2, View.ld_unit_zero (S := S1x1024) hz2, View.ld_unit_zero (S := S1x512x704) hz3, View.ld_unit_zero (S := S8x128) hz2]
  rw [View.canon_unit_zero hz2]
  exact congr2 (fun p v => k0_pay10 (k0_pay2 (k0_pay39 p v) s) x6 x5 o) (read_a _ x0 x2 x3 (sl i) _ (sl_off i) _ _ _ _ _ _ _) (ld_slc x4 (sl i) _ (sl_off i) _)

theorem out8_C :
    out0_C_8 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 o u s = k0_pay3 (k0_pay12 u) (k0_pay13 (k0_pay2 (k0_pay39 (plane acF (sl i) x0 x2 x3) (slc (sl i) x4)) s) x6 x5) := by
  unfold out0_C_8
  refine (View.read_writes_eq_canon _ _ _ (by apply cover0_C_8)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.readCov_unit_zero (S := S8x128) _ hz2, View.ld_unit_zero (S := S512x1024) hz2, View.ld_unit_zero (S := S1x1024) hz2, View.ld_unit_zero (S := S1x512x704) hz3, View.ld_unit_zero (S := S8x128) hz2]
  rw [View.canon_unit_zero hz2]
  exact congr2 (fun p v => k0_pay3 (k0_pay12 u) (k0_pay13 (k0_pay2 (k0_pay39 p v) s) x6 x5)) (read_a _ x0 x2 x3 (sl i) _ (sl_off i) _ _ _ _ _ _ _) (ld_slc x4 (sl i) _ (sl_off i) _)

theorem out9_C :
    out0_C_9 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 o u s = k0_pay4 (k0_pay6 x6) (k0_pay7 (k0_pay2 (k0_pay39 (plane acF (sl i) x0 x2 x3) (slc (sl i) x4)) s)) (k0_pay8 (k0_pay2 (k0_pay39 (plane acF (sl i) x0 x2 x3) (slc (sl i) x4)) s)) (k0_pay11 (k0_pay2 (k0_pay39 (plane acF (sl i) x0 x2 x3) (slc (sl i) x4)) s) x6 x5) := by
  unfold out0_C_9
  refine (View.read_writes_eq_canon _ _ _ (by apply cover0_C_9)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.readCov_unit_zero (S := S8x128) _ hz2, View.ld_unit_zero (S := S512x1024) hz2, View.ld_unit_zero (S := S1x1024) hz2, View.ld_unit_zero (S := S1x512x704) hz3, View.ld_unit_zero (S := S8x128) hz2]
  rw [View.canon_unit_zero hz2]
  exact congr2 (fun p v => k0_pay4 (k0_pay6 x6) (k0_pay7 (k0_pay2 (k0_pay39 p v) s)) (k0_pay8 (k0_pay2 (k0_pay39 p v) s)) (k0_pay11 (k0_pay2 (k0_pay39 p v) s) x6 x5)) (read_a _ x0 x2 x3 (sl i) _ (sl_off i) _ _ _ _ _ _ _) (ld_slc x4 (sl i) _ (sl_off i) _)

theorem out10_C :
    out0_C_10 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 o u s = k0_pay5 (k0_pay6 x6) (k0_pay7 (k0_pay2 (k0_pay39 (plane acF (sl i) x0 x2 x3) (slc (sl i) x4)) s)) (k0_pay8 (k0_pay2 (k0_pay39 (plane acF (sl i) x0 x2 x3) (slc (sl i) x4)) s)) (k0_pay11 (k0_pay2 (k0_pay39 (plane acF (sl i) x0 x2 x3) (slc (sl i) x4)) s) x6 x5) := by
  unfold out0_C_10
  refine (View.read_writes_eq_canon _ _ _ (by apply cover0_C_10)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.readCov_unit_zero (S := S8x128) _ hz2, View.ld_unit_zero (S := S512x1024) hz2, View.ld_unit_zero (S := S1x1024) hz2, View.ld_unit_zero (S := S1x512x704) hz3, View.ld_unit_zero (S := S8x128) hz2]
  rw [View.canon_unit_zero hz2]
  exact congr2 (fun p v => k0_pay5 (k0_pay6 x6) (k0_pay7 (k0_pay2 (k0_pay39 p v) s)) (k0_pay8 (k0_pay2 (k0_pay39 p v) s)) (k0_pay11 (k0_pay2 (k0_pay39 p v) s) x6 x5)) (read_a _ x0 x2 x3 (sl i) _ (sl_off i) _ _ _ _ _ _ _) (ld_slc x4 (sl i) _ (sl_off i) _)

end C

section D

variable (hc0 : ¬cond0_0 i) (hc1 : cond0_1 i) (hc2 : ¬cond0_2 i) (hc3 : ¬cond0_3 i)

theorem out11_D :
    out0_D_11 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = plane udF (sl i) x0 x2 x3 := by
  unfold out0_D_11
  refine (View.read_writes_eq_canon _ _ _ (by apply cover0_D_11)).trans ?_
  unfold kernelRun0_D
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_g x0 x2 x3 (sl i) _ (sl_off i) _ _ _ _ _ _

theorem out12_D :
    out0_D_12 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = plane siF (sl i) x0 x2 x3 := by
  unfold out0_D_12
  refine (View.read_writes_eq_canon _ _ _ (by apply cover0_D_12)).trans ?_
  unfold kernelRun0_D
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_s x0 x2 x3 (sl i) _ (sl_off i) _ _ _ _ _ _

theorem out13_D :
    out0_D_13 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = plane acF (sl i) x0 x2 x3 := by
  unfold out0_D_13
  refine (View.read_writes_eq_canon _ _ _ (by apply cover0_D_13)).trans ?_
  unfold kernelRun0_D
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  exact canon_a x0 x2 x3 (sl i) _ (sl_off i) _ _ _ _ _ _

theorem outs_D :
    sout0_D_0 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 = k0_pay1 (k0_pay39 (plane acF (sl i) x0 x2 x3) (slc (sl i) x4)) x1 := by
  unfold sout0_D_0
  refine (View.read_writes_eq_canon _ _ _ (by apply scover0_D_0)).trans ?_
  unfold kernelRun0_D
  dsimp only
  sl_unfold_words
  simp only [View.readAt_eq_ld, h2.read_unread, h3.read_unread, h4.read_unread, h5.read_unread, h6.read_unread, h16.read_unread, View.readCov_unit_zero (S := S512x1024) _ hz2, View.ld_unit_zero (S := S512x1024) hz2, View.ld_unit_zero (S := S1x512x704) hz3]
  rw [View.canon_unit_zero hz2]
  exact congr2 (fun p v => k0_pay1 (k0_pay39 p v) x1) (read_a _ x0 x2 x3 (sl i) _ (sl_off i) _ _ _ _ _ _ _) (ld_slc x4 (sl i) _ (sl_off i) _)

end D

end Cert.MlpLossIdeal.Step
-- ==== Proof.LossHost.lean ====
/-
What the host hands to the loss kernel, and the values of the feed-forward part, entry by entry.
-/
module

public import proofs.«01_k».proof.Proof.LossStep
public import proofs.«01_k».proof.Proof.Rms

@[expose] public section

set_option maxRecDepth 16384

noncomputable section

open Idealize.ShloMosaic Idealize.ShloMosaic.TcCoe Idealize.SL.Sem
open Idealize.ShloMosaic.Pipeline (Dat Window)

namespace Cert.MlpLossIdeal.Step

open Cert.MlpLossIdeal Cert.MlpLossIdeal.Gen Cert.MlpLossIdeal.Value

section Host

variable {F : FTy → Type} [FloatOps F]

def h_v0 (Wg : Vec F S1x1024x2816 .f32) : Vec F S1024x2816 .f32 := shapeCast S1024x2816 Wg shapeCasts_S1x1024x2816_S1024x2816
def h_v1 (Wg : Vec F S1x1024x2816 .f32) : Vec F S2816x1024 .f32 := ((transpose S2816x1024 [1, 0] · transposes_S1024x2816_S2816x1024_1_0) : (⟨S1024x2816, .f32⟩ : BufTy).Contents (Elt F) → (⟨S2816x1024, .f32⟩ : BufTy).Contents (Elt F)) (h_v0 Wg)
def h_v2 (Wu : Vec F S1x1024x2816 .f32) : Vec F S1024x2816 .f32 := shapeCast S1024x2816 Wu shapeCasts_S1x1024x2816_S1024x2816
def h_v3 (Wu : Vec F S1x1024x2816 .f32) : Vec F S2816x1024 .f32 := ((transpose S2816x1024 [1, 0] · transposes_S1024x2816_S2816x1024_1_0) : (⟨S1024x2816, .f32⟩ : BufTy).Contents (Elt F) → (⟨S2816x1024, .f32⟩ : BufTy).Contents (Elt F)) (h_v2 Wu)
def h_v4 (Wd : Vec F S1x2816x1024 .f32) : Vec F S2816x1024 .f32 := shapeCast S2816x1024 Wd shapeCasts_S1x2816x1024_S2816x1024
def h_v5 (Wg : Vec F S1x1024x2816 .f32) : Vec F S2816x1024 .bf16 := ((truncf .bf16 · bitsLt_bf16_f32) : (⟨S2816x1024, .f32⟩ : BufTy).Contents (Elt F) → (⟨S2816x1024, .bf16⟩ : BufTy).Contents (Elt F)) (h_v1 Wg)
def h_v6 (Wg : Vec F S1x1024x2816 .f32) : Vec F S4x704x1024 .bf16 := shapeCast S4x704x1024 (h_v5 Wg) shapeCasts_S2816x1024_S4x704x1024
def h_v7 (Wu : Vec F S1x1024x2816 .f32) : Vec F S2816x1024 .bf16 := ((truncf .bf16 · bitsLt_bf16_f32) : (⟨S2816x1024, .f32⟩ : BufTy).Contents (Elt F) → (⟨S2816x1024, .bf16⟩ : BufTy).Contents (Elt F)) (h_v3 Wu)
def h_v8 (Wu : Vec F S1x1024x2816 .f32) : Vec F S4x704x1024 .bf16 := shapeCast S4x704x1024 (h_v7 Wu) shapeCasts_S2816x1024_S4x704x1024
def h_v9 (Wd : Vec F S1x2816x1024 .f32) : Vec F S2816x1024 .bf16 := ((truncf .bf16 · bitsLt_bf16_f32) : (⟨S2816x1024, .f32⟩ : BufTy).Contents (Elt F) → (⟨S2816x1024, .bf16⟩ : BufTy).Contents (Elt F)) (h_v4 Wd)
def h_v10 (Wd : Vec F S1x2816x1024 .f32) : Vec F S4x704x1024 .bf16 := shapeCast S4x704x1024 (h_v9 Wd) shapeCasts_S2816x1024_S4x704x1024
def h_v11 (G : Vec F S1024 .f32) : Vec F S1x1024 .f32 := shapeCast S1x1024 G shapeCasts_S1024_S1x1024

variable (m : (ℓ : Loc nD τ sig) → Buf (Elt F) ℓ) (c : Dev nD)

abbrev argH : Vec F S4096x1024 .bf16 := m ((c : Thread nD τ).loc main_arg0)
abbrev argX : Vec F S4096x1024 .f32 := m ((c : Thread nD τ).loc main_arg1)
abbrev argWg : Vec F S1x1024x2816 .f32 := m ((c : Thread nD τ).loc main_arg2)
abbrev argWu : Vec F S1x1024x2816 .f32 := m ((c : Thread nD τ).loc main_arg3)
abbrev argWd : Vec F S1x2816x1024 .f32 := m ((c : Thread nD τ).loc main_arg4)
abbrev argTg : Vec F S4096x1024 .f32 := m ((c : Thread nD τ).loc main_arg5)
abbrev argG : Vec F S1024 .f32 := m ((c : Thread nD τ).loc main_arg6)

theorem V_v6 : V m c main_v6 = h_v6 (argWg m c) := by
  show StableHlo.after hostOps0 (fun b => m (c, b)) (Proc.devRef .tc main_v6) = _
  simp only [hostOps0]
  after_results
  all_goals rfl

theorem V_v8 : V m c main_v8 = h_v8 (argWu m c) := by
  show StableHlo.after hostOps0 (fun b => m (c, b)) (Proc.devRef .tc main_v8) = _
  simp only [hostOps0]
  after_results
  all_goals rfl

theorem V_v10 : V m c main_v10 = h_v10 (argWd m c) := by
  show StableHlo.after hostOps0 (fun b => m (c, b)) (Proc.devRef .tc main_v10) = _
  simp only [hostOps0]
  after_results
  all_goals rfl

theorem V_v11 : V m c main_v11 = h_v11 (argG m c) := by
  show StableHlo.after hostOps0 (fun b => m (c, b)) (Proc.devRef .tc main_v11) = _
  simp only [hostOps0]
  after_results
  all_goals rfl

end Host

/-- A column of the feed-forward width, by its slice and its place in the slice. -/
def flat (s : Fin 4) (f : Fin 704) : Fin 2816 := ⟨s.val * 704 + f.val, by omega⟩

variable (H : Vec Ideal S4096x1024 .bf16) (X Tg : Vec Ideal S4096x1024 .f32) (G : Vec Ideal S1024 .f32) (Wg Wu : Vec Ideal S1x1024x2816 .f32) (Wd : Vec Ideal S1x2816x1024 .f32)

/-- A branch's pre-activation. -/
def pre (W : Vec Ideal S1x1024x2816 .f32) (R : Fin 4096) (l : Fin 2816) : EReal := ∑ d : Fin 1024, H (ix2 R d) * W (ix3 0 d l)

/-- One column's part of the feed-forward layer's output. -/
def term (R : Fin 4096) (d : Fin 1024) (l : Fin 2816) : EReal := acF (pre H Wg R l) (pre H Wu R l) * Wd (ix3 0 l d)

/-- The block's output with the residual. -/
def x2v (R : Fin 4096) (d : Fin 1024) : EReal := X (ix2 R d) + ∑ l : Fin 2816, term H Wg Wu Wd R d l

/-- A row's inverse root mean square. -/
def rr (R : Fin 4096) : EReal := Ideal.rsqrt (Rms.var fun k => x2v H X Wg Wu Wd R k)

/-- The difference from the target. -/
def er (R : Fin 4096) (l : Fin 1024) : EReal := x2v H X Wg Wu Wd R l * rr H X Wg Wu Wd R * G (ix1 l) - Tg (ix2 R l)

/-- A row's mean squared difference. -/
def rowLoss (R : Fin 4096) : EReal := Ideal.div (∑ l, er H X Tg G Wg Wu Wd R l * er H X Tg G Wg Wu Wd R l) (Ideal.ofBits .f32 1149239296#32)

theorem h6_at (s : Fin 4) (f : Fin 704) (d : Fin 1024) : (h_v6 Wg) (ix3 s f d) = Wg (ix3 0 d (flat s f)) := by
  pointwise [h_v0, h_v1, h_v2, h_v3, h_v4, h_v5, h_v6, h_v7, h_v8, h_v9, h_v10, h_v11]
  rfl

theorem h8_at (s : Fin 4) (f : Fin 704) (d : Fin 1024) : (h_v8 Wu) (ix3 s f d) = Wu (ix3 0 d (flat s f)) := by
  pointwise [h_v0, h_v1, h_v2, h_v3, h_v4, h_v5, h_v6, h_v7, h_v8, h_v9, h_v10, h_v11]
  rfl

theorem h10_at (s : Fin 4) (f : Fin 704) (d : Fin 1024) : (h_v10 Wd) (ix3 s f d) = Wd (ix3 0 (flat s f) d) := by
  pointwise [h_v0, h_v1, h_v2, h_v3, h_v4, h_v5, h_v6, h_v7, h_v8, h_v9, h_v10, h_v11]
  rfl

theorem h11_at (d : Fin 1024) : (h_v11 G) (ix2 0 d) = G (ix1 d) := by
  pointwise [h_v0, h_v1, h_v2, h_v3, h_v4, h_v5, h_v6, h_v7, h_v8, h_v9, h_v10, h_v11]

end Cert.MlpLossIdeal.Step
-- ==== Proof.LossKernel.lean ====
/-
The arrays the feed-forward part's loss kernel leaves, entry by entry.
-/
module

public import proofs.«01_k».proof.Proof.LossHost
public import proofs.«01_k».proof.Proof.CumsumAlgebra

@[expose] public section

set_option maxRecDepth 16384

noncomputable section

open Idealize.ShloMosaic Idealize.ShloMosaic.TcCoe Idealize.SL.Sem
open Idealize.ShloMosaic.Pipeline (Dat Window)

namespace Cert.MlpLossIdeal.Step

open Cert.MlpLossIdeal Cert.MlpLossIdeal.Gen Cert.MlpLossIdeal.Value Cert.CumsumAlgebra

theorem idx0 : ∀ t : Fin cfg0.N, win0_0.index t = ![t.val / 4, 0] := by decide +kernel
theorem idx1 : ∀ t : Fin cfg0.N, win0_1.index t = ![t.val / 4, 0] := by decide +kernel
theorem idx5 : ∀ t : Fin cfg0.N, win0_5.index t = ![t.val / 4, 0] := by decide +kernel
theorem idx9 : ∀ t : Fin cfg0.N, win0_9.index t = ![t.val / 4, 0] := by decide +kernel
theorem idx10 : ∀ t : Fin cfg0.N, win0_10.index t = ![t.val / 4, 0] := by decide +kernel
theorem idx11 : ∀ t : Fin cfg0.N, win0_11.index t = ![t.val % 4, t.val / 4, 0] := by decide +kernel
theorem idx12 : ∀ t : Fin cfg0.N, win0_12.index t = ![t.val % 4, t.val / 4, 0] := by decide +kernel
theorem idx13 : ∀ t : Fin cfg0.N, win0_13.index t = ![t.val % 4, t.val / 4, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel

/-- The row of the whole array that row `r` of point `t`'s block is. -/
def row (t : Fin cfg0.N) (r : Fin 512) : Fin 4096 := ⟨512 * (t.val / 4) + r.val, by have hN : cfg0.N = 32 := rfl; have := t.isLt; have := r.isLt; omega⟩

/-- The slice of the width that point `t` works on. -/
def s4 (t : Fin cfg0.N) : Fin 4 := ⟨t.val % 4, by omega⟩

theorem sl_coords : ∀ t : Fin cfg0.N, sl (grid0.coords t) = s4 t := by decide +kernel

section Blocks

variable {F : FTy → Type} [FloatOps F] (m : (ℓ : Loc nD τ sig) → Buf (Elt F) ℓ) (c : Dev nD)

theorem iblk0 (t : Fin cfg0.N) (r : Fin 512) (x : Fin 1024) :
    iblk m c 0 t (ix2 r x) = argH m c (ix2 (row t r) x) := by
  unfold iblk
  rw [View.read_apply]
  show V m c main_arg0 _ = _
  rw [V_main_arg0]
  congr 1
  funext a
  apply Fin.ext
  show ((win0_0.rect t).emb (ix2 r x) a : Nat) = _
  rw [Window.rect_emb_val win0_0 t _ a rfl, idx0]
  fin_cases a
  · show t.val / 4 * 512 + r.val = 512 * (t.val / 4) + r.val; omega
  · show 0 * 1024 + x.val = x.val; omega

theorem iblk1 (t : Fin cfg0.N) (r : Fin 512) (x : Fin 1024) :
    iblk m c 1 t (ix2 r x) = argX m c (ix2 (row t r) x) := by
  unfold iblk
  rw [View.read_apply]
  show V m c main_arg1 _ = _
  rw [V_main_arg1]
  congr 1
  funext a
  apply Fin.ext
  show ((win0_1.rect t).emb (ix2 r x) a : Nat) = _
  rw [Window.rect_emb_val win0_1 t _ a rfl, idx1]
  fin_cases a
  · show t.val / 4 * 512 + r.val = 512 * (t.val / 4) + r.val; omega
  · show 0 * 1024 + x.val = x.val; omega

theorem iblk5 (t : Fin cfg0.N) (r : Fin 512) (x : Fin 1024) :
    iblk m c 5 t (ix2 r x) = argTg m c (ix2 (row t r) x) := by
  unfold iblk
  rw [View.read_apply]
  show V m c main_arg5 _ = _
  rw [V_main_arg5]
  congr 1
  funext a
  apply Fin.ext
  show ((win0_5.rect t).emb (ix2 r x) a : Nat) = _
  rw [Window.rect_emb_val win0_5 t _ a rfl, idx5]
  fin_cases a
  · show t.val / 4 * 512 + r.val = 512 * (t.val / 4) + r.val; omega
  · show 0 * 1024 + x.val = x.val; omega

theorem iblk2 (t : Fin cfg0.N) (s : Fin 4) (r : Fin 704) (x : Fin 1024) :
    iblk m c 2 t (ix3 s r x) = (V m c main_v6 : Vec F S4x704x1024 .bf16) (ix3 s r x) := by
  unfold iblk
  rw [View.read_apply]
  show V m c main_v6 _ = _
  congr 1
  funext a
  apply Fin.ext
  show ((win0_2.rect t).emb (ix3 s r x) a : Nat) = _
  rw [Window.rect_emb_val win0_2 t _ a rfl, idx2]
  fin_cases a
  · show 0 * 4 + s.val = s.val; omega
  · show 0 * 704 + r.val = r.val; omega
  · show 0 * 1024 + x.val = x.val; omega

theorem iblk3 (t : Fin cfg0.N) (s : Fin 4) (r : Fin 704) (x : Fin 1024) :
    iblk m c 3 t (ix3 s r x) = (V m c main_v8 : Vec F S4x704x1024 .bf16) (ix3 s r x) := by
  unfold iblk
  rw [View.read_apply]
  show V m c main_v8 _ = _
  congr 1
  funext a
  apply Fin.ext
  show ((win0_3.rect t).emb (ix3 s r x) a : Nat) = _
  rw [Window.rect_emb_val win0_3 t _ a rfl, idx3]
  fin_cases a
  · show 0 * 4 + s.val = s.val; omega
  · show 0 * 704 + r.val = r.val; omega
  · show 0 * 1024 + x.val = x.val; omega

theorem iblk4 (t : Fin cfg0.N) (s : Fin 4) (r : Fin 704) (x : Fin 1024) :
    iblk m c 4 t (ix3 s r x) = (V m c main_v10 : Vec F S4x704x1024 .bf16) (ix3 s r x) := by
  unfold iblk
  rw [View.read_apply]
  show V m c main_v10 _ = _
  congr 1
  funext a
  apply Fin.ext
  show ((win0_4.rect t).emb (ix3 s r x) a : Nat) = _
  rw [Window.rect_emb_val win0_4 t _ a rfl, idx4]
  fin_cases a
  · show 0 * 4 + s.val = s.val; omega
  · show 0 * 704 + r.val = r.val; omega
  · show 0 * 1024 + x.val = x.val; omega

theorem iblk6 (t : Fin cfg0.N) (x : Fin 1024) :
    iblk m c 6 t (ix2 (0 : Fin 1) x) = (V m c main_v11 : Vec F S1x1024 .f32) (ix2 (0 : Fin 1) x) := by
  unfold iblk
  rw [View.read_apply]
  show V m c main_v11 _ = _
  congr 1
  funext a
  apply Fin.ext
  show ((win0_6.rect t).emb (ix2 (0 : Fin 1) x) a : Nat) = _
  rw [Window.rect_emb_val win0_6 t _ a rfl, idx6]
  fin_cases a
  · rfl
  · show 0 * 1024 + x.val = x.val; omega

end Blocks

variable (m : (ℓ : Loc nD τ sig) → Buf (Elt Ideal) ℓ) (c : Dev nD)

abbrev gt (R : Fin 4096) (l : Fin 2816) : EReal := pre (argH m c) (argWg m c) R l
abbrev up (R : Fin 4096) (l : Fin 2816) : EReal := pre (argH m c) (argWu m c) R l
abbrev tm (R : Fin 4096) (d : Fin 1024) (l : Fin 2816) : EReal := term (argH m c) (argWg m c) (argWu m c) (argWd m c) R d l
abbrev xv (R : Fin 4096) (d : Fin 1024) : EReal := x2v (argH m c) (argX m c) (argWg m c) (argWu m c) (argWd m c) R d
abbrev rv (R : Fin 4096) : EReal := rr (argH m c) (argX m c) (argWg m c) (argWu m c) (argWd m c) R
abbrev ev (R : Fin 4096) (l : Fin 1024) : EReal := er (argH m c) (argX m c) (argTg m c) (argG m c) (argWg m c) (argWu m c) (argWd m c) R l

theorem gt_blk (t : Fin cfg0.N) (r : Fin 512) (f : Fin 704) : mB (s4 t) (iblk m c 0 t) (iblk m c 2 t) r f = gt m c (row t r) (flat (s4 t) f) :=
  Finset.sum_congr rfl fun d _ => congrArg₂ (· * ·) (iblk0 m c t r d) ((iblk2 m c t (s4 t) f d).trans ((congrFun (V_v6 m c) _).trans (h6_at _ _ f d)))

theorem up_blk (t : Fin cfg0.N) (r : Fin 512) (f : Fin 704) : mB (s4 t) (iblk m c 0 t) (iblk m c 3 t) r f = up m c (row t r) (flat (s4 t) f) :=
  Finset.sum_congr rfl fun d _ => congrArg₂ (· * ·) (iblk0 m c t r d) ((iblk3 m c t (s4 t) f d).trans ((congrFun (V_v8 m c) _).trans (h8_at _ _ f d)))

theorem plane_at (F : EReal → EReal → EReal) (s : Fin 4) (x : Vec Ideal S512x1024 .bf16) (w v : Vec Ideal S4x704x1024 .bf16) (r : Fin 512) (f : Fin 704) :
    plane F s x w v (ix3 0 r f) = F (mB s x w r f) (mB s x v r f) := rfl

theorem slc_at (s : Fin 4) (x : Vec Ideal S4x704x1024 .bf16) (f : Fin 704) (d : Fin 1024) : slc s x (ix3 0 f d) = x (ix3 s f d) := rfl

theorem plane_blk (F : EReal → EReal → EReal) (t : Fin cfg0.N) (r : Fin 512) (f : Fin 704) :
    plane F (sl (grid0.coords t)) (iblk m c 0 t) (iblk m c 2 t) (iblk m c 3 t) (ix3 0 r f) = F (gt m c (row t r) (flat (s4 t) f)) (up m c (row t r) (flat (s4 t) f)) := by
  refine (plane_at F _ _ _ _ r f).trans ?_
  rw [sl_coords, gt_blk, up_blk]

theorem pay39_at (a : Vec Ideal S1x512x704 .bf16) (w : Vec Ideal S1x704x1024 .bf16) (r : Fin 512) (d : Fin 1024) :
    k0_pay39 a w (ix2 r d) = ∑ f : Fin 704, a (ix3 0 r f) * w (ix3 0 f d) := by
  pointwise [k0_pay39]

/-- What point `t` adds to the block's sum over the width. -/
abbrev part (t : Fin cfg0.N) : Vec Ideal S512x1024 .f32 :=
  k0_pay39 (plane acF (sl (grid0.coords t)) (iblk m c 0 t) (iblk m c 2 t) (iblk m c 3 t)) (slc (sl (grid0.coords t)) (iblk m c 4 t))

theorem part_at (t : Fin cfg0.N) (r : Fin 512) (d : Fin 1024) :
    part m c t (ix2 r d) = ∑ f : Fin 704, tm m c (row t r) d (flat (s4 t) f) := by
  refine (pay39_at _ _ r d).trans ?_
  refine Finset.sum_congr rfl fun f _ => congrArg₂ (· * ·) (plane_blk m c acF t r f) ((slc_at _ _ f d).trans ?_)
  rw [sl_coords, iblk4, V_v10, h10_at]

theorem pay1_at (a : Vec Ideal S512x1024 .f32) (b : Vec Ideal S512x1024 .f32) (r : Fin 512) (d : Fin 1024) :
    k0_pay1 a b (ix2 r d) = b (ix2 r d) + a (ix2 r d) := by
  pointwise [k0_pay1]

theorem pay2_at (a : Vec Ideal S512x1024 .f32) (b : Vec Ideal S512x1024 .f32) (r : Fin 512) (d : Fin 1024) :
    k0_pay2 a b (ix2 r d) = b (ix2 r d) + a (ix2 r d) := by
  pointwise [k0_pay2]

/-- The block's running sum after one more slice. -/
theorem acc_step (t : Fin cfg0.N) (r : Fin 512) (d : Fin 1024) (o : EReal)
    (ho : o = argX m c (ix2 (row t r) d) + ∑ k ∈ Finset.range (704 * (t.val % 4)), ext (tm m c (row t r) d) k) :
    o + part m c t (ix2 r d) = argX m c (ix2 (row t r) d) + ∑ k ∈ Finset.range (704 * (t.val % 4 + 1)), ext (tm m c (row t r) d) k := by
  rw [part_at, ho, show 704 * (t.val % 4 + 1) = 704 * (t.val % 4) + 704 by omega, Finset.sum_range_add,
    ← Fin.sum_univ_eq_sum_range (fun x => ext (tm m c (row t r) d) (704 * (t.val % 4) + x)), add_assoc]
  congr 2
  refine Finset.sum_congr rfl fun f _ => ?_
  rw [← ext_lt (tm m c (row t r) d) (flat (s4 t) f)]
  congr 1
  show t.val % 4 * 704 + f.val = 704 * (t.val % 4) + f.val
  omega

theorem acc_full (R : Fin 4096) (d : Fin 1024) : argX m c (ix2 R d) + ∑ k ∈ Finset.range (704 * (3 + 1)), ext (tm m c R d) k = xv m c R d := by
  rw [show 704 * (3 + 1) = 2816 from rfl, ← Fin.sum_univ_eq_sum_range]
  exact congrArg (argX m c (ix2 R d) + ·) (Finset.sum_congr rfl fun l _ => ext_lt (tm m c R d) l)

theorem first_acc (t : Fin cfg0.N) (h : t.val % 4 = 0) (r : Fin 512) (d : Fin 1024) :
    k0_pay1 (part m c t) (iblk m c 1 t) (ix2 r d) = argX m c (ix2 (row t r) d) + ∑ k ∈ Finset.range (704 * (t.val % 4 + 1)), ext (tm m c (row t r) d) k :=
  (pay1_at _ _ r d).trans (acc_step m c t r d _ ((iblk1 m c t r d).trans (by rw [h]; exact (add_zero (argX m c (ix2 (row t r) d) : EReal)).symm)))

theorem ofBits_half : (Ideal.ofBits .f32 1056964608#32 : EReal) = ((1 / 2 : ℝ) : EReal) := by
  simp [Ideal.ofBits, Ideal.ieee]
  rw [← EReal.coe_mul]; norm_num

theorem half_add (a b : EReal) : Ideal.ofBits .f32 1056964608#32 * (a + b) = Ideal.ofBits .f32 1056964608#32 * a + Ideal.ofBits .f32 1056964608#32 * b := by
  rw [ofBits_half]
  exact EReal.left_distrib_of_nonneg_of_ne_top (by exact_mod_cast (by norm_num : (0 : ℝ) ≤ 1 / 2)) (EReal.coe_ne_top _) _ _

section Last

variable (t : Fin cfg0.N) (acc : Vec Ideal S512x1024 .f32) (hacc : ∀ r d, acc (ix2 r d) = xv m c (row t r) d)

include hacc

theorem rr_blk (r : Fin 512) : k0_pay7 acc (ix2 r 0) = rv m c (row t r) := by
  pointwise [k0_pay7]
  simp only [hacc]
  rfl

theorem xh_blk (r : Fin 512) (l : Fin 1024) : k0_pay8 acc (ix2 r l) = xv m c (row t r) l * rv m c (row t r) := by
  pointwise [k0_pay8]
  rw [rr_blk m c t acc hacc, hacc]

omit hacc in
theorem pay9_at (g : Vec Ideal S1x1024 .f32) (y : Vec Ideal S512x1024 .f32) (r : Fin 512) (l : Fin 1024) :
    k0_pay9 acc g y (ix2 r l) = k0_pay8 acc (ix2 r l) * g (ix2 0 l) - y (ix2 r l) := by
  pointwise [k0_pay9, k0_pay6]

theorem er_blk (r : Fin 512) (l : Fin 1024) : k0_pay9 acc (iblk m c 6 t) (iblk m c 5 t) (ix2 r l) = ev m c (row t r) l := by
  refine (pay9_at acc _ _ r l).trans ?_
  rw [xh_blk m c t acc hacc, iblk6, iblk5, V_v11, h11_at]
  rfl

/-- The difference scaled by the mean's derivative. -/
def dyK (R : Fin 4096) (l : Fin 1024) : EReal := ev m c R l * Ideal.ofBits .f32 981467136#32

theorem dy_blk (r : Fin 512) (l : Fin 1024) : k0_pay11 acc (iblk m c 6 t) (iblk m c 5 t) (ix2 r l) = dyK m c (row t r) l := by
  pointwise [k0_pay11]
  rw [er_blk m c t acc hacc]
  rfl

/-- The gradient that starts from the loss, as the kernel writes it. -/
def dxK (R : Fin 4096) (l : Fin 1024) : EReal :=
  rv m c R * (dyK m c R l * argG m c (ix1 l) - xv m c R l * rv m c R
    * Ideal.div (∑ k, dyK m c R k * argG m c (ix1 k) * (xv m c R k * rv m c R)) (Ideal.ofBits .f32 1149239296#32))

omit hacc in
theorem pay4_at (g : Vec Ideal S1x1024 .f32) (r1 : Vec Ideal S512x1 .f32) (h y : Vec Ideal S512x1024 .f32) (r : Fin 512) (l : Fin 1024) :
    k0_pay4 (F := Ideal) g r1 h y (ix2 r l) = r1 (ix2 r 0) * (y (ix2 r l) * g (ix2 0 l) - h (ix2 r l)
      * Ideal.div (∑ k, y (ix2 r k) * g (ix2 0 k) * h (ix2 r k)) (Ideal.ofBits .f32 1149239296#32)) := by
  pointwise [k0_pay4]

theorem g_blk (l : Fin 1024) : k0_pay6 (iblk m c 6 t) (ix2 0 l) = argG m c (ix1 l) := by
  pointwise [k0_pay6]
  rw [iblk6, V_v11, h11_at]

theorem dx_blk (r : Fin 512) (l : Fin 1024) :
    k0_pay4 (k0_pay6 (iblk m c 6 t)) (k0_pay7 acc) (k0_pay8 acc) (k0_pay11 acc (iblk m c 6 t) (iblk m c 5 t)) (ix2 r l) = dxK m c (row t r) l := by
  refine (pay4_at _ _ _ _ r l).trans ?_
  simp only [rr_blk m c t acc hacc, xh_blk m c t acc hacc, dy_blk m c t acc hacc, g_blk m c t acc hacc]
  rfl

theorem dxb_blk (r : Fin 512) (l : Fin 1024) :
    k0_pay5 (k0_pay6 (iblk m c 6 t)) (k0_pay7 acc) (k0_pay8 acc) (k0_pay11 acc (iblk m c 6 t) (iblk m c 5 t)) (ix2 r l) = dxK m c (row t r) l :=
  dx_blk m c t acc hacc r l

/-- A row's part of the last norm's weight gradient. -/
def dnK (l : Fin 1024) (R : Fin 4096) : EReal := dyK m c R l * (xv m c R l * rv m c R)

omit hacc in
theorem pay3_at (u : Vec Ideal S1x1024 .f32) (g : Vec Ideal S1x1024 .f32) (y : Vec Ideal S512x1024 .f32) (l : Fin 1024) :
    k0_pay3 (k0_pay12 u) (k0_pay13 acc g y) (ix2 0 l) = u (ix2 0 l) + ∑ r, k0_pay11 acc g y (ix2 r l) * k0_pay8 acc (ix2 r l) := by
  pointwise [k0_pay3, k0_pay12, k0_pay13]

theorem dn_blk (o : Vec Ideal S1x1024 .f32) (l : Fin 1024)
    (ho : o (ix2 0 l) = ∑ k ∈ Finset.range (512 * (t.val / 4)), ext (dnK m c l) k) :
    k0_pay3 (k0_pay12 o) (k0_pay13 acc (iblk m c 6 t) (iblk m c 5 t)) (ix2 0 l) = ∑ k ∈ Finset.range (512 * (t.val / 4 + 1)), ext (dnK m c l) k := by
  refine (pay3_at acc o _ _ l).trans ?_
  rw [ho, show 512 * (t.val / 4 + 1) = 512 * (t.val / 4) + 512 by omega, Finset.sum_range_add, ← Fin.sum_univ_eq_sum_range (fun x => ext (dnK m c l) (512 * (t.val / 4) + x))]
  congr 1
  refine Finset.sum_congr rfl fun x _ => Eq.trans ?_ (ext_lt (dnK m c l) (row t x)).symm
  rw [dy_blk m c t acc hacc, xh_blk m c t acc hacc]
  rfl

/-- A row's part of the loss. -/
def lsK (R : Fin 4096) : EReal := rowLoss (argH m c) (argX m c) (argTg m c) (argG m c) (argWg m c) (argWu m c) (argWd m c) R

omit hacc in
theorem pay10_at (g : Vec Ideal S1x1024 .f32) (y : Vec Ideal S512x1024 .f32) (o : Vec Ideal S8x128 .f32) (a : Fin 8) (b : Fin 128) :
    k0_pay10 acc g y o (ix2 a b) = o (ix2 a b) + Ideal.ofBits .f32 1056964608#32
      * ∑ r : Fin 512, Ideal.div (∑ l, k0_pay9 acc g y (ix2 r l) * k0_pay9 acc g y (ix2 r l)) (Ideal.ofBits .f32 1149239296#32) := by
  pointwise [k0_pay10]
  simp only [Finset.univ_unique, Finset.sum_singleton]

theorem ls_blk (o : Vec Ideal S8x128 .f32) (a : Fin 8) (b : Fin 128)
    (ho : o (ix2 a b) = Ideal.ofBits .f32 1056964608#32 * ∑ k ∈ Finset.range (512 * (t.val / 4)), ext (lsK m c) k) :
    k0_pay10 acc (iblk m c 6 t) (iblk m c 5 t) o (ix2 a b) = Ideal.ofBits .f32 1056964608#32 * ∑ k ∈ Finset.range (512 * (t.val / 4 + 1)), ext (lsK m c) k := by
  refine (pay10_at acc _ _ o a b).trans ?_
  rw [ho, show 512 * (t.val / 4 + 1) = 512 * (t.val / 4) + 512 by omega, Finset.sum_range_add, ← Fin.sum_univ_eq_sum_range (fun x => ext (lsK m c) (512 * (t.val / 4) + x)),
    half_add]
  congr 2
  refine Finset.sum_congr rfl fun x _ => Eq.trans ?_ (ext_lt (lsK m c) (row t x)).symm
  simp only [er_blk m c t acc hacc]
  rfl

end Last

/-- What the outputs and the scratch hold after point `t`. -/
def Inv (t : Fin cfg0.N) (o : Vec Ideal S8x128 .f32 × Vec Ideal S1x1024 .f32 × Vec Ideal S512x1024 .f32 × Vec Ideal S512x1024 .bf16
    × Vec Ideal S1x512x704 .bf16 × Vec Ideal S1x512x704 .bf16 × Vec Ideal S1x512x704 .bf16 × Vec Ideal S512x1024 .f32) : Prop :=
  (∀ a b, o.1 (ix2 a b) = Ideal.ofBits .f32 1056964608#32 * ∑ k ∈ Finset.range (512 * ((t.val + 1) / 4)), ext (lsK m c) k)
  ∧ (∀ d, o.2.1 (ix2 0 d) = ∑ k ∈ Finset.range (512 * ((t.val + 1) / 4)), ext (dnK m c d) k)
  ∧ (t.val % 4 = 3 → ∀ r d, o.2.2.1 (ix2 r d) = dxK m c (row t r) d ∧ o.2.2.2.1 (ix2 r d) = dxK m c (row t r) d)
  ∧ (∀ r f, o.2.2.2.2.1 (ix3 0 r f) = udF (gt m c (row t r) (flat (s4 t) f)) (up m c (row t r) (flat (s4 t) f)))
  ∧ (∀ r f, o.2.2.2.2.2.1 (ix3 0 r f) = siF (gt m c (row t r) (flat (s4 t) f)) (up m c (row t r) (flat (s4 t) f)))
  ∧ (∀ r f, o.2.2.2.2.2.2.1 (ix3 0 r f) = acF (gt m c (row t r) (flat (s4 t) f)) (up m c (row t r) (flat (s4 t) f)))
  ∧ ∀ r d, o.2.2.2.2.2.2.2 (ix2 r d) = argX m c (ix2 (row t r) d) + ∑ k ∈ Finset.range (704 * (t.val % 4 + 1)), ext (tm m c (row t r) d) k

theorem zero15 (l : Fin 1024) : k0_pay15 (F := Ideal) (ix2 0 l) = 0 := by
  pointwise [k0_pay15]

theorem zero14 (a : Fin 8) (b : Fin 128) : k0_pay14 (F := Ideal) (ix2 a b) = 0 := by
  pointwise [k0_pay14]

theorem row_pred (t t' : Fin cfg0.N) (h : t.val / 4 = t'.val / 4) (r : Fin 512) : row t r = row t' r :=
  Fin.ext (by show 512 * (t.val / 4) + r.val = 512 * (t'.val / 4) + r.val; rw [h])

theorem inv_all : ∀ (n : ℕ) (hn : n < cfg0.N), Inv m c ⟨n, hn⟩ (outsAt0 m c n hn)
  | 0, hn => by
    have h := outsAt0_A m c ⟨0, hn⟩ (Nat.zero_mod _) (Nat.zero_mod _) (by show ¬1 ≤ 0 % 4; omega) (by show ¬0 % 4 = 3; omega)
    dsimp only at h
    rw [h, out7_A, out8_A, out11_A, out12_A, out13_A, outs_A]
    refine ⟨fun a b => ?_, fun d => ?_, fun h => absurd h (by show ¬0 % 4 = 3; omega), plane_blk m c udF ⟨0, hn⟩, plane_blk m c siF ⟨0, hn⟩, plane_blk m c acF ⟨0, hn⟩, first_acc m c ⟨0, hn⟩ rfl⟩
    · exact (zero14 a b).trans (by show (0 : EReal) = _ * ∑ k ∈ Finset.range (512 * ((0 + 1) / 4)), _; exact (mul_zero _).symm)
    · exact (zero15 d).trans (by show (0 : EReal) = ∑ k ∈ Finset.range (512 * ((0 + 1) / 4)), _; rfl)
  | n + 1, hn => by
    have hN : cfg0.N = 32 := rfl
    obtain ⟨ihl, ihd, -, -, -, -, ihs⟩ := inv_all n (by omega)
    have idle : ¬(n + 1) % 4 = 3 → (∀ a b, (outsAt0 m c n (by omega)).1 (ix2 a b) = Ideal.ofBits .f32 1056964608#32 * ∑ k ∈ Finset.range (512 * ((n + 1 + 1) / 4)), ext (lsK m c) k)
        ∧ ∀ d, (outsAt0 m c n (by omega)).2.1 (ix2 0 d) = ∑ k ∈ Finset.range (512 * ((n + 1 + 1) / 4)), ext (dnK m c d) k := by
      intro h3
      rw [show (n + 1 + 1) / 4 = (n + 1) / 4 by omega]
      exact ⟨ihl, ihd⟩
    by_cases h1 : (n + 1) % 4 = 0
    · have h := outsAt0_D m c ⟨n + 1, hn⟩ (by show ¬(n + 1) % 32 = 0; omega) h1 (by show ¬1 ≤ (n + 1) % 4; omega) (by show ¬(n + 1) % 4 = 3; omega)
      dsimp only at h
      rw [h, out11_D, out12_D, out13_D, outs_D]
      have hi := idle (by omega)
      exact ⟨hi.1, hi.2, fun h => absurd h (by show ¬(n + 1) % 4 = 3; omega), plane_blk m c udF ⟨n + 1, hn⟩, plane_blk m c siF ⟨n + 1, hn⟩, plane_blk m c acF ⟨n + 1, hn⟩, first_acc m c ⟨n + 1, hn⟩ h1⟩
    · have hacc : ∀ (o : Vec Ideal S512x1024 .f32), (∀ r d, o (ix2 r d) = argX m c (ix2 (row ⟨n, by omega⟩ r) d) + ∑ k ∈ Finset.range (704 * (n % 4 + 1)), ext (tm m c (row ⟨n, by omega⟩ r) d) k) → ∀ r d,
          k0_pay2 (part m c ⟨n + 1, hn⟩) o (ix2 r d) = argX m c (ix2 (row ⟨n + 1, hn⟩ r) d) + ∑ k ∈ Finset.range (704 * ((n + 1) % 4 + 1)), ext (tm m c (row ⟨n + 1, hn⟩ r) d) k := by
        intro o ho r d
        refine (pay2_at _ _ r d).trans (acc_step m c ⟨n + 1, hn⟩ r d _ ((ho r d).trans ?_))
        show _ = _ + ∑ k ∈ Finset.range (704 * ((n + 1) % 4)), _
        rw [show (n + 1) % 4 = n % 4 + 1 by omega, row_pred ⟨n, by omega⟩ ⟨n + 1, hn⟩ (by show n / 4 = (n + 1) / 4; omega)]
      by_cases h3 : (n + 1) % 4 = 3
      · have h := outsAt0_C m c ⟨n + 1, hn⟩ (by show ¬(n + 1) % 32 = 0; omega) h1 (by show 1 ≤ (n + 1) % 4; omega) h3
        dsimp only at h
        rw [h, out7_C, out8_C, out9_C, out10_C, out11_C, out12_C, out13_C, outs_C]
        have hs := hacc _ ihs
        have hf : ∀ r d, _ = xv m c (row ⟨n + 1, hn⟩ r) d := fun r d => (hs r d).trans (by rw [h3]; exact acc_full m c _ d)
        refine ⟨fun a b => ?_, fun d => ?_, fun _ r d => ⟨dx_blk m c ⟨n + 1, hn⟩ _ hf r d, dxb_blk m c ⟨n + 1, hn⟩ _ hf r d⟩, plane_blk m c udF ⟨n + 1, hn⟩, plane_blk m c siF ⟨n + 1, hn⟩, plane_blk m c acF ⟨n + 1, hn⟩, hs⟩
        · refine (ls_blk m c ⟨n + 1, hn⟩ _ hf _ a b (ihl a b)).trans ?_
          show _ * ∑ k ∈ Finset.range (512 * ((n + 1) / 4 + 1)), _ = _ * ∑ k ∈ Finset.range (512 * ((n + 1 + 1) / 4)), _
          rw [show (n + 1 + 1) / 4 = (n + 1) / 4 + 1 by omega]
        · refine (dn_blk m c ⟨n + 1, hn⟩ _ hf _ d (ihd d)).trans ?_
          show ∑ k ∈ Finset.range (512 * ((n + 1) / 4 + 1)), _ = ∑ k ∈ Finset.range (512 * ((n + 1 + 1) / 4)), _
          rw [show (n + 1 + 1) / 4 = (n + 1) / 4 + 1 by omega]
      · have h := outsAt0_B m c ⟨n + 1, hn⟩ (by show ¬(n + 1) % 32 = 0; omega) h1 (by show 1 ≤ (n + 1) % 4; omega) h3
        dsimp only at h
        rw [h, out11_B, out12_B, out13_B, outs_B]
        have hi := idle h3
        exact ⟨hi.1, hi.2, fun h => absurd h h3, plane_blk m c udF ⟨n + 1, hn⟩, plane_blk m c siF ⟨n + 1, hn⟩, plane_blk m c acF ⟨n + 1, hn⟩, hacc _ ihs⟩

/-- The point at which slice `s` of row `R` is worked on. -/
def pt (s : Fin 4) (R : Fin 4096) : Fin cfg0.N := ⟨4 * (R.val / 512) + s.val, by have hN : cfg0.N = 32 := rfl; omega⟩

theorem row_pt (s : Fin 4) (R : Fin 4096) : row (pt s R) ⟨R.val % 512, Nat.mod_lt _ (by decide)⟩ = R :=
  Fin.ext (by show 512 * ((4 * (R.val / 512) + s.val) / 4) + R.val % 512 = R.val; omega)

theorem s4_pt (s : Fin 4) (R : Fin 4096) : s4 (pt s R) = s := Fin.ext (by show (4 * (R.val / 512) + s.val) % 4 = s.val; omega)

theorem ud_final (s : Fin 4) (R : Fin 4096) (f : Fin 704) :
    ((dats m 0 c).arrAt 11 cfg0.N : Vec Ideal S4x4096x704 .bf16) (ix3 s R f) = udF (gt m c R (flat s f)) (up m c R (flat s f)) := by
  have hs := s.isLt
  have hR := R.isLt
  have hemb : ((cfg0.win 11).blk (pt s R)).view.emb (ix3 (0 : Fin 1) (⟨R.val % 512, Nat.mod_lt _ (by decide)⟩ : Fin 512) f) = ix3 s R f := by
    funext a
    apply Fin.ext
    show ((win0_11.rect (pt s R)).emb (ix3 (0 : Fin 1) (⟨R.val % 512, Nat.mod_lt _ (by decide)⟩ : Fin 512) f) a : Nat) = _
    rw [Window.rect_emb_val win0_11 (pt s R) _ a rfl, idx11]
    fin_cases a
    · show (4 * (R.val / 512) + s.val) % 4 * 1 + 0 = s.val; omega
    · show (4 * (R.val / 512) + s.val) / 4 * 512 + R.val % 512 = R.val; omega
    · show 0 * 704 + f.val = f.val; omega
  have h := (dats m 0 c).arrAt_emb_eq_flushed 11 disjoint11 (pt s R) (flush0_11 (pt s R)) (ix3 (0 : Fin 1) (⟨R.val % 512, Nat.mod_lt _ (by decide)⟩ : Fin 512) f)
  rw [hemb] at h
  refine h.trans ?_
  rw [flushed11]
  obtain ⟨-, -, -, iu, is, ia, -⟩ := inv_all m c (pt s R).val (pt s R).isLt
  refine (iu _ f).trans ?_
  rw [row_pt, s4_pt]

theorem si_final (s : Fin 4) (R : Fin 4096) (f : Fin 704) :
    ((dats m 0 c).arrAt 12 cfg0.N : Vec Ideal S4x4096x704 .bf16) (ix3 s R f) = siF (gt m c R (flat s f)) (up m c R (flat s f)) := by
  have hs := s.isLt
  have hR := R.isLt
  have hemb : ((cfg0.win 12).blk (pt s R)).view.emb (ix3 (0 : Fin 1) (⟨R.val % 512, Nat.mod_lt _ (by decide)⟩ : Fin 512) f) = ix3 s R f := by
    funext a
    apply Fin.ext
    show ((win0_12.rect (pt s R)).emb (ix3 (0 : Fin 1) (⟨R.val % 512, Nat.mod_lt _ (by decide)⟩ : Fin 512) f) a : Nat) = _
    rw [Window.rect_emb_val win0_12 (pt s R) _ a rfl, idx12]
    fin_cases a
    · show (4 * (R.val / 512) + s.val) % 4 * 1 + 0 = s.val; omega
    · show (4 * (R.val / 512) + s.val) / 4 * 512 + R.val % 512 = R.val; omega
    · show 0 * 704 + f.val = f.val; omega
  have h := (dats m 0 c).arrAt_emb_eq_flushed 12 disjoint12 (pt s R) (flush0_12 (pt s R)) (ix3 (0 : Fin 1) (⟨R.val % 512, Nat.mod_lt _ (by decide)⟩ : Fin 512) f)
  rw [hemb] at h
  refine h.trans ?_
  rw [flushed12]
  obtain ⟨-, -, -, iu, is, ia, -⟩ := inv_all m c (pt s R).val (pt s R).isLt
  refine (is _ f).trans ?_
  rw [row_pt, s4_pt]

theorem ac_final (s : Fin 4) (R : Fin 4096) (f : Fin 704) :
    ((dats m 0 c).arrAt 13 cfg0.N : Vec Ideal S4x4096x704 .bf16) (ix3 s R f) = acF (gt m c R (flat s f)) (up m c R (flat s f)) := by
  have hs := s.isLt
  have hR := R.isLt
  have hemb : ((cfg0.win 13).blk (pt s R)).view.emb (ix3 (0 : Fin 1) (⟨R.val % 512, Nat.mod_lt _ (by decide)⟩ : Fin 512) f) = ix3 s R f := by
    funext a
    apply Fin.ext
    show ((win0_13.rect (pt s R)).emb (ix3 (0 : Fin 1) (⟨R.val % 512, Nat.mod_lt _ (by decide)⟩ : Fin 512) f) a : Nat) = _
    rw [Window.rect_emb_val win0_13 (pt s R) _ a rfl, idx13]
    fin_cases a
    · show (4 * (R.val / 512) + s.val) % 4 * 1 + 0 = s.val; omega
    · show (4 * (R.val / 512) + s.val) / 4 * 512 + R.val % 512 = R.val; omega
    · show 0 * 704 + f.val = f.val; omega
  have h := (dats m 0 c).arrAt_emb_eq_flushed 13 disjoint13 (pt s R) (flush0_13 (pt s R)) (ix3 (0 : Fin 1) (⟨R.val % 512, Nat.mod_lt _ (by decide)⟩ : Fin 512) f)
  rw [hemb] at h
  refine h.trans ?_
  rw [flushed13]
  obtain ⟨-, -, -, iu, is, ia, -⟩ := inv_all m c (pt s R).val (pt s R).isLt
  refine (ia _ f).trans ?_
  rw [row_pt, s4_pt]

theorem dx9_final (R : Fin 4096) (l : Fin 1024) :
    ((dats m 0 c).arrAt 9 cfg0.N : Vec Ideal S4096x1024 .f32) (ix2 R l) = dxK m c R l := by
  have hR := R.isLt
  have hm : (pt 3 R).val % 4 = 3 := by show (4 * (R.val / 512) + 3) % 4 = 3; omega
  have hemb : ((cfg0.win 9).blk (pt 3 R)).view.emb (ix2 (⟨R.val % 512, Nat.mod_lt _ (by decide)⟩ : Fin 512) l) = ix2 R l := by
    funext a
    apply Fin.ext
    show ((win0_9.rect (pt 3 R)).emb (ix2 (⟨R.val % 512, Nat.mod_lt _ (by decide)⟩ : Fin 512) l) a : Nat) = _
    rw [Window.rect_emb_val win0_9 (pt 3 R) _ a rfl, idx9]
    fin_cases a
    · show (4 * (R.val / 512) + 3) / 4 * 512 + R.val % 512 = R.val; omega
    · show 0 * 1024 + l.val = l.val; omega
  have hdisj : ∀ t t' : Fin cfg0.N, (cfg0.win 9).flush t = true → (cfg0.win 9).flush t' = true → t ≠ t' →
      Disjoint ((cfg0.win 9).blk t).view.set ((cfg0.win 9).blk t').view.set := by
    intro t t' h h' hne
    have a := (flush0_9 t).mp h
    have b := (flush0_9 t').mp h'
    refine (cfg0.win 9).disjoint_blk fun e => hne (Fin.ext ?_)
    have e0 : win0_9.index t 0 = win0_9.index t' 0 := congrFun e 0
    rw [idx9, idx9] at e0
    have e1 : t.val / 4 = t'.val / 4 := e0
    omega
  have h := (dats m 0 c).arrAt_emb_eq_flushed 9 hdisj (pt 3 R) ((flush0_9 (pt 3 R)).mpr hm) (ix2 (⟨R.val % 512, Nat.mod_lt _ (by decide)⟩ : Fin 512) l)
  rw [hemb] at h
  refine h.trans ?_
  rw [flushed9]
  refine ((inv_all m c (pt 3 R).val (pt 3 R).isLt).2.2.1 hm _ l).1.trans ?_
  rw [row_pt]

theorem dx10_final (R : Fin 4096) (l : Fin 1024) :
    ((dats m 0 c).arrAt 10 cfg0.N : Vec Ideal S4096x1024 .bf16) (ix2 R l) = dxK m c R l := by
  have hR := R.isLt
  have hm : (pt 3 R).val % 4 = 3 := by show (4 * (R.val / 512) + 3) % 4 = 3; omega
  have hemb : ((cfg0.win 10).blk (pt 3 R)).view.emb (ix2 (⟨R.val % 512, Nat.mod_lt _ (by decide)⟩ : Fin 512) l) = ix2 R l := by
    funext a
    apply Fin.ext
    show ((win0_10.rect (pt 3 R)).emb (ix2 (⟨R.val % 512, Nat.mod_lt _ (by decide)⟩ : Fin 512) l) a : Nat) = _
    rw [Window.rect_emb_val win0_10 (pt 3 R) _ a rfl, idx10]
    fin_cases a
    · show (4 * (R.val / 512) + 3) / 4 * 512 + R.val % 512 = R.val; omega
    · show 0 * 1024 + l.val = l.val; omega
  have hdisj : ∀ t t' : Fin cfg0.N, (cfg0.win 10).flush t = true → (cfg0.win 10).flush t' = true → t ≠ t' →
      Disjoint ((cfg0.win 10).blk t).view.set ((cfg0.win 10).blk t').view.set := by
    intro t t' h h' hne
    have a := (flush0_10 t).mp h
    have b := (flush0_10 t').mp h'
    refine (cfg0.win 10).disjoint_blk fun e => hne (Fin.ext ?_)
    have e0 : win0_10.index t 0 = win0_10.index t' 0 := congrFun e 0
    rw [idx10, idx10] at e0
    have e1 : t.val / 4 = t'.val / 4 := e0
    omega
  have h := (dats m 0 c).arrAt_emb_eq_flushed 10 hdisj (pt 3 R) ((flush0_10 (pt 3 R)).mpr hm) (ix2 (⟨R.val % 512, Nat.mod_lt _ (by decide)⟩ : Fin 512) l)
  rw [hemb] at h
  refine h.trans ?_
  rw [flushed10]
  refine ((inv_all m c (pt 3 R).val (pt 3 R).isLt).2.2.1 hm _ l).2.trans ?_
  rw [row_pt]

theorem ls_at (t : Fin cfg0.N) (ht : t.val = 31) (a : Fin 8) (l : Fin 128) :
    ((dats m 0 c).arrAt 7 cfg0.N : Vec Ideal S8x128 .f32) (ix2 a l) = Ideal.ofBits .f32 1056964608#32 * ∑ R : Fin 4096, lsK m c R := by
  have hN : cfg0.N = 32 := rfl
  have hf : (cfg0.win 7).flush t = true := (flush0_7 t).mpr (by omega)
  have hemb : ((cfg0.win 7).blk t).view.emb (ix2 a l) = ix2 a l := by
    funext b
    apply Fin.ext
    show ((win0_7.rect t).emb (ix2 a l) b : Nat) = _
    rw [Window.rect_emb_val win0_7 _ _ b rfl, idx7]
    fin_cases b
    · show 0 * 8 + a.val = a.val; omega
    · show 0 * 128 + l.val = l.val; omega
  have hdisj : ∀ t t' : Fin cfg0.N, (cfg0.win 7).flush t = true → (cfg0.win 7).flush t' = true → t ≠ t' →
      Disjoint ((cfg0.win 7).blk t).view.set ((cfg0.win 7).blk t').view.set := by
    intro t t' h h' hne
    have a := (flush0_7 t).mp h
    have b := (flush0_7 t').mp h'
    have := t.isLt
    have := t'.isLt
    exact absurd (Fin.ext (by omega)) hne
  have h := (dats m 0 c).arrAt_emb_eq_flushed 7 hdisj t hf (ix2 a l)
  rw [hemb] at h
  refine h.trans ?_
  rw [flushed7]
  refine ((inv_all m c t.val t.isLt).1 a l).trans ?_
  show Ideal.ofBits .f32 1056964608#32 * ∑ k ∈ Finset.range (512 * ((t.val + 1) / 4)), _ = _
  rw [ht, show 512 * ((31 + 1) / 4) = 4096 from rfl, ← Fin.sum_univ_eq_sum_range]
  exact congrArg (Ideal.ofBits .f32 1056964608#32 * ·) (Finset.sum_congr rfl fun R _ => ext_lt (lsK m c) R)

theorem ls_final (a : Fin 8) (l : Fin 128) :
    ((dats m 0 c).arrAt 7 cfg0.N : Vec Ideal S8x128 .f32) (ix2 a l) = Ideal.ofBits .f32 1056964608#32 * ∑ R : Fin 4096, lsK m c R :=
  ls_at m c ⟨31, by decide⟩ rfl a l

theorem dn_at (t : Fin cfg0.N) (ht : t.val = 31) (l : Fin 1024) :
    ((dats m 0 c).arrAt 8 cfg0.N : Vec Ideal S1x1024 .f32) (ix2 (0 : Fin 1) l) = ∑ R : Fin 4096, dnK m c l R := by
  have hN : cfg0.N = 32 := rfl
  have hf : (cfg0.win 8).flush t = true := (flush0_8 t).mpr (by omega)
  have hemb : ((cfg0.win 8).blk t).view.emb (ix2 (0 : Fin 1) l) = ix2 (0 : Fin 1) l := by
    funext b
    apply Fin.ext
    show ((win0_8.rect t).emb (ix2 (0 : Fin 1) l) b : Nat) = _
    rw [Window.rect_emb_val win0_8 _ _ b rfl, idx8]
    fin_cases b
    · rfl
    · show 0 * 1024 + l.val = l.val; omega
  have hdisj : ∀ t t' : Fin cfg0.N, (cfg0.win 8).flush t = true → (cfg0.win 8).flush t' = true → t ≠ t' →
      Disjoint ((cfg0.win 8).blk t).view.set ((cfg0.win 8).blk t').view.set := by
    intro t t' h h' hne
    have a := (flush0_8 t).mp h
    have b := (flush0_8 t').mp h'
    have := t.isLt
    have := t'.isLt
    exact absurd (Fin.ext (by omega)) hne
  have h := (dats m 0 c).arrAt_emb_eq_flushed 8 hdisj t hf (ix2 (0 : Fin 1) l)
  rw [hemb] at h
  refine h.trans ?_
  rw [flushed8]
  refine ((inv_all m c t.val t.isLt).2.1 l).trans ?_
  show ∑ k ∈ Finset.range (512 * ((t.val + 1) / 4)), _ = _
  rw [ht, show 512 * ((31 + 1) / 4) = 4096 from rfl, ← Fin.sum_univ_eq_sum_range]
  exact Finset.sum_congr rfl fun R _ => ext_lt (dnK m c l) R

theorem dn_final (l : Fin 1024) :
    ((dats m 0 c).arrAt 8 cfg0.N : Vec Ideal S1x1024 .f32) (ix2 (0 : Fin 1) l) = ∑ R : Fin 4096, dnK m c l R :=
  dn_at m c ⟨31, by decide⟩ rfl l

end Cert.MlpLossIdeal.Step
-- ==== Proof.LossRef.lean ====
/-
The reference of the feed-forward part with the loss, read entry by entry.
-/
module

public import proofs.«01_k».proof.Proof.Gen.MlpLossRefIdeal.Run
public import proofs.«01_k».proof.Proof.Gen.MlpLossRefIdeal.Read
public import proofs.«01_k».proof.Proof.LossHost

@[expose] public section

set_option maxRecDepth 16384

noncomputable section

open Idealize.ShloMosaic Idealize.ShloMosaic.TcCoe Idealize.SL.Sem
open Idealize.ShloMosaic.Pipeline (Dat Window)

namespace Cert.MlpLossRefIdeal.Ref

open Cert.MlpLossRefIdeal Cert.MlpLossRefIdeal.Gen Cert.MlpLossRefIdeal.Read Cert.MlpLossIdeal.Step

variable (H : Vec Ideal S4096x1024 .bf16) (X Tg : Vec Ideal S4096x1024 .f32) (G : Vec Ideal S1024 .f32) (Wg Wu : Vec Ideal S1x1024x2816 .f32) (Wd : Vec Ideal S1x2816x1024 .f32)

/-- The derivative of the gated product in the gate's pre-activation, as differentiation leaves it. -/
def udR (R : Fin 4096) (l : Fin 2816) : EReal :=
  pre H Wu R l * sg (pre H Wg R l) + pre H Wg R l * pre H Wu R l * (sg (pre H Wg R l) * (1 - sg (pre H Wg R l)))

/-- The loss's derivative at the last norm's output. -/
def dyR (R : Fin 4096) (l : Fin 1024) : EReal :=
  Ideal.div (Ideal.ofBits .f32 1056964608#32) (Ideal.ofBits .f32 1149239296#32) * (Ideal.ofBits .f32 1073741824#32 * er H X Tg G Wg Wu Wd R l)

/-- Half of the inverse root's derivative, times the row's sum. -/
def qq (R : Fin 4096) : EReal :=
  Ideal.div ((∑ k, x2v H X Wg Wu Wd R k * (dyR H X Tg G Wg Wu Wd R k * G (ix1 k)))
    * (Ideal.ofBits .f32 3204448256#32 * Ideal.div (rr H X Wg Wu Wd R) (Rms.var fun k => x2v H X Wg Wu Wd R k))) (Ideal.ofBits .f32 1149239296#32)

theorem v2_at (R : Fin 4096) (l : Fin 2816) : (val_main_v2 (F := Ideal) H Wg) (ix2 R l) = pre H Wg R l := by
  pointwise [val_main_v0, val_main_v1, val_main_v2, val_main_v3, val_main_v4, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v26, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  rfl

theorem v4_at (R : Fin 4096) (l : Fin 2816) : (val_main_v4 (F := Ideal) H Wu) (ix2 R l) = pre H Wu R l := by
  pointwise [val_main_v0, val_main_v1, val_main_v2, val_main_v3, val_main_v4, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v26, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  rfl

theorem v9_at (R : Fin 4096) (l : Fin 1024) : (val_main_v9 (F := Ideal) H X Wg Wu Wd) (ix2 R l) = x2v H X Wg Wu Wd R l := by
  pointwise [val_main_v0, val_main_v1, val_main_v3, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v26, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  simp only [v2_at, v4_at]
  rfl

theorem v26_at (R : Fin 4096) (l : Fin 1024) : (val_main_v26 (F := Ideal) H X Wg Wu Wd Tg G) (ix2 R l) = er H X Tg G Wg Wu Wd R l := by
  pointwise [val_main_v0, val_main_v1, val_main_v3, val_main_call0_v0, val_main_call0_v1, val_main_call0_cst, val_main_call0_v2, val_main_call0_v3, val_main_call0_cst_0, val_main_call0_v4, val_main_call0_v5, val_main_v5, val_main_v6, val_main_v7, val_main_v8, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v26, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  simp only [v9_at, Finset.univ_unique, Finset.sum_singleton]
  rfl

theorem v68_at (s : Fin 4) (R : Fin 4096) (f : Fin 704) : (val_main_v68 (F := Ideal) H Wg Wu) (ix3 s R f) = udR H Wg Wu R (flat s f) := by
  pointwise [val_main_v0, val_main_v1, val_main_v3, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v26, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  simp only [v2_at, v4_at]
  rfl

theorem v71_at (s : Fin 4) (R : Fin 4096) (f : Fin 704) : (val_main_v71 (F := Ideal) H Wg) (ix3 s R f) = siF (pre H Wg R (flat s f)) (pre H Wu R (flat s f)) := by
  pointwise [val_main_v0, val_main_v1, val_main_v3, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v26, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  simp only [v2_at]
  rfl

theorem v75_at (s : Fin 4) (R : Fin 4096) (f : Fin 704) : (val_main_v75 (F := Ideal) H Wg Wu) (ix3 s R f) = acF (pre H Wg R (flat s f)) (pre H Wu R (flat s f)) := by
  pointwise [val_main_v0, val_main_v1, val_main_v3, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v26, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  simp only [v2_at, v4_at]
  rfl

theorem v60_at (R : Fin 4096) (l : Fin 1024) : (val_main_v60 (F := Ideal) H X Wg Wu Wd Tg G) (ix2 R l) = dyR H X Tg G Wg Wu Wd R l * G (ix1 l) * rr H X Wg Wu Wd R
      + x2v H X Wg Wu Wd R l * qq H X Tg G Wg Wu Wd R + qq H X Tg G Wg Wu Wd R * x2v H X Wg Wu Wd R l := by
  pointwise [val_main_v0, val_main_v1, val_main_v3, val_main_call0_v0, val_main_call0_v1, val_main_call0_cst, val_main_call0_v2, val_main_call0_v3, val_main_call0_cst_0, val_main_call0_v4, val_main_call0_v5, val_main_v5, val_main_v6, val_main_v7, val_main_v8, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  simp only [v9_at, v26_at, Finset.univ_unique, Finset.sum_singleton]
  rfl

theorem v63_at (l : Fin 1024) : (val_main_v63 (F := Ideal) H X Wg Wu Wd Tg G) (ix2 0 l) = ∑ R : Fin 4096, x2v H X Wg Wu Wd R l * rr H X Wg Wu Wd R * dyR H X Tg G Wg Wu Wd R l := by
  pointwise [val_main_v0, val_main_v1, val_main_v3, val_main_call0_v0, val_main_call0_v1, val_main_call0_cst, val_main_call0_v2, val_main_call0_v3, val_main_call0_cst_0, val_main_call0_v4, val_main_call0_v5, val_main_v5, val_main_v6, val_main_v7, val_main_v8, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  simp only [v9_at, v26_at, Finset.univ_unique, Finset.sum_singleton]
  rfl

theorem v62_at (r : Fin 8) (l : Fin 128) : (val_main_v62 (F := Ideal) H X Wg Wu Wd Tg G) (ix2 r l) = Ideal.ofBits .f32 1056964608#32 * ∑ R : Fin 4096, rowLoss H X Tg G Wg Wu Wd R := by
  pointwise [val_main_v0, val_main_v1, val_main_v3, val_main_call0_v0, val_main_call0_v1, val_main_call0_cst, val_main_call0_v2, val_main_call0_v3, val_main_call0_cst_0, val_main_call0_v4, val_main_call0_v5, val_main_v5, val_main_v6, val_main_v7, val_main_v8, val_main_v10, val_main_cst, val_main_v11, val_main_v12, val_main_cst_0, val_main_v13, val_main_v14, val_main_cst_1, val_main_v15, val_main_v16, val_main_v17, val_main_v18, val_main_cst_2, val_main_v19, val_main_v20, val_main_v21, val_main_v22, val_main_v23, val_main_v24, val_main_v25, val_main_v27, val_main_cst_3, val_main_v28, val_main_v29, val_main_cst_4, val_main_v30, val_main_cst_5, val_main_v31, val_main_v32, val_main_cst_6, val_main_v33, val_main_cst_7, val_main_v34, val_main_cst_8, val_main_cst_9, val_main_v35, val_main_v36, val_main_cst_10, val_main_v37, val_main_v38, val_main_v39, val_main_v40, val_main_v41, val_main_cst_11, val_main_v42, val_main_v43, val_main_v44, val_main_v45, val_main_cst_12, val_main_v46, val_main_v47, val_main_cst_13, val_main_v48, val_main_v49, val_main_v50, val_main_v51, val_main_v52, val_main_cst_14, val_main_v53, val_main_v54, val_main_cst_15, val_main_v55, val_main_v56, val_main_v57, val_main_v58, val_main_v59, val_main_v60, val_main_call1_v0, val_main_call1_v1, val_main_call1_cst, val_main_call1_v2, val_main_call1_v3, val_main_call1_cst_0, val_main_call1_v4, val_main_v61_2, val_main_call1_cst_1, val_main_call1_v6, val_main_call1_v7, val_main_v61_1, val_main_v61_0, val_main_v62, val_main_v63, val_main_v64, val_main_call2_v0, val_main_call2_v1, val_main_call2_v2, val_main_v65, val_main_v66, val_main_v67, val_main_v68, val_main_v69, val_main_v70, val_main_v71, val_main_v72, val_main_v73, val_main_v74, val_main_v75]
  simp only [v26_at]
  try simp only [Finset.univ_unique, Finset.sum_singleton]
  rfl

end Cert.MlpLossRefIdeal.Ref
-- ==== Proof.Finite.lean ====
/-
An array that passes the test "every absolute value is below infinity" is an array of real numbers.
-/
module

public import Idealize.ShloMosaic.Lib.Pointwise
public import Idealize.ShloMosaic.Lib.ReduceAll

@[expose] public section

noncomputable section

open Idealize.ShloMosaic

namespace Cert.Finite

theorem ofBits_inf : (Ideal.ofBits .f32 2139095040#32 : EReal) = ⊤ := by simp [Ideal.ofBits, Ideal.ieee]

theorem real_of_abs (x : EReal) (h : max x (-x) < ⊤) : ∃ r : ℝ, x = (r : EReal) := by
  induction x using EReal.rec with
  | bot => simp at h
  | top => simp at h
  | coe r => exact ⟨r, rfl⟩

/-- The shape of one number. -/
abbrev unit0 : Shape := ⟨0, ![]⟩

instance : Subsingleton unit0.Idx := ⟨fun a b => funext fun i => Fin.elim0 i⟩

/-- The printed test of one array. -/
theorem reals {s : Shape} {axes : List (Fin s.rank)} (hu : 0 < unit0.numel) (hb : unit0.BroadcastsInDim s (![] : Fin 0 → Fin s.rank))
    (hr : s.ReducesTo axes unit0) (x : FVec Ideal s .f32) (j : unit0.Idx)
    (e : Host.reduce IntOp.andi (cmpf .olt (Host.absf x) (broadcastInDim s ![] hb (constant (F := Ideal) unit0 .f32 0x7F800000#32)))
      (constantI unit0 1 1#1) hr hu j = 1#1) :
    ∃ X : s.Idx → ℝ, x = fun i => ((X i : ℝ) : EReal) := by
  have h : ∀ i, ∃ r : ℝ, x i = ((r : ℝ) : EReal) := by
    intro i
    have hi := Host.reduce_andi_all _ _ hr hu j e i
    apply real_of_abs
    have h2 : Ideal.cmp .olt (max (x i) (-(x i))) (Ideal.ofBits .f32 2139095040#32) = 1#1 := hi
    rw [ofBits_inf] at h2
    by_contra hn
    have h3 : Ideal.cmp .olt (max (x i) (-(x i))) ⊤ = 0#1 := by
      show BitVec.ofBool (decide (max (x i) (-(x i)) < ⊤)) = 0#1
      rw [decide_eq_false hn]; rfl
    rw [h3] at h2
    exact absurd h2 (by decide)
  choose X hX using h
  exact ⟨X, funext hX⟩

end Cert.Finite
-- ==== Proof.LossClaim.lean ====
/-
The feed-forward part's forward kernel with the loss leaves the reference's seven results.
-/
module

public import proofs.«01_k».proof.Proof.LossKernel
public import proofs.«01_k».proof.Proof.LossRef
public import proofs.«01_k».proof.Proof.Finite
public import proofs.«01_k».proof.Defs
public import proofs.«01_k».proof.Proof.Gen.MlpLoss
public import proofs.«01_k».proof.Proof.Gen.Pre_loss_finite
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.LossClaim

open Cert.MlpLossIdeal.Step Cert.MlpLossRefIdeal.Ref

/-- Five of the arguments hold reals, from the precondition. -/
theorem rows (H : FVec Ideal Cert.MlpLossIdeal.S4096x1024 .bf16) (X : FVec Ideal Cert.MlpLossIdeal.S4096x1024 .f32) (Wg : FVec Ideal Cert.MlpLossIdeal.S1x1024x2816 .f32) (Wu : FVec Ideal Cert.MlpLossIdeal.S1x1024x2816 .f32) (Wd : FVec Ideal Cert.MlpLossIdeal.S1x2816x1024 .f32) (Tg : FVec Ideal Cert.MlpLossIdeal.S4096x1024 .f32) (G : FVec Ideal Cert.MlpLossIdeal.S1024 .f32) (j)
    (h : Cert.Pre_loss_finite.fn (F := Ideal) H X Wg Wu Wd Tg G j = 1#1) :
    (∃ r : Cert.MlpLossIdeal.S4096x1024.Idx → ℝ, H = fun i => ((r i : ℝ) : EReal)) ∧ (∃ r : Cert.MlpLossIdeal.S4096x1024.Idx → ℝ, X = fun i => ((r i : ℝ) : EReal)) ∧ (∃ r : Cert.MlpLossIdeal.S1x1024x2816.Idx → ℝ, Wg = fun i => ((r i : ℝ) : EReal)) ∧ (∃ r : Cert.MlpLossIdeal.S1x1024x2816.Idx → ℝ, Wu = fun i => ((r i : ℝ) : EReal)) ∧ (∃ r : Cert.MlpLossIdeal.S1x2816x1024.Idx → ℝ, Wd = fun i => ((r i : ℝ) : EReal)) := by
  unfold Cert.Pre_loss_finite.fn Cert.Pre_loss_finite.fn_part1 at h
  dsimp only at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨Cert.Finite.reals _ _ _ (extf .f32 H Cert.Pre_loss_finite.Gen.facts.bitsLt_bf16_f32) j h1, Cert.Finite.reals _ _ _ X j h2, Cert.Finite.reals _ _ _ Wg j h3, Cert.Finite.reals _ _ _ Wu j h4,
    Cert.Finite.reals _ _ _ Wd j h5⟩

/-- The logistic function of a real is a real. -/
theorem sg_real (g : ℝ) : ∃ s : ℝ, sg (g : EReal) = ((s : ℝ) : EReal) := by
  have e : (1 : EReal) + Ideal.exp (-(g : EReal)) = ((1 + Real.exp (-g) : ℝ) : EReal) := by
    rw [← EReal.coe_neg]
    rfl
  refine ⟨(1 + Real.exp (-g))⁻¹, ?_⟩
  unfold sg
  rw [e, Rms.div_coe _ _ (by positivity), one_mul]

/-- The derivative of `silu(g)·u` at `g`, written both ways. -/
theorem gate_grad (u g : ℝ) :
    udF (g : EReal) (u : EReal) = (u : EReal) * sg (g : EReal) + (g : EReal) * (u : EReal) * (sg (g : EReal) * (1 - sg (g : EReal))) := by
  unfold udF
  obtain ⟨s, hs⟩ := sg_real g
  rw [hs]
  have e : (((u * (s * (1 + g * (1 - s))) : ℝ)) : EReal) = (((u * s + g * u * (s * (1 - s)) : ℝ)) : EReal) := by
    congr 1
    ring
  exact_mod_cast e

theorem ofBits_two : (Ideal.ofBits .f32 1073741824#32 : EReal) = ((2 : ℝ) : EReal) := by
  simp [Ideal.ofBits, Ideal.ieee]
  rw [← EReal.coe_mul]; norm_num

theorem ofBits_tiny : (Ideal.ofBits .f32 981467136#32 : EReal) = ((1 / 1024 : ℝ) : EReal) := by
  simp [Ideal.ofBits, Ideal.ieee]
  rw [← EReal.coe_mul]; norm_num

/-- Half of the mean's weight, times twice the difference, is the difference over the row's width. -/
theorem half_mean (e : EReal) :
    Ideal.div (Ideal.ofBits .f32 1056964608#32) (Ideal.ofBits .f32 1149239296#32) * (Ideal.ofBits .f32 1073741824#32 * e)
      = e * Ideal.ofBits .f32 981467136#32 := by
  rw [ofBits_half, Rms.ofBits_n, ofBits_two, ofBits_tiny, Rms.div_coe _ _ (by norm_num), ← mul_assoc, ← EReal.coe_mul, ← EReal.coe_mul, mul_comm]
  congr 2
  norm_num

section Same

open Cert.MlpLossIdeal Cert.MlpLossIdeal.Gen

variable (m : (ℓ : Loc nD τ sig) → Buf (Elt Ideal) ℓ) (c : Dev nD)

theorem pre_real (H : S4096x1024.Idx → ℝ) (W : S1x1024x2816.Idx → ℝ) (R : Fin 4096) (l : Fin 2816) :
    ∃ r : ℝ, pre (fun i => ((H i : ℝ) : EReal)) (fun i => ((W i : ℝ) : EReal)) R l = ((r : ℝ) : EReal) := by
  refine ⟨∑ d : Fin 1024, H (ix2 R d) * W (ix3 0 d l), ?_⟩
  unfold pre
  rw [← Rms.sum_coe]
  exact Finset.sum_congr rfl fun d _ => by simp only [EReal.coe_mul]

theorem x2_real (H X : S4096x1024.Idx → ℝ) (Wg Wu : S1x1024x2816.Idx → ℝ) (Wd : S1x2816x1024.Idx → ℝ) (R : Fin 4096) (d : Fin 1024) :
    ∃ r : ℝ, x2v (fun i => ((H i : ℝ) : EReal)) (fun i => ((X i : ℝ) : EReal)) (fun i => ((Wg i : ℝ) : EReal)) (fun i => ((Wu i : ℝ) : EReal))
      (fun i => ((Wd i : ℝ) : EReal)) R d = ((r : ℝ) : EReal) := by
  choose g hg using fun l => pre_real H Wg R l
  choose u hu using fun l => pre_real H Wu R l
  choose s hs using sg_real
  refine ⟨X (ix2 R d) + ∑ l : Fin 2816, g l * s (g l) * u l * Wd (ix3 0 l d), ?_⟩
  unfold x2v
  rw [EReal.coe_add, ← Rms.sum_coe]
  refine congrArg _ (Finset.sum_congr rfl fun l _ => ?_)
  unfold term acF
  rw [hg, hu, hs]
  simp only [EReal.coe_mul]

/-- The derivative in the gate's pre-activation is the reference's once the arguments hold reals. -/
theorem ud_same (hh : ∃ r : S4096x1024.Idx → ℝ, argH m c = fun i => ((r i : ℝ) : EReal)) (hwg : ∃ r : S1x1024x2816.Idx → ℝ, argWg m c = fun i => ((r i : ℝ) : EReal))
    (hwu : ∃ r : S1x1024x2816.Idx → ℝ, argWu m c = fun i => ((r i : ℝ) : EReal)) (R : Fin 4096) (l : Fin 2816) :
    udF (gt m c R l) (up m c R l) = udR (argH m c) (argWg m c) (argWu m c) R l := by
  obtain ⟨H, hH⟩ := hh
  obtain ⟨Wg, hWg⟩ := hwg
  obtain ⟨Wu, hWu⟩ := hwu
  unfold udR gt up
  rw [hH, hWg, hWu]
  obtain ⟨g, hg⟩ := pre_real H Wg R l
  obtain ⟨u, hu⟩ := pre_real H Wu R l
  rw [hg, hu]
  exact gate_grad u g

theorem dy_same (R : Fin 4096) (l : Fin 1024) : dyK m c R l = dyR (argH m c) (argX m c) (argTg m c) (argG m c) (argWg m c) (argWu m c) (argWd m c) R l := (half_mean _).symm

/-- The gradient at the block's output: the kernel's form of the norm's derivative against the reference's. -/
theorem dx_same (hx : ∀ R, ∃ r : Fin 1024 → ℝ, (fun d => xv m c R d) = fun i => ((r i : ℝ) : EReal)) (R : Fin 4096) (l : Fin 1024) :
    dxK m c R l = dyR (argH m c) (argX m c) (argTg m c) (argG m c) (argWg m c) (argWu m c) (argWd m c) R l * argG m c (ix1 l) * rv m c R
      + xv m c R l * qq (argH m c) (argX m c) (argTg m c) (argG m c) (argWg m c) (argWu m c) (argWd m c) R + qq (argH m c) (argX m c) (argTg m c) (argG m c) (argWg m c) (argWu m c) (argWd m c) R * xv m c R l := by
  unfold dxK
  simp only [dy_same m c]
  have h := Rms.grad (fun k => xv m c R k) (hx R) (fun k => dyR (argH m c) (argX m c) (argTg m c) (argG m c) (argWg m c) (argWu m c) (argWd m c) R k * argG m c (ix1 k)) 0 l
  rw [zero_add, zero_add] at h
  exact h

theorem dn_same (l : Fin 1024) :
    ∑ R : Fin 4096, dnK m c l R = ∑ R : Fin 4096, xv m c R l * rv m c R * dyR (argH m c) (argX m c) (argTg m c) (argG m c) (argWg m c) (argWu m c) (argWd m c) R l :=
  Finset.sum_congr rfl fun R _ => (mul_comm (dyK m c R l) _).trans (congrArg (xv m c R l * rv m c R * ·) (dy_same m c R l))

theorem xv_real (hh : ∃ r : S4096x1024.Idx → ℝ, argH m c = fun i => ((r i : ℝ) : EReal)) (hx : ∃ r : S4096x1024.Idx → ℝ, argX m c = fun i => ((r i : ℝ) : EReal))
    (hwg : ∃ r : S1x1024x2816.Idx → ℝ, argWg m c = fun i => ((r i : ℝ) : EReal)) (hwu : ∃ r : S1x1024x2816.Idx → ℝ, argWu m c = fun i => ((r i : ℝ) : EReal))
    (hwd : ∃ r : S1x2816x1024.Idx → ℝ, argWd m c = fun i => ((r i : ℝ) : EReal)) (R : Fin 4096) :
    ∃ r : Fin 1024 → ℝ, (fun d => xv m c R d) = fun i => ((r i : ℝ) : EReal) := by
  obtain ⟨H, hH⟩ := hh
  obtain ⟨X, hX⟩ := hx
  obtain ⟨Wg, hWg⟩ := hwg
  obtain ⟨Wu, hWu⟩ := hwu
  obtain ⟨Wd, hWd⟩ := hwd
  unfold xv
  rw [hH, hX, hWg, hWu, hWd]
  choose r hr using fun d => x2_real H X Wg Wu Wd R d
  exact ⟨r, funext hr⟩

end Same

/-- The reference runs on the host alone: its run keeps the arguments, and the program declares no semaphore. -/
theorem frame_ref : Cert.quiescent_MlpLossRefIdeal (hMlpLossRefIdeal := Cert.MlpLossRefIdeal.Gen.facts) := fun m g _ =>
  (θ_run Cert.MlpLossRefIdeal.defs _ _).mono
    (fun r h => ⟨fun c => (h c).2.2.2.2.2.2.2, Idealize.ShloMosaic.sem_eq_zero_of_no_sems (by decide) r.2⟩)
    (Cert.MlpLossRefIdeal.Value.run (F := Ideal) m g)

/-- Every index is given by its coordinates. -/
theorem of3 {a b c : Nat} (i : (⟨3, ![a, b, c]⟩ : Shape).Idx) : ∃ (s : Fin a) (R : Fin b) (f : Fin c), i = ix3 s R f :=
  ⟨i 0, i 1, i 2, by funext a; fin_cases a <;> rfl⟩

theorem of2 {a b : Nat} (i : (⟨2, ![a, b]⟩ : Shape).Idx) : ∃ (R : Fin a) (l : Fin b), i = ix2 R l :=
  ⟨i 0, i 1, by funext a; fin_cases a <;> rfl⟩

set_option maxHeartbeats 1600000 in
/-- The claim: after the kernel's run all seven results are the reference's, entry by entry, once five of the arguments hold reals. -/
theorem algebraic : Cert.algebraic_MlpLossIdeal_MlpLossRefIdeal_pre_loss_finite
    (hMlpLossIdeal := Cert.MlpLossIdeal.Gen.facts) (hMlpLossRefIdeal := Cert.MlpLossRefIdeal.Gen.facts)
    (hPre_loss_finite := Cert.Pre_loss_finite.Gen.facts) := by
  intro m g m' g' hpre hag
  refine ⟨fun c => Cert.MlpLossRefIdeal.Value.res_main_v62 m' c, fun c => Cert.MlpLossRefIdeal.Value.res_main_v63 m' c, fun c => Cert.MlpLossRefIdeal.Value.res_main_v60 m' c, fun c => Cert.MlpLossRefIdeal.Value.res_main_v64 m' c,
    fun c => Cert.MlpLossRefIdeal.Read.val_main_v68 (F := Ideal) (m' ((c.tc : Thread Cert.MlpLossRefIdeal.nD Cert.MlpLossRefIdeal.τ).loc Cert.MlpLossRefIdeal.main_arg0)) (m' ((c.tc : Thread Cert.MlpLossRefIdeal.nD Cert.MlpLossRefIdeal.τ).loc Cert.MlpLossRefIdeal.main_arg2)) (m' ((c.tc : Thread Cert.MlpLossRefIdeal.nD Cert.MlpLossRefIdeal.τ).loc Cert.MlpLossRefIdeal.main_arg3)),
    fun c => Cert.MlpLossRefIdeal.Read.val_main_v71 (F := Ideal) (m' ((c.tc : Thread Cert.MlpLossRefIdeal.nD Cert.MlpLossRefIdeal.τ).loc Cert.MlpLossRefIdeal.main_arg0)) (m' ((c.tc : Thread Cert.MlpLossRefIdeal.nD Cert.MlpLossRefIdeal.τ).loc Cert.MlpLossRefIdeal.main_arg2)),
    fun c => Cert.MlpLossRefIdeal.Read.val_main_v75 (F := Ideal) (m' ((c.tc : Thread Cert.MlpLossRefIdeal.nD Cert.MlpLossRefIdeal.τ).loc Cert.MlpLossRefIdeal.main_arg0)) (m' ((c.tc : Thread Cert.MlpLossRefIdeal.nD Cert.MlpLossRefIdeal.τ).loc Cert.MlpLossRefIdeal.main_arg2)) (m' ((c.tc : Thread Cert.MlpLossRefIdeal.nD Cert.MlpLossRefIdeal.τ).loc Cert.MlpLossRefIdeal.main_arg3)), ?_,
    Cert.MlpLossRefIdeal.Value.run m' g'⟩
  refine (θ_run _ _ _).mono (fun r h c => ?_) (Cert.MlpLossIdeal.Value.run_blocks m g)
  obtain ⟨h7, h8, h9, h10, h11, h12, h13, hk⟩ := h c
  obtain ⟨a0, a1, a2, a3, a4, a5, a6⟩ := hag c
  obtain ⟨hh, hx, hwg, hwu, hwd⟩ := rows (argH m c) (argX m c) (argWg m c) (argWu m c) (argWd m c) (argTg m c) (argG m c) (fun a => Fin.elim0 a) (congrFun (hpre c) _)
  have hxv := xv_real m c hh hx hwg hwu hwd
  refine ⟨h7.trans ?_, h8.trans ?_, h9.trans ?_, h10.trans ?_, h11.trans ?_, h12.trans ?_, h13.trans ?_, hk⟩
  · dsimp only
    rw [Cert.MlpLossRefIdeal.Read.val_main_v62_eq, a0, a1, a2, a3, a4, a5, a6]
    funext i
    obtain ⟨R, l, rfl⟩ := of2 i
    refine (ls_final m c R l).trans (Eq.trans ?_ (Cert.MlpLossRefIdeal.Ref.v62_at _ _ _ _ _ _ _ R l).symm)
    exact rfl
  · dsimp only
    rw [Cert.MlpLossRefIdeal.Read.val_main_v63_eq, a0, a1, a2, a3, a4, a5, a6]
    funext i
    obtain ⟨z, l, rfl⟩ := of2 i
    obtain rfl : z = 0 := Subsingleton.elim _ _
    refine (dn_final m c l).trans (Eq.trans ?_ (Cert.MlpLossRefIdeal.Ref.v63_at _ _ _ _ _ _ _ l).symm)
    exact dn_same m c l
  · dsimp only
    rw [Cert.MlpLossRefIdeal.Read.val_main_v60_eq, a0, a1, a2, a3, a4, a5, a6]
    funext i
    obtain ⟨R, l, rfl⟩ := of2 i
    refine (dx9_final m c R l).trans (Eq.trans ?_ (Cert.MlpLossRefIdeal.Ref.v60_at _ _ _ _ _ _ _ R l).symm)
    exact dx_same m c hxv R l
  · dsimp only
    rw [Cert.MlpLossRefIdeal.Read.val_main_v64_eq, a0, a1, a2, a3, a4, a5, a6]
    funext i
    obtain ⟨R, l, rfl⟩ := of2 i
    refine (dx10_final m c R l).trans (Eq.trans ?_ (Cert.MlpLossRefIdeal.Ref.v60_at _ _ _ _ _ _ _ R l).symm)
    exact dx_same m c hxv R l
  · dsimp only
    rw [a0, a2, a3]
    funext i
    obtain ⟨s, R, f, rfl⟩ := of3 i
    refine (ud_final m c s R f).trans (Eq.trans ?_ (Cert.MlpLossRefIdeal.Ref.v68_at _ _ _ s R f).symm)
    exact ud_same m c hh hwg hwu R (flat s f)
  · dsimp only
    rw [a0, a2]
    funext i
    obtain ⟨s, R, f, rfl⟩ := of3 i
    refine (si_final m c s R f).trans (Eq.trans ?_ (Cert.MlpLossRefIdeal.Ref.v71_at _ _ (argWu m c) s R f).symm)
    exact rfl
  · dsimp only
    rw [a0, a2, a3]
    funext i
    obtain ⟨s, R, f, rfl⟩ := of3 i
    refine (ac_final m c s R f).trans (Eq.trans ?_ (Cert.MlpLossRefIdeal.Ref.v75_at _ _ _ s R f).symm)
    exact rfl

end Cert.LossClaim
-- ==== Proof.MlpStep.lean ====
/-
What one grid step of the feed-forward part's backward kernel leaves in its outputs and in its scratch.
-/
module

public import proofs.«01_k».proof.Proof.Gen.MlpBwdIdeal.Value
public import proofs.«01_k».proof.Proof.Pieces
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat Window)

namespace Cert.MlpBwdIdeal.Step

open Cert.MlpBwdIdeal Cert.MlpBwdIdeal.Gen Cert.Pieces

/-- A slice's gradient: the product with the slice of the weight, times the saved factor. -/
def dgB (s : Fin 4) (x0 : Vec Ideal S512x1024 .bf16) (x6 : Vec Ideal S4x704x1024 .bf16) (u : Vec Ideal S1x512x704 .bf16) : Vec Ideal S1x512x704 .bf16 :=
  fun z => (fun (r : Fin 512) (f : Fin 704) => (∑ d : Fin 1024, x0 (ix2 r d) * x6 (ix3 s f d)) * u (ix3 (0 : Fin 1) r f)) (z 1) (z 2)

/-- A slice of a weight. -/
def slc (s : Fin 4) (x : Vec Ideal S4x704x1024 .bf16) : Vec Ideal S1x704x1024 .bf16 :=
  fun z => (fun (f : Fin 704) (d : Fin 1024) => x (ix3 s f d)) (z 1) (z 2)

theorem g0_at (x : Vec Ideal S512x1024 .bf16) (w : Vec Ideal S1x256x1024 .bf16) (u : Vec Ideal S1x512x256 .bf16) (r : Fin 512) (k : Fin 256) :
    k0_pay15 x w u (ix3 0 r k) = (∑ d : Fin 1024, x (ix2 r d) * w (ix3 0 k d)) * u (ix3 0 r k) := by
  pointwise [k0_pay15, k0_pay12, k0_pay11]

theorem g1_at (x : Vec Ideal S512x1024 .bf16) (w : Vec Ideal S1x256x1024 .bf16) (u : Vec Ideal S1x512x256 .bf16) (r : Fin 512) (k : Fin 256) :
    k0_pay18 (k0_pay13 x w) u (ix3 0 r k) = (∑ d : Fin 1024, x (ix2 r d) * w (ix3 0 k d)) * u (ix3 0 r k) := by
  pointwise [k0_pay18, k0_pay13, k0_pay11]

theorem g2_at (x : Vec Ideal S512x1024 .bf16) (w : Vec Ideal S1x192x1024 .bf16) (u : Vec Ideal S1x512x192 .bf16) (r : Fin 512) (k : Fin 192) :
    k0_pay20 (k0_pay14 x w) u (ix3 0 r k) = (∑ d : Fin 1024, x (ix2 r d) * w (ix3 0 k d)) * u (ix3 0 r k) := by
  pointwise [k0_pay20, k0_pay14, k0_pay11]

theorem u0_at (x : Vec Ideal S512x1024 .bf16) (w : Vec Ideal S1x256x1024 .bf16) (u : Vec Ideal S1x512x256 .bf16) (r : Fin 512) (k : Fin 256) :
    k0_pay17 (k0_pay16 x w u) (ix3 0 r k) = (∑ d : Fin 1024, x (ix2 r d) * w (ix3 0 k d)) * u (ix3 0 r k) := by
  pointwise [k0_pay17, k0_pay16, k0_pay12, k0_pay11]

theorem u1_at (x : Vec Ideal S512x1024 .bf16) (w : Vec Ideal S1x256x1024 .bf16) (u : Vec Ideal S1x512x256 .bf16) (r : Fin 512) (k : Fin 256) :
    k0_pay19 (k0_pay13 x w) u (ix3 0 r k) = (∑ d : Fin 1024, x (ix2 r d) * w (ix3 0 k d)) * u (ix3 0 r k) := by
  pointwise [k0_pay19, k0_pay13, k0_pay11]

theorem u2_at (x : Vec Ideal S512x1024 .bf16) (w : Vec Ideal S1x192x1024 .bf16) (u : Vec Ideal S1x512x192 .bf16) (r : Fin 512) (k : Fin 192) :
    k0_pay1 (k0_pay21 (k0_pay14 x w) u) (ix3 0 r k) = (∑ d : Fin 1024, x (ix2 r d) * w (ix3 0 k d)) * u (ix3 0 r k) := by
  pointwise [k0_pay1, k0_pay21, k0_pay14, k0_pay11]

theorem canon_g (x : Vec Ideal S512x1024 .bf16) (w : Vec Ideal S4x704x1024 .bf16) (u : Vec Ideal S1x512x704 .bf16) (s : Fin 4) (σ : ℕ) (hσ : σ = s.val)
    (i2 i1 i0 j2 j1 j0 l2 l1 l0) :
    View.canon (Val := Elt Ideal) (s := S1x512x704)
      [⟨Rect.unit (s := S1x512x704) ![0, 0, 512] ![1, 512, 192] i2, k0_pay20 (k0_pay14 x (View.ld w (Rect.unit (s := S4x704x1024) ![σ, 512, 0] ![1, 192, 1024] j2))) (View.ld u (Rect.unit (s := S1x512x704) ![0, 0, 512] ![1, 512, 192] l2))⟩,
       ⟨Rect.unit (s := S1x512x704) ![0, 0, 256] ![1, 512, 256] i1, k0_pay18 (k0_pay13 x (View.ld w (Rect.unit (s := S4x704x1024) ![σ, 256, 0] ![1, 256, 1024] j1))) (View.ld u (Rect.unit (s := S1x512x704) ![0, 0, 256] ![1, 512, 256] l1))⟩,
       ⟨Rect.unit (s := S1x512x704) ![0, 0, 0] ![1, 512, 256] i0, k0_pay15 x (View.ld w (Rect.unit (s := S4x704x1024) ![σ, 0, 0] ![1, 256, 1024] j0)) (View.ld u (Rect.unit (s := S1x512x704) ![0, 0, 0] ![1, 512, 256] l0))⟩] = dgB s x w u := by
  refine strips (e := .bf16) (fun (r : Fin 512) (f : Fin 704) => (∑ d : Fin 1024, x (ix2 r d) * w (ix3 s f d)) * u (ix3 (0 : Fin 1) r f)) _ _ _ i2 i1 i0 ?_ ?_ ?_
  · intro r k
    refine (g2_at _ _ _ r k).trans (congrArg₂ (· * ·) (Finset.sum_congr rfl fun d _ => congrArg (x (ix2 r d) * ·) ?_) ?_)
    · exact ld3 w σ 512 0 j2 (0 : Fin 1) k d s ⟨512 + k.val, by omega⟩ d (by rw [hσ]; rfl) rfl (by omega)
    · exact ld3 u 0 0 512 l2 (0 : Fin 1) r k (0 : Fin 1) r ⟨512 + k.val, by omega⟩ rfl (by omega) rfl
  · intro r k
    refine (g1_at _ _ _ r k).trans (congrArg₂ (· * ·) (Finset.sum_congr rfl fun d _ => congrArg (x (ix2 r d) * ·) ?_) ?_)
    · exact ld3 w σ 256 0 j1 (0 : Fin 1) k d s ⟨256 + k.val, by omega⟩ d (by rw [hσ]; rfl) rfl (by omega)
    · exact ld3 u 0 0 256 l1 (0 : Fin 1) r k (0 : Fin 1) r ⟨256 + k.val, by omega⟩ rfl (by omega) rfl
  · intro r k
    refine (g0_at _ _ _ r k).trans (congrArg₂ (· * ·) (Finset.sum_congr rfl fun d _ => congrArg (x (ix2 r d) * ·) ?_) ?_)
    · exact ld3 w σ 0 0 j0 (0 : Fin 1) k d s ⟨k.val, by omega⟩ d (by rw [hσ]; rfl) (by show k.val = 0 + k.val; omega) (by omega)
    · exact ld3 u 0 0 0 l0 (0 : Fin 1) r k (0 : Fin 1) r ⟨k.val, by omega⟩ rfl (by omega) (by show k.val = 0 + k.val; omega)

theorem read_g (v : View sig .tc .vmem S1x512x704 .bf16) (x : Vec Ideal S512x1024 .bf16) (w : Vec Ideal S4x704x1024 .bf16) (u : Vec Ideal S1x512x704 .bf16) (s : Fin 4) (σ : ℕ) (hσ : σ = s.val)
    (i2 i1 i0 j2 j1 j0 l2 l1 l0 n) :
    v.readCov (Val := Elt Ideal)
      [⟨Rect.unit (s := S1x512x704) ![0, 0, 512] ![1, 512, 192] i2, k0_pay20 (k0_pay14 x (View.ld w (Rect.unit (s := S4x704x1024) ![σ, 512, 0] ![1, 192, 1024] j2))) (View.ld u (Rect.unit (s := S1x512x704) ![0, 0, 512] ![1, 512, 192] l2))⟩,
       ⟨Rect.unit (s := S1x512x704) ![0, 0, 256] ![1, 512, 256] i1, k0_pay18 (k0_pay13 x (View.ld w (Rect.unit (s := S4x704x1024) ![σ, 256, 0] ![1, 256, 1024] j1))) (View.ld u (Rect.unit (s := S1x512x704) ![0, 0, 256] ![1, 512, 256] l1))⟩,
       ⟨Rect.unit (s := S1x512x704) ![0, 0, 0] ![1, 512, 256] i0, k0_pay15 x (View.ld w (Rect.unit (s := S4x704x1024) ![σ, 0, 0] ![1, 256, 1024] j0)) (View.ld u (Rect.unit (s := S1x512x704) ![0, 0, 0] ![1, 512, 256] l0))⟩] (Rect.unit (s := S1x512x704) ![0, 0, 0] ![1, 512, 704] n).toLoadRect = dgB s x w u := by
  rw [View.readCov_eq_canon', canon_g x w u s σ hσ]
  exact View.ld_unit_zero (S := S1x512x704) hz3 n (dgB s x w u)

theorem canon_u (x : Vec Ideal S512x1024 .bf16) (w : Vec Ideal S4x704x1024 .bf16) (u : Vec Ideal S1x512x704 .bf16) (s : Fin 4) (σ : ℕ) (hσ : σ = s.val)
    (i2 i1 i0 j2 j1 j0 l2 l1 l0) :
    View.canon (Val := Elt Ideal) (s := S1x512x704)
      [⟨Rect.unit (s := S1x512x704) ![0, 0, 512] ![1, 512, 192] i2, k0_pay1 (k0_pay21 (k0_pay14 x (View.ld w (Rect.unit (s := S4x704x1024) ![σ, 512, 0] ![1, 192, 1024] j2))) (View.ld u (Rect.unit (s := S1x512x704) ![0, 0, 512] ![1, 512, 192] l2)))⟩,
       ⟨Rect.unit (s := S1x512x704) ![0, 0, 256] ![1, 512, 256] i1, k0_pay19 (k0_pay13 x (View.ld w (Rect.unit (s := S4x704x1024) ![σ, 256, 0] ![1, 256, 1024] j1))) (View.ld u (Rect.unit (s := S1x512x704) ![0, 0, 256] ![1, 512, 256] l1))⟩,
       ⟨Rect.unit (s := S1x512x704) ![0, 0, 0] ![1, 512, 256] i0, k0_pay17 (k0_pay16 x (View.ld w (Rect.unit (s := S4x704x1024) ![σ, 0, 0] ![1, 256, 1024] j0)) (View.ld u (Rect.unit (s := S1x512x704) ![0, 0, 0] ![1, 512, 256] l0)))⟩] = dgB s x w u := by
  refine strips (e := .bf16) (fun (r : Fin 512) (f : Fin 704) => (∑ d : Fin 1024, x (ix2 r d) * w (ix3 s f d)) * u (ix3 (0 : Fin 1) r f)) _ _ _ i2 i1 i0 ?_ ?_ ?_
  · intro r k
    refine (u2_at _ _ _ r k).trans (congrArg₂ (· * ·) (Finset.sum_congr rfl fun d _ => congrArg (x (ix2 r d) * ·) ?_) ?_)
    · exact ld3 w σ 512 0 j2 (0 : Fin 1) k d s ⟨512 + k.val, by omega⟩ d (by rw [hσ]; rfl) rfl (by omega)
    · exact ld3 u 0 0 512 l2 (0 : Fin 1) r k (0 : Fin 1) r ⟨512 + k.val, by omega⟩ rfl (by omega) rfl
  · intro r k
    refine (u1_at _ _ _ r k).trans (congrArg₂ (· * ·) (Finset.sum_congr rfl fun d _ => congrArg (x (ix2 r d) * ·) ?_) ?_)
    · exact ld3 w σ 256 0 j1 (0 : Fin 1) k d s ⟨256 + k.val, by omega⟩ d (by rw [hσ]; rfl) rfl (by omega)
    · exact ld3 u 0 0 256 l1 (0 : Fin 1) r k (0 : Fin 1) r ⟨256 + k.val, by omega⟩ rfl (by omega) rfl
  · intro r k
    refine (u0_at _ _ _ r k).trans (congrArg₂ (· * ·) (Finset.sum_congr rfl fun d _ => congrArg (x (ix2 r d) * ·) ?_) ?_)
    · exact ld3 w σ 0 0 j0 (0 : Fin 1) k d s ⟨k.val, by omega⟩ d (by rw [hσ]; rfl) (by show k.val = 0 + k.val; omega) (by omega)
    · exact ld3 u 0 0 0 l0 (0 : Fin 1) r k (0 : Fin 1) r ⟨k.val, by omega⟩ rfl (by omega) (by show k.val = 0 + k.val; omega)

theorem read_u (v : View sig .tc .vmem S1x512x704 .bf16) (x : Vec Ideal S512x1024 .bf16) (w : Vec Ideal S4x704x1024 .bf16) (u : Vec Ideal S1x512x704 .bf16) (s : Fin 4) (σ : ℕ) (hσ : σ = s.val)
    (i2 i1 i0 j2 j1 j0 l2 l1 l0 n) :
    v.readCov (Val := Elt Ideal)
      [⟨Rect.unit (s := S1x512x704) ![0, 0, 512] ![1, 512, 192] i2, k0_pay1 (k0_pay21 (k0_pay14 x (View.ld w (Rect.unit (s := S4x704x1024) ![σ, 512, 0] ![1, 192, 1024] j2))) (View.ld u (Rect.unit (s := S1x512x704) ![0, 0, 512] ![1, 512, 192] l2)))⟩,
       ⟨Rect.unit (s := S1x512x704) ![0, 0, 256] ![1, 512, 256] i1, k0_pay19 (k0_pay13 x (View.ld w (Rect.unit (s := S4x704x1024) ![σ, 256, 0] ![1, 256, 1024] j1))) (View.ld u (Rect.unit (s := S1x512x704) ![0, 0, 256] ![1, 512, 256] l1))⟩,
       ⟨Rect.unit (s := S1x512x704) ![0, 0, 0] ![1, 512, 256] i0, k0_pay17 (k0_pay16 x (View.ld w (Rect.unit (s := S4x704x1024) ![σ, 0, 0] ![1, 256, 1024] j0)) (View.ld u (Rect.unit (s := S1x512x704) ![0, 0, 0] ![1, 512, 256] l0)))⟩] (Rect.unit (s := S1x512x704) ![0, 0, 0] ![1, 512, 704] n).toLoadRect = dgB s x w u := by
  rw [View.readCov_eq_canon', canon_u x w u s σ hσ]
  exact View.ld_unit_zero (S := S1x512x704) hz3 n (dgB s x w u)

theorem congr4 {α β γ δ ε : Type} (f : α → β → γ → δ → ε) {a a' : α} {b b' : β} {d d' : γ} {e e' : δ} (ha : a = a') (hb : b = b') (hd : d = d')
    (he : e = e') : f a b d e = f a' b' d' e' := by rw [ha, hb, hd, he]

theorem ld_slc (x : Vec Ideal S4x704x1024 .bf16) (s : Fin 4) (σ : ℕ) (hσ : σ = s.val) (j) :
    View.ld x (Rect.unit (s := S4x704x1024) ![σ, 0, 0] ![1, 704, 1024] j) = slc s x := by
  funext y
  obtain ⟨z, f, d, rfl⟩ : ∃ (z : Fin 1) (f : Fin 704) (d : Fin 1024), y = ix3 z f d := ⟨y 0, y 1, y 2, by funext a; fin_cases a <;> rfl⟩
  exact ld3 x σ 0 0 j z f d s f d (by have := z.isLt; omega) (by omega) (by omega)

variable (c : Dev nD) (i : grid0.Coords)
  (a2 : Memref sig .tc .vmem S512x1024 .bf16) (h2 : a2.IsWhole)
  (a3 : Memref sig .tc .vmem S512x1024 .f32) (h3 : a3.IsWhole)
  (a4 : Memref sig .tc .vmem S1x512x704 .bf16) (h4 : a4.IsWhole)
  (a5 : Memref sig .tc .vmem S1x512x704 .bf16) (h5 : a5.IsWhole)
  (a6 : Memref sig .tc .vmem S4x704x1024 .bf16) (h6 : a6.IsWhole)
  (a7 : Memref sig .tc .vmem S4x704x1024 .bf16) (h7 : a7.IsWhole)
  (a8 : Memref sig .tc .vmem S4x704x1024 .bf16) (h8 : a8.IsWhole)
  (a9 : Memref sig .tc .vmem S512x1024 .f32) (h9 : a9.IsWhole)
  (a10 : Memref sig .tc .vmem S1x1024 .f32) (h10 : a10.IsWhole)
  (a11 : Memref sig .tc .vmem S1x512x704 .bf16) (h11 : a11.IsWhole)
  (a12 : Memref sig .tc .vmem S1x512x704 .bf16) (h12 : a12.IsWhole)
  (a13 : Memref sig .tc .vmem S512x1024 .f32) (h13 : a13.IsWhole)
  (a14 : Memref sig .tc .vmem S512x1024 .bf16) (h14 : a14.IsWhole)
  (a15 : Memref sig .tc .vmem S1x1024 .f32) (h15 : a15.IsWhole)
  (a16 : Memref sig .tc .vmem S512x1024 .f32) (h16 : a16.IsWhole)
  (x0 : Vec Ideal S512x1024 .bf16) (x1 : Vec Ideal S512x1024 .f32) (x2 : Vec Ideal S1x512x704 .bf16) (x3 : Vec Ideal S1x512x704 .bf16) (x4 : Vec Ideal S4x704x1024 .bf16) (x5 : Vec Ideal S4x704x1024 .bf16) (x6 : Vec Ideal S4x704x1024 .bf16) (x7 : Vec Ideal S512x1024 .f32) (x8 : Vec Ideal S1x1024 .f32)

/-- The slice a grid point works on. -/
def sl : Fin 4 := ⟨(i 1).val, (i 1).isLt⟩

theorem sl_off : BitVec.toNat (Scalar.indexCast (BitVec.ofNat 32 (i 1).val)) = (sl i).val := off_eq (sl i)

section A

variable (hc0 : cond0_0 i) (hc1 : cond0_1 i) (hc2 : ¬cond0_2 i) (hc3 : ¬cond0_3 i)

theorem out9_A :
    out0_A_9 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 = dgB (sl i) x0 x6 x2 := by
  unfold out0_A_9
  refine (View.read_writes_eq_canon _ _ _ (by apply cover0_A_9)).trans ?_
  unfold kernelRun0_A
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  exact canon_g x0 x6 x2 (sl i) _ (sl_off i) _ _ _ _ _ _ _ _ _

theorem out10_A :
    out0_A_10 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 = dgB (sl i) x0 x6 x3 := by
  unfold out0_A_10
  refine (View.read_writes_eq_canon _ _ _ (by apply cover0_A_10)).trans ?_
  unfold kernelRun0_A
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  exact canon_u x0 x6 x3 (sl i) _ (sl_off i) _ _ _ _ _ _ _ _ _

theorem outs_A :
    sout0_A_0 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 = k0_pay3 (dgB (sl i) x0 x6 x2) (slc (sl i) x4) (dgB (sl i) x0 x6 x3) (slc (sl i) x5) := by
  unfold sout0_A_0
  refine (View.read_writes_eq_canon _ _ _ (by apply scover0_A_0)).trans ?_
  unfold kernelRun0_A
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  rw [View.canon_unit_zero hz2]
  exact congr4 (fun p q v w => k0_pay3 p q v w) (read_g _ x0 x6 x2 (sl i) _ (sl_off i) _ _ _ _ _ _ _ _ _ _) (ld_slc x4 (sl i) _ (sl_off i) _) (read_u _ x0 x6 x3 (sl i) _ (sl_off i) _ _ _ _ _ _ _ _ _ _) (ld_slc x5 (sl i) _ (sl_off i) _)

theorem out13_A :
    out0_A_13 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 = k0_pay10 (F := Ideal) := by
  unfold out0_A_13
  refine (View.read_writes_eq_canon _ _ _ (by apply cover0_A_13)).trans ?_
  unfold kernelRun0_A
  dsimp only
  sl_unfold_words
  rw [View.canon_unit_zero hz2]

end A

section B

variable (hc0 : ¬cond0_0 i) (hc1 : ¬cond0_1 i) (hc2 : cond0_2 i) (hc3 : ¬cond0_3 i) (s : Vec Ideal S512x1024 .f32)

theorem out9_B :
    out0_B_9 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 s = dgB (sl i) x0 x6 x2 := by
  unfold out0_B_9
  refine (View.read_writes_eq_canon _ _ _ (by apply cover0_B_9)).trans ?_
  unfold kernelRun0_B
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  exact canon_g x0 x6 x2 (sl i) _ (sl_off i) _ _ _ _ _ _ _ _ _

theorem out10_B :
    out0_B_10 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 s = dgB (sl i) x0 x6 x3 := by
  unfold out0_B_10
  refine (View.read_writes_eq_canon _ _ _ (by apply cover0_B_10)).trans ?_
  unfold kernelRun0_B
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  exact canon_u x0 x6 x3 (sl i) _ (sl_off i) _ _ _ _ _ _ _ _ _

theorem outs_B :
    sout0_B_0 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 s = k0_pay4 (dgB (sl i) x0 x6 x2) (slc (sl i) x4) (dgB (sl i) x0 x6 x3) (slc (sl i) x5) s := by
  unfold sout0_B_0
  refine (View.read_writes_eq_canon _ _ _ (by apply scover0_B_0)).trans ?_
  unfold kernelRun0_B
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  rw [View.canon_unit_zero hz2]
  exact congr4 (fun p q v w => k0_pay4 p q v w s) (read_g _ x0 x6 x2 (sl i) _ (sl_off i) _ _ _ _ _ _ _ _ _ _) (ld_slc x4 (sl i) _ (sl_off i) _) (read_u _ x0 x6 x3 (sl i) _ (sl_off i) _ _ _ _ _ _ _ _ _ _) (ld_slc x5 (sl i) _ (sl_off i) _)

end B

section C

variable (hc0 : ¬cond0_0 i) (hc1 : ¬cond0_1 i) (hc2 : cond0_2 i) (hc3 : cond0_3 i) (o : Vec Ideal S1x1024 .f32) (s : Vec Ideal S512x1024 .f32)

theorem out9_C :
    out0_C_9 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 o s = dgB (sl i) x0 x6 x2 := by
  unfold out0_C_9
  refine (View.read_writes_eq_canon _ _ _ (by apply cover0_C_9)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  exact canon_g x0 x6 x2 (sl i) _ (sl_off i) _ _ _ _ _ _ _ _ _

theorem out10_C :
    out0_C_10 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 o s = dgB (sl i) x0 x6 x3 := by
  unfold out0_C_10
  refine (View.read_writes_eq_canon _ _ _ (by apply cover0_C_10)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  exact canon_u x0 x6 x3 (sl i) _ (sl_off i) _ _ _ _ _ _ _ _ _

theorem outs_C :
    sout0_C_0 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 o s = k0_pay4 (dgB (sl i) x0 x6 x2) (slc (sl i) x4) (dgB (sl i) x0 x6 x3) (slc (sl i) x5) s := by
  unfold sout0_C_0
  refine (View.read_writes_eq_canon _ _ _ (by apply scover0_C_0)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  rw [View.canon_unit_zero hz2]
  exact congr4 (fun p q v w => k0_pay4 p q v w s) (read_g _ x0 x6 x2 (sl i) _ (sl_off i) _ _ _ _ _ _ _ _ _ _) (ld_slc x4 (sl i) _ (sl_off i) _) (read_u _ x0 x6 x3 (sl i) _ (sl_off i) _ _ _ _ _ _ _ _ _ _) (ld_slc x5 (sl i) _ (sl_off i) _)

theorem out11_C :
    out0_C_11 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 o s = k0_pay8 x7 (k0_pay4 (dgB (sl i) x0 x6 x2) (slc (sl i) x4) (dgB (sl i) x0 x6 x3) (slc (sl i) x5) s) x8 x1 := by
  unfold out0_C_11
  refine (View.read_writes_eq_canon _ _ _ (by apply cover0_C_11)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  rw [View.canon_unit_zero hz2]
  exact congr4 (fun p q v w => k0_pay8 x7 (k0_pay4 p q v w s) x8 x1) (read_g _ x0 x6 x2 (sl i) _ (sl_off i) _ _ _ _ _ _ _ _ _ _) (ld_slc x4 (sl i) _ (sl_off i) _) (read_u _ x0 x6 x3 (sl i) _ (sl_off i) _ _ _ _ _ _ _ _ _ _) (ld_slc x5 (sl i) _ (sl_off i) _)

theorem out12_C :
    out0_C_12 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 o s = k0_pay9 x7 (k0_pay4 (dgB (sl i) x0 x6 x2) (slc (sl i) x4) (dgB (sl i) x0 x6 x3) (slc (sl i) x5) s) x8 x1 := by
  unfold out0_C_12
  refine (View.read_writes_eq_canon _ _ _ (by apply cover0_C_12)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  rw [View.canon_unit_zero hz2]
  exact congr4 (fun p q v w => k0_pay9 x7 (k0_pay4 p q v w s) x8 x1) (read_g _ x0 x6 x2 (sl i) _ (sl_off i) _ _ _ _ _ _ _ _ _ _) (ld_slc x4 (sl i) _ (sl_off i) _) (read_u _ x0 x6 x3 (sl i) _ (sl_off i) _ _ _ _ _ _ _ _ _ _) (ld_slc x5 (sl i) _ (sl_off i) _)

theorem out13_C :
    out0_C_13 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 o s = k0_pay7 x7 (k0_pay4 (dgB (sl i) x0 x6 x2) (slc (sl i) x4) (dgB (sl i) x0 x6 x3) (slc (sl i) x5) s) o := by
  unfold out0_C_13
  refine (View.read_writes_eq_canon _ _ _ (by apply cover0_C_13)).trans ?_
  unfold kernelRun0_C
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  rw [View.canon_unit_zero hz2]
  exact congr4 (fun p q v w => k0_pay7 x7 (k0_pay4 p q v w s) o) (read_g _ x0 x6 x2 (sl i) _ (sl_off i) _ _ _ _ _ _ _ _ _ _) (ld_slc x4 (sl i) _ (sl_off i) _) (read_u _ x0 x6 x3 (sl i) _ (sl_off i) _ _ _ _ _ _ _ _ _ _) (ld_slc x5 (sl i) _ (sl_off i) _)

end C

section D

variable (hc0 : ¬cond0_0 i) (hc1 : cond0_1 i) (hc2 : ¬cond0_2 i) (hc3 : ¬cond0_3 i)

theorem out9_D :
    out0_D_9 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 = dgB (sl i) x0 x6 x2 := by
  unfold out0_D_9
  refine (View.read_writes_eq_canon _ _ _ (by apply cover0_D_9)).trans ?_
  unfold kernelRun0_D
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  exact canon_g x0 x6 x2 (sl i) _ (sl_off i) _ _ _ _ _ _ _ _ _

theorem out10_D :
    out0_D_10 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 = dgB (sl i) x0 x6 x3 := by
  unfold out0_D_10
  refine (View.read_writes_eq_canon _ _ _ (by apply cover0_D_10)).trans ?_
  unfold kernelRun0_D
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  exact canon_u x0 x6 x3 (sl i) _ (sl_off i) _ _ _ _ _ _ _ _ _

theorem outs_D :
    sout0_D_0 c i a2 h2 a3 h3 a4 h4 a5 h5 a6 h6 a7 h7 a8 h8 a9 h9 a10 h10 a11 h11 a12 h12 a13 h13 a14 h14 a15 h15 a16 h16 hc0 hc1 hc2 hc3 x0 x1 x2 x3 x4 x5 x6 x7 x8 = k0_pay3 (dgB (sl i) x0 x6 x2) (slc (sl i) x4) (dgB (sl i) x0 x6 x3) (slc (sl i) x5) := by
  unfold sout0_D_0
  refine (View.read_writes_eq_canon _ _ _ (by apply scover0_D_0)).trans ?_
  unfold kernelRun0_D
  dsimp only
  sl_unfold_words
  simp only [View.readAt_eq_ld, h2.read_unread, h3.read_unread, h4.read_unread, h5.read_unread, h6.read_unread, h7.read_unread, h8.read_unread, h9.read_unread, h10.read_unread, h16.read_unread, View.readCov_unit_zero (S := S1x1024) _ hz2, View.readCov_unit_zero (S := S512x1024) _ hz2, View.ld_unit_zero (S := S512x1024) hz2, View.ld_unit_zero (S := S1x1024) hz2, View.ld_unit_zero (S := S1x512x704) hz3]
  rw [View.canon_unit_zero hz2]
  exact congr4 (fun p q v w => k0_pay3 p q v w) (read_g _ x0 x6 x2 (sl i) _ (sl_off i) _ _ _ _ _ _ _ _ _ _) (ld_slc x4 (sl i) _ (sl_off i) _) (read_u _ x0 x6 x3 (sl i) _ (sl_off i) _ _ _ _ _ _ _ _ _ _) (ld_slc x5 (sl i) _ (sl_off i) _)

end D

end Cert.MlpBwdIdeal.Step
-- ==== Proof.MlpHost.lean ====
/-
What the host hands to the feed-forward part's backward kernel, entry by entry.
-/
module

public import proofs.«01_k».proof.Proof.Gen.MlpBwdIdeal.Value
public import proofs.«01_k».proof.Proof.Rms
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.MlpBwdIdeal.Step

open Cert.MlpBwdIdeal Cert.MlpBwdIdeal.Gen Cert.MlpBwdIdeal.Value

section Host

variable {F : FTy → Type} [FloatOps F]

def h_v0 (Wg : Vec F S1x1024x2816 .f32) : Vec F S1024x2816 .f32 := shapeCast S1024x2816 Wg shapeCasts_S1x1024x2816_S1024x2816
def h_v1 (Wg : Vec F S1x1024x2816 .f32) : Vec F S2816x1024 .f32 := ((transpose S2816x1024 [1, 0] · transposes_S1024x2816_S2816x1024_1_0) : (⟨S1024x2816, .f32⟩ : BufTy).Contents (Elt F) → (⟨S2816x1024, .f32⟩ : BufTy).Contents (Elt F)) (h_v0 Wg)
def h_v2 (Wu : Vec F S1x1024x2816 .f32) : Vec F S1024x2816 .f32 := shapeCast S1024x2816 Wu shapeCasts_S1x1024x2816_S1024x2816
def h_v3 (Wu : Vec F S1x1024x2816 .f32) : Vec F S2816x1024 .f32 := ((transpose S2816x1024 [1, 0] · transposes_S1024x2816_S2816x1024_1_0) : (⟨S1024x2816, .f32⟩ : BufTy).Contents (Elt F) → (⟨S2816x1024, .f32⟩ : BufTy).Contents (Elt F)) (h_v2 Wu)
def h_v4 (Wd : Vec F S1x2816x1024 .f32) : Vec F S2816x1024 .f32 := shapeCast S2816x1024 Wd shapeCasts_S1x2816x1024_S2816x1024
def h_v5 (Wg : Vec F S1x1024x2816 .f32) : Vec F S2816x1024 .bf16 := ((truncf .bf16 · bitsLt_bf16_f32) : (⟨S2816x1024, .f32⟩ : BufTy).Contents (Elt F) → (⟨S2816x1024, .bf16⟩ : BufTy).Contents (Elt F)) (h_v1 Wg)
def h_v6 (Wg : Vec F S1x1024x2816 .f32) : Vec F S4x704x1024 .bf16 := shapeCast S4x704x1024 (h_v5 Wg) shapeCasts_S2816x1024_S4x704x1024
def h_v7 (Wu : Vec F S1x1024x2816 .f32) : Vec F S2816x1024 .bf16 := ((truncf .bf16 · bitsLt_bf16_f32) : (⟨S2816x1024, .f32⟩ : BufTy).Contents (Elt F) → (⟨S2816x1024, .bf16⟩ : BufTy).Contents (Elt F)) (h_v3 Wu)
def h_v8 (Wu : Vec F S1x1024x2816 .f32) : Vec F S4x704x1024 .bf16 := shapeCast S4x704x1024 (h_v7 Wu) shapeCasts_S2816x1024_S4x704x1024
def h_v9 (Wd : Vec F S1x2816x1024 .f32) : Vec F S2816x1024 .bf16 := ((truncf .bf16 · bitsLt_bf16_f32) : (⟨S2816x1024, .f32⟩ : BufTy).Contents (Elt F) → (⟨S2816x1024, .bf16⟩ : BufTy).Contents (Elt F)) (h_v4 Wd)
def h_v10 (Wd : Vec F S1x2816x1024 .f32) : Vec F S4x704x1024 .bf16 := shapeCast S4x704x1024 (h_v9 Wd) shapeCasts_S2816x1024_S4x704x1024
def h_v11 (X : Vec F S4096x1024 .f32) : Vec F S4096x1024 .f32 := (mulf : (⟨S4096x1024, .f32⟩ : BufTy).Contents (Elt F) → (⟨S4096x1024, .f32⟩ : BufTy).Contents (Elt F) → (⟨S4096x1024, .f32⟩ : BufTy).Contents (Elt F)) X X
def h_cst  : Vec F S_ .f32 := constant (F := F) S_ .f32 0x00000000#32
def h_v12 (X : Vec F S4096x1024 .f32) : Vec F S4096 .f32 := ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)) (h_v11 X) (h_cst)
def h_v13 (X : Vec F S4096x1024 .f32) : Vec F S4096x1 .f32 := (broadcastInDim S4096x1 ![0] bcast_S4096_S4096x1_0 : (⟨S4096, .f32⟩ : BufTy).Contents (Elt F) → (⟨S4096x1, .f32⟩ : BufTy).Contents (Elt F)) (h_v12 X)
def h_cst_0  : Vec F S_ .f32 := constant (F := F) S_ .f32 0x44800000#32
def h_v14  : Vec F S4096x1 .f32 := (broadcastInDim S4096x1 ![] bcast_S_S4096x1 : (⟨S_, .f32⟩ : BufTy).Contents (Elt F) → (⟨S4096x1, .f32⟩ : BufTy).Contents (Elt F)) (h_cst_0)
def h_v15 (X : Vec F S4096x1024 .f32) : Vec F S4096x1 .f32 := (Host.divf : (⟨S4096x1, .f32⟩ : BufTy).Contents (Elt F) → (⟨S4096x1, .f32⟩ : BufTy).Contents (Elt F) → (⟨S4096x1, .f32⟩ : BufTy).Contents (Elt F)) (h_v13 X) (h_v14)
def h_cst_1  : Vec F S_ .f32 := constant (F := F) S_ .f32 0x358637BD#32
def h_v16  : Vec F S4096x1 .f32 := (broadcastInDim S4096x1 ![] bcast_S_S4096x1 : (⟨S_, .f32⟩ : BufTy).Contents (Elt F) → (⟨S4096x1, .f32⟩ : BufTy).Contents (Elt F)) (h_cst_1)
def h_v17 (X : Vec F S4096x1024 .f32) : Vec F S4096x1 .f32 := (addf : (⟨S4096x1, .f32⟩ : BufTy).Contents (Elt F) → (⟨S4096x1, .f32⟩ : BufTy).Contents (Elt F) → (⟨S4096x1, .f32⟩ : BufTy).Contents (Elt F)) (h_v15 X) (h_v16)
def h_v18 (X : Vec F S4096x1024 .f32) : Vec F S4096x1 .f32 := (Host.rsqrt : (⟨S4096x1, .f32⟩ : BufTy).Contents (Elt F) → (⟨S4096x1, .f32⟩ : BufTy).Contents (Elt F)) (h_v17 X)
def h_v19 (X : Vec F S4096x1024 .f32) : Vec F S4096x1024 .f32 := (broadcastInDim S4096x1024 ![0, 1] bcast_S4096x1_S4096x1024_0_1 : (⟨S4096x1, .f32⟩ : BufTy).Contents (Elt F) → (⟨S4096x1024, .f32⟩ : BufTy).Contents (Elt F)) (h_v18 X)
def h_v20 (X : Vec F S4096x1024 .f32) : Vec F S4096x1024 .f32 := (mulf : (⟨S4096x1024, .f32⟩ : BufTy).Contents (Elt F) → (⟨S4096x1024, .f32⟩ : BufTy).Contents (Elt F) → (⟨S4096x1024, .f32⟩ : BufTy).Contents (Elt F)) X (h_v19 X)
def h_v21 (G : Vec F S1x1024 .f32) : Vec F S4096x1024 .f32 := (broadcastInDim S4096x1024 ![0, 1] bcast_S1x1024_S4096x1024_0_1 : (⟨S1x1024, .f32⟩ : BufTy).Contents (Elt F) → (⟨S4096x1024, .f32⟩ : BufTy).Contents (Elt F)) G
def h_v22 (X : Vec F S4096x1024 .f32) (G : Vec F S1x1024 .f32) : Vec F S4096x1024 .f32 := (mulf : (⟨S4096x1024, .f32⟩ : BufTy).Contents (Elt F) → (⟨S4096x1024, .f32⟩ : BufTy).Contents (Elt F) → (⟨S4096x1024, .f32⟩ : BufTy).Contents (Elt F)) (h_v20 X) (h_v21 G)
def h_v23 (X : Vec F S4096x1024 .f32) (G : Vec F S1x1024 .f32) : Vec F S4096x1024 .bf16 := ((truncf .bf16 · bitsLt_bf16_f32) : (⟨S4096x1024, .f32⟩ : BufTy).Contents (Elt F) → (⟨S4096x1024, .bf16⟩ : BufTy).Contents (Elt F)) (h_v22 X G)
def h_v24 (X : Vec F S4096x1024 .f32) (G : Vec F S1x1024 .f32) : Vec F S4096x1024 .f32 := ((extf .f32 · bitsLt_bf16_f32) : (⟨S4096x1024, .bf16⟩ : BufTy).Contents (Elt F) → (⟨S4096x1024, .f32⟩ : BufTy).Contents (Elt F)) (h_v23 X G)
def h_v25 (Wg : Vec F S1x1024x2816 .f32) : Vec F S4x704x1024 .f32 := ((extf .f32 · bitsLt_bf16_f32) : (⟨S4x704x1024, .bf16⟩ : BufTy).Contents (Elt F) → (⟨S4x704x1024, .f32⟩ : BufTy).Contents (Elt F)) (h_v6 Wg)
def h_v26 (X : Vec F S4096x1024 .f32) (G : Vec F S1x1024 .f32) (Wg : Vec F S1x1024x2816 .f32) : Vec F S4x704x4096 .f32 := ((fun l r => Host.dotGeneral dot_S4x704x1024_S4096x1024_S4x704x4096_2_1_01_0_n_n none l r) : (⟨S4x704x1024, .f32⟩ : BufTy).Contents (Elt F) → (⟨S4096x1024, .f32⟩ : BufTy).Contents (Elt F) → (⟨S4x704x4096, .f32⟩ : BufTy).Contents (Elt F)) (h_v25 Wg) (h_v24 X G)
def h_v27 (X : Vec F S4096x1024 .f32) (G : Vec F S1x1024 .f32) (Wg : Vec F S1x1024x2816 .f32) : Vec F S4x4096x704 .f32 := ((transpose S4x4096x704 [0, 2, 1] · transposes_S4x704x4096_S4x4096x704_0_2_1) : (⟨S4x704x4096, .f32⟩ : BufTy).Contents (Elt F) → (⟨S4x4096x704, .f32⟩ : BufTy).Contents (Elt F)) (h_v26 X G Wg)
def h_v28 (Wu : Vec F S1x1024x2816 .f32) : Vec F S4x704x1024 .f32 := ((extf .f32 · bitsLt_bf16_f32) : (⟨S4x704x1024, .bf16⟩ : BufTy).Contents (Elt F) → (⟨S4x704x1024, .f32⟩ : BufTy).Contents (Elt F)) (h_v8 Wu)
def h_v29 (X : Vec F S4096x1024 .f32) (G : Vec F S1x1024 .f32) (Wu : Vec F S1x1024x2816 .f32) : Vec F S4x704x4096 .f32 := ((fun l r => Host.dotGeneral dot_S4x704x1024_S4096x1024_S4x704x4096_2_1_01_0_n_n none l r) : (⟨S4x704x1024, .f32⟩ : BufTy).Contents (Elt F) → (⟨S4096x1024, .f32⟩ : BufTy).Contents (Elt F) → (⟨S4x704x4096, .f32⟩ : BufTy).Contents (Elt F)) (h_v28 Wu) (h_v24 X G)
def h_v30 (X : Vec F S4096x1024 .f32) (G : Vec F S1x1024 .f32) (Wu : Vec F S1x1024x2816 .f32) : Vec F S4x4096x704 .f32 := ((transpose S4x4096x704 [0, 2, 1] · transposes_S4x704x4096_S4x4096x704_0_2_1) : (⟨S4x704x4096, .f32⟩ : BufTy).Contents (Elt F) → (⟨S4x4096x704, .f32⟩ : BufTy).Contents (Elt F)) (h_v29 X G Wu)
def h_v31 (X : Vec F S4096x1024 .f32) (G : Vec F S1x1024 .f32) (Wg : Vec F S1x1024x2816 .f32) : Vec F S4x4096x704 .f32 := (Host.negf : (⟨S4x4096x704, .f32⟩ : BufTy).Contents (Elt F) → (⟨S4x4096x704, .f32⟩ : BufTy).Contents (Elt F)) (h_v27 X G Wg)
def h_v32 (X : Vec F S4096x1024 .f32) (G : Vec F S1x1024 .f32) (Wg : Vec F S1x1024x2816 .f32) : Vec F S4x4096x704 .f32 := (Host.exp : (⟨S4x4096x704, .f32⟩ : BufTy).Contents (Elt F) → (⟨S4x4096x704, .f32⟩ : BufTy).Contents (Elt F)) (h_v31 X G Wg)
def h_cst_2  : Vec F S_ .f32 := constant (F := F) S_ .f32 0x3F800000#32
def h_v33  : Vec F S4x4096x704 .f32 := (broadcastInDim S4x4096x704 ![] bcast_S_S4x4096x704 : (⟨S_, .f32⟩ : BufTy).Contents (Elt F) → (⟨S4x4096x704, .f32⟩ : BufTy).Contents (Elt F)) (h_cst_2)
def h_v34 (X : Vec F S4096x1024 .f32) (G : Vec F S1x1024 .f32) (Wg : Vec F S1x1024x2816 .f32) : Vec F S4x4096x704 .f32 := (addf : (⟨S4x4096x704, .f32⟩ : BufTy).Contents (Elt F) → (⟨S4x4096x704, .f32⟩ : BufTy).Contents (Elt F) → (⟨S4x4096x704, .f32⟩ : BufTy).Contents (Elt F)) (h_v33) (h_v32 X G Wg)
def h_cst_3  : Vec F S_ .f32 := constant (F := F) S_ .f32 0x3F800000#32
def h_v35  : Vec F S4x4096x704 .f32 := (broadcastInDim S4x4096x704 ![] bcast_S_S4x4096x704 : (⟨S_, .f32⟩ : BufTy).Contents (Elt F) → (⟨S4x4096x704, .f32⟩ : BufTy).Contents (Elt F)) (h_cst_3)
def h_v36 (X : Vec F S4096x1024 .f32) (G : Vec F S1x1024 .f32) (Wg : Vec F S1x1024x2816 .f32) : Vec F S4x4096x704 .f32 := (Host.divf : (⟨S4x4096x704, .f32⟩ : BufTy).Contents (Elt F) → (⟨S4x4096x704, .f32⟩ : BufTy).Contents (Elt F) → (⟨S4x4096x704, .f32⟩ : BufTy).Contents (Elt F)) (h_v35) (h_v34 X G Wg)
def h_v37 (X : Vec F S4096x1024 .f32) (G : Vec F S1x1024 .f32) (Wg : Vec F S1x1024x2816 .f32) : Vec F S4x4096x704 .f32 := (mulf : (⟨S4x4096x704, .f32⟩ : BufTy).Contents (Elt F) → (⟨S4x4096x704, .f32⟩ : BufTy).Contents (Elt F) → (⟨S4x4096x704, .f32⟩ : BufTy).Contents (Elt F)) (h_v27 X G Wg) (h_v36 X G Wg)
def h_cst_4  : Vec F S_ .f32 := constant (F := F) S_ .f32 0x3F800000#32
def h_v38  : Vec F S4x4096x704 .f32 := (broadcastInDim S4x4096x704 ![] bcast_S_S4x4096x704 : (⟨S_, .f32⟩ : BufTy).Contents (Elt F) → (⟨S4x4096x704, .f32⟩ : BufTy).Contents (Elt F)) (h_cst_4)
def h_v39 (X : Vec F S4096x1024 .f32) (G : Vec F S1x1024 .f32) (Wg : Vec F S1x1024x2816 .f32) : Vec F S4x4096x704 .f32 := (subf : (⟨S4x4096x704, .f32⟩ : BufTy).Contents (Elt F) → (⟨S4x4096x704, .f32⟩ : BufTy).Contents (Elt F) → (⟨S4x4096x704, .f32⟩ : BufTy).Contents (Elt F)) (h_v38) (h_v36 X G Wg)
def h_v40 (X : Vec F S4096x1024 .f32) (G : Vec F S1x1024 .f32) (Wg : Vec F S1x1024x2816 .f32) : Vec F S4x4096x704 .f32 := (mulf : (⟨S4x4096x704, .f32⟩ : BufTy).Contents (Elt F) → (⟨S4x4096x704, .f32⟩ : BufTy).Contents (Elt F) → (⟨S4x4096x704, .f32⟩ : BufTy).Contents (Elt F)) (h_v27 X G Wg) (h_v39 X G Wg)
def h_cst_5  : Vec F S_ .f32 := constant (F := F) S_ .f32 0x3F800000#32
def h_v41  : Vec F S4x4096x704 .f32 := (broadcastInDim S4x4096x704 ![] bcast_S_S4x4096x704 : (⟨S_, .f32⟩ : BufTy).Contents (Elt F) → (⟨S4x4096x704, .f32⟩ : BufTy).Contents (Elt F)) (h_cst_5)
def h_v42 (X : Vec F S4096x1024 .f32) (G : Vec F S1x1024 .f32) (Wg : Vec F S1x1024x2816 .f32) : Vec F S4x4096x704 .f32 := (addf : (⟨S4x4096x704, .f32⟩ : BufTy).Contents (Elt F) → (⟨S4x4096x704, .f32⟩ : BufTy).Contents (Elt F) → (⟨S4x4096x704, .f32⟩ : BufTy).Contents (Elt F)) (h_v41) (h_v40 X G Wg)
def h_v43 (X : Vec F S4096x1024 .f32) (G : Vec F S1x1024 .f32) (Wg : Vec F S1x1024x2816 .f32) : Vec F S4x4096x704 .f32 := (mulf : (⟨S4x4096x704, .f32⟩ : BufTy).Contents (Elt F) → (⟨S4x4096x704, .f32⟩ : BufTy).Contents (Elt F) → (⟨S4x4096x704, .f32⟩ : BufTy).Contents (Elt F)) (h_v36 X G Wg) (h_v42 X G Wg)
def h_v44 (X : Vec F S4096x1024 .f32) (G : Vec F S1x1024 .f32) (Wg : Vec F S1x1024x2816 .f32) (Wu : Vec F S1x1024x2816 .f32) : Vec F S4x4096x704 .f32 := (mulf : (⟨S4x4096x704, .f32⟩ : BufTy).Contents (Elt F) → (⟨S4x4096x704, .f32⟩ : BufTy).Contents (Elt F) → (⟨S4x4096x704, .f32⟩ : BufTy).Contents (Elt F)) (h_v30 X G Wu) (h_v43 X G Wg)
def h_v45 (X : Vec F S4096x1024 .f32) (G : Vec F S1x1024 .f32) (Wg : Vec F S1x1024x2816 .f32) (Wu : Vec F S1x1024x2816 .f32) : Vec F S4x4096x704 .bf16 := ((truncf .bf16 · bitsLt_bf16_f32) : (⟨S4x4096x704, .f32⟩ : BufTy).Contents (Elt F) → (⟨S4x4096x704, .bf16⟩ : BufTy).Contents (Elt F)) (h_v44 X G Wg Wu)
def h_v46 (D : Vec F S4096x1024 .f32) : Vec F S4096x1024 .bf16 := ((truncf .bf16 · bitsLt_bf16_f32) : (⟨S4096x1024, .f32⟩ : BufTy).Contents (Elt F) → (⟨S4096x1024, .bf16⟩ : BufTy).Contents (Elt F)) D
def h_v47 (X : Vec F S4096x1024 .f32) (G : Vec F S1x1024 .f32) (Wg : Vec F S1x1024x2816 .f32) : Vec F S4x4096x704 .bf16 := ((truncf .bf16 · bitsLt_bf16_f32) : (⟨S4x4096x704, .f32⟩ : BufTy).Contents (Elt F) → (⟨S4x4096x704, .bf16⟩ : BufTy).Contents (Elt F)) (h_v37 X G Wg)

variable (m : (ℓ : Loc nD τ sig) → Buf (Elt F) ℓ) (c : Dev nD)

abbrev argX : Vec F S4096x1024 .f32 := m ((c : Thread nD τ).loc main_arg0)
abbrev argG : Vec F S1x1024 .f32 := m ((c : Thread nD τ).loc main_arg1)
abbrev argWg : Vec F S1x1024x2816 .f32 := m ((c : Thread nD τ).loc main_arg2)
abbrev argWu : Vec F S1x1024x2816 .f32 := m ((c : Thread nD τ).loc main_arg3)
abbrev argWd : Vec F S1x2816x1024 .f32 := m ((c : Thread nD τ).loc main_arg4)
abbrev argD : Vec F S4096x1024 .f32 := m ((c : Thread nD τ).loc main_arg5)

theorem V_v46 : V m c main_v46 = h_v46 (argD m c) := by
  show StableHlo.after hostOps0 (fun b => m (c, b)) (Proc.devRef .tc main_v46) = _
  simp only [hostOps0]
  after_results
  all_goals rfl

theorem V_v45 : V m c main_v45 = h_v45 (argX m c) (argG m c) (argWg m c) (argWu m c) := by
  show StableHlo.after hostOps0 (fun b => m (c, b)) (Proc.devRef .tc main_v45) = _
  simp only [hostOps0]
  after_results
  all_goals rfl

theorem V_v47 : V m c main_v47 = h_v47 (argX m c) (argG m c) (argWg m c) := by
  show StableHlo.after hostOps0 (fun b => m (c, b)) (Proc.devRef .tc main_v47) = _
  simp only [hostOps0]
  after_results
  all_goals rfl

theorem V_v6 : V m c main_v6 = h_v6 (argWg m c) := by
  show StableHlo.after hostOps0 (fun b => m (c, b)) (Proc.devRef .tc main_v6) = _
  simp only [hostOps0]
  after_results
  all_goals rfl

theorem V_v8 : V m c main_v8 = h_v8 (argWu m c) := by
  show StableHlo.after hostOps0 (fun b => m (c, b)) (Proc.devRef .tc main_v8) = _
  simp only [hostOps0]
  after_results
  all_goals rfl

theorem V_v10 : V m c main_v10 = h_v10 (argWd m c) := by
  show StableHlo.after hostOps0 (fun b => m (c, b)) (Proc.devRef .tc main_v10) = _
  simp only [hostOps0]
  after_results
  all_goals rfl

end Host

/-- A column of the feed-forward width, by its slice and its place in the slice. -/
def flat (s : Fin 4) (f : Fin 704) : Fin 2816 := ⟨s.val * 704 + f.val, by omega⟩

variable (X D : Vec Ideal S4096x1024 .f32) (G : Vec Ideal S1x1024 .f32) (Wg Wu : Vec Ideal S1x1024x2816 .f32) (Wd : Vec Ideal S1x2816x1024 .f32)

/-- A row's inverse root mean square. -/
def rr (R : Fin 4096) : EReal := Ideal.rsqrt (Rms.var fun k => X (ix2 R k))

/-- The normalised row times the weight's column: the gate's and the other branch's pre-activation. -/
def lin (W : Vec Ideal S1x1024x2816 .f32) (R : Fin 4096) (l : Fin 2816) : EReal := ∑ d : Fin 1024, X (ix2 R d) * rr X R * G (ix2 0 d) * W (ix3 0 d l)

/-- The logistic function as the programs write it. -/
def sg (a : EReal) : EReal := Ideal.div 1 (1 + Ideal.exp (-a))

/-- The gradient that comes back through the last product. -/
def da (R : Fin 4096) (l : Fin 2816) : EReal := ∑ d : Fin 1024, D (ix2 R d) * Wd (ix3 0 l d)

/-- The two factors the forward pass saved. -/
def udv (R : Fin 4096) (l : Fin 2816) : EReal := lin X G Wu R l * (sg (lin X G Wg R l) * (1 + lin X G Wg R l * (1 - sg (lin X G Wg R l))))
def siv (R : Fin 4096) (l : Fin 2816) : EReal := lin X G Wg R l * sg (lin X G Wg R l)

theorem h46_at (R : Fin 4096) (d : Fin 1024) : (h_v46 D) (ix2 R d) = D (ix2 R d) := by
  pointwise [h_v0, h_v1, h_v2, h_v3, h_v4, h_v5, h_v6, h_v7, h_v8, h_v9, h_v10, h_v11, h_cst, h_v12, h_v13, h_cst_0, h_v14, h_v15, h_cst_1, h_v16, h_v17, h_v18, h_v19, h_v20, h_v21, h_v22, h_v23, h_v24, h_v25, h_v26, h_v27, h_v28, h_v29, h_v30, h_v31, h_v32, h_cst_2, h_v33, h_v34, h_cst_3, h_v35, h_v36, h_v37, h_cst_4, h_v38, h_v39, h_v40, h_cst_5, h_v41, h_v42, h_v43, h_v44, h_v45, h_v46, h_v47]

theorem h6_at (s : Fin 4) (f : Fin 704) (d : Fin 1024) : (h_v6 Wg) (ix3 s f d) = Wg (ix3 0 d (flat s f)) := by
  pointwise [h_v0, h_v1, h_v2, h_v3, h_v4, h_v5, h_v6, h_v7, h_v8, h_v9, h_v10, h_v11, h_cst, h_v12, h_v13, h_cst_0, h_v14, h_v15, h_cst_1, h_v16, h_v17, h_v18, h_v19, h_v20, h_v21, h_v22, h_v23, h_v24, h_v25, h_v26, h_v27, h_v28, h_v29, h_v30, h_v31, h_v32, h_cst_2, h_v33, h_v34, h_cst_3, h_v35, h_v36, h_v37, h_cst_4, h_v38, h_v39, h_v40, h_cst_5, h_v41, h_v42, h_v43, h_v44, h_v45, h_v46, h_v47]
  rfl

theorem h8_at (s : Fin 4) (f : Fin 704) (d : Fin 1024) : (h_v8 Wu) (ix3 s f d) = Wu (ix3 0 d (flat s f)) := by
  pointwise [h_v0, h_v1, h_v2, h_v3, h_v4, h_v5, h_v6, h_v7, h_v8, h_v9, h_v10, h_v11, h_cst, h_v12, h_v13, h_cst_0, h_v14, h_v15, h_cst_1, h_v16, h_v17, h_v18, h_v19, h_v20, h_v21, h_v22, h_v23, h_v24, h_v25, h_v26, h_v27, h_v28, h_v29, h_v30, h_v31, h_v32, h_cst_2, h_v33, h_v34, h_cst_3, h_v35, h_v36, h_v37, h_cst_4, h_v38, h_v39, h_v40, h_cst_5, h_v41, h_v42, h_v43, h_v44, h_v45, h_v46, h_v47]
  rfl

theorem h10_at (s : Fin 4) (f : Fin 704) (d : Fin 1024) : (h_v10 Wd) (ix3 s f d) = Wd (ix3 0 (flat s f) d) := by
  pointwise [h_v0, h_v1, h_v2, h_v3, h_v4, h_v5, h_v6, h_v7, h_v8, h_v9, h_v10, h_v11, h_cst, h_v12, h_v13, h_cst_0, h_v14, h_v15, h_cst_1, h_v16, h_v17, h_v18, h_v19, h_v20, h_v21, h_v22, h_v23, h_v24, h_v25, h_v26, h_v27, h_v28, h_v29, h_v30, h_v31, h_v32, h_cst_2, h_v33, h_v34, h_cst_3, h_v35, h_v36, h_v37, h_cst_4, h_v38, h_v39, h_v40, h_cst_5, h_v41, h_v42, h_v43, h_v44, h_v45, h_v46, h_v47]
  rfl

theorem h27_at (s : Fin 4) (f : Fin 704) (R : Fin 4096) : (h_v27 X G Wg) (ix3 s R f) = lin X G Wg R (flat s f) := by
  pointwise [h_v0, h_v1, h_v2, h_v3, h_v4, h_v5, h_v7, h_v9, h_v10, h_v11, h_cst, h_v12, h_v13, h_cst_0, h_v14, h_v15, h_cst_1, h_v16, h_v17, h_v18, h_v19, h_v20, h_v21, h_v22, h_v23, h_v24, h_v25, h_v26, h_v27, h_v28, h_v29, h_v30, h_v31, h_v32, h_cst_2, h_v33, h_v34, h_cst_3, h_v35, h_v36, h_v37, h_cst_4, h_v38, h_v39, h_v40, h_cst_5, h_v41, h_v42, h_v43, h_v44, h_v45, h_v46, h_v47]
  simp only [h6_at]
  exact Finset.sum_congr rfl fun d _ => mul_comm _ _

theorem h30_at (s : Fin 4) (f : Fin 704) (R : Fin 4096) : (h_v30 X G Wu) (ix3 s R f) = lin X G Wu R (flat s f) := by
  pointwise [h_v0, h_v1, h_v2, h_v3, h_v4, h_v5, h_v7, h_v9, h_v10, h_v11, h_cst, h_v12, h_v13, h_cst_0, h_v14, h_v15, h_cst_1, h_v16, h_v17, h_v18, h_v19, h_v20, h_v21, h_v22, h_v23, h_v24, h_v25, h_v26, h_v27, h_v28, h_v29, h_v30, h_v31, h_v32, h_cst_2, h_v33, h_v34, h_cst_3, h_v35, h_v36, h_v37, h_cst_4, h_v38, h_v39, h_v40, h_cst_5, h_v41, h_v42, h_v43, h_v44, h_v45, h_v46, h_v47]
  simp only [h8_at]
  exact Finset.sum_congr rfl fun d _ => mul_comm _ _

theorem h45_at (s : Fin 4) (f : Fin 704) (R : Fin 4096) : (h_v45 X G Wg Wu) (ix3 s R f) = udv X G Wg Wu R (flat s f) := by
  pointwise [h_v0, h_v1, h_v2, h_v3, h_v4, h_v5, h_v6, h_v7, h_v8, h_v9, h_v10, h_v11, h_cst, h_v12, h_v13, h_cst_0, h_v14, h_v15, h_cst_1, h_v16, h_v17, h_v18, h_v19, h_v20, h_v21, h_v22, h_v23, h_v24, h_v25, h_v26, h_v28, h_v29, h_v31, h_v32, h_cst_2, h_v33, h_v34, h_cst_3, h_v35, h_v36, h_v37, h_cst_4, h_v38, h_v39, h_v40, h_cst_5, h_v41, h_v42, h_v43, h_v44, h_v45, h_v46, h_v47]
  simp only [h27_at, h30_at]
  rfl

theorem h47_at (s : Fin 4) (f : Fin 704) (R : Fin 4096) : (h_v47 X G Wg) (ix3 s R f) = siv X G Wg R (flat s f) := by
  pointwise [h_v0, h_v1, h_v2, h_v3, h_v4, h_v5, h_v6, h_v7, h_v8, h_v9, h_v10, h_v11, h_cst, h_v12, h_v13, h_cst_0, h_v14, h_v15, h_cst_1, h_v16, h_v17, h_v18, h_v19, h_v20, h_v21, h_v22, h_v23, h_v24, h_v25, h_v26, h_v28, h_v29, h_v31, h_v32, h_cst_2, h_v33, h_v34, h_cst_3, h_v35, h_v36, h_v37, h_cst_4, h_v38, h_v39, h_v40, h_cst_5, h_v41, h_v42, h_v43, h_v44, h_v45, h_v46, h_v47]
  simp only [h27_at]
  rfl

end Cert.MlpBwdIdeal.Step
-- ==== Proof.MlpKernel.lean ====
/-
The arrays the feed-forward part's backward kernel leaves, entry by entry.
-/
module

public import proofs.«01_k».proof.Proof.MlpStep
public import proofs.«01_k».proof.Proof.MlpHost
public import proofs.«01_k».proof.Proof.CumsumAlgebra

@[expose] public section

set_option maxRecDepth 16384

noncomputable section

open Idealize.ShloMosaic Idealize.ShloMosaic.TcCoe Idealize.SL.Sem
open Idealize.ShloMosaic.Pipeline (Dat Window)

namespace Cert.MlpBwdIdeal.Step

open Cert.MlpBwdIdeal Cert.MlpBwdIdeal.Gen Cert.MlpBwdIdeal.Value Cert.CumsumAlgebra

theorem idx0 : ∀ t : Fin cfg0.N, win0_0.index t = ![t.val / 4, 0] := by decide +kernel
theorem idx1 : ∀ t : Fin cfg0.N, win0_1.index t = ![t.val / 4, 0] := by decide +kernel
theorem idx7 : ∀ t : Fin cfg0.N, win0_7.index t = ![t.val / 4, 0] := by decide +kernel
theorem idx11 : ∀ t : Fin cfg0.N, win0_11.index t = ![t.val / 4, 0] := by decide +kernel
theorem idx12 : ∀ t : Fin cfg0.N, win0_12.index t = ![t.val / 4, 0] := by decide +kernel
theorem idx2 : ∀ t : Fin cfg0.N, win0_2.index t = ![t.val % 4, t.val / 4, 0] := by decide +kernel
theorem idx3 : ∀ t : Fin cfg0.N, win0_3.index t = ![t.val % 4, t.val / 4, 0] := by decide +kernel
theorem idx9 : ∀ t : Fin cfg0.N, win0_9.index t = ![t.val % 4, t.val / 4, 0] := by decide +kernel
theorem idx10 : ∀ t : Fin cfg0.N, win0_10.index t = ![t.val % 4, t.val / 4, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx8 : ∀ t : Fin cfg0.N, win0_8.index t = ![0, 0] := by decide +kernel
theorem idx13 : ∀ t : Fin cfg0.N, win0_13.index t = ![0, 0] := by decide +kernel

/-- The row of the whole array that row `r` of point `t`'s block is. -/
def row (t : Fin cfg0.N) (r : Fin 512) : Fin 4096 := ⟨512 * (t.val / 4) + r.val, by have hN : cfg0.N = 32 := rfl; have := t.isLt; have := r.isLt; omega⟩

/-- The slice of the width that point `t` works on. -/
def s4 (t : Fin cfg0.N) : Fin 4 := ⟨t.val % 4, by omega⟩

theorem sl_coords : ∀ t : Fin cfg0.N, sl (grid0.coords t) = s4 t := by decide +kernel

section Blocks

variable {F : FTy → Type} [FloatOps F] (m : (ℓ : Loc nD τ sig) → Buf (Elt F) ℓ) (c : Dev nD)

theorem iblk1 (t : Fin cfg0.N) (r : Fin 512) (x : Fin 1024) :
    iblk m c 1 t (ix2 r x) = argD m c (ix2 (row t r) x) := by
  unfold iblk
  rw [View.read_apply]
  show V m c main_arg5 _ = _
  rw [V_main_arg5]
  congr 1
  funext a
  apply Fin.ext
  show ((win0_1.rect t).emb (ix2 r x) a : Nat) = _
  rw [Window.rect_emb_val win0_1 t _ a rfl, idx1]
  fin_cases a
  · show t.val / 4 * 512 + r.val = 512 * (t.val / 4) + r.val; omega
  · show 0 * 1024 + x.val = x.val; omega

theorem iblk7 (t : Fin cfg0.N) (r : Fin 512) (x : Fin 1024) :
    iblk m c 7 t (ix2 r x) = argX m c (ix2 (row t r) x) := by
  unfold iblk
  rw [View.read_apply]
  show V m c main_arg0 _ = _
  rw [V_main_arg0]
  congr 1
  funext a
  apply Fin.ext
  show ((win0_7.rect t).emb (ix2 r x) a : Nat) = _
  rw [Window.rect_emb_val win0_7 t _ a rfl, idx7]
  fin_cases a
  · show t.val / 4 * 512 + r.val = 512 * (t.val / 4) + r.val; omega
  · show 0 * 1024 + x.val = x.val; omega

theorem iblk0 (t : Fin cfg0.N) (r : Fin 512) (x : Fin 1024) :
    iblk m c 0 t (ix2 r x) = (V m c main_v46 : Vec F S4096x1024 .bf16) (ix2 (row t r) x) := by
  unfold iblk
  rw [View.read_apply]
  show V m c main_v46 _ = _
  congr 1
  funext a
  apply Fin.ext
  show ((win0_0.rect t).emb (ix2 r x) a : Nat) = _
  rw [Window.rect_emb_val win0_0 t _ a rfl, idx0]
  fin_cases a
  · show t.val / 4 * 512 + r.val = 512 * (t.val / 4) + r.val; omega
  · show 0 * 1024 + x.val = x.val; omega

theorem iblk2 (t : Fin cfg0.N) (r : Fin 512) (x : Fin 704) :
    iblk m c 2 t (ix3 (0 : Fin 1) r x) = (V m c main_v45 : Vec F S4x4096x704 .bf16) (ix3 (s4 t) (row t r) x) := by
  unfold iblk
  rw [View.read_apply]
  show V m c main_v45 _ = _
  congr 1
  funext a
  apply Fin.ext
  show ((win0_2.rect t).emb (ix3 (0 : Fin 1) r x) a : Nat) = _
  rw [Window.rect_emb_val win0_2 t _ a rfl, idx2]
  fin_cases a
  · show t.val % 4 * 1 + 0 = t.val % 4; omega
  · show t.val / 4 * 512 + r.val = 512 * (t.val / 4) + r.val; omega
  · show 0 * 704 + x.val = x.val; omega

theorem iblk3 (t : Fin cfg0.N) (r : Fin 512) (x : Fin 704) :
    iblk m c 3 t (ix3 (0 : Fin 1) r x) = (V m c main_v47 : Vec F S4x4096x704 .bf16) (ix3 (s4 t) (row t r) x) := by
  unfold iblk
  rw [View.read_apply]
  show V m c main_v47 _ = _
  congr 1
  funext a
  apply Fin.ext
  show ((win0_3.rect t).emb (ix3 (0 : Fin 1) r x) a : Nat) = _
  rw [Window.rect_emb_val win0_3 t _ a rfl, idx3]
  fin_cases a
  · show t.val % 4 * 1 + 0 = t.val % 4; omega
  · show t.val / 4 * 512 + r.val = 512 * (t.val / 4) + r.val; omega
  · show 0 * 704 + x.val = x.val; omega

theorem iblk4 (t : Fin cfg0.N) (s : Fin 4) (r : Fin 704) (x : Fin 1024) :
    iblk m c 4 t (ix3 s r x) = (V m c main_v6 : Vec F S4x704x1024 .bf16) (ix3 s r x) := by
  unfold iblk
  rw [View.read_apply]
  show V m c main_v6 _ = _
  congr 1
  funext a
  apply Fin.ext
  show ((win0_4.rect t).emb (ix3 s r x) a : Nat) = _
  rw [Window.rect_emb_val win0_4 t _ a rfl, idx4]
  fin_cases a
  · show 0 * 4 + s.val = s.val; omega
  · show 0 * 704 + r.val = r.val; omega
  · show 0 * 1024 + x.val = x.val; omega

theorem iblk5 (t : Fin cfg0.N) (s : Fin 4) (r : Fin 704) (x : Fin 1024) :
    iblk m c 5 t (ix3 s r x) = (V m c main_v8 : Vec F S4x704x1024 .bf16) (ix3 s r x) := by
  unfold iblk
  rw [View.read_apply]
  show V m c main_v8 _ = _
  congr 1
  funext a
  apply Fin.ext
  show ((win0_5.rect t).emb (ix3 s r x) a : Nat) = _
  rw [Window.rect_emb_val win0_5 t _ a rfl, idx5]
  fin_cases a
  · show 0 * 4 + s.val = s.val; omega
  · show 0 * 704 + r.val = r.val; omega
  · show 0 * 1024 + x.val = x.val; omega

theorem iblk6 (t : Fin cfg0.N) (s : Fin 4) (r : Fin 704) (x : Fin 1024) :
    iblk m c 6 t (ix3 s r x) = (V m c main_v10 : Vec F S4x704x1024 .bf16) (ix3 s r x) := by
  unfold iblk
  rw [View.read_apply]
  show V m c main_v10 _ = _
  congr 1
  funext a
  apply Fin.ext
  show ((win0_6.rect t).emb (ix3 s r x) a : Nat) = _
  rw [Window.rect_emb_val win0_6 t _ a rfl, idx6]
  fin_cases a
  · show 0 * 4 + s.val = s.val; omega
  · show 0 * 704 + r.val = r.val; omega
  · show 0 * 1024 + x.val = x.val; omega

theorem iblk8 (t : Fin cfg0.N) (x : Fin 1024) :
    iblk m c 8 t (ix2 (0 : Fin 1) x) = argG m c (ix2 (0 : Fin 1) x) := by
  unfold iblk
  rw [View.read_apply]
  show V m c main_arg1 _ = _
  rw [V_main_arg1]
  congr 1
  funext a
  apply Fin.ext
  show ((win0_8.rect t).emb (ix2 (0 : Fin 1) x) a : Nat) = _
  rw [Window.rect_emb_val win0_8 t _ a rfl, idx8]
  fin_cases a
  · rfl
  · show 0 * 1024 + x.val = x.val; omega

end Blocks

variable (m : (ℓ : Loc nD τ sig) → Buf (Elt Ideal) ℓ) (c : Dev nD)

/-- The gradients at the two branches, as the kernel writes them. -/
def dgK (R : Fin 4096) (l : Fin 2816) : EReal := da (argD m c) (argWd m c) R l * udv (argX m c) (argG m c) (argWg m c) (argWu m c) R l
def duK (R : Fin 4096) (l : Fin 2816) : EReal := da (argD m c) (argWd m c) R l * siv (argX m c) (argG m c) (argWg m c) R l

/-- One column's part of the normalised row's gradient. -/
def term (R : Fin 4096) (d : Fin 1024) (l : Fin 2816) : EReal := dgK m c R l * argWg m c (ix3 0 d l) + duK m c R l * argWu m c (ix3 0 d l)

/-- The normalised row's gradient. -/
def dh (R : Fin 4096) (d : Fin 1024) : EReal := ∑ l : Fin 2816, term m c R d l

theorem dgB_at (s : Fin 4) (x0 : Vec Ideal S512x1024 .bf16) (x6 : Vec Ideal S4x704x1024 .bf16) (u : Vec Ideal S1x512x704 .bf16) (r : Fin 512) (f : Fin 704) :
    dgB s x0 x6 u (ix3 0 r f) = (∑ d : Fin 1024, x0 (ix2 r d) * x6 (ix3 s f d)) * u (ix3 0 r f) := rfl

theorem slc_at (s : Fin 4) (x : Vec Ideal S4x704x1024 .bf16) (f : Fin 704) (d : Fin 1024) : slc s x (ix3 0 f d) = x (ix3 s f d) := rfl

theorem dg_blk (t : Fin cfg0.N) (r : Fin 512) (f : Fin 704) :
    dgB (sl (grid0.coords t)) (iblk m c 0 t) (iblk m c 6 t) (iblk m c 2 t) (ix3 0 r f) = dgK m c (row t r) (flat (s4 t) f) := by
  refine (dgB_at _ _ _ _ r f).trans ?_
  refine congrArg₂ (· * ·) (Finset.sum_congr rfl fun d _ => congrArg₂ (· * ·) ?_ ?_) ?_
  · rw [iblk0, V_v46, h46_at]
  · rw [sl_coords, iblk6, V_v10, h10_at]
  · rw [iblk2, V_v45, h45_at]

theorem du_blk (t : Fin cfg0.N) (r : Fin 512) (f : Fin 704) :
    dgB (sl (grid0.coords t)) (iblk m c 0 t) (iblk m c 6 t) (iblk m c 3 t) (ix3 0 r f) = duK m c (row t r) (flat (s4 t) f) := by
  refine (dgB_at _ _ _ _ r f).trans ?_
  refine congrArg₂ (· * ·) (Finset.sum_congr rfl fun d _ => congrArg₂ (· * ·) ?_ ?_) ?_
  · rw [iblk0, V_v46, h46_at]
  · rw [sl_coords, iblk6, V_v10, h10_at]
  · rw [iblk3, V_v47, h47_at]

theorem pay2_at (a b : Vec Ideal S1x512x704 .bf16) (w v : Vec Ideal S1x704x1024 .bf16) (r : Fin 512) (d : Fin 1024) :
    k0_pay2 a w b v (ix2 r d) = ∑ f : Fin 704, a (ix3 0 r f) * w (ix3 0 f d) + ∑ f : Fin 704, b (ix3 0 r f) * v (ix3 0 f d) := by
  pointwise [k0_pay2]

/-- What point `t` adds to the block's sum over the width. -/
abbrev part (t : Fin cfg0.N) : Vec Ideal S512x1024 .f32 :=
  k0_pay2 (dgB (sl (grid0.coords t)) (iblk m c 0 t) (iblk m c 6 t) (iblk m c 2 t)) (slc (sl (grid0.coords t)) (iblk m c 4 t))
    (dgB (sl (grid0.coords t)) (iblk m c 0 t) (iblk m c 6 t) (iblk m c 3 t)) (slc (sl (grid0.coords t)) (iblk m c 5 t))

theorem part_at (t : Fin cfg0.N) (r : Fin 512) (d : Fin 1024) :
    part m c t (ix2 r d) = ∑ f : Fin 704, term m c (row t r) d (flat (s4 t) f) := by
  refine (pay2_at _ _ _ _ r d).trans ?_
  rw [← Finset.sum_add_distrib]
  refine Finset.sum_congr rfl fun f _ => ?_
  rw [dg_blk, du_blk]
  refine congrArg₂ (· + ·) (congrArg (_ * ·) ((slc_at _ _ f d).trans ?_)) (congrArg (_ * ·) ((slc_at _ _ f d).trans ?_))
  · rw [sl_coords, iblk4, V_v6, h6_at]
  · rw [sl_coords, iblk5, V_v8, h8_at]

theorem pay4_at (a b : Vec Ideal S1x512x704 .bf16) (w v : Vec Ideal S1x704x1024 .bf16) (o : Vec Ideal S512x1024 .f32) (r : Fin 512) (d : Fin 1024) :
    k0_pay4 a w b v o (ix2 r d) = o (ix2 r d) + k0_pay2 a w b v (ix2 r d) := by
  pointwise [k0_pay4]

theorem pay3_at (a b : Vec Ideal S1x512x704 .bf16) (w v : Vec Ideal S1x704x1024 .bf16) (r : Fin 512) (d : Fin 1024) :
    k0_pay3 a w b v (ix2 r d) = k0_pay2 a w b v (ix2 r d) := by
  pointwise [k0_pay3]

/-- The block's running sum after one more slice. -/
theorem acc_step (t : Fin cfg0.N) (r : Fin 512) (d : Fin 1024) (o : EReal)
    (ho : o = ∑ k ∈ Finset.range (704 * (t.val % 4)), ext (term m c (row t r) d) k) :
    o + part m c t (ix2 r d) = ∑ k ∈ Finset.range (704 * (t.val % 4 + 1)), ext (term m c (row t r) d) k := by
  rw [part_at, ho, show 704 * (t.val % 4 + 1) = 704 * (t.val % 4) + 704 by omega, Finset.sum_range_add,
    ← Fin.sum_univ_eq_sum_range (fun x => ext (term m c (row t r) d) (704 * (t.val % 4) + x))]
  congr 1
  refine Finset.sum_congr rfl fun f _ => ?_
  rw [← ext_lt (term m c (row t r) d) (flat (s4 t) f)]
  congr 1
  show t.val % 4 * 704 + f.val = 704 * (t.val % 4) + f.val
  omega

theorem acc_full (R : Fin 4096) (d : Fin 1024) : ∑ k ∈ Finset.range (704 * (3 + 1)), ext (term m c R d) k = dh m c R d := by
  rw [show 704 * (3 + 1) = 2816 from rfl, ← Fin.sum_univ_eq_sum_range]
  exact Finset.sum_congr rfl fun l _ => ext_lt (term m c R d) l

theorem rr_blk (t : Fin cfg0.N) (r : Fin 512) : k0_pay5 (iblk m c 7 t) (ix2 r 0) = rr (argX m c) (row t r) := by
  pointwise [k0_pay5]
  simp only [iblk7]
  rfl

theorem xh_blk (t : Fin cfg0.N) (r : Fin 512) (l : Fin 1024) :
    k0_pay6 (iblk m c 7 t) (ix2 r l) = argX m c (ix2 (row t r) l) * rr (argX m c) (row t r) := by
  pointwise [k0_pay6]
  rw [rr_blk, iblk7]

/-- The input's gradient as the kernel writes it. -/
def dxK (R : Fin 4096) (l : Fin 1024) : EReal :=
  argD m c (ix2 R l) + rr (argX m c) R * (dh m c R l * argG m c (ix2 0 l) - argX m c (ix2 R l) * rr (argX m c) R
    * Ideal.div (∑ k, dh m c R k * argG m c (ix2 0 k) * (argX m c (ix2 R k) * rr (argX m c) R)) (Ideal.ofBits .f32 1149239296#32))

theorem dx_blk (t : Fin cfg0.N) (acc : Vec Ideal S512x1024 .f32) (hacc : ∀ r d, acc (ix2 r d) = dh m c (row t r) d) (r : Fin 512) (l : Fin 1024) :
    k0_pay8 (iblk m c 7 t) acc (iblk m c 8 t) (iblk m c 1 t) (ix2 r l) = dxK m c (row t r) l := by
  pointwise [k0_pay8]
  simp only [hacc, rr_blk, xh_blk, iblk8, iblk1]
  rfl

theorem dxb_blk (t : Fin cfg0.N) (acc : Vec Ideal S512x1024 .f32) (hacc : ∀ r d, acc (ix2 r d) = dh m c (row t r) d) (r : Fin 512) (l : Fin 1024) :
    k0_pay9 (iblk m c 7 t) acc (iblk m c 8 t) (iblk m c 1 t) (ix2 r l) = dxK m c (row t r) l :=
  dx_blk m c t acc hacc r l

/-- A row's part of the norm weight's gradient. -/
def dnK (l : Fin 1024) (R : Fin 4096) : EReal := dh m c R l * (argX m c (ix2 R l) * rr (argX m c) R)

theorem dn_blk (t : Fin cfg0.N) (acc : Vec Ideal S512x1024 .f32) (hacc : ∀ r d, acc (ix2 r d) = dh m c (row t r) d) (o : Vec Ideal S1x1024 .f32) (l : Fin 1024)
    (ho : o (ix2 0 l) = ∑ k ∈ Finset.range (512 * (t.val / 4)), ext (dnK m c l) k) :
    k0_pay7 (iblk m c 7 t) acc o (ix2 0 l) = ∑ k ∈ Finset.range (512 * (t.val / 4 + 1)), ext (dnK m c l) k := by
  pointwise [k0_pay7]
  rw [ho]
  simp only [hacc, xh_blk]
  rw [show 512 * (t.val / 4 + 1) = 512 * (t.val / 4) + 512 by omega, Finset.sum_range_add, ← Fin.sum_univ_eq_sum_range (fun x => ext (dnK m c l) (512 * (t.val / 4) + x))]
  congr 1
  exact Finset.sum_congr rfl fun x _ => (ext_lt (dnK m c l) (row t x)).symm

/-- What the outputs and the scratch hold after point `t`. -/
def Inv (t : Fin cfg0.N) (o : Vec Ideal S1x512x704 .bf16 × Vec Ideal S1x512x704 .bf16 × Vec Ideal S512x1024 .f32 × Vec Ideal S512x1024 .bf16 × Vec Ideal S1x1024 .f32 × Vec Ideal S512x1024 .f32) : Prop :=
  (∀ r f, o.1 (ix3 0 r f) = dgK m c (row t r) (flat (s4 t) f)) ∧ (∀ r f, o.2.1 (ix3 0 r f) = duK m c (row t r) (flat (s4 t) f))
  ∧ (t.val % 4 = 3 → ∀ r d, o.2.2.1 (ix2 r d) = dxK m c (row t r) d ∧ o.2.2.2.1 (ix2 r d) = dxK m c (row t r) d)
  ∧ (∀ d, o.2.2.2.2.1 (ix2 0 d) = ∑ k ∈ Finset.range (512 * ((t.val + 1) / 4)), ext (dnK m c d) k)
  ∧ ∀ r d, o.2.2.2.2.2 (ix2 r d) = ∑ k ∈ Finset.range (704 * (t.val % 4 + 1)), ext (term m c (row t r) d) k

theorem zero_apply (l : Fin 1024) : k0_pay10 (F := Ideal) (ix2 0 l) = 0 := by
  pointwise [k0_pay10]

theorem row_pred (t t' : Fin cfg0.N) (h : t.val / 4 = t'.val / 4) (r : Fin 512) : row t r = row t' r :=
  Fin.ext (by show 512 * (t.val / 4) + r.val = 512 * (t'.val / 4) + r.val; rw [h])

theorem first_acc (t : Fin cfg0.N) (h : t.val % 4 = 0) (r : Fin 512) (d : Fin 1024) :
    part m c t (ix2 r d) = ∑ k ∈ Finset.range (704 * (t.val % 4 + 1)), ext (term m c (row t r) d) k := by
  rw [← acc_step m c t r d 0 (by rw [h]; rfl), zero_add]

theorem inv_all : ∀ (n : ℕ) (hn : n < cfg0.N), Inv m c ⟨n, hn⟩ (outsAt0 m c n hn)
  | 0, hn => by
    have h := outsAt0_A m c ⟨0, hn⟩ (Nat.zero_mod _) (Nat.zero_mod _) (by show ¬1 ≤ 0 % 4; omega) (by show ¬0 % 4 = 3; omega)
    dsimp only at h
    rw [h, out9_A, out10_A, out13_A, outs_A]
    refine ⟨fun r f => dg_blk m c ⟨0, hn⟩ r f, fun r f => du_blk m c ⟨0, hn⟩ r f, fun h => absurd h (by show ¬0 % 4 = 3; omega), fun d => ?_, fun r d => ?_⟩
    · exact (zero_apply d).trans (by show (0 : EReal) = ∑ k ∈ Finset.range (512 * ((0 + 1) / 4)), _; rfl)
    · exact (pay3_at _ _ _ _ r d).trans (first_acc m c ⟨0, hn⟩ rfl r d)
  | n + 1, hn => by
    have hN : cfg0.N = 32 := rfl
    obtain ⟨-, -, -, ihd, ihs⟩ := inv_all n (by omega)
    by_cases h1 : (n + 1) % 4 = 0
    · have h := outsAt0_D m c ⟨n + 1, hn⟩ (by show ¬(n + 1) % 32 = 0; omega) h1 (by show ¬1 ≤ (n + 1) % 4; omega) (by show ¬(n + 1) % 4 = 3; omega)
      dsimp only at h
      rw [h, out9_D, out10_D, outs_D]
      refine ⟨fun r f => dg_blk m c ⟨n + 1, hn⟩ r f, fun r f => du_blk m c ⟨n + 1, hn⟩ r f, fun h => absurd h (by show ¬(n + 1) % 4 = 3; omega), fun d => ?_, fun r d => ?_⟩
      · refine (ihd d).trans ?_
        show ∑ k ∈ Finset.range (512 * ((n + 1) / 4)), _ = ∑ k ∈ Finset.range (512 * ((n + 1 + 1) / 4)), _
        rw [show (n + 1 + 1) / 4 = (n + 1) / 4 by omega]
      · exact (pay3_at _ _ _ _ r d).trans (first_acc m c ⟨n + 1, hn⟩ h1 r d)
    · have hacc : ∀ (o : Vec Ideal S512x1024 .f32), (∀ r d, o (ix2 r d) = ∑ k ∈ Finset.range (704 * (n % 4 + 1)), ext (term m c (row ⟨n, by omega⟩ r) d) k) → ∀ r d,
          o (ix2 r d) + part m c ⟨n + 1, hn⟩ (ix2 r d) = ∑ k ∈ Finset.range (704 * ((n + 1) % 4 + 1)), ext (term m c (row ⟨n + 1, hn⟩ r) d) k := by
        intro o ho r d
        refine acc_step m c ⟨n + 1, hn⟩ r d _ ((ho r d).trans ?_)
        show _ = ∑ k ∈ Finset.range (704 * ((n + 1) % 4)), _
        rw [show (n + 1) % 4 = n % 4 + 1 by omega, row_pred ⟨n, by omega⟩ ⟨n + 1, hn⟩ (by show n / 4 = (n + 1) / 4; omega)]
      by_cases h3 : (n + 1) % 4 = 3
      · have h := outsAt0_C m c ⟨n + 1, hn⟩ (by show ¬(n + 1) % 32 = 0; omega) h1 (by show 1 ≤ (n + 1) % 4; omega) h3
        dsimp only at h
        rw [h, out9_C, out10_C, out11_C, out12_C, out13_C, outs_C]
        have hs := fun r d => (pay4_at _ _ _ _ _ r d).trans (hacc _ ihs r d)
        have hf : ∀ r d, _ = dh m c (row ⟨n + 1, hn⟩ r) d := fun r d => (hs r d).trans (by rw [h3]; exact acc_full m c _ d)
        refine ⟨fun r f => dg_blk m c ⟨n + 1, hn⟩ r f, fun r f => du_blk m c ⟨n + 1, hn⟩ r f, fun _ r d => ⟨dx_blk m c ⟨n + 1, hn⟩ _ hf r d, dxb_blk m c ⟨n + 1, hn⟩ _ hf r d⟩, fun d => ?_, hs⟩
        refine (dn_blk m c ⟨n + 1, hn⟩ _ hf _ d (ihd d)).trans ?_
        show ∑ k ∈ Finset.range (512 * ((n + 1) / 4 + 1)), _ = ∑ k ∈ Finset.range (512 * ((n + 1 + 1) / 4)), _
        rw [show (n + 1 + 1) / 4 = (n + 1) / 4 + 1 by omega]
      · have h := outsAt0_B m c ⟨n + 1, hn⟩ (by show ¬(n + 1) % 32 = 0; omega) h1 (by show 1 ≤ (n + 1) % 4; omega) h3
        dsimp only at h
        rw [h, out9_B, out10_B, outs_B]
        refine ⟨fun r f => dg_blk m c ⟨n + 1, hn⟩ r f, fun r f => du_blk m c ⟨n + 1, hn⟩ r f, fun h => absurd h h3, fun d => ?_, fun r d => (pay4_at _ _ _ _ _ r d).trans (hacc _ ihs r d)⟩
        refine (ihd d).trans ?_
        show ∑ k ∈ Finset.range (512 * ((n + 1) / 4)), _ = ∑ k ∈ Finset.range (512 * ((n + 1 + 1) / 4)), _
        rw [show (n + 1 + 1) / 4 = (n + 1) / 4 by omega]

/-- The slice, the point and the place in the block of an entry of a sliced array. -/
def pt (s : Fin 4) (R : Fin 4096) : Fin cfg0.N := ⟨4 * (R.val / 512) + s.val, by have hN : cfg0.N = 32 := rfl; omega⟩

theorem row_pt (s : Fin 4) (R : Fin 4096) : row (pt s R) ⟨R.val % 512, Nat.mod_lt _ (by decide)⟩ = R :=
  Fin.ext (by show 512 * ((4 * (R.val / 512) + s.val) / 4) + R.val % 512 = R.val; omega)

theorem s4_pt (s : Fin 4) (R : Fin 4096) : s4 (pt s R) = s := Fin.ext (by show (4 * (R.val / 512) + s.val) % 4 = s.val; omega)

theorem dg_final (s : Fin 4) (R : Fin 4096) (f : Fin 704) :
    ((dats m 0 c).arrAt 9 cfg0.N : Vec Ideal S4x4096x704 .bf16) (ix3 s R f) = dgK m c R (flat s f) := by
  have hs := s.isLt
  have hR := R.isLt
  have hemb : ((cfg0.win 9).blk (pt s R)).view.emb (ix3 (0 : Fin 1) (⟨R.val % 512, Nat.mod_lt _ (by decide)⟩ : Fin 512) f) = ix3 s R f := by
    funext a
    apply Fin.ext
    show ((win0_9.rect (pt s R)).emb (ix3 (0 : Fin 1) (⟨R.val % 512, Nat.mod_lt _ (by decide)⟩ : Fin 512) f) a : Nat) = _
    rw [Window.rect_emb_val win0_9 (pt s R) _ a rfl, idx9]
    fin_cases a
    · show (4 * (R.val / 512) + s.val) % 4 * 1 + 0 = s.val; omega
    · show (4 * (R.val / 512) + s.val) / 4 * 512 + R.val % 512 = R.val; omega
    · show 0 * 704 + f.val = f.val; omega
  have h := (dats m 0 c).arrAt_emb_eq_flushed 9 disjoint9 (pt s R) (flush0_9 (pt s R)) (ix3 (0 : Fin 1) (⟨R.val % 512, Nat.mod_lt _ (by decide)⟩ : Fin 512) f)
  rw [hemb] at h
  refine h.trans ?_
  rw [flushed9]
  refine ((inv_all m c (pt s R).val (pt s R).isLt).1 _ f).trans ?_
  rw [row_pt, s4_pt]

theorem du_final (s : Fin 4) (R : Fin 4096) (f : Fin 704) :
    ((dats m 0 c).arrAt 10 cfg0.N : Vec Ideal S4x4096x704 .bf16) (ix3 s R f) = duK m c R (flat s f) := by
  have hs := s.isLt
  have hR := R.isLt
  have hemb : ((cfg0.win 10).blk (pt s R)).view.emb (ix3 (0 : Fin 1) (⟨R.val % 512, Nat.mod_lt _ (by decide)⟩ : Fin 512) f) = ix3 s R f := by
    funext a
    apply Fin.ext
    show ((win0_10.rect (pt s R)).emb (ix3 (0 : Fin 1) (⟨R.val % 512, Nat.mod_lt _ (by decide)⟩ : Fin 512) f) a : Nat) = _
    rw [Window.rect_emb_val win0_10 (pt s R) _ a rfl, idx10]
    fin_cases a
    · show (4 * (R.val / 512) + s.val) % 4 * 1 + 0 = s.val; omega
    · show (4 * (R.val / 512) + s.val) / 4 * 512 + R.val % 512 = R.val; omega
    · show 0 * 704 + f.val = f.val; omega
  have h := (dats m 0 c).arrAt_emb_eq_flushed 10 disjoint10 (pt s R) (flush0_10 (pt s R)) (ix3 (0 : Fin 1) (⟨R.val % 512, Nat.mod_lt _ (by decide)⟩ : Fin 512) f)
  rw [hemb] at h
  refine h.trans ?_
  rw [flushed10]
  refine ((inv_all m c (pt s R).val (pt s R).isLt).2.1 _ f).trans ?_
  rw [row_pt, s4_pt]

theorem dx11_final (R : Fin 4096) (l : Fin 1024) :
    ((dats m 0 c).arrAt 11 cfg0.N : Vec Ideal S4096x1024 .f32) (ix2 R l) = dxK m c R l := by
  have hR := R.isLt
  have hm : (pt 3 R).val % 4 = 3 := by show (4 * (R.val / 512) + 3) % 4 = 3; omega
  have hemb : ((cfg0.win 11).blk (pt 3 R)).view.emb (ix2 (⟨R.val % 512, Nat.mod_lt _ (by decide)⟩ : Fin 512) l) = ix2 R l := by
    funext a
    apply Fin.ext
    show ((win0_11.rect (pt 3 R)).emb (ix2 (⟨R.val % 512, Nat.mod_lt _ (by decide)⟩ : Fin 512) l) a : Nat) = _
    rw [Window.rect_emb_val win0_11 (pt 3 R) _ a rfl, idx11]
    fin_cases a
    · show (4 * (R.val / 512) + 3) / 4 * 512 + R.val % 512 = R.val; omega
    · show 0 * 1024 + l.val = l.val; omega
  have hdisj : ∀ t t' : Fin cfg0.N, (cfg0.win 11).flush t = true → (cfg0.win 11).flush t' = true → t ≠ t' →
      Disjoint ((cfg0.win 11).blk t).view.set ((cfg0.win 11).blk t').view.set := by
    intro t t' h h' hne
    have a := (flush0_11 t).mp h
    have b := (flush0_11 t').mp h'
    refine (cfg0.win 11).disjoint_blk fun e => hne (Fin.ext ?_)
    have e0 : win0_11.index t 0 = win0_11.index t' 0 := congrFun e 0
    rw [idx11, idx11] at e0
    have e1 : t.val / 4 = t'.val / 4 := e0
    omega
  have h := (dats m 0 c).arrAt_emb_eq_flushed 11 hdisj (pt 3 R) ((flush0_11 (pt 3 R)).mpr hm) (ix2 (⟨R.val % 512, Nat.mod_lt _ (by decide)⟩ : Fin 512) l)
  rw [hemb] at h
  refine h.trans ?_
  rw [flushed11]
  refine ((inv_all m c (pt 3 R).val (pt 3 R).isLt).2.2.1 hm _ l).1.trans ?_
  rw [row_pt]

theorem dx12_final (R : Fin 4096) (l : Fin 1024) :
    ((dats m 0 c).arrAt 12 cfg0.N : Vec Ideal S4096x1024 .bf16) (ix2 R l) = dxK m c R l := by
  have hR := R.isLt
  have hm : (pt 3 R).val % 4 = 3 := by show (4 * (R.val / 512) + 3) % 4 = 3; omega
  have hemb : ((cfg0.win 12).blk (pt 3 R)).view.emb (ix2 (⟨R.val % 512, Nat.mod_lt _ (by decide)⟩ : Fin 512) l) = ix2 R l := by
    funext a
    apply Fin.ext
    show ((win0_12.rect (pt 3 R)).emb (ix2 (⟨R.val % 512, Nat.mod_lt _ (by decide)⟩ : Fin 512) l) a : Nat) = _
    rw [Window.rect_emb_val win0_12 (pt 3 R) _ a rfl, idx12]
    fin_cases a
    · show (4 * (R.val / 512) + 3) / 4 * 512 + R.val % 512 = R.val; omega
    · show 0 * 1024 + l.val = l.val; omega
  have hdisj : ∀ t t' : Fin cfg0.N, (cfg0.win 12).flush t = true → (cfg0.win 12).flush t' = true → t ≠ t' →
      Disjoint ((cfg0.win 12).blk t).view.set ((cfg0.win 12).blk t').view.set := by
    intro t t' h h' hne
    have a := (flush0_12 t).mp h
    have b := (flush0_12 t').mp h'
    refine (cfg0.win 12).disjoint_blk fun e => hne (Fin.ext ?_)
    have e0 : win0_12.index t 0 = win0_12.index t' 0 := congrFun e 0
    rw [idx12, idx12] at e0
    have e1 : t.val / 4 = t'.val / 4 := e0
    omega
  have h := (dats m 0 c).arrAt_emb_eq_flushed 12 hdisj (pt 3 R) ((flush0_12 (pt 3 R)).mpr hm) (ix2 (⟨R.val % 512, Nat.mod_lt _ (by decide)⟩ : Fin 512) l)
  rw [hemb] at h
  refine h.trans ?_
  rw [flushed12]
  refine ((inv_all m c (pt 3 R).val (pt 3 R).isLt).2.2.1 hm _ l).2.trans ?_
  rw [row_pt]

theorem dn_at (t : Fin cfg0.N) (ht : t.val = 31) (l : Fin 1024) :
    ((dats m 0 c).arrAt 13 cfg0.N : Vec Ideal S1x1024 .f32) (ix2 (0 : Fin 1) l) = ∑ R : Fin 4096, dnK m c l R := by
  have hN : cfg0.N = 32 := rfl
  have hf : (cfg0.win 13).flush t = true := (flush0_13 t).mpr (by omega)
  have hemb : ((cfg0.win 13).blk t).view.emb (ix2 (0 : Fin 1) l) = ix2 (0 : Fin 1) l := by
    funext a
    apply Fin.ext
    show ((win0_13.rect t).emb (ix2 (0 : Fin 1) l) a : Nat) = _
    rw [Window.rect_emb_val win0_13 _ _ a rfl, idx13]
    fin_cases a
    · rfl
    · show 0 * 1024 + l.val = l.val; omega
  have hdisj : ∀ t t' : Fin cfg0.N, (cfg0.win 13).flush t = true → (cfg0.win 13).flush t' = true → t ≠ t' →
      Disjoint ((cfg0.win 13).blk t).view.set ((cfg0.win 13).blk t').view.set := by
    intro t t' h h' hne
    have a := (flush0_13 t).mp h
    have b := (flush0_13 t').mp h'
    have := t.isLt
    have := t'.isLt
    exact absurd (Fin.ext (by omega)) hne
  have h := (dats m 0 c).arrAt_emb_eq_flushed 13 hdisj t hf (ix2 (0 : Fin 1) l)
  rw [hemb] at h
  refine h.trans ?_
  rw [flushed13]
  refine ((inv_all m c t.val t.isLt).2.2.2.1 l).trans ?_
  show ∑ k ∈ Finset.range (512 * ((t.val + 1) / 4)), _ = _
  rw [ht, show 512 * ((31 + 1) / 4) = 4096 from rfl, ← Fin.sum_univ_eq_sum_range]
  exact Finset.sum_congr rfl fun R _ => ext_lt (dnK m c l) R

/-- The norm weight's gradient after the run: the sum over all the rows. -/
theorem dn_final (l : Fin 1024) :
    ((dats m 0 c).arrAt 13 cfg0.N : Vec Ideal S1x1024 .f32) (ix2 (0 : Fin 1) l) = ∑ R : Fin 4096, dnK m c l R :=
  dn_at m c ⟨31, by decide⟩ rfl l

end Cert.MlpBwdIdeal.Step
-- ==== Proof.MlpRef.lean ====
/-
The reference of the feed-forward part's backward call, read entry by entry.
-/
module

public import proofs.«01_k».proof.Proof.Gen.MlpBwdRefIdeal.Run
public import proofs.«01_k».proof.Proof.Gen.MlpBwdRefIdeal.Read
public import proofs.«01_k».proof.Proof.MlpHost

@[expose] public section

set_option maxRecDepth 16384

noncomputable section

open Idealize.ShloMosaic Idealize.ShloMosaic.TcCoe Idealize.SL.Sem
open Idealize.ShloMosaic.Pipeline (Dat Window)

namespace Cert.MlpBwdRefIdeal.Ref

open Cert.MlpBwdRefIdeal Cert.MlpBwdRefIdeal.Gen Cert.MlpBwdRefIdeal.Read Cert.MlpBwdIdeal.Step

variable (X D : Vec Ideal S4096x1024 .f32) (G : Vec Ideal S1x1024 .f32) (Wg Wu : Vec Ideal S1x1024x2816 .f32) (Wd : Vec Ideal S1x2816x1024 .f32)

/-- The gradient at the gate's pre-activation, as differentiation leaves it. -/
def dgR (R : Fin 4096) (l : Fin 2816) : EReal :=
  da D Wd R l * lin X G Wu R l * sg (lin X G Wg R l)
    + lin X G Wg R l * (da D Wd R l * lin X G Wu R l) * (sg (lin X G Wg R l) * (1 - sg (lin X G Wg R l)))

/-- The gradient at the other branch. -/
def duR (R : Fin 4096) (l : Fin 2816) : EReal := lin X G Wg R l * sg (lin X G Wg R l) * da D Wd R l

/-- The normalised row's gradient, one product per branch. -/
def dhR (R : Fin 4096) (d : Fin 1024) : EReal :=
  ∑ l : Fin 2816, duR X D G Wg Wd R l * Wu (ix3 0 d l) + ∑ l : Fin 2816, dgR X D G Wg Wu Wd R l * Wg (ix3 0 d l)

/-- Half of the inverse root's derivative, times the row's sum. -/
def qq (R : Fin 4096) : EReal :=
  Ideal.div ((∑ k, X (ix2 R k) * (dhR X D G Wg Wu Wd R k * G (ix2 0 k)))
    * (Ideal.ofBits .f32 3204448256#32 * Ideal.div (rr X R) (Rms.var fun k => X (ix2 R k)))) (Ideal.ofBits .f32 1149239296#32)

theorem v20_at (R : Fin 4096) (l : Fin 2816) : (val_main_v20 (F := Ideal) X G Wg) (ix2 R l) = lin X G Wg R l := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v20, val_main_v21, val_main_v22, val_main_v23, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v30, val_main_v31, val_main_v32, val_main_call1_v0, val_main_call1_v1, val_main_call1_v2, val_main_v33, val_main_v34, val_main_v35, val_main_v36, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  rfl

theorem v23_at (R : Fin 4096) (l : Fin 2816) : (val_main_v23 (F := Ideal) X G Wu) (ix2 R l) = lin X G Wu R l := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v20, val_main_v21, val_main_v22, val_main_v23, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v30, val_main_v31, val_main_v32, val_main_call1_v0, val_main_call1_v1, val_main_call1_v2, val_main_v33, val_main_v34, val_main_v35, val_main_v36, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  rfl

theorem v30_at (R : Fin 4096) (l : Fin 2816) : (val_main_v30 (F := Ideal) Wd D) (ix2 R l) = da D Wd R l := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v20, val_main_v21, val_main_v22, val_main_v23, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v30, val_main_v31, val_main_v32, val_main_call1_v0, val_main_call1_v1, val_main_call1_v2, val_main_v33, val_main_v34, val_main_v35, val_main_v36, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  rfl

theorem v31_at (R : Fin 4096) (l : Fin 2816) : (val_main_v31 (F := Ideal) X G Wg Wd D) (ix2 R l) = duR X D G Wg Wd R l := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v21, val_main_v22, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v31, val_main_v32, val_main_call1_v0, val_main_call1_v1, val_main_call1_v2, val_main_v33, val_main_v34, val_main_v35, val_main_v36, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  simp only [v20_at, v23_at, v30_at]
  rfl

theorem v33_at (R : Fin 4096) (l : Fin 2816) : (val_main_v33 (F := Ideal) X G Wg Wu Wd D) (ix2 R l) = dgR X D G Wg Wu Wd R l := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v21, val_main_v22, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v31, val_main_v32, val_main_call1_v0, val_main_call1_v1, val_main_call1_v2, val_main_v33, val_main_v34, val_main_v35, val_main_v36, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  simp only [v20_at, v23_at, v30_at]
  rfl

theorem v61_at (s : Fin 4) (R : Fin 4096) (f : Fin 704) : (val_main_v61 (F := Ideal) X G Wg Wu Wd D) (ix3 s R f) = dgR X D G Wg Wu Wd R (flat s f) := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v21, val_main_v22, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v31, val_main_v32, val_main_call1_v0, val_main_call1_v1, val_main_call1_v2, val_main_v33, val_main_v34, val_main_v35, val_main_v36, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  simp only [v20_at, v23_at, v30_at]
  rfl

theorem v64_at (s : Fin 4) (R : Fin 4096) (f : Fin 704) : (val_main_v64 (F := Ideal) X G Wg Wd D) (ix3 s R f) = duR X D G Wg Wd R (flat s f) := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v21, val_main_v22, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v31, val_main_v32, val_main_call1_v0, val_main_call1_v1, val_main_call1_v2, val_main_v33, val_main_v34, val_main_v35, val_main_v36, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  simp only [v20_at, v23_at, v30_at]
  rfl

theorem v36_at (R : Fin 4096) (l : Fin 1024) : (val_main_v36 (F := Ideal) X G Wg Wu Wd D) (ix2 R l) = dhR X D G Wg Wu Wd R l := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v21, val_main_v22, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v32, val_main_call1_v0, val_main_call1_v1, val_main_call1_v2, val_main_v34, val_main_v35, val_main_v36, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  simp only [v31_at, v33_at]
  rfl

theorem v57_at (R : Fin 4096) (l : Fin 1024) : (val_main_v57 (F := Ideal) X G Wg Wu Wd D) (ix2 R l) = D (ix2 R l) + dhR X D G Wg Wu Wd R l * G (ix2 0 l) * rr X R
      + X (ix2 R l) * qq X D G Wg Wu Wd R + qq X D G Wg Wu Wd R * X (ix2 R l) := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v21, val_main_v22, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v32, val_main_call1_v0, val_main_call1_v1, val_main_call1_v2, val_main_v34, val_main_v35, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  simp only [v36_at, Finset.univ_unique, Finset.sum_singleton]
  rfl

theorem v58_at (l : Fin 1024) : (val_main_v58 (F := Ideal) X G Wg Wu Wd D) (ix2 0 l) = ∑ R : Fin 4096, X (ix2 R l) * rr X R * dhR X D G Wg Wu Wd R l := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v21, val_main_v22, val_main_call0_v0, val_main_call0_v1, val_main_call0_cst, val_main_call0_v2, val_main_call0_v3, val_main_call0_cst_0, val_main_call0_v4, val_main_v24_2, val_main_call0_cst_1, val_main_call0_v6, val_main_call0_v7, val_main_v24_1, val_main_v24_0, val_main_v25, val_main_v26, val_main_v27, val_main_v28, val_main_v29, val_main_v32, val_main_call1_v0, val_main_call1_v1, val_main_call1_v2, val_main_v34, val_main_v35, val_main_v37, val_main_cst_4, val_main_v38, val_main_v39, val_main_v40, val_main_v41, val_main_cst_5, val_main_v42, val_main_v43, val_main_cst_6, val_main_v44, val_main_v45, val_main_v46, val_main_v47, val_main_v48, val_main_v49, val_main_cst_7, val_main_v50, val_main_v51, val_main_cst_8, val_main_v52, val_main_v53, val_main_v54, val_main_v55, val_main_v56, val_main_v57, val_main_v58, val_main_v59, val_main_v60, val_main_v61, val_main_v62, val_main_v63, val_main_v64, val_main_v65]
  simp only [v36_at, Finset.univ_unique, Finset.sum_singleton]
  rfl

end Cert.MlpBwdRefIdeal.Ref
-- ==== Proof.MlpClaim.lean ====
/-
The feed-forward part's backward kernel leaves the reference's five gradients.
-/
module

public import proofs.«01_k».proof.Proof.MlpKernel
public import proofs.«01_k».proof.Proof.MlpRef
public import proofs.«01_k».proof.Proof.Finite
public import proofs.«01_k».proof.Defs
public import proofs.«01_k».proof.Proof.Gen.MlpBwd
public import proofs.«01_k».proof.Proof.Gen.Pre_mlp_finite
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.MlpClaim

open Cert.MlpBwdIdeal.Step Cert.MlpBwdRefIdeal.Ref

/-- The six arguments hold reals, from the precondition. -/
theorem rows (X : FVec Ideal Cert.MlpBwdIdeal.S4096x1024 .f32) (G : FVec Ideal Cert.MlpBwdIdeal.S1x1024 .f32) (Wg : FVec Ideal Cert.MlpBwdIdeal.S1x1024x2816 .f32) (Wu : FVec Ideal Cert.MlpBwdIdeal.S1x1024x2816 .f32) (Wd : FVec Ideal Cert.MlpBwdIdeal.S1x2816x1024 .f32) (D : FVec Ideal Cert.MlpBwdIdeal.S4096x1024 .f32) (j)
    (h : Cert.Pre_mlp_finite.fn (F := Ideal) X G Wg Wu Wd D j = 1#1) :
    (∃ r : Cert.MlpBwdIdeal.S4096x1024.Idx → ℝ, X = fun i => ((r i : ℝ) : EReal)) ∧ (∃ r : Cert.MlpBwdIdeal.S1x1024.Idx → ℝ, G = fun i => ((r i : ℝ) : EReal)) ∧ (∃ r : Cert.MlpBwdIdeal.S1x1024x2816.Idx → ℝ, Wg = fun i => ((r i : ℝ) : EReal)) ∧ (∃ r : Cert.MlpBwdIdeal.S1x1024x2816.Idx → ℝ, Wu = fun i => ((r i : ℝ) : EReal)) ∧ (∃ r : Cert.MlpBwdIdeal.S1x2816x1024.Idx → ℝ, Wd = fun i => ((r i : ℝ) : EReal)) ∧ (∃ r : Cert.MlpBwdIdeal.S4096x1024.Idx → ℝ, D = fun i => ((r i : ℝ) : EReal)) := by
  unfold Cert.Pre_mlp_finite.fn at h
  dsimp only at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨Cert.Finite.reals _ _ _ X j h1, Cert.Finite.reals _ _ _ G j h2, Cert.Finite.reals _ _ _ Wg j h3, Cert.Finite.reals _ _ _ Wu j h4,
    Cert.Finite.reals _ _ _ Wd j h5, Cert.Finite.reals _ _ _ D j h6⟩

/-- The logistic function of a real is a real. -/
theorem sg_real (g : ℝ) : ∃ s : ℝ, sg (g : EReal) = ((s : ℝ) : EReal) := by
  have e : (1 : EReal) + Ideal.exp (-(g : EReal)) = ((1 + Real.exp (-g) : ℝ) : EReal) := by
    rw [← EReal.coe_neg]
    rfl
  refine ⟨(1 + Real.exp (-g))⁻¹, ?_⟩
  unfold sg
  rw [e, Rms.div_coe _ _ (by positivity), one_mul]

/-- The gradient of `a·silu(g)·u` at `g`, written both ways. -/
theorem gate_grad (a u g : ℝ) :
    (a : EReal) * ((u : EReal) * (sg (g : EReal) * (1 + (g : EReal) * (1 - sg (g : EReal)))))
      = (a : EReal) * (u : EReal) * sg (g : EReal) + (g : EReal) * ((a : EReal) * (u : EReal)) * (sg (g : EReal) * (1 - sg (g : EReal))) := by
  obtain ⟨s, hs⟩ := sg_real g
  rw [hs]
  have e : (((a * (u * (s * (1 + g * (1 - s)))) : ℝ)) : EReal) = (((a * u * s + g * (a * u) * (s * (1 - s)) : ℝ)) : EReal) := by
    congr 1
    ring
  exact_mod_cast e

section Reals

variable (X : Cert.MlpBwdIdeal.S4096x1024.Idx → ℝ) (G : Cert.MlpBwdIdeal.S1x1024.Idx → ℝ)

theorem lin_real (W : Cert.MlpBwdIdeal.S1x1024x2816.Idx → ℝ) (R : Fin 4096) (l : Fin 2816) :
    ∃ r : ℝ, lin (fun i => ((X i : ℝ) : EReal)) (fun i => ((G i : ℝ) : EReal)) (fun i => ((W i : ℝ) : EReal)) R l = ((r : ℝ) : EReal) := by
  obtain ⟨v, hv, e⟩ := Rms.var_real fun k => X (ix2 R k)
  refine ⟨∑ d : Fin 1024, X (ix2 R d) * (Real.sqrt v)⁻¹ * G (ix2 0 d) * W (ix3 0 d l), ?_⟩
  unfold lin rr
  rw [e, Rms.rsqrt_real v hv, ← Rms.sum_coe]
  exact Finset.sum_congr rfl fun d _ => by simp only [EReal.coe_mul]

theorem da_real (D : Cert.MlpBwdIdeal.S4096x1024.Idx → ℝ) (W : Cert.MlpBwdIdeal.S1x2816x1024.Idx → ℝ) (R : Fin 4096) (l : Fin 2816) :
    ∃ r : ℝ, da (fun i => ((D i : ℝ) : EReal)) (fun i => ((W i : ℝ) : EReal)) R l = ((r : ℝ) : EReal) := by
  refine ⟨∑ d : Fin 1024, D (ix2 R d) * W (ix3 0 l d), ?_⟩
  unfold da
  rw [← Rms.sum_coe]
  exact Finset.sum_congr rfl fun d _ => by simp only [EReal.coe_mul]

end Reals

section Same

open Cert.MlpBwdIdeal Cert.MlpBwdIdeal.Gen

variable (m : (ℓ : Loc nD τ sig) → Buf (Elt Ideal) ℓ) (c : Dev nD)

/-- Both programs' gradients at the gate are the same once the six arguments hold reals. -/
theorem dg_same (hx : ∃ r : S4096x1024.Idx → ℝ, argX m c = fun i => ((r i : ℝ) : EReal)) (hg : ∃ r : S1x1024.Idx → ℝ, argG m c = fun i => ((r i : ℝ) : EReal))
    (hwg : ∃ r : S1x1024x2816.Idx → ℝ, argWg m c = fun i => ((r i : ℝ) : EReal)) (hwu : ∃ r : S1x1024x2816.Idx → ℝ, argWu m c = fun i => ((r i : ℝ) : EReal))
    (hwd : ∃ r : S1x2816x1024.Idx → ℝ, argWd m c = fun i => ((r i : ℝ) : EReal)) (hd : ∃ r : S4096x1024.Idx → ℝ, argD m c = fun i => ((r i : ℝ) : EReal))
    (R : Fin 4096) (l : Fin 2816) : dgK m c R l = dgR (argX m c) (argD m c) (argG m c) (argWg m c) (argWu m c) (argWd m c) R l := by
  obtain ⟨X, hX⟩ := hx
  obtain ⟨G, hG⟩ := hg
  obtain ⟨Wg, hWg⟩ := hwg
  obtain ⟨Wu, hWu⟩ := hwu
  obtain ⟨Wd, hWd⟩ := hwd
  obtain ⟨D, hD⟩ := hd
  unfold dgK dgR udv
  rw [hX, hG, hWg, hWu, hWd, hD]
  obtain ⟨a, ha⟩ := da_real D Wd R l
  obtain ⟨u, hu⟩ := lin_real X G Wu R l
  obtain ⟨g, hg⟩ := lin_real X G Wg R l
  rw [ha, hu, hg]
  exact gate_grad a u g

theorem du_same (R : Fin 4096) (l : Fin 2816) : duK m c R l = duR (argX m c) (argD m c) (argG m c) (argWg m c) (argWd m c) R l :=
  mul_comm _ _

theorem dh_same (h : ∀ R l, dgK m c R l = dgR (argX m c) (argD m c) (argG m c) (argWg m c) (argWu m c) (argWd m c) R l) (R : Fin 4096) (d : Fin 1024) :
    dh m c R d = dhR (argX m c) (argD m c) (argG m c) (argWg m c) (argWu m c) (argWd m c) R d := by
  unfold dh dhR term
  rw [Finset.sum_add_distrib, add_comm]
  simp only [h, du_same]

/-- The input's gradient: the kernel's form of the norm's derivative against the reference's. -/
theorem dx_same (h : ∀ R l, dgK m c R l = dgR (argX m c) (argD m c) (argG m c) (argWg m c) (argWu m c) (argWd m c) R l)
    (hx : ∃ r : S4096x1024.Idx → ℝ, argX m c = fun i => ((r i : ℝ) : EReal)) (R : Fin 4096) (l : Fin 1024) :
    dxK m c R l = argD m c (ix2 R l) + dhR (argX m c) (argD m c) (argG m c) (argWg m c) (argWu m c) (argWd m c) R l * argG m c (ix2 0 l) * rr (argX m c) R
      + argX m c (ix2 R l) * qq (argX m c) (argD m c) (argG m c) (argWg m c) (argWu m c) (argWd m c) R
      + qq (argX m c) (argD m c) (argG m c) (argWg m c) (argWu m c) (argWd m c) R * argX m c (ix2 R l) := by
  obtain ⟨X, hX⟩ := hx
  unfold dxK
  simp only [dh_same m c h]
  exact Rms.grad (fun k => argX m c (ix2 R k)) ⟨fun k => X (ix2 R k), by rw [hX]⟩
    (fun k => dhR (argX m c) (argD m c) (argG m c) (argWg m c) (argWu m c) (argWd m c) R k * argG m c (ix2 0 k)) (argD m c (ix2 R l)) l

theorem dn_same (h : ∀ R l, dgK m c R l = dgR (argX m c) (argD m c) (argG m c) (argWg m c) (argWu m c) (argWd m c) R l) (l : Fin 1024) :
    ∑ R : Fin 4096, dnK m c l R
      = ∑ R : Fin 4096, argX m c (ix2 R l) * rr (argX m c) R * dhR (argX m c) (argD m c) (argG m c) (argWg m c) (argWu m c) (argWd m c) R l :=
  Finset.sum_congr rfl fun R _ => (mul_comm (dh m c R l) _).trans (congrArg (argX m c (ix2 R l) * rr (argX m c) R * ·) (dh_same m c h R l))

end Same

/-- The reference runs on the host alone: its run keeps the arguments, and the program declares no semaphore. -/
theorem frame_ref : Cert.quiescent_MlpBwdRefIdeal (hMlpBwdRefIdeal := Cert.MlpBwdRefIdeal.Gen.facts) := fun m g _ =>
  (θ_run Cert.MlpBwdRefIdeal.defs _ _).mono
    (fun r h => ⟨fun c => (h c).2.2.2.2.2, Idealize.ShloMosaic.sem_eq_zero_of_no_sems (by decide) r.2⟩)
    (Cert.MlpBwdRefIdeal.Value.run (F := Ideal) m g)

/-- Every index is given by its coordinates. -/
theorem of3 {a b c : Nat} (i : (⟨3, ![a, b, c]⟩ : Shape).Idx) : ∃ (s : Fin a) (R : Fin b) (f : Fin c), i = ix3 s R f :=
  ⟨i 0, i 1, i 2, by funext a; fin_cases a <;> rfl⟩

theorem of2 {a b : Nat} (i : (⟨2, ![a, b]⟩ : Shape).Idx) : ∃ (R : Fin a) (l : Fin b), i = ix2 R l :=
  ⟨i 0, i 1, by funext a; fin_cases a <;> rfl⟩

set_option maxHeartbeats 1600000 in
/-- The claim: after the kernel's run all five results are the reference's, entry by entry, once the arguments hold reals. -/
theorem algebraic : Cert.algebraic_MlpBwdIdeal_MlpBwdRefIdeal_pre_mlp_finite
    (hMlpBwdIdeal := Cert.MlpBwdIdeal.Gen.facts) (hMlpBwdRefIdeal := Cert.MlpBwdRefIdeal.Gen.facts)
    (hPre_mlp_finite := Cert.Pre_mlp_finite.Gen.facts) := by
  intro m g m' g' hpre hag
  refine ⟨fun c => Cert.MlpBwdRefIdeal.Value.res_main_v61 m' c, fun c => Cert.MlpBwdRefIdeal.Read.val_main_v64 (F := Ideal) (m' ((c.tc : Thread Cert.MlpBwdRefIdeal.nD Cert.MlpBwdRefIdeal.τ).loc Cert.MlpBwdRefIdeal.main_arg0)) (m' ((c.tc : Thread Cert.MlpBwdRefIdeal.nD Cert.MlpBwdRefIdeal.τ).loc Cert.MlpBwdRefIdeal.main_arg1)) (m' ((c.tc : Thread Cert.MlpBwdRefIdeal.nD Cert.MlpBwdRefIdeal.τ).loc Cert.MlpBwdRefIdeal.main_arg2)) (m' ((c.tc : Thread Cert.MlpBwdRefIdeal.nD Cert.MlpBwdRefIdeal.τ).loc Cert.MlpBwdRefIdeal.main_arg4)) (m' ((c.tc : Thread Cert.MlpBwdRefIdeal.nD Cert.MlpBwdRefIdeal.τ).loc Cert.MlpBwdRefIdeal.main_arg5)),
    fun c => Cert.MlpBwdRefIdeal.Value.res_main_v57 m' c, fun c => Cert.MlpBwdRefIdeal.Value.res_main_v65 m' c, fun c => Cert.MlpBwdRefIdeal.Value.res_main_v58 m' c, ?_,
    Cert.MlpBwdRefIdeal.Value.run m' g'⟩
  refine (θ_run _ _ _).mono (fun r h c => ?_) (Cert.MlpBwdIdeal.Value.run_blocks m g)
  obtain ⟨h9, h10, h11, h12, h13, hk⟩ := h c
  obtain ⟨a0, a1, a2, a3, a4, a5⟩ := hag c
  obtain ⟨hx, hg, hwg, hwu, hwd, hd⟩ := rows (argX m c) (argG m c) (argWg m c) (argWu m c) (argWd m c) (argD m c) (fun a => Fin.elim0 a) (congrFun (hpre c) _)
  have hdg := dg_same m c hx hg hwg hwu hwd hd
  refine ⟨h9.trans ?_, h10.trans ?_, h11.trans ?_, h12.trans ?_, h13.trans ?_, hk⟩
  · dsimp only
    rw [Cert.MlpBwdRefIdeal.Read.val_main_v61_eq, a0, a1, a2, a3, a4, a5]
    funext i
    obtain ⟨s, R, f, rfl⟩ := of3 i
    refine (dg_final m c s R f).trans (Eq.trans ?_ (Cert.MlpBwdRefIdeal.Ref.v61_at _ _ _ _ _ _ s R f).symm)
    exact hdg R (flat s f)
  · dsimp only
    rw [a0, a1, a2, a4, a5]
    funext i
    obtain ⟨s, R, f, rfl⟩ := of3 i
    refine (du_final m c s R f).trans (Eq.trans ?_ (Cert.MlpBwdRefIdeal.Ref.v64_at _ _ _ _ _ s R f).symm)
    exact du_same m c R (flat s f)
  · dsimp only
    rw [Cert.MlpBwdRefIdeal.Read.val_main_v57_eq, a0, a1, a2, a3, a4, a5]
    funext i
    obtain ⟨R, l, rfl⟩ := of2 i
    refine (dx11_final m c R l).trans (Eq.trans ?_ (Cert.MlpBwdRefIdeal.Ref.v57_at _ _ _ _ _ _ R l).symm)
    exact dx_same m c hdg hx R l
  · dsimp only
    rw [Cert.MlpBwdRefIdeal.Read.val_main_v65_eq, a0, a1, a2, a3, a4, a5]
    funext i
    obtain ⟨R, l, rfl⟩ := of2 i
    refine (dx12_final m c R l).trans (Eq.trans ?_ (Cert.MlpBwdRefIdeal.Ref.v57_at _ _ _ _ _ _ R l).symm)
    exact dx_same m c hdg hx R l
  · dsimp only
    rw [Cert.MlpBwdRefIdeal.Read.val_main_v58_eq, a0, a1, a2, a3, a4, a5]
    funext i
    obtain ⟨z, l, rfl⟩ := of2 i
    obtain rfl : z = 0 := Subsingleton.elim _ _
    refine (dn_final m c l).trans (Eq.trans ?_ (Cert.MlpBwdRefIdeal.Ref.v58_at _ _ _ _ _ _ l).symm)
    exact dn_same m c hdg l

end Cert.MlpClaim
-- ==== Proof.InpStep.lean ====
/-
What one grid step of the gate projection's backward kernel leaves in its two outputs.
-/
module

public import proofs.«01_k».proof.Proof.Gen.InpBwdIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat Window)

namespace Cert.InpBwdIdeal.Step

open Cert.InpBwdIdeal Cert.InpBwdIdeal.Gen

variable {F : FTy → Type} [FloatOps F]

theorem hz2 : (![0, 0] : Fin 2 → Nat) = fun _ => 0 := funext fun a => by fin_cases a <;> rfl

variable (c : Dev nD) (i : grid0.Coords)
  (a1 : Memref sig .tc .vmem S512x512 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x512 .bf16) (h4 : a4.IsWhole)
  (a5 : Memref sig .tc .vmem S512x128 .bf16) (h5 : a5.IsWhole)
  (a6 : Memref sig .tc .vmem S2176x1024 .bf16) (h6 : a6.IsWhole)
  (a7 : Memref sig .tc .vmem S512x1024 .f32) (h7 : a7.IsWhole)
  (a8 : Memref sig .tc .vmem S512x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S1x1024 .f32) (h11 : a11.IsWhole)
  (x0 : Vec F S512x512 .bf16) (x1 : Vec F S512x512 .bf16) (x2 : Vec F S512x512 .bf16) (x3 : Vec F S512x512 .bf16) (x4 : Vec F S512x128 .bf16) (x5 : Vec F S2176x1024 .bf16) (x6 : Vec F S512x1024 .f32) (x7 : Vec F S512x1024 .f32) (x8 : Vec F S1x1024 .f32)

theorem out9_A (hc : cond0_0 i) :
    out0_A_9 c i a1 h1 a2 h2 a3 h3 a4 h4 a5 h5 a6 h6 a7 h7 a8 h8 a9 h9 a10 h10 a11 h11 hc x0 x1 x2 x3 x4 x5 x6 x7 x8 = k0_pay1 (k0_pay3 x0 x1 x2 x3 x4 x5) (k0_pay4 x6) (k0_pay5 x6) x8 x7 := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread,
    View.ld_unit_zero (S := S512x512) hz2,
    View.ld_unit_zero (S := S512x128) hz2,
    View.ld_unit_zero (S := S2176x1024) hz2,
    View.ld_unit_zero (S := S512x1024) hz2,
    View.ld_unit_zero (S := S1x1024) hz2]

theorem out10_A (hc : cond0_0 i) :
    out0_A_10 c i a1 h1 a2 h2 a3 h3 a4 h4 a5 h5 a6 h6 a7 h7 a8 h8 a9 h9 a10 h10 a11 h11 hc x0 x1 x2 x3 x4 x5 x6 x7 x8 = k0_pay6 x0 x1 x2 x3 x4 x5 x6 k0_pay2 := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1024) hz2]
  simp only [View.readAt_eq_ld, h1.read_unread, h2.read_unread, h3.read_unread, h4.read_unread, h5.read_unread, h6.read_unread, h7.read_unread, h8.read_unread, h9.read_unread, h11.read_unread,
    View.readCov_unit_zero (S := S1x1024) _ hz2, View.ld_unit_zero (S := S512x512) hz2,
    View.ld_unit_zero (S := S512x128) hz2,
    View.ld_unit_zero (S := S2176x1024) hz2,
    View.ld_unit_zero (S := S512x1024) hz2,
    View.ld_unit_zero (S := S1x1024) hz2]

theorem out9_B (hc : ¬cond0_0 i) (o : Vec F S1x1024 .f32) :
    out0_B_9 c i a1 h1 a2 h2 a3 h3 a4 h4 a5 h5 a6 h6 a7 h7 a8 h8 a9 h9 a10 h10 a11 h11 hc x0 x1 x2 x3 x4 x5 x6 x7 x8 o = k0_pay1 (k0_pay3 x0 x1 x2 x3 x4 x5) (k0_pay4 x6) (k0_pay5 x6) x8 x7 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 x8 o)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread,
    View.ld_unit_zero (S := S512x512) hz2,
    View.ld_unit_zero (S := S512x128) hz2,
    View.ld_unit_zero (S := S2176x1024) hz2,
    View.ld_unit_zero (S := S512x1024) hz2,
    View.ld_unit_zero (S := S1x1024) hz2]

theorem out10_B (hc : ¬cond0_0 i) (o : Vec F S1x1024 .f32) :
    out0_B_10 c i a1 h1 a2 h2 a3 h3 a4 h4 a5 h5 a6 h6 a7 h7 a8 h8 a9 h9 a10 h10 a11 h11 hc x0 x1 x2 x3 x4 x5 x6 x7 x8 o = k0_pay6 x0 x1 x2 x3 x4 x5 x6 o := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 x8 o)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread,
    View.ld_unit_zero (S := S512x512) hz2,
    View.ld_unit_zero (S := S512x128) hz2,
    View.ld_unit_zero (S := S2176x1024) hz2,
    View.ld_unit_zero (S := S512x1024) hz2,
    View.ld_unit_zero (S := S1x1024) hz2]

end Cert.InpBwdIdeal.Step
-- ==== Proof.InpKernel.lean ====
/-
The arrays the gate projection's backward kernel leaves, entry by entry.
-/
module

public import proofs.«01_k».proof.Proof.InpStep
public import proofs.«01_k».proof.Proof.Rms
public import proofs.«01_k».proof.Proof.CumsumAlgebra
public import Idealize.ShloMosaic.Lib.Pipeline.Value

@[expose] public section

set_option maxRecDepth 16384

noncomputable section

open Idealize.ShloMosaic Idealize.ShloMosaic.TcCoe Idealize.SL.Sem
open Idealize.ShloMosaic.Pipeline (Dat Window)

namespace Cert.InpBwdIdeal.Step

open Cert.InpBwdIdeal Cert.InpBwdIdeal.Gen Cert.InpBwdIdeal.Value Cert.CumsumAlgebra

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx9 : ∀ t : Fin cfg0.N, win0_9.index t = ![t.val, 0] := by decide +kernel
theorem idx5 : ∀ t : Fin cfg0.N, win0_5.index t = ![0, 0] := by decide +kernel
theorem idx8 : ∀ t : Fin cfg0.N, win0_8.index t = ![0, 0] := by decide +kernel
theorem idx10 : ∀ t : Fin cfg0.N, win0_10.index t = ![0, 0] := by decide +kernel

/-- The row of the whole array that row `r` of point `t`'s block is. -/
def row (t : Fin cfg0.N) (r : Fin 512) : Fin 4096 := ⟨512 * t.val + r.val, by have hN : cfg0.N = 8 := rfl; have := t.isLt; have := r.isLt; omega⟩

section Blocks

variable {F : FTy → Type} [FloatOps F] (m : (ℓ : Loc nD τ sig) → Buf (Elt F) ℓ) (c : Dev nD)

/-- The arguments, and the weight with its columns in the kernel's order. -/
abbrev argX : Vec F S4096x1024 .f32 := m ((c : Thread nD τ).loc main_arg0)
abbrev argG : Vec F S1x1024 .f32 := m ((c : Thread nD τ).loc main_arg1)
abbrev argW : Vec F S1x1024x2056 .f32 := m ((c : Thread nD τ).loc main_arg2)
abbrev argQ : Vec F S4096x512 .bf16 := m ((c : Thread nD τ).loc main_arg3)
abbrev argK : Vec F S4096x512 .bf16 := m ((c : Thread nD τ).loc main_arg4)
abbrev argV : Vec F S4096x512 .bf16 := m ((c : Thread nD τ).loc main_arg5)
abbrev argU : Vec F S4096x512 .bf16 := m ((c : Thread nD τ).loc main_arg6)
abbrev argF : Vec F S4096x128 .bf16 := m ((c : Thread nD τ).loc main_arg7)
abbrev argD : Vec F S4096x1024 .f32 := m ((c : Thread nD τ).loc main_arg8)
abbrev wT : Vec F S2176x1024 .bf16 := V m c main_v7

theorem iblk0 (t : Fin cfg0.N) (r : Fin 512) (x : Fin 512) :
    iblk m c 0 t (ix2 r x) = argQ m c (ix2 (row t r) x) := by
  unfold iblk
  rw [View.read_apply]
  show V m c main_arg3 _ = _
  rw [V_main_arg3]
  congr 1
  funext a
  apply Fin.ext
  show ((win0_0.rect t).emb (ix2 r x) a : Nat) = _
  rw [Window.rect_emb_val win0_0 t _ a rfl, idx0]
  fin_cases a
  · show t.val * 512 + r.val = 512 * t.val + r.val; omega
  · show 0 * 512 + x.val = x.val; omega

theorem iblk1 (t : Fin cfg0.N) (r : Fin 512) (x : Fin 512) :
    iblk m c 1 t (ix2 r x) = argK m c (ix2 (row t r) x) := by
  unfold iblk
  rw [View.read_apply]
  show V m c main_arg4 _ = _
  rw [V_main_arg4]
  congr 1
  funext a
  apply Fin.ext
  show ((win0_1.rect t).emb (ix2 r x) a : Nat) = _
  rw [Window.rect_emb_val win0_1 t _ a rfl, idx1]
  fin_cases a
  · show t.val * 512 + r.val = 512 * t.val + r.val; omega
  · show 0 * 512 + x.val = x.val; omega

theorem iblk2 (t : Fin cfg0.N) (r : Fin 512) (x : Fin 512) :
    iblk m c 2 t (ix2 r x) = argV m c (ix2 (row t r) x) := by
  unfold iblk
  rw [View.read_apply]
  show V m c main_arg5 _ = _
  rw [V_main_arg5]
  congr 1
  funext a
  apply Fin.ext
  show ((win0_2.rect t).emb (ix2 r x) a : Nat) = _
  rw [Window.rect_emb_val win0_2 t _ a rfl, idx2]
  fin_cases a
  · show t.val * 512 + r.val = 512 * t.val + r.val; omega
  · show 0 * 512 + x.val = x.val; omega

theorem iblk3 (t : Fin cfg0.N) (r : Fin 512) (x : Fin 512) :
    iblk m c 3 t (ix2 r x) = argU m c (ix2 (row t r) x) := by
  unfold iblk
  rw [View.read_apply]
  show V m c main_arg6 _ = _
  rw [V_main_arg6]
  congr 1
  funext a
  apply Fin.ext
  show ((win0_3.rect t).emb (ix2 r x) a : Nat) = _
  rw [Window.rect_emb_val win0_3 t _ a rfl, idx3]
  fin_cases a
  · show t.val * 512 + r.val = 512 * t.val + r.val; omega
  · show 0 * 512 + x.val = x.val; omega

theorem iblk4 (t : Fin cfg0.N) (r : Fin 512) (x : Fin 128) :
    iblk m c 4 t (ix2 r x) = argF m c (ix2 (row t r) x) := by
  unfold iblk
  rw [View.read_apply]
  show V m c main_arg7 _ = _
  rw [V_main_arg7]
  congr 1
  funext a
  apply Fin.ext
  show ((win0_4.rect t).emb (ix2 r x) a : Nat) = _
  rw [Window.rect_emb_val win0_4 t _ a rfl, idx4]
  fin_cases a
  · show t.val * 512 + r.val = 512 * t.val + r.val; omega
  · show 0 * 128 + x.val = x.val; omega

theorem iblk6 (t : Fin cfg0.N) (r : Fin 512) (x : Fin 1024) :
    iblk m c 6 t (ix2 r x) = argX m c (ix2 (row t r) x) := by
  unfold iblk
  rw [View.read_apply]
  show V m c main_arg0 _ = _
  rw [V_main_arg0]
  congr 1
  funext a
  apply Fin.ext
  show ((win0_6.rect t).emb (ix2 r x) a : Nat) = _
  rw [Window.rect_emb_val win0_6 t _ a rfl, idx6]
  fin_cases a
  · show t.val * 512 + r.val = 512 * t.val + r.val; omega
  · show 0 * 1024 + x.val = x.val; omega

theorem iblk7 (t : Fin cfg0.N) (r : Fin 512) (x : Fin 1024) :
    iblk m c 7 t (ix2 r x) = argD m c (ix2 (row t r) x) := by
  unfold iblk
  rw [View.read_apply]
  show V m c main_arg8 _ = _
  rw [V_main_arg8]
  congr 1
  funext a
  apply Fin.ext
  show ((win0_7.rect t).emb (ix2 r x) a : Nat) = _
  rw [Window.rect_emb_val win0_7 t _ a rfl, idx7]
  fin_cases a
  · show t.val * 512 + r.val = 512 * t.val + r.val; omega
  · show 0 * 1024 + x.val = x.val; omega

theorem iblk8 (t : Fin cfg0.N) (x : Fin 1024) :
    iblk m c 8 t (ix2 (0 : Fin 1) x) = argG m c (ix2 (0 : Fin 1) x) := by
  unfold iblk
  rw [View.read_apply]
  show V m c main_arg1 _ = _
  rw [V_main_arg1]
  congr 1
  funext a
  apply Fin.ext
  show ((win0_8.rect t).emb (ix2 (0 : Fin 1) x) a : Nat) = _
  rw [Window.rect_emb_val win0_8 t _ a rfl, idx8]
  fin_cases a
  · rfl
  · show 0 * 1024 + x.val = x.val; omega

theorem iblk5 (t : Fin cfg0.N) (r : Fin 2176) (x : Fin 1024) :
    iblk m c 5 t (ix2 r x) = wT m c (ix2 r x) := by
  unfold iblk
  rw [View.read_apply]
  show V m c main_v7 _ = _
  congr 1
  funext a
  apply Fin.ext
  show ((win0_5.rect t).emb (ix2 r x) a : Nat) = _
  rw [Window.rect_emb_val win0_5 t _ a rfl, idx5]
  fin_cases a
  · show 0 * 2176 + r.val = r.val; omega
  · show 0 * 1024 + x.val = x.val; omega

end Blocks

variable (m : (ℓ : Loc nD τ sig) → Buf (Elt Ideal) ℓ) (c : Dev nD)

/-- The weight the host hands to the kernel: transposed, the forget gate's rows last, and zero rows after them. -/
theorem wT_eq (x : Fin 2176) (l : Fin 1024) :
    wT m c (ix2 x l) = if h : x.val < 1536 then argW m c (ix3 0 l ⟨x.val, by omega⟩)
      else if h : x.val < 2048 then argW m c (ix3 0 l ⟨x.val + 8, by omega⟩)
      else if h : x.val < 2056 then argW m c (ix3 0 l ⟨x.val - 512, by omega⟩) else (0 : EReal) := by
  have e : wT m c = concatenate S2176x1024 0
      [⟨S1536x1024, extractStridedSlice S1536x1024 ![0, 0] (truncf .bf16 (transpose S2056x1024 [1, 0] (shapeCast S1024x2056 (argW m c) shapeCasts_S1x1024x2056_S1024x2056) transposes_S1024x2056_S2056x1024_1_0) bitsLt_bf16_f32) slices_S2056x1024_S1536x1024_0_0⟩,
       ⟨S512x1024, extractStridedSlice S512x1024 ![1544, 0] (truncf .bf16 (transpose S2056x1024 [1, 0] (shapeCast S1024x2056 (argW m c) shapeCasts_S1x1024x2056_S1024x2056) transposes_S1024x2056_S2056x1024_1_0) bitsLt_bf16_f32) slices_S2056x1024_S512x1024_1544_0⟩,
       ⟨S8x1024, extractStridedSlice S8x1024 ![1536, 0] (truncf .bf16 (transpose S2056x1024 [1, 0] (shapeCast S1024x2056 (argW m c) shapeCasts_S1x1024x2056_S1024x2056) transposes_S1024x2056_S2056x1024_1_0) bitsLt_bf16_f32) slices_S2056x1024_S8x1024_1536_0⟩,
       ⟨S120x1024, broadcastInDim S120x1024 ![] bcast_S_S120x1024 (constant (F := Ideal) S_ .bf16 0x0000#16)⟩] concatenates_S1536x1024_S512x1024_S8x1024_S120x1024_S2176x1024_d0 := by
    show StableHlo.after hostOps0 (fun b => m (c, b)) (Proc.devRef .tc main_v7) = _
    simp only [hostOps0]
    after_results
    all_goals rfl
  rw [e]
  pointwise []
  have hx := x.isLt
  by_cases h1 : x.val < 1536
  · simp only [dif_pos h1]
  · by_cases h2 : x.val < 2048
    · simp only [dif_neg h1, dif_pos h2, dif_pos (show x.val - 1536 < 512 by omega)]
      congr 2; apply Fin.ext; show 1544 + (x.val - 1536) = x.val + 8; omega
    · by_cases h3 : x.val < 2056
      · simp only [dif_neg h1, dif_neg h2, dif_pos h3, dif_neg (show ¬x.val - 1536 < 512 by omega), dif_pos (show x.val - 1536 - 512 < 8 by omega)]
        congr 2; apply Fin.ext; show 1536 + (x.val - 1536 - 512) = x.val - 512; omega
      · simp only [dif_neg h1, dif_neg h2, dif_neg h3, dif_neg (show ¬x.val - 1536 < 512 by omega), dif_neg (show ¬x.val - 1536 - 512 < 8 by omega)]

/-- The gradient of the projected row, column by column in the weight's own order. -/
def dp (R : Fin 4096) (y : Fin 2056) : EReal :=
  if h : y.val < 512 then argQ m c (ix2 R ⟨y.val, h⟩)
  else if h : y.val < 1024 then argK m c (ix2 R ⟨y.val - 512, by omega⟩)
  else if h : y.val < 1536 then argV m c (ix2 R ⟨y.val - 1024, by omega⟩)
  else if h : y.val < 1544 then argF m c (ix2 R ⟨y.val - 1536, by omega⟩)
  else argU m c (ix2 R ⟨y.val - 1544, by omega⟩)

/-- The gradient of the normalised row. -/
def dh (R : Fin 4096) (l : Fin 1024) : EReal := ∑ y : Fin 2056, dp m c R y * argW m c (ix3 0 l y)

/-- Where a column of the weight stands among the kernel's rows. -/
def place (y : Fin 2056) : Fin 2176 :=
  if h : y.val < 1536 then ⟨y.val, by omega⟩ else if h : y.val < 1544 then ⟨y.val + 512, by omega⟩ else ⟨y.val - 8, by omega⟩

theorem place_val (y : Fin 2056) : (place y).val = if y.val < 1536 then y.val else if y.val < 1544 then y.val + 512 else y.val - 8 := by
  unfold place; split
  · rfl
  · split <;> rfl

theorem pay3_at (q k v u : Vec Ideal S512x512 .bf16) (f : Vec Ideal S512x128 .bf16) (w : Vec Ideal S2176x1024 .bf16) (r : Fin 512) (l : Fin 1024) :
    k0_pay3 q k v u f w (ix2 r l) = ∑ x : Fin 2176,
      (if h : x.val < 512 then q (ix2 r ⟨x.val, h⟩)
        else if h : x.val - 512 < 512 then k (ix2 r ⟨x.val - 512, h⟩)
        else if h : x.val - 512 - 512 < 512 then v (ix2 r ⟨x.val - 512 - 512, h⟩)
        else if h : x.val - 512 - 512 - 512 < 512 then u (ix2 r ⟨x.val - 512 - 512 - 512, h⟩)
        else f (ix2 r ⟨x.val - 512 - 512 - 512 - 512, by have := x.isLt; omega⟩)) * w (ix2 x l) := by
  pointwise [k0_pay3]

theorem dh_blk (t : Fin cfg0.N) (r : Fin 512) (l : Fin 1024) :
    k0_pay3 (iblk m c 0 t) (iblk m c 1 t) (iblk m c 2 t) (iblk m c 3 t) (iblk m c 4 t) (iblk m c 5 t) (ix2 r l) = dh m c (row t r) l := by
  refine (pay3_at (iblk m c 0 t) (iblk m c 1 t) (iblk m c 2 t) (iblk m c 3 t) (iblk m c 4 t) (iblk m c 5 t) r l).trans ?_
  unfold dh
  symm
  refine Finset.sum_of_injOn place ?_ (fun _ _ => Finset.mem_coe.mpr (Finset.mem_univ _)) ?_ ?_
  · intro y _ y' _ h
    have h' := congrArg Fin.val h
    rw [place_val, place_val] at h'
    have := y.isLt
    have := y'.isLt
    apply Fin.ext
    split_ifs at h' <;> omega
  · intro x _ hx
    have hx' : 2056 ≤ x.val := by
      by_contra hlt
      refine hx ⟨⟨if x.val < 1536 then x.val else if x.val < 2048 then x.val + 8 else x.val - 512, by split_ifs <;> omega⟩, Finset.mem_coe.mpr (Finset.mem_univ _), ?_⟩
      apply Fin.ext
      rw [place_val]
      dsimp only
      split_ifs <;> omega
    rw [iblk5, wT_eq, dif_neg (show ¬x.val < 1536 by omega), dif_neg (show ¬x.val < 2048 by omega), dif_neg (show ¬x.val < 2056 by omega), mul_zero]
  · intro y _
    have hy := y.isLt
    rw [iblk5, wT_eq]
    unfold dp place
    simp only [iblk0, iblk1, iblk2, iblk3, iblk4]
    by_cases h1 : y.val < 1536
    · simp only [dif_pos h1]
      by_cases h2 : y.val < 512
      · simp only [dif_pos h2]
      · by_cases h3 : y.val < 1024
        · simp only [dif_neg h2, dif_pos h3, dif_pos (show y.val - 512 < 512 by omega)]
        · simp only [dif_neg h2, dif_neg h3, dif_neg (show ¬y.val - 512 < 512 by omega), dif_pos (show y.val - 512 - 512 < 512 by omega)]
          congr 3
    · by_cases h2 : y.val < 1544
      · simp only [dif_neg h1, dif_pos h2, dif_neg (show ¬y.val < 512 by omega), dif_neg (show ¬y.val < 1024 by omega),
          dif_neg (show ¬y.val + 512 < 512 by omega), dif_neg (show ¬y.val + 512 - 512 < 512 by omega),
          dif_neg (show ¬y.val + 512 - 512 - 512 < 512 by omega), dif_neg (show ¬y.val + 512 - 512 - 512 - 512 < 512 by omega),
          dif_neg (show ¬y.val + 512 < 1536 by omega), dif_neg (show ¬y.val + 512 < 2048 by omega), dif_pos (show y.val + 512 < 2056 by omega)]
        congr 3
        all_goals (apply Fin.ext; dsimp only; omega)
      · simp only [dif_neg h1, dif_neg h2, dif_neg (show ¬y.val < 512 by omega), dif_neg (show ¬y.val < 1024 by omega),
          dif_neg (show ¬y.val - 8 < 512 by omega), dif_neg (show ¬y.val - 8 - 512 < 512 by omega),
          dif_neg (show ¬y.val - 8 - 512 - 512 < 512 by omega), dif_pos (show y.val - 8 - 512 - 512 - 512 < 512 by omega),
          dif_neg (show ¬y.val - 8 < 1536 by omega), dif_pos (show y.val - 8 < 2048 by omega)]
        congr 3
        all_goals (apply Fin.ext; dsimp only; omega)

/-- The row's inverse root mean square. -/
def rr (R : Fin 4096) : EReal := Ideal.rsqrt (Rms.var fun k => argX m c (ix2 R k))

theorem rr_blk (t : Fin cfg0.N) (r : Fin 512) : k0_pay4 (iblk m c 6 t) (ix2 r 0) = rr m c (row t r) := by
  pointwise [k0_pay4]
  simp only [iblk6]
  rfl

theorem xh_blk (t : Fin cfg0.N) (r : Fin 512) (l : Fin 1024) :
    k0_pay5 (iblk m c 6 t) (ix2 r l) = argX m c (ix2 (row t r) l) * rr m c (row t r) := by
  pointwise [k0_pay5]
  rw [rr_blk, iblk6]

/-- The input's gradient as the kernel writes it. -/
def dxK (R : Fin 4096) (l : Fin 1024) : EReal :=
  argD m c (ix2 R l) + rr m c R * (dh m c R l * argG m c (ix2 0 l) - argX m c (ix2 R l) * rr m c R
    * Ideal.div (∑ k, dh m c R k * argG m c (ix2 0 k) * (argX m c (ix2 R k) * rr m c R)) (Ideal.ofBits .f32 1149239296#32))

theorem dx_blk (t : Fin cfg0.N) (r : Fin 512) (l : Fin 1024) :
    k0_pay1 (k0_pay3 (iblk m c 0 t) (iblk m c 1 t) (iblk m c 2 t) (iblk m c 3 t) (iblk m c 4 t) (iblk m c 5 t)) (k0_pay4 (iblk m c 6 t))
      (k0_pay5 (iblk m c 6 t)) (iblk m c 8 t) (iblk m c 7 t) (ix2 r l) = dxK m c (row t r) l := by
  pointwise [k0_pay1]
  simp only [dh_blk, rr_blk, xh_blk, iblk8, iblk7]
  rfl

/-- A row's part of the norm weight's gradient. -/
def dgK (l : Fin 1024) (R : Fin 4096) : EReal := dh m c R l * (argX m c (ix2 R l) * rr m c R)

theorem dg_blk (t : Fin cfg0.N) (o : Vec Ideal S1x1024 .f32) (l : Fin 1024)
    (ho : o (ix2 0 l) = ∑ k ∈ Finset.range (512 * t.val), ext (dgK m c l) k) :
    k0_pay6 (iblk m c 0 t) (iblk m c 1 t) (iblk m c 2 t) (iblk m c 3 t) (iblk m c 4 t) (iblk m c 5 t) (iblk m c 6 t) o (ix2 0 l)
      = ∑ k ∈ Finset.range (512 * (t.val + 1)), ext (dgK m c l) k := by
  pointwise [k0_pay6]
  rw [ho]
  simp only [dh_blk, xh_blk]
  rw [show 512 * (t.val + 1) = 512 * t.val + 512 by omega, Finset.sum_range_add, ← Fin.sum_univ_eq_sum_range (fun x => ext (dgK m c l) (512 * t.val + x))]
  congr 1
  exact Finset.sum_congr rfl fun x _ => (ext_lt (dgK m c l) (row t x)).symm

/-- What the two outputs hold after point `t`. -/
def Inv (t : Fin cfg0.N) (s : Vec Ideal S512x1024 .f32 × Vec Ideal S1x1024 .f32) : Prop :=
  (∀ r l, s.1 (ix2 r l) = dxK m c (row t r) l) ∧ ∀ l, s.2 (ix2 0 l) = ∑ k ∈ Finset.range (512 * (t.val + 1)), ext (dgK m c l) k

theorem zero_apply (l : Fin 1024) : k0_pay2 (F := Ideal) (ix2 0 l) = 0 := by
  pointwise [k0_pay2]

theorem inv_all : ∀ (n : ℕ) (hn : n < cfg0.N), Inv m c ⟨n, hn⟩ (outsAt0 m c n hn)
  | 0, hn => by
    have h := outsAt0_A m c ⟨0, hn⟩ (Nat.zero_mod _)
    dsimp only at h
    rw [h, out9_A, out10_A]
    refine ⟨fun r l => dx_blk m c ⟨0, hn⟩ r l, fun l => dg_blk m c ⟨0, hn⟩ _ l ?_⟩
    rw [zero_apply]
    rfl
  | n + 1, hn => by
    have hN : cfg0.N = 8 := rfl
    have ih := inv_all n (by omega)
    have h := outsAt0_B m c ⟨n + 1, hn⟩ (by show ¬(n + 1) % 8 = 0; omega)
    dsimp only at h
    rw [h, out9_B, out10_B]
    exact ⟨fun r l => dx_blk m c ⟨n + 1, hn⟩ r l, fun l => dg_blk m c ⟨n + 1, hn⟩ _ l (ih.2 l)⟩

/-- The input's gradient after the run. -/
theorem dx_final (R : Fin 4096) (l : Fin 1024) : ((dats m 0 c).arrAt 9 cfg0.N : Vec Ideal S4096x1024 .f32) (ix2 R l) = dxK m c R l := by
  have hN : cfg0.N = 8 := rfl
  have hR := R.isLt
  let t : Fin cfg0.N := ⟨R.val / 512, by omega⟩
  let r : Fin 512 := ⟨R.val % 512, Nat.mod_lt _ (by decide)⟩
  have hrow : row t r = R := Fin.ext (by show 512 * (R.val / 512) + R.val % 512 = R.val; omega)
  have hemb : ((cfg0.win 9).blk t).view.emb (ix2 r l) = ix2 R l := by
    funext a
    apply Fin.ext
    show ((win0_9.rect t).emb (ix2 r l) a : Nat) = _
    rw [Window.rect_emb_val win0_9 t _ a rfl, idx9]
    fin_cases a
    · show t.val * 512 + r.val = R.val
      rw [← hrow]; show _ = 512 * t.val + r.val; omega
    · show 0 * 1024 + l.val = l.val; omega
  have h := (dats m 0 c).arrAt_emb_eq_flushed 9 disjoint9 t (flush0_9 t) (ix2 r l)
  rw [← hemb]
  refine h.trans ?_
  rw [flushed9, ← hrow]
  exact (inv_all m c t.val t.isLt).1 r l

theorem dg_at (t : Fin cfg0.N) (ht : t.val = 7) (l : Fin 1024) :
    ((dats m 0 c).arrAt 10 cfg0.N : Vec Ideal S1x1024 .f32) (ix2 (0 : Fin 1) l) = ∑ R : Fin 4096, dgK m c l R := by
  have hN : cfg0.N = 8 := rfl
  have hf : (cfg0.win 10).flush t = true := (flush0_10 t).mpr (by omega)
  have hemb : ((cfg0.win 10).blk t).view.emb (ix2 (0 : Fin 1) l) = ix2 (0 : Fin 1) l := by
    funext a
    apply Fin.ext
    show ((win0_10.rect t).emb (ix2 (0 : Fin 1) l) a : Nat) = _
    rw [Window.rect_emb_val win0_10 _ _ a rfl, idx10]
    fin_cases a
    · rfl
    · show 0 * 1024 + l.val = l.val; omega
  have hdisj : ∀ t t' : Fin cfg0.N, (cfg0.win 10).flush t = true → (cfg0.win 10).flush t' = true → t ≠ t' →
      Disjoint ((cfg0.win 10).blk t).view.set ((cfg0.win 10).blk t').view.set := by
    intro t t' h h' hne
    have a := (flush0_10 t).mp h
    have b := (flush0_10 t').mp h'
    have := t.isLt
    have := t'.isLt
    exact absurd (Fin.ext (by omega)) hne
  have h := (dats m 0 c).arrAt_emb_eq_flushed 10 hdisj t hf (ix2 (0 : Fin 1) l)
  rw [hemb] at h
  refine h.trans ?_
  rw [flushed10]
  refine ((inv_all m c t.val t.isLt).2 l).trans ?_
  show ∑ k ∈ Finset.range (512 * (t.val + 1)), _ = _
  rw [ht, show 512 * (7 + 1) = 4096 from rfl, ← Fin.sum_univ_eq_sum_range]
  exact Finset.sum_congr rfl fun R _ => ext_lt (dgK m c l) R

/-- The norm weight's gradient after the run: the sum over all the rows. -/
theorem dg_final (l : Fin 1024) :
    ((dats m 0 c).arrAt 10 cfg0.N : Vec Ideal S1x1024 .f32) (ix2 (0 : Fin 1) l) = ∑ R : Fin 4096, dgK m c l R :=
  dg_at m c ⟨7, by decide⟩ rfl l

end Cert.InpBwdIdeal.Step
-- ==== Proof.InpRef.lean ====
/-
The reference of the gate projection's backward call, read entry by entry.
-/
module

public import proofs.«01_k».proof.Proof.Gen.InpBwdRefIdeal.Run
public import proofs.«01_k».proof.Proof.Gen.InpBwdRefIdeal.Read
public import proofs.«01_k».proof.Proof.Rms
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.InpBwdRefIdeal.Ref

open Cert.InpBwdRefIdeal Cert.InpBwdRefIdeal.Gen Cert.InpBwdRefIdeal.Read

variable (x0 x8 : Vec Ideal S4096x1024 .f32) (x1 : Vec Ideal S1x1024 .f32) (x2 : Vec Ideal S1x1024x2056 .f32)
  (x3 x4 x5 x6 : Vec Ideal S4096x512 .bf16) (x7 : Vec Ideal S4096x128 .bf16)

/-- The projected row's gradient: the five parts at their columns. -/
def dp (R : Fin 4096) (y : Fin 2056) : EReal :=
  if h : y.val < 512 then x3 (ix2 R ⟨y.val, h⟩)
  else if h : y.val < 1024 then x4 (ix2 R ⟨y.val - 512, by omega⟩)
  else if h : y.val < 1536 then x5 (ix2 R ⟨y.val - 1024, by omega⟩)
  else if h : y.val < 1544 then x7 (ix2 R ⟨y.val - 1536, by omega⟩)
  else x6 (ix2 R ⟨y.val - 1544, by omega⟩)

def dh (R : Fin 4096) (l : Fin 1024) : EReal := ∑ y : Fin 2056, dp x3 x4 x5 x6 x7 R y * x2 (ix3 0 l y)

theorem v38_at (R : Fin 4096) (y : Fin 2056) : val_main_v38 (F := Ideal) x3 x4 x5 x6 x7 (ix2 R y) = dp x3 x4 x5 x6 x7 R y := by
  pointwise [val_main_v38, val_main_v37, val_main_v36, val_main_v35, val_main_v34, val_main_v33, val_main_v32, val_main_v31, val_main_v30, val_main_v29, val_main_v28, val_main_v27, val_main_v26, val_main_v25, val_main_v24, val_main_cst_3, val_main_cst_4, val_main_cst_5, val_main_cst_6, val_main_cst_7]
  unfold dp
  have hy := y.isLt
  by_cases h1 : y.val < 512
  · simp only [dif_pos h1, dif_neg (show ¬(512 ≤ y.val ∧ y.val - 512 < 512) by omega), dif_neg (show ¬(1024 ≤ y.val ∧ y.val - 1024 < 512) by omega),
      dif_neg (show ¬(1536 ≤ y.val ∧ y.val - 1536 < 8) by omega), dif_neg (show ¬(1544 ≤ y.val ∧ y.val - 1544 < 512) by omega), add_zero, zero_add]
  · by_cases h2 : y.val < 1024
    · simp only [dif_neg h1, dif_pos h2, dif_pos (show 512 ≤ y.val ∧ y.val - 512 < 512 by omega), dif_neg (show ¬(1024 ≤ y.val ∧ y.val - 1024 < 512) by omega),
        dif_neg (show ¬(1536 ≤ y.val ∧ y.val - 1536 < 8) by omega), dif_neg (show ¬(1544 ≤ y.val ∧ y.val - 1544 < 512) by omega), add_zero, zero_add]
    · by_cases h3 : y.val < 1536
      · simp only [dif_neg h1, dif_neg h2, dif_pos h3, dif_neg (show ¬(512 ≤ y.val ∧ y.val - 512 < 512) by omega), dif_pos (show 1024 ≤ y.val ∧ y.val - 1024 < 512 by omega),
          dif_neg (show ¬(1536 ≤ y.val ∧ y.val - 1536 < 8) by omega), dif_neg (show ¬(1544 ≤ y.val ∧ y.val - 1544 < 512) by omega), add_zero, zero_add]
      · by_cases h4 : y.val < 1544
        · simp only [dif_neg h1, dif_neg h2, dif_neg h3, dif_pos h4, dif_neg (show ¬(512 ≤ y.val ∧ y.val - 512 < 512) by omega), dif_neg (show ¬(1024 ≤ y.val ∧ y.val - 1024 < 512) by omega),
            dif_pos (show 1536 ≤ y.val ∧ y.val - 1536 < 8 by omega), dif_neg (show ¬(1544 ≤ y.val ∧ y.val - 1544 < 512) by omega), add_zero, zero_add]
        · simp only [dif_neg h1, dif_neg h2, dif_neg h3, dif_neg h4, dif_neg (show ¬(512 ≤ y.val ∧ y.val - 512 < 512) by omega), dif_neg (show ¬(1024 ≤ y.val ∧ y.val - 1024 < 512) by omega),
            dif_neg (show ¬(1536 ≤ y.val ∧ y.val - 1536 < 8) by omega), dif_pos (show 1544 ≤ y.val ∧ y.val - 1544 < 512 by omega), add_zero, zero_add]

theorem v39_at (R : Fin 4096) (l : Fin 1024) : val_main_v39 (F := Ideal) x2 x3 x4 x5 x6 x7 (ix2 R l) = dh x2 x3 x4 x5 x6 x7 R l := by
  pointwise [val_main_v39, val_main_v17]
  simp only [v38_at]
  rfl

/-- The row's mean square plus the small constant. -/
abbrev vr (R : Fin 4096) : EReal := Rms.var fun k => x0 (ix2 R k)

/-- Half of the inverse root's derivative, times the row's sum. -/
def qq (R : Fin 4096) : EReal :=
  Ideal.div ((∑ k, x0 (ix2 R k) * (dh x2 x3 x4 x5 x6 x7 R k * x1 (ix2 0 k)))
    * (Ideal.ofBits .f32 3204448256#32 * Ideal.div (Ideal.rsqrt (vr x0 R)) (vr x0 R))) (Ideal.ofBits .f32 1149239296#32)

theorem v60_at (R : Fin 4096) (l : Fin 1024) :
    val_main_v60 (F := Ideal) x0 x1 x2 x3 x4 x5 x6 x7 x8 (ix2 R l)
      = x8 (ix2 R l) + dh x2 x3 x4 x5 x6 x7 R l * x1 (ix2 0 l) * Ideal.rsqrt (vr x0 R)
        + x0 (ix2 R l) * qq x0 x1 x2 x3 x4 x5 x6 x7 R + qq x0 x1 x2 x3 x4 x5 x6 x7 R * x0 (ix2 R l) := by
  pointwise [val_main_v60, val_main_v59, val_main_v58, val_main_v57, val_main_v56, val_main_v55, val_main_v54, val_main_v53, val_main_v52, val_main_v51, val_main_v50, val_main_v49, val_main_v48, val_main_v47, val_main_v46, val_main_v44, val_main_v43, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_10, val_main_cst_11, val_main_cst_12]
  simp only [v39_at, Finset.univ_unique, Finset.sum_singleton]
  rfl

theorem v61_at (l : Fin 1024) :
    val_main_v61 (F := Ideal) x0 x2 x3 x4 x5 x6 x7 (ix2 0 l)
      = ∑ R, x0 (ix2 R l) * Ideal.rsqrt (vr x0 R) * dh x2 x3 x4 x5 x6 x7 R l := by
  pointwise [val_main_v61, val_main_v45, val_main_v42, val_main_v41, val_main_v40, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_8, val_main_cst_9]
  simp only [v39_at, Finset.univ_unique, Finset.sum_singleton]
  rfl

end Cert.InpBwdRefIdeal.Ref
-- ==== Proof.InpClaim.lean ====
/-
The gate projection's backward kernel leaves the reference's two gradients.
-/
module

public import proofs.«01_k».proof.Proof.InpKernel
public import proofs.«01_k».proof.Proof.InpRef
public import proofs.«01_k».proof.Proof.Finite
public import proofs.«01_k».proof.Defs
public import proofs.«01_k».proof.Proof.Gen.InpBwd
public import proofs.«01_k».proof.Proof.Gen.Pre_inp_finite
public import Idealize.ShloMosaic.Lib.Quiescent

@[expose] public section

set_option maxRecDepth 16384

noncomputable section

open Idealize.ShloMosaic Idealize.ShloMosaic.TcCoe Idealize.SL.Sem
open Idealize.ShloMosaic.Pipeline (Dat Window)

namespace Cert.InpClaim

open Cert.InpBwdIdeal.Step

/-- The rows are rows of reals, from the precondition. -/
theorem rows (x0 : FVec Ideal Cert.InpBwdIdeal.S4096x1024 .f32) (x1 x2 x3 x4 x5 x6 x7 x8) (j)
    (h : Cert.Pre_inp_finite.fn (F := Ideal) x0 x1 x2 x3 x4 x5 x6 x7 x8 j = 1#1) :
    ∃ X : Cert.InpBwdIdeal.S4096x1024.Idx → ℝ, x0 = fun i => ((X i : ℝ) : EReal) := by
  unfold Cert.Pre_inp_finite.fn at h
  dsimp only at h
  exact Cert.Finite.reals _ _ _ x0 j h

/-- The reference runs on the host alone: its run keeps the arguments, and the program declares no semaphore. -/
theorem frame_ref : Cert.quiescent_InpBwdRefIdeal (hInpBwdRefIdeal := Cert.InpBwdRefIdeal.Gen.facts) := fun m g _ =>
  (θ_run Cert.InpBwdRefIdeal.defs _ _).mono
    (fun r h => ⟨fun c => (h c).2.2, Idealize.ShloMosaic.sem_eq_zero_of_no_sems (by decide) r.2⟩)
    (Cert.InpBwdRefIdeal.Value.run (F := Ideal) m g)

/-- The claim: after the kernel's run both results are the reference's, entry by entry, once the norm's input holds reals. -/
theorem algebraic : Cert.algebraic_InpBwdIdeal_InpBwdRefIdeal_pre_inp_finite
    (hInpBwdIdeal := Cert.InpBwdIdeal.Gen.facts) (hInpBwdRefIdeal := Cert.InpBwdRefIdeal.Gen.facts)
    (hPre_inp_finite := Cert.Pre_inp_finite.Gen.facts) := by
  intro m g m' g' hpre hag
  refine ⟨fun c => Cert.InpBwdRefIdeal.Value.res_main_v60 m' c, fun c => Cert.InpBwdRefIdeal.Read.val_main_v61 (F := Ideal) (m' ((c.tc : Thread Cert.InpBwdRefIdeal.nD Cert.InpBwdRefIdeal.τ).loc Cert.InpBwdRefIdeal.main_arg0)) (m' ((c.tc : Thread Cert.InpBwdRefIdeal.nD Cert.InpBwdRefIdeal.τ).loc Cert.InpBwdRefIdeal.main_arg2)) (m' ((c.tc : Thread Cert.InpBwdRefIdeal.nD Cert.InpBwdRefIdeal.τ).loc Cert.InpBwdRefIdeal.main_arg3)) (m' ((c.tc : Thread Cert.InpBwdRefIdeal.nD Cert.InpBwdRefIdeal.τ).loc Cert.InpBwdRefIdeal.main_arg4)) (m' ((c.tc : Thread Cert.InpBwdRefIdeal.nD Cert.InpBwdRefIdeal.τ).loc Cert.InpBwdRefIdeal.main_arg5)) (m' ((c.tc : Thread Cert.InpBwdRefIdeal.nD Cert.InpBwdRefIdeal.τ).loc Cert.InpBwdRefIdeal.main_arg6)) (m' ((c.tc : Thread Cert.InpBwdRefIdeal.nD Cert.InpBwdRefIdeal.τ).loc Cert.InpBwdRefIdeal.main_arg7)), ?_,
    Cert.InpBwdRefIdeal.Value.run m' g'⟩
  refine (θ_run _ _ _).mono (fun r h c => ?_) (Cert.InpBwdIdeal.Value.run_blocks m g)
  obtain ⟨h9, h10, hk⟩ := h c
  obtain ⟨a0, a1, a2, a3, a4, a5, a6, a7, a8⟩ := hag c
  obtain ⟨X, hX⟩ := rows (argX m c) (argG m c) (argW m c) (argQ m c) (argK m c) (argV m c) (argU m c) (argF m c) (argD m c) (fun a => Fin.elim0 a) (congrFun (hpre c) _)
  refine ⟨h9.trans ?_, h10.trans ?_, hk⟩
  · dsimp only
    rw [Cert.InpBwdRefIdeal.Read.val_main_v60_eq, a0, a1, a2, a3, a4, a5, a6, a7, a8]
    funext i
    obtain ⟨R, l, rfl⟩ : ∃ R l, i = ix2 R l := ⟨i 0, i 1, by funext a; fin_cases a <;> rfl⟩
    refine (dx_final m c R l).trans (Eq.trans ?_ (Cert.InpBwdRefIdeal.Ref.v60_at _ _ _ _ _ _ _ _ _ R l).symm)
    exact Rms.grad (fun k => argX m c (ix2 R k)) ⟨fun k => X (ix2 R k), by rw [hX]⟩ (fun k => dh m c R k * argG m c (ix2 0 k)) (argD m c (ix2 R l)) l
  · dsimp only
    rw [a0, a2, a3, a4, a5, a6, a7]
    funext i
    obtain ⟨z, l, rfl⟩ : ∃ (z : Fin 1) (l : Fin 1024), i = ix2 z l := ⟨i 0, i 1, by funext a; fin_cases a <;> rfl⟩
    obtain rfl : z = 0 := Subsingleton.elim _ _
    refine (dg_final m c l).trans (Eq.trans ?_ (Cert.InpBwdRefIdeal.Ref.v61_at _ _ _ _ _ _ _ l).symm)
    have e : ∑ R : Fin 4096, dgK m c l R = ∑ R : Fin 4096, argX m c (ix2 R l) * rr m c R * dh m c R l :=
      Finset.sum_congr rfl fun R _ => mul_comm (dh m c R l) _
    exact e

end Cert.InpClaim
-- ==== Proof.CumsumStep.lean ====
/-
What one grid step of the kernel leaves in its two outputs and in the row it carries, as values of the blocks it reads.
-/
module

public import proofs.«01_k».proof.Proof.Gen.CumsumBwdIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CumsumBwdIdeal.Step

open Cert.CumsumBwdIdeal Cert.CumsumBwdIdeal.Gen

variable {F : FTy → Type} [FloatOps F]

theorem hz2 : (![0, 0] : Fin 2 → Nat) = fun _ => 0 := funext fun a => by fin_cases a <;> rfl

abbrev rowI : IVec S128x128 32 := iota .tc S128x128 32 [0] iota_S128x128_d0_w32
abbrev colI : IVec S128x128 32 := iota .tc S128x128 32 [1] iota_S128x128_d1_w32
abbrev laneI : IVec S512x128 32 := iota .tc S512x128 32 [1] iota_S512x128_d1_w32

/-- The four head-pair slabs of a block. -/
def slab0 (x : Vec F S4x512x128 .f32) : Vec F S1x512x128 .f32 :=
  View.ld x (Rect.unit (s := S4x512x128) ![0, 0, 0] S1x512x128.size inb_S4x512x128_S1x512x128_0_0_0)
def slab1 (x : Vec F S4x512x128 .f32) : Vec F S1x512x128 .f32 :=
  View.ld x (Rect.unit (s := S4x512x128) ![1, 0, 0] S1x512x128.size inb_S4x512x128_S1x512x128_1_0_0)
def slab2 (x : Vec F S4x512x128 .f32) : Vec F S1x512x128 .f32 :=
  View.ld x (Rect.unit (s := S4x512x128) ![2, 0, 0] S1x512x128.size inb_S4x512x128_S1x512x128_2_0_0)
def slab3 (x : Vec F S4x512x128 .f32) : Vec F S1x512x128 .f32 :=
  View.ld x (Rect.unit (s := S4x512x128) ![3, 0, 0] S1x512x128.size inb_S4x512x128_S1x512x128_3_0_0)
/-- The first row of the carried block. -/
def row0 (s : Vec F S8x128 .f32) : Vec F S1x128 .f32 :=
  View.ld s (Rect.unit (s := S8x128) ![0, 0] S1x128.size inb_S8x128_S1x128_0_0)

/-- Three of the four head pairs put side by side in the lanes. -/
def three (q k : Vec F S4x512x128 .f32) : FVec F S512x128 .f32 :=
  k0_pay10 laneI (k0_pay6 (slab0 q) (slab0 k)) (k0_pay8 (slab1 q)) (slab1 k) (slab2 q) (slab2 k)
def maskA : IVec S128x128 1 := k0_pay9 rowI colI k0_pay7
def maskB : IVec S128x128 1 := k0_pay11 rowI colI
/-- The 0/1 matrix that brings the lanes to the heads' order. -/
def pick : FVec F S128x128 .bf16 := k0_pay13 rowI colI maskA maskB
/-- The suffix sums of the block's rows plus the carried row. -/
def suffix (q k : Vec F S4x512x128 .f32) (car : Vec F S1x128 .f32) : FVec F S512x128 .f32 :=
  k0_pay19 pick (k0_pay16 laneI (three q k) (slab3 q) (slab3 k)) (k0_pay17 laneI (three q k) (slab3 q) (slab3 k))
    (k0_pay18 rowI colI laneI maskA (three q k) maskB (slab3 q) (slab3 k)) car
def carry (q k : Vec F S4x512x128 .f32) (car : Vec F S1x128 .f32) : FVec F S8x128 .f32 :=
  k0_pay20 pick (k0_pay16 laneI (three q k) (slab3 q) (slab3 k)) (k0_pay17 laneI (three q k) (slab3 q) (slab3 k))
    (k0_pay18 rowI colI laneI maskA (three q k) maskB (slab3 q) (slab3 k)) car

variable (c : Dev nD) (i : grid0.Coords) (a1 : Memref sig .tc .vmem S4x512x128 .f32) (h1 : a1.IsWhole)
  (a2 : Memref sig .tc .vmem S4x512x128 .f32) (h2 : a2.IsWhole) (a3 : Memref sig .tc .vmem S512x128 .f32) (h3 : a3.IsWhole)
  (a4 : Memref sig .tc .vmem S1x128 .f32) (h4 : a4.IsWhole) (a5 : Memref sig .tc .vmem S512x128 .bf16) (h5 : a5.IsWhole)
  (a6 : Memref sig .tc .vmem S1x128 .f32) (h6 : a6.IsWhole) (a7 : Memref sig .tc .vmem S8x128 .f32) (h7 : a7.IsWhole)
  (q k : Vec F S4x512x128 .f32) (f : Vec F S512x128 .f32) (b : Vec F S1x128 .f32)

theorem out4_B (hc : ¬cond0_0 i) (o : Vec F S1x128 .f32) (s : Vec F S8x128 .f32) :
    out0_B_4 c i a1 h1 a2 h2 a3 h3 a4 h4 a5 h5 a6 h6 a7 h7 hc q k f b o s
      = k0_pay2 (suffix q k (row0 s)) (k0_pay21 f b) := by
  unfold out0_B_4
  rw [View.read_writes_eq_canon _ _ _ (cover0_B_4 c i a1 h1 a2 h2 a3 h3 a4 h4 a5 h5 a6 h6 a7 h7 hc q k f b o s)]
  unfold kernelRun0_B
  dsimp only
  sl_unfold_words
  rw [View.canon_unit_zero hz2]
  simp only [View.readAt_eq_ld, h1.read_unread, h2.read_unread, h3.read_unread, h4.read_unread, h7.read_unread,
    View.ld_unit_zero (S := S512x128) hz2, View.ld_unit_zero (S := S1x128) hz2]
  rfl

theorem out5_B (hc : ¬cond0_0 i) (o : Vec F S1x128 .f32) (s : Vec F S8x128 .f32) :
    out0_B_5 c i a1 h1 a2 h2 a3 h3 a4 h4 a5 h5 a6 h6 a7 h7 hc q k f b o s
      = k0_pay3 (suffix q k (row0 s)) (k0_pay21 f b) o := by
  unfold out0_B_5
  rw [View.read_writes_eq_canon _ _ _ (cover0_B_5 c i a1 h1 a2 h2 a3 h3 a4 h4 a5 h5 a6 h6 a7 h7 hc q k f b o s)]
  unfold kernelRun0_B
  dsimp only
  sl_unfold_words
  rw [View.canon_unit_zero hz2]
  simp only [View.readAt_eq_ld, h1.read_unread, h2.read_unread, h3.read_unread, h4.read_unread, h6.read_unread, h7.read_unread,
    View.ld_unit_zero (S := S512x128) hz2, View.ld_unit_zero (S := S1x128) hz2]
  rfl

theorem sout_B (hc : ¬cond0_0 i) (o : Vec F S1x128 .f32) (s : Vec F S8x128 .f32) :
    sout0_B_0 c i a1 h1 a2 h2 a3 h3 a4 h4 a5 h5 a6 h6 a7 h7 hc q k f b o s = carry q k (row0 s) := by
  unfold sout0_B_0
  rw [View.read_writes_eq_canon _ _ _ (scover0_B_0 c i a1 h1 a2 h2 a3 h3 a4 h4 a5 h5 a6 h6 a7 h7 hc q k f b o s)]
  unfold kernelRun0_B
  dsimp only
  sl_unfold_words
  rw [View.canon_unit_zero hz2]
  simp only [View.readAt_eq_ld, h1.read_unread, h2.read_unread, h3.read_unread, h4.read_unread, h7.read_unread]
  rfl

theorem readCov_row (v : View sig .tc .vmem S8x128 .f32) (Z : Vec F S8x128 .f32) :
    v.readCov [(⟨Rect.unit ![0, 0] S8x128.size inb_S8x128_S8x128_0_0, Z⟩ : View.Piece (Elt F) S8x128 .f32)]
      (Rect.unit (s := S8x128) ![0, 0] S1x128.size inb_S8x128_S1x128_0_0).toLoadRect = row0 Z := by
  unfold row0
  rw [View.readCov_fill (s := S8x128) v inb_S8x128_S8x128_0_0 Z [] _ (fun a => congrFun hz2 a)]

theorem out4_A (hc : cond0_0 i) :
    out0_A_4 c i a1 h1 a2 h2 a3 h3 a4 h4 a5 h5 a6 h6 a7 h7 hc q k f b
      = k0_pay2 (suffix q k (row0 k0_pay4)) (k0_pay21 f b) := by
  unfold out0_A_4
  rw [View.read_writes_eq_canon _ _ _ (cover0_A_4 c i a1 h1 a2 h2 a3 h3 a4 h4 a5 h5 a6 h6 a7 h7 hc q k f b)]
  unfold kernelRun0_A
  dsimp only
  sl_unfold_words
  rw [View.canon_unit_zero hz2]
  simp only [View.readAt_eq_ld, h1.read_unread, h2.read_unread, h3.read_unread, h4.read_unread,
    View.ld_unit_zero (S := S512x128) hz2, View.ld_unit_zero (S := S1x128) hz2]
  exact congrArg (fun r => k0_pay2 (suffix q k r) (k0_pay21 f b)) (readCov_row (F := F) a7.view k0_pay4)

theorem out5_A (hc : cond0_0 i) :
    out0_A_5 c i a1 h1 a2 h2 a3 h3 a4 h4 a5 h5 a6 h6 a7 h7 hc q k f b
      = k0_pay3 (suffix q k (row0 k0_pay4)) (k0_pay21 f b) k0_pay5 := by
  unfold out0_A_5
  rw [View.read_writes_eq_canon _ _ _ (cover0_A_5 c i a1 h1 a2 h2 a3 h3 a4 h4 a5 h5 a6 h6 a7 h7 hc q k f b)]
  unfold kernelRun0_A
  dsimp only
  sl_unfold_words
  rw [View.canon_cons_unit_zero (S := S1x128) hz2]
  simp only [View.readAt_eq_ld, h1.read_unread, h2.read_unread, h3.read_unread, h4.read_unread,
    View.readCov_unit_zero (S := S1x128) _ hz2,
    View.ld_unit_zero (S := S512x128) hz2, View.ld_unit_zero (S := S1x128) hz2]
  exact congrArg (fun r => k0_pay3 (suffix q k r) (k0_pay21 f b) k0_pay5) (readCov_row (F := F) a7.view k0_pay4)

theorem sout_A (hc : cond0_0 i) :
    sout0_A_0 c i a1 h1 a2 h2 a3 h3 a4 h4 a5 h5 a6 h6 a7 h7 hc q k f b = carry q k (row0 k0_pay4) := by
  unfold sout0_A_0
  rw [View.read_writes_eq_canon _ _ _ (scover0_A_0 c i a1 h1 a2 h2 a3 h3 a4 h4 a5 h5 a6 h6 a7 h7 hc q k f b)]
  unfold kernelRun0_A
  dsimp only
  sl_unfold_words
  rw [View.canon_cons_unit_zero (S := S8x128) hz2]
  simp only [View.readAt_eq_ld, h1.read_unread, h2.read_unread, h3.read_unread, h4.read_unread]
  exact congrArg (fun r => carry q k r) (readCov_row (F := F) a7.view k0_pay4)

end Cert.CumsumBwdIdeal.Step
-- ==== Proof.CumsumBlock.lean ====
/-
One grid step of the kernel over the reals: which lanes it picks, and the sums of the rows below.
-/
module

public import proofs.«01_k».proof.Proof.CumsumStep
public import proofs.«01_k».proof.Proof.CumsumAlgebra

@[expose] public section

set_option maxRecDepth 16384

noncomputable section

open Idealize.ShloMosaic Idealize.ShloMosaic.TcCoe Idealize.SL.Sem

namespace Cert.CumsumBwdIdeal.Step

open Cert.CumsumBwdIdeal Cert.CumsumBwdIdeal.Gen Cert.CumsumAlgebra

theorem ite_select {α : Type} (p : Prop) [Decidable p] (a b : α) : Scalar.select (if p then 1#1 else 0#1) a b = if p then a else b := by
  by_cases h : p <;> simp [h, Scalar.select]

/-- The difference of the two blocks that head pair `p` puts in lane `x`: rotated by `p` after the key block was rotated by three. -/
def pairDiff (Q K : S4x512x128.Idx → ℝ) (p : Fin 4) (r : Fin 512) (x : Fin 128) : ℝ :=
  Q (ix3 p r ⟨(x.val + 128 - p.val) % 128, Nat.mod_lt _ (by decide)⟩)
    - K (ix3 p r ⟨((x.val + 128 - p.val) % 128 + 3) % 128, Nat.mod_lt _ (by decide)⟩)

/-- The four head pairs side by side in the lanes. -/
def lanes (Q K : S4x512x128.Idx → ℝ) (r : Fin 512) (x : Fin 128) : ℝ :=
  if x.val = 67 ∨ x.val = 3 then pairDiff Q K 3 r x
  else if x.val = 66 ∨ x.val = 2 then pairDiff Q K 2 r x
  else if x.val = 65 ∨ x.val = 1 then pairDiff Q K 1 r x
  else if x.val = 64 ∨ x.val = 0 then pairDiff Q K 0 r x
  else 0

/-- The lane a head's value comes from. -/
def src (l : ℕ) : ℕ := if l % 2 = 0 then 64 + l / 2 else l / 2

/-- The gradient of the two running sums at one row, by head; zero past the eight heads. -/
def dc (Q K : S4x512x128.Idx → ℝ) (r : Fin 512) (l : Fin 128) : ℝ :=
  if h : l.val < 8 then
    Q (ix3 ⟨l.val / 2, by omega⟩ r ⟨if l.val % 2 = 0 then 64 else 0, by split <;> decide⟩)
      - K (ix3 ⟨l.val / 2, by omega⟩ r ⟨if l.val % 2 = 0 then 67 else 3, by split <;> decide⟩)
  else 0

theorem pick_apply (x l : Fin 128) : pick (F := Ideal) (ix2 x l) = if l.val < 8 ∧ x.val = src l.val then 1 else 0 := by
  have hx := x.isLt
  have hl := l.isLt
  pointwise [pick, k0_pay13, maskA, maskB, k0_pay9, k0_pay11, k0_pay7]
  simp (disch := omega) only [cmpi_eq, andi_ite, ori_ite, zero_ori, sitofp_ite]
  congr 1
  unfold src
  rw [eq_iff_iff]
  split <;> omega

variable (Q K : S4x512x128.Idx → ℝ)

abbrev up (Q : S4x512x128.Idx → ℝ) : Vec Ideal S4x512x128 .f32 := fun i => ((Q i : ℝ) : EReal)

theorem pairDiff_of (p : Fin 4) (r : Fin 512) (x y z : Fin 128) (hy : y.val = (x.val + 128 - p.val) % 128)
    (hz : z.val = ((x.val + 128 - p.val) % 128 + 3) % 128) :
    up Q (ix3 p r y) - up K (ix3 p r z) = ((pairDiff Q K p r x : ℝ) : EReal) := by
  have ey : y = ⟨(x.val + 128 - p.val) % 128, Nat.mod_lt _ (by decide)⟩ := Fin.ext hy
  have ez : z = ⟨((x.val + 128 - p.val) % 128 + 3) % 128, Nat.mod_lt _ (by decide)⟩ := Fin.ext hz
  rw [ey, ez]
  exact (EReal.coe_sub _ _).symm

theorem both_apply (r : Fin 512) (x : Fin 128) :
    k0_pay12 (F := Ideal) laneI (three (up Q) (up K)) (slab3 (up Q)) (slab3 (up K)) (ix2 r x) = ((lanes Q K r x : ℝ) : EReal) := by
  have hx := x.isLt
  pointwise [k0_pay12, three, k0_pay10, k0_pay6, k0_pay8, slab0, slab1, slab2, slab3]
  simp (disch := omega) only [cmpi_eq, ori_ite, ite_select]
  unfold lanes
  split_ifs
  · exact pairDiff_of Q K 3 r x _ _ rfl (by show _ = ((x.val + 128 - 3) % 128 + 3) % 128; dsimp only; omega)
  · exact pairDiff_of Q K 2 r x _ _ rfl (by show _ = ((x.val + 128 - 2) % 128 + 3) % 128; dsimp only; omega)
  · exact pairDiff_of Q K 1 r x _ _ rfl (by show _ = ((x.val + 128 - 1) % 128 + 3) % 128; dsimp only; omega)
  · exact pairDiff_of Q K 0 r x _ _ (by show _ = (x.val + 128 - 0) % 128; omega)
      (by show _ = ((x.val + 128 - 0) % 128 + 3) % 128; dsimp only; omega)
  · rfl

/-- The picked lane of a head is that head's difference. -/
theorem lanes_src (r : Fin 512) (l x : Fin 128) (hl : l.val < 8) (hx : x.val = src l.val) : lanes Q K r x = dc Q K r l := by
  have key : ∀ (p : Fin 4) (hp : p.val = l.val / 2) (hy : (x.val + 128 - p.val) % 128 = if l.val % 2 = 0 then 64 else 0)
      (hz : ((x.val + 128 - p.val) % 128 + 3) % 128 = if l.val % 2 = 0 then 67 else 3), pairDiff Q K p r x = dc Q K r l := by
    intro p hp hy hz
    unfold pairDiff dc
    rw [dif_pos hl]
    rw [show (⟨l.val / 2, by omega⟩ : Fin 4) = p from Fin.ext hp.symm]
    congr 4 <;> exact Fin.ext (by assumption)
  unfold src at hx
  unfold lanes
  split at hx
  · rename_i h2
    split_ifs <;> first | (exfalso; omega) | skip
    · exact key 3 (by show 3 = _; omega) (by show (x.val + 128 - 3) % 128 = _; rw [if_pos h2]; omega) (by show ((x.val + 128 - 3) % 128 + 3) % 128 = _; rw [if_pos h2]; omega)
    · exact key 2 (by show 2 = _; omega) (by show (x.val + 128 - 2) % 128 = _; rw [if_pos h2]; omega) (by show ((x.val + 128 - 2) % 128 + 3) % 128 = _; rw [if_pos h2]; omega)
    · exact key 1 (by show 1 = _; omega) (by show (x.val + 128 - 1) % 128 = _; rw [if_pos h2]; omega) (by show ((x.val + 128 - 1) % 128 + 3) % 128 = _; rw [if_pos h2]; omega)
    · exact key 0 (by show 0 = _; omega) (by show (x.val + 128 - 0) % 128 = _; rw [if_pos h2]; omega) (by show ((x.val + 128 - 0) % 128 + 3) % 128 = _; rw [if_pos h2]; omega)
  · rename_i h2
    split_ifs <;> first | (exfalso; omega) | skip
    · exact key 3 (by show 3 = _; omega) (by show (x.val + 128 - 3) % 128 = _; rw [if_neg h2]; omega) (by show ((x.val + 128 - 3) % 128 + 3) % 128 = _; rw [if_neg h2]; omega)
    · exact key 2 (by show 2 = _; omega) (by show (x.val + 128 - 2) % 128 = _; rw [if_neg h2]; omega) (by show ((x.val + 128 - 2) % 128 + 3) % 128 = _; rw [if_neg h2]; omega)
    · exact key 1 (by show 1 = _; omega) (by show (x.val + 128 - 1) % 128 = _; rw [if_neg h2]; omega) (by show ((x.val + 128 - 1) % 128 + 3) % 128 = _; rw [if_neg h2]; omega)
    · exact key 0 (by show 0 = _; omega) (by show (x.val + 128 - 0) % 128 = _; rw [if_neg h2]; omega) (by show ((x.val + 128 - 0) % 128 + 3) % 128 = _; rw [if_neg h2]; omega)

theorem sub_self_coe (a : ℝ) : (a : EReal) - (a : EReal) = 0 := by rw [← EReal.coe_sub, sub_self, EReal.coe_zero]

theorem main_apply (r : Fin 512) (l : Fin 128) :
    k0_pay18 (F := Ideal) rowI colI laneI maskA (three (up Q) (up K)) maskB (slab3 (up Q)) (slab3 (up K)) (ix2 r l)
      = ((dc Q K r l : ℝ) : EReal) := by
  have e : k0_pay18 (F := Ideal) rowI colI laneI maskA (three (up Q) (up K)) maskB (slab3 (up Q)) (slab3 (up K)) (ix2 r l)
      = ∑ x : Fin 128, k0_pay12 (F := Ideal) laneI (three (up Q) (up K)) (slab3 (up Q)) (slab3 (up K)) (ix2 r x) * pick (F := Ideal) (ix2 x l) := by
    pointwise [k0_pay18, k0_pay14, pick]
  rw [e]
  simp only [both_apply, pick_apply]
  by_cases hl : l.val < 8
  · have hs : src l.val < 128 := by unfold src; split <;> omega
    rw [Finset.sum_eq_single (⟨src l.val, hs⟩ : Fin 128)]
    · rw [if_pos ⟨hl, rfl⟩, mul_one, lanes_src Q K r l _ hl rfl]
    · intro b _ hb
      rw [if_neg (fun h => hb (Fin.ext h.2)), mul_zero]
    · intro h; exact absurd (Finset.mem_univ _) h
  · rw [Finset.sum_eq_zero]
    · unfold dc; rw [dif_neg hl, EReal.coe_zero]
    · intro x _; rw [if_neg (fun h => hl h.1), mul_zero]

theorem mid_apply (r : Fin 512) (x : Fin 128) :
    k0_pay15 (F := Ideal) laneI (three (up Q) (up K)) (slab3 (up Q)) (slab3 (up K)) (ix2 r x) = 0 := by
  have e : k0_pay15 (F := Ideal) laneI (three (up Q) (up K)) (slab3 (up Q)) (slab3 (up K)) (ix2 r x)
    = k0_pay12 (F := Ideal) laneI (three (up Q) (up K)) (slab3 (up Q)) (slab3 (up K)) (ix2 r x)
      - k0_pay12 (F := Ideal) laneI (three (up Q) (up K)) (slab3 (up Q)) (slab3 (up K)) (ix2 r x) := by
    pointwise [k0_pay15, k0_pay14]
  rw [e, both_apply, sub_self_coe]

theorem pay16_apply (r : Fin 512) (x : Fin 128) :
    k0_pay16 (F := Ideal) laneI (three (up Q) (up K)) (slab3 (up Q)) (slab3 (up K)) (ix2 r x) = 0 := by
  rw [← mid_apply Q K r x]; rfl

theorem pay17_apply (r : Fin 512) (x : Fin 128) :
    k0_pay17 (F := Ideal) laneI (three (up Q) (up K)) (slab3 (up Q)) (slab3 (up K)) (ix2 r x) = 0 := by
  have e : k0_pay17 (F := Ideal) laneI (three (up Q) (up K)) (slab3 (up Q)) (slab3 (up K)) (ix2 r x)
    = k0_pay15 (F := Ideal) laneI (three (up Q) (up K)) (slab3 (up Q)) (slab3 (up K)) (ix2 r x)
      - k0_pay15 (F := Ideal) laneI (three (up Q) (up K)) (slab3 (up Q)) (slab3 (up K)) (ix2 r x) := by
    pointwise [k0_pay17, k0_pay16]
  rw [e, mid_apply, sub_zero]

theorem pay19_apply (P : FVec Ideal S128x128 .bf16) (M L : FVec Ideal S512x128 .bf16) (H : FVec Ideal S512x128 .f32)
    (D : Fin 512 → Fin 128 → ℝ) (hM : ∀ r l, M (ix2 r l) = 0) (hL : ∀ r l, L (ix2 r l) = 0)
    (hH : ∀ r l, H (ix2 r l) = ((D r l : ℝ) : EReal)) (car : Vec Ideal S1x128 .f32) (r : Fin 512) (l : Fin 128) :
    k0_pay19 P M L H car (ix2 r l)
      = ((∑ x : Fin 512, if r.val ≤ x.val then D x l else 0 : ℝ) : EReal) + car (ix2 0 l) := by
  have hr := r.isLt
  have e1 : ∀ x : Fin 512, IntOp.cmpi .sge (BitVec.ofNat 32 x.val) (BitVec.ofNat 32 r.val) = if r.val ≤ x.val then 1#1 else 0#1 :=
    fun x => cmpi_sge _ _ (by have := x.isLt; omega) (by omega)
  pointwise [k0_pay19]
  simp only [hM, hL, hH, zero_mul, Finset.sum_const_zero, add_zero, sub_self_coe, sub_zero, mul_zero, e1, sitofp_ite]
  congr 1
  rw [← coe_sum]
  refine Finset.sum_congr rfl fun x _ => ?_
  by_cases h : r.val ≤ x.val
  · rw [if_pos h, if_pos h, one_mul]
  · rw [if_neg h, if_neg h, zero_mul, EReal.coe_zero]

/-- The suffix sums: a row's value is the sum of the differences at and below it, plus the carried row. -/
theorem suffix_apply (car : Vec Ideal S1x128 .f32) (r : Fin 512) (l : Fin 128) :
    suffix (up Q) (up K) car (ix2 r l)
      = ((∑ x : Fin 512, if r.val ≤ x.val then dc Q K x l else 0 : ℝ) : EReal) + car (ix2 0 l) :=
  pay19_apply _ _ _ _ (dc Q K) (pay16_apply Q K) (pay17_apply Q K) (main_apply Q K) car r l

theorem row0_pay20 (P : FVec Ideal S128x128 .bf16) (M L : FVec Ideal S512x128 .bf16) (H : FVec Ideal S512x128 .f32)
    (car : Vec Ideal S1x128 .f32) (l : Fin 128) :
    row0 (F := Ideal) (k0_pay20 P M L H car) (ix2 0 l) = k0_pay19 P M L H car (ix2 0 l) := by
  pointwise [row0, k0_pay20]

theorem carry_apply (car : Vec Ideal S1x128 .f32) (l : Fin 128) :
    row0 (carry (up Q) (up K) car) (ix2 0 l) = ((∑ x : Fin 512, dc Q K x l : ℝ) : EReal) + car (ix2 0 l) := by
  have e : row0 (carry (up Q) (up K) car) (ix2 0 l) = suffix (up Q) (up K) car (ix2 0 l) := row0_pay20 _ _ _ _ car l
  rw [e, suffix_apply]
  congr 2

theorem row0_zero (l : Fin 128) : row0 (F := Ideal) (k0_pay4 (F := Ideal)) (ix2 0 l) = 0 := by
  pointwise [row0, k0_pay4]

/-- The gradient of the forget logits at a row: the suffix sum times the sigmoid of minus the logit. -/
theorem grad_apply (S : FVec Ideal S512x128 .f32) (f : Vec Ideal S512x128 .f32) (b : Vec Ideal S1x128 .f32) (r : Fin 512) (l : Fin 128) :
    k0_pay1 S (k0_pay21 f b) (ix2 r l) = S (ix2 r l) * Ideal.logistic (0 - (f (ix2 r l) + b (ix2 0 l))) := by
  pointwise [k0_pay1, k0_pay21]

theorem grad_trunc (S : FVec Ideal S512x128 .f32) (z : FVec Ideal S512x128 .f32) (i : S512x128.Idx) :
    k0_pay2 S z i = k0_pay1 S z i := rfl

theorem total_apply (S : FVec Ideal S512x128 .f32) (z : FVec Ideal S512x128 .f32) (o : Vec Ideal S1x128 .f32) (l : Fin 128) :
    k0_pay3 S z o (ix2 0 l) = o (ix2 0 l) + ∑ x : Fin 512, k0_pay1 S z (ix2 x l) := by
  pointwise [k0_pay3]

theorem zero_apply (l : Fin 128) : k0_pay5 (F := Ideal) (ix2 0 l) = 0 := by pointwise [k0_pay5]

end Cert.CumsumBwdIdeal.Step
-- ==== Proof.CumsumKernel.lean ====
/-
The arrays the kernel leaves: the suffix sums over all rows, the forget logits' gradient and the bias's gradient.
-/
module

public import proofs.«01_k».proof.Proof.CumsumBlock
public import Idealize.ShloMosaic.Lib.Pipeline.Value

@[expose] public section

set_option maxRecDepth 16384

noncomputable section

open Idealize.ShloMosaic Idealize.ShloMosaic.TcCoe Idealize.SL.Sem
open Idealize.ShloMosaic.Pipeline (Dat Window)

namespace Cert.CumsumBwdIdeal.Step

open Cert.CumsumBwdIdeal Cert.CumsumBwdIdeal.Gen Cert.CumsumBwdIdeal.Value Cert.CumsumAlgebra

theorem idx0 : ∀ t : Fin cfg0.N, win0_0.index t = ![0, 7 - t.val, 0] := by decide +kernel
theorem idx1 : ∀ t : Fin cfg0.N, win0_1.index t = ![0, 7 - t.val, 0] := by decide +kernel
theorem idx2 : ∀ t : Fin cfg0.N, win0_2.index t = ![7 - t.val, 0] := by decide +kernel
theorem idx3 : ∀ t : Fin cfg0.N, win0_3.index t = ![0, 0] := by decide +kernel
theorem idx4 : ∀ t : Fin cfg0.N, win0_4.index t = ![7 - t.val, 0] := by decide +kernel
theorem idx5 : ∀ t : Fin cfg0.N, win0_5.index t = ![0, 0] := by decide +kernel

/-- The row of the whole array that row `r` of point `t`'s block is: the points go from the last block to the first. -/
def row (t : Fin cfg0.N) (r : Fin 512) : Fin 4096 := ⟨512 * (7 - t.val) + r.val, by have := t.isLt; have := r.isLt; omega⟩

variable (m : (ℓ : Loc nD τ sig) → Buf (Elt Ideal) ℓ) (ρ : Dev nD → PrngReg) (c : Dev nD)

section Blocks

variable {F : FTy → Type} [FloatOps F] (m : (ℓ : Loc nD τ sig) → Buf (Elt F) ℓ) (c : Dev nD)

/-- The arguments, and the two that the host pads with zero lanes. -/
abbrev argF : Vec F S4096x8 .f32 := m ((c : Thread nD τ).loc main_arg0)
abbrev argB : Vec F S1x8 .f32 := m ((c : Thread nD τ).loc main_arg1)
abbrev argQ : Vec F S4x4096x128 .f32 := m ((c : Thread nD τ).loc main_arg2)
abbrev argK : Vec F S4x4096x128 .f32 := m ((c : Thread nD τ).loc main_arg3)
abbrev padF : Vec F S4096x128 .f32 := V m c main_v0
abbrev padB : Vec F S1x128 .f32 := V m c main_v1

theorem iblk0 (t : Fin cfg0.N) (p : Fin 4) (r : Fin 512) (x : Fin 128) :
    iblk m c 0 t (ix3 p r x) = argQ m c (ix3 p (row t r) x) := by
  unfold iblk
  rw [View.read_apply]
  show V m c main_arg2 _ = _
  rw [V_main_arg2]
  congr 1
  funext a
  apply Fin.ext
  show ((win0_0.rect t).emb (ix3 p r x) a : Nat) = _
  rw [Window.rect_emb_val win0_0 t _ a rfl, idx0]
  fin_cases a
  · show 0 * 4 + p.val = p.val; omega
  · show (7 - t.val) * 512 + r.val = 512 * (7 - t.val) + r.val; omega
  · show 0 * 128 + x.val = x.val; omega

theorem iblk1 (t : Fin cfg0.N) (p : Fin 4) (r : Fin 512) (x : Fin 128) :
    iblk m c 1 t (ix3 p r x) = argK m c (ix3 p (row t r) x) := by
  unfold iblk
  rw [View.read_apply]
  show V m c main_arg3 _ = _
  rw [V_main_arg3]
  congr 1
  funext a
  apply Fin.ext
  show ((win0_1.rect t).emb (ix3 p r x) a : Nat) = _
  rw [Window.rect_emb_val win0_1 t _ a rfl, idx1]
  fin_cases a
  · show 0 * 4 + p.val = p.val; omega
  · show (7 - t.val) * 512 + r.val = 512 * (7 - t.val) + r.val; omega
  · show 0 * 128 + x.val = x.val; omega

theorem iblk2 (t : Fin cfg0.N) (r : Fin 512) (x : Fin 128) :
    iblk m c 2 t (ix2 r x) = padF m c (ix2 (row t r) x) := by
  unfold iblk
  rw [View.read_apply]
  show V m c main_v0 _ = _
  congr 1
  funext a
  apply Fin.ext
  show ((win0_2.rect t).emb (ix2 r x) a : Nat) = _
  rw [Window.rect_emb_val win0_2 t _ a rfl, idx2]
  fin_cases a
  · show (7 - t.val) * 512 + r.val = 512 * (7 - t.val) + r.val; omega
  · show 0 * 128 + x.val = x.val; omega

theorem iblk3 (t : Fin cfg0.N) (x : Fin 128) :
    iblk m c 3 t (ix2 (0 : Fin 1) x) = padB m c (ix2 (0 : Fin 1) x) := by
  unfold iblk
  rw [View.read_apply]
  show V m c main_v1 _ = _
  congr 1
  funext a
  apply Fin.ext
  show ((win0_3.rect t).emb (ix2 (0 : Fin 1) x) a : Nat) = _
  rw [Window.rect_emb_val win0_3 t _ a rfl, idx3]
  fin_cases a
  · rfl
  · show 0 * 128 + x.val = x.val; omega

end Blocks

theorem sitofp_zero : (FloatOps.sitofp (F := Ideal) FTy.f32 0#32 : EReal) = 0 := by
  show (((0#32).toInt : ℝ) : EReal) = 0
  simp

theorem V_v0 (R : Fin 4096) (l : Fin 128) :
    padF m c (ix2 R l) = if h : l.val < 8 then argF m c (ix2 R ⟨l.val, h⟩) else (0 : EReal) := by
  have e : padF m c = pad S4096x128 ![0, 0] ![0, 120] ![0, 0] (argF m c)
      (sitofp (F := Ideal) .f32 (constantI S_ 32 0#32)) pads_S4096x8_S4096x128_000_01200 h_S_ := by
    show StableHlo.after (List.flatten [hostOps0, hostOps0_1, hostOps0_2, hostOps0_3]) (fun b => m (c, b)) (Proc.devRef .tc main_v0) = _
    simp only [hostOps0, hostOps0_1, hostOps0_2, hostOps0_3, List.flatten_cons, List.flatten_nil, List.cons_append, List.nil_append, List.append_nil]
    after_results
    all_goals rfl
  rw [e]
  pointwise []
  rw [sitofp_zero]

theorem V_v1 (l : Fin 128) :
    padB m c (ix2 (0 : Fin 1) l) = if h : l.val < 8 then argB m c (ix2 (0 : Fin 1) ⟨l.val, h⟩) else (0 : EReal) := by
  have e : padB m c = pad S1x128 ![0, 0] ![0, 120] ![0, 0] (argB m c)
      (sitofp (F := Ideal) .f32 (constantI S_ 32 0#32)) pads_S1x8_S1x128_000_01200 h_S_ := by
    show StableHlo.after (List.flatten [hostOps0, hostOps0_1, hostOps0_2, hostOps0_3]) (fun b => m (c, b)) (Proc.devRef .tc main_v1) = _
    simp only [hostOps0, hostOps0_1, hostOps0_2, hostOps0_3, List.flatten_cons, List.flatten_nil, List.cons_append, List.nil_append, List.append_nil]
    after_results
    all_goals rfl
  rw [e]
  pointwise []
  rw [sitofp_zero]

variable (Q K : S4x4096x128.Idx → ℝ)

/-- The two tables' blocks at point `t`. -/
def blkOf (Q : S4x4096x128.Idx → ℝ) (t : Fin cfg0.N) : S4x512x128.Idx → ℝ := fun i => Q (ix3 (i 0) (row t (i 1)) (i 2))

/-- The gradient of the two running sums, at every row. -/
def dcAll (l : Fin 128) (R : Fin 4096) : ℝ :=
  if h : l.val < 8 then
    Q (ix3 ⟨l.val / 2, by omega⟩ R ⟨if l.val % 2 = 0 then 64 else 0, by split <;> decide⟩)
      - K (ix3 ⟨l.val / 2, by omega⟩ R ⟨if l.val % 2 = 0 then 67 else 3, by split <;> decide⟩)
  else 0

/-- The suffix sum at a row. -/
def sufAll (l : Fin 128) (j : ℕ) : ℝ := ∑ k ∈ Finset.Ico j 4096, ext (dcAll Q K l) k

theorem dc_blkOf (t : Fin cfg0.N) (x : Fin 512) (l : Fin 128) :
    dc (blkOf Q t) (blkOf K t) x l = ext (dcAll Q K l) (512 * (7 - t.val) + x.val) := by
  have e := ext_lt (dcAll Q K l) (row t x)
  rw [show 512 * (7 - t.val) + x.val = (row t x).val from rfl, e]
  rfl

variable (hQ : argQ m c = fun i => ((Q i : ℝ) : EReal))
  (hK : argK m c = fun i => ((K i : ℝ) : EReal))

include hQ in
theorem iblk0_eq (t : Fin cfg0.N) : iblk m c 0 t = up (blkOf Q t) := by
  funext i
  obtain ⟨p, r, x, rfl⟩ : ∃ p r x, i = ix3 p r x := ⟨i 0, i 1, i 2, by funext a; fin_cases a <;> rfl⟩
  rw [iblk0, hQ]
  rfl

include hK in
theorem iblk1_eq (t : Fin cfg0.N) : iblk m c 1 t = up (blkOf K t) := by
  funext i
  obtain ⟨p, r, x, rfl⟩ : ∃ p r x, i = ix3 p r x := ⟨i 0, i 1, i 2, by funext a; fin_cases a <;> rfl⟩
  rw [iblk1, hK]
  rfl

/-- The step from one block to the next: the block's rows and the rows after it. -/
theorem suf_step (t : Fin cfg0.N) (r : ℕ) (hr : r ≤ 512) (l : Fin 128) :
    (∑ x : Fin 512, if r ≤ x.val then dc (blkOf Q t) (blkOf K t) x l else 0) + sufAll Q K l (512 * (8 - t.val))
      = sufAll Q K l (512 * (7 - t.val) + r) := by
  have ht := t.isLt
  have hN : cfg0.N = 8 := rfl
  unfold sufAll
  simp only [dc_blkOf]
  rw [sum_block (ext (dcAll Q K l)) (512 * (7 - t.val)) 512 r hr,
    show 512 * (7 - t.val) + 512 = 512 * (8 - t.val) by omega]
  exact Finset.sum_Ico_consecutive _ (by omega) (by omega)

/-- The forget logits and the bias, with the padding, at a row. -/
def sgm (R : Fin 4096) (l : Fin 128) : EReal :=
  Ideal.logistic (0 - (padF m c (ix2 R l) + padB m c (ix2 (0 : Fin 1) l)))

/-- The gradient of the forget logits at a row. -/
def dfAll (l : Fin 128) (R : Fin 4096) : EReal := ((sufAll Q K l R.val : ℝ) : EReal) * sgm m c R l

theorem suffix_blk (t : Fin cfg0.N) (s : Vec Ideal S1x128 .f32)
    (hs : ∀ l, s (ix2 0 l) = ((sufAll Q K l (512 * (8 - t.val)) : ℝ) : EReal)) (r : Fin 512) (l : Fin 128) :
    suffix (up (blkOf Q t)) (up (blkOf K t)) s (ix2 r l) = ((sufAll Q K l (row t r).val : ℝ) : EReal) := by
  rw [suffix_apply, hs, ← EReal.coe_add, suf_step Q K t r.val (by omega)]
  rfl

theorem carry_blk (t : Fin cfg0.N) (s : Vec Ideal S1x128 .f32)
    (hs : ∀ l, s (ix2 0 l) = ((sufAll Q K l (512 * (8 - t.val)) : ℝ) : EReal)) (l : Fin 128) :
    row0 (carry (up (blkOf Q t)) (up (blkOf K t)) s) (ix2 0 l) = ((sufAll Q K l (512 * (7 - t.val)) : ℝ) : EReal) := by
  rw [carry_apply, hs, ← EReal.coe_add]
  have e := suf_step Q K t 0 (by omega) l
  simp only [Nat.zero_le, if_true, Nat.add_zero] at e
  rw [e]

theorem df_blk (t : Fin cfg0.N) (s : Vec Ideal S1x128 .f32)
    (hs : ∀ l, s (ix2 0 l) = ((sufAll Q K l (512 * (8 - t.val)) : ℝ) : EReal)) (r : Fin 512) (l : Fin 128) :
    k0_pay1 (suffix (up (blkOf Q t)) (up (blkOf K t)) s) (k0_pay21 (iblk m c 2 t) (iblk m c 3 t)) (ix2 r l)
      = dfAll m c Q K l (row t r) := by
  rw [grad_apply, suffix_blk Q K t s hs, iblk2, iblk3]
  rfl

theorem db_blk (t : Fin cfg0.N) (s : Vec Ideal S1x128 .f32)
    (hs : ∀ l, s (ix2 0 l) = ((sufAll Q K l (512 * (8 - t.val)) : ℝ) : EReal)) (o : Vec Ideal S1x128 .f32)
    (ho : ∀ l, o (ix2 0 l) = ∑ k ∈ Finset.Ico (512 * (8 - t.val)) 4096, ext (dfAll m c Q K l) k) (l : Fin 128) :
    k0_pay3 (suffix (up (blkOf Q t)) (up (blkOf K t)) s) (k0_pay21 (iblk m c 2 t) (iblk m c 3 t)) o (ix2 0 l)
      = ∑ k ∈ Finset.Ico (512 * (7 - t.val)) 4096, ext (dfAll m c Q K l) k := by
  have ht := t.isLt
  have hN : cfg0.N = 8 := rfl
  rw [total_apply, ho]
  simp only [df_blk m c Q K t s hs]
  have e := sum_block (ext (dfAll m c Q K l)) (512 * (7 - t.val)) 512 0 (by omega)
  simp only [Nat.zero_le, if_true, Nat.add_zero] at e
  have e2 : ∑ x : Fin 512, dfAll m c Q K l (row t x) = ∑ k ∈ Finset.Ico (512 * (7 - t.val)) (512 * (7 - t.val) + 512), ext (dfAll m c Q K l) k := by
    rw [← e]
    exact Finset.sum_congr rfl fun x _ => (ext_lt (dfAll m c Q K l) (row t x)).symm
  rw [e2, add_comm, show 512 * (7 - t.val) + 512 = 512 * (8 - t.val) by omega]
  exact Finset.sum_Ico_consecutive _ (by omega) (by omega)

/-- What the three buffers hold after point `t`. -/
def Inv (t : Fin cfg0.N) (s : Vec Ideal S512x128 .bf16 × Vec Ideal S1x128 .f32 × Vec Ideal S8x128 .f32) : Prop :=
  (∀ r l, s.1 (ix2 r l) = dfAll m c Q K l (row t r))
    ∧ (∀ l, s.2.1 (ix2 0 l) = ∑ k ∈ Finset.Ico (512 * (7 - t.val)) 4096, ext (dfAll m c Q K l) k)
    ∧ (∀ l, row0 s.2.2 (ix2 0 l) = ((sufAll Q K l (512 * (7 - t.val)) : ℝ) : EReal))

theorem inv_of (t : Fin cfg0.N) (s : Vec Ideal S1x128 .f32)
    (hs : ∀ l, s (ix2 0 l) = ((sufAll Q K l (512 * (8 - t.val)) : ℝ) : EReal)) (o : Vec Ideal S1x128 .f32)
    (ho : ∀ l, o (ix2 0 l) = ∑ k ∈ Finset.Ico (512 * (8 - t.val)) 4096, ext (dfAll m c Q K l) k) :
    Inv m c Q K t (k0_pay2 (suffix (up (blkOf Q t)) (up (blkOf K t)) s) (k0_pay21 (iblk m c 2 t) (iblk m c 3 t)),
      k0_pay3 (suffix (up (blkOf Q t)) (up (blkOf K t)) s) (k0_pay21 (iblk m c 2 t) (iblk m c 3 t)) o,
      carry (up (blkOf Q t)) (up (blkOf K t)) s) :=
  ⟨fun r l => (grad_trunc _ _ _).trans (df_blk m c Q K t s hs r l), fun l => db_blk m c Q K t s hs o ho l,
    fun l => carry_blk Q K t s hs l⟩

include hQ hK in
theorem inv_all : ∀ (n : ℕ) (hn : n < cfg0.N), Inv m c Q K ⟨n, hn⟩ (outsAt0 m c n hn)
  | 0, hn => by
    have h := outsAt0_A m c ⟨0, hn⟩ (Nat.zero_mod _)
    dsimp only at h
    rw [h, out4_A, out5_A, sout_A, iblk0_eq m c Q hQ, iblk1_eq m c K hK]
    refine inv_of m c Q K ⟨0, hn⟩ _ (fun l => ?_) _ (fun l => ?_)
    · rw [row0_zero]; unfold sufAll
      show (0 : EReal) = ((∑ k ∈ Finset.Ico (512 * (8 - 0)) 4096, _ : ℝ) : EReal)
      rw [show 512 * (8 - 0) = 4096 from rfl, Finset.Ico_self, Finset.sum_empty, EReal.coe_zero]
    · rw [zero_apply]
      show (0 : EReal) = ∑ k ∈ Finset.Ico (512 * (8 - 0)) 4096, _
      rw [show 512 * (8 - 0) = 4096 from rfl, Finset.Ico_self, Finset.sum_empty]
  | n + 1, hn => by
    have hN : cfg0.N = 8 := rfl
    have ih := inv_all n (by omega)
    have h := outsAt0_B m c ⟨n + 1, hn⟩ (by show ¬(n + 1) % 8 = 0; omega)
    dsimp only at h
    rw [h, out4_B, out5_B, sout_B, iblk0_eq m c Q hQ, iblk1_eq m c K hK]
    refine inv_of m c Q K ⟨n + 1, hn⟩ _ (fun l => ?_) _ (fun l => ?_)
    · have := ih.2.2 l
      rw [show 512 * (8 - (n + 1)) = 512 * (7 - n) by omega]
      exact this
    · have := ih.2.1 l
      rw [show 512 * (8 - (n + 1)) = 512 * (7 - n) by omega]
      exact this

include hQ hK in
/-- The forget logits' gradient after the run. -/
theorem df_final (R : Fin 4096) (l : Fin 128) : ((dats m 0 c).arrAt 4 cfg0.N : Vec Ideal S4096x128 .bf16) (ix2 R l) = dfAll m c Q K l R := by
  have hN : cfg0.N = 8 := rfl
  have hR := R.isLt
  let t : Fin cfg0.N := ⟨7 - R.val / 512, by omega⟩
  let r : Fin 512 := ⟨R.val % 512, Nat.mod_lt _ (by decide)⟩
  have hrow : row t r = R := Fin.ext (by show 512 * (7 - (7 - R.val / 512)) + R.val % 512 = R.val; omega)
  have hemb : ((cfg0.win 4).blk t).view.emb (ix2 r l) = ix2 R l := by
    funext a
    apply Fin.ext
    show ((win0_4.rect t).emb (ix2 r l) a : Nat) = _
    rw [Window.rect_emb_val win0_4 t _ a rfl, idx4]
    fin_cases a
    · show (7 - t.val) * 512 + r.val = R.val
      rw [← hrow]; show _ = 512 * (7 - t.val) + r.val; omega
    · show 0 * 128 + l.val = l.val; omega
  have h := (dats m 0 c).arrAt_emb_eq_flushed 4 disjoint4 t (flush0_4 t) (ix2 r l)
  rw [← hemb]
  refine h.trans ?_
  rw [flushed4, ← hrow]
  exact (inv_all m c Q K hQ hK t.val t.isLt).1 r l

include hQ hK in
/-- The bias's gradient after the run: the sum over all the rows. -/
theorem db_at (t : Fin cfg0.N) (ht : t.val = 7) (l : Fin 128) :
    ((dats m 0 c).arrAt 5 cfg0.N : Vec Ideal S1x128 .f32) (ix2 (0 : Fin 1) l) = ∑ R : Fin 4096, dfAll m c Q K l R := by
  have hN : cfg0.N = 8 := rfl
  have hf : (cfg0.win 5).flush t = true := (flush0_5 t).mpr (by omega)
  have hemb : ((cfg0.win 5).blk t).view.emb (ix2 (0 : Fin 1) l) = ix2 (0 : Fin 1) l := by
    funext a
    apply Fin.ext
    show ((win0_5.rect t).emb (ix2 (0 : Fin 1) l) a : Nat) = _
    rw [Window.rect_emb_val win0_5 _ _ a rfl, idx5]
    fin_cases a
    · rfl
    · show 0 * 128 + l.val = l.val; omega
  have hdisj : ∀ t t' : Fin cfg0.N, (cfg0.win 5).flush t = true → (cfg0.win 5).flush t' = true → t ≠ t' →
      Disjoint ((cfg0.win 5).blk t).view.set ((cfg0.win 5).blk t').view.set := by
    intro t t' h h' hne
    have a := (flush0_5 t).mp h
    have b := (flush0_5 t').mp h'
    have := t.isLt
    have := t'.isLt
    exact absurd (Fin.ext (by omega)) hne
  have h := (dats m 0 c).arrAt_emb_eq_flushed 5 hdisj t hf (ix2 (0 : Fin 1) l)
  rw [hemb] at h
  refine h.trans ?_
  rw [flushed5]
  refine ((inv_all m c Q K hQ hK t.val t.isLt).2.1 l).trans ?_
  show ∑ k ∈ Finset.Ico (512 * (7 - t.val)) 4096, _ = _
  rw [ht, show 512 * (7 - 7) = 0 from rfl, ← Finset.range_eq_Ico, ← Fin.sum_univ_eq_sum_range]
  exact Finset.sum_congr rfl fun R _ => ext_lt (dfAll m c Q K l) R

include hQ hK in
theorem db_final (l : Fin 128) :
    ((dats m 0 c).arrAt 5 cfg0.N : Vec Ideal S1x128 .f32) (ix2 (0 : Fin 1) l) = ∑ R : Fin 4096, dfAll m c Q K l R :=
  db_at m c Q K hQ hK ⟨7, by decide⟩ rfl l

end Cert.CumsumBwdIdeal.Step
-- ==== Proof.CumsumRef.lean ====
/-
What the reference computes: the reverse sum of a running sum, the derivative of the log of the sigmoid, and their product.
-/
module

public import proofs.«01_k».proof.Proof.CumsumAlgebra
public import proofs.«01_k».proof.Proof.Finite
public import proofs.«01_k».proof.Proof.Gen.CumsumBwdRefIdeal.Run
public import proofs.«01_k».proof.Proof.Gen.CumsumBwdRefIdeal.Read

@[expose] public section

set_option maxRecDepth 16384

noncomputable section

open Idealize.ShloMosaic Idealize.ShloMosaic.TcCoe Idealize.SL.Sem

namespace Cert.CumsumBwdRefIdeal.Ref

open Cert.CumsumBwdRefIdeal Cert.CumsumBwdRefIdeal.Gen Cert.CumsumBwdRefIdeal.Read Cert.CumsumAlgebra

theorem foldl_add {M : Type} [AddCommMonoid M] {ι : Type} (g : ι → M) : ∀ (l : List ι) (v : M), l.foldl (fun r n => r + g n) v = v + (l.map g).sum
  | [], v => by simp
  | a :: l, v => by rw [List.foldl_cons, foldl_add g l, List.map_cons, List.sum_cons, add_assoc]

/-- A window as wide as the row, with the row's end padded with zeros: every entry is the sum of the entries from it on. -/
theorem window_suffix {A N M : ℕ} (hN : 0 < N) (x : FVec Ideal ⟨2, ![A, N]⟩ .f32) {u : Shape} (init : FVec Ideal u .f32) (hu : 0 < u.numel)
    (hinit : init (Shape.Idx.first hu) = (0 : EReal))
    (h : (⟨2, ![A, N]⟩ : Shape).ReduceWindows (![1, N] : Fin 2 → Nat) ![1, 1] ![0, 0] ![0, M] ⟨2, ![A, N]⟩) (a : Fin A) (j : Fin N) :
    Host.reduceWindowAdd (F := Ideal) ![1, N] ![1, 1] ![0, 0] ![0, M] x init h hu (ix2 a j)
      = ∑ k ∈ Finset.Ico j.val N, ext (fun R : Fin N => (x (ix2 a R) : EReal)) k := by
  have e1 : Host.reduceWindowAdd (F := Ideal) ![1, N] ![1, 1] ![0, 0] ![0, M] x init h hu (ix2 a j)
      = Host.reduceWindow (fun p q : EReal => p + q) ![1, N] ![1, 1] ![0, 0] ![0, M] x init h hu (ix2 a j) := rfl
  rw [e1]
  unfold Host.reduceWindow
  dsimp only
  rw [foldl_add, hinit, zero_add, ← Fin.sum_univ_def]
  rw [← Equiv.sum_comp (⟨2, ![1, N]⟩ : Shape).rowMajor]
  rw [sum_idx2]
  rw [Fin.sum_univ_one, ← sum_shift (ext (fun R : Fin N => (x (ix2 a R) : EReal))) N j.val j.isLt.le (fun k hk => ext_ge _ hk)]
  refine Finset.sum_congr rfl fun k _ => ?_
  have ha := a.isLt
  have hj := j.isLt
  have hw0 : ((⟨2, ![1, N]⟩ : Shape).rowMajor.symm ((⟨2, ![1, N]⟩ : Shape).rowMajor (ix2 0 k)) 0).val = 0 := by
    rw [Equiv.symm_apply_apply]; rfl
  have hw1 : ((⟨2, ![1, N]⟩ : Shape).rowMajor.symm ((⟨2, ![1, N]⟩ : Shape).rowMajor (ix2 0 k)) 1).val = k.val := by
    rw [Equiv.symm_apply_apply]; rfl
  have hin : (∀ b : Fin 2, (![0, 0] : Fin 2 → ℕ) b ≤ (ix2 a j b).val * (![1, 1] : Fin 2 → ℕ) b
        + ((⟨2, ![1, N]⟩ : Shape).rowMajor.symm ((⟨2, ![1, N]⟩ : Shape).rowMajor (ix2 0 k)) b).val
      ∧ (ix2 a j b).val * (![1, 1] : Fin 2 → ℕ) b
        + ((⟨2, ![1, N]⟩ : Shape).rowMajor.symm ((⟨2, ![1, N]⟩ : Shape).rowMajor (ix2 0 k)) b).val - (![0, 0] : Fin 2 → ℕ) b
        < (![A, N] : Fin 2 → ℕ) b) ↔ j.val + k.val < N := by
    rw [Fin.forall_fin_two, hw0, hw1]
    show (0 ≤ a.val * 1 + 0 ∧ a.val * 1 + 0 - 0 < A) ∧ (0 ≤ j.val * 1 + k.val ∧ j.val * 1 + k.val - 0 < N) ↔ _
    omega
  unfold ext
  by_cases hk : j.val + k.val < N
  · rw [dif_pos hk]
    refine (dif_pos (hin.mpr hk)).trans (congrArg x (funext fun b => Fin.ext ?_))
    match b with
    | ⟨0, _⟩ =>
      show a.val * 1 + ((⟨2, ![1, N]⟩ : Shape).rowMajor.symm ((⟨2, ![1, N]⟩ : Shape).rowMajor (ix2 0 k)) 0).val - 0 = a.val
      rw [hw0]; omega
    | ⟨1, _⟩ =>
      show j.val * 1 + ((⟨2, ![1, N]⟩ : Shape).rowMajor.symm ((⟨2, ![1, N]⟩ : Shape).rowMajor (ix2 0 k)) 1).val - 0 = j.val + k.val
      rw [hw1]; omega
  · rw [dif_neg hk]
    exact dif_neg (fun hb => hk (hin.mp hb))

theorem l1 : Ideal.log1p 0 = 0 := by
  rw [Ideal.log1p, add_zero, ← EReal.coe_one, Ideal.log_coe, if_neg (by norm_num), Real.log_one]
  rfl

/-- The derivative of the log of the sigmoid, as the reference writes it, is the sigmoid of minus the logit. -/
theorem softplus_grad (y : EReal) :
    Ideal.exp ((if y = ⊤ then 0 else y) -
        if (if y ≠ y then y else max y 0 + Ideal.log1p (Ideal.exp (-max y (-y)))) = ⊤ then 0
        else if y ≠ y then y else max y 0 + Ideal.log1p (Ideal.exp (-max y (-y)))) = Ideal.logistic y := by
  have hne : ¬(y ≠ y) := fun h => h rfl
  rw [if_neg hne]
  induction y using EReal.rec with
  | bot =>
    have e : max (⊥ : EReal) 0 + Ideal.log1p (Ideal.exp (-max (⊥ : EReal) (-⊥))) = 0 := by
      rw [EReal.neg_bot, max_eq_right bot_le, max_eq_right bot_le, EReal.neg_top, Ideal.exp_bot, l1, add_zero]
    rw [e, if_neg (by simp), if_neg (by simp), sub_zero, Ideal.exp_bot, Ideal.logistic_bot]
  | top =>
    have e : max (⊤ : EReal) 0 + Ideal.log1p (Ideal.exp (-max (⊤ : EReal) (-⊤))) = ⊤ := by
      rw [EReal.neg_top, max_eq_left le_top, max_eq_left bot_le, EReal.neg_top, Ideal.exp_bot, l1, add_zero]
    rw [e, if_pos rfl, sub_zero, Ideal.logistic_top, ← EReal.coe_zero, Ideal.exp_coe, Real.exp_zero]
    rfl
  | coe r =>
    have hp : 0 < 1 + Real.exp (-max r (-r)) := by positivity
    have e : max (r : EReal) 0 + Ideal.log1p (Ideal.exp (-max (r : EReal) (-(r : EReal))))
        = ((max r 0 + Real.log (1 + Real.exp (-max r (-r))) : ℝ) : EReal) := by
      rw [show -max (r : EReal) (-(r : EReal)) = ((-max r (-r) : ℝ) : EReal) by push_cast; rfl, Ideal.exp_coe, Ideal.log1p,
        show (1 : EReal) + ((Real.exp (-max r (-r)) : ℝ) : EReal) = ((1 + Real.exp (-max r (-r)) : ℝ) : EReal) by push_cast; rfl,
        Ideal.log_coe, if_neg (by linarith)]
      push_cast
      rfl
    rw [e, if_neg (EReal.coe_ne_top _), if_neg (EReal.coe_ne_top _), ← EReal.coe_sub, Ideal.exp_coe, Ideal.logistic_coe]
    congr 1
    rw [Real.exp_sub, Real.exp_add, Real.exp_log hp]
    rcases le_total 0 r with h0 | h0
    · rw [max_eq_left h0, max_eq_left (by linarith : -r ≤ r)]
      field_simp
    · rw [max_eq_right h0, max_eq_right (by linarith : r ≤ -r), Real.exp_zero, neg_neg, one_mul, Real.exp_neg]
      field_simp
      ring

variable (x0 : FVec Ideal S4096x8 .f32) (x1 : FVec Ideal S1x8 .f32) (x2 x3 : FVec Ideal S4x4096x128 .f32)

/-- The gradient of the two running sums, at a row. -/
def dcRef (l : Fin 8) (R : Fin 4096) : EReal :=
  (if l.val % 2 < 1 then x2 (ix3 ⟨l.val / 2, by omega⟩ R 64) else x2 (ix3 ⟨l.val / 2, by omega⟩ R 0))
    + -(if l.val % 2 < 1 then x3 (ix3 ⟨l.val / 2, by omega⟩ R 67) else x3 (ix3 ⟨l.val / 2, by omega⟩ R 3))

theorem v25_at (l : Fin 8) (R : Fin 4096) : val_main_v25 (F := Ideal) x2 x3 (ix2 l R) = dcRef x2 x3 l R := by
  pointwise [val_main_v25, val_main_v24, val_main_v15, val_main_v14, val_main_v13, val_main_v12, val_main_v11, val_main_v10, val_main_v9, val_main_v8, val_main_v7, val_main_v6, val_main_v5, val_main_v4, val_main_v3, val_main_v2, val_main_v1, val_main_v0]
  unfold dcRef
  congr 1
  all_goals split <;> rfl

theorem v26_at (l : Fin 8) (R : Fin 4096) :
    val_main_v26 (F := Ideal) x2 x3 (ix2 l R) = ∑ k ∈ Finset.Ico R.val 4096, ext (dcRef x2 x3 l) k := by
  unfold val_main_v26
  rw [window_suffix (by decide) _ _ _ ?_ _ l R]
  · simp only [v25_at]
  · pointwise [val_main_call2_call0_v0, val_main_call2_call0_cst]

/-- The logit. -/
def zRef (l : Fin 8) (R : Fin 4096) : EReal := x0 (ix2 R l) + x1 (ix2 0 l)

theorem neg_z (l : Fin 8) (R : Fin 4096) : val_main_call0_v0 (F := Ideal) x0 x1 (ix2 R l) = -zRef x0 x1 l R := by
  pointwise [val_main_call0_v0, val_main_v19, val_main_v18, val_main_v17, val_main_v16]
  rfl

theorem v20_at (l : Fin 8) (R : Fin 4096) : val_main_v20_1 (F := Ideal) x0 x1 (ix2 R l) = Ideal.logistic (-zRef x0 x1 l R) := by
  rw [← softplus_grad, ← neg_z, ← Cert.Finite.ofBits_inf]
  pointwise [val_main_v20_1, val_main_call0_call0_v21, val_main_call0_call0_v20, val_main_call0_call0_v19, val_main_call0_call0_cst_3, val_main_call0_call0_v18, val_main_call0_call0_v17, val_main_call0_call0_cst_2, val_main_call0_call0_v16, val_main_call0_call0_v15, val_main_call0_call0_cst_1, val_main_call0_call0_v14, val_main_call0_call0_v13, val_main_call0_call0_cst_0, val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  rfl

/-- The forget logits' gradient. -/
def dfRef (l : Fin 8) (R : Fin 4096) : EReal :=
  (∑ k ∈ Finset.Ico R.val 4096, ext (dcRef x2 x3 l) k) * Ideal.logistic (-zRef x0 x1 l R)

theorem v28_at (l : Fin 8) (R : Fin 4096) : val_main_v28 (F := Ideal) x0 x1 x2 x3 (ix2 R l) = dfRef x0 x1 x2 x3 l R := by
  pointwise [val_main_v28, val_main_call3_v1, val_main_call3_v0, val_main_v27]
  rw [v26_at, v20_at, EReal.neg_mul, neg_neg]
  rfl

theorem sitofp_zero : (FloatOps.sitofp (F := Ideal) FTy.f32 0#32 : EReal) = 0 := by
  show (((0#32).toInt : ℝ) : EReal) = 0
  simp

theorem v34_at (l : Fin 128) (R : Fin 4096) :
    val_main_v34 (F := Ideal) x0 x1 x2 x3 (ix2 R l) = if h : l.val < 8 then dfRef x0 x1 x2 x3 ⟨l.val, h⟩ R else 0 := by
  pointwise [val_main_v34, val_main_v33, val_main_call4_v0, val_main_c]
  rw [sitofp_zero]
  simp only [v28_at]

theorem v35_at (l : Fin 128) :
    val_main_v35 (F := Ideal) x0 x1 x2 x3 (ix2 0 l) = if h : l.val < 8 then ∑ R : Fin 4096, dfRef x0 x1 x2 x3 ⟨l.val, h⟩ R else 0 := by
  pointwise [val_main_v35, val_main_call5_v0, val_main_c_1, val_main_v32, val_main_v31, val_main_v30, val_main_v29, val_main_cst, val_main_cst_0]
  rw [sitofp_zero]
  simp only [v28_at, Fin.sum_univ_one]

end Cert.CumsumBwdRefIdeal.Ref
-- ==== Proof.CumsumClaim.lean ====
/-
The kernel's two results are the reference's.
-/
module

public import proofs.«01_k».proof.Proof.CumsumKernel
public import proofs.«01_k».proof.Proof.CumsumRef
public import proofs.«01_k».proof.Defs
public import proofs.«01_k».proof.Proof.Gen.CumsumBwd
public import proofs.«01_k».proof.Proof.Gen.Pre_cumsum_finite

@[expose] public section

set_option maxRecDepth 16384

noncomputable section

open Idealize.ShloMosaic Idealize.ShloMosaic.TcCoe Idealize.SL.Sem

namespace Cert.CumsumClaim

open Cert.CumsumBwdIdeal.Step Cert.CumsumAlgebra
open Cert.CumsumBwdRefIdeal.Ref (dcRef zRef dfRef)

/-- The two tables are tables of reals, from the precondition. -/
theorem tables (x0 x1) (x2 x3 : FVec Ideal Cert.CumsumBwdIdeal.S4x4096x128 .f32) (j)
    (h : Cert.Pre_cumsum_finite.fn (F := Ideal) x0 x1 x2 x3 j = 1#1) :
    (∃ Q : Cert.CumsumBwdIdeal.S4x4096x128.Idx → ℝ, x2 = fun i => ((Q i : ℝ) : EReal))
      ∧ ∃ K : Cert.CumsumBwdIdeal.S4x4096x128.Idx → ℝ, x3 = fun i => ((K i : ℝ) : EReal) := by
  have h' := IntOp.andi_eq_one.1 h
  exact ⟨Cert.Finite.reals _ _ _ x2 j h'.1, Cert.Finite.reals _ _ _ x3 j h'.2⟩

variable (m : (ℓ : Loc Cert.CumsumBwdIdeal.nD Cert.CumsumBwdIdeal.τ Cert.CumsumBwdIdeal.sig) → Buf (Elt Ideal) ℓ)
  (c : Dev Cert.CumsumBwdIdeal.nD) (Q K : Cert.CumsumBwdIdeal.S4x4096x128.Idx → ℝ)
  (hQ : argQ m c = fun i => ((Q i : ℝ) : EReal)) (hK : argK m c = fun i => ((K i : ℝ) : EReal))

include hQ hK in
/-- A head's running-sum gradient is the same in both. -/
theorem dc_eq (l : Fin 128) (h : l.val < 8) (R : Fin 4096) :
    dcRef (argQ m c) (argK m c) ⟨l.val, h⟩ R = ((dcAll Q K l R : ℝ) : EReal) := by
  unfold dcRef dcAll
  rw [hQ, hK, dif_pos h, ← sub_eq_add_neg, EReal.coe_sub]
  by_cases h2 : l.val % 2 = 0
  · have h3 : l.val % 2 < 1 := by omega
    simp only [h2, if_true, zero_lt_one]
    rfl
  · have h3 : ¬ l.val % 2 < 1 := by omega
    simp only [h2, h3, if_false]
    rfl

theorem suf_eq_zero (l : Fin 128) (h : ¬l.val < 8) (j : ℕ) : sufAll Q K l j = 0 := by
  unfold sufAll
  refine Finset.sum_eq_zero fun k _ => ?_
  unfold ext
  split
  · unfold dcAll; exact dif_neg h
  · rfl

include hQ hK in
theorem suf_eq (l : Fin 128) (h : l.val < 8) (j : ℕ) :
    ∑ k ∈ Finset.Ico j 4096, ext (dcRef (argQ m c) (argK m c) ⟨l.val, h⟩) k = ((sufAll Q K l j : ℝ) : EReal) := by
  unfold sufAll
  rw [← coe_sum]
  refine Finset.sum_congr rfl fun k _ => ?_
  unfold ext
  split
  · exact dc_eq m c Q K hQ hK l h _
  · rfl

include hQ hK in
theorem df_eq (l : Fin 128) (R : Fin 4096) :
    dfAll m c Q K l R = if h : l.val < 8 then dfRef (argF m c) (argB m c) (argQ m c) (argK m c) ⟨l.val, h⟩ R else 0 := by
  unfold dfAll
  by_cases h : l.val < 8
  · rw [dif_pos h]
    unfold dfRef sgm zRef
    rw [suf_eq m c Q K hQ hK l h, V_v0, V_v1, dif_pos h, dif_pos h, zero_sub]
  · rw [dif_neg h, suf_eq_zero Q K l h, EReal.coe_zero, zero_mul]

/-- The reference runs on the host alone: its run keeps the arguments, and the program declares no semaphore. -/
theorem frame_ref : Cert.quiescent_CumsumBwdRefIdeal (hCumsumBwdRefIdeal := Cert.CumsumBwdRefIdeal.Gen.facts) := fun m g _ =>
  (θ_run Cert.CumsumBwdRefIdeal.defs _ _).mono
    (fun r h => ⟨fun c => (h c).2.2, Idealize.ShloMosaic.sem_eq_zero_of_no_sems (by decide) r.2⟩)
    (Cert.CumsumBwdRefIdeal.Value.run (F := Ideal) m g)

/-- The claim: after the kernel's run both results are the reference's, entry by entry, once the two cotangent
    tables hold reals. -/
theorem algebraic : Cert.algebraic_CumsumBwdIdeal_CumsumBwdRefIdeal_pre_cumsum_finite
    (hCumsumBwdIdeal := Cert.CumsumBwdIdeal.Gen.facts) (hCumsumBwdRefIdeal := Cert.CumsumBwdRefIdeal.Gen.facts)
    (hPre_cumsum_finite := Cert.Pre_cumsum_finite.Gen.facts) := by
  intro m g m' g' hpre hag
  refine ⟨fun c => Cert.CumsumBwdRefIdeal.Value.res_main_v34 m' c, fun c => Cert.CumsumBwdRefIdeal.Value.res_main_v35 m' c, ?_,
    Cert.CumsumBwdRefIdeal.Value.run m' g'⟩
  refine (θ_run _ _ _).mono (fun r h c => ?_) (Cert.CumsumBwdIdeal.Value.run_blocks m g)
  obtain ⟨h4, h5, h0, h1, h2, h3⟩ := h c
  obtain ⟨a0, a1, a2, a3⟩ := hag c
  obtain ⟨⟨Q, hQ⟩, ⟨K, hK⟩⟩ := tables (argF m c) (argB m c) (argQ m c) (argK m c) (fun a => Fin.elim0 a) (congrFun (hpre c) _)
  refine ⟨h4.trans ?_, h5.trans ?_, h0, h1, h2, h3⟩
  · dsimp only
    rw [Cert.CumsumBwdRefIdeal.Read.val_main_v34_eq, a0, a1, a2, a3]
    funext i
    obtain ⟨R, l, rfl⟩ : ∃ R l, i = ix2 R l := ⟨i 0, i 1, by funext a; fin_cases a <;> rfl⟩
    exact (df_final m c Q K hQ hK R l).trans ((df_eq m c Q K hQ hK l R).trans (Cert.CumsumBwdRefIdeal.Ref.v34_at _ _ _ _ l R).symm)
  · dsimp only
    rw [Cert.CumsumBwdRefIdeal.Read.val_main_v35_eq, a0, a1, a2, a3]
    funext i
    obtain ⟨z, l, rfl⟩ : ∃ (z : Fin 1) (l : Fin 128), i = ix2 z l := ⟨i 0, i 1, by funext a; fin_cases a <;> rfl⟩
    obtain rfl : z = 0 := Subsingleton.elim _ _
    refine (db_final m c Q K hQ hK l).trans (Eq.trans ?_ (Cert.CumsumBwdRefIdeal.Ref.v35_at _ _ _ _ l).symm)
    simp only [df_eq m c Q K hQ hK l]
    by_cases h : l.val < 8
    · simp only [dif_pos h]
    · simp only [dif_neg h, Finset.sum_const_zero]

end Cert.CumsumClaim
-- ==== Proof.AttnTables.lean ====
module

public import proofs.«01_k».proof.Proof.Gen.AttnBwdIdeal.Skeleton
public import proofs.«01_k».proof.Proof.Gen.AttnBwdIdeal.Launch

/-! The two tables the attention kernel is launched with (which query block and which key block each
    grid point works on), the blocks its windows take at them, and what its conditions come to. -/

@[expose] public section

set_option maxRecDepth 16384

noncomputable section

namespace Cert.AttnK

open Cert.AttnBwdIdeal Cert.AttnBwdIdeal.Gen
open Idealize.ShloMosaic
open Idealize.ShloMosaic.TcCoe

variable {F : FTy → Type} [FloatOps F] [Named F]

/-- The contents of the two tables. -/
def tabs : pre0.Contents (Elt F) := fun
  | 0 => fun i => lit0 (S36.rowMajor i)
  | 1 => fun i => lit1 (S36.rowMajor i)

/-- Where in a table a grid point reads. -/
def at_ (i : grid0.Coords) : S36.Idx :=
  (Rect.unit (s := S36) (k0_off1 i) S1.size (k0_off1_inb i)).emb (Shape.Idx.first (numel1_S1.symm ▸ Nat.one_pos))

/-- The query block a grid point works on, as the table's word. -/
def wq (i : grid0.Coords) : BitVec 32 := lit0 (S36.rowMajor (at_ i))
/-- The key block a grid point works on, as the table's word. -/
def wk (i : grid0.Coords) : BitVec 32 := lit1 (S36.rowMajor (at_ i))

/-- The words depend on the second coordinate only: read the tables there. -/
theorem wq_eq : ∀ i : grid0.Coords, wq i = lit0 (i 1) := by decide +kernel
theorem wk_eq : ∀ i : grid0.Coords, wk i = lit1 (i 1) := by decide +kernel

theorem tr0 (i : grid0.Coords) : cc0_transform_0 k0_off1_inb numel1_S1 (tabs (F := F)) i = ![(wq i).toNat, (BitVec.ofNat 32 (i 0).val).toNat] := rfl
theorem tr1 (i : grid0.Coords) : cc0_transform_1 k0_off1_inb numel1_S1 (tabs (F := F)) i = ![(wk i).toNat, (Scalar.addi 4#32 (BitVec.ofNat 32 (i 0).val)).toNat] := rfl
theorem tr2 (i : grid0.Coords) : cc0_transform_2 k0_off1_inb numel1_S1 (tabs (F := F)) i = ![(wk i).toNat, (Scalar.addi 8#32 (BitVec.ofNat 32 (i 0).val)).toNat] := rfl
theorem tr3 (i : grid0.Coords) : cc0_transform_3 k0_off1_inb numel1_S1 (tabs (F := F)) i = ![(wq i).toNat, (BitVec.ofNat 32 (i 0).val).toNat] := rfl
theorem tr4 (i : grid0.Coords) : cc0_transform_4 k0_off1_inb numel1_S1 (tabs (F := F)) i = ![(wk i).toNat, (BitVec.ofNat 32 (i 0).val).toNat] := rfl
theorem tr5 (i : grid0.Coords) : cc0_transform_5 k0_off1_inb numel1_S1 (tabs (F := F)) i = ![(wq i).toNat, (BitVec.ofNat 32 (i 0).val).toNat] := rfl
theorem tr6 (i : grid0.Coords) : cc0_transform_6 k0_off1_inb numel1_S1 (tabs (F := F)) i = ![(wq i).toNat, (BitVec.ofNat 32 (i 0).val).toNat] := rfl
theorem tr7 (i : grid0.Coords) : cc0_transform_7 k0_off1_inb numel1_S1 (tabs (F := F)) i = ![(BitVec.ofNat 32 (i 0).val).toNat, (wq i).toNat, 0] := rfl
theorem tr11 (i : grid0.Coords) : cc0_transform_11 k0_off1_inb numel1_S1 (tabs (F := F)) i = ![(wk i).toNat, (BitVec.ofNat 32 (i 0).val).toNat] := rfl
theorem tr12 (i : grid0.Coords) : cc0_transform_12 k0_off1_inb numel1_S1 (tabs (F := F)) i = ![(BitVec.ofNat 32 (i 0).val).toNat, (wk i).toNat, 0] := rfl
theorem tr13 (i : grid0.Coords) : cc0_transform_13 k0_off1_inb numel1_S1 (tabs (F := F)) i = ![(wk i).toNat, (BitVec.ofNat 32 (i 0).val).toNat] := rfl

theorem wq_le (i : grid0.Coords) : (wq i).toNat < 8 := by
  rw [wq_eq]; exact (by decide +kernel : ∀ a : Fin 36, (lit0 a).toNat < 8) (i 1)
theorem wk_le (i : grid0.Coords) : (wk i).toNat < 8 := by
  rw [wk_eq]; exact (by decide +kernel : ∀ a : Fin 36, (lit1 a).toNat < 8) (i 1)
theorem h_eq : ∀ i : grid0.Coords, (BitVec.ofNat 32 (i 0).val).toNat = (i 0).val := by decide +kernel
theorem h4_eq : ∀ i : grid0.Coords, (Scalar.addi 4#32 (BitVec.ofNat 32 (i 0).val)).toNat = 4 + (i 0).val := by decide +kernel
theorem h8_eq : ∀ i : grid0.Coords, (Scalar.addi 8#32 (BitVec.ofNat 32 (i 0).val)).toNat = 8 + (i 0).val := by decide +kernel
theorem h_lt (i : grid0.Coords) : (i 0).val < 4 := (i 0).isLt

/-- A block of 512 rows by 128 lanes of the packed projections is in the array, and of whole words. -/
theorem okA {a b : Nat} (ha : a < 8) (hb : b < 12) (f : Fin 2 → Nat) (hf : f = ![a, b]) :
    ∃ h : (∀ k, (f k + 1) * S512x128.size k ≤ S4096x1536.size k), EltTy.bits .bf16 = 32 ∨ (Rect.block (s := S4096x1536) S512x128.size f h).WholeWords (EltTy.packing .bf16) := by
  subst hf
  refine (by decide +kernel : ∀ (a : Fin 8) (b : Fin 12), ∃ h : (∀ k, ((![a.val, b.val] : Fin 2 → Nat) k + 1) * S512x128.size k ≤ S4096x1536.size k), EltTy.bits .bf16 = 32 ∨ (Rect.block (s := S4096x1536) S512x128.size ![a.val, b.val] h).WholeWords (EltTy.packing .bf16)) ⟨a, ha⟩ ⟨b, hb⟩

/-- The same of an array of four groups of lanes. -/
theorem okB {a b : Nat} (ha : a < 8) (hb : b < 4) (f : Fin 2 → Nat) (hf : f = ![a, b]) :
    ∃ h : (∀ k, (f k + 1) * S512x128.size k ≤ S4096x512.size k), EltTy.bits .bf16 = 32 ∨ (Rect.block (s := S4096x512) S512x128.size f h).WholeWords (EltTy.packing .bf16) := by
  subst hf
  refine (by decide +kernel : ∀ (a : Fin 8) (b : Fin 4), ∃ h : (∀ k, ((![a.val, b.val] : Fin 2 → Nat) k + 1) * S512x128.size k ≤ S4096x512.size k), EltTy.bits .bf16 = 32 ∨ (Rect.block (s := S4096x512) S512x128.size ![a.val, b.val] h).WholeWords (EltTy.packing .bf16)) ⟨a, ha⟩ ⟨b, hb⟩

/-- The same of an array stacked by group. -/
theorem okC {a b : Nat} (ha : a < 4) (hb : b < 8) (f : Fin 3 → Nat) (hf : f = ![a, b, 0]) :
    ∃ h : (∀ k, (f k + 1) * S1x512x128.size k ≤ S4x4096x128.size k), EltTy.bits .f32 = 32 ∨ (Rect.block (s := S4x4096x128) S1x512x128.size f h).WholeWords (EltTy.packing .f32) := by
  subst hf
  exact ⟨(by decide +kernel : ∀ (a : Fin 4) (b : Fin 8) (k), ((![a.val, b.val, 0] : Fin 3 → Nat) k + 1) * S1x512x128.size k ≤ S4x4096x128.size k) ⟨a, ha⟩ ⟨b, hb⟩, Or.inl rfl⟩

/-- Every block the tables name lies in its array. -/
theorem ok_tabs : ok0 (tabs (F := F)) := by
  unfold ok0
  have q := wq_le
  have k := wk_le
  refine ⟨fun i => okA (q i) (b := (i 0).val) ?_ _ ?_, fun i => okA (k i) (b := 4 + (i 0).val) ?_ _ ?_, fun i => okA (k i) (b := 8 + (i 0).val) ?_ _ ?_,
    fun i => okB (q i) (h_lt i) _ ?_, fun i => okB (k i) (h_lt i) _ ?_, fun i => okB (q i) (h_lt i) _ ?_, fun i => okB (q i) (h_lt i) _ ?_,
    fun i => okC (h_lt i) (q i) _ ?_, fun i => okB (k i) (h_lt i) _ ?_, fun i => okC (h_lt i) (k i) _ ?_, fun i => okB (k i) (h_lt i) _ ?_⟩
  all_goals first
    | (rw [tr0, h_eq]) | (rw [tr1, h4_eq]) | (rw [tr2, h8_eq]) | (rw [tr3, h_eq]) | (rw [tr4, h_eq]) | (rw [tr5, h_eq])
    | (rw [tr6, h_eq]) | (rw [tr7, h_eq]) | (rw [tr11, h_eq]) | (rw [tr12, h_eq]) | (rw [tr13, h_eq]) | (have := h_lt i; omega)

/-- The kernel's offsets at every grid point are aligned and in range. -/
theorem chk (i : grid0.Coords) : k0_chk1 (wq i) (wk i) := by
  rw [wq_eq, wk_eq]
  exact (by decide +kernel : ∀ a : Fin 36, k0_chk1 (lit0 a) (lit1 a)) (i 1)

end Cert.AttnK
-- ==== Proof.AttnBody.lean ====
module

public import proofs.«01_k».proof.Proof.AttnTables

/-! The body of the attention kernel, cut at its conditions: one definition for what each `if` runs, taking
    what is run after it, and the body as their sequence. -/

@[expose] public section

set_option maxRecDepth 65536

noncomputable section

namespace Cert.AttnK

open Cert.AttnBwdIdeal Cert.AttnBwdIdeal.Gen
open Idealize.ShloMosaic Idealize.SL.Sem

variable {F : FTy → Type} [FloatOps F] [Named F]

/-- The buffers the body is given, each with the fact that it is a whole one. -/
structure Refs where
  a2 : Memref sig .tc .smem S36 .i32
  h2 : a2.IsWhole
  a3 : Memref sig .tc .smem S36 .i32
  h3 : a3.IsWhole
  a4 : Memref sig .tc .vmem S512x128 .bf16
  h4 : a4.IsWhole
  a5 : Memref sig .tc .vmem S512x128 .bf16
  h5 : a5.IsWhole
  a6 : Memref sig .tc .vmem S512x128 .bf16
  h6 : a6.IsWhole
  a7 : Memref sig .tc .vmem S512x128 .bf16
  h7 : a7.IsWhole
  a8 : Memref sig .tc .vmem S512x128 .bf16
  h8 : a8.IsWhole
  a9 : Memref sig .tc .vmem S512x128 .bf16
  h9 : a9.IsWhole
  a10 : Memref sig .tc .vmem S512x128 .bf16
  h10 : a10.IsWhole
  a11 : Memref sig .tc .vmem S1x512x128 .f32
  h11 : a11.IsWhole
  a12 : Memref sig .tc .vmem S8x128 .f32
  h12 : a12.IsWhole
  a13 : Memref sig .tc .vmem S4096x128 .bf16
  h13 : a13.IsWhole
  a14 : Memref sig .tc .vmem S1x4096x128 .f32
  h14 : a14.IsWhole
  a15 : Memref sig .tc .vmem S512x128 .bf16
  h15 : a15.IsWhole
  a16 : Memref sig .tc .vmem S1x512x128 .f32
  h16 : a16.IsWhole
  a17 : Memref sig .tc .vmem S512x128 .bf16
  h17 : a17.IsWhole
  a18 : Memref sig .tc .vmem S2x4096x128 .f32
  h18 : a18.IsWhole
  a19 : Memref sig .tc .vmem S2x128x512 .f32
  h19 : a19.IsWhole
  a20 : Memref sig .tc .vmem S128x512 .f32
  h20 : a20.IsWhole
  a21 : Memref sig .tc .vmem S2x512x512 .f32
  h21 : a21.IsWhole
  a22 : Memref sig .tc .vmem S2x512x512 .f32
  h22 : a22.IsWhole
  a23 : Memref sig .tc .vmem S2x512x512 .bf16
  h23 : a23.IsWhole
  a24 : Memref sig .tc .vmem S2x512x512 .bf16
  h24 : a24.IsWhole

/-- A function of the buffers, at the bundle of them. -/
abbrev Refs.ap {α : Type _} (R : Refs) (f : ∀ (arg2 : Memref sig .tc .smem S36 .i32) (harg2 : arg2.IsWhole) (arg3 : Memref sig .tc .smem S36 .i32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x512x128 .f32) (harg11 : arg11.IsWhole) (arg12 : Memref sig .tc .vmem S8x128 .f32) (harg12 : arg12.IsWhole) (arg13 : Memref sig .tc .vmem S4096x128 .bf16) (harg13 : arg13.IsWhole) (arg14 : Memref sig .tc .vmem S1x4096x128 .f32) (harg14 : arg14.IsWhole) (arg15 : Memref sig .tc .vmem S512x128 .bf16) (harg15 : arg15.IsWhole) (arg16 : Memref sig .tc .vmem S1x512x128 .f32) (harg16 : arg16.IsWhole) (arg17 : Memref sig .tc .vmem S512x128 .bf16) (harg17 : arg17.IsWhole) (arg18 : Memref sig .tc .vmem S2x4096x128 .f32) (harg18 : arg18.IsWhole) (arg19 : Memref sig .tc .vmem S2x128x512 .f32) (harg19 : arg19.IsWhole) (arg20 : Memref sig .tc .vmem S128x512 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S2x512x512 .bf16) (harg23 : arg23.IsWhole) (arg24 : Memref sig .tc .vmem S2x512x512 .bf16) (harg24 : arg24.IsWhole), α) : α :=
  f R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24

/-- What is run after a fragment. -/
abbrev Then (F : FTy → Type) := PUnit.{1} → Prog (TpuEff nD τ sig (Elt F) Λ₀ .tc) PUnit

/-- Zero the accumulator of dq. -/
def zeroDq (i : grid0.Coords) (R : Refs) (k : Then F) : Prog (TpuEff nD τ sig (Elt F) Λ₀ .tc) PUnit := do
  let v24 : Vec F S2x4096x128 .f32 ← Prog.lift (.load R.a18 (Rect.unit (s := S2x4096x128) ![0, 0, 0] S2x4096x128.size inb_S2x4096x128_S2x4096x128_0_0_0).toLoadRect (View.loadsAt_vmem h_S2x4096x128))
  Prog.lift (.store R.a18 (Rect.unit (s := S2x4096x128) ![0, 0, 0] S2x4096x128.size inb_S2x4096x128_S2x4096x128_0_0_0) (k0_pay1 (F := F)) Finset.univ (View.stores_vmem_bits_univ h_S2x4096x128 rfl) (.inl rfl))
  k ⟨⟩

/-- Zero the accumulators of dk and dv. -/
def zeroDk (i : grid0.Coords) (R : Refs) (k : Then F) : Prog (TpuEff nD τ sig (Elt F) Λ₀ .tc) PUnit := do
  let v24 : Vec F S2x128x512 .f32 ← Prog.lift (.load R.a19 (Rect.unit (s := S2x128x512) ![0, 0, 0] S2x128x512.size inb_S2x128x512_S2x128x512_0_0_0).toLoadRect (View.loadsAt_vmem h_S2x128x512))
  Prog.lift (.store R.a19 (Rect.unit (s := S2x128x512) ![0, 0, 0] S2x128x512.size inb_S2x128x512_S2x128x512_0_0_0) (k0_pay2 (F := F)) Finset.univ (View.stores_vmem_bits_univ h_S2x128x512 rfl) (.inl rfl))
  let v28 : Vec F S128x512 .f32 ← Prog.lift (.load R.a20 (Rect.unit (s := S128x512) ![0, 0] S128x512.size inb_S128x512_S128x512_0_0).toLoadRect (View.loadsAt_vmem h_S128x512))
  Prog.lift (.store R.a20 (Rect.unit (s := S128x512) ![0, 0] S128x512.size inb_S128x512_S128x512_0_0) (k0_pay3 (F := F)) Finset.univ (View.stores_vmem_bits_univ h_S128x512 rfl) (.inl rfl))
  k ⟨⟩

/-- A block below the diagonal. -/
def offStep (i : grid0.Coords) (R : Refs) (v1 v3 : BitVec 32) (k0_hw1 : k0_chk1 v1 v3) (k0_h3 : k0_cond3 v1 v3 = 1#1) (v10 : IVec S512x128 32) (k : Then F) : Prog (TpuEff nD τ sig (Elt F) Λ₀ .tc) PUnit := do
  let ⟨v27, v28, v29, v31, v33, v34, v39, v42, v43, v45, v49, v54⟩ : Σ' (v27 : FVec F S512x128 .bf16) (v28 : Vec F S512x128 .bf16) (v29 : Vec F S512x128 .bf16) (v31 : FVec F S512x128 .bf16) (v33 : FVec F S512x128 .bf16) (v34 : Vec F S512x128 .bf16) (v39 : FVec F S512x128 .f32) (v42 : FVec F S512x128 .bf16) (v43 : Vec F S512x128 .bf16) (v45 : Vec F S512x128 .bf16) (v49 : FVec F S512x1 .f32), FVec F S512x512 .f32 ← R.ap (k0_part1 i) v10
  let ⟨v60, v61, v63, v67, v82⟩ : Σ' (v60 : FVec F S512x128 .bf16) (v61 : Vec F S512x128 .bf16) (v63 : Vec F S512x128 .bf16) (v67 : FVec F S512x1 .f32), FVec F S64x512 .f32 ← R.ap (k0_part2 i) v10 v27 v28 v29 v31 v33 v34 v39 v54
  let v119 : FVec F S64x512 .f32 ← R.ap (k0_part3 i) v49 v82
  let v155 : FVec F S64x512 .f32 ← R.ap (k0_part4 i) v49 v119
  let ⟨v187, v188⟩ : Σ' (v187 : FVec F S64x512 .f32), FVec F S64x512 .bf16 ← R.ap (k0_part5 i) v49 v155
  let v219 : FVec F S64x512 .bf16 ← R.ap (k0_part6 i) v49 v187 v188
  R.ap (k0_part7 i) v45 v49 v219
  let v279 : FVec F S64x512 .f32 ← R.ap (k0_part8 i) v1 v3 k0_hw1 k0_h3 v42 v43
  let v316 : FVec F S64x512 .f32 ← R.ap (k0_part9 i) v67 v279
  let ⟨v342, v351⟩ : Σ' (v342 : FVec F S64x512 .f32), FVec F S64x512 .f32 ← R.ap (k0_part10 i) v67 v316
  let v384 : FVec F S64x512 .f32 ← R.ap (k0_part11 i) v67 v342 v351
  let ⟨v416, v417⟩ : Σ' (v416 : FVec F S64x512 .bf16), Vec F S1x64x512 .bf16 ← R.ap (k0_part12 i) v67 v384
  R.ap (k0_part13 i) v63 v67 v416 v417
  let v449 : Vec F S1x512x512 .bf16 ← Prog.lift (.load R.a24 (Rect.unit (s := S2x512x512) ![1, 0, 0] S1x512x512.size inb_S2x512x512_S1x512x512_1_0_0).toLoadRect (View.loadsAt_vmem h_S1x512x512))
  let v451 : Vec F S1x128x512 .f32 ← Prog.lift (.load R.a19 (Rect.unit (s := S2x128x512) ![1, 0, 0] S1x128x512.size inb_S2x128x512_S1x128x512_1_0_0).toLoadRect (View.loadsAt_vmem h_S1x128x512))
  let v455 : Vec F S1x128x512 .f32 ← Prog.lift (.load R.a19 (Rect.unit (s := S2x128x512) ![1, 0, 0] S1x128x512.size inb_S2x128x512_S1x128x512_1_0_0).toLoadRect (View.loadsAt_vmem h_S1x128x512))
  Prog.lift (.store R.a19 (Rect.unit (s := S2x128x512) ![1, 0, 0] S1x128x512.size inb_S2x128x512_S1x128x512_1_0_0) (k0_pay5 v60 v449 v451) Finset.univ (View.stores_vmem_bits_univ h_S1x128x512 rfl) (.inl rfl))
  let v462 : Vec F S1x512x128 .f32 ← Prog.lift (.load R.a18 (Rect.unit (s := S2x4096x128) (k0_off3 v1) S1x512x128.size (k0_off3_inb v1 v3 k0_hw1 k0_h3)).toLoadRect (View.loadsAt_vmem h_S1x512x128))
  let v467 : Vec F S1x512x128 .f32 ← Prog.lift (.load R.a18 (Rect.unit (s := S2x4096x128) (k0_off3 v1) S1x512x128.size (k0_off3_inb v1 v3 k0_hw1 k0_h3)).toLoadRect (View.loadsAt_vmem h_S1x512x128))
  Prog.lift (.store R.a18 (Rect.unit (s := S2x4096x128) (k0_off3 v1) S1x512x128.size (k0_off3_inb v1 v3 k0_hw1 k0_h3)) (k0_pay6 v61 v449 v462) Finset.univ (View.stores_vmem_bits_univ h_S1x512x128 rfl) (.inl rfl))
  k ⟨⟩

/-- A block on the diagonal. -/
def diagStep (i : grid0.Coords) (R : Refs) (v1 v3 : BitVec 32) (k0_hw1 : k0_chk1 v1 v3) (k0_h4 : k0_cond4 v1 v3 = 1#1) (v10 : IVec S512x128 32) (k : Then F) : Prog (TpuEff nD τ sig (Elt F) Λ₀ .tc) PUnit := do
  let ⟨v75, v657, v668⟩ : Σ' (v75 : Vec F S512x128 .bf16) (v657 : FVec F S256x512 .bf16), BitVec 32 ← R.ap (k0_part32 i) v1 v3 k0_hw1 v10 k0_h4
  let v670 : Vec F S1x256x128 .f32 ← Prog.lift (.load R.a18 (Rect.unit (s := S2x4096x128) (k0_off5 v1 256#32) S1x256x128.size (k0_off5_inb v1 v3 k0_hw1 k0_h4 1)).toLoadRect (View.loadsAt_vmem h_S1x256x128))
  let v675 : Vec F S1x256x128 .f32 ← Prog.lift (.load R.a18 (Rect.unit (s := S2x4096x128) (k0_off5 v1 256#32) S1x256x128.size (k0_off5_inb v1 v3 k0_hw1 k0_h4 1)).toLoadRect (View.loadsAt_vmem h_S1x256x128))
  Prog.lift (.store R.a18 (Rect.unit (s := S2x4096x128) (k0_off5 v1 256#32) S1x256x128.size (k0_off5_inb v1 v3 k0_hw1 k0_h4 1)) (k0_pay7 v75 v657 v670) Finset.univ (View.stores_vmem_bits_univ h_S1x256x128 rfl) (.inl rfl))
  k ⟨⟩

/-- Write the blocks of dk, of its spare lanes and of dv. -/
def flushDk (i : grid0.Coords) (R : Refs) (k : Then F) : Prog (TpuEff nD τ sig (Elt F) Λ₀ .tc) PUnit := do
  let v23 : Vec F S1x128x512 .f32 ← Prog.lift (.load R.a19 (Rect.unit (s := S2x128x512) ![0, 0, 0] S1x128x512.size inb_S2x128x512_S1x128x512_0_0_0).toLoadRect (View.loadsAt_vmem h_S1x128x512))
  let v26 : Vec F S1x128x512 .f32 ← Prog.lift (.load R.a19 (Rect.unit (s := S2x128x512) ![1, 0, 0] S1x128x512.size inb_S2x128x512_S1x128x512_1_0_0).toLoadRect (View.loadsAt_vmem h_S1x128x512))
  let v35 : Vec F S512x128 .bf16 ← Prog.lift (.load R.a15 (Rect.unit (s := S512x128) ![0, 0] S512x128.size inb_S512x128_S512x128_0_0).toLoadRect (View.loadsAt_vmem h_S512x128))
  Prog.lift (.store R.a15 (Rect.unit (s := S512x128) ![0, 0] S512x128.size inb_S512x128_S512x128_0_0) (k0_pay10 v23 v26) Finset.univ (View.stores_vmem h_S512x128 (R.h15.storeExact_slice rfl _ packedbf16_S512x128_S512x128_0_0) (fun _ => rfl)) (.inl rfl))
  let v39 : Vec F S1x512x128 .f32 ← Prog.lift (.load R.a16 (Rect.unit (s := S1x512x128) ![0, 0, 0] S1x512x128.size inb_S1x512x128_S1x512x128_0_0_0).toLoadRect (View.loadsAt_vmem h_S1x512x128))
  Prog.lift (.store R.a16 (Rect.unit (s := S1x512x128) ![0, 0, 0] S1x512x128.size inb_S1x512x128_S1x512x128_0_0_0) (k0_pay11 v23 v26) Finset.univ (View.stores_vmem_bits_univ h_S1x512x128 rfl) (.inl rfl))
  let v42 : Vec F S128x512 .f32 ← Prog.lift (.load R.a20 (Rect.unit (s := S128x512) ![0, 0] S128x512.size inb_S128x512_S128x512_0_0).toLoadRect (View.loadsAt_vmem h_S128x512))
  let v45 : Vec F S512x128 .bf16 ← Prog.lift (.load R.a17 (Rect.unit (s := S512x128) ![0, 0] S512x128.size inb_S512x128_S512x128_0_0).toLoadRect (View.loadsAt_vmem h_S512x128))
  Prog.lift (.store R.a17 (Rect.unit (s := S512x128) ![0, 0] S512x128.size inb_S512x128_S512x128_0_0) (k0_pay12 v42) Finset.univ (View.stores_vmem h_S512x128 (R.h17.storeExact_slice rfl _ packedbf16_S512x128_S512x128_0_0) (fun _ => rfl)) (.inl rfl))
  k ⟨⟩

/-- Write dq and its spare lanes. -/
def flushDq (i : grid0.Coords) (R : Refs) (k : Then F) : Prog (TpuEff nD τ sig (Elt F) Λ₀ .tc) PUnit := do
  let v26 : Vec F S1x4096x128 .f32 ← Prog.lift (.load R.a18 (Rect.unit (s := S2x4096x128) ![0, 0, 0] S1x4096x128.size inb_S2x4096x128_S1x4096x128_0_0_0).toLoadRect (View.loadsAt_vmem h_S1x4096x128))
  let v28 : Vec F S1x4096x128 .f32 ← Prog.lift (.load R.a18 (Rect.unit (s := S2x4096x128) ![1, 0, 0] S1x4096x128.size inb_S2x4096x128_S1x4096x128_1_0_0).toLoadRect (View.loadsAt_vmem h_S1x4096x128))
  let v34 : Vec F S4096x128 .bf16 ← Prog.lift (.load R.a13 (Rect.unit (s := S4096x128) ![0, 0] S4096x128.size inb_S4096x128_S4096x128_0_0).toLoadRect (View.loadsAt_vmem h_S4096x128))
  Prog.lift (.store R.a13 (Rect.unit (s := S4096x128) ![0, 0] S4096x128.size inb_S4096x128_S4096x128_0_0) (k0_pay13 v26 v28) Finset.univ (View.stores_vmem h_S4096x128 (R.h13.storeExact_slice rfl _ packedbf16_S4096x128_S4096x128_0_0) (fun _ => rfl)) (.inl rfl))
  let v37 : Vec F S1x4096x128 .f32 ← Prog.lift (.load R.a18 (Rect.unit (s := S2x4096x128) ![1, 0, 0] S1x4096x128.size inb_S2x4096x128_S1x4096x128_1_0_0).toLoadRect (View.loadsAt_vmem h_S1x4096x128))
  let v39 : Vec F S1x4096x128 .f32 ← Prog.lift (.load R.a18 (Rect.unit (s := S2x4096x128) ![0, 0, 0] S1x4096x128.size inb_S2x4096x128_S1x4096x128_0_0_0).toLoadRect (View.loadsAt_vmem h_S1x4096x128))
  let v42 : Vec F S1x4096x128 .f32 ← Prog.lift (.load R.a14 (Rect.unit (s := S1x4096x128) ![0, 0, 0] S1x4096x128.size inb_S1x4096x128_S1x4096x128_0_0_0).toLoadRect (View.loadsAt_vmem h_S1x4096x128))
  Prog.lift (.store R.a14 (Rect.unit (s := S1x4096x128) ![0, 0, 0] S1x4096x128.size inb_S1x4096x128_S1x4096x128_0_0_0) (k0_pay14 v37 v39) Finset.univ (View.stores_vmem_bits_univ h_S1x4096x128 rfl) (.inl rfl))
  k ⟨⟩

/-- The body: the two words, the check of the offsets, then the fragments its conditions ask for. -/
def body (i : grid0.Coords) (R : Refs) : Prog (TpuEff nD τ sig (Elt F) Λ₀ .tc) PUnit := do
  let v1 : Elt F .i32 ← smemLoad R.a2 (Rect.unit (s := S36) (k0_off1 i) S1.size (k0_off1_inb i)) numel1_S1 rfl
  let v3 : Elt F .i32 ← smemLoad R.a3 (Rect.unit (s := S36) (k0_off1 i) S1.size (k0_off1_inb i)) numel1_S1 rfl
  have k0_hw1 : k0_chk1 v1 v3 := (← Prog.lift (TpuEff.assume (k0_chk1 v1 v3) (k0_chk1.dec v1 v3))).down
  let k6 : Then F := fun _ => if h6 : k0_cond6 i = 1#1 then flushDq i R (fun _ => pure ⟨⟩) else pure ⟨⟩
  let k5 : Then F := fun _ => if h5 : k0_cond5 v1 = 1#1 then flushDk i R k6 else k6 ⟨⟩
  let k4 : Then F := fun _ => if h4 : k0_cond4 v1 v3 = 1#1 then
    diagStep i R v1 v3 k0_hw1 h4 (iota .tc S512x128 32 [1] iota_S512x128_d1_w32) k5 else k5 ⟨⟩
  let k3 : Then F := fun _ => if h3 : k0_cond3 v1 v3 = 1#1 then
    offStep i R v1 v3 k0_hw1 h3 (iota .tc S512x128 32 [1] iota_S512x128_d1_w32) k4 else k4 ⟨⟩
  let k2 : Then F := fun _ => if Scalar.cmpi .ne (Scalar.extui (Scalar.cmpi .eq v1 v3) : BitVec 32) 0#32 = 1#1 then zeroDk i R k3 else k3 ⟨⟩
  if h1 : Scalar.cmpi .ne (Scalar.extui (Scalar.cmpi .eq (BitVec.ofNat 32 (i 1).val) 0#32) : BitVec 32) 0#32 = 1#1 then
    zeroDq i R k2 else k2 ⟨⟩

/-- The printed body is the sequence of its fragments. -/
theorem body_eq (i : grid0.Coords) (R : Refs) : R.ap (cc0_fox_attn_bwd (F := F) i) = body i R := rfl

end Cert.AttnK
-- ==== Proof.AttnRefs.lean ====
module

public import proofs.«01_k».proof.Proof.AttnBody

/-! What each fragment of the attention kernel's body leaves in the buffers it touches, run once on
    arbitrary whole staging buffers and the launch's own scratch buffers. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The blocks of the nine inputs at a grid point. -/
structure Ins (F : FTy → Type) where
  x0 : S512x128.Idx → Elt F .bf16
  x1 : S512x128.Idx → Elt F .bf16
  x2 : S512x128.Idx → Elt F .bf16
  x3 : S512x128.Idx → Elt F .bf16
  x4 : S512x128.Idx → Elt F .bf16
  x5 : S512x128.Idx → Elt F .bf16
  x6 : S512x128.Idx → Elt F .bf16
  x7 : S1x512x128.Idx → Elt F .f32
  x8 : S8x128.Idx → Elt F .f32

variable (arg2 : Memref sig .tc .smem S36 .i32) (harg2 : arg2.IsWhole) (arg3 : Memref sig .tc .smem S36 .i32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x512x128 .f32) (harg11 : arg11.IsWhole) (arg12 : Memref sig .tc .vmem S8x128 .f32) (harg12 : arg12.IsWhole) (arg13 : Memref sig .tc .vmem S4096x128 .bf16) (harg13 : arg13.IsWhole) (arg14 : Memref sig .tc .vmem S1x4096x128 .f32) (harg14 : arg14.IsWhole) (arg15 : Memref sig .tc .vmem S512x128 .bf16) (harg15 : arg15.IsWhole) (arg16 : Memref sig .tc .vmem S1x512x128 .f32) (harg16 : arg16.IsWhole) (arg17 : Memref sig .tc .vmem S512x128 .bf16) (harg17 : arg17.IsWhole) (arg18 : Memref sig .tc .vmem S2x4096x128 .f32) (harg18 : arg18.IsWhole) (arg19 : Memref sig .tc .vmem S2x128x512 .f32) (harg19 : arg19.IsWhole) (arg20 : Memref sig .tc .vmem S128x512 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S2x512x512 .bf16) (harg23 : arg23.IsWhole) (arg24 : Memref sig .tc .vmem S2x512x512 .bf16) (harg24 : arg24.IsWhole)

/-- The nine inputs staged. -/
def insP (c : Dev nD) (x : Ins F) : sProp 𝕄 :=
  iprop((arg4.view.loc (c : Thread nD τ) ↦[arg4.view.set]{fullShare} arg4.view.rep x.x0)
    ∗ (arg5.view.loc (c : Thread nD τ) ↦[arg5.view.set]{fullShare} arg5.view.rep x.x1)
    ∗ (arg6.view.loc (c : Thread nD τ) ↦[arg6.view.set]{fullShare} arg6.view.rep x.x2)
    ∗ (arg7.view.loc (c : Thread nD τ) ↦[arg7.view.set]{fullShare} arg7.view.rep x.x3)
    ∗ (arg8.view.loc (c : Thread nD τ) ↦[arg8.view.set]{fullShare} arg8.view.rep x.x4)
    ∗ (arg9.view.loc (c : Thread nD τ) ↦[arg9.view.set]{fullShare} arg9.view.rep x.x5)
    ∗ (arg10.view.loc (c : Thread nD τ) ↦[arg10.view.set]{fullShare} arg10.view.rep x.x6)
    ∗ (arg11.view.loc (c : Thread nD τ) ↦[arg11.view.set]{fullShare} arg11.view.rep x.x7)
    ∗ (arg12.view.loc (c : Thread nD τ) ↦[arg12.view.set]{fullShare} arg12.view.rep x.x8))

end Cert.AttnK
-- ==== Proof.AttnRuns.lean ====
module

public import proofs.«01_k».proof.Proof.AttnRefs

/-! What the short fragments of the attention kernel leave in the buffers they touch. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (arg2 : Memref sig .tc .smem S36 .i32) (harg2 : arg2.IsWhole) (arg3 : Memref sig .tc .smem S36 .i32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x512x128 .f32) (harg11 : arg11.IsWhole) (arg12 : Memref sig .tc .vmem S8x128 .f32) (harg12 : arg12.IsWhole) (arg13 : Memref sig .tc .vmem S4096x128 .bf16) (harg13 : arg13.IsWhole) (arg14 : Memref sig .tc .vmem S1x4096x128 .f32) (harg14 : arg14.IsWhole) (arg15 : Memref sig .tc .vmem S512x128 .bf16) (harg15 : arg15.IsWhole) (arg16 : Memref sig .tc .vmem S1x512x128 .f32) (harg16 : arg16.IsWhole) (arg17 : Memref sig .tc .vmem S512x128 .bf16) (harg17 : arg17.IsWhole) (arg18 : Memref sig .tc .vmem S2x4096x128 .f32) (harg18 : arg18.IsWhole) (arg19 : Memref sig .tc .vmem S2x128x512 .f32) (harg19 : arg19.IsWhole) (arg20 : Memref sig .tc .vmem S128x512 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S2x512x512 .bf16) (harg23 : arg23.IsWhole) (arg24 : Memref sig .tc .vmem S2x512x512 .bf16) (harg24 : arg24.IsWhole)

set_option backward.proofsInPublic true in
set_option maxHeartbeats 8000000 in
/-- Zeroing the accumulator of dq. -/
def runZeroDq (c : Dev nD) (i : grid0.Coords) (s0 : Buf (Elt F) (arg18.view.loc (c : Thread nD τ))) :
    Σ' (o0 : Buf (Elt F) (arg18.view.loc (c : Thread nD τ))),
      ∀ (k : Then F) (K : PUnit → sProp 𝕄),
        iprop((arg18.view.loc (c : Thread nD τ) ↦{fullShare} s0)
          ∗ (iprop((arg18.view.loc (c : Thread nD τ) ↦{fullShare} o0)) -∗ wp frame (wpE (defs₀ (F := F)) Variants.none c none) Set.univ (k ⟨⟩) K))
        ⊢ wp frame (wpE (defs₀ (F := F)) Variants.none c none) Set.univ (zeroDq i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ k) K :=
  ⟨_, fun k K => by
    dsimp only [zeroDq, Refs.ap]
    iintro ⟨HS0, Hk⟩
    sl_exec!
    iapply Hk
    iexact HS0⟩

set_option backward.proofsInPublic true in
set_option maxHeartbeats 8000000 in
/-- Zeroing the accumulators of dk and dv. -/
def runZeroDk (c : Dev nD) (i : grid0.Coords) (s1 : Buf (Elt F) (arg19.view.loc (c : Thread nD τ))) (s2 : Buf (Elt F) (arg20.view.loc (c : Thread nD τ))) :
    Σ' (o1 : Buf (Elt F) (arg19.view.loc (c : Thread nD τ))) (o2 : Buf (Elt F) (arg20.view.loc (c : Thread nD τ))),
      ∀ (k : Then F) (K : PUnit → sProp 𝕄),
        iprop((arg19.view.loc (c : Thread nD τ) ↦{fullShare} s1)
          ∗ (arg20.view.loc (c : Thread nD τ) ↦{fullShare} s2)
          ∗ (iprop((arg19.view.loc (c : Thread nD τ) ↦{fullShare} o1)
              ∗ (arg20.view.loc (c : Thread nD τ) ↦{fullShare} o2)) -∗ wp frame (wpE (defs₀ (F := F)) Variants.none c none) Set.univ (k ⟨⟩) K))
        ⊢ wp frame (wpE (defs₀ (F := F)) Variants.none c none) Set.univ (zeroDk i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ k) K :=
  ⟨_, _, fun k K => by
    dsimp only [zeroDk, Refs.ap]
    iintro ⟨HS1, HS2, Hk⟩
    sl_exec!
    iapply Hk
    isplitl [HS1]; · iexact HS1
    iexact HS2⟩

set_option backward.proofsInPublic true in
set_option maxHeartbeats 8000000 in
/-- Writing dk, its spare lanes and dv. -/
def runFlushDk (c : Dev nD) (i : grid0.Coords) (s1 : Buf (Elt F) (arg19.view.loc (c : Thread nD τ))) (s2 : Buf (Elt F) (arg20.view.loc (c : Thread nD τ))) :
    Σ' (l15 : List (View.Piece (Elt F) S512x128 .bf16)) (l16 : List (View.Piece (Elt F) S1x512x128 .f32)) (l17 : List (View.Piece (Elt F) S512x128 .bf16)) (o1 : Buf (Elt F) (arg19.view.loc (c : Thread nD τ))) (o2 : Buf (Elt F) (arg20.view.loc (c : Thread nD τ))),
      ∀ (k : Then F) (K : PUnit → sProp 𝕄),
        iprop((∃ d, owns (c : Thread nD τ) arg15 fullShare d)
          ∗ (∃ d, owns (c : Thread nD τ) arg16 fullShare d)
          ∗ (∃ d, owns (c : Thread nD τ) arg17 fullShare d)
          ∗ (arg19.view.loc (c : Thread nD τ) ↦{fullShare} s1)
          ∗ (arg20.view.loc (c : Thread nD τ) ↦{fullShare} s2)
          ∗ (iprop((∃ f, arg15.view.loc (c : Thread nD τ) ↦[arg15.view.set]{fullShare} arg15.view.writes (Elt F) f l15)
              ∗ (∃ f, arg16.view.loc (c : Thread nD τ) ↦[arg16.view.set]{fullShare} arg16.view.writes (Elt F) f l16)
              ∗ (∃ f, arg17.view.loc (c : Thread nD τ) ↦[arg17.view.set]{fullShare} arg17.view.writes (Elt F) f l17)
              ∗ (arg19.view.loc (c : Thread nD τ) ↦{fullShare} o1)
              ∗ (arg20.view.loc (c : Thread nD τ) ↦{fullShare} o2)) -∗ wp frame (wpE (defs₀ (F := F)) Variants.none c none) Set.univ (k ⟨⟩) K))
        ⊢ wp frame (wpE (defs₀ (F := F)) Variants.none c none) Set.univ (flushDk i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ k) K :=
  ⟨_, _, _, _, _, fun k K => by
    dsimp only [flushDk, Refs.ap]
    unfold owns
    iintro ⟨⟨%d15, %f15, -, HO15⟩, ⟨%d16, %f16, -, HO16⟩, ⟨%d17, %f17, -, HO17⟩, HS1, HS2, Hk⟩
    sl_exec!
    iapply Hk
    isplitl [HO15]; · iexists _; iexact HO15
    isplitl [HO16]; · iexists _; iexact HO16
    isplitl [HO17]; · iexists _; iexact HO17
    isplitl [HS1]; · iexact HS1
    iexact HS2⟩

set_option backward.proofsInPublic true in
set_option maxHeartbeats 8000000 in
/-- Writing dq and its spare lanes. -/
def runFlushDq (c : Dev nD) (i : grid0.Coords) (s0 : Buf (Elt F) (arg18.view.loc (c : Thread nD τ))) :
    Σ' (l13 : List (View.Piece (Elt F) S4096x128 .bf16)) (l14 : List (View.Piece (Elt F) S1x4096x128 .f32)) (o0 : Buf (Elt F) (arg18.view.loc (c : Thread nD τ))),
      ∀ (k : Then F) (K : PUnit → sProp 𝕄),
        iprop((∃ d, owns (c : Thread nD τ) arg13 fullShare d)
          ∗ (∃ d, owns (c : Thread nD τ) arg14 fullShare d)
          ∗ (arg18.view.loc (c : Thread nD τ) ↦{fullShare} s0)
          ∗ (iprop((∃ f, arg13.view.loc (c : Thread nD τ) ↦[arg13.view.set]{fullShare} arg13.view.writes (Elt F) f l13)
              ∗ (∃ f, arg14.view.loc (c : Thread nD τ) ↦[arg14.view.set]{fullShare} arg14.view.writes (Elt F) f l14)
              ∗ (arg18.view.loc (c : Thread nD τ) ↦{fullShare} o0)) -∗ wp frame (wpE (defs₀ (F := F)) Variants.none c none) Set.univ (k ⟨⟩) K))
        ⊢ wp frame (wpE (defs₀ (F := F)) Variants.none c none) Set.univ (flushDq i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ k) K :=
  ⟨_, _, _, fun k K => by
    dsimp only [flushDq, Refs.ap]
    unfold owns
    iintro ⟨⟨%d13, %f13, -, HO13⟩, ⟨%d14, %f14, -, HO14⟩, HS0, Hk⟩
    sl_exec!
    iapply Hk
    isplitl [HO13]; · iexists _; iexact HO13
    isplitl [HO14]; · iexists _; iexact HO14
    iexact HS0⟩

end Cert.AttnK
-- ==== Proof.AttnRunOff.lean ====
module

public import proofs.«01_k».proof.Proof.AttnRefs

/-! What a block below the diagonal leaves in the buffers it touches. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (arg2 : Memref sig .tc .smem S36 .i32) (harg2 : arg2.IsWhole) (arg3 : Memref sig .tc .smem S36 .i32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x512x128 .f32) (harg11 : arg11.IsWhole) (arg12 : Memref sig .tc .vmem S8x128 .f32) (harg12 : arg12.IsWhole) (arg13 : Memref sig .tc .vmem S4096x128 .bf16) (harg13 : arg13.IsWhole) (arg14 : Memref sig .tc .vmem S1x4096x128 .f32) (harg14 : arg14.IsWhole) (arg15 : Memref sig .tc .vmem S512x128 .bf16) (harg15 : arg15.IsWhole) (arg16 : Memref sig .tc .vmem S1x512x128 .f32) (harg16 : arg16.IsWhole) (arg17 : Memref sig .tc .vmem S512x128 .bf16) (harg17 : arg17.IsWhole) (arg18 : Memref sig .tc .vmem S2x4096x128 .f32) (harg18 : arg18.IsWhole) (arg19 : Memref sig .tc .vmem S2x128x512 .f32) (harg19 : arg19.IsWhole) (arg20 : Memref sig .tc .vmem S128x512 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S2x512x512 .bf16) (harg23 : arg23.IsWhole) (arg24 : Memref sig .tc .vmem S2x512x512 .bf16) (harg24 : arg24.IsWhole)

set_option backward.proofsInPublic true in
set_option maxHeartbeats 8000000 in
/-- A block below the diagonal. -/
def runOff (c : Dev nD) (i : grid0.Coords) (v1 v3 : BitVec 32) (k0_hw1 : k0_chk1 v1 v3) (k0_h3 : k0_cond3 v1 v3 = 1#1) (v10 : IVec S512x128 32) (x : Ins F) (s0 : Buf (Elt F) (arg18.view.loc (c : Thread nD τ))) (s1 : Buf (Elt F) (arg19.view.loc (c : Thread nD τ))) (s2 : Buf (Elt F) (arg20.view.loc (c : Thread nD τ))) (s3 : Buf (Elt F) (arg21.view.loc (c : Thread nD τ))) (s4 : Buf (Elt F) (arg22.view.loc (c : Thread nD τ))) (s5 : Buf (Elt F) (arg23.view.loc (c : Thread nD τ))) (s6 : Buf (Elt F) (arg24.view.loc (c : Thread nD τ))) :
    Σ' (o0 : Buf (Elt F) (arg18.view.loc (c : Thread nD τ))) (o1 : Buf (Elt F) (arg19.view.loc (c : Thread nD τ))) (o2 : Buf (Elt F) (arg20.view.loc (c : Thread nD τ))) (o3 : Buf (Elt F) (arg21.view.loc (c : Thread nD τ))) (o4 : Buf (Elt F) (arg22.view.loc (c : Thread nD τ))) (o5 : Buf (Elt F) (arg23.view.loc (c : Thread nD τ))) (o6 : Buf (Elt F) (arg24.view.loc (c : Thread nD τ))),
      ∀ (k : Then F) (K : PUnit → sProp 𝕄),
        iprop((insP arg4 arg5 arg6 arg7 arg8 arg9 arg10 arg11 arg12 c x)
          ∗ (arg18.view.loc (c : Thread nD τ) ↦{fullShare} s0)
          ∗ (arg19.view.loc (c : Thread nD τ) ↦{fullShare} s1)
          ∗ (arg20.view.loc (c : Thread nD τ) ↦{fullShare} s2)
          ∗ (arg21.view.loc (c : Thread nD τ) ↦{fullShare} s3)
          ∗ (arg22.view.loc (c : Thread nD τ) ↦{fullShare} s4)
          ∗ (arg23.view.loc (c : Thread nD τ) ↦{fullShare} s5)
          ∗ (arg24.view.loc (c : Thread nD τ) ↦{fullShare} s6)
          ∗ (iprop((insP arg4 arg5 arg6 arg7 arg8 arg9 arg10 arg11 arg12 c x)
              ∗ (arg18.view.loc (c : Thread nD τ) ↦{fullShare} o0)
              ∗ (arg19.view.loc (c : Thread nD τ) ↦{fullShare} o1)
              ∗ (arg20.view.loc (c : Thread nD τ) ↦{fullShare} o2)
              ∗ (arg21.view.loc (c : Thread nD τ) ↦{fullShare} o3)
              ∗ (arg22.view.loc (c : Thread nD τ) ↦{fullShare} o4)
              ∗ (arg23.view.loc (c : Thread nD τ) ↦{fullShare} o5)
              ∗ (arg24.view.loc (c : Thread nD τ) ↦{fullShare} o6)) -∗ wp frame (wpE (defs₀ (F := F)) Variants.none c none) Set.univ (k ⟨⟩) K))
        ⊢ wp frame (wpE (defs₀ (F := F)) Variants.none c none) Set.univ (offStep i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ v1 v3 k0_hw1 k0_h3 v10 k) K :=
  ⟨_, _, _, _, _, _, _, fun k K => by
    dsimp only [offStep, Refs.ap]
    unfold insP
    iintro ⟨⟨H0, H1, H2, H3, H4, H5, H6, H7, H8⟩, HS0, HS1, HS2, HS3, HS4, HS5, HS6, Hk⟩
    sl_exec!
    iapply Hk
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HS0]; · iexact HS0
    isplitl [HS1]; · iexact HS1
    isplitl [HS2]; · iexact HS2
    isplitl [HS3]; · iexact HS3
    isplitl [HS4]; · iexact HS4
    isplitl [HS5]; · iexact HS5
    iexact HS6⟩

end Cert.AttnK
-- ==== Proof.AttnRunDiag.lean ====
module

public import proofs.«01_k».proof.Proof.AttnRefs

/-! What a block on the diagonal leaves in the buffers it touches. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (arg2 : Memref sig .tc .smem S36 .i32) (harg2 : arg2.IsWhole) (arg3 : Memref sig .tc .smem S36 .i32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x512x128 .f32) (harg11 : arg11.IsWhole) (arg12 : Memref sig .tc .vmem S8x128 .f32) (harg12 : arg12.IsWhole) (arg13 : Memref sig .tc .vmem S4096x128 .bf16) (harg13 : arg13.IsWhole) (arg14 : Memref sig .tc .vmem S1x4096x128 .f32) (harg14 : arg14.IsWhole) (arg15 : Memref sig .tc .vmem S512x128 .bf16) (harg15 : arg15.IsWhole) (arg16 : Memref sig .tc .vmem S1x512x128 .f32) (harg16 : arg16.IsWhole) (arg17 : Memref sig .tc .vmem S512x128 .bf16) (harg17 : arg17.IsWhole) (arg18 : Memref sig .tc .vmem S2x4096x128 .f32) (harg18 : arg18.IsWhole) (arg19 : Memref sig .tc .vmem S2x128x512 .f32) (harg19 : arg19.IsWhole) (arg20 : Memref sig .tc .vmem S128x512 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S2x512x512 .bf16) (harg23 : arg23.IsWhole) (arg24 : Memref sig .tc .vmem S2x512x512 .bf16) (harg24 : arg24.IsWhole)

set_option backward.proofsInPublic true in
set_option maxHeartbeats 8000000 in
/-- A block on the diagonal. -/
def runDiag (c : Dev nD) (i : grid0.Coords) (v1 v3 : BitVec 32) (k0_hw1 : k0_chk1 v1 v3) (k0_h4 : k0_cond4 v1 v3 = 1#1) (v10 : IVec S512x128 32) (x : Ins F) (s0 : Buf (Elt F) (arg18.view.loc (c : Thread nD τ))) (s1 : Buf (Elt F) (arg19.view.loc (c : Thread nD τ))) (s2 : Buf (Elt F) (arg20.view.loc (c : Thread nD τ))) (s3 : Buf (Elt F) (arg21.view.loc (c : Thread nD τ))) (s4 : Buf (Elt F) (arg22.view.loc (c : Thread nD τ))) (s5 : Buf (Elt F) (arg23.view.loc (c : Thread nD τ))) (s6 : Buf (Elt F) (arg24.view.loc (c : Thread nD τ))) :
    Σ' (o0 : Buf (Elt F) (arg18.view.loc (c : Thread nD τ))) (o1 : Buf (Elt F) (arg19.view.loc (c : Thread nD τ))) (o2 : Buf (Elt F) (arg20.view.loc (c : Thread nD τ))) (o3 : Buf (Elt F) (arg21.view.loc (c : Thread nD τ))) (o4 : Buf (Elt F) (arg22.view.loc (c : Thread nD τ))) (o5 : Buf (Elt F) (arg23.view.loc (c : Thread nD τ))) (o6 : Buf (Elt F) (arg24.view.loc (c : Thread nD τ))),
      ∀ (k : Then F) (K : PUnit → sProp 𝕄),
        iprop((insP arg4 arg5 arg6 arg7 arg8 arg9 arg10 arg11 arg12 c x)
          ∗ (arg18.view.loc (c : Thread nD τ) ↦{fullShare} s0)
          ∗ (arg19.view.loc (c : Thread nD τ) ↦{fullShare} s1)
          ∗ (arg20.view.loc (c : Thread nD τ) ↦{fullShare} s2)
          ∗ (arg21.view.loc (c : Thread nD τ) ↦{fullShare} s3)
          ∗ (arg22.view.loc (c : Thread nD τ) ↦{fullShare} s4)
          ∗ (arg23.view.loc (c : Thread nD τ) ↦{fullShare} s5)
          ∗ (arg24.view.loc (c : Thread nD τ) ↦{fullShare} s6)
          ∗ (iprop((insP arg4 arg5 arg6 arg7 arg8 arg9 arg10 arg11 arg12 c x)
              ∗ (arg18.view.loc (c : Thread nD τ) ↦{fullShare} o0)
              ∗ (arg19.view.loc (c : Thread nD τ) ↦{fullShare} o1)
              ∗ (arg20.view.loc (c : Thread nD τ) ↦{fullShare} o2)
              ∗ (arg21.view.loc (c : Thread nD τ) ↦{fullShare} o3)
              ∗ (arg22.view.loc (c : Thread nD τ) ↦{fullShare} o4)
              ∗ (arg23.view.loc (c : Thread nD τ) ↦{fullShare} o5)
              ∗ (arg24.view.loc (c : Thread nD τ) ↦{fullShare} o6)) -∗ wp frame (wpE (defs₀ (F := F)) Variants.none c none) Set.univ (k ⟨⟩) K))
        ⊢ wp frame (wpE (defs₀ (F := F)) Variants.none c none) Set.univ (diagStep i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ v1 v3 k0_hw1 k0_h4 v10 k) K :=
  ⟨_, _, _, _, _, _, _, fun k K => by
    dsimp only [diagStep, Refs.ap]
    unfold insP
    iintro ⟨⟨H0, H1, H2, H3, H4, H5, H6, H7, H8⟩, HS0, HS1, HS2, HS3, HS4, HS5, HS6, Hk⟩
    sl_exec!
    iapply Hk
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HS0]; · iexact HS0
    isplitl [HS1]; · iexact HS1
    isplitl [HS2]; · iexact HS2
    isplitl [HS3]; · iexact HS3
    isplitl [HS4]; · iexact HS4
    isplitl [HS5]; · iexact HS5
    iexact HS6⟩

end Cert.AttnK
-- ==== Proof.AttnStep.lean ====
module

public import Idealize.ShloMosaic.Lib.Pipeline.Frame
public import Idealize.ShloMosaic.Lib.Ring
import Idealize.ShloMosaic.Lib.Tactic
public import proofs.«01_k».proof.Proof.AttnTables
public import proofs.«01_k».proof.Proof.AttnRuns
public import proofs.«01_k».proof.Proof.AttnRunOff
public import proofs.«01_k».proof.Proof.AttnRunDiag

/-! One grid point of the attention kernel: what it leaves in the scratch buffers and in the output
    blocks, as a function of the blocks it is given and of the scratch buffers before it. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of the seven scratch buffers. -/
structure St (F : FTy → Type) (arg18 : Memref sig .tc .vmem S2x4096x128 .f32) (arg19 : Memref sig .tc .vmem S2x128x512 .f32) (arg20 : Memref sig .tc .vmem S128x512 .f32) (arg21 : Memref sig .tc .vmem S2x512x512 .f32) (arg22 : Memref sig .tc .vmem S2x512x512 .f32) (arg23 : Memref sig .tc .vmem S2x512x512 .bf16) (arg24 : Memref sig .tc .vmem S2x512x512 .bf16) (c : Dev nD) where
  s0 : Buf (Elt F) (arg18.view.loc (c : Thread nD τ))
  s1 : Buf (Elt F) (arg19.view.loc (c : Thread nD τ))
  s2 : Buf (Elt F) (arg20.view.loc (c : Thread nD τ))
  s3 : Buf (Elt F) (arg21.view.loc (c : Thread nD τ))
  s4 : Buf (Elt F) (arg22.view.loc (c : Thread nD τ))
  s5 : Buf (Elt F) (arg23.view.loc (c : Thread nD τ))
  s6 : Buf (Elt F) (arg24.view.loc (c : Thread nD τ))

variable (arg2 : Memref sig .tc .smem S36 .i32) (harg2 : arg2.IsWhole) (arg3 : Memref sig .tc .smem S36 .i32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x512x128 .f32) (harg11 : arg11.IsWhole) (arg12 : Memref sig .tc .vmem S8x128 .f32) (harg12 : arg12.IsWhole) (arg13 : Memref sig .tc .vmem S4096x128 .bf16) (harg13 : arg13.IsWhole) (arg14 : Memref sig .tc .vmem S1x4096x128 .f32) (harg14 : arg14.IsWhole) (arg15 : Memref sig .tc .vmem S512x128 .bf16) (harg15 : arg15.IsWhole) (arg16 : Memref sig .tc .vmem S1x512x128 .f32) (harg16 : arg16.IsWhole) (arg17 : Memref sig .tc .vmem S512x128 .bf16) (harg17 : arg17.IsWhole) (arg18 : Memref sig .tc .vmem S2x4096x128 .f32) (harg18 : arg18.IsWhole) (arg19 : Memref sig .tc .vmem S2x128x512 .f32) (harg19 : arg19.IsWhole) (arg20 : Memref sig .tc .vmem S128x512 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S2x512x512 .bf16) (harg23 : arg23.IsWhole) (arg24 : Memref sig .tc .vmem S2x512x512 .bf16) (harg24 : arg24.IsWhole)

variable (c : Dev nD) (i : grid0.Coords) (v1 v3 : BitVec 32) (hw : k0_chk1 v1 v3) (x : Ins F)

/-- The scratch buffers held. -/
def scrP (c : Dev nD) (X : St F arg18 arg19 arg20 arg21 arg22 arg23 arg24 c) : sProp 𝕄 :=
  iprop((arg18.view.loc (c : Thread nD τ) ↦{fullShare} X.s0)
    ∗ (arg19.view.loc (c : Thread nD τ) ↦{fullShare} X.s1)
    ∗ (arg20.view.loc (c : Thread nD τ) ↦{fullShare} X.s2)
    ∗ (arg21.view.loc (c : Thread nD τ) ↦{fullShare} X.s3)
    ∗ (arg22.view.loc (c : Thread nD τ) ↦{fullShare} X.s4)
    ∗ (arg23.view.loc (c : Thread nD τ) ↦{fullShare} X.s5)
    ∗ (arg24.view.loc (c : Thread nD τ) ↦{fullShare} X.s6))

/-- The weakest precondition the fragments are stated with. -/
abbrev tri (c : Dev nD) (p : Prog (TpuEff nD τ sig (Elt F) Λ₀ .tc) PUnit) (K : PUnit → sProp 𝕄) : sProp 𝕄 :=
  wp frame (wpE (defs₀ (F := F)) Variants.none c none) Set.univ p K

/-- The lane numbers of a block. -/
abbrev lanes : IVec S512x128 32 := iota .tc S512x128 32 [1] iota_S512x128_d1_w32

/-- The first visit of a head. -/
abbrev isFirst (i : grid0.Coords) : Prop :=
  Scalar.cmpi .ne (Scalar.extui (Scalar.cmpi .eq (BitVec.ofNat 32 (i 1).val) 0#32) : BitVec 32) 0#32 = 1#1

/-- The first visit of a key block. -/
abbrev isFirstK (v1 v3 : BitVec 32) : Prop :=
  Scalar.cmpi .ne (Scalar.extui (Scalar.cmpi .eq v1 v3) : BitVec 32) 0#32 = 1#1

variable (X : St F arg18 arg19 arg20 arg21 arg22 arg23 arg24 c)

/-- After the clearing of dq. -/
def zeroDqS : St F arg18 arg19 arg20 arg21 arg22 arg23 arg24 c := if isFirst i then ⟨(runZeroDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s0).1, X.s1, X.s2, X.s3, X.s4, X.s5, X.s6⟩ else X

/-- After the clearing of dk and dv. -/
def zeroDkS : St F arg18 arg19 arg20 arg21 arg22 arg23 arg24 c := if isFirstK v1 v3 then ⟨X.s0, (runZeroDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).1, (runZeroDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).2.1, X.s3, X.s4, X.s5, X.s6⟩ else X

/-- After a block below the diagonal. -/
def offS : St F arg18 arg19 arg20 arg21 arg22 arg23 arg24 c := if h : k0_cond3 v1 v3 = 1#1 then ⟨(runOff arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).1, (runOff arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.1, (runOff arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.1, (runOff arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.1, (runOff arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.2.1, (runOff arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.2.2.1, (runOff arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.2.2.2.1⟩ else X

/-- After a block on the diagonal. -/
def diagS : St F arg18 arg19 arg20 arg21 arg22 arg23 arg24 c := if h : k0_cond4 v1 v3 = 1#1 then ⟨(runDiag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).1, (runDiag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.1, (runDiag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.1, (runDiag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.1, (runDiag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.2.1, (runDiag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.2.2.1, (runDiag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.2.2.2.1⟩ else X

/-- The block written from the scratch buffers as output 0. -/
def blk13 : S4096x128.Idx → Elt F .bf16 :=
  arg13.view.read (Elt F) (arg13.view.writes (Elt F) arg13.view.junk (runFlushDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s0).1)

/-- The block written from the scratch buffers as output 1. -/
def blk14 : S1x4096x128.Idx → Elt F .f32 :=
  arg14.view.read (Elt F) (arg14.view.writes (Elt F) arg14.view.junk (runFlushDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s0).2.1)

/-- The block written from the scratch buffers as output 2. -/
def blk15 : S512x128.Idx → Elt F .bf16 :=
  arg15.view.read (Elt F) (arg15.view.writes (Elt F) arg15.view.junk (runFlushDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).1)

/-- The block written from the scratch buffers as output 3. -/
def blk16 : S1x512x128.Idx → Elt F .f32 :=
  arg16.view.read (Elt F) (arg16.view.writes (Elt F) arg16.view.junk (runFlushDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).2.1)

/-- The block written from the scratch buffers as output 4. -/
def blk17 : S512x128.Idx → Elt F .bf16 :=
  arg17.view.read (Elt F) (arg17.view.writes (Elt F) arg17.view.junk (runFlushDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).2.2.1)

/-- The clearing of dq. -/
theorem wp_zeroDq (k : Then F) (K : PUnit → sProp 𝕄) :
    iprop((scrP arg18 arg19 arg20 arg21 arg22 arg23 arg24 c X) ∗ (iprop((scrP arg18 arg19 arg20 arg21 arg22 arg23 arg24 c (zeroDqS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X))) -∗ tri c (k ⟨⟩) K))
    ⊢ tri c (if h : isFirst i then zeroDq i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ k else k ⟨⟩) K := by
  unfold scrP zeroDqS tri
  split_ifs with h
  · iintro ⟨⟨HS0, HS1, HS2, HS3, HS4, HS5, HS6⟩, Hk⟩
    iapply (runZeroDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s0).2 k K
    isplitl [HS0]; · iexact HS0
    iintro ⟨HS0⟩
    iapply Hk
    isplitl [HS0]; · iexact HS0
    isplitl [HS1]; · iexact HS1
    isplitl [HS2]; · iexact HS2
    isplitl [HS3]; · iexact HS3
    isplitl [HS4]; · iexact HS4
    isplitl [HS5]; · iexact HS5
    iexact HS6
  · iintro ⟨⟨HS0, HS1, HS2, HS3, HS4, HS5, HS6⟩, Hk⟩
    iapply Hk
    isplitl [HS0]; · iexact HS0
    isplitl [HS1]; · iexact HS1
    isplitl [HS2]; · iexact HS2
    isplitl [HS3]; · iexact HS3
    isplitl [HS4]; · iexact HS4
    isplitl [HS5]; · iexact HS5
    iexact HS6

/-- The clearing of dk and dv. -/
theorem wp_zeroDk (k : Then F) (K : PUnit → sProp 𝕄) :
    iprop((scrP arg18 arg19 arg20 arg21 arg22 arg23 arg24 c X) ∗ (iprop((scrP arg18 arg19 arg20 arg21 arg22 arg23 arg24 c (zeroDkS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 X))) -∗ tri c (k ⟨⟩) K))
    ⊢ tri c (if h : isFirstK v1 v3 then zeroDk i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ k else k ⟨⟩) K := by
  unfold scrP zeroDkS tri
  split_ifs with h
  · iintro ⟨⟨HS0, HS1, HS2, HS3, HS4, HS5, HS6⟩, Hk⟩
    iapply (runZeroDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).2.2 k K
    isplitl [HS1]; · iexact HS1
    isplitl [HS2]; · iexact HS2
    iintro ⟨HS1, HS2⟩
    iapply Hk
    isplitl [HS0]; · iexact HS0
    isplitl [HS1]; · iexact HS1
    isplitl [HS2]; · iexact HS2
    isplitl [HS3]; · iexact HS3
    isplitl [HS4]; · iexact HS4
    isplitl [HS5]; · iexact HS5
    iexact HS6
  · iintro ⟨⟨HS0, HS1, HS2, HS3, HS4, HS5, HS6⟩, Hk⟩
    iapply Hk
    isplitl [HS0]; · iexact HS0
    isplitl [HS1]; · iexact HS1
    isplitl [HS2]; · iexact HS2
    isplitl [HS3]; · iexact HS3
    isplitl [HS4]; · iexact HS4
    isplitl [HS5]; · iexact HS5
    iexact HS6

/-- A block below the diagonal. -/
theorem wp_off (k : Then F) (K : PUnit → sProp 𝕄) :
    iprop((scrP arg18 arg19 arg20 arg21 arg22 arg23 arg24 c X) ∗ (insP arg4 arg5 arg6 arg7 arg8 arg9 arg10 arg11 arg12 c x) ∗ (iprop((scrP arg18 arg19 arg20 arg21 arg22 arg23 arg24 c (offS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x X)) ∗ (insP arg4 arg5 arg6 arg7 arg8 arg9 arg10 arg11 arg12 c x)) -∗ tri c (k ⟨⟩) K))
    ⊢ tri c (if h : k0_cond3 v1 v3 = 1#1 then offStep i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ v1 v3 hw h lanes k else k ⟨⟩) K := by
  unfold scrP offS tri
  split_ifs with h
  · iintro ⟨⟨HS0, HS1, HS2, HS3, HS4, HS5, HS6⟩, HI, Hk⟩
    iapply (runOff arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.2.2.2.2 k K
    isplitl [HI]; · iexact HI
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨HI, HS0, HS1, HS2, HS3, HS4, HS5, HS6⟩
    iapply Hk
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact HI
  · iintro ⟨⟨HS0, HS1, HS2, HS3, HS4, HS5, HS6⟩, HI, Hk⟩
    iapply Hk
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact HI

/-- A block on the diagonal. -/
theorem wp_diag (k : Then F) (K : PUnit → sProp 𝕄) :
    iprop((scrP arg18 arg19 arg20 arg21 arg22 arg23 arg24 c X) ∗ (insP arg4 arg5 arg6 arg7 arg8 arg9 arg10 arg11 arg12 c x) ∗ (iprop((scrP arg18 arg19 arg20 arg21 arg22 arg23 arg24 c (diagS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x X)) ∗ (insP arg4 arg5 arg6 arg7 arg8 arg9 arg10 arg11 arg12 c x)) -∗ tri c (k ⟨⟩) K))
    ⊢ tri c (if h : k0_cond4 v1 v3 = 1#1 then diagStep i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ v1 v3 hw h lanes k else k ⟨⟩) K := by
  unfold scrP diagS tri
  split_ifs with h
  · iintro ⟨⟨HS0, HS1, HS2, HS3, HS4, HS5, HS6⟩, HI, Hk⟩
    iapply (runDiag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw h lanes x X.s0 X.s1 X.s2 X.s3 X.s4 X.s5 X.s6).2.2.2.2.2.2.2 k K
    isplitl [HI]; · iexact HI
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨HI, HS0, HS1, HS2, HS3, HS4, HS5, HS6⟩
    iapply Hk
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact HI
  · iintro ⟨⟨HS0, HS1, HS2, HS3, HS4, HS5, HS6⟩, HI, Hk⟩
    iapply Hk
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact HI

/-- Writing dk, its spare lanes and dv at the last row block. -/
theorem wp_flushDk (k : Then F) (K : PUnit → sProp 𝕄) :
    iprop((scrP arg18 arg19 arg20 arg21 arg22 arg23 arg24 c X) ∗ (∃ d, owns (c : Thread nD τ) arg15 fullShare d) ∗ (∃ d, owns (c : Thread nD τ) arg16 fullShare d) ∗ (∃ d, owns (c : Thread nD τ) arg17 fullShare d) ∗ (iprop((scrP arg18 arg19 arg20 arg21 arg22 arg23 arg24 c X) ∗ (∃ d, ⌜k0_cond5 v1 = 1#1 → d = (blk15 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X)⌝ ∗ owns (c : Thread nD τ) arg15 fullShare d) ∗ (∃ d, ⌜k0_cond5 v1 = 1#1 → d = (blk16 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X)⌝ ∗ owns (c : Thread nD τ) arg16 fullShare d) ∗ (∃ d, ⌜k0_cond5 v1 = 1#1 → d = (blk17 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X)⌝ ∗ owns (c : Thread nD τ) arg17 fullShare d)) -∗ tri c (k ⟨⟩) K))
    ⊢ tri c (if h : k0_cond5 v1 = 1#1 then flushDk i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ k else k ⟨⟩) K := by
  unfold scrP tri
  split_ifs with h
  · iintro ⟨⟨HS0, HS1, HS2, HS3, HS4, HS5, HS6⟩, HO15, HO16, HO17, Hk⟩
    iapply (runFlushDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).2.2.2.2.2 k K
    isplitl [HO15]; · iexact HO15
    isplitl [HO16]; · iexact HO16
    isplitl [HO17]; · iexact HO17
    isplitl [HS1]; · iexact HS1
    isplitl [HS2]; · iexact HS2
    iintro ⟨⟨%f15, HO15⟩, ⟨%f16, HO16⟩, ⟨%f17, HO17⟩, HS1, HS2⟩
    iapply Hk
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [HO15]
    · iexists _
      isplitr; swap
      · unfold owns; iexists _; isplitr; swap; · iexact HO15
        ipureintro; exact rfl
      ipureintro; intro _; exact View.read_writes_of_cover _ _ _ _ _ (View.cover_of_tiledL (runFlushDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).1 S512x128.size (by sl_kernel_rfl))
    isplitl [HO16]
    · iexists _
      isplitr; swap
      · unfold owns; iexists _; isplitr; swap; · iexact HO16
        ipureintro; exact rfl
      ipureintro; intro _; exact View.read_writes_of_cover _ _ _ _ _ (View.cover_of_tiledL (runFlushDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).2.1 S1x512x128.size (by sl_kernel_rfl))
    iexists _
    isplitr; swap
    · unfold owns; iexists _; isplitr; swap; · iexact HO17
      ipureintro; exact rfl
    ipureintro; intro _; exact View.read_writes_of_cover _ _ _ _ _ (View.cover_of_tiledL (runFlushDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s1 X.s2).2.2.1 S512x128.size (by sl_kernel_rfl))
  · iintro ⟨⟨HS0, HS1, HS2, HS3, HS4, HS5, HS6⟩, ⟨%d15, HO15⟩, ⟨%d16, HO16⟩, ⟨%d17, HO17⟩, Hk⟩
    iapply Hk
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [HO15]
    · iexists d15
      isplitr; · ipureintro; intro e; exact absurd e h
      iexact HO15
    isplitl [HO16]
    · iexists d16
      isplitr; · ipureintro; intro e; exact absurd e h
      iexact HO16
    iexists d17
    isplitr; · ipureintro; intro e; exact absurd e h
    iexact HO17

/-- Writing dq and its spare lanes at the last visit of a head. -/
theorem wp_flushDq (k : Then F) (K : PUnit → sProp 𝕄) :
    iprop((scrP arg18 arg19 arg20 arg21 arg22 arg23 arg24 c X) ∗ (∃ d, owns (c : Thread nD τ) arg13 fullShare d) ∗ (∃ d, owns (c : Thread nD τ) arg14 fullShare d) ∗ (iprop((scrP arg18 arg19 arg20 arg21 arg22 arg23 arg24 c X) ∗ (∃ d, ⌜k0_cond6 i = 1#1 → d = (blk13 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X)⌝ ∗ owns (c : Thread nD τ) arg13 fullShare d) ∗ (∃ d, ⌜k0_cond6 i = 1#1 → d = (blk14 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X)⌝ ∗ owns (c : Thread nD τ) arg14 fullShare d)) -∗ tri c (k ⟨⟩) K))
    ⊢ tri c (if h : k0_cond6 i = 1#1 then flushDq i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ k else k ⟨⟩) K := by
  unfold scrP tri
  split_ifs with h
  · iintro ⟨⟨HS0, HS1, HS2, HS3, HS4, HS5, HS6⟩, HO13, HO14, Hk⟩
    iapply (runFlushDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s0).2.2.2 k K
    isplitl [HO13]; · iexact HO13
    isplitl [HO14]; · iexact HO14
    isplitl [HS0]; · iexact HS0
    iintro ⟨⟨%f13, HO13⟩, ⟨%f14, HO14⟩, HS0⟩
    iapply Hk
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [HO13]
    · iexists _
      isplitr; swap
      · unfold owns; iexists _; isplitr; swap; · iexact HO13
        ipureintro; exact rfl
      ipureintro; intro _; exact View.read_writes_of_cover _ _ _ _ _ (View.cover_of_tiledL (runFlushDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s0).1 S4096x128.size (by sl_kernel_rfl))
    iexists _
    isplitr; swap
    · unfold owns; iexists _; isplitr; swap; · iexact HO14
      ipureintro; exact rfl
    ipureintro; intro _; exact View.read_writes_of_cover _ _ _ _ _ (View.cover_of_tiledL (runFlushDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X.s0).2.1 S1x4096x128.size (by sl_kernel_rfl))
  · iintro ⟨⟨HS0, HS1, HS2, HS3, HS4, HS5, HS6⟩, ⟨%d13, HO13⟩, ⟨%d14, HO14⟩, Hk⟩
    iapply Hk
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [HO13]
    · iexists d13
      isplitr; · ipureintro; intro e; exact absurd e h
      iexact HO13
    iexists d14
    isplitr; · ipureintro; intro e; exact absurd e h
    iexact HO14

end Cert.AttnK
-- ==== Proof.AttnBodyWp.lean ====
module

public import proofs.«01_k».proof.Proof.AttnStep
import Idealize.ShloMosaic.Lib.Tactic

/-! The whole body of the attention kernel at one grid point: its stages one after the other. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (arg2 : Memref sig .tc .smem S36 .i32) (harg2 : arg2.IsWhole) (arg3 : Memref sig .tc .smem S36 .i32) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x512x128 .f32) (harg11 : arg11.IsWhole) (arg12 : Memref sig .tc .vmem S8x128 .f32) (harg12 : arg12.IsWhole) (arg13 : Memref sig .tc .vmem S4096x128 .bf16) (harg13 : arg13.IsWhole) (arg14 : Memref sig .tc .vmem S1x4096x128 .f32) (harg14 : arg14.IsWhole) (arg15 : Memref sig .tc .vmem S512x128 .bf16) (harg15 : arg15.IsWhole) (arg16 : Memref sig .tc .vmem S1x512x128 .f32) (harg16 : arg16.IsWhole) (arg17 : Memref sig .tc .vmem S512x128 .bf16) (harg17 : arg17.IsWhole) (arg18 : Memref sig .tc .vmem S2x4096x128 .f32) (harg18 : arg18.IsWhole) (arg19 : Memref sig .tc .vmem S2x128x512 .f32) (harg19 : arg19.IsWhole) (arg20 : Memref sig .tc .vmem S128x512 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S2x512x512 .bf16) (harg23 : arg23.IsWhole) (arg24 : Memref sig .tc .vmem S2x512x512 .bf16) (harg24 : arg24.IsWhole)

variable (c : Dev nD) (i : grid0.Coords) (v1 v3 : BitVec 32) (hw : k0_chk1 v1 v3) (x : Ins F) (X : St F arg18 arg19 arg20 arg21 arg22 arg23 arg24 c)

/-- The scratch buffers before the flushes. -/
def accS : St F arg18 arg19 arg20 arg21 arg22 arg23 arg24 c :=
  (diagS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x (offS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x (zeroDkS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 (zeroDqS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X))))

/-- The word of the first table at a point. -/
abbrev wordQ (b : Buf (Elt F) (arg2.view.loc (c : Thread nD τ))) : BitVec 32 :=
  View.readAt (Elt F) arg2.view (Rect.unit (s := S36) (k0_off1 i) S1.size (k0_off1_inb i)).toLoadRect b (Shape.Idx.first (s := S1) (by rw [numel1_S1]; exact Nat.one_pos))

/-- The word of the second table at a point. -/
abbrev wordK (b : Buf (Elt F) (arg3.view.loc (c : Thread nD τ))) : BitVec 32 :=
  View.readAt (Elt F) arg3.view (Rect.unit (s := S36) (k0_off1 i) S1.size (k0_off1_inb i)).toLoadRect b (Shape.Idx.first (s := S1) (by rw [numel1_S1]; exact Nat.one_pos))

variable (R : Refs)

/-- The end of the body. -/
def c6 : Then F := fun _ => if h : k0_cond6 i = 1#1 then flushDq i R (fun _ => pure ⟨⟩) else pure ⟨⟩

/-- The body from the writing of dk on. -/
def c5 : Then F := fun _ => if h : k0_cond5 v1 = 1#1 then flushDk i R (c6 i R) else c6 i R ⟨⟩

/-- The body from the diagonal block on. -/
def c4 : Then F := fun _ => if h : k0_cond4 v1 v3 = 1#1 then diagStep i R v1 v3 hw h lanes (c5 i v1 R) else c5 i v1 R ⟨⟩

/-- The body from the lower block on. -/
def c3 : Then F := fun _ => if h : k0_cond3 v1 v3 = 1#1 then offStep i R v1 v3 hw h lanes (c4 i v1 v3 hw R) else c4 i v1 v3 hw R ⟨⟩

/-- The body from the clearing of dk on. -/
def c2 : Then F := fun _ => if h : isFirstK v1 v3 then zeroDk i R (c3 i v1 v3 hw R) else c3 i v1 v3 hw R ⟨⟩

/-- The body after its two words. -/
def c1 : Then F := fun _ => if h : isFirst i then zeroDq i R (c2 i v1 v3 hw R) else c2 i v1 v3 hw R ⟨⟩

/-- Unfolding the end of the body. -/
theorem c6_eq : c6 (F := F) i R ⟨⟩ = if h : k0_cond6 i = 1#1 then flushDq i R (fun _ => pure ⟨⟩) else pure ⟨⟩ := rfl

/-- Unfolding the body from the writing of dk on. -/
theorem c5_eq : c5 (F := F) i v1 R ⟨⟩ = if h : k0_cond5 v1 = 1#1 then flushDk i R (c6 i R) else c6 i R ⟨⟩ := rfl

/-- Unfolding the body from the diagonal block on. -/
theorem c4_eq : c4 (F := F) i v1 v3 hw R ⟨⟩ = if h : k0_cond4 v1 v3 = 1#1 then diagStep i R v1 v3 hw h lanes (c5 i v1 R) else c5 i v1 R ⟨⟩ := rfl

/-- Unfolding the body from the lower block on. -/
theorem c3_eq : c3 (F := F) i v1 v3 hw R ⟨⟩ = if h : k0_cond3 v1 v3 = 1#1 then offStep i R v1 v3 hw h lanes (c4 i v1 v3 hw R) else c4 i v1 v3 hw R ⟨⟩ := rfl

/-- Unfolding the body from the clearing of dk on. -/
theorem c2_eq : c2 (F := F) i v1 v3 hw R ⟨⟩ = if h : isFirstK v1 v3 then zeroDk i R (c3 i v1 v3 hw R) else c3 i v1 v3 hw R ⟨⟩ := rfl

/-- Unfolding the body after its two words. -/
theorem c1_eq : c1 (F := F) i v1 v3 hw R ⟨⟩ = if h : isFirst i then zeroDq i R (c2 i v1 v3 hw R) else c2 i v1 v3 hw R ⟨⟩ := rfl

/-- The body with its continuations named. -/
theorem body_named : body (F := F) i R = (do
  let v1 : Elt F .i32 ← smemLoad R.a2 (Rect.unit (s := S36) (k0_off1 i) S1.size (k0_off1_inb i)) numel1_S1 rfl
  let v3 : Elt F .i32 ← smemLoad R.a3 (Rect.unit (s := S36) (k0_off1 i) S1.size (k0_off1_inb i)) numel1_S1 rfl
  have k0_hw1 : k0_chk1 v1 v3 := (← Prog.lift (TpuEff.assume (k0_chk1 v1 v3) (k0_chk1.dec v1 v3))).down
  c1 i v1 v3 k0_hw1 R ⟨⟩) := rfl

/-- The two words and the check, then a continuation that takes them. -/
theorem wp_words (q2 q3 : PosShare TreeShare) (b2 : Buf (Elt F) (arg2.view.loc (c : Thread nD τ))) (b3 : Buf (Elt F) (arg3.view.loc (c : Thread nD τ)))
    (hwb : k0_chk1 (wordQ arg2 c i b2) (wordK arg3 c i b3)) (K : PUnit → sProp 𝕄)
    (k : ∀ v1 v3 : BitVec 32, k0_chk1 v1 v3 → Prog (TpuEff nD τ sig (Elt F) Λ₀ .tc) PUnit) :
    iprop((arg2.view.loc (c : Thread nD τ) ↦{q2} b2) ∗ (arg3.view.loc (c : Thread nD τ) ↦{q3} b3) ∗ (iprop((arg2.view.loc (c : Thread nD τ) ↦{q2} b2) ∗ (arg3.view.loc (c : Thread nD τ) ↦{q3} b3)) -∗ tri c (k (wordQ arg2 c i b2) (wordK arg3 c i b3) hwb) K))
    ⊢ tri c (do
        let v1 : Elt F .i32 ← smemLoad arg2 (Rect.unit (s := S36) (k0_off1 i) S1.size (k0_off1_inb i)) numel1_S1 rfl
        let v3 : Elt F .i32 ← smemLoad arg3 (Rect.unit (s := S36) (k0_off1 i) S1.size (k0_off1_inb i)) numel1_S1 rfl
        have k0_hw1 : k0_chk1 v1 v3 := (← Prog.lift (TpuEff.assume (k0_chk1 v1 v3) (k0_chk1.dec v1 v3))).down
        k v1 v3 k0_hw1) K := by
  dsimp only [tri]
  iintro ⟨HT2, HT3, Hk⟩
  sl_exec
  iapply Hk
  isplitl [HT2]; · iexact HT2
  iexact HT3

set_option maxHeartbeats 4000000 in
/-- The body from the tables, the staged inputs, the scratch buffers and the output blocks. -/
theorem wp_body (q2 q3 : PosShare TreeShare) (b2 : Buf (Elt F) (arg2.view.loc (c : Thread nD τ))) (b3 : Buf (Elt F) (arg3.view.loc (c : Thread nD τ)))
    (e1 : wordQ arg2 c i b2 = v1) (e3 : wordK arg3 c i b3 = v3) (K : PUnit → sProp 𝕄) :
    iprop((arg2.view.loc (c : Thread nD τ) ↦{q2} b2) ∗ (arg3.view.loc (c : Thread nD τ) ↦{q3} b3) ∗ (insP arg4 arg5 arg6 arg7 arg8 arg9 arg10 arg11 arg12 c x) ∗ (scrP arg18 arg19 arg20 arg21 arg22 arg23 arg24 c X) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg13 fullShare d) ∗ (∃ d, owns (c : Thread nD τ) arg14 fullShare d)
      ∗ (iprop((arg2.view.loc (c : Thread nD τ) ↦{q2} b2) ∗ (arg3.view.loc (c : Thread nD τ) ↦{q3} b3) ∗ (insP arg4 arg5 arg6 arg7 arg8 arg9 arg10 arg11 arg12 c x) ∗ (scrP arg18 arg19 arg20 arg21 arg22 arg23 arg24 c (accS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x X)) ∗ (∃ d, ⌜k0_cond5 v1 = 1#1 → d = (blk15 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i (accS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x X))⌝ ∗ owns (c : Thread nD τ) arg15 fullShare d) ∗ (∃ d, ⌜k0_cond5 v1 = 1#1 → d = (blk16 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i (accS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x X))⌝ ∗ owns (c : Thread nD τ) arg16 fullShare d) ∗ (∃ d, ⌜k0_cond5 v1 = 1#1 → d = (blk17 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i (accS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x X))⌝ ∗ owns (c : Thread nD τ) arg17 fullShare d) ∗ (∃ d, ⌜k0_cond6 i = 1#1 → d = (blk13 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i (accS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x X))⌝ ∗ owns (c : Thread nD τ) arg13 fullShare d) ∗ (∃ d, ⌜k0_cond6 i = 1#1 → d = (blk14 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i (accS arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i v1 v3 hw x X))⌝ ∗ owns (c : Thread nD τ) arg14 fullShare d)) -∗ K ⟨⟩))
    ⊢ tri c (body i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩) K := by
  subst e1
  subst e3
  rw [body_named]
  iintro ⟨HT2, HT3, HI, HS, HO15, HO16, HO17, HO13, HO14, Hk⟩
  iapply (wp_words arg2 arg3 c i q2 q3 b2 b3 hw K (fun v1 v3 h => c1 i v1 v3 h ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24⟩ ⟨⟩))
  isplitl [HT2]; · iexact HT2
  isplitl [HT3]; · iexact HT3
  iintro ⟨HT2, HT3⟩
  rw [c1_eq]
  iapply (wp_zeroDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i X)
  isplitl [HS]; · iexact HS
  iintro HS
  rw [c2_eq]
  iapply (wp_zeroDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i _ _ _)
  isplitl [HS]; · iexact HS
  iintro HS
  rw [c3_eq]
  iapply (wp_off arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i _ _ hw x _)
  isplitl [HS]; · iexact HS
  isplitl [HI]; · iexact HI
  iintro ⟨HS, HI⟩
  rw [c4_eq]
  iapply (wp_diag arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i _ _ hw x _)
  isplitl [HS]; · iexact HS
  isplitl [HI]; · iexact HI
  iintro ⟨HS, HI⟩
  rw [c5_eq]
  iapply (wp_flushDk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i _ _)
  isplitl [HS]; · iexact HS
  isplitl [HO15]; · iexact HO15
  isplitl [HO16]; · iexact HO16
  isplitl [HO17]; · iexact HO17
  iintro ⟨HS, HO15, HO16, HO17⟩
  rw [c6_eq]
  iapply (wp_flushDq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c i _)
  isplitl [HS]; · iexact HS
  isplitl [HO13]; · iexact HO13
  isplitl [HO14]; · iexact HO14
  iintro ⟨HS, HO13, HO14⟩
  dsimp only [tri]
  rw [wp_pure]
  imodintro
  iapply Hk
  isplitl [HT2]; · iexact HT2
  isplitl [HT3]; · iexact HT3
  isplitl [HI]; · iexact HI
  isplitl [HS]; · iexact HS
  isplitl [HO15]; · iexact HO15
  isplitl [HO16]; · iexact HO16
  isplitl [HO17]; · iexact HO17
  isplitl [HO13]; · iexact HO13
  iexact HO14

end Cert.AttnK
-- ==== Proof.AttnPoint.lean ====
module

public import proofs.«01_k».proof.Proof.AttnBodyWp
public import Idealize.ShloMosaic.Lib.Pipeline.Frame
public import Idealize.ShloMosaic.Lib.Pipeline.FrameBody
public import Idealize.ShloMosaic.Lib.Pipeline.TableIdle

/-! The pipeline of the attention kernel at its two tables: staging buffers, scratch contents along the
    grid, and the data of the run. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The tables with the side condition they meet. -/
def adm : (pcfg0 (F := F)).Adm := ⟨tabs, ok_tabs⟩

/-- The pipeline at the tables. -/
abbrev cfgA (F : FTy → Type) [FloatOps F] [Named F] : Pipeline.Cfg sig Λ₀ := cfg0 (F := F) adm

/-- The program's one pipeline at the tables. -/
abbrev pcsA (F : FTy → Type) [FloatOps F] [Named F] : Fin 1 → Pipeline.Cfg sig Λ₀ := Pipeline.pin (pcfgs (F := F)) fun _ => adm

/-- The coordinates of a point. -/
abbrev crd (t : Fin (cfgA F).N) : grid0.Coords := (cfgA F).grid.coords t

/-- The staging buffer of window 0 at a point. -/
abbrev ms0 (t : Fin (cfgA F).N) : Memref sig .tc .vmem S512x128 .bf16 := spec0_0.stage ((cfgA F).slots t (0 : Fin 14))

/-- It is a whole buffer. -/
theorem hs0 (t : Fin (cfgA F).N) : (ms0 (F := F) t).IsWhole := stage_whole0 (0 : Fin 14) ((cfgA F).slots t (0 : Fin 14))

/-- The staging buffer of window 1 at a point. -/
abbrev ms1 (t : Fin (cfgA F).N) : Memref sig .tc .vmem S512x128 .bf16 := spec0_1.stage ((cfgA F).slots t (1 : Fin 14))

/-- It is a whole buffer. -/
theorem hs1 (t : Fin (cfgA F).N) : (ms1 (F := F) t).IsWhole := stage_whole0 (1 : Fin 14) ((cfgA F).slots t (1 : Fin 14))

/-- The staging buffer of window 2 at a point. -/
abbrev ms2 (t : Fin (cfgA F).N) : Memref sig .tc .vmem S512x128 .bf16 := spec0_2.stage ((cfgA F).slots t (2 : Fin 14))

/-- It is a whole buffer. -/
theorem hs2 (t : Fin (cfgA F).N) : (ms2 (F := F) t).IsWhole := stage_whole0 (2 : Fin 14) ((cfgA F).slots t (2 : Fin 14))

/-- The staging buffer of window 3 at a point. -/
abbrev ms3 (t : Fin (cfgA F).N) : Memref sig .tc .vmem S512x128 .bf16 := spec0_3.stage ((cfgA F).slots t (3 : Fin 14))

/-- It is a whole buffer. -/
theorem hs3 (t : Fin (cfgA F).N) : (ms3 (F := F) t).IsWhole := stage_whole0 (3 : Fin 14) ((cfgA F).slots t (3 : Fin 14))

/-- The staging buffer of window 4 at a point. -/
abbrev ms4 (t : Fin (cfgA F).N) : Memref sig .tc .vmem S512x128 .bf16 := spec0_4.stage ((cfgA F).slots t (4 : Fin 14))

/-- It is a whole buffer. -/
theorem hs4 (t : Fin (cfgA F).N) : (ms4 (F := F) t).IsWhole := stage_whole0 (4 : Fin 14) ((cfgA F).slots t (4 : Fin 14))

/-- The staging buffer of window 5 at a point. -/
abbrev ms5 (t : Fin (cfgA F).N) : Memref sig .tc .vmem S512x128 .bf16 := spec0_5.stage ((cfgA F).slots t (5 : Fin 14))

/-- It is a whole buffer. -/
theorem hs5 (t : Fin (cfgA F).N) : (ms5 (F := F) t).IsWhole := stage_whole0 (5 : Fin 14) ((cfgA F).slots t (5 : Fin 14))

/-- The staging buffer of window 6 at a point. -/
abbrev ms6 (t : Fin (cfgA F).N) : Memref sig .tc .vmem S512x128 .bf16 := spec0_6.stage ((cfgA F).slots t (6 : Fin 14))

/-- It is a whole buffer. -/
theorem hs6 (t : Fin (cfgA F).N) : (ms6 (F := F) t).IsWhole := stage_whole0 (6 : Fin 14) ((cfgA F).slots t (6 : Fin 14))

/-- The staging buffer of window 7 at a point. -/
abbrev ms7 (t : Fin (cfgA F).N) : Memref sig .tc .vmem S1x512x128 .f32 := spec0_7.stage ((cfgA F).slots t (7 : Fin 14))

/-- It is a whole buffer. -/
theorem hs7 (t : Fin (cfgA F).N) : (ms7 (F := F) t).IsWhole := stage_whole0 (7 : Fin 14) ((cfgA F).slots t (7 : Fin 14))

/-- The staging buffer of window 8 at a point. -/
abbrev ms8 (t : Fin (cfgA F).N) : Memref sig .tc .vmem S8x128 .f32 := spec0_8.stage ((cfgA F).slots t (8 : Fin 14))

/-- It is a whole buffer. -/
theorem hs8 (t : Fin (cfgA F).N) : (ms8 (F := F) t).IsWhole := stage_whole0 (8 : Fin 14) ((cfgA F).slots t (8 : Fin 14))

/-- The staging buffer of window 9 at a point. -/
abbrev ms9 (t : Fin (cfgA F).N) : Memref sig .tc .vmem S4096x128 .bf16 := spec0_9.stage ((cfgA F).slots t (9 : Fin 14))

/-- It is a whole buffer. -/
theorem hs9 (t : Fin (cfgA F).N) : (ms9 (F := F) t).IsWhole := stage_whole0 (9 : Fin 14) ((cfgA F).slots t (9 : Fin 14))

/-- The staging buffer of window 10 at a point. -/
abbrev ms10 (t : Fin (cfgA F).N) : Memref sig .tc .vmem S1x4096x128 .f32 := spec0_10.stage ((cfgA F).slots t (10 : Fin 14))

/-- It is a whole buffer. -/
theorem hs10 (t : Fin (cfgA F).N) : (ms10 (F := F) t).IsWhole := stage_whole0 (10 : Fin 14) ((cfgA F).slots t (10 : Fin 14))

/-- The staging buffer of window 11 at a point. -/
abbrev ms11 (t : Fin (cfgA F).N) : Memref sig .tc .vmem S512x128 .bf16 := spec0_11.stage ((cfgA F).slots t (11 : Fin 14))

/-- It is a whole buffer. -/
theorem hs11 (t : Fin (cfgA F).N) : (ms11 (F := F) t).IsWhole := stage_whole0 (11 : Fin 14) ((cfgA F).slots t (11 : Fin 14))

/-- The staging buffer of window 12 at a point. -/
abbrev ms12 (t : Fin (cfgA F).N) : Memref sig .tc .vmem S1x512x128 .f32 := spec0_12.stage ((cfgA F).slots t (12 : Fin 14))

/-- It is a whole buffer. -/
theorem hs12 (t : Fin (cfgA F).N) : (ms12 (F := F) t).IsWhole := stage_whole0 (12 : Fin 14) ((cfgA F).slots t (12 : Fin 14))

/-- The staging buffer of window 13 at a point. -/
abbrev ms13 (t : Fin (cfgA F).N) : Memref sig .tc .vmem S512x128 .bf16 := spec0_13.stage ((cfgA F).slots t (13 : Fin 14))

/-- It is a whole buffer. -/
theorem hs13 (t : Fin (cfgA F).N) : (ms13 (F := F) t).IsWhole := stage_whole0 (13 : Fin 14) ((cfgA F).slots t (13 : Fin 14))

/-- The scratch contents of the launch. -/
abbrev StA (F : FTy → Type) [FloatOps F] [Named F] (c : Dev nD) := St F (Memref.whole cc0_scratch0) (Memref.whole cc0_scratch1) (Memref.whole cc0_scratch2) (Memref.whole cc0_scratch3) (Memref.whole cc0_scratch4) (Memref.whole cc0_scratch5) (Memref.whole cc0_scratch6) c

/-- The buffers of a point. -/
def refsAt (t : Fin (cfgA F).N) : Refs := ⟨Memref.whole main_c, Memref.isWhole_whole _, Memref.whole main_c_0, Memref.isWhole_whole _, ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t, ms11 t, hs11 t, ms12 t, hs12 t, ms13 t, hs13 t, Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _⟩

/-- The body as the pipeline calls it at a point. -/
abbrev bodyAt (t : Fin (cfgA F).N) : Prog (TpuEff nD τ sig (Elt F) Λ₀ .tc) PUnit := (refsAt t).ap (cc0_fox_attn_bwd (F := F) (crd t))

variable (m : (ℓ : Loc nD τ sig) → Buf (Elt F) ℓ)

/-- The memory the launch finds: what the host lines before it leave. -/
@[irreducible] def V (c : Dev nD) (b : Ref sig .tc) : Buf (Elt F) ((c : Thread nD τ).loc b) :=
  StableHlo.after hostOps0 (fun b => m (c, b)) b

/-- The block of a window at a point. -/
def iblk (c : Dev nD) (w : Fin 14) (t : Fin (cfgA F).N) : (((cfgA F).win w).xblock ((cfgA F).grid.coords t)).Idx → Elt F ((cfgA F).win w).elt :=
  (((cfgA F).win w).blk t).view.read (Elt F) (V m c (Pipeline.arrRef spec0 w))

/-- The nine input blocks at a point. -/
def insAt (c : Dev nD) (t : Fin (cfgA F).N) : Ins F :=
  ⟨iblk m c 0 t, iblk m c 1 t, iblk m c 2 t, iblk m c 3 t, iblk m c 4 t, iblk m c 5 t, iblk m c 6 t, iblk m c 7 t, iblk m c 8 t⟩

/-- The scratch contents after a point, from those before it. -/
def stepA (c : Dev nD) (t : Fin (cfgA F).N) (X : StA F c) : StA F c :=
  accS (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (crd t) (wq (crd t)) (wk (crd t)) (chk (crd t)) (insAt m c t) X

/-- The scratch contents before the point of a number, from those the launch finds. -/
def traj (c : Dev nD) (X0 : StA F c) : ℕ → StA F c
  | 0 => X0
  | n + 1 => if h : n < (cfgA F).N then stepA m c ⟨n, h⟩ (traj c X0 n) else traj c X0 n

/-- One more point. -/
theorem traj_succ (c : Dev nD) (X0 : StA F c) (t : Fin (cfgA F).N) : traj m c X0 (t.val + 1) = stepA m c t (traj m c X0 t.val) := by
  show (if h : t.val < (cfgA F).N then stepA m c ⟨t.val, h⟩ (traj m c X0 t.val) else traj m c X0 t.val) = _
  rw [dif_pos t.isLt]

/-- The block written to output 0 at a point, from the scratch contents after it. -/
def outAt9 (c : Dev nD) (t : Fin (cfgA F).N) (X : StA F c) : S4096x128.Idx → Elt F .bf16 :=
  blk13 (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (crd t) X

/-- The block written to output 1 at a point, from the scratch contents after it. -/
def outAt10 (c : Dev nD) (t : Fin (cfgA F).N) (X : StA F c) : S1x4096x128.Idx → Elt F .f32 :=
  blk14 (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (crd t) X

/-- The block written to output 2 at a point, from the scratch contents after it. -/
def outAt11 (c : Dev nD) (t : Fin (cfgA F).N) (X : StA F c) : S512x128.Idx → Elt F .bf16 :=
  blk15 (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (crd t) X

/-- The block written to output 3 at a point, from the scratch contents after it. -/
def outAt12 (c : Dev nD) (t : Fin (cfgA F).N) (X : StA F c) : S1x512x128.Idx → Elt F .f32 :=
  blk16 (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (crd t) X

/-- The block written to output 4 at a point, from the scratch contents after it. -/
def outAt13 (c : Dev nD) (t : Fin (cfgA F).N) (X : StA F c) : S512x128.Idx → Elt F .bf16 :=
  blk17 (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (crd t) X

/-- The windows whose contents are related, not named: the five outputs. -/
def fgt (w : Fin 14) : Bool := decide (9 ≤ w.val)

/-- What an output's staging buffer holds after a point: at a point that writes it, the block of some trajectory. -/
def Rl (c : Dev nD) (w : Fin 14) (t : Fin (cfgA F).N) : (((cfgA F).win w).block.Idx → Elt F ((cfgA F).win w).elt) → Prop :=
  match w with
  | ⟨9, _⟩ => fun X => ∃ X0 : StA F c, k0_cond6 (crd t) = 1#1 → X = outAt9 c t (traj m c X0 (t.val + 1))
  | ⟨10, _⟩ => fun X => ∃ X0 : StA F c, k0_cond6 (crd t) = 1#1 → X = outAt10 c t (traj m c X0 (t.val + 1))
  | ⟨11, _⟩ => fun X => ∃ X0 : StA F c, k0_cond5 (wq (crd t)) = 1#1 → X = outAt11 c t (traj m c X0 (t.val + 1))
  | ⟨12, _⟩ => fun X => ∃ X0 : StA F c, k0_cond5 (wq (crd t)) = 1#1 → X = outAt12 c t (traj m c X0 (t.val + 1))
  | ⟨13, _⟩ => fun X => ∃ X0 : StA F c, k0_cond5 (wq (crd t)) = 1#1 → X = outAt13 c t (traj m c X0 (t.val + 1))
  | _ => fun _ => True

/-- The two tables as the body holds them. -/
def tabP (c : Dev nD) : sProp 𝕄 :=
  iprop(((Memref.whole main_c).view.loc (c : Thread nD τ) ↦{fullShare.right} (tabs (F := F) 0)) ∗ ((Memref.whole main_c_0).view.loc (c : Thread nD τ) ↦{fullShare.right} (tabs (F := F) 1)))

/-- The invariant before the point of a number. -/
def Phi (c : Dev nD) (n : ℕ) : sProp 𝕄 :=
  iprop((∃ X0 : StA F c, scrP (Memref.whole cc0_scratch0) (Memref.whole cc0_scratch1) (Memref.whole cc0_scratch2) (Memref.whole cc0_scratch3) (Memref.whole cc0_scratch4) (Memref.whole cc0_scratch5) (Memref.whole cc0_scratch6) c (traj m c X0 n)) ∗ tabP c ∗ ∃ r, prngReg c r)

/-- The data of the pipeline. -/
def dats (c : Dev nD) : Pipeline.Dat τ (Elt F) Unit ℕ (UR sig nD τ) ℕ (cfgA F) c where
  A w := V m c (Pipeline.arrRef spec0 w)
  after w t := match w with
    | ⟨0, _⟩ => iblk m c (0 : Fin 14) t
    | ⟨1, _⟩ => iblk m c (1 : Fin 14) t
    | ⟨2, _⟩ => iblk m c (2 : Fin 14) t
    | ⟨3, _⟩ => iblk m c (3 : Fin 14) t
    | ⟨4, _⟩ => iblk m c (4 : Fin 14) t
    | ⟨5, _⟩ => iblk m c (5 : Fin 14) t
    | ⟨6, _⟩ => iblk m c (6 : Fin 14) t
    | ⟨7, _⟩ => iblk m c (7 : Fin 14) t
    | ⟨8, _⟩ => iblk m c (8 : Fin 14) t
    | ⟨9, _⟩ => fun _ => default
    | ⟨10, _⟩ => fun _ => default
    | ⟨11, _⟩ => fun _ => default
    | ⟨12, _⟩ => fun _ => default
    | ⟨13, _⟩ => fun _ => default
  Φ t := Phi m c t.val
  q w := Pipeline.shareOf spec0 w
  owed _ := 0

end Cert.AttnK
-- ==== Proof.AttnBefore.lean ====
module

public import proofs.«01_k».proof.Proof.AttnPoint

/-! What the input windows hold when the body of the attention kernel runs. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-- The arrays of the windows. -/
theorem A_eq (c : Dev nD) (w : Fin 14) : (dats m c).A w = V m c (Pipeline.arrRef spec0 w) := by dsimp only [dats]

/-- Input window 0 keeps its block. -/
theorem after0 (c : Dev nD) (t : Fin (cfgA F).N) : (dats m c).after (0 : Fin 14) t = iblk m c (0 : Fin 14) t := by dsimp only [dats]

/-- Input window 0 holds its block when the body runs. -/
theorem before0 (c : Dev nD) (t : Fin (cfgA F).N) (d) : (dats m c).before (0 : Fin 14) t d = iblk m c (0 : Fin 14) t :=
  ((dats m c).before_in_eq_fetched (0 : Fin 14) rfl (fun _ => rfl) (fun _ _ _ => rfl) (fun t => by rw [after0]; unfold Pipeline.Dat.blockOf iblk; rw [A_eq]; try rfl) t d).trans
    (by unfold Pipeline.Dat.fetched Pipeline.Dat.blockOf iblk; rw [A_eq]; try rfl)

/-- Input window 1 keeps its block. -/
theorem after1 (c : Dev nD) (t : Fin (cfgA F).N) : (dats m c).after (1 : Fin 14) t = iblk m c (1 : Fin 14) t := by dsimp only [dats]

/-- Input window 1 holds its block when the body runs. -/
theorem before1 (c : Dev nD) (t : Fin (cfgA F).N) (d) : (dats m c).before (1 : Fin 14) t d = iblk m c (1 : Fin 14) t :=
  ((dats m c).before_in_eq_fetched (1 : Fin 14) rfl (fun _ => rfl) (fun _ _ _ => rfl) (fun t => by rw [after1]; unfold Pipeline.Dat.blockOf iblk; rw [A_eq]; try rfl) t d).trans
    (by unfold Pipeline.Dat.fetched Pipeline.Dat.blockOf iblk; rw [A_eq]; try rfl)

/-- Input window 2 keeps its block. -/
theorem after2 (c : Dev nD) (t : Fin (cfgA F).N) : (dats m c).after (2 : Fin 14) t = iblk m c (2 : Fin 14) t := by dsimp only [dats]

/-- Input window 2 holds its block when the body runs. -/
theorem before2 (c : Dev nD) (t : Fin (cfgA F).N) (d) : (dats m c).before (2 : Fin 14) t d = iblk m c (2 : Fin 14) t :=
  ((dats m c).before_in_eq_fetched (2 : Fin 14) rfl (fun _ => rfl) (fun _ _ _ => rfl) (fun t => by rw [after2]; unfold Pipeline.Dat.blockOf iblk; rw [A_eq]; try rfl) t d).trans
    (by unfold Pipeline.Dat.fetched Pipeline.Dat.blockOf iblk; rw [A_eq]; try rfl)

/-- Input window 3 keeps its block. -/
theorem after3 (c : Dev nD) (t : Fin (cfgA F).N) : (dats m c).after (3 : Fin 14) t = iblk m c (3 : Fin 14) t := by dsimp only [dats]

/-- Input window 3 holds its block when the body runs. -/
theorem before3 (c : Dev nD) (t : Fin (cfgA F).N) (d) : (dats m c).before (3 : Fin 14) t d = iblk m c (3 : Fin 14) t :=
  ((dats m c).before_in_eq_fetched (3 : Fin 14) rfl (fun _ => rfl) (fun _ _ _ => rfl) (fun t => by rw [after3]; unfold Pipeline.Dat.blockOf iblk; rw [A_eq]; try rfl) t d).trans
    (by unfold Pipeline.Dat.fetched Pipeline.Dat.blockOf iblk; rw [A_eq]; try rfl)

/-- Input window 4 keeps its block. -/
theorem after4 (c : Dev nD) (t : Fin (cfgA F).N) : (dats m c).after (4 : Fin 14) t = iblk m c (4 : Fin 14) t := by dsimp only [dats]

/-- Input window 4 holds its block when the body runs. -/
theorem before4 (c : Dev nD) (t : Fin (cfgA F).N) (d) : (dats m c).before (4 : Fin 14) t d = iblk m c (4 : Fin 14) t :=
  ((dats m c).before_in_eq_fetched (4 : Fin 14) rfl (fun _ => rfl) (fun _ _ _ => rfl) (fun t => by rw [after4]; unfold Pipeline.Dat.blockOf iblk; rw [A_eq]; try rfl) t d).trans
    (by unfold Pipeline.Dat.fetched Pipeline.Dat.blockOf iblk; rw [A_eq]; try rfl)

/-- Input window 5 keeps its block. -/
theorem after5 (c : Dev nD) (t : Fin (cfgA F).N) : (dats m c).after (5 : Fin 14) t = iblk m c (5 : Fin 14) t := by dsimp only [dats]

/-- Input window 5 holds its block when the body runs. -/
theorem before5 (c : Dev nD) (t : Fin (cfgA F).N) (d) : (dats m c).before (5 : Fin 14) t d = iblk m c (5 : Fin 14) t :=
  ((dats m c).before_in_eq_fetched (5 : Fin 14) rfl (fun _ => rfl) (fun _ _ _ => rfl) (fun t => by rw [after5]; unfold Pipeline.Dat.blockOf iblk; rw [A_eq]; try rfl) t d).trans
    (by unfold Pipeline.Dat.fetched Pipeline.Dat.blockOf iblk; rw [A_eq]; try rfl)

/-- Input window 6 keeps its block. -/
theorem after6 (c : Dev nD) (t : Fin (cfgA F).N) : (dats m c).after (6 : Fin 14) t = iblk m c (6 : Fin 14) t := by dsimp only [dats]

/-- Input window 6 holds its block when the body runs. -/
theorem before6 (c : Dev nD) (t : Fin (cfgA F).N) (d) : (dats m c).before (6 : Fin 14) t d = iblk m c (6 : Fin 14) t :=
  ((dats m c).before_in_eq_fetched (6 : Fin 14) rfl (fun _ => rfl) (fun _ _ _ => rfl) (fun t => by rw [after6]; unfold Pipeline.Dat.blockOf iblk; rw [A_eq]; try rfl) t d).trans
    (by unfold Pipeline.Dat.fetched Pipeline.Dat.blockOf iblk; rw [A_eq]; try rfl)

/-- Input window 7 keeps its block. -/
theorem after7 (c : Dev nD) (t : Fin (cfgA F).N) : (dats m c).after (7 : Fin 14) t = iblk m c (7 : Fin 14) t := by dsimp only [dats]

/-- Input window 7 holds its block when the body runs. -/
theorem before7 (c : Dev nD) (t : Fin (cfgA F).N) (d) : (dats m c).before (7 : Fin 14) t d = iblk m c (7 : Fin 14) t :=
  ((dats m c).before_in_eq_fetched (7 : Fin 14) rfl (fun _ => rfl) (fun _ _ _ => rfl) (fun t => by rw [after7]; unfold Pipeline.Dat.blockOf iblk; rw [A_eq]; try rfl) t d).trans
    (by unfold Pipeline.Dat.fetched Pipeline.Dat.blockOf iblk; rw [A_eq]; try rfl)

/-- Input window 8 keeps its block. -/
theorem after8 (c : Dev nD) (t : Fin (cfgA F).N) : (dats m c).after (8 : Fin 14) t = iblk m c (8 : Fin 14) t := by dsimp only [dats]

/-- Input window 8 holds its block when the body runs. -/
theorem before8 (c : Dev nD) (t : Fin (cfgA F).N) (d) : (dats m c).before (8 : Fin 14) t d = iblk m c (8 : Fin 14) t :=
  ((dats m c).before_in_eq_fetched (8 : Fin 14) rfl (fun _ => rfl) (fun _ _ _ => rfl) (fun t => by rw [after8]; unfold Pipeline.Dat.blockOf iblk; rw [A_eq]; try rfl) t d).trans
    (by unfold Pipeline.Dat.fetched Pipeline.Dat.blockOf iblk; rw [A_eq]; try rfl)

end Cert.AttnK
-- ==== Proof.AttnSound.lean ====
module

public import proofs.«01_k».proof.Proof.AttnBefore
public import Idealize.ShloMosaic.Lib.Pipeline.DatRel
import Idealize.ShloMosaic.Lib.Tactic

/-! The body of the attention kernel keeps the data of its pipeline at every point. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-- What is staged before the body at a point. -/
def preP (c : Dev nD) (t : Fin (cfgA F).N) (OW : sProp 𝕄) : sProp 𝕄 :=
  iprop(Phi m c t.val ∗ OW
      ∗ owns (c : Thread nD τ) (ms0 t) fullShare (iblk m c (0 : Fin 14) t)
      ∗ owns (c : Thread nD τ) (ms1 t) fullShare (iblk m c (1 : Fin 14) t)
      ∗ owns (c : Thread nD τ) (ms2 t) fullShare (iblk m c (2 : Fin 14) t)
      ∗ owns (c : Thread nD τ) (ms3 t) fullShare (iblk m c (3 : Fin 14) t)
      ∗ owns (c : Thread nD τ) (ms4 t) fullShare (iblk m c (4 : Fin 14) t)
      ∗ owns (c : Thread nD τ) (ms5 t) fullShare (iblk m c (5 : Fin 14) t)
      ∗ owns (c : Thread nD τ) (ms6 t) fullShare (iblk m c (6 : Fin 14) t)
      ∗ owns (c : Thread nD τ) (ms7 t) fullShare (iblk m c (7 : Fin 14) t)
      ∗ owns (c : Thread nD τ) (ms8 t) fullShare (iblk m c (8 : Fin 14) t)
      ∗ (∃ Y, owns (c : Thread nD τ) (ms9 t) fullShare Y)
      ∗ (∃ Y, owns (c : Thread nD τ) (ms10 t) fullShare Y)
      ∗ (∃ Y, owns (c : Thread nD τ) (ms11 t) fullShare Y)
      ∗ (∃ Y, owns (c : Thread nD τ) (ms12 t) fullShare Y)
      ∗ (∃ Y, owns (c : Thread nD τ) (ms13 t) fullShare Y))

/-- What is staged after the body at a point. -/
def postP (c : Dev nD) (t : Fin (cfgA F).N) (OW : sProp 𝕄) : sProp 𝕄 :=
  iprop(Phi m c (t.val + 1) ∗ OW
      ∗ owns (c : Thread nD τ) (ms0 t) fullShare (iblk m c (0 : Fin 14) t)
      ∗ owns (c : Thread nD τ) (ms1 t) fullShare (iblk m c (1 : Fin 14) t)
      ∗ owns (c : Thread nD τ) (ms2 t) fullShare (iblk m c (2 : Fin 14) t)
      ∗ owns (c : Thread nD τ) (ms3 t) fullShare (iblk m c (3 : Fin 14) t)
      ∗ owns (c : Thread nD τ) (ms4 t) fullShare (iblk m c (4 : Fin 14) t)
      ∗ owns (c : Thread nD τ) (ms5 t) fullShare (iblk m c (5 : Fin 14) t)
      ∗ owns (c : Thread nD τ) (ms6 t) fullShare (iblk m c (6 : Fin 14) t)
      ∗ owns (c : Thread nD τ) (ms7 t) fullShare (iblk m c (7 : Fin 14) t)
      ∗ owns (c : Thread nD τ) (ms8 t) fullShare (iblk m c (8 : Fin 14) t)
      ∗ (∃ X, ⌜Rl m c (9 : Fin 14) t X⌝ ∗ owns (c : Thread nD τ) (ms9 t) fullShare X)
      ∗ (∃ X, ⌜Rl m c (10 : Fin 14) t X⌝ ∗ owns (c : Thread nD τ) (ms10 t) fullShare X)
      ∗ (∃ X, ⌜Rl m c (11 : Fin 14) t X⌝ ∗ owns (c : Thread nD τ) (ms11 t) fullShare X)
      ∗ (∃ X, ⌜Rl m c (12 : Fin 14) t X⌝ ∗ owns (c : Thread nD τ) (ms12 t) fullShare X)
      ∗ (∃ X, ⌜Rl m c (13 : Fin 14) t X⌝ ∗ owns (c : Thread nD τ) (ms13 t) fullShare X))

/-- The word the body reads in the first table. -/
theorem word_q (c : Dev nD) (i : grid0.Coords) : wordQ (F := F) (Memref.whole main_c) c i (tabs 0) = wq i := rfl

/-- The word the body reads in the second table. -/
theorem word_k (c : Dev nD) (i : grid0.Coords) : wordK (F := F) (Memref.whole main_c_0) c i (tabs 1) = wk i := rfl

set_option maxHeartbeats 4000000 in
/-- The body at a point, from what is staged there. -/
theorem sound (c : Dev nD) (t : Fin (cfgA F).N) (OW : sProp 𝕄) :
    preP m c t OW ⊢ wp frame (wpE (defs₀ (F := F)) Variants.none c none) Set.univ (body (F := F) (crd t) (refsAt t)) fun _ => postP m c t OW := by
  unfold preP postP Phi tabP refsAt
  iintro ⟨⟨⟨%X0, HS⟩, ⟨HT2, HT3⟩, Hr⟩, Ho, H0, H1, H2, H3, H4, H5, H6, H7, H8, ⟨%Y9, H9⟩, ⟨%Y10, H10⟩, ⟨%Y11, H11⟩, ⟨%Y12, H12⟩, ⟨%Y13, H13⟩⟩
  iapply (wp_body (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c (crd t) (wq (crd t)) (wk (crd t)) (chk (crd t)) (insAt m c t) (traj m c X0 t.val)
    fullShare.right fullShare.right (tabs 0) (tabs 1) (word_q c (crd t)) (word_k c (crd t)) _)
  isplitl [HT2]; · iexact HT2
  isplitl [HT3]; · iexact HT3
  isplitl [H0 H1 H2 H3 H4 H5 H6 H7 H8]
  · unfold insP insAt
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    iapply rep_of_owns; iexact H8
  isplitl [HS]; · iexact HS
  isplitl [H11]; · iexists _; iexact H11
  isplitl [H12]; · iexists _; iexact H12
  isplitl [H13]; · iexists _; iexact H13
  isplitl [H9]; · iexists _; iexact H9
  isplitl [H10]; · iexists _; iexact H10
  iintro ⟨HT2, HT3, HI, HS, ⟨%X11, %e11, H11⟩, ⟨%X12, %e12, H12⟩, ⟨%X13, %e13, H13⟩, ⟨%X9, %e9, H9⟩, ⟨%X10, %e10, H10⟩⟩
  isplitl [HS HT2 HT3 Hr]
  · isplitl [HS]
    · iexists X0; rw [traj_succ]; iexact HS
    isplitl [HT2 HT3]
    · isplitl [HT2]; · iexact HT2
      iexact HT3
    iexact Hr
  isplitl [Ho]; · iexact Ho
  unfold insP insAt
  icases HI with ⟨H0, H1, H2, H3, H4, H5, H6, H7, H8⟩
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]
  · iexists X9; isplitr
    · ipureintro; exact ⟨X0, fun h => by rw [traj_succ]; exact e9 h⟩
    iexact H9
  isplitl [H10]
  · iexists X10; isplitr
    · ipureintro; exact ⟨X0, fun h => by rw [traj_succ]; exact e10 h⟩
    iexact H10
  isplitl [H11]
  · iexists X11; isplitr
    · ipureintro; exact ⟨X0, fun h => by rw [traj_succ]; exact e11 h⟩
    iexact H11
  isplitl [H12]
  · iexists X12; isplitr
    · ipureintro; exact ⟨X0, fun h => by rw [traj_succ]; exact e12 h⟩
    iexact H12
  iexists X13; isplitr
  · ipureintro; exact ⟨X0, fun h => by rw [traj_succ]; exact e13 h⟩
  iexact H13

end Cert.AttnK
-- ==== Proof.AttnObl.lean ====
module

public import proofs.«01_k».proof.Proof.AttnSound
public import Idealize.ShloMosaic.Lib.Pipeline.DatRel
import Idealize.ShloMosaic.Lib.Tactic

/-! The body of the attention kernel keeps the data of its pipeline at every point. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-- Input window 0 staged. -/
theorem stg0 (c : Dev nD) (t : Fin (cfgA F).N) :
    iprop(∃ d, owns (c : Thread nD τ) (ms0 t) fullShare ((dats m c).before (0 : Fin 14) t d)) ⊢ (owns (c : Thread nD τ) (ms0 t) fullShare (iblk m c (0 : Fin 14) t) : sProp 𝕄) := by
  iintro ⟨%d, H⟩
  rw [before0]
  iexact H

/-- Input window 1 staged. -/
theorem stg1 (c : Dev nD) (t : Fin (cfgA F).N) :
    iprop(∃ d, owns (c : Thread nD τ) (ms1 t) fullShare ((dats m c).before (1 : Fin 14) t d)) ⊢ (owns (c : Thread nD τ) (ms1 t) fullShare (iblk m c (1 : Fin 14) t) : sProp 𝕄) := by
  iintro ⟨%d, H⟩
  rw [before1]
  iexact H

/-- Input window 2 staged. -/
theorem stg2 (c : Dev nD) (t : Fin (cfgA F).N) :
    iprop(∃ d, owns (c : Thread nD τ) (ms2 t) fullShare ((dats m c).before (2 : Fin 14) t d)) ⊢ (owns (c : Thread nD τ) (ms2 t) fullShare (iblk m c (2 : Fin 14) t) : sProp 𝕄) := by
  iintro ⟨%d, H⟩
  rw [before2]
  iexact H

/-- Input window 3 staged. -/
theorem stg3 (c : Dev nD) (t : Fin (cfgA F).N) :
    iprop(∃ d, owns (c : Thread nD τ) (ms3 t) fullShare ((dats m c).before (3 : Fin 14) t d)) ⊢ (owns (c : Thread nD τ) (ms3 t) fullShare (iblk m c (3 : Fin 14) t) : sProp 𝕄) := by
  iintro ⟨%d, H⟩
  rw [before3]
  iexact H

/-- Input window 4 staged. -/
theorem stg4 (c : Dev nD) (t : Fin (cfgA F).N) :
    iprop(∃ d, owns (c : Thread nD τ) (ms4 t) fullShare ((dats m c).before (4 : Fin 14) t d)) ⊢ (owns (c : Thread nD τ) (ms4 t) fullShare (iblk m c (4 : Fin 14) t) : sProp 𝕄) := by
  iintro ⟨%d, H⟩
  rw [before4]
  iexact H

/-- Input window 5 staged. -/
theorem stg5 (c : Dev nD) (t : Fin (cfgA F).N) :
    iprop(∃ d, owns (c : Thread nD τ) (ms5 t) fullShare ((dats m c).before (5 : Fin 14) t d)) ⊢ (owns (c : Thread nD τ) (ms5 t) fullShare (iblk m c (5 : Fin 14) t) : sProp 𝕄) := by
  iintro ⟨%d, H⟩
  rw [before5]
  iexact H

/-- Input window 6 staged. -/
theorem stg6 (c : Dev nD) (t : Fin (cfgA F).N) :
    iprop(∃ d, owns (c : Thread nD τ) (ms6 t) fullShare ((dats m c).before (6 : Fin 14) t d)) ⊢ (owns (c : Thread nD τ) (ms6 t) fullShare (iblk m c (6 : Fin 14) t) : sProp 𝕄) := by
  iintro ⟨%d, H⟩
  rw [before6]
  iexact H

/-- Input window 7 staged. -/
theorem stg7 (c : Dev nD) (t : Fin (cfgA F).N) :
    iprop(∃ d, owns (c : Thread nD τ) (ms7 t) fullShare ((dats m c).before (7 : Fin 14) t d)) ⊢ (owns (c : Thread nD τ) (ms7 t) fullShare (iblk m c (7 : Fin 14) t) : sProp 𝕄) := by
  iintro ⟨%d, H⟩
  rw [before7]
  iexact H

/-- Input window 8 staged. -/
theorem stg8 (c : Dev nD) (t : Fin (cfgA F).N) :
    iprop(∃ d, owns (c : Thread nD τ) (ms8 t) fullShare ((dats m c).before (8 : Fin 14) t d)) ⊢ (owns (c : Thread nD τ) (ms8 t) fullShare (iblk m c (8 : Fin 14) t) : sProp 𝕄) := by
  iintro ⟨%d, H⟩
  rw [before8]
  iexact H

/-- What the pipeline hands the body. -/
def preQ (c : Dev nD) (t : Fin (cfgA F).N) : sProp 𝕄 :=
  iprop((dats m c).Φ t.castSucc ∗ (dats m c).owesAt () t.castSucc
      ∗ (∃ d, owns (c : Thread nD τ) (ms0 t) fullShare ((dats m c).before (0 : Fin 14) t d))
      ∗ (∃ d, owns (c : Thread nD τ) (ms1 t) fullShare ((dats m c).before (1 : Fin 14) t d))
      ∗ (∃ d, owns (c : Thread nD τ) (ms2 t) fullShare ((dats m c).before (2 : Fin 14) t d))
      ∗ (∃ d, owns (c : Thread nD τ) (ms3 t) fullShare ((dats m c).before (3 : Fin 14) t d))
      ∗ (∃ d, owns (c : Thread nD τ) (ms4 t) fullShare ((dats m c).before (4 : Fin 14) t d))
      ∗ (∃ d, owns (c : Thread nD τ) (ms5 t) fullShare ((dats m c).before (5 : Fin 14) t d))
      ∗ (∃ d, owns (c : Thread nD τ) (ms6 t) fullShare ((dats m c).before (6 : Fin 14) t d))
      ∗ (∃ d, owns (c : Thread nD τ) (ms7 t) fullShare ((dats m c).before (7 : Fin 14) t d))
      ∗ (∃ d, owns (c : Thread nD τ) (ms8 t) fullShare ((dats m c).before (8 : Fin 14) t d))
      ∗ (∃ Y, ⌜((dats m c).toRRel fgt (Rl m c)).Finds (9 : Fin 14) t Y⌝ ∗ owns (c : Thread nD τ) (ms9 t) fullShare Y)
      ∗ (∃ Y, ⌜((dats m c).toRRel fgt (Rl m c)).Finds (10 : Fin 14) t Y⌝ ∗ owns (c : Thread nD τ) (ms10 t) fullShare Y)
      ∗ (∃ Y, ⌜((dats m c).toRRel fgt (Rl m c)).Finds (11 : Fin 14) t Y⌝ ∗ owns (c : Thread nD τ) (ms11 t) fullShare Y)
      ∗ (∃ Y, ⌜((dats m c).toRRel fgt (Rl m c)).Finds (12 : Fin 14) t Y⌝ ∗ owns (c : Thread nD τ) (ms12 t) fullShare Y)
      ∗ (∃ Y, ⌜((dats m c).toRRel fgt (Rl m c)).Finds (13 : Fin 14) t Y⌝ ∗ owns (c : Thread nD τ) (ms13 t) fullShare Y))

/-- The invariant before a point. -/
theorem Phi_cast (c : Dev nD) (t : Fin (cfgA F).N) : (dats m c).Φ t.castSucc = Phi m c t.val := by
  have e : (dats m c).Φ t.castSucc = Phi m c t.castSucc.val := by dsimp only [dats]
  exact e.trans (congrArg (Phi m c) (Fin.val_castSucc t))

/-- The invariant before a point, as the body takes it. -/
theorem Phi_in (c : Dev nD) (t : Fin (cfgA F).N) : (dats m c).Φ t.castSucc ⊢ Phi m c t.val :=
  Phi_cast m c t ▸ .rfl

/-- It is what the body takes. -/
theorem preQ_preP (c : Dev nD) (t : Fin (cfgA F).N) : preQ m c t ⊢ preP m c t ((dats m c).owesAt () t.castSucc) := by
  unfold preQ preP
  iintro ⟨HP, Ho, H0, H1, H2, H3, H4, H5, H6, H7, H8, ⟨%Y9, -, H9⟩, ⟨%Y10, -, H10⟩, ⟨%Y11, -, H11⟩, ⟨%Y12, -, H12⟩, ⟨%Y13, -, H13⟩⟩
  isplitl [HP]; · iapply (Phi_in m c t); iexact HP
  isplitl [Ho]; · iexact Ho
  isplitl [H0]; · iapply (stg0 m c t); iexact H0
  isplitl [H1]; · iapply (stg1 m c t); iexact H1
  isplitl [H2]; · iapply (stg2 m c t); iexact H2
  isplitl [H3]; · iapply (stg3 m c t); iexact H3
  isplitl [H4]; · iapply (stg4 m c t); iexact H4
  isplitl [H5]; · iapply (stg5 m c t); iexact H5
  isplitl [H6]; · iapply (stg6 m c t); iexact H6
  isplitl [H7]; · iapply (stg7 m c t); iexact H7
  isplitl [H8]; · iapply (stg8 m c t); iexact H8
  isplitl [H9]; · iexists Y9; iexact H9
  isplitl [H10]; · iexists Y10; iexact H10
  isplitl [H11]; · iexists Y11; iexact H11
  isplitl [H12]; · iexists Y12; iexact H12
  iexists Y13; iexact H13

/-- The body the pipeline calls. -/
theorem defs₀_row (t : Fin (cfgA F).N) : defs₀ (F := F) .tc (cfgA F).body ((cfgA F).bodyArgs t ((cfgA F).slots t)) = bodyAt t := by
  unfold defs₀; rw [Defs.onTc_tc]; rfl

/-- The printed body at a point is the sequence of its fragments. -/
theorem bodyAt_eq (t : Fin (cfgA F).N) : bodyAt (F := F) t = body (F := F) (crd t) (refsAt t) := body_eq _ _

/-- The obligation of the body. -/
theorem obligation (c : Dev nD) : Pipeline.BodyObligationRel (dats m c) (defs₀ (F := F)) Variants.none () Set.univ fgt (Rl m c) := fun t => by
  rw [bigSep_W0, bigSep_W0, defs₀_row, bodyAt_eq]
  exact triple_restated (sound m c t ((dats m c).owesAt () t.castSucc)) rfl (preQ_preP m c t) fun _ => .rfl

end Cert.AttnK
-- ==== Proof.AttnHost.lean ====
module

public import proofs.«01_k».proof.Proof.AttnPoint
import Idealize.ShloMosaic.Lib.StableHlo.RunRead

/-! The host lines before the launch of the attention kernel: what they write, and what they leave alone. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers the host lines write, in order. -/
def hostW : List (Ref sig .tc) :=
  [main_c, main_c_0, main_cst, main_v0, main_v1, main_v2, main_v3, main_v4,
   main_v5, main_v6, main_v7, main_v8, main_v9, main_v10, main_v11, main_cst_1,
   main_v12, main_cst_2, main_v13, main_v14, main_v15, main_v16, main_v17, main_v18,
   main_v19, main_v20, main_v21, main_v22, main_v23, main_v24, main_v25, main_v26,
   main_v27, main_v28, main_v29, main_v30, main_v31, main_v32, main_v33, main_v34,
   main_v35, main_v36, main_v37, main_v38, main_v39, main_v40, main_v41, main_v42,
   main_v43, main_v44, main_v45, main_v46, main_v47, main_v48, main_v49, main_v50,
   main_v51, main_v52, main_v53, main_c_3, main_v54, main_v55, main_c_4, main_v56,
   main_v57, main_v58, main_v59, main_v60, main_v61, main_v62, main_c_5, main_v63,
   main_v64, main_c_6, main_v65, main_v66, main_v67, main_v68, main_v69, main_v70,
   main_v71, main_v72, main_v73, main_v74, main_v75, main_cst_7, main_v76, main_v77,
   main_v78, main_v79, main_v80, main_v81, main_v82, main_v83, main_v84, main_v85,
   main_v86, main_v87, main_v88, main_v89, main_v90, main_v91, main_v92, main_v93,
   main_v94, main_v95, main_v96, main_v97, main_v98, main_v99, main_v100, main_v101,
   main_v102, main_v103, main_v104, main_v105, main_v106, main_v107, main_v108, main_v109,
   main_v110, main_v111, main_v112, main_v113, main_v114, main_v115, main_v116, main_v117,
   main_v118, main_v119, main_v120, main_v121, main_v122, main_v123, main_v124, main_v125,
   main_v126, main_v127, main_v128, main_v129, main_v130, main_v131, main_v132, main_v133,
   main_v134, main_v135, main_v136, main_v137, main_cst_8, main_v138, main_cst_9, main_v139,
   main_cst_10, main_v140, main_v141, main_v142, main_v143, main_c_11, main_v144, main_v145,
   main_v146, main_v147, main_v148, main_v149, main_v150, main_cst_12, main_v151, main_v152,
   main_v153, main_v154, main_v155, main_cst_13, main_v156, main_v157, main_v158, main_v159,
   main_v160, main_cst_14, main_v161, main_v162, main_v163, main_v164, main_v165, main_v166,
   main_v167, main_v168, main_v169, main_v170, main_c_15, main_v171, main_v172, main_v173,
   main_v174, main_v175, main_v176, main_v177, main_cst_16, main_v178, main_v179, main_v180,
   main_v181, main_v182, main_cst_17, main_v183, main_v184, main_v185, main_v186, main_v187,
   main_cst_18, main_v188, main_v189, main_v190, main_v191, main_v192, main_v193, main_v194,
   main_v195, main_v196, main_v197, main_c_19, main_v198, main_v199, main_v200, main_v201,
   main_v202, main_v203, main_v204, main_cst_20, main_v205, main_v206, main_v207, main_v208,
   main_v209, main_cst_21, main_v210, main_v211, main_v212, main_v213, main_v214, main_cst_22,
   main_v215, main_v216, main_v217, main_v218, main_v219, main_v220, main_v221, main_v222,
   main_v223, main_v224, main_c_23, main_v225, main_v226, main_v227, main_v228, main_v229,
   main_v230, main_v231, main_cst_24, main_v232, main_v233, main_v234, main_v235, main_v236,
   main_cst_25, main_v237, main_v238, main_v239, main_v240, main_v241, main_cst_26, main_v242,
   main_v243, main_v244, main_v245, main_v246, main_v247, main_v248, main_v249, main_v250,
   main_v251, main_c_27, main_v252, main_v253, main_v254, main_v255, main_v256, main_v257,
   main_v258, main_cst_28, main_v259, main_v260, main_v261, main_v262, main_v263, main_cst_29,
   main_v264, main_v265, main_v266, main_v267, main_v268, main_cst_30, main_v269, main_v270,
   main_v271, main_v272, main_v273, main_v274, main_v275, main_v276, main_v277, main_v278,
   main_c_31, main_v279, main_v280, main_v281, main_v282, main_v283, main_v284, main_v285,
   main_cst_32, main_v286, main_v287, main_v288, main_v289, main_v290, main_cst_33, main_v291,
   main_v292, main_v293, main_v294, main_v295, main_cst_34, main_v296, main_v297, main_v298,
   main_v299, main_v300, main_v301, main_v302, main_v303, main_v304, main_v305, main_c_35,
   main_v306, main_v307, main_v308, main_v309, main_v310, main_v311, main_v312, main_cst_36,
   main_v313, main_v314, main_v315, main_v316, main_v317, main_cst_37, main_v318, main_v319,
   main_v320, main_v321, main_v322, main_cst_38, main_v323, main_v324, main_v325, main_v326,
   main_v327, main_v328, main_v329, main_v330, main_v331, main_v332, main_c_39, main_v333,
   main_v334, main_v335, main_v336, main_v337, main_v338, main_v339, main_cst_40, main_v340,
   main_v341, main_v342, main_v343, main_v344, main_cst_41, main_v345, main_v346, main_v347,
   main_v348, main_v349, main_cst_42, main_v350, main_v351, main_v352, main_v353, main_v354,
   main_v355, main_v356, main_v357, main_v358, main_v359, main_v360, main_v361, main_v362,
   main_v363, main_v364, main_v365, main_v366, main_cst_43, main_v367, main_v368, main_v369,
   main_v370, main_v371, main_v372, main_v373, main_v374, main_v375, main_v376, main_v377,
   main_v378, main_v379, main_v380, main_v381, main_v382, main_v383, main_v384, main_v385,
   main_v386, main_v387, main_cst_44, main_v388]

/-- Each host line writes one buffer. -/
theorem host_writes : (hostOps0 (F := F)).map HloOp.writes = hostW.map fun w => {Proc.devRef (τ := τ) .tc w} := rfl

/-- No host line draws a fresh buffer. -/
theorem host_fresh : (hostOps0 : List (HloOp τ sig (Elt F))).Forall fun op => op.fresh = ∅ := by
  rw [List.forall_iff_forall_mem, ← List.forall_mem_map (f := HloOp.fresh) (P := fun s => s = ∅)]
  rw [show (hostOps0 (F := F)).map HloOp.fresh = hostW.map fun _ => ∅ from rfl]
  intro s hs
  obtain ⟨_, _, e⟩ := List.mem_map.mp hs
  exact e.symm

variable (m : (ℓ : Loc nD τ sig) → Buf (Elt F) ℓ)

/-- The host lines leave the first table. -/
theorem V_main_c (c : Dev nD) : V m c main_c = tabs (F := F) 0 := by
  unfold V
  exact (StableHlo.after_last_write (ops := hostOps0) (i := 0) (hostW.drop 1) rfl rfl (by decide) _).trans rfl

/-- The host lines leave the second table. -/
theorem V_main_c_0 (c : Dev nD) : V m c main_c_0 = tabs (F := F) 1 := by
  unfold V
  exact (StableHlo.after_last_write (ops := hostOps0) (i := 1) (hostW.drop 2) rfl rfl (by decide) _).trans rfl

/-- No host line writes argument 0. -/
theorem V_arg0 (c : Dev nD) : V m c main_arg0 = m ((c : Thread nD τ).loc main_arg0) := by
  unfold V
  exact StableHlo.after_unwritten hostW host_writes (by decide) _

/-- No host line writes argument 1. -/
theorem V_arg1 (c : Dev nD) : V m c main_arg1 = m ((c : Thread nD τ).loc main_arg1) := by
  unfold V
  exact StableHlo.after_unwritten hostW host_writes (by decide) _

/-- No host line writes argument 2. -/
theorem V_arg2 (c : Dev nD) : V m c main_arg2 = m ((c : Thread nD τ).loc main_arg2) := by
  unfold V
  exact StableHlo.after_unwritten hostW host_writes (by decide) _

end Cert.AttnK
-- ==== Proof.AttnRun.lean ====
module

public import proofs.«01_k».proof.Proof.AttnObl
public import proofs.«01_k».proof.Proof.AttnHost

/-! The run of the attention kernel: the launch at its two tables, and the frame. -/

@[expose] public section

set_option maxRecDepth 16384
set_option Elab.async false

noncomputable section

namespace Cert.AttnK

open Cert.AttnBwdIdeal Cert.AttnBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The data of the run, its outputs related to the trajectories of the scratch buffers. -/
def rdat (c : Dev nD) : Pipeline.RDat τ (Elt F) Unit ℕ (UR sig nD τ) ℕ (cfgA F) c := (dats m c).toRRel fgt (Rl m c)

/-- The tables held, one by one. -/
theorem tables_eq (c : Dev nD) : (Pipeline.ΦT pre0 (tabs (F := F)) c : sProp 𝕄) = tabP c := by
  unfold Pipeline.ΦT Pipeline.prefHeld tabP
  rw [show (Finset.univ : Finset (Fin 2)) = insert (0 : Fin 2) {(1 : Fin 2)} from by decide,
    bigSep_insert (by decide), bigSep_singleton]
  rfl

/-- The invariant at the first point. -/
theorem phi_in (c : Dev nD) : iprop(Pipeline.ΦA spec0 c ∗ Pipeline.ΦT pre0 (tabs (F := F)) c) ⊢ (Phi m c 0 : sProp 𝕄) := by
  rw [tables_eq]
  unfold Pipeline.ΦA Phi
  rw [scopedRest0_eq]
  iintro ⟨⟨⟨⟨%a0, HS0⟩, ⟨%a1, HS1⟩, ⟨%a2, HS2⟩, ⟨%a3, HS3⟩, ⟨%a4, HS4⟩, ⟨%a5, HS5⟩, ⟨%a6, HS6⟩⟩, Hr⟩, HT⟩
  isplitl [HS0 HS1 HS2 HS3 HS4 HS5 HS6]
  · iexists (⟨a0, a1, a2, a3, a4, a5, a6⟩ : StA F c)
    unfold scrP traj
    isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [HT]; · iexact HT
  iexact Hr

/-- The invariant gives the scratch buffers back. -/
theorem phi_out (c : Dev nD) (n : ℕ) : (Phi m c n : sProp 𝕄) ⊢ Pipeline.ΦA spec0 c := by
  unfold Pipeline.ΦA Phi scrP
  rw [scopedRest0_eq]
  iintro ⟨⟨%X, HS0, HS1, HS2, HS3, HS4, HS5, HS6⟩, -, Hr⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  iexact Hr

/-- The program up to the launch. -/
theorem hmain : Pipeline.HMainP (Ix := Unit) (Name := ℕ) (U := UR sig nD τ) (Lvl := ℕ) pcfgs 0 (defs₀ (F := F)) Variants.none m (main (F := F)) (V m) := by
  have e : V m = fun c (b : Ref sig .tc) => StableHlo.after hostOps0 (fun b => m (c, b)) (Proc.devRef .tc b) := by
    funext c b; unfold V; rfl
  rw [e]
  exact Pipeline.hmainP_prefix pcfgs 0 defs₀ Variants.none m main hostOps0 hostOps0_sub host_fresh main_chain

set_option backward.isDefEq.respectTransparency.types false in
/-- The run: every execution ends, the semaphores at zero and the arrays as the related data say. -/
theorem run_main : θ_run (defs (F := F)) (onTc (τ := τ) (main (F := F))) (s₀ m ρ)
    (fun r => Pipeline.RDat.FramePost (cfgA F) (rdat m) (V m) r ∧ r.2.sem = fun _ => 0) :=
  Pipeline.RDat.θ_run_frameP_track_shared (Q' := _) pcfgs (fun _ => adm) (0 : Fin 1) launch₀0 defs₀ Variants.none (rdat m) m ρ main
    (hbody := fun c => (obligation m c).toRRel)
    (hq := fun c w _ => by dsimp only [rdat, dats]; rfl)
    (howed := fun _ _ => rfl) (V := V m) (hmain := hmain m) (hA := fun c w => A_eq m c w)
    (hpf := fun c k => by
      fin_cases k
      · exact V_main_c m c
      · exact V_main_c_0 m c)
    (hin := fun c => phi_in m c) (hout := fun c => phi_out m c _) (hQ' := fun _ h => h)

end Cert.AttnK
-- ==== Proof.AttnFrame.lean ====
module

public import proofs.«01_k».proof.Proof.AttnRun

/-! The frame of the attention gradient kernel: it ends, its arguments stay, every counter is back at zero. -/

@[expose] public section

set_option maxRecDepth 16384

noncomputable section

namespace Cert.AttnK

open Cert.AttnBwdIdeal Cert.AttnBwdIdeal.Gen
open Idealize.ShloMosaic
open Idealize.ShloMosaic.TcCoe
open Idealize.SL.Sem

variable {F : FTy → Type} [FloatOps F] [Named F]
variable (m : (ℓ : Loc nD τ sig) → Buf (Elt F) ℓ) (ρ : Dev nD → PrngReg)

/-- The table of running sums is no window's array. -/
theorem arg1_rest : main_arg1 ∈ Pipeline.restRefs sig spec0 := Pipeline.mem_restRefs_of main_arg1 (by decide) (by decide)

/-- An input window's array holds at the end what it held at the start. -/
theorem arr_in (c : Dev nD) (w : Fin 14) (hin : ((cfgA F).win w).isOut = false) (X)
    (h : (rdat m c).ArrAt w (cfgA F).N X) : X = V m c (Pipeline.arrRef spec0 w) := by
  rw [(rdat m c).ArrAt_in w hin] at h
  exact h.trans (A_eq m c w)

variable (r : PUnit × MemSt nD τ sig (Elt F)) (h : Pipeline.RDat.FramePost (cfgA F) (rdat m) (V m) r) (c : Dev nD)

include h

theorem arg0_kept : r.2.mem ((c.tc : Thread nD τ).loc main_arg0) = m ((c.tc : Thread nD τ).loc main_arg0) :=
  Eq.trans (arr_in m c 0 rfl _ ((h c).1 0)) (V_arg0 m c)

theorem arg1_kept : r.2.mem ((c.tc : Thread nD τ).loc main_arg1) = m ((c.tc : Thread nD τ).loc main_arg1) :=
  Eq.trans ((h c).2 main_arg1 arg1_rest) (V_arg1 m c)

theorem arg2_kept : r.2.mem ((c.tc : Thread nD τ).loc main_arg2) = m ((c.tc : Thread nD τ).loc main_arg2) :=
  Eq.trans (arr_in m c 6 rfl _ ((h c).1 6)) (V_arg2 m c)

omit h

/-- The kernel ends with its arguments as they were and every counter at zero. -/
theorem frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨arg0_kept m r h.1 c, arg1_kept m r h.1 c, arg2_kept m r h.1 c⟩, h.2⟩) (run_main m ρ)

end Cert.AttnK

end
-- ==== Proof.AttnFrameBits.lean ====
module

public import proofs.«01_k».proof.Proof.AttnFrame
public import proofs.«01_k».proof.Proof.Gen.AttnBwd
public import Idealize.ShloMosaic.Lib.Tactic
public import Idealize.ShloMosaic.PureOps.BitExact
public import Idealize.ShloMosaic.PureOps.Ideal
public import Idealize.ShloMosaic.PureOps.IdealRules
public import Idealize.ShloMosaic.Adequacy
public import Idealize.ShloMosaic.Init

/-! The same frame of the attention gradient kernel on bits. -/

@[expose] public section

set_option maxRecDepth 16384

noncomputable section

namespace Cert.AttnK

open Idealize.ShloMosaic
open Idealize.ShloMosaic.TcCoe Idealize.ShloMosaic.Tactic
open Idealize.SL.Sem
/-- The frame on bits of the kernel as written. -/
def FrameWritten : Prop :=
  ∀ (m : (ℓ : Loc Cert.AttnBwd.nD Cert.AttnBwd.τ Cert.AttnBwd.sig) → Buf (Elt Bits) ℓ) (ρ : Dev Cert.AttnBwd.nD → PrngReg),
    θ_run (Cert.AttnBwd.defs (F := Bits)) (onTc (τ := Cert.AttnBwd.τ) (Cert.AttnBwd.main (F := Bits))) ⟨m, fun _ => 0, ρ⟩ (fun r =>
    (∀ c : Dev Cert.AttnBwd.nD, r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

/-- On bits a named constant is read as its own pattern. -/
local instance namedBits : Named Bits where
  named _ _ {φ} b := FloatOps.ofBits φ b

/-- The frame on bits of the kernel with its constants named. -/
def FrameNamed : Prop :=
  ∀ (m : (ℓ : Loc Cert.AttnBwdIdeal.nD Cert.AttnBwdIdeal.τ Cert.AttnBwdIdeal.sig) → Buf (Elt Bits) ℓ) (ρ : Dev Cert.AttnBwdIdeal.nD → PrngReg),
    θ_run (Cert.AttnBwdIdeal.defs (F := Bits)) (onTc (τ := Cert.AttnBwdIdeal.τ) (Cert.AttnBwdIdeal.main (F := Bits))) ⟨m, fun _ => 0, ρ⟩ (fun r =>
    (∀ c : Dev Cert.AttnBwdIdeal.nD, r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

/-- On bits a named constant is its own pattern: the two are one statement. -/
theorem frame_eq : FrameWritten = FrameNamed := by sl_kernel_rfl

/-- The kernel as written, on bits, ends with its arguments as they were and every counter at zero. -/
theorem frame_bits : FrameWritten := frame_eq.mpr (fun m ρ => Cert.AttnK.frame (F := Bits) m ρ)

end Cert.AttnK

end
-- ==== Proof.AttnRefFrame.lean ====
/-
The frame of the attention gradient's reference, and the named constants.
-/
module

public import proofs.«01_k».proof.Proof.Gen.AttnBwdRefIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.AttnClaim

/-- The reference runs on the host alone: its run keeps the arguments, and the program declares no semaphore. -/
theorem frame_ref : Cert.quiescent_AttnBwdRefIdeal (hAttnBwdRefIdeal := Cert.AttnBwdRefIdeal.Gen.facts) := fun m g _ =>
  (θ_run Cert.AttnBwdRefIdeal.defs _ _).mono
    (fun r h => ⟨fun c => (h c).2.2.2.2.2, Idealize.ShloMosaic.sem_eq_zero_of_no_sems (by decide) r.2⟩)
    (Cert.AttnBwdRefIdeal.Value.run (F := Ideal) m g)

/-- The named constants of the kernel are the patterns it was written with: the scale 1/(8 log 2), the masked score and log 2. -/
theorem preserves : Cert.preserves_AttnBwd_AttnBwdIdeal :=
  ⟨IdealRules.named_const.statement _ _ _ _ _ rfl, IdealRules.named_const.statement _ _ _ _ _ rfl, IdealRules.named_const.statement _ _ _ _ _ rfl⟩

end Cert.AttnClaim

end
-- ==== Proof.lean ====
module

public import proofs.«01_k».proof.Proof.Gen.OutprojBwd
public import proofs.«01_k».proof.Proof.Gen.OutprojBwd.Skeleton
public import proofs.«01_k».proof.Proof.Gen.OutprojBwd.Launch
public import proofs.«01_k».proof.Proof.Gen.OutprojBwd.Points
public import proofs.«01_k».proof.Proof.Gen.OutprojBwd.Frame
public import proofs.«01_k».proof.Proof.Gen.OutprojBwdIdeal
public import proofs.«01_k».proof.Proof.Gen.OutprojBwdIdeal.Skeleton
public import proofs.«01_k».proof.Proof.Gen.OutprojBwdIdeal.Launch
public import proofs.«01_k».proof.Proof.Gen.OutprojBwdIdeal.Points
public import proofs.«01_k».proof.Proof.Gen.OutprojBwdIdeal.Frame
public import proofs.«01_k».proof.Proof.Gen.OutprojBwdIdeal.Value
public import proofs.«01_k».proof.Proof.Gen.OutprojBwdRefIdeal
public import proofs.«01_k».proof.Proof.Gen.OutprojBwdRefIdeal.Run
public import proofs.«01_k».proof.Proof.Gen.OutprojBwdRefIdeal.Read
public import proofs.«01_k».proof.Proof.ObClaim
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.DwClaim
public import proofs.«01_k».proof.Proof.Gen.AdamwIn
public import proofs.«01_k».proof.Proof.Gen.AdamwIn.Skeleton
public import proofs.«01_k».proof.Proof.Gen.AdamwIn.Launch
public import proofs.«01_k».proof.Proof.Gen.AdamwIn.Points
public import proofs.«01_k».proof.Proof.Gen.AdamwIn.Frame
public import proofs.«01_k».proof.Proof.Gen.AdamwInIdeal
public import proofs.«01_k».proof.Proof.Gen.AdamwInIdeal.Skeleton
public import proofs.«01_k».proof.Proof.Gen.AdamwInIdeal.Launch
public import proofs.«01_k».proof.Proof.Gen.AdamwInIdeal.Points
public import proofs.«01_k».proof.Proof.Gen.AdamwInIdeal.Frame
public import proofs.«01_k».proof.Proof.Gen.AdamwInIdeal.Value
public import proofs.«01_k».proof.Proof.Gen.AdamwInRefIdeal
public import proofs.«01_k».proof.Proof.Gen.AdamwInRefIdeal.Run
public import proofs.«01_k».proof.Proof.Gen.AdamwInRefIdeal.Read
public import proofs.«01_k».proof.Proof.AdwClaim
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolBwdRefIdeal
public import proofs.«01_k».proof.Proof.Gen.PoolBwdRefIdeal.Run
public import proofs.«01_k».proof.Proof.Gen.PoolBwdRefIdeal.Read
public import proofs.«01_k».proof.Proof.PoolClaim
public import proofs.«01_k».proof.Proof.Gen.RmsInproj
public import proofs.«01_k».proof.Proof.Gen.RmsInproj.Skeleton
public import proofs.«01_k».proof.Proof.Gen.RmsInproj.Launch
public import proofs.«01_k».proof.Proof.Gen.RmsInproj.Points
public import proofs.«01_k».proof.Proof.Gen.RmsInproj.Frame
public import proofs.«01_k».proof.Proof.Gen.RmsInprojIdeal
public import proofs.«01_k».proof.Proof.Gen.RmsInprojIdeal.Skeleton
public import proofs.«01_k».proof.Proof.Gen.RmsInprojIdeal.Launch
public import proofs.«01_k».proof.Proof.Gen.RmsInprojIdeal.Points
public import proofs.«01_k».proof.Proof.Gen.RmsInprojIdeal.Frame
public import proofs.«01_k».proof.Proof.Gen.RmsInprojIdeal.Value
public import proofs.«01_k».proof.Proof.Gen.RmsInprojRefIdeal
public import proofs.«01_k».proof.Proof.Gen.RmsInprojRefIdeal.Run
public import proofs.«01_k».proof.Proof.Gen.RmsInprojRefIdeal.Read
public import proofs.«01_k».proof.Proof.RinClaim
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.OutClaim
public import proofs.«01_k».proof.Proof.Gen.MlpLoss
public import proofs.«01_k».proof.Proof.Gen.MlpLoss.Skeleton
public import proofs.«01_k».proof.Proof.Gen.MlpLoss.Launch
public import proofs.«01_k».proof.Proof.Gen.MlpLoss.Points
public import proofs.«01_k».proof.Proof.Gen.MlpLoss.Frame
public import proofs.«01_k».proof.Proof.Gen.MlpLossIdeal
public import proofs.«01_k».proof.Proof.Gen.MlpLossIdeal.Skeleton
public import proofs.«01_k».proof.Proof.Gen.MlpLossIdeal.Launch
public import proofs.«01_k».proof.Proof.Gen.MlpLossIdeal.Points
public import proofs.«01_k».proof.Proof.Gen.MlpLossIdeal.Frame
public import proofs.«01_k».proof.Proof.Gen.MlpLossIdeal.Value
public import proofs.«01_k».proof.Proof.Gen.MlpLossRefIdeal
public import proofs.«01_k».proof.Proof.Gen.MlpLossRefIdeal.Run
public import proofs.«01_k».proof.Proof.Gen.MlpLossRefIdeal.Read
public import proofs.«01_k».proof.Proof.Gen.Pre_loss_finite
public import proofs.«01_k».proof.Proof.LossClaim
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpBwdIdeal.Value
public import proofs.«01_k».proof.Proof.Gen.MlpBwdRefIdeal
public import proofs.«01_k».proof.Proof.Gen.MlpBwdRefIdeal.Run
public import proofs.«01_k».proof.Proof.Gen.MlpBwdRefIdeal.Read
public import proofs.«01_k».proof.Proof.Gen.Pre_mlp_finite
public import proofs.«01_k».proof.Proof.MlpClaim
public import proofs.«01_k».proof.Proof.Gen.InpBwd
public import proofs.«01_k».proof.Proof.Gen.InpBwd.Skeleton
public import proofs.«01_k».proof.Proof.Gen.InpBwd.Launch
public import proofs.«01_k».proof.Proof.Gen.InpBwd.Points
public import proofs.«01_k».proof.Proof.Gen.InpBwd.Frame
public import proofs.«01_k».proof.Proof.Gen.InpBwdIdeal
public import proofs.«01_k».proof.Proof.Gen.InpBwdIdeal.Skeleton
public import proofs.«01_k».proof.Proof.Gen.InpBwdIdeal.Launch
public import proofs.«01_k».proof.Proof.Gen.InpBwdIdeal.Points
public import proofs.«01_k».proof.Proof.Gen.InpBwdIdeal.Frame
public import proofs.«01_k».proof.Proof.Gen.InpBwdIdeal.Value
public import proofs.«01_k».proof.Proof.Gen.InpBwdRefIdeal
public import proofs.«01_k».proof.Proof.Gen.InpBwdRefIdeal.Run
public import proofs.«01_k».proof.Proof.Gen.InpBwdRefIdeal.Read
public import proofs.«01_k».proof.Proof.Gen.Pre_inp_finite
public import proofs.«01_k».proof.Proof.InpClaim
public import proofs.«01_k».proof.Proof.Gen.AttnBwd
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.CumsumBwdIdeal.Value
public import proofs.«01_k».proof.Proof.Gen.CumsumBwdRefIdeal.Run
public import proofs.«01_k».proof.Proof.Gen.CumsumBwdRefIdeal.Read
public import proofs.«01_k».proof.Proof.CumsumClaim
public import proofs.«01_k».proof.Proof.AttnFrameBits
public import proofs.«01_k».proof.Proof.AttnRefFrame
public import proofs.«01_k».proof.Defs
public import proofs.«01_k».proof.Proof.Gen.CumsumBwd
public import proofs.«01_k».proof.Proof.Gen.CumsumBwd.Skeleton
public import proofs.«01_k».proof.Proof.Gen.CumsumBwd.Launch
public import proofs.«01_k».proof.Proof.Gen.CumsumBwd.Points
public import proofs.«01_k».proof.Proof.Gen.CumsumBwd.Frame
public import proofs.«01_k».proof.Proof.Gen.CumsumBwdIdeal
public import proofs.«01_k».proof.Proof.Gen.CumsumBwdIdeal.Skeleton
public import proofs.«01_k».proof.Proof.Gen.CumsumBwdIdeal.Launch
public import proofs.«01_k».proof.Proof.Gen.CumsumBwdIdeal.Points
public import proofs.«01_k».proof.Proof.Gen.CumsumBwdIdeal.Frame
public import proofs.«01_k».proof.Proof.Gen.CumsumBwdRefIdeal
public import proofs.«01_k».proof.Proof.Gen.Pre_cumsum_finite
public import Idealize.ShloMosaic.Adequacy
public import Idealize.ShloMosaic.Init

@[expose] public section

noncomputable section

namespace Cert.Proof

open Idealize.ShloMosaic Idealize.SL.Sem Cert.CumsumBwd

theorem claim : Cert.Claim := ⟨Cert.CumsumBwd.Gen.facts,
  Cert.CumsumBwdIdeal.Gen.facts,
  Cert.CumsumBwdRefIdeal.Gen.facts,
  Cert.AttnBwd.Gen.facts,
  Cert.AttnBwdIdeal.Gen.facts,
  Cert.AttnBwdRefIdeal.Gen.facts,
  Cert.InpBwd.Gen.facts,
  Cert.InpBwdIdeal.Gen.facts,
  Cert.InpBwdRefIdeal.Gen.facts,
  Cert.MlpBwd.Gen.facts,
  Cert.MlpBwdIdeal.Gen.facts,
  Cert.MlpBwdRefIdeal.Gen.facts,
  Cert.MlpLoss.Gen.facts,
  Cert.MlpLossIdeal.Gen.facts,
  Cert.MlpLossRefIdeal.Gen.facts,
  Cert.PoolBwd.Gen.facts,
  Cert.PoolBwdIdeal.Gen.facts,
  Cert.PoolBwdRefIdeal.Gen.facts,
  Cert.RmsInproj.Gen.facts,
  Cert.RmsInprojIdeal.Gen.facts,
  Cert.RmsInprojRefIdeal.Gen.facts,
  Cert.Outproj.Gen.facts,
  Cert.OutprojIdeal.Gen.facts,
  Cert.OutprojRefIdeal.Gen.facts,
  Cert.OutprojBwd.Gen.facts,
  Cert.OutprojBwdIdeal.Gen.facts,
  Cert.OutprojBwdRefIdeal.Gen.facts,
  Cert.DwIn.Gen.facts,
  Cert.DwInIdeal.Gen.facts,
  Cert.DwInRefIdeal.Gen.facts,
  Cert.AdamwIn.Gen.facts,
  Cert.AdamwInIdeal.Gen.facts,
  Cert.AdamwInRefIdeal.Gen.facts,
  Cert.Pre_cumsum_finite.Gen.facts,
  Cert.Pre_inp_finite.Gen.facts,
  Cert.Pre_mlp_finite.Gen.facts,
  Cert.Pre_loss_finite.Gen.facts, by
  exact ⟨fun m ρ _ => Cert.CumsumBwd.Gen.frame m ρ,
    fun m ρ _ => Cert.CumsumBwdIdeal.Gen.frame m ρ,
    fun m ρ _ => Cert.CumsumBwdIdeal.Gen.frame m ρ,
    fun m ρ _ => Cert.CumsumClaim.frame_ref m ρ trivial,
    fun m ρ _ => Cert.CumsumClaim.frame_ref m ρ trivial,
    fun m ρ _ => Cert.AttnK.frame_bits m ρ,
    fun m ρ _ => Cert.AttnK.frame m ρ,
    Cert.AttnClaim.frame_ref,
    fun m ρ _ => Cert.InpBwd.Gen.frame m ρ,
    fun m ρ _ => Cert.InpBwdIdeal.Gen.frame m ρ,
    fun m ρ _ => Cert.InpBwdIdeal.Gen.frame m ρ,
    fun m ρ _ => Cert.InpClaim.frame_ref m ρ trivial,
    fun m ρ _ => Cert.InpClaim.frame_ref m ρ trivial,
    fun m ρ _ => Cert.MlpBwd.Gen.frame m ρ,
    fun m ρ _ => Cert.MlpBwdIdeal.Gen.frame m ρ,
    fun m ρ _ => Cert.MlpBwdIdeal.Gen.frame m ρ,
    fun m ρ _ => Cert.MlpClaim.frame_ref m ρ trivial,
    fun m ρ _ => Cert.MlpClaim.frame_ref m ρ trivial,
    fun m ρ _ => Cert.MlpLoss.Gen.frame m ρ,
    fun m ρ _ => Cert.MlpLossIdeal.Gen.frame m ρ,
    fun m ρ _ => Cert.MlpLossIdeal.Gen.frame m ρ,
    fun m ρ _ => Cert.LossClaim.frame_ref m ρ trivial,
    fun m ρ _ => Cert.LossClaim.frame_ref m ρ trivial,
    fun m ρ _ => Cert.PoolBwd.Gen.frame m ρ,
    fun m ρ _ => Cert.PoolBwdIdeal.Gen.frame m ρ,
    Cert.PoolClaim.frame_ref,
    fun m ρ _ => Cert.RmsInproj.Gen.frame m ρ,
    fun m ρ _ => Cert.RmsInprojIdeal.Gen.frame m ρ,
    Cert.RinClaim.frame_ref,
    fun m ρ _ => Cert.Outproj.Gen.frame m ρ,
    fun m ρ _ => Cert.OutprojIdeal.Gen.frame m ρ,
    Cert.OutClaim.frame_ref,
    fun m ρ _ => Cert.OutprojBwd.Gen.frame m ρ,
    fun m ρ _ => Cert.OutprojBwdIdeal.Gen.frame m ρ,
    Cert.ObClaim.frame_ref,
    fun m ρ _ => Cert.DwIn.Gen.frame m ρ,
    fun m ρ _ => Cert.DwInIdeal.Gen.frame m ρ,
    Cert.DwClaim.frame_ref,
    fun m ρ _ => Cert.AdamwIn.Gen.frame m ρ,
    fun m ρ _ => Cert.AdamwInIdeal.Gen.frame m ρ,
    Cert.AdwClaim.frame_ref,
    trivial,
    Cert.CumsumClaim.algebraic,
    Cert.AttnClaim.preserves,
    trivial,
    Cert.InpClaim.algebraic,
    trivial,
    Cert.MlpClaim.algebraic,
    trivial,
    Cert.LossClaim.algebraic,
    trivial,
    trivial,
    Cert.RinClaim.algebraic,
    trivial,
    Cert.OutClaim.algebraic,
    trivial,
    Cert.ObClaim.algebraic,
    trivial,
    Cert.DwClaim.algebraic,
    trivial,
    Cert.AdwClaim.algebraic⟩⟩

end Cert.Proof

end
